-- ==== Defs.lean ====
def Pre_Kernel [hPre_values_in_range : Cert.Pre_values_in_range.Facts] (m : (ℓ : Loc Cert.Kernel.nD Cert.Kernel.τ Cert.Kernel.sig) → Buf (Elt Bits) ℓ) : Prop :=
  ∀ c : Dev Cert.Kernel.nD,
    (Cert.Pre_values_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_values_in_range : Cert.Pre_values_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_values_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_codes_symmetric [hPre_codes_symmetric : Cert.Pre_codes_symmetric.Facts] (m : (ℓ : Loc Cert.KernelIdeal.nD Cert.KernelIdeal.τ Cert.KernelIdeal.sig) → Buf (Elt Ideal) ℓ) : Prop :=
  ∀ c : Dev Cert.KernelIdeal.nD,
    (Cert.Pre_codes_symmetric.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_codes_symmetric.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_symmetric [hPre_codes_symmetric : Cert.Pre_codes_symmetric.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_symmetric.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_codes_symmetric.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] [hPre_values_in_range : Cert.Pre_values_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_values_in_range : Cert.Pre_values_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_codes_symmetric [hKernelIdeal : Cert.KernelIdeal.Facts] [hPre_codes_symmetric : Cert.Pre_codes_symmetric.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes_symmetric m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_codes_symmetric [hReferenceIdeal : Cert.ReferenceIdeal.Facts] [hPre_codes_symmetric : Cert.Pre_codes_symmetric.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_symmetric m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_codes_symmetric [hKernelIdeal : Cert.KernelIdeal.Facts] [hReferenceIdeal : Cert.ReferenceIdeal.Facts] [hPre_codes_symmetric : Cert.Pre_codes_symmetric.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes_symmetric m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_v188) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_values_in_range : Cert.Pre_values_in_range.Facts) (hPre_codes_symmetric : Cert.Pre_codes_symmetric.Facts),
    quiescent_Kernel (hKernel := hKernel) (hPre_values_in_range := hPre_values_in_range)
    ∧ quiescent_KernelIdeal (hKernelIdeal := hKernelIdeal) (hPre_values_in_range := hPre_values_in_range)
    ∧ quiescent_KernelIdeal_pre_codes_symmetric (hKernelIdeal := hKernelIdeal) (hPre_codes_symmetric := hPre_codes_symmetric)
    ∧ quiescent_ReferenceIdeal (hReferenceIdeal := hReferenceIdeal)
    ∧ quiescent_ReferenceIdeal_pre_codes_symmetric (hReferenceIdeal := hReferenceIdeal) (hPre_codes_symmetric := hPre_codes_symmetric)
    ∧ preserves_Kernel_KernelIdeal
    ∧ algebraic_KernelIdeal_ReferenceIdeal_pre_codes_symmetric (hKernelIdeal := hKernelIdeal) (hReferenceIdeal := hReferenceIdeal) (hPre_codes_symmetric := hPre_codes_symmetric)
-- ==== Pre_codes_symmetric.lean ====
abbrev S6862752 : Shape := ⟨1, ![6862752]⟩
abbrev S1916928 : Shape := ⟨1, ![1916928]⟩
abbrev S58656 : Shape := ⟨1, ![58656]⟩
abbrev S_ : Shape := ⟨0, ![]⟩

class Facts : Prop where
  bcast_S_S6862752 : S_.BroadcastsInDim S6862752 (![] : Fin 0 → Fin S6862752.rank)
  bcast_S_S1916928 : S_.BroadcastsInDim S1916928 (![] : Fin 0 → Fin S1916928.rank)

variable [Facts]

def fn_part2 {F : FTy → Type} [FloatOps F] (main_arg1 : IVec S1916928 32) (main_v4 : IVec S6862752 1) (main_v10 : IVec S6862752 1) (main_v16 : IVec S6862752 1) (main_v22 : IVec S6862752 1) (main_v28 : IVec S6862752 1) (main_v30 : IVec S1916928 1) (main_v31 : IVec S1916928 32) : IVec S1916928 1 × IVec S6862752 1 :=
  let main_v32 : IVec S1916928 1 := cmpi .slt main_arg1 main_v31
  let main_v33 : IVec S1916928 1 := andi main_v30 main_v32
  let main_v34 : IVec S6862752 1 := andi main_v10 main_v16
  let main_v35 : IVec S6862752 1 := andi main_v34 main_v22
  let main_v36 : IVec S6862752 1 := andi main_v35 main_v28
  let main_v37 : IVec S6862752 1 := ori main_v4 main_v36
  (main_v33, main_v37)

def fn_part1 {F : FTy → Type} [FloatOps F] (main_arg0 : IVec S6862752 32) (main_arg1 : IVec S1916928 32) (main_v4 : IVec S6862752 1) (main_v10 : IVec S6862752 1) (main_v14 : IVec S6862752 32) (main_v15 : IVec S6862752 32) : IVec S1916928 1 × IVec S6862752 1 :=
  let main_v16 : IVec S6862752 1 := cmpi .ne main_v14 main_v15
  let main_c_7 : IVec S_ 32 := constantI S_ 32 8#32
  let main_v17 : IVec S6862752 32 := broadcastInDim S6862752 ![] bcast_S_S6862752 main_c_7
  let main_v18 : IVec S6862752 32 := Host.shli main_arg0 main_v17
  let main_c_8 : IVec S_ 32 := constantI S_ 32 24#32
  let main_v19 : IVec S6862752 32 := broadcastInDim S6862752 ![] bcast_S_S6862752 main_c_8
  let main_v20 : IVec S6862752 32 := Host.shrsi main_v18 main_v19
  let main_c_9 : IVec S_ 32 := constantI S_ 32 4294967168#32
  let main_v21 : IVec S6862752 32 := broadcastInDim S6862752 ![] bcast_S_S6862752 main_c_9
  let main_v22 : IVec S6862752 1 := cmpi .ne main_v20 main_v21
  let main_c_10 : IVec S_ 32 := constantI S_ 32 0#32
  let main_v23 : IVec S6862752 32 := broadcastInDim S6862752 ![] bcast_S_S6862752 main_c_10
  let main_v24 : IVec S6862752 32 := Host.shli main_arg0 main_v23
  let main_c_11 : IVec S_ 32 := constantI S_ 32 24#32
  let main_v25 : IVec S6862752 32 := broadcastInDim S6862752 ![] bcast_S_S6862752 main_c_11
  let main_v26 : IVec S6862752 32 := Host.shrsi main_v24 main_v25
  let main_c_12 : IVec S_ 32 := constantI S_ 32 4294967168#32
  let main_v27 : IVec S6862752 32 := broadcastInDim S6862752 ![] bcast_S_S6862752 main_c_12
  let main_v28 : IVec S6862752 1 := cmpi .ne main_v26 main_v27
  let main_c_13 : IVec S_ 32 := constantI S_ 32 0#32
  let main_v29 : IVec S1916928 32 := broadcastInDim S1916928 ![] bcast_S_S1916928 main_c_13
  let main_v30 : IVec S1916928 1 := cmpi .sge main_arg1 main_v29
  let main_c_14 : IVec S_ 32 := constantI S_ 32 1504#32
  let main_v31 : IVec S1916928 32 := broadcastInDim S1916928 ![] bcast_S_S1916928 main_c_14
  fn_part2 (F := F) main_arg1 main_v4 main_v10 main_v16 main_v22 main_v28 main_v30 main_v31

def fn {F : FTy → Type} [FloatOps F] (main_arg0 : IVec S6862752 32) (main_arg1 : IVec S1916928 32) (main_arg2 : FVec F S1916928 .f32) (main_arg3 : FVec F S58656 .f32) : IVec S1916928 1 × IVec S6862752 1 :=
  let main_v0 : IVec S6862752 32 := iotaInDim S6862752 32 0
  let main_c : IVec S_ 32 := constantI S_ 32 4512#32
  let main_v1 : IVec S6862752 32 := broadcastInDim S6862752 ![] bcast_S_S6862752 main_c
  let main_v2 : IVec S6862752 32 := Host.remsi main_v0 main_v1
  let main_c_0 : IVec S_ 32 := constantI S_ 32 3008#32
  let main_v3 : IVec S6862752 32 := broadcastInDim S6862752 ![] bcast_S_S6862752 main_c_0
  let main_v4 : IVec S6862752 1 := cmpi .sge main_v2 main_v3
  let main_c_1 : IVec S_ 32 := constantI S_ 32 24#32
  let main_v5 : IVec S6862752 32 := broadcastInDim S6862752 ![] bcast_S_S6862752 main_c_1
  let main_v6 : IVec S6862752 32 := Host.shli main_arg0 main_v5
  let main_c_2 : IVec S_ 32 := constantI S_ 32 24#32
  let main_v7 : IVec S6862752 32 := broadcastInDim S6862752 ![] bcast_S_S6862752 main_c_2
  let main_v8 : IVec S6862752 32 := Host.shrsi main_v6 main_v7
  let main_c_3 : IVec S_ 32 := constantI S_ 32 4294967168#32
  let main_v9 : IVec S6862752 32 := broadcastInDim S6862752 ![] bcast_S_S6862752 main_c_3
  let main_v10 : IVec S6862752 1 := cmpi .ne main_v8 main_v9
  let main_c_4 : IVec S_ 32 := constantI S_ 32 16#32
  let main_v11 : IVec S6862752 32 := broadcastInDim S6862752 ![] bcast_S_S6862752 main_c_4
  let main_v12 : IVec S6862752 32 := Host.shli main_arg0 main_v11
  let main_c_5 : IVec S_ 32 := constantI S_ 32 24#32
  let main_v13 : IVec S6862752 32 := broadcastInDim S6862752 ![] bcast_S_S6862752 main_c_5
  let main_v14 : IVec S6862752 32 := Host.shrsi main_v12 main_v13
  let main_c_6 : IVec S_ 32 := constantI S_ 32 4294967168#32
  let main_v15 : IVec S6862752 32 := broadcastInDim S6862752 ![] bcast_S_S6862752 main_c_6
  fn_part1 (F := F) main_arg0 main_arg1 main_v4 main_v10 main_v14 main_v15
-- ==== Pre_values_in_range.lean ====
abbrev S6862752 : Shape := ⟨1, ![6862752]⟩
abbrev S1916928 : Shape := ⟨1, ![1916928]⟩
abbrev S58656 : Shape := ⟨1, ![58656]⟩
abbrev S_ : Shape := ⟨0, ![]⟩

class Facts : Prop where
  bcast_S_S1916928 : S_.BroadcastsInDim S1916928 (![] : Fin 0 → Fin S1916928.rank)

variable [Facts]

def fn {F : FTy → Type} [FloatOps F] (main_arg0 : IVec S6862752 32) (main_arg1 : IVec S1916928 32) (main_arg2 : FVec F S1916928 .f32) (main_arg3 : FVec F S58656 .f32) : IVec S1916928 1 :=
  let main_c : IVec S_ 32 := constantI S_ 32 0#32
  let main_v0 : IVec S1916928 32 := broadcastInDim S1916928 ![] bcast_S_S1916928 main_c
  let main_v1 : IVec S1916928 1 := cmpi .sge main_arg1 main_v0
  let main_c_0 : IVec S_ 32 := constantI S_ 32 1504#32
  let main_v2 : IVec S1916928 32 := broadcastInDim S1916928 ![] bcast_S_S1916928 main_c_0
  let main_v3 : IVec S1916928 1 := cmpi .slt main_arg1 main_v2
  let main_v4 : IVec S1916928 1 := andi main_v1 main_v3
  main_v4
-- ==== Kernel.lean ====
abbrev S6862752 : Shape := ⟨1, ![6862752]⟩
abbrev S1916928 : Shape := ⟨1, ![1916928]⟩
abbrev S58656 : Shape := ⟨1, ![58656]⟩
abbrev S36421632 : Shape := ⟨1, ![36421632]⟩
abbrev S49152 : Shape := ⟨1, ![49152]⟩
abbrev S81280 : Shape := ⟨1, ![81280]⟩
abbrev S4608 : Shape := ⟨1, ![4608]⟩
abbrev S12288 : Shape := ⟨1, ![12288]⟩
abbrev S18432 : Shape := ⟨1, ![18432]⟩
abbrev S1536 : Shape := ⟨1, ![1536]⟩
abbrev S1 : Shape := ⟨1, ![1]⟩
abbrev S2 : Shape := ⟨1, ![2]⟩
abbrev S1024 : Shape := ⟨1, ![1024]⟩
abbrev S_ : Shape := ⟨0, ![]⟩
abbrev S4512 : Shape := ⟨1, ![4512]⟩
abbrev S16 : Shape := ⟨1, ![16]⟩
abbrev S1504 : Shape := ⟨1, ![1504]⟩

abbrev nBuf : Table → Nat
  | .hbm => 6
  | .local .scVector .vmem => 6
  | _ => 0

abbrev bufTy : (tb : Table) → Fin (nBuf tb) → BufTy
  | .hbm, ⟨0, _⟩ => ⟨S6862752, .i32⟩
  | .hbm, ⟨1, _⟩ => ⟨S1916928, .i32⟩
  | .hbm, ⟨2, _⟩ => ⟨S1916928, .f32⟩
  | .hbm, ⟨3, _⟩ => ⟨S58656, .f32⟩
  | .hbm, ⟨4, _⟩ => ⟨S36421632, .f32⟩
  | .hbm, ⟨5, _⟩ => ⟨S49152, .f32⟩
  | .local .scVector .vmem, ⟨0, _⟩ => ⟨S81280, .i32⟩
  | .local .scVector .vmem, ⟨1, _⟩ => ⟨S4608, .f32⟩
  | .local .scVector .vmem, ⟨2, _⟩ => ⟨S12288, .i32⟩
  | .local .scVector .vmem, ⟨3, _⟩ => ⟨S12288, .f32⟩
  | .local .scVector .vmem, ⟨4, _⟩ => ⟨S18432, .f32⟩
  | .local .scVector .vmem, ⟨5, _⟩ => ⟨S1536, .f32⟩
  | _, _ => ⟨S6862752, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_0_scv : Ref sig .scVector := ⟨.hbm, 4, rfl⟩
abbrev main_v0_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_22 : BitVec 32) : Fin 1 → Nat :=
  let c3_i32 : BitVec 32 := 3#32
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c117_i32 : BitVec 32 := 117#32
  let v2 : BitVec 32 := Scalar.muli v1 c117_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c48_i32 : BitVec 32 := 48#32
  let c0_i32_2 : BitVec 32 := 0#32
  let v10 : BitVec 1 := Scalar.cmpi .sgt c48_i32 c0_i32_2
  let v11 : BitVec 32 := Scalar.extui v10
  let c0_i32_3 : BitVec 32 := 0#32
  let v12 : BitVec 1 := Scalar.cmpi .slt c48_i32 c0_i32_3
  let v13 : BitVec 32 := Scalar.extui v12
  let v14 : BitVec 32 := Scalar.subi v11 v13
  let v15 : BitVec 1 := Scalar.cmpi .ne v9 v14
  let v16 : BitVec 32 := Scalar.remsi v2 c48_i32
  let c0_i32_4 : BitVec 32 := 0#32
  let v17 : BitVec 1 := Scalar.cmpi .ne v16 c0_i32_4
  let v18 : BitVec 1 := Scalar.andi v15 v17
  let v4 : BitVec 32 := Scalar.divsi v2 c48_i32
  let c1_i32 : BitVec 32 := 1#32
  let v19 : BitVec 32 := Scalar.subi v4 c1_i32
  let v20 : BitVec 32 := Scalar.select v18 v19 v4
  let c12_i32 : BitVec 32 := 12#32
  let v21 : BitVec 1 := Scalar.cmpi .sge v20 c12_i32
  let v22 : BitVec 32 := Scalar.extui v21
  let v23 : BitVec 32 := Scalar.addi c0_i32_5 v22
  let c23_i32 : BitVec 32 := 23#32
  let v24 : BitVec 1 := Scalar.cmpi .sge v20 c23_i32
  let v25 : BitVec 32 := Scalar.extui v24
  let v26 : BitVec 32 := Scalar.addi v23 v25
  let c33_i32 : BitVec 32 := 33#32
  let v27 : BitVec 1 := Scalar.cmpi .sge v20 c33_i32
  let v28 : BitVec 32 := Scalar.extui v27
  let v29 : BitVec 32 := Scalar.addi v26 v28
  let c42_i32 : BitVec 32 := 42#32
  let v30 : BitVec 1 := Scalar.cmpi .sge v20 c42_i32
  let v31 : BitVec 32 := Scalar.extui v30
  let v32 : BitVec 32 := Scalar.addi v29 v31
  let c50_i32 : BitVec 32 := 50#32
  let v33 : BitVec 1 := Scalar.cmpi .sge v20 c50_i32
  let v34 : BitVec 32 := Scalar.extui v33
  let v35 : BitVec 32 := Scalar.addi v32 v34
  let c57_i32 : BitVec 32 := 57#32
  let v36 : BitVec 1 := Scalar.cmpi .sge v20 c57_i32
  let v37 : BitVec 32 := Scalar.extui v36
  let v38 : BitVec 32 := Scalar.addi v35 v37
  let c63_i32 : BitVec 32 := 63#32
  let v39 : BitVec 1 := Scalar.cmpi .sge v20 c63_i32
  let v40 : BitVec 32 := Scalar.extui v39
  let v41 : BitVec 32 := Scalar.addi v38 v40
  let c68_i32 : BitVec 32 := 68#32
  let v42 : BitVec 1 := Scalar.cmpi .sge v20 c68_i32
  let v43 : BitVec 32 := Scalar.extui v42
  let v44 : BitVec 32 := Scalar.addi v41 v43
  let c72_i32 : BitVec 32 := 72#32
  let v45 : BitVec 1 := Scalar.cmpi .sge v20 c72_i32
  let v46 : BitVec 32 := Scalar.extui v45
  let v47 : BitVec 32 := Scalar.addi v44 v46
  let c75_i32 : BitVec 32 := 75#32
  let v48 : BitVec 1 := Scalar.cmpi .sge v20 c75_i32
  let v49 : BitVec 32 := Scalar.extui v48
  let v50 : BitVec 32 := Scalar.addi v47 v49
  let c77_i32 : BitVec 32 := 77#32
  let v51 : BitVec 1 := Scalar.cmpi .sge v20 c77_i32
  let v52 : BitVec 32 := Scalar.extui v51
  let v53 : BitVec 32 := Scalar.addi v50 v52
  let v88 : BitVec 32 := Scalar.muli c3_i32 v53
  let v89 : BitVec 32 := Scalar.addi v88 c0_i32_22
  let c49152_i32 : BitVec 32 := 49152#32
  let v90 : BitVec 32 := Scalar.muli v89 c49152_i32
  let c48_i32_16 : BitVec 32 := 48#32
  let c0_i32_17 : BitVec 32 := 0#32
  let v78 : BitVec 1 := Scalar.cmpi .eq c48_i32_16 c0_i32_17
  let c1_i32_18 : BitVec 32 := 1#32
  let v79 : BitVec 32 := Scalar.select v78 c1_i32_18 c48_i32_16
  let v80 : BitVec 32 := Scalar.remsi v2 v79
  let c0_i32_20 : BitVec 32 := 0#32
  let v82 : BitVec 1 := Scalar.cmpi .slt v80 c0_i32_20
  let c0_i32_21 : BitVec 32 := 0#32
  let v83 : BitVec 1 := Scalar.cmpi .slt v79 c0_i32_21
  let v84 : BitVec 1 := Scalar.xori v82 v83
  let c0_i32_19 : BitVec 32 := 0#32
  let v81 : BitVec 1 := Scalar.cmpi .ne v80 c0_i32_19
  let v85 : BitVec 1 := Scalar.andi v84 v81
  let v86 : BitVec 32 := Scalar.addi v80 v79
  let v87 : BitVec 32 := Scalar.select v85 v86 v80
  let c1024_i32 : BitVec 32 := 1024#32
  let v91 : BitVec 32 := Scalar.muli v87 c1024_i32
  let v92 : BitVec 32 := Scalar.addi v90 v91
  ![v92.toNat]
def k0_off2 (i : grid0.Coords) (c0_i32_32 : BitVec 32) : Fin 1 → Nat :=
  let c3_i32_31 : BitVec 32 := 3#32
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c117_i32 : BitVec 32 := 117#32
  let v2 : BitVec 32 := Scalar.muli v1 c117_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c48_i32 : BitVec 32 := 48#32
  let c0_i32_2 : BitVec 32 := 0#32
  let v10 : BitVec 1 := Scalar.cmpi .sgt c48_i32 c0_i32_2
  let v11 : BitVec 32 := Scalar.extui v10
  let c0_i32_3 : BitVec 32 := 0#32
  let v12 : BitVec 1 := Scalar.cmpi .slt c48_i32 c0_i32_3
  let v13 : BitVec 32 := Scalar.extui v12
  let v14 : BitVec 32 := Scalar.subi v11 v13
  let v15 : BitVec 1 := Scalar.cmpi .ne v9 v14
  let v16 : BitVec 32 := Scalar.remsi v2 c48_i32
  let c0_i32_4 : BitVec 32 := 0#32
  let v17 : BitVec 1 := Scalar.cmpi .ne v16 c0_i32_4
  let v18 : BitVec 1 := Scalar.andi v15 v17
  let v4 : BitVec 32 := Scalar.divsi v2 c48_i32
  let c1_i32 : BitVec 32 := 1#32
  let v19 : BitVec 32 := Scalar.subi v4 c1_i32
  let v20 : BitVec 32 := Scalar.select v18 v19 v4
  let c12_i32 : BitVec 32 := 12#32
  let v21 : BitVec 1 := Scalar.cmpi .sge v20 c12_i32
  let v22 : BitVec 32 := Scalar.extui v21
  let v23 : BitVec 32 := Scalar.addi c0_i32_5 v22
  let c23_i32 : BitVec 32 := 23#32
  let v24 : BitVec 1 := Scalar.cmpi .sge v20 c23_i32
  let v25 : BitVec 32 := Scalar.extui v24
  let v26 : BitVec 32 := Scalar.addi v23 v25
  let c33_i32 : BitVec 32 := 33#32
  let v27 : BitVec 1 := Scalar.cmpi .sge v20 c33_i32
  let v28 : BitVec 32 := Scalar.extui v27
  let v29 : BitVec 32 := Scalar.addi v26 v28
  let c42_i32 : BitVec 32 := 42#32
  let v30 : BitVec 1 := Scalar.cmpi .sge v20 c42_i32
  let v31 : BitVec 32 := Scalar.extui v30
  let v32 : BitVec 32 := Scalar.addi v29 v31
  let c50_i32 : BitVec 32 := 50#32
  let v33 : BitVec 1 := Scalar.cmpi .sge v20 c50_i32
  let v34 : BitVec 32 := Scalar.extui v33
  let v35 : BitVec 32 := Scalar.addi v32 v34
  let c57_i32 : BitVec 32 := 57#32
  let v36 : BitVec 1 := Scalar.cmpi .sge v20 c57_i32
  let v37 : BitVec 32 := Scalar.extui v36
  let v38 : BitVec 32 := Scalar.addi v35 v37
  let c63_i32 : BitVec 32 := 63#32
  let v39 : BitVec 1 := Scalar.cmpi .sge v20 c63_i32
  let v40 : BitVec 32 := Scalar.extui v39
  let v41 : BitVec 32 := Scalar.addi v38 v40
  let c68_i32 : BitVec 32 := 68#32
  let v42 : BitVec 1 := Scalar.cmpi .sge v20 c68_i32
  let v43 : BitVec 32 := Scalar.extui v42
  let v44 : BitVec 32 := Scalar.addi v41 v43
  let c72_i32 : BitVec 32 := 72#32
  let v45 : BitVec 1 := Scalar.cmpi .sge v20 c72_i32
  let v46 : BitVec 32 := Scalar.extui v45
  let v47 : BitVec 32 := Scalar.addi v44 v46
  let c75_i32 : BitVec 32 := 75#32
  let v48 : BitVec 1 := Scalar.cmpi .sge v20 c75_i32
  let v49 : BitVec 32 := Scalar.extui v48
  let v50 : BitVec 32 := Scalar.addi v47 v49
  let c77_i32 : BitVec 32 := 77#32
  let v51 : BitVec 1 := Scalar.cmpi .sge v20 c77_i32
  let v52 : BitVec 32 := Scalar.extui v51
  let v53 : BitVec 32 := Scalar.addi v50 v52
  let c1_i32_6 : BitVec 32 := 1#32
  let v54 : BitVec 32 := Scalar.addi v53 c1_i32_6
  let v55 : BitVec 32 := Scalar.addi v54 v20
  let c12_i32_7 : BitVec 32 := 12#32
  let v56 : BitVec 32 := Scalar.muli c12_i32_7 v53
  let c1_i32_8 : BitVec 32 := 1#32
  let v57 : BitVec 32 := Scalar.subi v53 c1_i32_8
  let v58 : BitVec 32 := Scalar.muli v53 v57
  let c0_i32_10 : BitVec 32 := 0#32
  let v60 : BitVec 1 := Scalar.cmpi .sgt v58 c0_i32_10
  let v61 : BitVec 32 := Scalar.extui v60
  let c0_i32_11 : BitVec 32 := 0#32
  let v62 : BitVec 1 := Scalar.cmpi .slt v58 c0_i32_11
  let v63 : BitVec 32 := Scalar.extui v62
  let v64 : BitVec 32 := Scalar.subi v61 v63
  let c2_i32_9 : BitVec 32 := 2#32
  let c0_i32_12 : BitVec 32 := 0#32
  let v65 : BitVec 1 := Scalar.cmpi .sgt c2_i32_9 c0_i32_12
  let v66 : BitVec 32 := Scalar.extui v65
  let c0_i32_13 : BitVec 32 := 0#32
  let v67 : BitVec 1 := Scalar.cmpi .slt c2_i32_9 c0_i32_13
  let v68 : BitVec 32 := Scalar.extui v67
  let v69 : BitVec 32 := Scalar.subi v66 v68
  let v70 : BitVec 1 := Scalar.cmpi .ne v64 v69
  let v71 : BitVec 32 := Scalar.remsi v58 c2_i32_9
  let c0_i32_14 : BitVec 32 := 0#32
  let v72 : BitVec 1 := Scalar.cmpi .ne v71 c0_i32_14
  let v73 : BitVec 1 := Scalar.andi v70 v72
  let v59 : BitVec 32 := Scalar.divsi v58 c2_i32_9
  let c1_i32_15 : BitVec 32 := 1#32
  let v74 : BitVec 32 := Scalar.subi v59 c1_i32_15
  let v75 : BitVec 32 := Scalar.select v73 v74 v59
  let v76 : BitVec 32 := Scalar.subi v56 v75
  let v77 : BitVec 32 := Scalar.subi v55 v76
  let v103 : BitVec 32 := Scalar.muli c3_i32_31 v77
  let v104 : BitVec 32 := Scalar.addi v103 c0_i32_32
  let c49152_i32_33 : BitVec 32 := 49152#32
  let v105 : BitVec 32 := Scalar.muli v104 c49152_i32_33
  let c48_i32_16 : BitVec 32 := 48#32
  let c0_i32_17 : BitVec 32 := 0#32
  let v78 : BitVec 1 := Scalar.cmpi .eq c48_i32_16 c0_i32_17
  let c1_i32_18 : BitVec 32 := 1#32
  let v79 : BitVec 32 := Scalar.select v78 c1_i32_18 c48_i32_16
  let v80 : BitVec 32 := Scalar.remsi v2 v79
  let c0_i32_20 : BitVec 32 := 0#32
  let v82 : BitVec 1 := Scalar.cmpi .slt v80 c0_i32_20
  let c0_i32_21 : BitVec 32 := 0#32
  let v83 : BitVec 1 := Scalar.cmpi .slt v79 c0_i32_21
  let v84 : BitVec 1 := Scalar.xori v82 v83
  let c0_i32_19 : BitVec 32 := 0#32
  let v81 : BitVec 1 := Scalar.cmpi .ne v80 c0_i32_19
  let v85 : BitVec 1 := Scalar.andi v84 v81
  let v86 : BitVec 32 := Scalar.addi v80 v79
  let v87 : BitVec 32 := Scalar.select v85 v86 v80
  let c1024_i32_34 : BitVec 32 := 1024#32
  let v106 : BitVec 32 := Scalar.muli v87 c1024_i32_34
  let v107 : BitVec 32 := Scalar.addi v105 v106
  ![v107.toNat]
@[reducible] def k0_t1_loop : Scf.Loop 32 :=
  let c0_i32_75 : BitVec 32 := 0#32
  let c117_i32_76 : BitVec 32 := 117#32
  let v190 : BitVec 32 := Scalar.addi c0_i32_75 c117_i32_76
  let c1_i32_77 : BitVec 32 := 1#32
  ⟨c0_i32_75, v190, c1_i32_77⟩
def k0_cond1 (i : grid0.Coords) (k0_t1 : Fin k0_t1_loop.trips) : BitVec 1 :=
  let c0_i32_485 : BitVec 32 := 0#32
  let c0_i32_75 : BitVec 32 := 0#32
  let c1_i32_77 : BitVec 32 := 1#32
  let arg20 : BitVec 32 := Scf.iv c0_i32_75 c1_i32_77 k0_t1
  let c1_i32_484 : BitVec 32 := 1#32
  let v1031 : BitVec 32 := Scalar.muli arg20 c1_i32_484
  let v1032 : BitVec 32 := Scalar.addi c0_i32_485 v1031
  let c0_i32_499 : BitVec 32 := 0#32
  let v1061 : BitVec 1 := Scalar.cmpi .eq v1032 c0_i32_499
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c117_i32 : BitVec 32 := 117#32
  let v2 : BitVec 32 := Scalar.muli v1 c117_i32
  let v1033 : BitVec 32 := Scalar.addi v2 v1032
  let c48_i32_500 : BitVec 32 := 48#32
  let c0_i32_501 : BitVec 32 := 0#32
  let v1062 : BitVec 1 := Scalar.cmpi .eq c48_i32_500 c0_i32_501
  let c1_i32_502 : BitVec 32 := 1#32
  let v1063 : BitVec 32 := Scalar.select v1062 c1_i32_502 c48_i32_500
  let v1064 : BitVec 32 := Scalar.remsi v1033 v1063
  let c0_i32_504 : BitVec 32 := 0#32
  let v1066 : BitVec 1 := Scalar.cmpi .slt v1064 c0_i32_504
  let c0_i32_505 : BitVec 32 := 0#32
  let v1067 : BitVec 1 := Scalar.cmpi .slt v1063 c0_i32_505
  let v1068 : BitVec 1 := Scalar.xori v1066 v1067
  let c0_i32_503 : BitVec 32 := 0#32
  let v1065 : BitVec 1 := Scalar.cmpi .ne v1064 c0_i32_503
  let v1069 : BitVec 1 := Scalar.andi v1068 v1065
  let v1070 : BitVec 32 := Scalar.addi v1064 v1063
  let v1071 : BitVec 32 := Scalar.select v1069 v1070 v1064
  let c0_i32_506 : BitVec 32 := 0#32
  let v1072 : BitVec 1 := Scalar.cmpi .eq v1071 c0_i32_506
  let v1073 : BitVec 1 := Scalar.ori v1061 v1072
  let v1074 : BitVec 32 := Scalar.extui v1073
  let c0_i32_507 : BitVec 32 := 0#32
  let v1075 : BitVec 1 := Scalar.cmpi .ne v1074 c0_i32_507
  v1075

def k0_off3 (i : grid0.Coords) (k0_t1 : Fin k0_t1_loop.trips) (c0_i32_844 : BitVec 32) (c0_i32_846 : BitVec 32) : Fin 1 → Nat :=
  let c3_i32_843 : BitVec 32 := 3#32
  let c0_i32_822 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c117_i32 : BitVec 32 := 117#32
  let v2 : BitVec 32 := Scalar.muli v1 c117_i32
  let c0_i32_485 : BitVec 32 := 0#32
  let c0_i32_75 : BitVec 32 := 0#32
  let c1_i32_77 : BitVec 32 := 1#32
  let arg20 : BitVec 32 := Scf.iv c0_i32_75 c1_i32_77 k0_t1
  let c1_i32_484 : BitVec 32 := 1#32
  let v1031 : BitVec 32 := Scalar.muli arg20 c1_i32_484
  let v1032 : BitVec 32 := Scalar.addi c0_i32_485 v1031
  let v1033 : BitVec 32 := Scalar.addi v2 v1032
  let c0_i32_493 : BitVec 32 := 0#32
  let v1045 : BitVec 1 := Scalar.cmpi .sgt v1033 c0_i32_493
  let v1046 : BitVec 32 := Scalar.extui v1045
  let c0_i32_494 : BitVec 32 := 0#32
  let v1047 : BitVec 1 := Scalar.cmpi .slt v1033 c0_i32_494
  let v1048 : BitVec 32 := Scalar.extui v1047
  let v1049 : BitVec 32 := Scalar.subi v1046 v1048
  let c48_i32_492 : BitVec 32 := 48#32
  let c0_i32_495 : BitVec 32 := 0#32
  let v1050 : BitVec 1 := Scalar.cmpi .sgt c48_i32_492 c0_i32_495
  let v1051 : BitVec 32 := Scalar.extui v1050
  let c0_i32_496 : BitVec 32 := 0#32
  let v1052 : BitVec 1 := Scalar.cmpi .slt c48_i32_492 c0_i32_496
  let v1053 : BitVec 32 := Scalar.extui v1052
  let v1054 : BitVec 32 := Scalar.subi v1051 v1053
  let v1055 : BitVec 1 := Scalar.cmpi .ne v1049 v1054
  let v1056 : BitVec 32 := Scalar.remsi v1033 c48_i32_492
  let c0_i32_497 : BitVec 32 := 0#32
  let v1057 : BitVec 1 := Scalar.cmpi .ne v1056 c0_i32_497
  let v1058 : BitVec 1 := Scalar.andi v1055 v1057
  let v1044 : BitVec 32 := Scalar.divsi v1033 c48_i32_492
  let c1_i32_498 : BitVec 32 := 1#32
  let v1059 : BitVec 32 := Scalar.subi v1044 c1_i32_498
  let v1060 : BitVec 32 := Scalar.select v1058 v1059 v1044
  let c12_i32_821 : BitVec 32 := 12#32
  let v1758 : BitVec 1 := Scalar.cmpi .sge v1060 c12_i32_821
  let v1759 : BitVec 32 := Scalar.extui v1758
  let v1760 : BitVec 32 := Scalar.addi c0_i32_822 v1759
  let c23_i32_823 : BitVec 32 := 23#32
  let v1761 : BitVec 1 := Scalar.cmpi .sge v1060 c23_i32_823
  let v1762 : BitVec 32 := Scalar.extui v1761
  let v1763 : BitVec 32 := Scalar.addi v1760 v1762
  let c33_i32_824 : BitVec 32 := 33#32
  let v1764 : BitVec 1 := Scalar.cmpi .sge v1060 c33_i32_824
  let v1765 : BitVec 32 := Scalar.extui v1764
  let v1766 : BitVec 32 := Scalar.addi v1763 v1765
  let c42_i32_825 : BitVec 32 := 42#32
  let v1767 : BitVec 1 := Scalar.cmpi .sge v1060 c42_i32_825
  let v1768 : BitVec 32 := Scalar.extui v1767
  let v1769 : BitVec 32 := Scalar.addi v1766 v1768
  let c50_i32_826 : BitVec 32 := 50#32
  let v1770 : BitVec 1 := Scalar.cmpi .sge v1060 c50_i32_826
  let v1771 : BitVec 32 := Scalar.extui v1770
  let v1772 : BitVec 32 := Scalar.addi v1769 v1771
  let c57_i32_827 : BitVec 32 := 57#32
  let v1773 : BitVec 1 := Scalar.cmpi .sge v1060 c57_i32_827
  let v1774 : BitVec 32 := Scalar.extui v1773
  let v1775 : BitVec 32 := Scalar.addi v1772 v1774
  let c63_i32_828 : BitVec 32 := 63#32
  let v1776 : BitVec 1 := Scalar.cmpi .sge v1060 c63_i32_828
  let v1777 : BitVec 32 := Scalar.extui v1776
  let v1778 : BitVec 32 := Scalar.addi v1775 v1777
  let c68_i32_829 : BitVec 32 := 68#32
  let v1779 : BitVec 1 := Scalar.cmpi .sge v1060 c68_i32_829
  let v1780 : BitVec 32 := Scalar.extui v1779
  let v1781 : BitVec 32 := Scalar.addi v1778 v1780
  let c72_i32_830 : BitVec 32 := 72#32
  let v1782 : BitVec 1 := Scalar.cmpi .sge v1060 c72_i32_830
  let v1783 : BitVec 32 := Scalar.extui v1782
  let v1784 : BitVec 32 := Scalar.addi v1781 v1783
  let c75_i32_831 : BitVec 32 := 75#32
  let v1785 : BitVec 1 := Scalar.cmpi .sge v1060 c75_i32_831
  let v1786 : BitVec 32 := Scalar.extui v1785
  let v1787 : BitVec 32 := Scalar.addi v1784 v1786
  let c77_i32_832 : BitVec 32 := 77#32
  let v1788 : BitVec 1 := Scalar.cmpi .sge v1060 c77_i32_832
  let v1789 : BitVec 32 := Scalar.extui v1788
  let v1790 : BitVec 32 := Scalar.addi v1787 v1789
  let v1815 : BitVec 32 := Scalar.muli c3_i32_843 v1790
  let v1816 : BitVec 32 := Scalar.addi v1815 c0_i32_844
  let c39_i32 : BitVec 32 := 39#32
  let v1819 : BitVec 32 := Scalar.muli v1816 c39_i32
  let c3_i32_845 : BitVec 32 := 3#32
  let c1_i32_833 : BitVec 32 := 1#32
  let v1791 : BitVec 32 := Scalar.addi v1790 c1_i32_833
  let v1792 : BitVec 32 := Scalar.addi v1791 v1060
  let c12_i32_834 : BitVec 32 := 12#32
  let v1793 : BitVec 32 := Scalar.muli c12_i32_834 v1790
  let c1_i32_835 : BitVec 32 := 1#32
  let v1794 : BitVec 32 := Scalar.subi v1790 c1_i32_835
  let v1795 : BitVec 32 := Scalar.muli v1790 v1794
  let c0_i32_837 : BitVec 32 := 0#32
  let v1797 : BitVec 1 := Scalar.cmpi .sgt v1795 c0_i32_837
  let v1798 : BitVec 32 := Scalar.extui v1797
  let c0_i32_838 : BitVec 32 := 0#32
  let v1799 : BitVec 1 := Scalar.cmpi .slt v1795 c0_i32_838
  let v1800 : BitVec 32 := Scalar.extui v1799
  let v1801 : BitVec 32 := Scalar.subi v1798 v1800
  let c2_i32_836 : BitVec 32 := 2#32
  let c0_i32_839 : BitVec 32 := 0#32
  let v1802 : BitVec 1 := Scalar.cmpi .sgt c2_i32_836 c0_i32_839
  let v1803 : BitVec 32 := Scalar.extui v1802
  let c0_i32_840 : BitVec 32 := 0#32
  let v1804 : BitVec 1 := Scalar.cmpi .slt c2_i32_836 c0_i32_840
  let v1805 : BitVec 32 := Scalar.extui v1804
  let v1806 : BitVec 32 := Scalar.subi v1803 v1805
  let v1807 : BitVec 1 := Scalar.cmpi .ne v1801 v1806
  let v1808 : BitVec 32 := Scalar.remsi v1795 c2_i32_836
  let c0_i32_841 : BitVec 32 := 0#32
  let v1809 : BitVec 1 := Scalar.cmpi .ne v1808 c0_i32_841
  let v1810 : BitVec 1 := Scalar.andi v1807 v1809
  let v1796 : BitVec 32 := Scalar.divsi v1795 c2_i32_836
  let c1_i32_842 : BitVec 32 := 1#32
  let v1811 : BitVec 32 := Scalar.subi v1796 c1_i32_842
  let v1812 : BitVec 32 := Scalar.select v1810 v1811 v1796
  let v1813 : BitVec 32 := Scalar.subi v1793 v1812
  let v1814 : BitVec 32 := Scalar.subi v1792 v1813
  let v1817 : BitVec 32 := Scalar.muli c3_i32_845 v1814
  let v1818 : BitVec 32 := Scalar.addi v1817 c0_i32_846
  let v1820 : BitVec 32 := Scalar.addi v1819 v1818
  let c4512_i32 : BitVec 32 := 4512#32
  let v1821 : BitVec 32 := Scalar.muli v1820 c4512_i32
  ![v1821.toNat]
def k0_off4 (i : grid0.Coords) (k0_t1 : Fin k0_t1_loop.trips) (c0_i32_846 : BitVec 32) (c0_i32_844 : BitVec 32) : Fin 1 → Nat :=
  let c3_i32_845 : BitVec 32 := 3#32
  let c0_i32_822 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c117_i32 : BitVec 32 := 117#32
  let v2 : BitVec 32 := Scalar.muli v1 c117_i32
  let c0_i32_485 : BitVec 32 := 0#32
  let c0_i32_75 : BitVec 32 := 0#32
  let c1_i32_77 : BitVec 32 := 1#32
  let arg20 : BitVec 32 := Scf.iv c0_i32_75 c1_i32_77 k0_t1
  let c1_i32_484 : BitVec 32 := 1#32
  let v1031 : BitVec 32 := Scalar.muli arg20 c1_i32_484
  let v1032 : BitVec 32 := Scalar.addi c0_i32_485 v1031
  let v1033 : BitVec 32 := Scalar.addi v2 v1032
  let c0_i32_493 : BitVec 32 := 0#32
  let v1045 : BitVec 1 := Scalar.cmpi .sgt v1033 c0_i32_493
  let v1046 : BitVec 32 := Scalar.extui v1045
  let c0_i32_494 : BitVec 32 := 0#32
  let v1047 : BitVec 1 := Scalar.cmpi .slt v1033 c0_i32_494
  let v1048 : BitVec 32 := Scalar.extui v1047
  let v1049 : BitVec 32 := Scalar.subi v1046 v1048
  let c48_i32_492 : BitVec 32 := 48#32
  let c0_i32_495 : BitVec 32 := 0#32
  let v1050 : BitVec 1 := Scalar.cmpi .sgt c48_i32_492 c0_i32_495
  let v1051 : BitVec 32 := Scalar.extui v1050
  let c0_i32_496 : BitVec 32 := 0#32
  let v1052 : BitVec 1 := Scalar.cmpi .slt c48_i32_492 c0_i32_496
  let v1053 : BitVec 32 := Scalar.extui v1052
  let v1054 : BitVec 32 := Scalar.subi v1051 v1053
  let v1055 : BitVec 1 := Scalar.cmpi .ne v1049 v1054
  let v1056 : BitVec 32 := Scalar.remsi v1033 c48_i32_492
  let c0_i32_497 : BitVec 32 := 0#32
  let v1057 : BitVec 1 := Scalar.cmpi .ne v1056 c0_i32_497
  let v1058 : BitVec 1 := Scalar.andi v1055 v1057
  let v1044 : BitVec 32 := Scalar.divsi v1033 c48_i32_492
  let c1_i32_498 : BitVec 32 := 1#32
  let v1059 : BitVec 32 := Scalar.subi v1044 c1_i32_498
  let v1060 : BitVec 32 := Scalar.select v1058 v1059 v1044
  let c12_i32_821 : BitVec 32 := 12#32
  let v1758 : BitVec 1 := Scalar.cmpi .sge v1060 c12_i32_821
  let v1759 : BitVec 32 := Scalar.extui v1758
  let v1760 : BitVec 32 := Scalar.addi c0_i32_822 v1759
  let c23_i32_823 : BitVec 32 := 23#32
  let v1761 : BitVec 1 := Scalar.cmpi .sge v1060 c23_i32_823
  let v1762 : BitVec 32 := Scalar.extui v1761
  let v1763 : BitVec 32 := Scalar.addi v1760 v1762
  let c33_i32_824 : BitVec 32 := 33#32
  let v1764 : BitVec 1 := Scalar.cmpi .sge v1060 c33_i32_824
  let v1765 : BitVec 32 := Scalar.extui v1764
  let v1766 : BitVec 32 := Scalar.addi v1763 v1765
  let c42_i32_825 : BitVec 32 := 42#32
  let v1767 : BitVec 1 := Scalar.cmpi .sge v1060 c42_i32_825
  let v1768 : BitVec 32 := Scalar.extui v1767
  let v1769 : BitVec 32 := Scalar.addi v1766 v1768
  let c50_i32_826 : BitVec 32 := 50#32
  let v1770 : BitVec 1 := Scalar.cmpi .sge v1060 c50_i32_826
  let v1771 : BitVec 32 := Scalar.extui v1770
  let v1772 : BitVec 32 := Scalar.addi v1769 v1771
  let c57_i32_827 : BitVec 32 := 57#32
  let v1773 : BitVec 1 := Scalar.cmpi .sge v1060 c57_i32_827
  let v1774 : BitVec 32 := Scalar.extui v1773
  let v1775 : BitVec 32 := Scalar.addi v1772 v1774
  let c63_i32_828 : BitVec 32 := 63#32
  let v1776 : BitVec 1 := Scalar.cmpi .sge v1060 c63_i32_828
  let v1777 : BitVec 32 := Scalar.extui v1776
  let v1778 : BitVec 32 := Scalar.addi v1775 v1777
  let c68_i32_829 : BitVec 32 := 68#32
  let v1779 : BitVec 1 := Scalar.cmpi .sge v1060 c68_i32_829
  let v1780 : BitVec 32 := Scalar.extui v1779
  let v1781 : BitVec 32 := Scalar.addi v1778 v1780
  let c72_i32_830 : BitVec 32 := 72#32
  let v1782 : BitVec 1 := Scalar.cmpi .sge v1060 c72_i32_830
  let v1783 : BitVec 32 := Scalar.extui v1782
  let v1784 : BitVec 32 := Scalar.addi v1781 v1783
  let c75_i32_831 : BitVec 32 := 75#32
  let v1785 : BitVec 1 := Scalar.cmpi .sge v1060 c75_i32_831
  let v1786 : BitVec 32 := Scalar.extui v1785
  let v1787 : BitVec 32 := Scalar.addi v1784 v1786
  let c77_i32_832 : BitVec 32 := 77#32
  let v1788 : BitVec 1 := Scalar.cmpi .sge v1060 c77_i32_832
  let v1789 : BitVec 32 := Scalar.extui v1788
  let v1790 : BitVec 32 := Scalar.addi v1787 v1789
  let c1_i32_833 : BitVec 32 := 1#32
  let v1791 : BitVec 32 := Scalar.addi v1790 c1_i32_833
  let v1792 : BitVec 32 := Scalar.addi v1791 v1060
  let c12_i32_834 : BitVec 32 := 12#32
  let v1793 : BitVec 32 := Scalar.muli c12_i32_834 v1790
  let c1_i32_835 : BitVec 32 := 1#32
  let v1794 : BitVec 32 := Scalar.subi v1790 c1_i32_835
  let v1795 : BitVec 32 := Scalar.muli v1790 v1794
  let c0_i32_837 : BitVec 32 := 0#32
  let v1797 : BitVec 1 := Scalar.cmpi .sgt v1795 c0_i32_837
  let v1798 : BitVec 32 := Scalar.extui v1797
  let c0_i32_838 : BitVec 32 := 0#32
  let v1799 : BitVec 1 := Scalar.cmpi .slt v1795 c0_i32_838
  let v1800 : BitVec 32 := Scalar.extui v1799
  let v1801 : BitVec 32 := Scalar.subi v1798 v1800
  let c2_i32_836 : BitVec 32 := 2#32
  let c0_i32_839 : BitVec 32 := 0#32
  let v1802 : BitVec 1 := Scalar.cmpi .sgt c2_i32_836 c0_i32_839
  let v1803 : BitVec 32 := Scalar.extui v1802
  let c0_i32_840 : BitVec 32 := 0#32
  let v1804 : BitVec 1 := Scalar.cmpi .slt c2_i32_836 c0_i32_840
  let v1805 : BitVec 32 := Scalar.extui v1804
  let v1806 : BitVec 32 := Scalar.subi v1803 v1805
  let v1807 : BitVec 1 := Scalar.cmpi .ne v1801 v1806
  let v1808 : BitVec 32 := Scalar.remsi v1795 c2_i32_836
  let c0_i32_841 : BitVec 32 := 0#32
  let v1809 : BitVec 1 := Scalar.cmpi .ne v1808 c0_i32_841
  let v1810 : BitVec 1 := Scalar.andi v1807 v1809
  let v1796 : BitVec 32 := Scalar.divsi v1795 c2_i32_836
  let c1_i32_842 : BitVec 32 := 1#32
  let v1811 : BitVec 32 := Scalar.subi v1796 c1_i32_842
  let v1812 : BitVec 32 := Scalar.select v1810 v1811 v1796
  let v1813 : BitVec 32 := Scalar.subi v1793 v1812
  let v1814 : BitVec 32 := Scalar.subi v1792 v1813
  let v1817 : BitVec 32 := Scalar.muli c3_i32_845 v1814
  let v1818 : BitVec 32 := Scalar.addi v1817 c0_i32_846
  let c39_i32_847 : BitVec 32 := 39#32
  let v1822 : BitVec 32 := Scalar.muli v1818 c39_i32_847
  let c3_i32_843 : BitVec 32 := 3#32
  let v1815 : BitVec 32 := Scalar.muli c3_i32_843 v1790
  let v1816 : BitVec 32 := Scalar.addi v1815 c0_i32_844
  let v1823 : BitVec 32 := Scalar.addi v1822 v1816
  let c4512_i32_848 : BitVec 32 := 4512#32
  let v1824 : BitVec 32 := Scalar.muli v1823 c4512_i32_848
  ![v1824.toNat]
def k0_cond2 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c117_i32 : BitVec 32 := 117#32
  let v2 : BitVec 32 := Scalar.muli v1 c117_i32
  let c0_i32_485 : BitVec 32 := 0#32
  let c0_i32_75 : BitVec 32 := 0#32
  let c1_i32_77 : BitVec 32 := 1#32
  let arg20 : BitVec 32 := Scf.iv c0_i32_75 c1_i32_77 k0_t1
  let c1_i32_484 : BitVec 32 := 1#32
  let v1031 : BitVec 32 := Scalar.muli arg20 c1_i32_484
  let v1032 : BitVec 32 := Scalar.addi c0_i32_485 v1031
  let v1033 : BitVec 32 := Scalar.addi v2 v1032
  let c1_i32_508 : BitVec 32 := 1#32
  let v1076 : BitVec 32 := Scalar.addi v1033 c1_i32_508
  let c117_i32_0 : BitVec 32 := 117#32
  let v3 : BitVec 32 := Scalar.addi v2 c117_i32_0
  let v1077 : BitVec 1 := Scalar.cmpi .slt v1076 v3
  let v1078 : BitVec 32 := Scalar.extui v1077
  let c0_i32_509 : BitVec 32 := 0#32
  let v1079 : BitVec 1 := Scalar.cmpi .ne v1078 c0_i32_509
  v1079

def k0_off5 (k0_t1 : Fin k0_t1_loop.trips) (c0_i32_864 : BitVec 32) : Fin 1 → Nat :=
  let c1_i32_822 : BitVec 32 := 1#32
  let c0_i32_485 : BitVec 32 := 0#32
  let c0_i32_75 : BitVec 32 := 0#32
  let c1_i32_77 : BitVec 32 := 1#32
  let arg20 : BitVec 32 := Scf.iv c0_i32_75 c1_i32_77 k0_t1
  let c1_i32_484 : BitVec 32 := 1#32
  let v1031 : BitVec 32 := Scalar.muli arg20 c1_i32_484
  let v1032 : BitVec 32 := Scalar.addi c0_i32_485 v1031
  let c2_i32_486 : BitVec 32 := 2#32
  let c0_i32_487 : BitVec 32 := 0#32
  let v1034 : BitVec 1 := Scalar.cmpi .eq c2_i32_486 c0_i32_487
  let c1_i32_488 : BitVec 32 := 1#32
  let v1035 : BitVec 32 := Scalar.select v1034 c1_i32_488 c2_i32_486
  let v1036 : BitVec 32 := Scalar.remsi v1032 v1035
  let c0_i32_490 : BitVec 32 := 0#32
  let v1038 : BitVec 1 := Scalar.cmpi .slt v1036 c0_i32_490
  let c0_i32_491 : BitVec 32 := 0#32
  let v1039 : BitVec 1 := Scalar.cmpi .slt v1035 c0_i32_491
  let v1040 : BitVec 1 := Scalar.xori v1038 v1039
  let c0_i32_489 : BitVec 32 := 0#32
  let v1037 : BitVec 1 := Scalar.cmpi .ne v1036 c0_i32_489
  let v1041 : BitVec 1 := Scalar.andi v1040 v1037
  let v1042 : BitVec 32 := Scalar.addi v1036 v1035
  let v1043 : BitVec 32 := Scalar.select v1041 v1042 v1036
  let v1759 : BitVec 32 := Scalar.subi c1_i32_822 v1043
  let c2_i32_862 : BitVec 32 := 2#32
  let v1849 : BitVec 32 := Scalar.muli v1759 c2_i32_862
  let c3_i32_863 : BitVec 32 := 3#32
  let v1850 : BitVec 32 := Scalar.muli v1849 c3_i32_863
  let v1851 : BitVec 32 := Scalar.addi v1850 c0_i32_864
  let c1024_i32_865 : BitVec 32 := 1024#32
  let v1852 : BitVec 32 := Scalar.muli v1851 c1024_i32_865
  ![v1852.toNat]
def k0_off6 (i : grid0.Coords) (k0_t1 : Fin k0_t1_loop.trips) (c0_i32_859 : BitVec 32) : Fin 1 → Nat :=
  let c3_i32_858 : BitVec 32 := 3#32
  let c0_i32_831 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c117_i32 : BitVec 32 := 117#32
  let v2 : BitVec 32 := Scalar.muli v1 c117_i32
  let c0_i32_485 : BitVec 32 := 0#32
  let c0_i32_75 : BitVec 32 := 0#32
  let c1_i32_77 : BitVec 32 := 1#32
  let arg20 : BitVec 32 := Scf.iv c0_i32_75 c1_i32_77 k0_t1
  let c1_i32_484 : BitVec 32 := 1#32
  let v1031 : BitVec 32 := Scalar.muli arg20 c1_i32_484
  let v1032 : BitVec 32 := Scalar.addi c0_i32_485 v1031
  let v1033 : BitVec 32 := Scalar.addi v2 v1032
  let c1_i32_821 : BitVec 32 := 1#32
  let v1758 : BitVec 32 := Scalar.addi v1033 c1_i32_821
  let c0_i32_824 : BitVec 32 := 0#32
  let v1761 : BitVec 1 := Scalar.cmpi .sgt v1758 c0_i32_824
  let v1762 : BitVec 32 := Scalar.extui v1761
  let c0_i32_825 : BitVec 32 := 0#32
  let v1763 : BitVec 1 := Scalar.cmpi .slt v1758 c0_i32_825
  let v1764 : BitVec 32 := Scalar.extui v1763
  let v1765 : BitVec 32 := Scalar.subi v1762 v1764
  let c48_i32_823 : BitVec 32 := 48#32
  let c0_i32_826 : BitVec 32 := 0#32
  let v1766 : BitVec 1 := Scalar.cmpi .sgt c48_i32_823 c0_i32_826
  let v1767 : BitVec 32 := Scalar.extui v1766
  let c0_i32_827 : BitVec 32 := 0#32
  let v1768 : BitVec 1 := Scalar.cmpi .slt c48_i32_823 c0_i32_827
  let v1769 : BitVec 32 := Scalar.extui v1768
  let v1770 : BitVec 32 := Scalar.subi v1767 v1769
  let v1771 : BitVec 1 := Scalar.cmpi .ne v1765 v1770
  let v1772 : BitVec 32 := Scalar.remsi v1758 c48_i32_823
  let c0_i32_828 : BitVec 32 := 0#32
  let v1773 : BitVec 1 := Scalar.cmpi .ne v1772 c0_i32_828
  let v1774 : BitVec 1 := Scalar.andi v1771 v1773
  let v1760 : BitVec 32 := Scalar.divsi v1758 c48_i32_823
  let c1_i32_829 : BitVec 32 := 1#32
  let v1775 : BitVec 32 := Scalar.subi v1760 c1_i32_829
  let v1776 : BitVec 32 := Scalar.select v1774 v1775 v1760
  let c12_i32_830 : BitVec 32 := 12#32
  let v1777 : BitVec 1 := Scalar.cmpi .sge v1776 c12_i32_830
  let v1778 : BitVec 32 := Scalar.extui v1777
  let v1779 : BitVec 32 := Scalar.addi c0_i32_831 v1778
  let c23_i32_832 : BitVec 32 := 23#32
  let v1780 : BitVec 1 := Scalar.cmpi .sge v1776 c23_i32_832
  let v1781 : BitVec 32 := Scalar.extui v1780
  let v1782 : BitVec 32 := Scalar.addi v1779 v1781
  let c33_i32_833 : BitVec 32 := 33#32
  let v1783 : BitVec 1 := Scalar.cmpi .sge v1776 c33_i32_833
  let v1784 : BitVec 32 := Scalar.extui v1783
  let v1785 : BitVec 32 := Scalar.addi v1782 v1784
  let c42_i32_834 : BitVec 32 := 42#32
  let v1786 : BitVec 1 := Scalar.cmpi .sge v1776 c42_i32_834
  let v1787 : BitVec 32 := Scalar.extui v1786
  let v1788 : BitVec 32 := Scalar.addi v1785 v1787
  let c50_i32_835 : BitVec 32 := 50#32
  let v1789 : BitVec 1 := Scalar.cmpi .sge v1776 c50_i32_835
  let v1790 : BitVec 32 := Scalar.extui v1789
  let v1791 : BitVec 32 := Scalar.addi v1788 v1790
  let c57_i32_836 : BitVec 32 := 57#32
  let v1792 : BitVec 1 := Scalar.cmpi .sge v1776 c57_i32_836
  let v1793 : BitVec 32 := Scalar.extui v1792
  let v1794 : BitVec 32 := Scalar.addi v1791 v1793
  let c63_i32_837 : BitVec 32 := 63#32
  let v1795 : BitVec 1 := Scalar.cmpi .sge v1776 c63_i32_837
  let v1796 : BitVec 32 := Scalar.extui v1795
  let v1797 : BitVec 32 := Scalar.addi v1794 v1796
  let c68_i32_838 : BitVec 32 := 68#32
  let v1798 : BitVec 1 := Scalar.cmpi .sge v1776 c68_i32_838
  let v1799 : BitVec 32 := Scalar.extui v1798
  let v1800 : BitVec 32 := Scalar.addi v1797 v1799
  let c72_i32_839 : BitVec 32 := 72#32
  let v1801 : BitVec 1 := Scalar.cmpi .sge v1776 c72_i32_839
  let v1802 : BitVec 32 := Scalar.extui v1801
  let v1803 : BitVec 32 := Scalar.addi v1800 v1802
  let c75_i32_840 : BitVec 32 := 75#32
  let v1804 : BitVec 1 := Scalar.cmpi .sge v1776 c75_i32_840
  let v1805 : BitVec 32 := Scalar.extui v1804
  let v1806 : BitVec 32 := Scalar.addi v1803 v1805
  let c77_i32_841 : BitVec 32 := 77#32
  let v1807 : BitVec 1 := Scalar.cmpi .sge v1776 c77_i32_841
  let v1808 : BitVec 32 := Scalar.extui v1807
  let v1809 : BitVec 32 := Scalar.addi v1806 v1808
  let v1844 : BitVec 32 := Scalar.muli c3_i32_858 v1809
  let v1845 : BitVec 32 := Scalar.addi v1844 c0_i32_859
  let c49152_i32_860 : BitVec 32 := 49152#32
  let v1846 : BitVec 32 := Scalar.muli v1845 c49152_i32_860
  let c48_i32_852 : BitVec 32 := 48#32
  let c0_i32_853 : BitVec 32 := 0#32
  let v1834 : BitVec 1 := Scalar.cmpi .eq c48_i32_852 c0_i32_853
  let c1_i32_854 : BitVec 32 := 1#32
  let v1835 : BitVec 32 := Scalar.select v1834 c1_i32_854 c48_i32_852
  let v1836 : BitVec 32 := Scalar.remsi v1758 v1835
  let c0_i32_856 : BitVec 32 := 0#32
  let v1838 : BitVec 1 := Scalar.cmpi .slt v1836 c0_i32_856
  let c0_i32_857 : BitVec 32 := 0#32
  let v1839 : BitVec 1 := Scalar.cmpi .slt v1835 c0_i32_857
  let v1840 : BitVec 1 := Scalar.xori v1838 v1839
  let c0_i32_855 : BitVec 32 := 0#32
  let v1837 : BitVec 1 := Scalar.cmpi .ne v1836 c0_i32_855
  let v1841 : BitVec 1 := Scalar.andi v1840 v1837
  let v1842 : BitVec 32 := Scalar.addi v1836 v1835
  let v1843 : BitVec 32 := Scalar.select v1841 v1842 v1836
  let c1024_i32_861 : BitVec 32 := 1024#32
  let v1847 : BitVec 32 := Scalar.muli v1843 c1024_i32_861
  let v1848 : BitVec 32 := Scalar.addi v1846 v1847
  ![v1848.toNat]
def k0_off7 (k0_t1 : Fin k0_t1_loop.trips) : Fin 1 → Nat :=
  let c1_i32_822 : BitVec 32 := 1#32
  let c0_i32_485 : BitVec 32 := 0#32
  let c0_i32_75 : BitVec 32 := 0#32
  let c1_i32_77 : BitVec 32 := 1#32
  let arg20 : BitVec 32 := Scf.iv c0_i32_75 c1_i32_77 k0_t1
  let c1_i32_484 : BitVec 32 := 1#32
  let v1031 : BitVec 32 := Scalar.muli arg20 c1_i32_484
  let v1032 : BitVec 32 := Scalar.addi c0_i32_485 v1031
  let c2_i32_486 : BitVec 32 := 2#32
  let c0_i32_487 : BitVec 32 := 0#32
  let v1034 : BitVec 1 := Scalar.cmpi .eq c2_i32_486 c0_i32_487
  let c1_i32_488 : BitVec 32 := 1#32
  let v1035 : BitVec 32 := Scalar.select v1034 c1_i32_488 c2_i32_486
  let v1036 : BitVec 32 := Scalar.remsi v1032 v1035
  let c0_i32_490 : BitVec 32 := 0#32
  let v1038 : BitVec 1 := Scalar.cmpi .slt v1036 c0_i32_490
  let c0_i32_491 : BitVec 32 := 0#32
  let v1039 : BitVec 1 := Scalar.cmpi .slt v1035 c0_i32_491
  let v1040 : BitVec 1 := Scalar.xori v1038 v1039
  let c0_i32_489 : BitVec 32 := 0#32
  let v1037 : BitVec 1 := Scalar.cmpi .ne v1036 c0_i32_489
  let v1041 : BitVec 1 := Scalar.andi v1040 v1037
  let v1042 : BitVec 32 := Scalar.addi v1036 v1035
  let v1043 : BitVec 32 := Scalar.select v1041 v1042 v1036
  let v1759 : BitVec 32 := Scalar.subi c1_i32_822 v1043
  ![v1759.toNat]
def k0_off8 (i : grid0.Coords) (k0_t1 : Fin k0_t1_loop.trips) (c0_i32_883 : BitVec 32) : Fin 1 → Nat :=
  let c3_i32_882 : BitVec 32 := 3#32
  let c0_i32_831 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c117_i32 : BitVec 32 := 117#32
  let v2 : BitVec 32 := Scalar.muli v1 c117_i32
  let c0_i32_485 : BitVec 32 := 0#32
  let c0_i32_75 : BitVec 32 := 0#32
  let c1_i32_77 : BitVec 32 := 1#32
  let arg20 : BitVec 32 := Scf.iv c0_i32_75 c1_i32_77 k0_t1
  let c1_i32_484 : BitVec 32 := 1#32
  let v1031 : BitVec 32 := Scalar.muli arg20 c1_i32_484
  let v1032 : BitVec 32 := Scalar.addi c0_i32_485 v1031
  let v1033 : BitVec 32 := Scalar.addi v2 v1032
  let c1_i32_821 : BitVec 32 := 1#32
  let v1758 : BitVec 32 := Scalar.addi v1033 c1_i32_821
  let c0_i32_824 : BitVec 32 := 0#32
  let v1761 : BitVec 1 := Scalar.cmpi .sgt v1758 c0_i32_824
  let v1762 : BitVec 32 := Scalar.extui v1761
  let c0_i32_825 : BitVec 32 := 0#32
  let v1763 : BitVec 1 := Scalar.cmpi .slt v1758 c0_i32_825
  let v1764 : BitVec 32 := Scalar.extui v1763
  let v1765 : BitVec 32 := Scalar.subi v1762 v1764
  let c48_i32_823 : BitVec 32 := 48#32
  let c0_i32_826 : BitVec 32 := 0#32
  let v1766 : BitVec 1 := Scalar.cmpi .sgt c48_i32_823 c0_i32_826
  let v1767 : BitVec 32 := Scalar.extui v1766
  let c0_i32_827 : BitVec 32 := 0#32
  let v1768 : BitVec 1 := Scalar.cmpi .slt c48_i32_823 c0_i32_827
  let v1769 : BitVec 32 := Scalar.extui v1768
  let v1770 : BitVec 32 := Scalar.subi v1767 v1769
  let v1771 : BitVec 1 := Scalar.cmpi .ne v1765 v1770
  let v1772 : BitVec 32 := Scalar.remsi v1758 c48_i32_823
  let c0_i32_828 : BitVec 32 := 0#32
  let v1773 : BitVec 1 := Scalar.cmpi .ne v1772 c0_i32_828
  let v1774 : BitVec 1 := Scalar.andi v1771 v1773
  let v1760 : BitVec 32 := Scalar.divsi v1758 c48_i32_823
  let c1_i32_829 : BitVec 32 := 1#32
  let v1775 : BitVec 32 := Scalar.subi v1760 c1_i32_829
  let v1776 : BitVec 32 := Scalar.select v1774 v1775 v1760
  let c12_i32_830 : BitVec 32 := 12#32
  let v1777 : BitVec 1 := Scalar.cmpi .sge v1776 c12_i32_830
  let v1778 : BitVec 32 := Scalar.extui v1777
  let v1779 : BitVec 32 := Scalar.addi c0_i32_831 v1778
  let c23_i32_832 : BitVec 32 := 23#32
  let v1780 : BitVec 1 := Scalar.cmpi .sge v1776 c23_i32_832
  let v1781 : BitVec 32 := Scalar.extui v1780
  let v1782 : BitVec 32 := Scalar.addi v1779 v1781
  let c33_i32_833 : BitVec 32 := 33#32
  let v1783 : BitVec 1 := Scalar.cmpi .sge v1776 c33_i32_833
  let v1784 : BitVec 32 := Scalar.extui v1783
  let v1785 : BitVec 32 := Scalar.addi v1782 v1784
  let c42_i32_834 : BitVec 32 := 42#32
  let v1786 : BitVec 1 := Scalar.cmpi .sge v1776 c42_i32_834
  let v1787 : BitVec 32 := Scalar.extui v1786
  let v1788 : BitVec 32 := Scalar.addi v1785 v1787
  let c50_i32_835 : BitVec 32 := 50#32
  let v1789 : BitVec 1 := Scalar.cmpi .sge v1776 c50_i32_835
  let v1790 : BitVec 32 := Scalar.extui v1789
  let v1791 : BitVec 32 := Scalar.addi v1788 v1790
  let c57_i32_836 : BitVec 32 := 57#32
  let v1792 : BitVec 1 := Scalar.cmpi .sge v1776 c57_i32_836
  let v1793 : BitVec 32 := Scalar.extui v1792
  let v1794 : BitVec 32 := Scalar.addi v1791 v1793
  let c63_i32_837 : BitVec 32 := 63#32
  let v1795 : BitVec 1 := Scalar.cmpi .sge v1776 c63_i32_837
  let v1796 : BitVec 32 := Scalar.extui v1795
  let v1797 : BitVec 32 := Scalar.addi v1794 v1796
  let c68_i32_838 : BitVec 32 := 68#32
  let v1798 : BitVec 1 := Scalar.cmpi .sge v1776 c68_i32_838
  let v1799 : BitVec 32 := Scalar.extui v1798
  let v1800 : BitVec 32 := Scalar.addi v1797 v1799
  let c72_i32_839 : BitVec 32 := 72#32
  let v1801 : BitVec 1 := Scalar.cmpi .sge v1776 c72_i32_839
  let v1802 : BitVec 32 := Scalar.extui v1801
  let v1803 : BitVec 32 := Scalar.addi v1800 v1802
  let c75_i32_840 : BitVec 32 := 75#32
  let v1804 : BitVec 1 := Scalar.cmpi .sge v1776 c75_i32_840
  let v1805 : BitVec 32 := Scalar.extui v1804
  let v1806 : BitVec 32 := Scalar.addi v1803 v1805
  let c77_i32_841 : BitVec 32 := 77#32
  let v1807 : BitVec 1 := Scalar.cmpi .sge v1776 c77_i32_841
  let v1808 : BitVec 32 := Scalar.extui v1807
  let v1809 : BitVec 32 := Scalar.addi v1806 v1808
  let c1_i32_842 : BitVec 32 := 1#32
  let v1810 : BitVec 32 := Scalar.addi v1809 c1_i32_842
  let v1811 : BitVec 32 := Scalar.addi v1810 v1776
  let c12_i32_843 : BitVec 32 := 12#32
  let v1812 : BitVec 32 := Scalar.muli c12_i32_843 v1809
  let c1_i32_844 : BitVec 32 := 1#32
  let v1813 : BitVec 32 := Scalar.subi v1809 c1_i32_844
  let v1814 : BitVec 32 := Scalar.muli v1809 v1813
  let c0_i32_846 : BitVec 32 := 0#32
  let v1816 : BitVec 1 := Scalar.cmpi .sgt v1814 c0_i32_846
  let v1817 : BitVec 32 := Scalar.extui v1816
  let c0_i32_847 : BitVec 32 := 0#32
  let v1818 : BitVec 1 := Scalar.cmpi .slt v1814 c0_i32_847
  let v1819 : BitVec 32 := Scalar.extui v1818
  let v1820 : BitVec 32 := Scalar.subi v1817 v1819
  let c2_i32_845 : BitVec 32 := 2#32
  let c0_i32_848 : BitVec 32 := 0#32
  let v1821 : BitVec 1 := Scalar.cmpi .sgt c2_i32_845 c0_i32_848
  let v1822 : BitVec 32 := Scalar.extui v1821
  let c0_i32_849 : BitVec 32 := 0#32
  let v1823 : BitVec 1 := Scalar.cmpi .slt c2_i32_845 c0_i32_849
  let v1824 : BitVec 32 := Scalar.extui v1823
  let v1825 : BitVec 32 := Scalar.subi v1822 v1824
  let v1826 : BitVec 1 := Scalar.cmpi .ne v1820 v1825
  let v1827 : BitVec 32 := Scalar.remsi v1814 c2_i32_845
  let c0_i32_850 : BitVec 32 := 0#32
  let v1828 : BitVec 1 := Scalar.cmpi .ne v1827 c0_i32_850
  let v1829 : BitVec 1 := Scalar.andi v1826 v1828
  let v1815 : BitVec 32 := Scalar.divsi v1814 c2_i32_845
  let c1_i32_851 : BitVec 32 := 1#32
  let v1830 : BitVec 32 := Scalar.subi v1815 c1_i32_851
  let v1831 : BitVec 32 := Scalar.select v1829 v1830 v1815
  let v1832 : BitVec 32 := Scalar.subi v1812 v1831
  let v1833 : BitVec 32 := Scalar.subi v1811 v1832
  let v1871 : BitVec 32 := Scalar.muli c3_i32_882 v1833
  let v1872 : BitVec 32 := Scalar.addi v1871 c0_i32_883
  let c49152_i32_884 : BitVec 32 := 49152#32
  let v1873 : BitVec 32 := Scalar.muli v1872 c49152_i32_884
  let c48_i32_852 : BitVec 32 := 48#32
  let c0_i32_853 : BitVec 32 := 0#32
  let v1834 : BitVec 1 := Scalar.cmpi .eq c48_i32_852 c0_i32_853
  let c1_i32_854 : BitVec 32 := 1#32
  let v1835 : BitVec 32 := Scalar.select v1834 c1_i32_854 c48_i32_852
  let v1836 : BitVec 32 := Scalar.remsi v1758 v1835
  let c0_i32_856 : BitVec 32 := 0#32
  let v1838 : BitVec 1 := Scalar.cmpi .slt v1836 c0_i32_856
  let c0_i32_857 : BitVec 32 := 0#32
  let v1839 : BitVec 1 := Scalar.cmpi .slt v1835 c0_i32_857
  let v1840 : BitVec 1 := Scalar.xori v1838 v1839
  let c0_i32_855 : BitVec 32 := 0#32
  let v1837 : BitVec 1 := Scalar.cmpi .ne v1836 c0_i32_855
  let v1841 : BitVec 1 := Scalar.andi v1840 v1837
  let v1842 : BitVec 32 := Scalar.addi v1836 v1835
  let v1843 : BitVec 32 := Scalar.select v1841 v1842 v1836
  let c1024_i32_885 : BitVec 32 := 1024#32
  let v1874 : BitVec 32 := Scalar.muli v1843 c1024_i32_885
  let v1875 : BitVec 32 := Scalar.addi v1873 v1874
  ![v1875.toNat]
def k0_off9 (k0_t1 : Fin k0_t1_loop.trips) (c0_i32_551 : BitVec 32) : Fin 1 → Nat :=
  let c0_i32_485 : BitVec 32 := 0#32
  let c0_i32_75 : BitVec 32 := 0#32
  let c1_i32_77 : BitVec 32 := 1#32
  let arg20 : BitVec 32 := Scf.iv c0_i32_75 c1_i32_77 k0_t1
  let c1_i32_484 : BitVec 32 := 1#32
  let v1031 : BitVec 32 := Scalar.muli arg20 c1_i32_484
  let v1032 : BitVec 32 := Scalar.addi c0_i32_485 v1031
  let c2_i32_486 : BitVec 32 := 2#32
  let c0_i32_487 : BitVec 32 := 0#32
  let v1034 : BitVec 1 := Scalar.cmpi .eq c2_i32_486 c0_i32_487
  let c1_i32_488 : BitVec 32 := 1#32
  let v1035 : BitVec 32 := Scalar.select v1034 c1_i32_488 c2_i32_486
  let v1036 : BitVec 32 := Scalar.remsi v1032 v1035
  let c0_i32_490 : BitVec 32 := 0#32
  let v1038 : BitVec 1 := Scalar.cmpi .slt v1036 c0_i32_490
  let c0_i32_491 : BitVec 32 := 0#32
  let v1039 : BitVec 1 := Scalar.cmpi .slt v1035 c0_i32_491
  let v1040 : BitVec 1 := Scalar.xori v1038 v1039
  let c0_i32_489 : BitVec 32 := 0#32
  let v1037 : BitVec 1 := Scalar.cmpi .ne v1036 c0_i32_489
  let v1041 : BitVec 1 := Scalar.andi v1040 v1037
  let v1042 : BitVec 32 := Scalar.addi v1036 v1035
  let v1043 : BitVec 32 := Scalar.select v1041 v1042 v1036
  let c2_i32_549 : BitVec 32 := 2#32
  let v1169 : BitVec 32 := Scalar.muli v1043 c2_i32_549
  let c3_i32_550 : BitVec 32 := 3#32
  let v1170 : BitVec 32 := Scalar.muli v1169 c3_i32_550
  let v1171 : BitVec 32 := Scalar.addi v1170 c0_i32_551
  let c1024_i32_552 : BitVec 32 := 1024#32
  let v1172 : BitVec 32 := Scalar.muli v1171 c1024_i32_552
  ![v1172.toNat]
def k0_off10 (i : grid0.Coords) (k0_t1 : Fin k0_t1_loop.trips) (c0_i32_546 : BitVec 32) : Fin 1 → Nat :=
  let c3_i32_545 : BitVec 32 := 3#32
  let c0_i32_518 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c117_i32 : BitVec 32 := 117#32
  let v2 : BitVec 32 := Scalar.muli v1 c117_i32
  let c0_i32_485 : BitVec 32 := 0#32
  let c0_i32_75 : BitVec 32 := 0#32
  let c1_i32_77 : BitVec 32 := 1#32
  let arg20 : BitVec 32 := Scf.iv c0_i32_75 c1_i32_77 k0_t1
  let c1_i32_484 : BitVec 32 := 1#32
  let v1031 : BitVec 32 := Scalar.muli arg20 c1_i32_484
  let v1032 : BitVec 32 := Scalar.addi c0_i32_485 v1031
  let v1033 : BitVec 32 := Scalar.addi v2 v1032
  let c0_i32_511 : BitVec 32 := 0#32
  let v1081 : BitVec 1 := Scalar.cmpi .sgt v1033 c0_i32_511
  let v1082 : BitVec 32 := Scalar.extui v1081
  let c0_i32_512 : BitVec 32 := 0#32
  let v1083 : BitVec 1 := Scalar.cmpi .slt v1033 c0_i32_512
  let v1084 : BitVec 32 := Scalar.extui v1083
  let v1085 : BitVec 32 := Scalar.subi v1082 v1084
  let c48_i32_510 : BitVec 32 := 48#32
  let c0_i32_513 : BitVec 32 := 0#32
  let v1086 : BitVec 1 := Scalar.cmpi .sgt c48_i32_510 c0_i32_513
  let v1087 : BitVec 32 := Scalar.extui v1086
  let c0_i32_514 : BitVec 32 := 0#32
  let v1088 : BitVec 1 := Scalar.cmpi .slt c48_i32_510 c0_i32_514
  let v1089 : BitVec 32 := Scalar.extui v1088
  let v1090 : BitVec 32 := Scalar.subi v1087 v1089
  let v1091 : BitVec 1 := Scalar.cmpi .ne v1085 v1090
  let v1092 : BitVec 32 := Scalar.remsi v1033 c48_i32_510
  let c0_i32_515 : BitVec 32 := 0#32
  let v1093 : BitVec 1 := Scalar.cmpi .ne v1092 c0_i32_515
  let v1094 : BitVec 1 := Scalar.andi v1091 v1093
  let v1080 : BitVec 32 := Scalar.divsi v1033 c48_i32_510
  let c1_i32_516 : BitVec 32 := 1#32
  let v1095 : BitVec 32 := Scalar.subi v1080 c1_i32_516
  let v1096 : BitVec 32 := Scalar.select v1094 v1095 v1080
  let c12_i32_517 : BitVec 32 := 12#32
  let v1097 : BitVec 1 := Scalar.cmpi .sge v1096 c12_i32_517
  let v1098 : BitVec 32 := Scalar.extui v1097
  let v1099 : BitVec 32 := Scalar.addi c0_i32_518 v1098
  let c23_i32_519 : BitVec 32 := 23#32
  let v1100 : BitVec 1 := Scalar.cmpi .sge v1096 c23_i32_519
  let v1101 : BitVec 32 := Scalar.extui v1100
  let v1102 : BitVec 32 := Scalar.addi v1099 v1101
  let c33_i32_520 : BitVec 32 := 33#32
  let v1103 : BitVec 1 := Scalar.cmpi .sge v1096 c33_i32_520
  let v1104 : BitVec 32 := Scalar.extui v1103
  let v1105 : BitVec 32 := Scalar.addi v1102 v1104
  let c42_i32_521 : BitVec 32 := 42#32
  let v1106 : BitVec 1 := Scalar.cmpi .sge v1096 c42_i32_521
  let v1107 : BitVec 32 := Scalar.extui v1106
  let v1108 : BitVec 32 := Scalar.addi v1105 v1107
  let c50_i32_522 : BitVec 32 := 50#32
  let v1109 : BitVec 1 := Scalar.cmpi .sge v1096 c50_i32_522
  let v1110 : BitVec 32 := Scalar.extui v1109
  let v1111 : BitVec 32 := Scalar.addi v1108 v1110
  let c57_i32_523 : BitVec 32 := 57#32
  let v1112 : BitVec 1 := Scalar.cmpi .sge v1096 c57_i32_523
  let v1113 : BitVec 32 := Scalar.extui v1112
  let v1114 : BitVec 32 := Scalar.addi v1111 v1113
  let c63_i32_524 : BitVec 32 := 63#32
  let v1115 : BitVec 1 := Scalar.cmpi .sge v1096 c63_i32_524
  let v1116 : BitVec 32 := Scalar.extui v1115
  let v1117 : BitVec 32 := Scalar.addi v1114 v1116
  let c68_i32_525 : BitVec 32 := 68#32
  let v1118 : BitVec 1 := Scalar.cmpi .sge v1096 c68_i32_525
  let v1119 : BitVec 32 := Scalar.extui v1118
  let v1120 : BitVec 32 := Scalar.addi v1117 v1119
  let c72_i32_526 : BitVec 32 := 72#32
  let v1121 : BitVec 1 := Scalar.cmpi .sge v1096 c72_i32_526
  let v1122 : BitVec 32 := Scalar.extui v1121
  let v1123 : BitVec 32 := Scalar.addi v1120 v1122
  let c75_i32_527 : BitVec 32 := 75#32
  let v1124 : BitVec 1 := Scalar.cmpi .sge v1096 c75_i32_527
  let v1125 : BitVec 32 := Scalar.extui v1124
  let v1126 : BitVec 32 := Scalar.addi v1123 v1125
  let c77_i32_528 : BitVec 32 := 77#32
  let v1127 : BitVec 1 := Scalar.cmpi .sge v1096 c77_i32_528
  let v1128 : BitVec 32 := Scalar.extui v1127
  let v1129 : BitVec 32 := Scalar.addi v1126 v1128
  let v1164 : BitVec 32 := Scalar.muli c3_i32_545 v1129
  let v1165 : BitVec 32 := Scalar.addi v1164 c0_i32_546
  let c49152_i32_547 : BitVec 32 := 49152#32
  let v1166 : BitVec 32 := Scalar.muli v1165 c49152_i32_547
  let c48_i32_539 : BitVec 32 := 48#32
  let c0_i32_540 : BitVec 32 := 0#32
  let v1154 : BitVec 1 := Scalar.cmpi .eq c48_i32_539 c0_i32_540
  let c1_i32_541 : BitVec 32 := 1#32
  let v1155 : BitVec 32 := Scalar.select v1154 c1_i32_541 c48_i32_539
  let v1156 : BitVec 32 := Scalar.remsi v1033 v1155
  let c0_i32_543 : BitVec 32 := 0#32
  let v1158 : BitVec 1 := Scalar.cmpi .slt v1156 c0_i32_543
  let c0_i32_544 : BitVec 32 := 0#32
  let v1159 : BitVec 1 := Scalar.cmpi .slt v1155 c0_i32_544
  let v1160 : BitVec 1 := Scalar.xori v1158 v1159
  let c0_i32_542 : BitVec 32 := 0#32
  let v1157 : BitVec 1 := Scalar.cmpi .ne v1156 c0_i32_542
  let v1161 : BitVec 1 := Scalar.andi v1160 v1157
  let v1162 : BitVec 32 := Scalar.addi v1156 v1155
  let v1163 : BitVec 32 := Scalar.select v1161 v1162 v1156
  let c1024_i32_548 : BitVec 32 := 1024#32
  let v1167 : BitVec 32 := Scalar.muli v1163 c1024_i32_548
  let v1168 : BitVec 32 := Scalar.addi v1166 v1167
  ![v1168.toNat]
def k0_off11 (k0_t1 : Fin k0_t1_loop.trips) : Fin 1 → Nat :=
  let c0_i32_485 : BitVec 32 := 0#32
  let c0_i32_75 : BitVec 32 := 0#32
  let c1_i32_77 : BitVec 32 := 1#32
  let arg20 : BitVec 32 := Scf.iv c0_i32_75 c1_i32_77 k0_t1
  let c1_i32_484 : BitVec 32 := 1#32
  let v1031 : BitVec 32 := Scalar.muli arg20 c1_i32_484
  let v1032 : BitVec 32 := Scalar.addi c0_i32_485 v1031
  let c2_i32_486 : BitVec 32 := 2#32
  let c0_i32_487 : BitVec 32 := 0#32
  let v1034 : BitVec 1 := Scalar.cmpi .eq c2_i32_486 c0_i32_487
  let c1_i32_488 : BitVec 32 := 1#32
  let v1035 : BitVec 32 := Scalar.select v1034 c1_i32_488 c2_i32_486
  let v1036 : BitVec 32 := Scalar.remsi v1032 v1035
  let c0_i32_490 : BitVec 32 := 0#32
  let v1038 : BitVec 1 := Scalar.cmpi .slt v1036 c0_i32_490
  let c0_i32_491 : BitVec 32 := 0#32
  let v1039 : BitVec 1 := Scalar.cmpi .slt v1035 c0_i32_491
  let v1040 : BitVec 1 := Scalar.xori v1038 v1039
  let c0_i32_489 : BitVec 32 := 0#32
  let v1037 : BitVec 1 := Scalar.cmpi .ne v1036 c0_i32_489
  let v1041 : BitVec 1 := Scalar.andi v1040 v1037
  let v1042 : BitVec 32 := Scalar.addi v1036 v1035
  let v1043 : BitVec 32 := Scalar.select v1041 v1042 v1036
  ![v1043.toNat]
def k0_off12 (i : grid0.Coords) (k0_t1 : Fin k0_t1_loop.trips) (c0_i32_570 : BitVec 32) : Fin 1 → Nat :=
  let c3_i32_569 : BitVec 32 := 3#32
  let c0_i32_518 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c117_i32 : BitVec 32 := 117#32
  let v2 : BitVec 32 := Scalar.muli v1 c117_i32
  let c0_i32_485 : BitVec 32 := 0#32
  let c0_i32_75 : BitVec 32 := 0#32
  let c1_i32_77 : BitVec 32 := 1#32
  let arg20 : BitVec 32 := Scf.iv c0_i32_75 c1_i32_77 k0_t1
  let c1_i32_484 : BitVec 32 := 1#32
  let v1031 : BitVec 32 := Scalar.muli arg20 c1_i32_484
  let v1032 : BitVec 32 := Scalar.addi c0_i32_485 v1031
  let v1033 : BitVec 32 := Scalar.addi v2 v1032
  let c0_i32_511 : BitVec 32 := 0#32
  let v1081 : BitVec 1 := Scalar.cmpi .sgt v1033 c0_i32_511
  let v1082 : BitVec 32 := Scalar.extui v1081
  let c0_i32_512 : BitVec 32 := 0#32
  let v1083 : BitVec 1 := Scalar.cmpi .slt v1033 c0_i32_512
  let v1084 : BitVec 32 := Scalar.extui v1083
  let v1085 : BitVec 32 := Scalar.subi v1082 v1084
  let c48_i32_510 : BitVec 32 := 48#32
  let c0_i32_513 : BitVec 32 := 0#32
  let v1086 : BitVec 1 := Scalar.cmpi .sgt c48_i32_510 c0_i32_513
  let v1087 : BitVec 32 := Scalar.extui v1086
  let c0_i32_514 : BitVec 32 := 0#32
  let v1088 : BitVec 1 := Scalar.cmpi .slt c48_i32_510 c0_i32_514
  let v1089 : BitVec 32 := Scalar.extui v1088
  let v1090 : BitVec 32 := Scalar.subi v1087 v1089
  let v1091 : BitVec 1 := Scalar.cmpi .ne v1085 v1090
  let v1092 : BitVec 32 := Scalar.remsi v1033 c48_i32_510
  let c0_i32_515 : BitVec 32 := 0#32
  let v1093 : BitVec 1 := Scalar.cmpi .ne v1092 c0_i32_515
  let v1094 : BitVec 1 := Scalar.andi v1091 v1093
  let v1080 : BitVec 32 := Scalar.divsi v1033 c48_i32_510
  let c1_i32_516 : BitVec 32 := 1#32
  let v1095 : BitVec 32 := Scalar.subi v1080 c1_i32_516
  let v1096 : BitVec 32 := Scalar.select v1094 v1095 v1080
  let c12_i32_517 : BitVec 32 := 12#32
  let v1097 : BitVec 1 := Scalar.cmpi .sge v1096 c12_i32_517
  let v1098 : BitVec 32 := Scalar.extui v1097
  let v1099 : BitVec 32 := Scalar.addi c0_i32_518 v1098
  let c23_i32_519 : BitVec 32 := 23#32
  let v1100 : BitVec 1 := Scalar.cmpi .sge v1096 c23_i32_519
  let v1101 : BitVec 32 := Scalar.extui v1100
  let v1102 : BitVec 32 := Scalar.addi v1099 v1101
  let c33_i32_520 : BitVec 32 := 33#32
  let v1103 : BitVec 1 := Scalar.cmpi .sge v1096 c33_i32_520
  let v1104 : BitVec 32 := Scalar.extui v1103
  let v1105 : BitVec 32 := Scalar.addi v1102 v1104
  let c42_i32_521 : BitVec 32 := 42#32
  let v1106 : BitVec 1 := Scalar.cmpi .sge v1096 c42_i32_521
  let v1107 : BitVec 32 := Scalar.extui v1106
  let v1108 : BitVec 32 := Scalar.addi v1105 v1107
  let c50_i32_522 : BitVec 32 := 50#32
  let v1109 : BitVec 1 := Scalar.cmpi .sge v1096 c50_i32_522
  let v1110 : BitVec 32 := Scalar.extui v1109
  let v1111 : BitVec 32 := Scalar.addi v1108 v1110
  let c57_i32_523 : BitVec 32 := 57#32
  let v1112 : BitVec 1 := Scalar.cmpi .sge v1096 c57_i32_523
  let v1113 : BitVec 32 := Scalar.extui v1112
  let v1114 : BitVec 32 := Scalar.addi v1111 v1113
  let c63_i32_524 : BitVec 32 := 63#32
  let v1115 : BitVec 1 := Scalar.cmpi .sge v1096 c63_i32_524
  let v1116 : BitVec 32 := Scalar.extui v1115
  let v1117 : BitVec 32 := Scalar.addi v1114 v1116
  let c68_i32_525 : BitVec 32 := 68#32
  let v1118 : BitVec 1 := Scalar.cmpi .sge v1096 c68_i32_525
  let v1119 : BitVec 32 := Scalar.extui v1118
  let v1120 : BitVec 32 := Scalar.addi v1117 v1119
  let c72_i32_526 : BitVec 32 := 72#32
  let v1121 : BitVec 1 := Scalar.cmpi .sge v1096 c72_i32_526
  let v1122 : BitVec 32 := Scalar.extui v1121
  let v1123 : BitVec 32 := Scalar.addi v1120 v1122
  let c75_i32_527 : BitVec 32 := 75#32
  let v1124 : BitVec 1 := Scalar.cmpi .sge v1096 c75_i32_527
  let v1125 : BitVec 32 := Scalar.extui v1124
  let v1126 : BitVec 32 := Scalar.addi v1123 v1125
  let c77_i32_528 : BitVec 32 := 77#32
  let v1127 : BitVec 1 := Scalar.cmpi .sge v1096 c77_i32_528
  let v1128 : BitVec 32 := Scalar.extui v1127
  let v1129 : BitVec 32 := Scalar.addi v1126 v1128
  let c1_i32_529 : BitVec 32 := 1#32
  let v1130 : BitVec 32 := Scalar.addi v1129 c1_i32_529
  let v1131 : BitVec 32 := Scalar.addi v1130 v1096
  let c12_i32_530 : BitVec 32 := 12#32
  let v1132 : BitVec 32 := Scalar.muli c12_i32_530 v1129
  let c1_i32_531 : BitVec 32 := 1#32
  let v1133 : BitVec 32 := Scalar.subi v1129 c1_i32_531
  let v1134 : BitVec 32 := Scalar.muli v1129 v1133
  let c0_i32_533 : BitVec 32 := 0#32
  let v1136 : BitVec 1 := Scalar.cmpi .sgt v1134 c0_i32_533
  let v1137 : BitVec 32 := Scalar.extui v1136
  let c0_i32_534 : BitVec 32 := 0#32
  let v1138 : BitVec 1 := Scalar.cmpi .slt v1134 c0_i32_534
  let v1139 : BitVec 32 := Scalar.extui v1138
  let v1140 : BitVec 32 := Scalar.subi v1137 v1139
  let c2_i32_532 : BitVec 32 := 2#32
  let c0_i32_535 : BitVec 32 := 0#32
  let v1141 : BitVec 1 := Scalar.cmpi .sgt c2_i32_532 c0_i32_535
  let v1142 : BitVec 32 := Scalar.extui v1141
  let c0_i32_536 : BitVec 32 := 0#32
  let v1143 : BitVec 1 := Scalar.cmpi .slt c2_i32_532 c0_i32_536
  let v1144 : BitVec 32 := Scalar.extui v1143
  let v1145 : BitVec 32 := Scalar.subi v1142 v1144
  let v1146 : BitVec 1 := Scalar.cmpi .ne v1140 v1145
  let v1147 : BitVec 32 := Scalar.remsi v1134 c2_i32_532
  let c0_i32_537 : BitVec 32 := 0#32
  let v1148 : BitVec 1 := Scalar.cmpi .ne v1147 c0_i32_537
  let v1149 : BitVec 1 := Scalar.andi v1146 v1148
  let v1135 : BitVec 32 := Scalar.divsi v1134 c2_i32_532
  let c1_i32_538 : BitVec 32 := 1#32
  let v1150 : BitVec 32 := Scalar.subi v1135 c1_i32_538
  let v1151 : BitVec 32 := Scalar.select v1149 v1150 v1135
  let v1152 : BitVec 32 := Scalar.subi v1132 v1151
  let v1153 : BitVec 32 := Scalar.subi v1131 v1152
  let v1191 : BitVec 32 := Scalar.muli c3_i32_569 v1153
  let v1192 : BitVec 32 := Scalar.addi v1191 c0_i32_570
  let c49152_i32_571 : BitVec 32 := 49152#32
  let v1193 : BitVec 32 := Scalar.muli v1192 c49152_i32_571
  let c48_i32_539 : BitVec 32 := 48#32
  let c0_i32_540 : BitVec 32 := 0#32
  let v1154 : BitVec 1 := Scalar.cmpi .eq c48_i32_539 c0_i32_540
  let c1_i32_541 : BitVec 32 := 1#32
  let v1155 : BitVec 32 := Scalar.select v1154 c1_i32_541 c48_i32_539
  let v1156 : BitVec 32 := Scalar.remsi v1033 v1155
  let c0_i32_543 : BitVec 32 := 0#32
  let v1158 : BitVec 1 := Scalar.cmpi .slt v1156 c0_i32_543
  let c0_i32_544 : BitVec 32 := 0#32
  let v1159 : BitVec 1 := Scalar.cmpi .slt v1155 c0_i32_544
  let v1160 : BitVec 1 := Scalar.xori v1158 v1159
  let c0_i32_542 : BitVec 32 := 0#32
  let v1157 : BitVec 1 := Scalar.cmpi .ne v1156 c0_i32_542
  let v1161 : BitVec 1 := Scalar.andi v1160 v1157
  let v1162 : BitVec 32 := Scalar.addi v1156 v1155
  let v1163 : BitVec 32 := Scalar.select v1161 v1162 v1156
  let c1024_i32_572 : BitVec 32 := 1024#32
  let v1194 : BitVec 32 := Scalar.muli v1163 c1024_i32_572
  let v1195 : BitVec 32 := Scalar.addi v1193 v1194
  ![v1195.toNat]
def k0_cond3 (k0_t1 : Fin k0_t1_loop.trips) : BitVec 1 :=
  let c0_i32_485 : BitVec 32 := 0#32
  let c0_i32_75 : BitVec 32 := 0#32
  let c1_i32_77 : BitVec 32 := 1#32
  let arg20 : BitVec 32 := Scf.iv c0_i32_75 c1_i32_77 k0_t1
  let c1_i32_484 : BitVec 32 := 1#32
  let v1031 : BitVec 32 := Scalar.muli arg20 c1_i32_484
  let v1032 : BitVec 32 := Scalar.addi c0_i32_485 v1031
  let c2_i32_591 : BitVec 32 := 2#32
  let v1290 : BitVec 1 := Scalar.cmpi .sge v1032 c2_i32_591
  let v1291 : BitVec 32 := Scalar.extui v1290
  let c0_i32_592 : BitVec 32 := 0#32
  let v1292 : BitVec 1 := Scalar.cmpi .ne v1291 c0_i32_592
  v1292

def k0_off13 (k0_t1 : Fin k0_t1_loop.trips) (c0_i32_873 : BitVec 32) (c0_i32_874 : BitVec 32) : Fin 1 → Nat :=
  let c0_i32_485 : BitVec 32 := 0#32
  let c0_i32_75 : BitVec 32 := 0#32
  let c1_i32_77 : BitVec 32 := 1#32
  let arg20 : BitVec 32 := Scf.iv c0_i32_75 c1_i32_77 k0_t1
  let c1_i32_484 : BitVec 32 := 1#32
  let v1031 : BitVec 32 := Scalar.muli arg20 c1_i32_484
  let v1032 : BitVec 32 := Scalar.addi c0_i32_485 v1031
  let c2_i32_486 : BitVec 32 := 2#32
  let c0_i32_487 : BitVec 32 := 0#32
  let v1034 : BitVec 1 := Scalar.cmpi .eq c2_i32_486 c0_i32_487
  let c1_i32_488 : BitVec 32 := 1#32
  let v1035 : BitVec 32 := Scalar.select v1034 c1_i32_488 c2_i32_486
  let v1036 : BitVec 32 := Scalar.remsi v1032 v1035
  let c0_i32_490 : BitVec 32 := 0#32
  let v1038 : BitVec 1 := Scalar.cmpi .slt v1036 c0_i32_490
  let c0_i32_491 : BitVec 32 := 0#32
  let v1039 : BitVec 1 := Scalar.cmpi .slt v1035 c0_i32_491
  let v1040 : BitVec 1 := Scalar.xori v1038 v1039
  let c0_i32_489 : BitVec 32 := 0#32
  let v1037 : BitVec 1 := Scalar.cmpi .ne v1036 c0_i32_489
  let v1041 : BitVec 1 := Scalar.andi v1040 v1037
  let v1042 : BitVec 32 := Scalar.addi v1036 v1035
  let v1043 : BitVec 32 := Scalar.select v1041 v1042 v1036
  let c3_i32_871 : BitVec 32 := 3#32
  let v1871 : BitVec 32 := Scalar.muli v1043 c3_i32_871
  let c3_i32_872 : BitVec 32 := 3#32
  let v1872 : BitVec 32 := Scalar.muli v1871 c3_i32_872
  let v1873 : BitVec 32 := Scalar.addi v1872 c0_i32_873
  let v1874 : BitVec 32 := Scalar.addi v1873 c0_i32_874
  let c1024_i32_875 : BitVec 32 := 1024#32
  let v1875 : BitVec 32 := Scalar.muli v1874 c1024_i32_875
  ![v1875.toNat]
def k0_off14 (i : grid0.Coords) (k0_t1 : Fin k0_t1_loop.trips) (c0_i32_858 : BitVec 32) (c0_i32_860 : BitVec 32) : Fin 1 → Nat :=
  let c38_i32_861 : BitVec 32 := 38#32
  let c3_i32_857 : BitVec 32 := 3#32
  let c0_i32_830 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c117_i32 : BitVec 32 := 117#32
  let v2 : BitVec 32 := Scalar.muli v1 c117_i32
  let c0_i32_485 : BitVec 32 := 0#32
  let c0_i32_75 : BitVec 32 := 0#32
  let c1_i32_77 : BitVec 32 := 1#32
  let arg20 : BitVec 32 := Scf.iv c0_i32_75 c1_i32_77 k0_t1
  let c1_i32_484 : BitVec 32 := 1#32
  let v1031 : BitVec 32 := Scalar.muli arg20 c1_i32_484
  let v1032 : BitVec 32 := Scalar.addi c0_i32_485 v1031
  let v1033 : BitVec 32 := Scalar.addi v2 v1032
  let c2_i32_821 : BitVec 32 := 2#32
  let v1758 : BitVec 32 := Scalar.subi v1033 c2_i32_821
  let c0_i32_823 : BitVec 32 := 0#32
  let v1760 : BitVec 1 := Scalar.cmpi .sgt v1758 c0_i32_823
  let v1761 : BitVec 32 := Scalar.extui v1760
  let c0_i32_824 : BitVec 32 := 0#32
  let v1762 : BitVec 1 := Scalar.cmpi .slt v1758 c0_i32_824
  let v1763 : BitVec 32 := Scalar.extui v1762
  let v1764 : BitVec 32 := Scalar.subi v1761 v1763
  let c48_i32_822 : BitVec 32 := 48#32
  let c0_i32_825 : BitVec 32 := 0#32
  let v1765 : BitVec 1 := Scalar.cmpi .sgt c48_i32_822 c0_i32_825
  let v1766 : BitVec 32 := Scalar.extui v1765
  let c0_i32_826 : BitVec 32 := 0#32
  let v1767 : BitVec 1 := Scalar.cmpi .slt c48_i32_822 c0_i32_826
  let v1768 : BitVec 32 := Scalar.extui v1767
  let v1769 : BitVec 32 := Scalar.subi v1766 v1768
  let v1770 : BitVec 1 := Scalar.cmpi .ne v1764 v1769
  let v1771 : BitVec 32 := Scalar.remsi v1758 c48_i32_822
  let c0_i32_827 : BitVec 32 := 0#32
  let v1772 : BitVec 1 := Scalar.cmpi .ne v1771 c0_i32_827
  let v1773 : BitVec 1 := Scalar.andi v1770 v1772
  let v1759 : BitVec 32 := Scalar.divsi v1758 c48_i32_822
  let c1_i32_828 : BitVec 32 := 1#32
  let v1774 : BitVec 32 := Scalar.subi v1759 c1_i32_828
  let v1775 : BitVec 32 := Scalar.select v1773 v1774 v1759
  let c12_i32_829 : BitVec 32 := 12#32
  let v1776 : BitVec 1 := Scalar.cmpi .sge v1775 c12_i32_829
  let v1777 : BitVec 32 := Scalar.extui v1776
  let v1778 : BitVec 32 := Scalar.addi c0_i32_830 v1777
  let c23_i32_831 : BitVec 32 := 23#32
  let v1779 : BitVec 1 := Scalar.cmpi .sge v1775 c23_i32_831
  let v1780 : BitVec 32 := Scalar.extui v1779
  let v1781 : BitVec 32 := Scalar.addi v1778 v1780
  let c33_i32_832 : BitVec 32 := 33#32
  let v1782 : BitVec 1 := Scalar.cmpi .sge v1775 c33_i32_832
  let v1783 : BitVec 32 := Scalar.extui v1782
  let v1784 : BitVec 32 := Scalar.addi v1781 v1783
  let c42_i32_833 : BitVec 32 := 42#32
  let v1785 : BitVec 1 := Scalar.cmpi .sge v1775 c42_i32_833
  let v1786 : BitVec 32 := Scalar.extui v1785
  let v1787 : BitVec 32 := Scalar.addi v1784 v1786
  let c50_i32_834 : BitVec 32 := 50#32
  let v1788 : BitVec 1 := Scalar.cmpi .sge v1775 c50_i32_834
  let v1789 : BitVec 32 := Scalar.extui v1788
  let v1790 : BitVec 32 := Scalar.addi v1787 v1789
  let c57_i32_835 : BitVec 32 := 57#32
  let v1791 : BitVec 1 := Scalar.cmpi .sge v1775 c57_i32_835
  let v1792 : BitVec 32 := Scalar.extui v1791
  let v1793 : BitVec 32 := Scalar.addi v1790 v1792
  let c63_i32_836 : BitVec 32 := 63#32
  let v1794 : BitVec 1 := Scalar.cmpi .sge v1775 c63_i32_836
  let v1795 : BitVec 32 := Scalar.extui v1794
  let v1796 : BitVec 32 := Scalar.addi v1793 v1795
  let c68_i32_837 : BitVec 32 := 68#32
  let v1797 : BitVec 1 := Scalar.cmpi .sge v1775 c68_i32_837
  let v1798 : BitVec 32 := Scalar.extui v1797
  let v1799 : BitVec 32 := Scalar.addi v1796 v1798
  let c72_i32_838 : BitVec 32 := 72#32
  let v1800 : BitVec 1 := Scalar.cmpi .sge v1775 c72_i32_838
  let v1801 : BitVec 32 := Scalar.extui v1800
  let v1802 : BitVec 32 := Scalar.addi v1799 v1801
  let c75_i32_839 : BitVec 32 := 75#32
  let v1803 : BitVec 1 := Scalar.cmpi .sge v1775 c75_i32_839
  let v1804 : BitVec 32 := Scalar.extui v1803
  let v1805 : BitVec 32 := Scalar.addi v1802 v1804
  let c77_i32_840 : BitVec 32 := 77#32
  let v1806 : BitVec 1 := Scalar.cmpi .sge v1775 c77_i32_840
  let v1807 : BitVec 32 := Scalar.extui v1806
  let v1808 : BitVec 32 := Scalar.addi v1805 v1807
  let v1843 : BitVec 32 := Scalar.muli c3_i32_857 v1808
  let v1844 : BitVec 32 := Scalar.addi v1843 c0_i32_858
  let v1847 : BitVec 32 := Scalar.muli c38_i32_861 v1844
  let c1_i32_862 : BitVec 32 := 1#32
  let v1848 : BitVec 32 := Scalar.subi v1844 c1_i32_862
  let v1849 : BitVec 32 := Scalar.muli v1844 v1848
  let c0_i32_864 : BitVec 32 := 0#32
  let v1851 : BitVec 1 := Scalar.cmpi .sgt v1849 c0_i32_864
  let v1852 : BitVec 32 := Scalar.extui v1851
  let c0_i32_865 : BitVec 32 := 0#32
  let v1853 : BitVec 1 := Scalar.cmpi .slt v1849 c0_i32_865
  let v1854 : BitVec 32 := Scalar.extui v1853
  let v1855 : BitVec 32 := Scalar.subi v1852 v1854
  let c2_i32_863 : BitVec 32 := 2#32
  let c0_i32_866 : BitVec 32 := 0#32
  let v1856 : BitVec 1 := Scalar.cmpi .sgt c2_i32_863 c0_i32_866
  let v1857 : BitVec 32 := Scalar.extui v1856
  let c0_i32_867 : BitVec 32 := 0#32
  let v1858 : BitVec 1 := Scalar.cmpi .slt c2_i32_863 c0_i32_867
  let v1859 : BitVec 32 := Scalar.extui v1858
  let v1860 : BitVec 32 := Scalar.subi v1857 v1859
  let v1861 : BitVec 1 := Scalar.cmpi .ne v1855 v1860
  let v1862 : BitVec 32 := Scalar.remsi v1849 c2_i32_863
  let c0_i32_868 : BitVec 32 := 0#32
  let v1863 : BitVec 1 := Scalar.cmpi .ne v1862 c0_i32_868
  let v1864 : BitVec 1 := Scalar.andi v1861 v1863
  let v1850 : BitVec 32 := Scalar.divsi v1849 c2_i32_863
  let c1_i32_869 : BitVec 32 := 1#32
  let v1865 : BitVec 32 := Scalar.subi v1850 c1_i32_869
  let v1866 : BitVec 32 := Scalar.select v1864 v1865 v1850
  let v1867 : BitVec 32 := Scalar.subi v1847 v1866
  let c3_i32_859 : BitVec 32 := 3#32
  let c1_i32_841 : BitVec 32 := 1#32
  let v1809 : BitVec 32 := Scalar.addi v1808 c1_i32_841
  let v1810 : BitVec 32 := Scalar.addi v1809 v1775
  let c12_i32_842 : BitVec 32 := 12#32
  let v1811 : BitVec 32 := Scalar.muli c12_i32_842 v1808
  let c1_i32_843 : BitVec 32 := 1#32
  let v1812 : BitVec 32 := Scalar.subi v1808 c1_i32_843
  let v1813 : BitVec 32 := Scalar.muli v1808 v1812
  let c0_i32_845 : BitVec 32 := 0#32
  let v1815 : BitVec 1 := Scalar.cmpi .sgt v1813 c0_i32_845
  let v1816 : BitVec 32 := Scalar.extui v1815
  let c0_i32_846 : BitVec 32 := 0#32
  let v1817 : BitVec 1 := Scalar.cmpi .slt v1813 c0_i32_846
  let v1818 : BitVec 32 := Scalar.extui v1817
  let v1819 : BitVec 32 := Scalar.subi v1816 v1818
  let c2_i32_844 : BitVec 32 := 2#32
  let c0_i32_847 : BitVec 32 := 0#32
  let v1820 : BitVec 1 := Scalar.cmpi .sgt c2_i32_844 c0_i32_847
  let v1821 : BitVec 32 := Scalar.extui v1820
  let c0_i32_848 : BitVec 32 := 0#32
  let v1822 : BitVec 1 := Scalar.cmpi .slt c2_i32_844 c0_i32_848
  let v1823 : BitVec 32 := Scalar.extui v1822
  let v1824 : BitVec 32 := Scalar.subi v1821 v1823
  let v1825 : BitVec 1 := Scalar.cmpi .ne v1819 v1824
  let v1826 : BitVec 32 := Scalar.remsi v1813 c2_i32_844
  let c0_i32_849 : BitVec 32 := 0#32
  let v1827 : BitVec 1 := Scalar.cmpi .ne v1826 c0_i32_849
  let v1828 : BitVec 1 := Scalar.andi v1825 v1827
  let v1814 : BitVec 32 := Scalar.divsi v1813 c2_i32_844
  let c1_i32_850 : BitVec 32 := 1#32
  let v1829 : BitVec 32 := Scalar.subi v1814 c1_i32_850
  let v1830 : BitVec 32 := Scalar.select v1828 v1829 v1814
  let v1831 : BitVec 32 := Scalar.subi v1811 v1830
  let v1832 : BitVec 32 := Scalar.subi v1810 v1831
  let v1845 : BitVec 32 := Scalar.muli c3_i32_859 v1832
  let v1846 : BitVec 32 := Scalar.addi v1845 c0_i32_860
  let v1868 : BitVec 32 := Scalar.addi v1867 v1846
  let v1869 : BitVec 32 := Scalar.subi v1868 v1844
  let c1_i32_870 : BitVec 32 := 1#32
  let v1870 : BitVec 32 := Scalar.subi v1869 c1_i32_870
  let c49152_i32_876 : BitVec 32 := 49152#32
  let v1876 : BitVec 32 := Scalar.muli v1870 c49152_i32_876
  let c48_i32_851 : BitVec 32 := 48#32
  let c0_i32_852 : BitVec 32 := 0#32
  let v1833 : BitVec 1 := Scalar.cmpi .eq c48_i32_851 c0_i32_852
  let c1_i32_853 : BitVec 32 := 1#32
  let v1834 : BitVec 32 := Scalar.select v1833 c1_i32_853 c48_i32_851
  let v1835 : BitVec 32 := Scalar.remsi v1758 v1834
  let c0_i32_855 : BitVec 32 := 0#32
  let v1837 : BitVec 1 := Scalar.cmpi .slt v1835 c0_i32_855
  let c0_i32_856 : BitVec 32 := 0#32
  let v1838 : BitVec 1 := Scalar.cmpi .slt v1834 c0_i32_856
  let v1839 : BitVec 1 := Scalar.xori v1837 v1838
  let c0_i32_854 : BitVec 32 := 0#32
  let v1836 : BitVec 1 := Scalar.cmpi .ne v1835 c0_i32_854
  let v1840 : BitVec 1 := Scalar.andi v1839 v1836
  let v1841 : BitVec 32 := Scalar.addi v1835 v1834
  let v1842 : BitVec 32 := Scalar.select v1840 v1841 v1835
  let c1024_i32_877 : BitVec 32 := 1024#32
  let v1877 : BitVec 32 := Scalar.muli v1842 c1024_i32_877
  let v1878 : BitVec 32 := Scalar.addi v1876 v1877
  ![v1878.toNat]
def k0_off15 (k0_t1 : Fin k0_t1_loop.trips) : Fin 1 → Nat :=
  let c0_i32_485 : BitVec 32 := 0#32
  let c0_i32_75 : BitVec 32 := 0#32
  let c1_i32_77 : BitVec 32 := 1#32
  let arg20 : BitVec 32 := Scf.iv c0_i32_75 c1_i32_77 k0_t1
  let c1_i32_484 : BitVec 32 := 1#32
  let v1031 : BitVec 32 := Scalar.muli arg20 c1_i32_484
  let v1032 : BitVec 32 := Scalar.addi c0_i32_485 v1031
  let c2_i32_486 : BitVec 32 := 2#32
  let c0_i32_487 : BitVec 32 := 0#32
  let v1034 : BitVec 1 := Scalar.cmpi .eq c2_i32_486 c0_i32_487
  let c1_i32_488 : BitVec 32 := 1#32
  let v1035 : BitVec 32 := Scalar.select v1034 c1_i32_488 c2_i32_486
  let v1036 : BitVec 32 := Scalar.remsi v1032 v1035
  let c0_i32_490 : BitVec 32 := 0#32
  let v1038 : BitVec 1 := Scalar.cmpi .slt v1036 c0_i32_490
  let c0_i32_491 : BitVec 32 := 0#32
  let v1039 : BitVec 1 := Scalar.cmpi .slt v1035 c0_i32_491
  let v1040 : BitVec 1 := Scalar.xori v1038 v1039
  let c0_i32_489 : BitVec 32 := 0#32
  let v1037 : BitVec 1 := Scalar.cmpi .ne v1036 c0_i32_489
  let v1041 : BitVec 1 := Scalar.andi v1040 v1037
  let v1042 : BitVec 32 := Scalar.addi v1036 v1035
  let v1043 : BitVec 32 := Scalar.select v1041 v1042 v1036
  ![v1043.toNat]
@[reducible] def k0_t2_loop : Scf.Loop 32 :=
  let c0_i32_595 : BitVec 32 := 0#32
  let c64_i32 : BitVec 32 := 64#32
  let v1295 : BitVec 32 := Scalar.addi c0_i32_595 c64_i32
  let c1_i32_596 : BitVec 32 := 1#32
  ⟨c0_i32_595, v1295, c1_i32_596⟩
def k0_off16 (k0_t1 : Fin k0_t1_loop.trips) (k0_t2 : Fin k0_t2_loop.trips) (c0_i32_822 : BitVec 32) : Fin 1 → Nat :=
  let c0_i32_485 : BitVec 32 := 0#32
  let c0_i32_75 : BitVec 32 := 0#32
  let c1_i32_77 : BitVec 32 := 1#32
  let arg20 : BitVec 32 := Scf.iv c0_i32_75 c1_i32_77 k0_t1
  let c1_i32_484 : BitVec 32 := 1#32
  let v1031 : BitVec 32 := Scalar.muli arg20 c1_i32_484
  let v1032 : BitVec 32 := Scalar.addi c0_i32_485 v1031
  let c2_i32_486 : BitVec 32 := 2#32
  let c0_i32_487 : BitVec 32 := 0#32
  let v1034 : BitVec 1 := Scalar.cmpi .eq c2_i32_486 c0_i32_487
  let c1_i32_488 : BitVec 32 := 1#32
  let v1035 : BitVec 32 := Scalar.select v1034 c1_i32_488 c2_i32_486
  let v1036 : BitVec 32 := Scalar.remsi v1032 v1035
  let c0_i32_490 : BitVec 32 := 0#32
  let v1038 : BitVec 1 := Scalar.cmpi .slt v1036 c0_i32_490
  let c0_i32_491 : BitVec 32 := 0#32
  let v1039 : BitVec 1 := Scalar.cmpi .slt v1035 c0_i32_491
  let v1040 : BitVec 1 := Scalar.xori v1038 v1039
  let c0_i32_489 : BitVec 32 := 0#32
  let v1037 : BitVec 1 := Scalar.cmpi .ne v1036 c0_i32_489
  let v1041 : BitVec 1 := Scalar.andi v1040 v1037
  let v1042 : BitVec 32 := Scalar.addi v1036 v1035
  let v1043 : BitVec 32 := Scalar.select v1041 v1042 v1036
  let c6144_i32_593 : BitVec 32 := 6144#32
  let v1293 : BitVec 32 := Scalar.muli v1043 c6144_i32_593
  let v1760 : BitVec 32 := Scalar.addi v1293 c0_i32_822
  let c0_i32_821 : BitVec 32 := 0#32
  let c0_i32_595 : BitVec 32 := 0#32
  let c1_i32_596 : BitVec 32 := 1#32
  let arg21 : BitVec 32 := Scf.iv c0_i32_595 c1_i32_596 k0_t2
  let c16_i32 : BitVec 32 := 16#32
  let v1758 : BitVec 32 := Scalar.muli arg21 c16_i32
  let v1759 : BitVec 32 := Scalar.addi c0_i32_821 v1758
  let v1761 : BitVec 32 := Scalar.addi v1760 v1759
  let v1762 : Index := Scalar.indexCast v1761
  ![v1762.toNat]
def k0_off17 (k0_t1 : Fin k0_t1_loop.trips) (k0_t2 : Fin k0_t2_loop.trips) : Fin 1 → Nat :=
  let c0_i32_485 : BitVec 32 := 0#32
  let c0_i32_75 : BitVec 32 := 0#32
  let c1_i32_77 : BitVec 32 := 1#32
  let arg20 : BitVec 32 := Scf.iv c0_i32_75 c1_i32_77 k0_t1
  let c1_i32_484 : BitVec 32 := 1#32
  let v1031 : BitVec 32 := Scalar.muli arg20 c1_i32_484
  let v1032 : BitVec 32 := Scalar.addi c0_i32_485 v1031
  let c2_i32_486 : BitVec 32 := 2#32
  let c0_i32_487 : BitVec 32 := 0#32
  let v1034 : BitVec 1 := Scalar.cmpi .eq c2_i32_486 c0_i32_487
  let c1_i32_488 : BitVec 32 := 1#32
  let v1035 : BitVec 32 := Scalar.select v1034 c1_i32_488 c2_i32_486
  let v1036 : BitVec 32 := Scalar.remsi v1032 v1035
  let c0_i32_490 : BitVec 32 := 0#32
  let v1038 : BitVec 1 := Scalar.cmpi .slt v1036 c0_i32_490
  let c0_i32_491 : BitVec 32 := 0#32
  let v1039 : BitVec 1 := Scalar.cmpi .slt v1035 c0_i32_491
  let v1040 : BitVec 1 := Scalar.xori v1038 v1039
  let c0_i32_489 : BitVec 32 := 0#32
  let v1037 : BitVec 1 := Scalar.cmpi .ne v1036 c0_i32_489
  let v1041 : BitVec 1 := Scalar.andi v1040 v1037
  let v1042 : BitVec 32 := Scalar.addi v1036 v1035
  let v1043 : BitVec 32 := Scalar.select v1041 v1042 v1036
  let c9216_i32_594 : BitVec 32 := 9216#32
  let v1294 : BitVec 32 := Scalar.muli v1043 c9216_i32_594
  let c0_i32_873 : BitVec 32 := 0#32
  let v1922 : BitVec 32 := Scalar.addi v1294 c0_i32_873
  let c0_i32_821 : BitVec 32 := 0#32
  let c0_i32_595 : BitVec 32 := 0#32
  let c1_i32_596 : BitVec 32 := 1#32
  let arg21 : BitVec 32 := Scf.iv c0_i32_595 c1_i32_596 k0_t2
  let c16_i32 : BitVec 32 := 16#32
  let v1758 : BitVec 32 := Scalar.muli arg21 c16_i32
  let v1759 : BitVec 32 := Scalar.addi c0_i32_821 v1758
  let v1923 : BitVec 32 := Scalar.addi v1922 v1759
  let v1924 : Index := Scalar.indexCast v1923
  ![v1924.toNat]
def k0_off18 (k0_t1 : Fin k0_t1_loop.trips) (k0_t2 : Fin k0_t2_loop.trips) : Fin 1 → Nat :=
  let c0_i32_485 : BitVec 32 := 0#32
  let c0_i32_75 : BitVec 32 := 0#32
  let c1_i32_77 : BitVec 32 := 1#32
  let arg20 : BitVec 32 := Scf.iv c0_i32_75 c1_i32_77 k0_t1
  let c1_i32_484 : BitVec 32 := 1#32
  let v1031 : BitVec 32 := Scalar.muli arg20 c1_i32_484
  let v1032 : BitVec 32 := Scalar.addi c0_i32_485 v1031
  let c2_i32_486 : BitVec 32 := 2#32
  let c0_i32_487 : BitVec 32 := 0#32
  let v1034 : BitVec 1 := Scalar.cmpi .eq c2_i32_486 c0_i32_487
  let c1_i32_488 : BitVec 32 := 1#32
  let v1035 : BitVec 32 := Scalar.select v1034 c1_i32_488 c2_i32_486
  let v1036 : BitVec 32 := Scalar.remsi v1032 v1035
  let c0_i32_490 : BitVec 32 := 0#32
  let v1038 : BitVec 1 := Scalar.cmpi .slt v1036 c0_i32_490
  let c0_i32_491 : BitVec 32 := 0#32
  let v1039 : BitVec 1 := Scalar.cmpi .slt v1035 c0_i32_491
  let v1040 : BitVec 1 := Scalar.xori v1038 v1039
  let c0_i32_489 : BitVec 32 := 0#32
  let v1037 : BitVec 1 := Scalar.cmpi .ne v1036 c0_i32_489
  let v1041 : BitVec 1 := Scalar.andi v1040 v1037
  let v1042 : BitVec 32 := Scalar.addi v1036 v1035
  let v1043 : BitVec 32 := Scalar.select v1041 v1042 v1036
  let c9216_i32_594 : BitVec 32 := 9216#32
  let v1294 : BitVec 32 := Scalar.muli v1043 c9216_i32_594
  let c1024_i32_914 : BitVec 32 := 1024#32
  let v2040 : BitVec 32 := Scalar.addi v1294 c1024_i32_914
  let c0_i32_821 : BitVec 32 := 0#32
  let c0_i32_595 : BitVec 32 := 0#32
  let c1_i32_596 : BitVec 32 := 1#32
  let arg21 : BitVec 32 := Scf.iv c0_i32_595 c1_i32_596 k0_t2
  let c16_i32 : BitVec 32 := 16#32
  let v1758 : BitVec 32 := Scalar.muli arg21 c16_i32
  let v1759 : BitVec 32 := Scalar.addi c0_i32_821 v1758
  let v2041 : BitVec 32 := Scalar.addi v2040 v1759
  let v2042 : Index := Scalar.indexCast v2041
  ![v2042.toNat]

def k0_chk1 (v1763 : IVec S16 32) : Prop :=
  (∀ a x, ((![v1763] : Fin 1 → IVec S16 32) a x).toNat < S1504.size a) ∧
  (∀ a x, ((![v1763] : Fin 1 → IVec S16 32) a x).toNat < S1504.size a) ∧
  (∀ a x, ((![v1763] : Fin 1 → IVec S16 32) a x).toNat < S1504.size a) ∧
  (∀ a x, ((![v1763] : Fin 1 → IVec S16 32) a x).toNat < S1504.size a) ∧
  (∀ a x, ((![v1763] : Fin 1 → IVec S16 32) a x).toNat < S1504.size a) ∧
  (∀ a x, ((![v1763] : Fin 1 → IVec S16 32) a x).toNat < S1504.size a) ∧
  (∀ a x, ((![v1763] : Fin 1 → IVec S16 32) a x).toNat < S1504.size a) ∧
  (∀ a x, ((![v1763] : Fin 1 → IVec S16 32) a x).toNat < S1504.size a) ∧
  (∀ a x, ((![v1763] : Fin 1 → IVec S16 32) a x).toNat < S1504.size a)
theorem k0_idx1_inb : ∀ (v1763 : IVec S16 32) (k0_hw1 : k0_chk1 v1763), ∀ a x, ((![v1763] : Fin 1 → IVec S16 32) a x).toNat < S1504.size a := fun v1763 k0_hw1 => k0_hw1.1
theorem k0_idx3_inb : ∀ (v1763 : IVec S16 32) (k0_hw1 : k0_chk1 v1763), ∀ a x, ((![v1763] : Fin 1 → IVec S16 32) a x).toNat < S1504.size a := fun v1763 k0_hw1 => k0_hw1.2.1
theorem k0_idx5_inb : ∀ (v1763 : IVec S16 32) (k0_hw1 : k0_chk1 v1763), ∀ a x, ((![v1763] : Fin 1 → IVec S16 32) a x).toNat < S1504.size a := fun v1763 k0_hw1 => k0_hw1.2.2.1
theorem k0_idx7_inb : ∀ (v1763 : IVec S16 32) (k0_hw1 : k0_chk1 v1763), ∀ a x, ((![v1763] : Fin 1 → IVec S16 32) a x).toNat < S1504.size a := fun v1763 k0_hw1 => k0_hw1.2.2.2.1
theorem k0_idx9_inb : ∀ (v1763 : IVec S16 32) (k0_hw1 : k0_chk1 v1763), ∀ a x, ((![v1763] : Fin 1 → IVec S16 32) a x).toNat < S1504.size a := fun v1763 k0_hw1 => k0_hw1.2.2.2.2.1
theorem k0_idx11_inb : ∀ (v1763 : IVec S16 32) (k0_hw1 : k0_chk1 v1763), ∀ a x, ((![v1763] : Fin 1 → IVec S16 32) a x).toNat < S1504.size a := fun v1763 k0_hw1 => k0_hw1.2.2.2.2.2.1
theorem k0_idx13_inb : ∀ (v1763 : IVec S16 32) (k0_hw1 : k0_chk1 v1763), ∀ a x, ((![v1763] : Fin 1 → IVec S16 32) a x).toNat < S1504.size a := fun v1763 k0_hw1 => k0_hw1.2.2.2.2.2.2.1
theorem k0_idx15_inb : ∀ (v1763 : IVec S16 32) (k0_hw1 : k0_chk1 v1763), ∀ a x, ((![v1763] : Fin 1 → IVec S16 32) a x).toNat < S1504.size a := fun v1763 k0_hw1 => k0_hw1.2.2.2.2.2.2.2.1
theorem k0_idx17_inb : ∀ (v1763 : IVec S16 32) (k0_hw1 : k0_chk1 v1763), ∀ a x, ((![v1763] : Fin 1 → IVec S16 32) a x).toNat < S1504.size a := fun v1763 k0_hw1 => k0_hw1.2.2.2.2.2.2.2.2
def k0_off19 (k0_t1 : Fin k0_t1_loop.trips) (k0_t2 : Fin k0_t2_loop.trips) : Fin 1 → Nat :=
  let c0_i32_485 : BitVec 32 := 0#32
  let c0_i32_75 : BitVec 32 := 0#32
  let c1_i32_77 : BitVec 32 := 1#32
  let arg20 : BitVec 32 := Scf.iv c0_i32_75 c1_i32_77 k0_t1
  let c1_i32_484 : BitVec 32 := 1#32
  let v1031 : BitVec 32 := Scalar.muli arg20 c1_i32_484
  let v1032 : BitVec 32 := Scalar.addi c0_i32_485 v1031
  let c2_i32_486 : BitVec 32 := 2#32
  let c0_i32_487 : BitVec 32 := 0#32
  let v1034 : BitVec 1 := Scalar.cmpi .eq c2_i32_486 c0_i32_487
  let c1_i32_488 : BitVec 32 := 1#32
  let v1035 : BitVec 32 := Scalar.select v1034 c1_i32_488 c2_i32_486
  let v1036 : BitVec 32 := Scalar.remsi v1032 v1035
  let c0_i32_490 : BitVec 32 := 0#32
  let v1038 : BitVec 1 := Scalar.cmpi .slt v1036 c0_i32_490
  let c0_i32_491 : BitVec 32 := 0#32
  let v1039 : BitVec 1 := Scalar.cmpi .slt v1035 c0_i32_491
  let v1040 : BitVec 1 := Scalar.xori v1038 v1039
  let c0_i32_489 : BitVec 32 := 0#32
  let v1037 : BitVec 1 := Scalar.cmpi .ne v1036 c0_i32_489
  let v1041 : BitVec 1 := Scalar.andi v1040 v1037
  let v1042 : BitVec 32 := Scalar.addi v1036 v1035
  let v1043 : BitVec 32 := Scalar.select v1041 v1042 v1036
  let c9216_i32_594 : BitVec 32 := 9216#32
  let v1294 : BitVec 32 := Scalar.muli v1043 c9216_i32_594
  let c2048_i32_955 : BitVec 32 := 2048#32
  let v2158 : BitVec 32 := Scalar.addi v1294 c2048_i32_955
  let c0_i32_821 : BitVec 32 := 0#32
  let c0_i32_595 : BitVec 32 := 0#32
  let c1_i32_596 : BitVec 32 := 1#32
  let arg21 : BitVec 32 := Scf.iv c0_i32_595 c1_i32_596 k0_t2
  let c16_i32 : BitVec 32 := 16#32
  let v1758 : BitVec 32 := Scalar.muli arg21 c16_i32
  let v1759 : BitVec 32 := Scalar.addi c0_i32_821 v1758
  let v2159 : BitVec 32 := Scalar.addi v2158 v1759
  let v2160 : Index := Scalar.indexCast v2159
  ![v2160.toNat]
def k0_off20 (k0_t1 : Fin k0_t1_loop.trips) (k0_t2 : Fin k0_t2_loop.trips) (c3072_i32_996 : BitVec 32) : Fin 1 → Nat :=
  let c0_i32_485 : BitVec 32 := 0#32
  let c0_i32_75 : BitVec 32 := 0#32
  let c1_i32_77 : BitVec 32 := 1#32
  let arg20 : BitVec 32 := Scf.iv c0_i32_75 c1_i32_77 k0_t1
  let c1_i32_484 : BitVec 32 := 1#32
  let v1031 : BitVec 32 := Scalar.muli arg20 c1_i32_484
  let v1032 : BitVec 32 := Scalar.addi c0_i32_485 v1031
  let c2_i32_486 : BitVec 32 := 2#32
  let c0_i32_487 : BitVec 32 := 0#32
  let v1034 : BitVec 1 := Scalar.cmpi .eq c2_i32_486 c0_i32_487
  let c1_i32_488 : BitVec 32 := 1#32
  let v1035 : BitVec 32 := Scalar.select v1034 c1_i32_488 c2_i32_486
  let v1036 : BitVec 32 := Scalar.remsi v1032 v1035
  let c0_i32_490 : BitVec 32 := 0#32
  let v1038 : BitVec 1 := Scalar.cmpi .slt v1036 c0_i32_490
  let c0_i32_491 : BitVec 32 := 0#32
  let v1039 : BitVec 1 := Scalar.cmpi .slt v1035 c0_i32_491
  let v1040 : BitVec 1 := Scalar.xori v1038 v1039
  let c0_i32_489 : BitVec 32 := 0#32
  let v1037 : BitVec 1 := Scalar.cmpi .ne v1036 c0_i32_489
  let v1041 : BitVec 1 := Scalar.andi v1040 v1037
  let v1042 : BitVec 32 := Scalar.addi v1036 v1035
  let v1043 : BitVec 32 := Scalar.select v1041 v1042 v1036
  let c9216_i32_594 : BitVec 32 := 9216#32
  let v1294 : BitVec 32 := Scalar.muli v1043 c9216_i32_594
  let v2276 : BitVec 32 := Scalar.addi v1294 c3072_i32_996
  let c0_i32_821 : BitVec 32 := 0#32
  let c0_i32_595 : BitVec 32 := 0#32
  let c1_i32_596 : BitVec 32 := 1#32
  let arg21 : BitVec 32 := Scf.iv c0_i32_595 c1_i32_596 k0_t2
  let c16_i32 : BitVec 32 := 16#32
  let v1758 : BitVec 32 := Scalar.muli arg21 c16_i32
  let v1759 : BitVec 32 := Scalar.addi c0_i32_821 v1758
  let v2277 : BitVec 32 := Scalar.addi v2276 v1759
  let v2278 : Index := Scalar.indexCast v2277
  ![v2278.toNat]

def k0_chk5 (v1767 : IVec S16 32) : Prop :=
  (∀ a x, ((![v1767] : Fin 1 → IVec S16 32) a x).toNat < S1504.size a) ∧
  (∀ a x, ((![v1767] : Fin 1 → IVec S16 32) a x).toNat < S1504.size a) ∧
  (∀ a x, ((![v1767] : Fin 1 → IVec S16 32) a x).toNat < S1504.size a) ∧
  (∀ a x, ((![v1767] : Fin 1 → IVec S16 32) a x).toNat < S1504.size a) ∧
  (∀ a x, ((![v1767] : Fin 1 → IVec S16 32) a x).toNat < S1504.size a) ∧
  (∀ a x, ((![v1767] : Fin 1 → IVec S16 32) a x).toNat < S1504.size a) ∧
  (∀ a x, ((![v1767] : Fin 1 → IVec S16 32) a x).toNat < S1504.size a) ∧
  (∀ a x, ((![v1767] : Fin 1 → IVec S16 32) a x).toNat < S1504.size a) ∧
  (∀ a x, ((![v1767] : Fin 1 → IVec S16 32) a x).toNat < S1504.size a)
theorem k0_idx19_inb : ∀ (v1767 : IVec S16 32) (k0_hw5 : k0_chk5 v1767), ∀ a x, ((![v1767] : Fin 1 → IVec S16 32) a x).toNat < S1504.size a := fun v1767 k0_hw5 => k0_hw5.1
theorem k0_idx21_inb : ∀ (v1767 : IVec S16 32) (k0_hw5 : k0_chk5 v1767), ∀ a x, ((![v1767] : Fin 1 → IVec S16 32) a x).toNat < S1504.size a := fun v1767 k0_hw5 => k0_hw5.2.1
theorem k0_idx23_inb : ∀ (v1767 : IVec S16 32) (k0_hw5 : k0_chk5 v1767), ∀ a x, ((![v1767] : Fin 1 → IVec S16 32) a x).toNat < S1504.size a := fun v1767 k0_hw5 => k0_hw5.2.2.1
theorem k0_idx25_inb : ∀ (v1767 : IVec S16 32) (k0_hw5 : k0_chk5 v1767), ∀ a x, ((![v1767] : Fin 1 → IVec S16 32) a x).toNat < S1504.size a := fun v1767 k0_hw5 => k0_hw5.2.2.2.1
theorem k0_idx27_inb : ∀ (v1767 : IVec S16 32) (k0_hw5 : k0_chk5 v1767), ∀ a x, ((![v1767] : Fin 1 → IVec S16 32) a x).toNat < S1504.size a := fun v1767 k0_hw5 => k0_hw5.2.2.2.2.1
theorem k0_idx29_inb : ∀ (v1767 : IVec S16 32) (k0_hw5 : k0_chk5 v1767), ∀ a x, ((![v1767] : Fin 1 → IVec S16 32) a x).toNat < S1504.size a := fun v1767 k0_hw5 => k0_hw5.2.2.2.2.2.1
theorem k0_idx31_inb : ∀ (v1767 : IVec S16 32) (k0_hw5 : k0_chk5 v1767), ∀ a x, ((![v1767] : Fin 1 → IVec S16 32) a x).toNat < S1504.size a := fun v1767 k0_hw5 => k0_hw5.2.2.2.2.2.2.1
theorem k0_idx33_inb : ∀ (v1767 : IVec S16 32) (k0_hw5 : k0_chk5 v1767), ∀ a x, ((![v1767] : Fin 1 → IVec S16 32) a x).toNat < S1504.size a := fun v1767 k0_hw5 => k0_hw5.2.2.2.2.2.2.2.1
theorem k0_idx35_inb : ∀ (v1767 : IVec S16 32) (k0_hw5 : k0_chk5 v1767), ∀ a x, ((![v1767] : Fin 1 → IVec S16 32) a x).toNat < S1504.size a := fun v1767 k0_hw5 => k0_hw5.2.2.2.2.2.2.2.2

def k0_chk2 (v1775 : IVec S16 32) : Prop :=
  (∀ a x, ((![v1775] : Fin 1 → IVec S16 32) a x).toNat < S1504.size a) ∧
  (∀ a x, ((![v1775] : Fin 1 → IVec S16 32) a x).toNat < S1504.size a) ∧
  (∀ a x, ((![v1775] : Fin 1 → IVec S16 32) a x).toNat < S1504.size a) ∧
  (∀ a x, ((![v1775] : Fin 1 → IVec S16 32) a x).toNat < S1504.size a) ∧
  (∀ a x, ((![v1775] : Fin 1 → IVec S16 32) a x).toNat < S1504.size a) ∧
  (∀ a x, ((![v1775] : Fin 1 → IVec S16 32) a x).toNat < S1504.size a) ∧
  (∀ a x, ((![v1775] : Fin 1 → IVec S16 32) a x).toNat < S1504.size a) ∧
  (∀ a x, ((![v1775] : Fin 1 → IVec S16 32) a x).toNat < S1504.size a) ∧
  (∀ a x, ((![v1775] : Fin 1 → IVec S16 32) a x).toNat < S1504.size a)
theorem k0_idx2_inb : ∀ (v1775 : IVec S16 32) (k0_hw2 : k0_chk2 v1775), ∀ a x, ((![v1775] : Fin 1 → IVec S16 32) a x).toNat < S1504.size a := fun v1775 k0_hw2 => k0_hw2.1
theorem k0_idx4_inb : ∀ (v1775 : IVec S16 32) (k0_hw2 : k0_chk2 v1775), ∀ a x, ((![v1775] : Fin 1 → IVec S16 32) a x).toNat < S1504.size a := fun v1775 k0_hw2 => k0_hw2.2.1
theorem k0_idx6_inb : ∀ (v1775 : IVec S16 32) (k0_hw2 : k0_chk2 v1775), ∀ a x, ((![v1775] : Fin 1 → IVec S16 32) a x).toNat < S1504.size a := fun v1775 k0_hw2 => k0_hw2.2.2.1
theorem k0_idx20_inb : ∀ (v1775 : IVec S16 32) (k0_hw2 : k0_chk2 v1775), ∀ a x, ((![v1775] : Fin 1 → IVec S16 32) a x).toNat < S1504.size a := fun v1775 k0_hw2 => k0_hw2.2.2.2.1
theorem k0_idx22_inb : ∀ (v1775 : IVec S16 32) (k0_hw2 : k0_chk2 v1775), ∀ a x, ((![v1775] : Fin 1 → IVec S16 32) a x).toNat < S1504.size a := fun v1775 k0_hw2 => k0_hw2.2.2.2.2.1
theorem k0_idx24_inb : ∀ (v1775 : IVec S16 32) (k0_hw2 : k0_chk2 v1775), ∀ a x, ((![v1775] : Fin 1 → IVec S16 32) a x).toNat < S1504.size a := fun v1775 k0_hw2 => k0_hw2.2.2.2.2.2.1
theorem k0_idx38_inb : ∀ (v1775 : IVec S16 32) (k0_hw2 : k0_chk2 v1775), ∀ a x, ((![v1775] : Fin 1 → IVec S16 32) a x).toNat < S1504.size a := fun v1775 k0_hw2 => k0_hw2.2.2.2.2.2.2.1
theorem k0_idx40_inb : ∀ (v1775 : IVec S16 32) (k0_hw2 : k0_chk2 v1775), ∀ a x, ((![v1775] : Fin 1 → IVec S16 32) a x).toNat < S1504.size a := fun v1775 k0_hw2 => k0_hw2.2.2.2.2.2.2.2.1
theorem k0_idx42_inb : ∀ (v1775 : IVec S16 32) (k0_hw2 : k0_chk2 v1775), ∀ a x, ((![v1775] : Fin 1 → IVec S16 32) a x).toNat < S1504.size a := fun v1775 k0_hw2 => k0_hw2.2.2.2.2.2.2.2.2
def k0_off21 (k0_t1 : Fin k0_t1_loop.trips) (k0_t2 : Fin k0_t2_loop.trips) (c6144_i32_1119 : BitVec 32) : Fin 1 → Nat :=
  let c0_i32_485 : BitVec 32 := 0#32
  let c0_i32_75 : BitVec 32 := 0#32
  let c1_i32_77 : BitVec 32 := 1#32
  let arg20 : BitVec 32 := Scf.iv c0_i32_75 c1_i32_77 k0_t1
  let c1_i32_484 : BitVec 32 := 1#32
  let v1031 : BitVec 32 := Scalar.muli arg20 c1_i32_484
  let v1032 : BitVec 32 := Scalar.addi c0_i32_485 v1031
  let c2_i32_486 : BitVec 32 := 2#32
  let c0_i32_487 : BitVec 32 := 0#32
  let v1034 : BitVec 1 := Scalar.cmpi .eq c2_i32_486 c0_i32_487
  let c1_i32_488 : BitVec 32 := 1#32
  let v1035 : BitVec 32 := Scalar.select v1034 c1_i32_488 c2_i32_486
  let v1036 : BitVec 32 := Scalar.remsi v1032 v1035
  let c0_i32_490 : BitVec 32 := 0#32
  let v1038 : BitVec 1 := Scalar.cmpi .slt v1036 c0_i32_490
  let c0_i32_491 : BitVec 32 := 0#32
  let v1039 : BitVec 1 := Scalar.cmpi .slt v1035 c0_i32_491
  let v1040 : BitVec 1 := Scalar.xori v1038 v1039
  let c0_i32_489 : BitVec 32 := 0#32
  let v1037 : BitVec 1 := Scalar.cmpi .ne v1036 c0_i32_489
  let v1041 : BitVec 1 := Scalar.andi v1040 v1037
  let v1042 : BitVec 32 := Scalar.addi v1036 v1035
  let v1043 : BitVec 32 := Scalar.select v1041 v1042 v1036
  let c9216_i32_594 : BitVec 32 := 9216#32
  let v1294 : BitVec 32 := Scalar.muli v1043 c9216_i32_594
  let v2630 : BitVec 32 := Scalar.addi v1294 c6144_i32_1119
  let c0_i32_821 : BitVec 32 := 0#32
  let c0_i32_595 : BitVec 32 := 0#32
  let c1_i32_596 : BitVec 32 := 1#32
  let arg21 : BitVec 32 := Scf.iv c0_i32_595 c1_i32_596 k0_t2
  let c16_i32 : BitVec 32 := 16#32
  let v1758 : BitVec 32 := Scalar.muli arg21 c16_i32
  let v1759 : BitVec 32 := Scalar.addi c0_i32_821 v1758
  let v2631 : BitVec 32 := Scalar.addi v2630 v1759
  let v2632 : Index := Scalar.indexCast v2631
  ![v2632.toNat]

def k0_chk3 (v1779 : IVec S16 32) : Prop :=
  (∀ a x, ((![v1779] : Fin 1 → IVec S16 32) a x).toNat < S1504.size a) ∧
  (∀ a x, ((![v1779] : Fin 1 → IVec S16 32) a x).toNat < S1504.size a) ∧
  (∀ a x, ((![v1779] : Fin 1 → IVec S16 32) a x).toNat < S1504.size a) ∧
  (∀ a x, ((![v1779] : Fin 1 → IVec S16 32) a x).toNat < S1504.size a) ∧
  (∀ a x, ((![v1779] : Fin 1 → IVec S16 32) a x).toNat < S1504.size a) ∧
  (∀ a x, ((![v1779] : Fin 1 → IVec S16 32) a x).toNat < S1504.size a) ∧
  (∀ a x, ((![v1779] : Fin 1 → IVec S16 32) a x).toNat < S1504.size a) ∧
  (∀ a x, ((![v1779] : Fin 1 → IVec S16 32) a x).toNat < S1504.size a) ∧
  (∀ a x, ((![v1779] : Fin 1 → IVec S16 32) a x).toNat < S1504.size a)
theorem k0_idx8_inb : ∀ (v1779 : IVec S16 32) (k0_hw3 : k0_chk3 v1779), ∀ a x, ((![v1779] : Fin 1 → IVec S16 32) a x).toNat < S1504.size a := fun v1779 k0_hw3 => k0_hw3.1
theorem k0_idx10_inb : ∀ (v1779 : IVec S16 32) (k0_hw3 : k0_chk3 v1779), ∀ a x, ((![v1779] : Fin 1 → IVec S16 32) a x).toNat < S1504.size a := fun v1779 k0_hw3 => k0_hw3.2.1
theorem k0_idx12_inb : ∀ (v1779 : IVec S16 32) (k0_hw3 : k0_chk3 v1779), ∀ a x, ((![v1779] : Fin 1 → IVec S16 32) a x).toNat < S1504.size a := fun v1779 k0_hw3 => k0_hw3.2.2.1
theorem k0_idx26_inb : ∀ (v1779 : IVec S16 32) (k0_hw3 : k0_chk3 v1779), ∀ a x, ((![v1779] : Fin 1 → IVec S16 32) a x).toNat < S1504.size a := fun v1779 k0_hw3 => k0_hw3.2.2.2.1
theorem k0_idx28_inb : ∀ (v1779 : IVec S16 32) (k0_hw3 : k0_chk3 v1779), ∀ a x, ((![v1779] : Fin 1 → IVec S16 32) a x).toNat < S1504.size a := fun v1779 k0_hw3 => k0_hw3.2.2.2.2.1
theorem k0_idx30_inb : ∀ (v1779 : IVec S16 32) (k0_hw3 : k0_chk3 v1779), ∀ a x, ((![v1779] : Fin 1 → IVec S16 32) a x).toNat < S1504.size a := fun v1779 k0_hw3 => k0_hw3.2.2.2.2.2.1
theorem k0_idx44_inb : ∀ (v1779 : IVec S16 32) (k0_hw3 : k0_chk3 v1779), ∀ a x, ((![v1779] : Fin 1 → IVec S16 32) a x).toNat < S1504.size a := fun v1779 k0_hw3 => k0_hw3.2.2.2.2.2.2.1
theorem k0_idx46_inb : ∀ (v1779 : IVec S16 32) (k0_hw3 : k0_chk3 v1779), ∀ a x, ((![v1779] : Fin 1 → IVec S16 32) a x).toNat < S1504.size a := fun v1779 k0_hw3 => k0_hw3.2.2.2.2.2.2.2.1
theorem k0_idx48_inb : ∀ (v1779 : IVec S16 32) (k0_hw3 : k0_chk3 v1779), ∀ a x, ((![v1779] : Fin 1 → IVec S16 32) a x).toNat < S1504.size a := fun v1779 k0_hw3 => k0_hw3.2.2.2.2.2.2.2.2

def k0_chk6 (v1771 : IVec S16 32) : Prop :=
  (∀ a x, ((![v1771] : Fin 1 → IVec S16 32) a x).toNat < S1504.size a) ∧
  (∀ a x, ((![v1771] : Fin 1 → IVec S16 32) a x).toNat < S1504.size a) ∧
  (∀ a x, ((![v1771] : Fin 1 → IVec S16 32) a x).toNat < S1504.size a) ∧
  (∀ a x, ((![v1771] : Fin 1 → IVec S16 32) a x).toNat < S1504.size a) ∧
  (∀ a x, ((![v1771] : Fin 1 → IVec S16 32) a x).toNat < S1504.size a) ∧
  (∀ a x, ((![v1771] : Fin 1 → IVec S16 32) a x).toNat < S1504.size a) ∧
  (∀ a x, ((![v1771] : Fin 1 → IVec S16 32) a x).toNat < S1504.size a) ∧
  (∀ a x, ((![v1771] : Fin 1 → IVec S16 32) a x).toNat < S1504.size a) ∧
  (∀ a x, ((![v1771] : Fin 1 → IVec S16 32) a x).toNat < S1504.size a)
theorem k0_idx37_inb : ∀ (v1771 : IVec S16 32) (k0_hw6 : k0_chk6 v1771), ∀ a x, ((![v1771] : Fin 1 → IVec S16 32) a x).toNat < S1504.size a := fun v1771 k0_hw6 => k0_hw6.1
theorem k0_idx39_inb : ∀ (v1771 : IVec S16 32) (k0_hw6 : k0_chk6 v1771), ∀ a x, ((![v1771] : Fin 1 → IVec S16 32) a x).toNat < S1504.size a := fun v1771 k0_hw6 => k0_hw6.2.1
theorem k0_idx41_inb : ∀ (v1771 : IVec S16 32) (k0_hw6 : k0_chk6 v1771), ∀ a x, ((![v1771] : Fin 1 → IVec S16 32) a x).toNat < S1504.size a := fun v1771 k0_hw6 => k0_hw6.2.2.1
theorem k0_idx43_inb : ∀ (v1771 : IVec S16 32) (k0_hw6 : k0_chk6 v1771), ∀ a x, ((![v1771] : Fin 1 → IVec S16 32) a x).toNat < S1504.size a := fun v1771 k0_hw6 => k0_hw6.2.2.2.1
theorem k0_idx45_inb : ∀ (v1771 : IVec S16 32) (k0_hw6 : k0_chk6 v1771), ∀ a x, ((![v1771] : Fin 1 → IVec S16 32) a x).toNat < S1504.size a := fun v1771 k0_hw6 => k0_hw6.2.2.2.2.1
theorem k0_idx47_inb : ∀ (v1771 : IVec S16 32) (k0_hw6 : k0_chk6 v1771), ∀ a x, ((![v1771] : Fin 1 → IVec S16 32) a x).toNat < S1504.size a := fun v1771 k0_hw6 => k0_hw6.2.2.2.2.2.1
theorem k0_idx49_inb : ∀ (v1771 : IVec S16 32) (k0_hw6 : k0_chk6 v1771), ∀ a x, ((![v1771] : Fin 1 → IVec S16 32) a x).toNat < S1504.size a := fun v1771 k0_hw6 => k0_hw6.2.2.2.2.2.2.1
theorem k0_idx51_inb : ∀ (v1771 : IVec S16 32) (k0_hw6 : k0_chk6 v1771), ∀ a x, ((![v1771] : Fin 1 → IVec S16 32) a x).toNat < S1504.size a := fun v1771 k0_hw6 => k0_hw6.2.2.2.2.2.2.2.1
theorem k0_idx53_inb : ∀ (v1771 : IVec S16 32) (k0_hw6 : k0_chk6 v1771), ∀ a x, ((![v1771] : Fin 1 → IVec S16 32) a x).toNat < S1504.size a := fun v1771 k0_hw6 => k0_hw6.2.2.2.2.2.2.2.2

def k0_chk4 (v1783 : IVec S16 32) : Prop :=
  (∀ a x, ((![v1783] : Fin 1 → IVec S16 32) a x).toNat < S1504.size a) ∧
  (∀ a x, ((![v1783] : Fin 1 → IVec S16 32) a x).toNat < S1504.size a) ∧
  (∀ a x, ((![v1783] : Fin 1 → IVec S16 32) a x).toNat < S1504.size a) ∧
  (∀ a x, ((![v1783] : Fin 1 → IVec S16 32) a x).toNat < S1504.size a) ∧
  (∀ a x, ((![v1783] : Fin 1 → IVec S16 32) a x).toNat < S1504.size a) ∧
  (∀ a x, ((![v1783] : Fin 1 → IVec S16 32) a x).toNat < S1504.size a) ∧
  (∀ a x, ((![v1783] : Fin 1 → IVec S16 32) a x).toNat < S1504.size a) ∧
  (∀ a x, ((![v1783] : Fin 1 → IVec S16 32) a x).toNat < S1504.size a) ∧
  (∀ a x, ((![v1783] : Fin 1 → IVec S16 32) a x).toNat < S1504.size a)
theorem k0_idx14_inb : ∀ (v1783 : IVec S16 32) (k0_hw4 : k0_chk4 v1783), ∀ a x, ((![v1783] : Fin 1 → IVec S16 32) a x).toNat < S1504.size a := fun v1783 k0_hw4 => k0_hw4.1
theorem k0_idx16_inb : ∀ (v1783 : IVec S16 32) (k0_hw4 : k0_chk4 v1783), ∀ a x, ((![v1783] : Fin 1 → IVec S16 32) a x).toNat < S1504.size a := fun v1783 k0_hw4 => k0_hw4.2.1
theorem k0_idx18_inb : ∀ (v1783 : IVec S16 32) (k0_hw4 : k0_chk4 v1783), ∀ a x, ((![v1783] : Fin 1 → IVec S16 32) a x).toNat < S1504.size a := fun v1783 k0_hw4 => k0_hw4.2.2.1
theorem k0_idx32_inb : ∀ (v1783 : IVec S16 32) (k0_hw4 : k0_chk4 v1783), ∀ a x, ((![v1783] : Fin 1 → IVec S16 32) a x).toNat < S1504.size a := fun v1783 k0_hw4 => k0_hw4.2.2.2.1
theorem k0_idx34_inb : ∀ (v1783 : IVec S16 32) (k0_hw4 : k0_chk4 v1783), ∀ a x, ((![v1783] : Fin 1 → IVec S16 32) a x).toNat < S1504.size a := fun v1783 k0_hw4 => k0_hw4.2.2.2.2.1
theorem k0_idx36_inb : ∀ (v1783 : IVec S16 32) (k0_hw4 : k0_chk4 v1783), ∀ a x, ((![v1783] : Fin 1 → IVec S16 32) a x).toNat < S1504.size a := fun v1783 k0_hw4 => k0_hw4.2.2.2.2.2.1
theorem k0_idx50_inb : ∀ (v1783 : IVec S16 32) (k0_hw4 : k0_chk4 v1783), ∀ a x, ((![v1783] : Fin 1 → IVec S16 32) a x).toNat < S1504.size a := fun v1783 k0_hw4 => k0_hw4.2.2.2.2.2.2.1
theorem k0_idx52_inb : ∀ (v1783 : IVec S16 32) (k0_hw4 : k0_chk4 v1783), ∀ a x, ((![v1783] : Fin 1 → IVec S16 32) a x).toNat < S1504.size a := fun v1783 k0_hw4 => k0_hw4.2.2.2.2.2.2.2.1
theorem k0_idx54_inb : ∀ (v1783 : IVec S16 32) (k0_hw4 : k0_chk4 v1783), ∀ a x, ((![v1783] : Fin 1 → IVec S16 32) a x).toNat < S1504.size a := fun v1783 k0_hw4 => k0_hw4.2.2.2.2.2.2.2.2
def k0_off22 (k0_t1 : Fin k0_t1_loop.trips) (c0_i32_649 : BitVec 32) (c0_i32_650 : BitVec 32) : Fin 1 → Nat :=
  let c0_i32_485 : BitVec 32 := 0#32
  let c0_i32_75 : BitVec 32 := 0#32
  let c1_i32_77 : BitVec 32 := 1#32
  let arg20 : BitVec 32 := Scf.iv c0_i32_75 c1_i32_77 k0_t1
  let c1_i32_484 : BitVec 32 := 1#32
  let v1031 : BitVec 32 := Scalar.muli arg20 c1_i32_484
  let v1032 : BitVec 32 := Scalar.addi c0_i32_485 v1031
  let c2_i32_486 : BitVec 32 := 2#32
  let c0_i32_487 : BitVec 32 := 0#32
  let v1034 : BitVec 1 := Scalar.cmpi .eq c2_i32_486 c0_i32_487
  let c1_i32_488 : BitVec 32 := 1#32
  let v1035 : BitVec 32 := Scalar.select v1034 c1_i32_488 c2_i32_486
  let v1036 : BitVec 32 := Scalar.remsi v1032 v1035
  let c0_i32_490 : BitVec 32 := 0#32
  let v1038 : BitVec 1 := Scalar.cmpi .slt v1036 c0_i32_490
  let c0_i32_491 : BitVec 32 := 0#32
  let v1039 : BitVec 1 := Scalar.cmpi .slt v1035 c0_i32_491
  let v1040 : BitVec 1 := Scalar.xori v1038 v1039
  let c0_i32_489 : BitVec 32 := 0#32
  let v1037 : BitVec 1 := Scalar.cmpi .ne v1036 c0_i32_489
  let v1041 : BitVec 1 := Scalar.andi v1040 v1037
  let v1042 : BitVec 32 := Scalar.addi v1036 v1035
  let v1043 : BitVec 32 := Scalar.select v1041 v1042 v1036
  let c3_i32_647 : BitVec 32 := 3#32
  let v1408 : BitVec 32 := Scalar.muli v1043 c3_i32_647
  let c3_i32_648 : BitVec 32 := 3#32
  let v1409 : BitVec 32 := Scalar.muli v1408 c3_i32_648
  let v1410 : BitVec 32 := Scalar.addi v1409 c0_i32_649
  let v1411 : BitVec 32 := Scalar.addi v1410 c0_i32_650
  let c1024_i32_651 : BitVec 32 := 1024#32
  let v1412 : BitVec 32 := Scalar.muli v1411 c1024_i32_651
  ![v1412.toNat]
def k0_off23 (i : grid0.Coords) (k0_t1 : Fin k0_t1_loop.trips) (c0_i32_634 : BitVec 32) (c0_i32_636 : BitVec 32) : Fin 1 → Nat :=
  let c38_i32_637 : BitVec 32 := 38#32
  let c3_i32_633 : BitVec 32 := 3#32
  let c0_i32_606 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c117_i32 : BitVec 32 := 117#32
  let v2 : BitVec 32 := Scalar.muli v1 c117_i32
  let c0_i32_485 : BitVec 32 := 0#32
  let c0_i32_75 : BitVec 32 := 0#32
  let c1_i32_77 : BitVec 32 := 1#32
  let arg20 : BitVec 32 := Scf.iv c0_i32_75 c1_i32_77 k0_t1
  let c1_i32_484 : BitVec 32 := 1#32
  let v1031 : BitVec 32 := Scalar.muli arg20 c1_i32_484
  let v1032 : BitVec 32 := Scalar.addi c0_i32_485 v1031
  let v1033 : BitVec 32 := Scalar.addi v2 v1032
  let c0_i32_599 : BitVec 32 := 0#32
  let v1297 : BitVec 1 := Scalar.cmpi .sgt v1033 c0_i32_599
  let v1298 : BitVec 32 := Scalar.extui v1297
  let c0_i32_600 : BitVec 32 := 0#32
  let v1299 : BitVec 1 := Scalar.cmpi .slt v1033 c0_i32_600
  let v1300 : BitVec 32 := Scalar.extui v1299
  let v1301 : BitVec 32 := Scalar.subi v1298 v1300
  let c48_i32_598 : BitVec 32 := 48#32
  let c0_i32_601 : BitVec 32 := 0#32
  let v1302 : BitVec 1 := Scalar.cmpi .sgt c48_i32_598 c0_i32_601
  let v1303 : BitVec 32 := Scalar.extui v1302
  let c0_i32_602 : BitVec 32 := 0#32
  let v1304 : BitVec 1 := Scalar.cmpi .slt c48_i32_598 c0_i32_602
  let v1305 : BitVec 32 := Scalar.extui v1304
  let v1306 : BitVec 32 := Scalar.subi v1303 v1305
  let v1307 : BitVec 1 := Scalar.cmpi .ne v1301 v1306
  let v1308 : BitVec 32 := Scalar.remsi v1033 c48_i32_598
  let c0_i32_603 : BitVec 32 := 0#32
  let v1309 : BitVec 1 := Scalar.cmpi .ne v1308 c0_i32_603
  let v1310 : BitVec 1 := Scalar.andi v1307 v1309
  let v1296 : BitVec 32 := Scalar.divsi v1033 c48_i32_598
  let c1_i32_604 : BitVec 32 := 1#32
  let v1311 : BitVec 32 := Scalar.subi v1296 c1_i32_604
  let v1312 : BitVec 32 := Scalar.select v1310 v1311 v1296
  let c12_i32_605 : BitVec 32 := 12#32
  let v1313 : BitVec 1 := Scalar.cmpi .sge v1312 c12_i32_605
  let v1314 : BitVec 32 := Scalar.extui v1313
  let v1315 : BitVec 32 := Scalar.addi c0_i32_606 v1314
  let c23_i32_607 : BitVec 32 := 23#32
  let v1316 : BitVec 1 := Scalar.cmpi .sge v1312 c23_i32_607
  let v1317 : BitVec 32 := Scalar.extui v1316
  let v1318 : BitVec 32 := Scalar.addi v1315 v1317
  let c33_i32_608 : BitVec 32 := 33#32
  let v1319 : BitVec 1 := Scalar.cmpi .sge v1312 c33_i32_608
  let v1320 : BitVec 32 := Scalar.extui v1319
  let v1321 : BitVec 32 := Scalar.addi v1318 v1320
  let c42_i32_609 : BitVec 32 := 42#32
  let v1322 : BitVec 1 := Scalar.cmpi .sge v1312 c42_i32_609
  let v1323 : BitVec 32 := Scalar.extui v1322
  let v1324 : BitVec 32 := Scalar.addi v1321 v1323
  let c50_i32_610 : BitVec 32 := 50#32
  let v1325 : BitVec 1 := Scalar.cmpi .sge v1312 c50_i32_610
  let v1326 : BitVec 32 := Scalar.extui v1325
  let v1327 : BitVec 32 := Scalar.addi v1324 v1326
  let c57_i32_611 : BitVec 32 := 57#32
  let v1328 : BitVec 1 := Scalar.cmpi .sge v1312 c57_i32_611
  let v1329 : BitVec 32 := Scalar.extui v1328
  let v1330 : BitVec 32 := Scalar.addi v1327 v1329
  let c63_i32_612 : BitVec 32 := 63#32
  let v1331 : BitVec 1 := Scalar.cmpi .sge v1312 c63_i32_612
  let v1332 : BitVec 32 := Scalar.extui v1331
  let v1333 : BitVec 32 := Scalar.addi v1330 v1332
  let c68_i32_613 : BitVec 32 := 68#32
  let v1334 : BitVec 1 := Scalar.cmpi .sge v1312 c68_i32_613
  let v1335 : BitVec 32 := Scalar.extui v1334
  let v1336 : BitVec 32 := Scalar.addi v1333 v1335
  let c72_i32_614 : BitVec 32 := 72#32
  let v1337 : BitVec 1 := Scalar.cmpi .sge v1312 c72_i32_614
  let v1338 : BitVec 32 := Scalar.extui v1337
  let v1339 : BitVec 32 := Scalar.addi v1336 v1338
  let c75_i32_615 : BitVec 32 := 75#32
  let v1340 : BitVec 1 := Scalar.cmpi .sge v1312 c75_i32_615
  let v1341 : BitVec 32 := Scalar.extui v1340
  let v1342 : BitVec 32 := Scalar.addi v1339 v1341
  let c77_i32_616 : BitVec 32 := 77#32
  let v1343 : BitVec 1 := Scalar.cmpi .sge v1312 c77_i32_616
  let v1344 : BitVec 32 := Scalar.extui v1343
  let v1345 : BitVec 32 := Scalar.addi v1342 v1344
  let v1380 : BitVec 32 := Scalar.muli c3_i32_633 v1345
  let v1381 : BitVec 32 := Scalar.addi v1380 c0_i32_634
  let v1384 : BitVec 32 := Scalar.muli c38_i32_637 v1381
  let c1_i32_638 : BitVec 32 := 1#32
  let v1385 : BitVec 32 := Scalar.subi v1381 c1_i32_638
  let v1386 : BitVec 32 := Scalar.muli v1381 v1385
  let c0_i32_640 : BitVec 32 := 0#32
  let v1388 : BitVec 1 := Scalar.cmpi .sgt v1386 c0_i32_640
  let v1389 : BitVec 32 := Scalar.extui v1388
  let c0_i32_641 : BitVec 32 := 0#32
  let v1390 : BitVec 1 := Scalar.cmpi .slt v1386 c0_i32_641
  let v1391 : BitVec 32 := Scalar.extui v1390
  let v1392 : BitVec 32 := Scalar.subi v1389 v1391
  let c2_i32_639 : BitVec 32 := 2#32
  let c0_i32_642 : BitVec 32 := 0#32
  let v1393 : BitVec 1 := Scalar.cmpi .sgt c2_i32_639 c0_i32_642
  let v1394 : BitVec 32 := Scalar.extui v1393
  let c0_i32_643 : BitVec 32 := 0#32
  let v1395 : BitVec 1 := Scalar.cmpi .slt c2_i32_639 c0_i32_643
  let v1396 : BitVec 32 := Scalar.extui v1395
  let v1397 : BitVec 32 := Scalar.subi v1394 v1396
  let v1398 : BitVec 1 := Scalar.cmpi .ne v1392 v1397
  let v1399 : BitVec 32 := Scalar.remsi v1386 c2_i32_639
  let c0_i32_644 : BitVec 32 := 0#32
  let v1400 : BitVec 1 := Scalar.cmpi .ne v1399 c0_i32_644
  let v1401 : BitVec 1 := Scalar.andi v1398 v1400
  let v1387 : BitVec 32 := Scalar.divsi v1386 c2_i32_639
  let c1_i32_645 : BitVec 32 := 1#32
  let v1402 : BitVec 32 := Scalar.subi v1387 c1_i32_645
  let v1403 : BitVec 32 := Scalar.select v1401 v1402 v1387
  let v1404 : BitVec 32 := Scalar.subi v1384 v1403
  let c3_i32_635 : BitVec 32 := 3#32
  let c1_i32_617 : BitVec 32 := 1#32
  let v1346 : BitVec 32 := Scalar.addi v1345 c1_i32_617
  let v1347 : BitVec 32 := Scalar.addi v1346 v1312
  let c12_i32_618 : BitVec 32 := 12#32
  let v1348 : BitVec 32 := Scalar.muli c12_i32_618 v1345
  let c1_i32_619 : BitVec 32 := 1#32
  let v1349 : BitVec 32 := Scalar.subi v1345 c1_i32_619
  let v1350 : BitVec 32 := Scalar.muli v1345 v1349
  let c0_i32_621 : BitVec 32 := 0#32
  let v1352 : BitVec 1 := Scalar.cmpi .sgt v1350 c0_i32_621
  let v1353 : BitVec 32 := Scalar.extui v1352
  let c0_i32_622 : BitVec 32 := 0#32
  let v1354 : BitVec 1 := Scalar.cmpi .slt v1350 c0_i32_622
  let v1355 : BitVec 32 := Scalar.extui v1354
  let v1356 : BitVec 32 := Scalar.subi v1353 v1355
  let c2_i32_620 : BitVec 32 := 2#32
  let c0_i32_623 : BitVec 32 := 0#32
  let v1357 : BitVec 1 := Scalar.cmpi .sgt c2_i32_620 c0_i32_623
  let v1358 : BitVec 32 := Scalar.extui v1357
  let c0_i32_624 : BitVec 32 := 0#32
  let v1359 : BitVec 1 := Scalar.cmpi .slt c2_i32_620 c0_i32_624
  let v1360 : BitVec 32 := Scalar.extui v1359
  let v1361 : BitVec 32 := Scalar.subi v1358 v1360
  let v1362 : BitVec 1 := Scalar.cmpi .ne v1356 v1361
  let v1363 : BitVec 32 := Scalar.remsi v1350 c2_i32_620
  let c0_i32_625 : BitVec 32 := 0#32
  let v1364 : BitVec 1 := Scalar.cmpi .ne v1363 c0_i32_625
  let v1365 : BitVec 1 := Scalar.andi v1362 v1364
  let v1351 : BitVec 32 := Scalar.divsi v1350 c2_i32_620
  let c1_i32_626 : BitVec 32 := 1#32
  let v1366 : BitVec 32 := Scalar.subi v1351 c1_i32_626
  let v1367 : BitVec 32 := Scalar.select v1365 v1366 v1351
  let v1368 : BitVec 32 := Scalar.subi v1348 v1367
  let v1369 : BitVec 32 := Scalar.subi v1347 v1368
  let v1382 : BitVec 32 := Scalar.muli c3_i32_635 v1369
  let v1383 : BitVec 32 := Scalar.addi v1382 c0_i32_636
  let v1405 : BitVec 32 := Scalar.addi v1404 v1383
  let v1406 : BitVec 32 := Scalar.subi v1405 v1381
  let c1_i32_646 : BitVec 32 := 1#32
  let v1407 : BitVec 32 := Scalar.subi v1406 c1_i32_646
  let c49152_i32_652 : BitVec 32 := 49152#32
  let v1413 : BitVec 32 := Scalar.muli v1407 c49152_i32_652
  let c48_i32_627 : BitVec 32 := 48#32
  let c0_i32_628 : BitVec 32 := 0#32
  let v1370 : BitVec 1 := Scalar.cmpi .eq c48_i32_627 c0_i32_628
  let c1_i32_629 : BitVec 32 := 1#32
  let v1371 : BitVec 32 := Scalar.select v1370 c1_i32_629 c48_i32_627
  let v1372 : BitVec 32 := Scalar.remsi v1033 v1371
  let c0_i32_631 : BitVec 32 := 0#32
  let v1374 : BitVec 1 := Scalar.cmpi .slt v1372 c0_i32_631
  let c0_i32_632 : BitVec 32 := 0#32
  let v1375 : BitVec 1 := Scalar.cmpi .slt v1371 c0_i32_632
  let v1376 : BitVec 1 := Scalar.xori v1374 v1375
  let c0_i32_630 : BitVec 32 := 0#32
  let v1373 : BitVec 1 := Scalar.cmpi .ne v1372 c0_i32_630
  let v1377 : BitVec 1 := Scalar.andi v1376 v1373
  let v1378 : BitVec 32 := Scalar.addi v1372 v1371
  let v1379 : BitVec 32 := Scalar.select v1377 v1378 v1372
  let c1024_i32_653 : BitVec 32 := 1024#32
  let v1414 : BitVec 32 := Scalar.muli v1379 c1024_i32_653
  let v1415 : BitVec 32 := Scalar.addi v1413 v1414
  ![v1415.toNat]
def k0_off24 (i : grid0.Coords) (c115_i32 : BitVec 32) (c0_i32_115 : BitVec 32) (c0_i32_117 : BitVec 32) : Fin 1 → Nat :=
  let c38_i32 : BitVec 32 := 38#32
  let c3_i32_114 : BitVec 32 := 3#32
  let c0_i32_87 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c117_i32 : BitVec 32 := 117#32
  let v2 : BitVec 32 := Scalar.muli v1 c117_i32
  let v191 : BitVec 32 := Scalar.addi v2 c115_i32
  let c0_i32_80 : BitVec 32 := 0#32
  let v193 : BitVec 1 := Scalar.cmpi .sgt v191 c0_i32_80
  let v194 : BitVec 32 := Scalar.extui v193
  let c0_i32_81 : BitVec 32 := 0#32
  let v195 : BitVec 1 := Scalar.cmpi .slt v191 c0_i32_81
  let v196 : BitVec 32 := Scalar.extui v195
  let v197 : BitVec 32 := Scalar.subi v194 v196
  let c48_i32_79 : BitVec 32 := 48#32
  let c0_i32_82 : BitVec 32 := 0#32
  let v198 : BitVec 1 := Scalar.cmpi .sgt c48_i32_79 c0_i32_82
  let v199 : BitVec 32 := Scalar.extui v198
  let c0_i32_83 : BitVec 32 := 0#32
  let v200 : BitVec 1 := Scalar.cmpi .slt c48_i32_79 c0_i32_83
  let v201 : BitVec 32 := Scalar.extui v200
  let v202 : BitVec 32 := Scalar.subi v199 v201
  let v203 : BitVec 1 := Scalar.cmpi .ne v197 v202
  let v204 : BitVec 32 := Scalar.remsi v191 c48_i32_79
  let c0_i32_84 : BitVec 32 := 0#32
  let v205 : BitVec 1 := Scalar.cmpi .ne v204 c0_i32_84
  let v206 : BitVec 1 := Scalar.andi v203 v205
  let v192 : BitVec 32 := Scalar.divsi v191 c48_i32_79
  let c1_i32_85 : BitVec 32 := 1#32
  let v207 : BitVec 32 := Scalar.subi v192 c1_i32_85
  let v208 : BitVec 32 := Scalar.select v206 v207 v192
  let c12_i32_86 : BitVec 32 := 12#32
  let v209 : BitVec 1 := Scalar.cmpi .sge v208 c12_i32_86
  let v210 : BitVec 32 := Scalar.extui v209
  let v211 : BitVec 32 := Scalar.addi c0_i32_87 v210
  let c23_i32_88 : BitVec 32 := 23#32
  let v212 : BitVec 1 := Scalar.cmpi .sge v208 c23_i32_88
  let v213 : BitVec 32 := Scalar.extui v212
  let v214 : BitVec 32 := Scalar.addi v211 v213
  let c33_i32_89 : BitVec 32 := 33#32
  let v215 : BitVec 1 := Scalar.cmpi .sge v208 c33_i32_89
  let v216 : BitVec 32 := Scalar.extui v215
  let v217 : BitVec 32 := Scalar.addi v214 v216
  let c42_i32_90 : BitVec 32 := 42#32
  let v218 : BitVec 1 := Scalar.cmpi .sge v208 c42_i32_90
  let v219 : BitVec 32 := Scalar.extui v218
  let v220 : BitVec 32 := Scalar.addi v217 v219
  let c50_i32_91 : BitVec 32 := 50#32
  let v221 : BitVec 1 := Scalar.cmpi .sge v208 c50_i32_91
  let v222 : BitVec 32 := Scalar.extui v221
  let v223 : BitVec 32 := Scalar.addi v220 v222
  let c57_i32_92 : BitVec 32 := 57#32
  let v224 : BitVec 1 := Scalar.cmpi .sge v208 c57_i32_92
  let v225 : BitVec 32 := Scalar.extui v224
  let v226 : BitVec 32 := Scalar.addi v223 v225
  let c63_i32_93 : BitVec 32 := 63#32
  let v227 : BitVec 1 := Scalar.cmpi .sge v208 c63_i32_93
  let v228 : BitVec 32 := Scalar.extui v227
  let v229 : BitVec 32 := Scalar.addi v226 v228
  let c68_i32_94 : BitVec 32 := 68#32
  let v230 : BitVec 1 := Scalar.cmpi .sge v208 c68_i32_94
  let v231 : BitVec 32 := Scalar.extui v230
  let v232 : BitVec 32 := Scalar.addi v229 v231
  let c72_i32_95 : BitVec 32 := 72#32
  let v233 : BitVec 1 := Scalar.cmpi .sge v208 c72_i32_95
  let v234 : BitVec 32 := Scalar.extui v233
  let v235 : BitVec 32 := Scalar.addi v232 v234
  let c75_i32_96 : BitVec 32 := 75#32
  let v236 : BitVec 1 := Scalar.cmpi .sge v208 c75_i32_96
  let v237 : BitVec 32 := Scalar.extui v236
  let v238 : BitVec 32 := Scalar.addi v235 v237
  let c77_i32_97 : BitVec 32 := 77#32
  let v239 : BitVec 1 := Scalar.cmpi .sge v208 c77_i32_97
  let v240 : BitVec 32 := Scalar.extui v239
  let v241 : BitVec 32 := Scalar.addi v238 v240
  let v276 : BitVec 32 := Scalar.muli c3_i32_114 v241
  let v277 : BitVec 32 := Scalar.addi v276 c0_i32_115
  let v280 : BitVec 32 := Scalar.muli c38_i32 v277
  let c1_i32_118 : BitVec 32 := 1#32
  let v281 : BitVec 32 := Scalar.subi v277 c1_i32_118
  let v282 : BitVec 32 := Scalar.muli v277 v281
  let c0_i32_120 : BitVec 32 := 0#32
  let v284 : BitVec 1 := Scalar.cmpi .sgt v282 c0_i32_120
  let v285 : BitVec 32 := Scalar.extui v284
  let c0_i32_121 : BitVec 32 := 0#32
  let v286 : BitVec 1 := Scalar.cmpi .slt v282 c0_i32_121
  let v287 : BitVec 32 := Scalar.extui v286
  let v288 : BitVec 32 := Scalar.subi v285 v287
  let c2_i32_119 : BitVec 32 := 2#32
  let c0_i32_122 : BitVec 32 := 0#32
  let v289 : BitVec 1 := Scalar.cmpi .sgt c2_i32_119 c0_i32_122
  let v290 : BitVec 32 := Scalar.extui v289
  let c0_i32_123 : BitVec 32 := 0#32
  let v291 : BitVec 1 := Scalar.cmpi .slt c2_i32_119 c0_i32_123
  let v292 : BitVec 32 := Scalar.extui v291
  let v293 : BitVec 32 := Scalar.subi v290 v292
  let v294 : BitVec 1 := Scalar.cmpi .ne v288 v293
  let v295 : BitVec 32 := Scalar.remsi v282 c2_i32_119
  let c0_i32_124 : BitVec 32 := 0#32
  let v296 : BitVec 1 := Scalar.cmpi .ne v295 c0_i32_124
  let v297 : BitVec 1 := Scalar.andi v294 v296
  let v283 : BitVec 32 := Scalar.divsi v282 c2_i32_119
  let c1_i32_125 : BitVec 32 := 1#32
  let v298 : BitVec 32 := Scalar.subi v283 c1_i32_125
  let v299 : BitVec 32 := Scalar.select v297 v298 v283
  let v300 : BitVec 32 := Scalar.subi v280 v299
  let c3_i32_116 : BitVec 32 := 3#32
  let c1_i32_98 : BitVec 32 := 1#32
  let v242 : BitVec 32 := Scalar.addi v241 c1_i32_98
  let v243 : BitVec 32 := Scalar.addi v242 v208
  let c12_i32_99 : BitVec 32 := 12#32
  let v244 : BitVec 32 := Scalar.muli c12_i32_99 v241
  let c1_i32_100 : BitVec 32 := 1#32
  let v245 : BitVec 32 := Scalar.subi v241 c1_i32_100
  let v246 : BitVec 32 := Scalar.muli v241 v245
  let c0_i32_102 : BitVec 32 := 0#32
  let v248 : BitVec 1 := Scalar.cmpi .sgt v246 c0_i32_102
  let v249 : BitVec 32 := Scalar.extui v248
  let c0_i32_103 : BitVec 32 := 0#32
  let v250 : BitVec 1 := Scalar.cmpi .slt v246 c0_i32_103
  let v251 : BitVec 32 := Scalar.extui v250
  let v252 : BitVec 32 := Scalar.subi v249 v251
  let c2_i32_101 : BitVec 32 := 2#32
  let c0_i32_104 : BitVec 32 := 0#32
  let v253 : BitVec 1 := Scalar.cmpi .sgt c2_i32_101 c0_i32_104
  let v254 : BitVec 32 := Scalar.extui v253
  let c0_i32_105 : BitVec 32 := 0#32
  let v255 : BitVec 1 := Scalar.cmpi .slt c2_i32_101 c0_i32_105
  let v256 : BitVec 32 := Scalar.extui v255
  let v257 : BitVec 32 := Scalar.subi v254 v256
  let v258 : BitVec 1 := Scalar.cmpi .ne v252 v257
  let v259 : BitVec 32 := Scalar.remsi v246 c2_i32_101
  let c0_i32_106 : BitVec 32 := 0#32
  let v260 : BitVec 1 := Scalar.cmpi .ne v259 c0_i32_106
  let v261 : BitVec 1 := Scalar.andi v258 v260
  let v247 : BitVec 32 := Scalar.divsi v246 c2_i32_101
  let c1_i32_107 : BitVec 32 := 1#32
  let v262 : BitVec 32 := Scalar.subi v247 c1_i32_107
  let v263 : BitVec 32 := Scalar.select v261 v262 v247
  let v264 : BitVec 32 := Scalar.subi v244 v263
  let v265 : BitVec 32 := Scalar.subi v243 v264
  let v278 : BitVec 32 := Scalar.muli c3_i32_116 v265
  let v279 : BitVec 32 := Scalar.addi v278 c0_i32_117
  let v301 : BitVec 32 := Scalar.addi v300 v279
  let v302 : BitVec 32 := Scalar.subi v301 v277
  let c1_i32_126 : BitVec 32 := 1#32
  let v303 : BitVec 32 := Scalar.subi v302 c1_i32_126
  let c49152_i32_127 : BitVec 32 := 49152#32
  let v304 : BitVec 32 := Scalar.muli v303 c49152_i32_127
  let c48_i32_108 : BitVec 32 := 48#32
  let c0_i32_109 : BitVec 32 := 0#32
  let v266 : BitVec 1 := Scalar.cmpi .eq c48_i32_108 c0_i32_109
  let c1_i32_110 : BitVec 32 := 1#32
  let v267 : BitVec 32 := Scalar.select v266 c1_i32_110 c48_i32_108
  let v268 : BitVec 32 := Scalar.remsi v191 v267
  let c0_i32_112 : BitVec 32 := 0#32
  let v270 : BitVec 1 := Scalar.cmpi .slt v268 c0_i32_112
  let c0_i32_113 : BitVec 32 := 0#32
  let v271 : BitVec 1 := Scalar.cmpi .slt v267 c0_i32_113
  let v272 : BitVec 1 := Scalar.xori v270 v271
  let c0_i32_111 : BitVec 32 := 0#32
  let v269 : BitVec 1 := Scalar.cmpi .ne v268 c0_i32_111
  let v273 : BitVec 1 := Scalar.andi v272 v269
  let v274 : BitVec 32 := Scalar.addi v268 v267
  let v275 : BitVec 32 := Scalar.select v273 v274 v268
  let c1024_i32_128 : BitVec 32 := 1024#32
  let v305 : BitVec 32 := Scalar.muli v275 c1024_i32_128
  let v306 : BitVec 32 := Scalar.addi v304 v305
  ![v306.toNat]
@[reducible] def k0_t3_loop : Scf.Loop 32 :=
  let c0_i32_478 : BitVec 32 := 0#32
  let c96_i32 : BitVec 32 := 96#32
  let v1029 : BitVec 32 := Scalar.addi c0_i32_478 c96_i32
  let c1_i32_479 : BitVec 32 := 1#32
  ⟨c0_i32_478, v1029, c1_i32_479⟩
def k0_off25 (k0_t3 : Fin k0_t3_loop.trips) : Fin 1 → Nat :=
  let c0_i32_484 : BitVec 32 := 0#32
  let c0_i32_478 : BitVec 32 := 0#32
  let c1_i32_479 : BitVec 32 := 1#32
  let arg20 : BitVec 32 := Scf.iv c0_i32_478 c1_i32_479 k0_t3
  let c16_i32 : BitVec 32 := 16#32
  let v1031 : BitVec 32 := Scalar.muli arg20 c16_i32
  let v1032 : BitVec 32 := Scalar.addi c0_i32_484 v1031
  let v1033 : Index := Scalar.indexCast v1032
  ![v1033.toNat]
@[reducible] def k0_t4_loop : Scf.Loop 32 :=
  let c0_i32_481 : BitVec 32 := 0#32
  let c13_i32 : BitVec 32 := 13#32
  let v1030 : BitVec 32 := Scalar.addi c0_i32_481 c13_i32
  let c1_i32_482 : BitVec 32 := 1#32
  ⟨c0_i32_481, v1030, c1_i32_482⟩
def k0_off26 (k0_t4 : Fin k0_t4_loop.trips) (c0_i32_487 : BitVec 32) (c1_i32_489 : BitVec 32) : Fin 1 → Nat :=
  let c3_i32_486 : BitVec 32 := 3#32
  let c0_i32_485 : BitVec 32 := 0#32
  let c0_i32_481 : BitVec 32 := 0#32
  let c1_i32_482 : BitVec 32 := 1#32
  let arg20 : BitVec 32 := Scf.iv c0_i32_481 c1_i32_482 k0_t4
  let c1_i32_484 : BitVec 32 := 1#32
  let v1031 : BitVec 32 := Scalar.muli arg20 c1_i32_484
  let v1032 : BitVec 32 := Scalar.addi c0_i32_485 v1031
  let v1033 : BitVec 32 := Scalar.muli c3_i32_486 v1032
  let v1034 : BitVec 32 := Scalar.addi v1033 c0_i32_487
  let c39_i32 : BitVec 32 := 39#32
  let v1037 : BitVec 32 := Scalar.muli v1034 c39_i32
  let c3_i32_488 : BitVec 32 := 3#32
  let v1035 : BitVec 32 := Scalar.muli c3_i32_488 v1032
  let v1036 : BitVec 32 := Scalar.addi v1035 c1_i32_489
  let v1038 : BitVec 32 := Scalar.addi v1037 v1036
  let c4512_i32 : BitVec 32 := 4512#32
  let v1039 : BitVec 32 := Scalar.muli v1038 c4512_i32
  ![v1039.toNat]
def k0_off26_at (r : Fin 6) : BitVec 32 × BitVec 32 :=
  if r.val < 3 then
    if r.val < 1 then
      (0#32, 1#32)
    else
      if r.val < 2 then
        (1#32, 0#32)
      else
        (0#32, 2#32)
  else
    if r.val < 4 then
      (2#32, 0#32)
    else
      if r.val < 5 then
        (1#32, 2#32)
      else
        (2#32, 1#32)
def k0_off27 (k0_t4 : Fin k0_t4_loop.trips) : Fin 1 → Nat :=
  let c0_i32_485 : BitVec 32 := 0#32
  let c0_i32_481 : BitVec 32 := 0#32
  let c1_i32_482 : BitVec 32 := 1#32
  let arg20 : BitVec 32 := Scf.iv c0_i32_481 c1_i32_482 k0_t4
  let c1_i32_484 : BitVec 32 := 1#32
  let v1031 : BitVec 32 := Scalar.muli arg20 c1_i32_484
  let v1032 : BitVec 32 := Scalar.addi c0_i32_485 v1031
  let c4512_i32_508 : BitVec 32 := 4512#32
  let v1063 : BitVec 32 := Scalar.muli v1032 c4512_i32_508
  ![v1063.toNat]
def k0_off28 (i : grid0.Coords) (k0_t4 : Fin k0_t4_loop.trips) (c0_i32_510 : BitVec 32) : Fin 1 → Nat :=
  let c3_i32_509 : BitVec 32 := 3#32
  let c0_i32_485 : BitVec 32 := 0#32
  let c0_i32_481 : BitVec 32 := 0#32
  let c1_i32_482 : BitVec 32 := 1#32
  let arg20 : BitVec 32 := Scf.iv c0_i32_481 c1_i32_482 k0_t4
  let c1_i32_484 : BitVec 32 := 1#32
  let v1031 : BitVec 32 := Scalar.muli arg20 c1_i32_484
  let v1032 : BitVec 32 := Scalar.addi c0_i32_485 v1031
  let v1064 : BitVec 32 := Scalar.muli c3_i32_509 v1032
  let v1065 : BitVec 32 := Scalar.addi v1064 c0_i32_510
  let c49152_i32_511 : BitVec 32 := 49152#32
  let v1066 : BitVec 32 := Scalar.muli v1065 c49152_i32_511
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1536_i32 : BitVec 32 := 1536#32
  let v1027 : BitVec 32 := Scalar.muli v1 c1536_i32
  let v1067 : BitVec 32 := Scalar.addi v1066 v1027
  ![v1067.toNat]
@[reducible] def k0_t5_loop : Scf.Loop 32 :=
  let c0_i32_592 : BitVec 32 := 0#32
  let c96_i32_593 : BitVec 32 := 96#32
  let v1232 : BitVec 32 := Scalar.addi c0_i32_592 c96_i32_593
  let c1_i32_594 : BitVec 32 := 1#32
  ⟨c0_i32_592, v1232, c1_i32_594⟩
def k0_off29 (k0_t5 : Fin k0_t5_loop.trips) (c0_i32_660 : BitVec 32) : Fin 1 → Nat :=
  let c0_i32_659 : BitVec 32 := 0#32
  let c0_i32_592 : BitVec 32 := 0#32
  let c1_i32_594 : BitVec 32 := 1#32
  let arg21 : BitVec 32 := Scf.iv c0_i32_592 c1_i32_594 k0_t5
  let c16_i32 : BitVec 32 := 16#32
  let v1359 : BitVec 32 := Scalar.muli arg21 c16_i32
  let v1360 : BitVec 32 := Scalar.addi c0_i32_659 v1359
  let v1361 : BitVec 32 := Scalar.addi c0_i32_660 v1360
  let v1362 : Index := Scalar.indexCast v1361
  ![v1362.toNat]
def k0_off30 (k0_t5 : Fin k0_t5_loop.trips) : Fin 1 → Nat :=
  let c0_i32_706 : BitVec 32 := 0#32
  let c0_i32_659 : BitVec 32 := 0#32
  let c0_i32_592 : BitVec 32 := 0#32
  let c1_i32_594 : BitVec 32 := 1#32
  let arg21 : BitVec 32 := Scf.iv c0_i32_592 c1_i32_594 k0_t5
  let c16_i32 : BitVec 32 := 16#32
  let v1359 : BitVec 32 := Scalar.muli arg21 c16_i32
  let v1360 : BitVec 32 := Scalar.addi c0_i32_659 v1359
  let v1493 : BitVec 32 := Scalar.addi c0_i32_706 v1360
  let v1494 : Index := Scalar.indexCast v1493
  ![v1494.toNat]
def k0_off31 (k0_t5 : Fin k0_t5_loop.trips) (c1536_i32_749 : BitVec 32) : Fin 1 → Nat :=
  let c0_i32_659 : BitVec 32 := 0#32
  let c0_i32_592 : BitVec 32 := 0#32
  let c1_i32_594 : BitVec 32 := 1#32
  let arg21 : BitVec 32 := Scf.iv c0_i32_592 c1_i32_594 k0_t5
  let c16_i32 : BitVec 32 := 16#32
  let v1359 : BitVec 32 := Scalar.muli arg21 c16_i32
  let v1360 : BitVec 32 := Scalar.addi c0_i32_659 v1359
  let v1610 : BitVec 32 := Scalar.addi c1536_i32_749 v1360
  let v1611 : Index := Scalar.indexCast v1610
  ![v1611.toNat]
def k0_off32 (k0_t5 : Fin k0_t5_loop.trips) : Fin 1 → Nat :=
  let c0_i32_659 : BitVec 32 := 0#32
  let c0_i32_592 : BitVec 32 := 0#32
  let c1_i32_594 : BitVec 32 := 1#32
  let arg21 : BitVec 32 := Scf.iv c0_i32_592 c1_i32_594 k0_t5
  let c16_i32 : BitVec 32 := 16#32
  let v1359 : BitVec 32 := Scalar.muli arg21 c16_i32
  let v1360 : BitVec 32 := Scalar.addi c0_i32_659 v1359
  let v1730 : Index := Scalar.indexCast v1360
  ![v1730.toNat]

def k0_chk7 (v1363 : IVec S16 32) : Prop :=
  (∀ a x, ((![v1363] : Fin 1 → IVec S16 32) a x).toNat < S1504.size a) ∧
  (∀ a x, ((![v1363] : Fin 1 → IVec S16 32) a x).toNat < S1504.size a) ∧
  (∀ a x, ((![v1363] : Fin 1 → IVec S16 32) a x).toNat < S1504.size a) ∧
  (∀ a x, ((![v1363] : Fin 1 → IVec S16 32) a x).toNat < S1504.size a) ∧
  (∀ a x, ((![v1363] : Fin 1 → IVec S16 32) a x).toNat < S1504.size a) ∧
  (∀ a x, ((![v1363] : Fin 1 → IVec S16 32) a x).toNat < S1504.size a) ∧
  (∀ a x, ((![v1363] : Fin 1 → IVec S16 32) a x).toNat < S1504.size a)
theorem k0_idx55_inb : ∀ (v1363 : IVec S16 32) (k0_hw7 : k0_chk7 v1363), ∀ a x, ((![v1363] : Fin 1 → IVec S16 32) a x).toNat < S1504.size a := fun v1363 k0_hw7 => k0_hw7.1
theorem k0_idx57_inb : ∀ (v1363 : IVec S16 32) (k0_hw7 : k0_chk7 v1363), ∀ a x, ((![v1363] : Fin 1 → IVec S16 32) a x).toNat < S1504.size a := fun v1363 k0_hw7 => k0_hw7.2.1
theorem k0_idx59_inb : ∀ (v1363 : IVec S16 32) (k0_hw7 : k0_chk7 v1363), ∀ a x, ((![v1363] : Fin 1 → IVec S16 32) a x).toNat < S1504.size a := fun v1363 k0_hw7 => k0_hw7.2.2.1
theorem k0_idx61_inb : ∀ (v1363 : IVec S16 32) (k0_hw7 : k0_chk7 v1363), ∀ a x, ((![v1363] : Fin 1 → IVec S16 32) a x).toNat < S1504.size a := fun v1363 k0_hw7 => k0_hw7.2.2.2.1
theorem k0_idx63_inb : ∀ (v1363 : IVec S16 32) (k0_hw7 : k0_chk7 v1363), ∀ a x, ((![v1363] : Fin 1 → IVec S16 32) a x).toNat < S1504.size a := fun v1363 k0_hw7 => k0_hw7.2.2.2.2.1
theorem k0_idx65_inb : ∀ (v1363 : IVec S16 32) (k0_hw7 : k0_chk7 v1363), ∀ a x, ((![v1363] : Fin 1 → IVec S16 32) a x).toNat < S1504.size a := fun v1363 k0_hw7 => k0_hw7.2.2.2.2.2.1
theorem k0_idx73_inb : ∀ (v1363 : IVec S16 32) (k0_hw7 : k0_chk7 v1363), ∀ a x, ((![v1363] : Fin 1 → IVec S16 32) a x).toNat < S1504.size a := fun v1363 k0_hw7 => k0_hw7.2.2.2.2.2.2

def k0_chk8 (v1366 : IVec S16 32) : Prop :=
  (∀ a x, ((![v1366] : Fin 1 → IVec S16 32) a x).toNat < S1504.size a) ∧
  (∀ a x, ((![v1366] : Fin 1 → IVec S16 32) a x).toNat < S1504.size a) ∧
  (∀ a x, ((![v1366] : Fin 1 → IVec S16 32) a x).toNat < S1504.size a) ∧
  (∀ a x, ((![v1366] : Fin 1 → IVec S16 32) a x).toNat < S1504.size a) ∧
  (∀ a x, ((![v1366] : Fin 1 → IVec S16 32) a x).toNat < S1504.size a) ∧
  (∀ a x, ((![v1366] : Fin 1 → IVec S16 32) a x).toNat < S1504.size a) ∧
  (∀ a x, ((![v1366] : Fin 1 → IVec S16 32) a x).toNat < S1504.size a)
theorem k0_idx56_inb : ∀ (v1366 : IVec S16 32) (k0_hw8 : k0_chk8 v1366), ∀ a x, ((![v1366] : Fin 1 → IVec S16 32) a x).toNat < S1504.size a := fun v1366 k0_hw8 => k0_hw8.1
theorem k0_idx58_inb : ∀ (v1366 : IVec S16 32) (k0_hw8 : k0_chk8 v1366), ∀ a x, ((![v1366] : Fin 1 → IVec S16 32) a x).toNat < S1504.size a := fun v1366 k0_hw8 => k0_hw8.2.1
theorem k0_idx60_inb : ∀ (v1366 : IVec S16 32) (k0_hw8 : k0_chk8 v1366), ∀ a x, ((![v1366] : Fin 1 → IVec S16 32) a x).toNat < S1504.size a := fun v1366 k0_hw8 => k0_hw8.2.2.1
theorem k0_idx67_inb : ∀ (v1366 : IVec S16 32) (k0_hw8 : k0_chk8 v1366), ∀ a x, ((![v1366] : Fin 1 → IVec S16 32) a x).toNat < S1504.size a := fun v1366 k0_hw8 => k0_hw8.2.2.2.1
theorem k0_idx69_inb : ∀ (v1366 : IVec S16 32) (k0_hw8 : k0_chk8 v1366), ∀ a x, ((![v1366] : Fin 1 → IVec S16 32) a x).toNat < S1504.size a := fun v1366 k0_hw8 => k0_hw8.2.2.2.2.1
theorem k0_idx71_inb : ∀ (v1366 : IVec S16 32) (k0_hw8 : k0_chk8 v1366), ∀ a x, ((![v1366] : Fin 1 → IVec S16 32) a x).toNat < S1504.size a := fun v1366 k0_hw8 => k0_hw8.2.2.2.2.2.1
theorem k0_idx74_inb : ∀ (v1366 : IVec S16 32) (k0_hw8 : k0_chk8 v1366), ∀ a x, ((![v1366] : Fin 1 → IVec S16 32) a x).toNat < S1504.size a := fun v1366 k0_hw8 => k0_hw8.2.2.2.2.2.2

def k0_chk9 (v1369 : IVec S16 32) : Prop :=
  (∀ a x, ((![v1369] : Fin 1 → IVec S16 32) a x).toNat < S1504.size a) ∧
  (∀ a x, ((![v1369] : Fin 1 → IVec S16 32) a x).toNat < S1504.size a) ∧
  (∀ a x, ((![v1369] : Fin 1 → IVec S16 32) a x).toNat < S1504.size a) ∧
  (∀ a x, ((![v1369] : Fin 1 → IVec S16 32) a x).toNat < S1504.size a) ∧
  (∀ a x, ((![v1369] : Fin 1 → IVec S16 32) a x).toNat < S1504.size a) ∧
  (∀ a x, ((![v1369] : Fin 1 → IVec S16 32) a x).toNat < S1504.size a) ∧
  (∀ a x, ((![v1369] : Fin 1 → IVec S16 32) a x).toNat < S1504.size a)
theorem k0_idx62_inb : ∀ (v1369 : IVec S16 32) (k0_hw9 : k0_chk9 v1369), ∀ a x, ((![v1369] : Fin 1 → IVec S16 32) a x).toNat < S1504.size a := fun v1369 k0_hw9 => k0_hw9.1
theorem k0_idx64_inb : ∀ (v1369 : IVec S16 32) (k0_hw9 : k0_chk9 v1369), ∀ a x, ((![v1369] : Fin 1 → IVec S16 32) a x).toNat < S1504.size a := fun v1369 k0_hw9 => k0_hw9.2.1
theorem k0_idx66_inb : ∀ (v1369 : IVec S16 32) (k0_hw9 : k0_chk9 v1369), ∀ a x, ((![v1369] : Fin 1 → IVec S16 32) a x).toNat < S1504.size a := fun v1369 k0_hw9 => k0_hw9.2.2.1
theorem k0_idx68_inb : ∀ (v1369 : IVec S16 32) (k0_hw9 : k0_chk9 v1369), ∀ a x, ((![v1369] : Fin 1 → IVec S16 32) a x).toNat < S1504.size a := fun v1369 k0_hw9 => k0_hw9.2.2.2.1
theorem k0_idx70_inb : ∀ (v1369 : IVec S16 32) (k0_hw9 : k0_chk9 v1369), ∀ a x, ((![v1369] : Fin 1 → IVec S16 32) a x).toNat < S1504.size a := fun v1369 k0_hw9 => k0_hw9.2.2.2.2.1
theorem k0_idx72_inb : ∀ (v1369 : IVec S16 32) (k0_hw9 : k0_chk9 v1369), ∀ a x, ((![v1369] : Fin 1 → IVec S16 32) a x).toNat < S1504.size a := fun v1369 k0_hw9 => k0_hw9.2.2.2.2.2.1
theorem k0_idx75_inb : ∀ (v1369 : IVec S16 32) (k0_hw9 : k0_chk9 v1369), ∀ a x, ((![v1369] : Fin 1 → IVec S16 32) a x).toNat < S1504.size a := fun v1369 k0_hw9 => k0_hw9.2.2.2.2.2.2
def k0_off33 (i : grid0.Coords) (k0_t4 : Fin k0_t4_loop.trips) (c0_i32_597 : BitVec 32) (c1_i32_599 : BitVec 32) : Fin 1 → Nat :=
  let c38_i32_600 : BitVec 32 := 38#32
  let c3_i32_596 : BitVec 32 := 3#32
  let c0_i32_485 : BitVec 32 := 0#32
  let c0_i32_481 : BitVec 32 := 0#32
  let c1_i32_482 : BitVec 32 := 1#32
  let arg20 : BitVec 32 := Scf.iv c0_i32_481 c1_i32_482 k0_t4
  let c1_i32_484 : BitVec 32 := 1#32
  let v1031 : BitVec 32 := Scalar.muli arg20 c1_i32_484
  let v1032 : BitVec 32 := Scalar.addi c0_i32_485 v1031
  let v1233 : BitVec 32 := Scalar.muli c3_i32_596 v1032
  let v1234 : BitVec 32 := Scalar.addi v1233 c0_i32_597
  let v1237 : BitVec 32 := Scalar.muli c38_i32_600 v1234
  let c1_i32_601 : BitVec 32 := 1#32
  let v1238 : BitVec 32 := Scalar.subi v1234 c1_i32_601
  let v1239 : BitVec 32 := Scalar.muli v1234 v1238
  let c0_i32_603 : BitVec 32 := 0#32
  let v1241 : BitVec 1 := Scalar.cmpi .sgt v1239 c0_i32_603
  let v1242 : BitVec 32 := Scalar.extui v1241
  let c0_i32_604 : BitVec 32 := 0#32
  let v1243 : BitVec 1 := Scalar.cmpi .slt v1239 c0_i32_604
  let v1244 : BitVec 32 := Scalar.extui v1243
  let v1245 : BitVec 32 := Scalar.subi v1242 v1244
  let c2_i32_602 : BitVec 32 := 2#32
  let c0_i32_605 : BitVec 32 := 0#32
  let v1246 : BitVec 1 := Scalar.cmpi .sgt c2_i32_602 c0_i32_605
  let v1247 : BitVec 32 := Scalar.extui v1246
  let c0_i32_606 : BitVec 32 := 0#32
  let v1248 : BitVec 1 := Scalar.cmpi .slt c2_i32_602 c0_i32_606
  let v1249 : BitVec 32 := Scalar.extui v1248
  let v1250 : BitVec 32 := Scalar.subi v1247 v1249
  let v1251 : BitVec 1 := Scalar.cmpi .ne v1245 v1250
  let v1252 : BitVec 32 := Scalar.remsi v1239 c2_i32_602
  let c0_i32_607 : BitVec 32 := 0#32
  let v1253 : BitVec 1 := Scalar.cmpi .ne v1252 c0_i32_607
  let v1254 : BitVec 1 := Scalar.andi v1251 v1253
  let v1240 : BitVec 32 := Scalar.divsi v1239 c2_i32_602
  let c1_i32_608 : BitVec 32 := 1#32
  let v1255 : BitVec 32 := Scalar.subi v1240 c1_i32_608
  let v1256 : BitVec 32 := Scalar.select v1254 v1255 v1240
  let v1257 : BitVec 32 := Scalar.subi v1237 v1256
  let c3_i32_598 : BitVec 32 := 3#32
  let v1235 : BitVec 32 := Scalar.muli c3_i32_598 v1032
  let v1236 : BitVec 32 := Scalar.addi v1235 c1_i32_599
  let v1258 : BitVec 32 := Scalar.addi v1257 v1236
  let v1259 : BitVec 32 := Scalar.subi v1258 v1234
  let c1_i32_609 : BitVec 32 := 1#32
  let v1260 : BitVec 32 := Scalar.subi v1259 c1_i32_609
  let c49152_i32_610 : BitVec 32 := 49152#32
  let v1261 : BitVec 32 := Scalar.muli v1260 c49152_i32_610
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1536_i32 : BitVec 32 := 1536#32
  let v1027 : BitVec 32 := Scalar.muli v1 c1536_i32
  let v1262 : BitVec 32 := Scalar.addi v1261 v1027
  ![v1262.toNat]
def k0_off33_at (r : Fin 3) : BitVec 32 × BitVec 32 :=
  if r.val < 1 then
    (0#32, 1#32)
  else
    if r.val < 2 then
      (0#32, 2#32)
    else
      (1#32, 2#32)
def k0_off34 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1536_i32 : BitVec 32 := 1536#32
  let v1027 : BitVec 32 := Scalar.muli v1 c1536_i32
  ![v1027.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S6862752 : Shape := ⟨1, ![6862752]⟩
abbrev S1916928 : Shape := ⟨1, ![1916928]⟩
abbrev S58656 : Shape := ⟨1, ![58656]⟩
abbrev S741 : Shape := ⟨1, ![741]⟩
abbrev S36421632 : Shape := ⟨1, ![36421632]⟩
abbrev S_ : Shape := ⟨0, ![]⟩
abbrev S36421632x1 : Shape := ⟨2, ![36421632, 1]⟩
abbrev S1916928x1 : Shape := ⟨2, ![1916928, 1]⟩
abbrev S39x49152 : Shape := ⟨2, ![39, 49152]⟩
abbrev S49152 : Shape := ⟨1, ![49152]⟩

abbrev nBuf : Space → Nat
  | .hbm => 245
  | .vmem => 0
  | .smem => 0
  | _ => 0

abbrev hbmTy0_0 (i : Nat) : BufTy := match i % 128 with
  | 0 => ⟨S6862752, .i32⟩
  | 1 => ⟨S1916928, .i32⟩
  | 2 => ⟨S1916928, .f32⟩
  | 3 => ⟨S58656, .f32⟩
  | 4 => ⟨S741, .i32⟩
  | 5 => ⟨S741, .i32⟩
  | 6 => ⟨S36421632, .i32⟩
  | 7 => ⟨S_, .i32⟩
  | 8 => ⟨S36421632, .i32⟩
  | 9 => ⟨S36421632, .i32⟩
  | 10 => ⟨S_, .i32⟩
  | 11 => ⟨S36421632, .i32⟩
  | 12 => ⟨S36421632, .i32⟩
  | 13 => ⟨S36421632x1, .i32⟩
  | 14 => ⟨S36421632, .i32⟩
  | 15 => ⟨S36421632x1, .i32⟩
  | 16 => ⟨S36421632, .i32⟩
  | 17 => ⟨S_, .i32⟩
  | 18 => ⟨S36421632, .i32⟩
  | 19 => ⟨S36421632, .i32⟩
  | 20 => ⟨S36421632, .i32⟩
  | 21 => ⟨S_, .i32⟩
  | 22 => ⟨S36421632, .i32⟩
  | 23 => ⟨S36421632, .i32⟩
  | 24 => ⟨S36421632, .i32⟩
  | 25 => ⟨S36421632x1, .i32⟩
  | 26 => ⟨S36421632, .f32⟩
  | 27 => ⟨S36421632x1, .i32⟩
  | 28 => ⟨S36421632, .f32⟩
  | 29 => ⟨S_, .i32⟩
  | 30 => ⟨S36421632, .i32⟩
  | 31 => ⟨S36421632, .i32⟩
  | 32 => ⟨S36421632, .i32⟩
  | 33 => ⟨S_, .i32⟩
  | 34 => ⟨S36421632, .i32⟩
  | 35 => ⟨S36421632, .i32⟩
  | 36 => ⟨S36421632x1, .i32⟩
  | 37 => ⟨S36421632, .i32⟩
  | 38 => ⟨S36421632, .i32⟩
  | 39 => ⟨S_, .i32⟩
  | 40 => ⟨S36421632, .i32⟩
  | 41 => ⟨S36421632, .i32⟩
  | 42 => ⟨S36421632, .i32⟩
  | 43 => ⟨S_, .i32⟩
  | 44 => ⟨S36421632, .i32⟩
  | 45 => ⟨S36421632, .i32⟩
  | 46 => ⟨S36421632x1, .i32⟩
  | 47 => ⟨S36421632, .i32⟩
  | 48 => ⟨S36421632, .i32⟩
  | 49 => ⟨S_, .f32⟩
  | 50 => ⟨S36421632, .f32⟩
  | 51 => ⟨S_, .i32⟩
  | 52 => ⟨S36421632, .i32⟩
  | 53 => ⟨S36421632, .i32⟩
  | 54 => ⟨S36421632x1, .i32⟩
  | 55 => ⟨S36421632, .i32⟩
  | 56 => ⟨S_, .i32⟩
  | 57 => ⟨S36421632, .i32⟩
  | 58 => ⟨S36421632, .i32⟩
  | 59 => ⟨S36421632x1, .i32⟩
  | 60 => ⟨S36421632, .i32⟩
  | 61 => ⟨S_, .i32⟩
  | 62 => ⟨S36421632, .i32⟩
  | 63 => ⟨S36421632, .i32⟩
  | 64 => ⟨S_, .i32⟩
  | 65 => ⟨S36421632, .i32⟩
  | 66 => ⟨S36421632, .i32⟩
  | 67 => ⟨S36421632, .bf16⟩
  | 68 => ⟨S36421632, .f32⟩
  | 69 => ⟨S_, .i32⟩
  | 70 => ⟨S36421632, .i32⟩
  | 71 => ⟨S36421632, .i32⟩
  | 72 => ⟨S_, .i32⟩
  | 73 => ⟨S36421632, .i32⟩
  | 74 => ⟨S36421632, .i32⟩
  | 75 => ⟨S36421632, .bf16⟩
  | 76 => ⟨S36421632, .f32⟩
  | 77 => ⟨S36421632, .f32⟩
  | 78 => ⟨S36421632, .f32⟩
  | 79 => ⟨S_, .i32⟩
  | 80 => ⟨S36421632, .i32⟩
  | 81 => ⟨S36421632, .i32⟩
  | 82 => ⟨S_, .i32⟩
  | 83 => ⟨S36421632, .i32⟩
  | 84 => ⟨S36421632, .i32⟩
  | 85 => ⟨S36421632, .bf16⟩
  | 86 => ⟨S36421632, .f32⟩
  | 87 => ⟨S_, .i32⟩
  | 88 => ⟨S36421632, .i32⟩
  | 89 => ⟨S36421632, .i32⟩
  | 90 => ⟨S_, .i32⟩
  | 91 => ⟨S36421632, .i32⟩
  | 92 => ⟨S36421632, .i32⟩
  | 93 => ⟨S36421632, .bf16⟩
  | 94 => ⟨S36421632, .f32⟩
  | 95 => ⟨S36421632, .f32⟩
  | 96 => ⟨S36421632, .f32⟩
  | 97 => ⟨S_, .i32⟩
  | 98 => ⟨S36421632, .i32⟩
  | 99 => ⟨S36421632, .i32⟩
  | 100 => ⟨S_, .i32⟩
  | 101 => ⟨S36421632, .i32⟩
  | 102 => ⟨S36421632, .i32⟩
  | 103 => ⟨S36421632, .bf16⟩
  | 104 => ⟨S36421632, .f32⟩
  | 105 => ⟨S_, .i32⟩
  | 106 => ⟨S36421632, .i32⟩
  | 107 => ⟨S36421632, .i32⟩
  | 108 => ⟨S_, .i32⟩
  | 109 => ⟨S36421632, .i32⟩
  | 110 => ⟨S36421632, .i32⟩
  | 111 => ⟨S36421632, .bf16⟩
  | 112 => ⟨S36421632, .f32⟩
  | 113 => ⟨S36421632, .f32⟩
  | 114 => ⟨S36421632, .f32⟩
  | 115 => ⟨S_, .i32⟩
  | 116 => ⟨S36421632, .i32⟩
  | 117 => ⟨S36421632, .i32⟩
  | 118 => ⟨S_, .i32⟩
  | 119 => ⟨S36421632, .i32⟩
  | 120 => ⟨S36421632, .i32⟩
  | 121 => ⟨S36421632, .bf16⟩
  | 122 => ⟨S36421632, .f32⟩
  | 123 => ⟨S_, .i32⟩
  | 124 => ⟨S36421632, .i32⟩
  | 125 => ⟨S36421632, .i32⟩
  | 126 => ⟨S_, .i32⟩
  | 127 => ⟨S36421632, .i32⟩
  | _ => ⟨S6862752, .i32⟩

abbrev hbmTy0_1 (i : Nat) : BufTy := match i % 128 with
  | 0 => ⟨S36421632, .i32⟩
  | 1 => ⟨S36421632, .bf16⟩
  | 2 => ⟨S36421632, .f32⟩
  | 3 => ⟨S36421632, .f32⟩
  | 4 => ⟨S36421632, .f32⟩
  | 5 => ⟨S_, .i32⟩
  | 6 => ⟨S36421632, .i32⟩
  | 7 => ⟨S36421632, .i32⟩
  | 8 => ⟨S36421632x1, .i32⟩
  | 9 => ⟨S36421632, .i32⟩
  | 10 => ⟨S_, .i32⟩
  | 11 => ⟨S36421632, .i32⟩
  | 12 => ⟨S36421632, .i32⟩
  | 13 => ⟨S36421632x1, .i32⟩
  | 14 => ⟨S36421632, .i32⟩
  | 15 => ⟨S_, .i32⟩
  | 16 => ⟨S36421632, .i32⟩
  | 17 => ⟨S36421632, .i32⟩
  | 18 => ⟨S_, .i32⟩
  | 19 => ⟨S36421632, .i32⟩
  | 20 => ⟨S36421632, .i32⟩
  | 21 => ⟨S36421632, .bf16⟩
  | 22 => ⟨S36421632, .f32⟩
  | 23 => ⟨S_, .i32⟩
  | 24 => ⟨S36421632, .i32⟩
  | 25 => ⟨S36421632, .i32⟩
  | 26 => ⟨S_, .i32⟩
  | 27 => ⟨S36421632, .i32⟩
  | 28 => ⟨S36421632, .i32⟩
  | 29 => ⟨S36421632, .bf16⟩
  | 30 => ⟨S36421632, .f32⟩
  | 31 => ⟨S36421632, .f32⟩
  | 32 => ⟨S36421632, .f32⟩
  | 33 => ⟨S_, .i32⟩
  | 34 => ⟨S36421632, .i32⟩
  | 35 => ⟨S36421632, .i32⟩
  | 36 => ⟨S_, .i32⟩
  | 37 => ⟨S36421632, .i32⟩
  | 38 => ⟨S36421632, .i32⟩
  | 39 => ⟨S36421632, .bf16⟩
  | 40 => ⟨S36421632, .f32⟩
  | 41 => ⟨S_, .i32⟩
  | 42 => ⟨S36421632, .i32⟩
  | 43 => ⟨S36421632, .i32⟩
  | 44 => ⟨S_, .i32⟩
  | 45 => ⟨S36421632, .i32⟩
  | 46 => ⟨S36421632, .i32⟩
  | 47 => ⟨S36421632, .bf16⟩
  | 48 => ⟨S36421632, .f32⟩
  | 49 => ⟨S36421632, .f32⟩
  | 50 => ⟨S36421632, .f32⟩
  | 51 => ⟨S_, .i32⟩
  | 52 => ⟨S36421632, .i32⟩
  | 53 => ⟨S36421632, .i32⟩
  | 54 => ⟨S_, .i32⟩
  | 55 => ⟨S36421632, .i32⟩
  | 56 => ⟨S36421632, .i32⟩
  | 57 => ⟨S36421632, .bf16⟩
  | 58 => ⟨S36421632, .f32⟩
  | 59 => ⟨S_, .i32⟩
  | 60 => ⟨S36421632, .i32⟩
  | 61 => ⟨S36421632, .i32⟩
  | 62 => ⟨S_, .i32⟩
  | 63 => ⟨S36421632, .i32⟩
  | 64 => ⟨S36421632, .i32⟩
  | 65 => ⟨S36421632, .bf16⟩
  | 66 => ⟨S36421632, .f32⟩
  | 67 => ⟨S36421632, .f32⟩
  | 68 => ⟨S36421632, .f32⟩
  | 69 => ⟨S_, .i32⟩
  | 70 => ⟨S36421632, .i32⟩
  | 71 => ⟨S36421632, .i32⟩
  | 72 => ⟨S_, .i32⟩
  | 73 => ⟨S36421632, .i32⟩
  | 74 => ⟨S36421632, .i32⟩
  | 75 => ⟨S36421632, .bf16⟩
  | 76 => ⟨S36421632, .f32⟩
  | 77 => ⟨S_, .i32⟩
  | 78 => ⟨S36421632, .i32⟩
  | 79 => ⟨S36421632, .i32⟩
  | 80 => ⟨S_, .i32⟩
  | 81 => ⟨S36421632, .i32⟩
  | 82 => ⟨S36421632, .i32⟩
  | 83 => ⟨S36421632, .bf16⟩
  | 84 => ⟨S36421632, .f32⟩
  | 85 => ⟨S36421632, .f32⟩
  | 86 => ⟨S36421632, .f32⟩
  | 87 => ⟨S_, .i32⟩
  | 88 => ⟨S36421632, .i32⟩
  | 89 => ⟨S36421632, .i32⟩
  | 90 => ⟨S36421632x1, .i32⟩
  | 91 => ⟨S36421632, .i32⟩
  | 92 => ⟨S36421632, .f32⟩
  | 93 => ⟨S_, .i32⟩
  | 94 => ⟨S36421632, .i32⟩
  | 95 => ⟨S36421632, .i32⟩
  | 96 => ⟨S36421632x1, .i32⟩
  | 97 => ⟨S36421632, .i32⟩
  | 98 => ⟨S36421632, .f32⟩
  | 99 => ⟨S1916928, .i32⟩
  | 100 => ⟨S_, .i32⟩
  | 101 => ⟨S1916928, .i32⟩
  | 102 => ⟨S1916928, .i32⟩
  | 103 => ⟨S_, .i32⟩
  | 104 => ⟨S1916928, .i32⟩
  | 105 => ⟨S1916928, .i32⟩
  | 106 => ⟨S1916928, .i32⟩
  | 107 => ⟨S1916928x1, .i32⟩
  | 108 => ⟨S1916928, .f32⟩
  | 109 => ⟨S1916928, .f32⟩
  | 110 => ⟨S36421632, .f32⟩
  | 111 => ⟨S36421632, .f32⟩
  | 112 => ⟨S36421632, .f32⟩
  | 113 => ⟨S36421632, .f32⟩
  | 114 => ⟨S39x49152, .f32⟩
  | 115 => ⟨S_, .f32⟩
  | 116 => ⟨S49152, .f32⟩
  | _ => ⟨S6862752, .i32⟩

abbrev hbmTy (i : Nat) : BufTy := match i / 128 with
  | 0 => hbmTy0_0 i
  | 1 => hbmTy0_1 i
  | _ => ⟨S6862752, .i32⟩

abbrev bufTy : (tb : Table) → Fin (tcTables nBuf tb) → BufTy
  | .hbm, ⟨i, _⟩ => hbmTy i
  | _, _ => ⟨S6862752, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_c_1 : Ref sig .tc := ⟨.hbm, 7, rfl⟩
abbrev main_v1 : Ref sig .tc := ⟨.hbm, 8, rfl⟩
abbrev main_v2 : Ref sig .tc := ⟨.hbm, 9, rfl⟩
abbrev main_c_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst : Ref sig .tc := ⟨.hbm, 49, rfl⟩
abbrev main_v35 : Ref sig .tc := ⟨.hbm, 50, rfl⟩
abbrev main_c_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_11 : Ref sig .tc := ⟨.hbm, 61, rfl⟩
abbrev main_v44 : Ref sig .tc := ⟨.hbm, 62, rfl⟩
abbrev main_v45 : Ref sig .tc := ⟨.hbm, 63, rfl⟩
abbrev main_c_12 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_13 : Ref sig .tc := ⟨.hbm, 69, rfl⟩
abbrev main_v50 : Ref sig .tc := ⟨.hbm, 70, rfl⟩
abbrev main_v51 : Ref sig .tc := ⟨.hbm, 71, rfl⟩
abbrev main_c_14 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_15 : Ref sig .tc := ⟨.hbm, 79, rfl⟩
abbrev main_v58 : Ref sig .tc := ⟨.hbm, 80, rfl⟩
abbrev main_v59 : Ref sig .tc := ⟨.hbm, 81, rfl⟩
abbrev main_c_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_17 : Ref sig .tc := ⟨.hbm, 87, rfl⟩
abbrev main_v64 : Ref sig .tc := ⟨.hbm, 88, rfl⟩
abbrev main_v65 : Ref sig .tc := ⟨.hbm, 89, rfl⟩
abbrev main_c_18 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_19 : Ref sig .tc := ⟨.hbm, 97, rfl⟩
abbrev main_v72 : Ref sig .tc := ⟨.hbm, 98, rfl⟩
abbrev main_v73 : Ref sig .tc := ⟨.hbm, 99, rfl⟩
abbrev main_c_20 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_c_21 : Ref sig .tc := ⟨.hbm, 105, rfl⟩
abbrev main_v78 : Ref sig .tc := ⟨.hbm, 106, rfl⟩
abbrev main_v79 : Ref sig .tc := ⟨.hbm, 107, rfl⟩
abbrev main_c_22 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c_23 : Ref sig .tc := ⟨.hbm, 115, rfl⟩
abbrev main_v86 : Ref sig .tc := ⟨.hbm, 116, rfl⟩
abbrev main_v87 : Ref sig .tc := ⟨.hbm, 117, rfl⟩
abbrev main_c_24 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_c_25 : Ref sig .tc := ⟨.hbm, 123, rfl⟩
abbrev main_v92 : Ref sig .tc := ⟨.hbm, 124, rfl⟩
abbrev main_v93 : Ref sig .tc := ⟨.hbm, 125, rfl⟩
abbrev main_c_26 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_c_27 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_c_28 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_29 : Ref sig .tc := ⟨.hbm, 143, rfl⟩
abbrev main_v108 : Ref sig .tc := ⟨.hbm, 144, rfl⟩
abbrev main_v109 : Ref sig .tc := ⟨.hbm, 145, rfl⟩
abbrev main_c_30 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_c_31 : Ref sig .tc := ⟨.hbm, 151, rfl⟩
abbrev main_v114 : Ref sig .tc := ⟨.hbm, 152, rfl⟩
abbrev main_v115 : Ref sig .tc := ⟨.hbm, 153, rfl⟩
abbrev main_c_32 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_c_33 : Ref sig .tc := ⟨.hbm, 161, rfl⟩
abbrev main_v122 : Ref sig .tc := ⟨.hbm, 162, rfl⟩
abbrev main_v123 : Ref sig .tc := ⟨.hbm, 163, rfl⟩
abbrev main_c_34 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_c_35 : Ref sig .tc := ⟨.hbm, 169, rfl⟩
abbrev main_v128 : Ref sig .tc := ⟨.hbm, 170, rfl⟩
abbrev main_v129 : Ref sig .tc := ⟨.hbm, 171, rfl⟩
abbrev main_c_36 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_c_37 : Ref sig .tc := ⟨.hbm, 179, rfl⟩
abbrev main_v136 : Ref sig .tc := ⟨.hbm, 180, rfl⟩
abbrev main_v137 : Ref sig .tc := ⟨.hbm, 181, rfl⟩
abbrev main_c_38 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_c_39 : Ref sig .tc := ⟨.hbm, 187, rfl⟩
abbrev main_v142 : Ref sig .tc := ⟨.hbm, 188, rfl⟩
abbrev main_v143 : Ref sig .tc := ⟨.hbm, 189, rfl⟩
abbrev main_c_40 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_c_41 : Ref sig .tc := ⟨.hbm, 197, rfl⟩
abbrev main_v150 : Ref sig .tc := ⟨.hbm, 198, rfl⟩
abbrev main_v151 : Ref sig .tc := ⟨.hbm, 199, rfl⟩
abbrev main_c_42 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_c_43 : Ref sig .tc := ⟨.hbm, 205, rfl⟩
abbrev main_v156 : Ref sig .tc := ⟨.hbm, 206, rfl⟩
abbrev main_v157 : Ref sig .tc := ⟨.hbm, 207, rfl⟩
abbrev main_c_44 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_c_45 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_c_46 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_c_47 : Ref sig .tc := ⟨.hbm, 228, rfl⟩
abbrev main_v175 : Ref sig .tc := ⟨.hbm, 229, rfl⟩
abbrev main_v176 : Ref sig .tc := ⟨.hbm, 230, rfl⟩
abbrev main_c_48 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_cst_49 : Ref sig .tc := ⟨.hbm, 243, rfl⟩
abbrev main_v188 : Ref sig .tc := ⟨.hbm, 244, rfl⟩

abbrev nD : Nat := 1
abbrev τ : Topo := Topo.v7x

variable {F : FTy → Type} [FloatOps F]
-- ==== Proof.KernelIdealBase.lean ====
module

public import proofs.«01_k».proof.Proof.Gen.KernelIdeal
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Tactic

@[expose] public section

noncomputable section

/-!
# Copies of one tile, one statement at a time

A tile issues many local copies on one semaphore before it waits for any of them. The lemmas here take one such
statement each: what it needs, and what is held after it.
-/

namespace Cert.ScKernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch)

variable {F : FTy → Type} [FloatOps F]

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EC : UEmb Counters (MT nD τ sig (HIx 1) (Elt F) ℕ UU ℕ) := countersEmb (U := UU)

/-- The vector core and the subcore of a tile. -/
abbrev cV (L : grid0.Coords) : Fin τ.nSC := (L 0).castLE hcore0
abbrev jV (L : grid0.Coords) : Fin τ.nSub := (L 1).castLE hsub0
/-- The thread of a tile. -/
abbrev thr (d : Dev nD) (L : grid0.Coords) : Thread nD τ := V d (cV L) (jV L)

/-! ## Stretches of a one-dimensional array -/

/-- The `n` places from `a` on of an array of length `N`. -/
def seg {N : ℕ} (a n : ℕ) : Finset (Shape.Idx ⟨1, ![N]⟩) :=
  Finset.univ.filter fun i => a ≤ (i 0).val ∧ (i 0).val < a + n

theorem mem_seg {N a n : ℕ} {i : Shape.Idx ⟨1, ![N]⟩} : i ∈ seg a n ↔ a ≤ (i 0).val ∧ (i 0).val < a + n := by
  simp [seg]

/-- A stretch is two stretches, one behind the other. -/
theorem seg_add {N a n k : ℕ} : (seg a (n + k) : Finset (Shape.Idx ⟨1, ![N]⟩)) = seg a n ∪ seg (a + n) k := by
  ext i; simp only [mem_seg, Finset.mem_union]; omega

theorem seg_disjoint {N a n b k : ℕ} (h : a + n ≤ b) : Disjoint (seg a n : Finset (Shape.Idx ⟨1, ![N]⟩)) (seg b k) := by
  rw [Finset.disjoint_left]; intro i h1 h2; rw [mem_seg] at h1 h2; omega

theorem seg_univ {N : ℕ} : (seg 0 N : Finset (Shape.Idx ⟨1, ![N]⟩)) = Finset.univ := by
  ext i
  have h : (i 0).val < N := (i 0).isLt
  simp only [mem_seg, Finset.mem_univ, iff_true]; omega

/-- The set of a one-dimensional window at unit stride. -/
theorem unit_set {N m : ℕ} (off : Fin 1 → ℕ) (inb) :
    (Rect.unit (s := ⟨1, ![N]⟩) off ![m] inb).set = seg (off 0) m := by
  ext i
  rw [Rect.mem_set_unit, mem_seg]
  constructor
  · intro h; exact h 0
  · intro h a; have := Fin.eq_zero a; subst this; exact h

theorem unit_emb {N m : ℕ} (off : Fin 1 → ℕ) (inb) (x : Shape.Idx ⟨1, ![m]⟩) :
    (((Rect.unit (s := ⟨1, ![N]⟩) off ![m] inb).emb x) 0).val = off 0 + (x 0).val := by
  show off 0 + 1 * (x 0).val = _
  omega

/-- The array read at `n`, around its end. -/
def rd {N : ℕ} {α : Type} [NeZero N] (f : Shape.Idx ⟨1, ![N]⟩ → α) (n : ℕ) : α := f fun a => ⟨n % N, by rw [Fin.eq_zero a]; exact Nat.mod_lt _ (NeZero.pos N)⟩

theorem rd_val {N : ℕ} {α : Type} [NeZero N] (f : Shape.Idx ⟨1, ![N]⟩ → α) (i : Shape.Idx ⟨1, ![N]⟩) {n : ℕ} (h : (i 0).val = n) :
    rd f n = f i := by
  unfold rd
  congr 1
  funext a
  have := Fin.eq_zero a; subst this
  apply Fin.ext
  show n % N = (i 0).val
  rw [← h]; exact Nat.mod_eq_of_lt (i 0).isLt

/-! ## Statements that copy -/

section Steps

variable {α : Type} (d : Dev nD) (L : grid0.Coords)

/-- A share of an array is halved. -/
theorem halve {ℓ : Loc nD τ sig} {I : Finset (Idx ℓ)} {f : Buf (Elt F) ℓ} :
    (iprop(∃ q, ℓ ↦[I]{q} f) : sProp 𝕄) ⊢ iprop((∃ q, ℓ ↦[I]{q} f) ∗ (∃ q, ℓ ↦[I]{q} f)) := by
  iintro ⟨%q, H⟩
  ihave H' := (pointsTo_share (PosShare.mem_left_op_right q)).1 $$ H
  icases H' with ⟨H1, H2⟩
  isplitl [H1]
  · iexists _; iexact H1
  · iexists _; iexact H2

/-- A copy into tile memory from an array of which some share is held: the batch's next copy, its delivery the
    destination at the stated contents. -/
theorem issue_in {s : Shape} {e : EltTy} {n : ℕ} {src : Memref sig .scVector .hbm s e} {dst : Memref sig .scVector .vmem s e}
    {sm : DmaSem sig} {hsrc : src.view.WordExact} {hdst : dst.view.WordExact}
    {hsem : DmaTarget.Typed (nD := nD) (p := (thr d L).2) .hbm (.dma sm) (.here dst)}
    {k : PUnit → Prog (TpuEff nD τ sig (Elt F) Λ₀ (thr d L).2) α}
    {fs : Buf (Elt F) (src.view.loc (thr d L))} {fc : Buf (Elt F) (dst.view.loc (thr d L))}
    {Sd : Finset (Idx (dst.view.loc (thr d L)))} {Dl : Fin n → sProp 𝕄} {j N : ℕ} (hN : dst.view.amount (.dma sm) = N)
    (hj : j < n) (hset : dst.view.set = Sd)
    (hv : ∀ x, dst.view.read (Elt F) fc x = src.view.read (Elt F) fs x)
    (hD : (dst.view.loc (thr d L) ↦[Sd]{fullShare} fc : sProp 𝕄) ⊢ Dl ⟨j, hj⟩) {Q : α → sProp 𝕄} :
    iprop((∃ q, src.view.loc (thr d L) ↦{q} fs) ∗ (∃ f, dst.view.loc (thr d L) ↦[Sd]{fullShare} f)
        ∗ Batch EC (thr d L) (.dma sm) (none : HIx 1) N Dl j 0)
      ⊢ iprop((iprop((∃ q, src.view.loc (thr d L) ↦{q} fs) ∗ Batch EC (thr d L) (.dma sm) (none : HIx 1) N Dl (j + 1) 0)
            -∗ wp frame (wpE (defs₀ (F := F)) 𝒱₀ (thr d L) none) Set.univ (k ⟨⟩) Q)
          -∗ wp frame (wpE (defs₀ (F := F)) 𝒱₀ (thr d L) none) Set.univ
              (.op (.enqueueDma src (.here dst) (.dma sm) hsrc hdst hsem) k) Q) := by
  subst hset
  iintro ⟨Hs, ⟨%fd, Hd⟩, HB⟩ Hk
  ihave Hs' := halve $$ Hs
  icases Hs' with ⟨⟨%q, Hs1⟩, Hs2⟩
  ihave Hs1' := (pointsTo_split_subset (Finset.subset_univ src.view.set)).1 $$ Hs1
  icases Hs1' with ⟨Hs1, -⟩
  iapply (Transfers.wp_dmaBatch EC 𝒱₀ (thr d L) none (src := src) (via := ReadAs.same) (dst := dst) (none : HIx 1) N hN subset_rfl
    (D := Dl) (j := j) (u := 0) hj (Nat.zero_le _) (fs := fs) (fd := fd) (q := q) (by
      iintro ⟨H, -⟩
      iapply hD
      iapply (Entails.of_eq (pointsTo_congr (fun i hi => by
        obtain ⟨x, -, rfl⟩ := Finset.mem_map.mp hi
        rw [View.write_emb_of_mem _ _ (Finset.mem_univ x)]
        have h := hv x
        rw [View.read_apply] at h
        show _ = fc (dst.view.emb x)
        rw [show (ReadAs.same (Val := Elt F)).apply (src.view.read (Elt F) fs) x = src.view.read (Elt F) fs x from rfl, ← h, cast_cast, cast_eq]))) $$ H)) $$ [Hs1 Hd HB]
  · isplitl [Hs1]; · iexact Hs1
    isplitl [Hd]; · iexact Hd
    iexact HB
  iintro HB
  iapply Hk
  isplitl [Hs2]; · iexact Hs2
  iexact HB

/-- A copy out of tile memory: the batch's next copy, its delivery the destination at the stated contents and the
    stretch of tile memory it left from. -/
theorem issue_out {s : Shape} {e : EltTy} {n : ℕ} {src : Memref sig .scVector .vmem s e} {dst : Memref sig .scVector .hbm s e}
    {sm : DmaSem sig} {hsrc : src.view.WordExact} {hdst : dst.view.WordExact}
    {hsem : DmaTarget.Typed (nD := nD) (p := (thr d L).2) .vmem (.dma sm) (.here dst)}
    {k : PUnit → Prog (TpuEff nD τ sig (Elt F) Λ₀ (thr d L).2) α}
    {fs : Buf (Elt F) (src.view.loc (thr d L))} {fc : Buf (Elt F) (dst.view.loc (thr d L))}
    {Ss : Finset (Idx (src.view.loc (thr d L)))} {Sd : Finset (Idx (dst.view.loc (thr d L)))} {Dl : Fin n → sProp 𝕄} {j N : ℕ} (hN : dst.view.amount (.dma sm) = N)
    (hj : j < n) (hsets : src.view.set = Ss) (hset : dst.view.set = Sd)
    (hv : ∀ x, dst.view.read (Elt F) fc x = src.view.read (Elt F) fs x)
    (hD : (iprop((dst.view.loc (thr d L) ↦[Sd]{fullShare} fc) ∗ (∃ f, src.view.loc (thr d L) ↦[Ss]{fullShare} f)) : sProp 𝕄) ⊢ Dl ⟨j, hj⟩) {Q : α → sProp 𝕄} :
    iprop((src.view.loc (thr d L) ↦[Ss]{fullShare} fs) ∗ (∃ f, dst.view.loc (thr d L) ↦[Sd]{fullShare} f)
        ∗ Batch EC (thr d L) (.dma sm) (none : HIx 1) N Dl j 0)
      ⊢ iprop((Batch EC (thr d L) (.dma sm) (none : HIx 1) N Dl (j + 1) 0
            -∗ wp frame (wpE (defs₀ (F := F)) 𝒱₀ (thr d L) none) Set.univ (k ⟨⟩) Q)
          -∗ wp frame (wpE (defs₀ (F := F)) 𝒱₀ (thr d L) none) Set.univ
              (.op (.enqueueDma src (.here dst) (.dma sm) hsrc hdst hsem) k) Q) := by
  subst hset hsets
  iintro ⟨Hs, ⟨%fd, Hd⟩, HB⟩ Hk
  iapply (Transfers.wp_dmaBatch EC 𝒱₀ (thr d L) none (src := src) (via := ReadAs.same) (dst := dst) (none : HIx 1) N hN subset_rfl
    (D := Dl) (j := j) (u := 0) hj (Nat.zero_le _) (fs := fs) (fd := fd) (q := fullShare) (by
      iintro ⟨H, Hs⟩
      iapply hD
      isplitl [H]
      · iapply (Entails.of_eq (pointsTo_congr (fun i hi => by
          obtain ⟨x, -, rfl⟩ := Finset.mem_map.mp hi
          rw [View.write_emb_of_mem _ _ (Finset.mem_univ x)]
          have h := hv x
          rw [View.read_apply] at h
          show _ = fc (dst.view.emb x)
          rw [show (ReadAs.same (Val := Elt F)).apply (src.view.read (Elt F) fs) x = src.view.read (Elt F) fs x from rfl, ← h, cast_cast, cast_eq]))) $$ H
      · iexists _; iexact Hs)) $$ [Hs Hd HB]
  · isplitl [Hs]; · iexact Hs
    isplitl [Hd]; · iexact Hd
    iexact HB
  iintro HB
  iapply Hk
  iexact HB

/-! ## Statements that wait -/

variable (O : CellTallies nD τ sig (HIx 1)) (W : Waits sig (HIx 1))

/-- What the tile owes, its recorded waits only grown by waits on its own cells. -/
def Ow : sProp 𝕄 := iprop(∃ W', ⌜∀ p ∈ W', p ∈ W ∨ p.2 = none ∨ p.2 = some (0 : Fin 1)⌝ ∗ owes (thr d L) O W')

theorem insert_none {W W' : Waits sig (HIx 1)} {sm : SemLoc sig} (h : ∀ p ∈ W', p ∈ W ∨ p.2 = none ∨ p.2 = some (0 : Fin 1)) :
    ∀ p ∈ insert (sm, (none : HIx 1)) W', p ∈ W ∨ p.2 = none ∨ p.2 = some (0 : Fin 1) := by
  intro p hp
  rcases Finset.mem_insert.mp hp with rfl | hp
  · exact Or.inr (Or.inl rfl)
  · exact h p hp

variable {O W}

theorem wait_mid (hO : ∀ g, O g none = 0) {s s' : Shape} {e e' : EltTy} {sp sp' : Space} {n : ℕ} {sem : DmaSem sig}
    {srcw : Memref sig .scVector sp' s' e'} {dstw : Memref sig .scVector sp s e} {hsrc : srcw.view.WordExact} {hdst : dstw.view.WordExact}
    {k : PUnit → Prog (TpuEff nD τ sig (Elt F) Λ₀ (thr d L).2) α} {N : ℕ} (hN : dstw.view.dmaCredit = N)
    {Dl : Fin n → sProp 𝕄} {u : ℕ} (hu : u + N < N * n) {Q : α → sProp 𝕄} :
    iprop(levAts (K (F := F)).L (K (F := F)).lev ∗ Ow (F := F) d L O W ∗ Batch EC (thr d L) (.dma sem) (none : HIx 1) N Dl n u)
      ⊢ iprop((iprop(Ow (F := F) d L O W ∗ Batch EC (thr d L) (.dma sem) (none : HIx 1) N Dl n (u + N))
            -∗ wp frame (wpE (defs₀ (F := F)) 𝒱₀ (thr d L) none) Set.univ (k ⟨⟩) Q)
          -∗ wp frame (wpE (defs₀ (F := F)) 𝒱₀ (thr d L) none) Set.univ (.op (.waitDma2 sem srcw dstw hsrc hdst) k) Q) := by
  unfold Ow
  iintro ⟨Hlv, ⟨%W', %hW, HO⟩, HB⟩ Hk
  ihave Hmw := ((K (F := F)).mayWait_none (thr := thr d L) (SemLoc.dma sem) hO) $$ Hlv
  iapply (Transfers.wp_waitBatchO EC 𝒱₀ (thr d L) none (none : HIx 1) hN hu) $$ [HB HO Hmw]
  · isplitl [HB]; · iexact HB
    isplitl [HO]; · iexact HO
    iexact Hmw
  iintro ⟨HB, HO⟩
  iapply Hk
  isplitl [HO]
  · iexists (insert (SemLoc.dma sem, (none : HIx 1)) W')
    isplitr
    · ipureintro; exact insert_none hW
    · iexact HO
  · iexact HB

theorem wait_last (hO : ∀ g, O g none = 0) {s s' : Shape} {e e' : EltTy} {sp sp' : Space} {n : ℕ} {sem : DmaSem sig}
    {srcw : Memref sig .scVector sp' s' e'} {dstw : Memref sig .scVector sp s e} {hsrc : srcw.view.WordExact} {hdst : dstw.view.WordExact}
    {k : PUnit → Prog (TpuEff nD τ sig (Elt F) Λ₀ (thr d L).2) α} {N : ℕ} (hN : dstw.view.dmaCredit = N) (hN0 : 0 < N)
    {Dl : Fin n → sProp 𝕄} {u : ℕ} (hu : u + N = N * n) {Q : α → sProp 𝕄} :
    iprop(levAts (K (F := F)).L (K (F := F)).lev ∗ Ow (F := F) d L O W ∗ Batch EC (thr d L) (.dma sem) (none : HIx 1) N Dl n u)
      ⊢ iprop((iprop(Ow (F := F) d L O W ∗ bigSep Finset.univ Dl ∗ semVal (thr d L, .dma sem) 0)
            -∗ wp frame (wpE (defs₀ (F := F)) 𝒱₀ (thr d L) none) Set.univ (k ⟨⟩) Q)
          -∗ wp frame (wpE (defs₀ (F := F)) 𝒱₀ (thr d L) none) Set.univ (.op (.waitDma2 sem srcw dstw hsrc hdst) k) Q) := by
  unfold Ow
  iintro ⟨Hlv, ⟨%W', %hW, HO⟩, HB⟩ Hk
  ihave Hmw := ((K (F := F)).mayWait_none (thr := thr d L) (SemLoc.dma sem) hO) $$ Hlv
  iapply (Transfers.wp_waitBatchLastO EC 𝒱₀ (thr d L) none (none : HIx 1) hN hN0 hu) $$ [HB HO Hmw]
  · isplitl [HB]; · iexact HB
    isplitl [HO]; · iexact HO
    iexact Hmw
  iintro ⟨HD, Hv, HO⟩
  iapply Hk
  isplitl [HO]
  · iexists (insert (SemLoc.dma sem, (none : HIx 1)) W')
    isplitr
    · ipureintro; exact insert_none hW
    · iexact HO
  isplitl [HD]; · iexact HD
  iexact Hv

end Steps

/-! ## Stretches held -/

section Held

variable {N : ℕ} {ℓ : Loc nD τ sig}

/-- A stretch held is its first part and the rest. -/
theorem held_split {q : PosShare TreeShare} {S S₁ S₂ : Finset (Idx ℓ)} {f : Buf (Elt F) ℓ} (h : S = S₁ ∪ S₂) (hd : Disjoint S₁ S₂) :
    (ℓ ↦[S]{q} f : sProp 𝕄) ⊢ iprop((ℓ ↦[S₁]{q} f) ∗ ℓ ↦[S₂]{q} f) := by
  subst h; exact (pointsTo_union hd).1

theorem held_join {q : PosShare TreeShare} {S S₁ S₂ : Finset (Idx ℓ)} {f : Buf (Elt F) ℓ} (h : S = S₁ ∪ S₂) (hd : Disjoint S₁ S₂) :
    (iprop((ℓ ↦[S₁]{q} f) ∗ ℓ ↦[S₂]{q} f) : sProp 𝕄) ⊢ ℓ ↦[S]{q} f := by
  subst h; exact (pointsTo_union hd).2

theorem held_split_ex {q : PosShare TreeShare} {S S₁ S₂ : Finset (Idx ℓ)} (h : S = S₁ ∪ S₂) (hd : Disjoint S₁ S₂) :
    (iprop(∃ f, ℓ ↦[S]{q} f) : sProp 𝕄) ⊢ iprop((∃ f, ℓ ↦[S₁]{q} f) ∗ ∃ f, ℓ ↦[S₂]{q} f) := by
  iintro ⟨%f, H⟩
  ihave H' := (held_split (f := f) h hd) $$ H
  icases H' with ⟨H1, H2⟩
  isplitl [H1]
  · iexists _; iexact H1
  · iexists _; iexact H2

theorem held_join_ex {q : PosShare TreeShare} {S S₁ S₂ : Finset (Idx ℓ)} (h : S = S₁ ∪ S₂) (hd : Disjoint S₁ S₂) :
    (iprop((∃ f, ℓ ↦[S₁]{q} f) ∗ ∃ f, ℓ ↦[S₂]{q} f) : sProp 𝕄) ⊢ iprop(∃ f, ℓ ↦[S]{q} f) := by
  subst h
  iintro ⟨⟨%f, H1⟩, ⟨%g, H2⟩⟩
  iexists _
  iapply (pointsTo_join hd) $$ [H1 H2]
  isplitl [H1] <;> iassumption

end Held

end Cert.ScKernelIdeal

end
-- ==== Proof.FieldTables.lean ====
module

public import Idealize.ShloMosaic.PureOps

@[expose] public section

/-!
# The tables of fields, blocks and pairs

The 39 fields are taken three at a time, 13 blocks; the 78 pairs of blocks i < j are the rectangles, each 48 chunks of
1024 tokens, 3744 units in all. Everything here is arithmetic of natural numbers.
-/

namespace Cert.FieldTables

/-- The first block of rectangle `r`: how many of the thresholds 12, 23, 33, … are at most `r`. -/
def blkI (r : ℕ) : ℕ :=
  (if 12 ≤ r then 1 else 0) + (if 23 ≤ r then 1 else 0) + (if 33 ≤ r then 1 else 0) + (if 42 ≤ r then 1 else 0)
    + (if 50 ≤ r then 1 else 0) + (if 57 ≤ r then 1 else 0) + (if 63 ≤ r then 1 else 0) + (if 68 ≤ r then 1 else 0)
    + (if 72 ≤ r then 1 else 0) + (if 75 ≤ r then 1 else 0) + (if 77 ≤ r then 1 else 0)

/-- The second block of rectangle `r`. -/
def blkJ (r : ℕ) : ℕ := blkI r + 1 + r - (12 * blkI r - blkI r * (blkI r - 1) / 2)

/-- The field of row `kk` of rectangle `r`'s six: three of the first block, three of the second. -/
def fld (r kk : ℕ) : ℕ := if kk < 3 then 3 * blkI r + kk else 3 * blkJ r + (kk - 3)

/-- Where unit `u`'s chunk of its row `kk` starts in the transposed indices (and values). -/
def inOff (u kk : ℕ) : ℕ := fld (u / 48) kk * 49152 + u % 48 * 1024

/-- The row of the pair (f, g), f < g, in the list of pairs. -/
def pairRow (f g : ℕ) : ℕ := 38 * f - f * (f - 1) / 2 + g - f - 1

/-- Where the table of slot `q` of rectangle `r` starts: slot 3a + b is field 3i + a's table for 3j + b, slot 9 + 3a + b the other way round. -/
def tabOff (r q : ℕ) : ℕ :=
  if q < 9 then (fld r (q / 3) * 39 + fld r (3 + q % 3)) * 4512 else (fld r (3 + (q - 9) % 3) * 39 + fld r ((q - 9) / 3)) * 4512

/-- Where unit `u`'s chunk of its pair `q` starts in the pair result. -/
def outOff (u q : ℕ) : ℕ := pairRow (fld (u / 48) (q / 3)) (fld (u / 48) (3 + q % 3)) * 49152 + u % 48 * 1024

end Cert.FieldTables
-- ==== Proof.KernelIdealState.lean ====
module

public import proofs.«01_k».proof.Proof.KernelIdealBase
public import proofs.«01_k».proof.Proof.FieldTables

@[expose] public section

noncomputable section

/-!
# What a tile holds while it copies

The arrays of the call and the tile's own memory, what each stretch of tile memory holds once its copy has arrived, and
the copies of one batch, statement by statement.
-/

namespace Cert.ScKernelIdeal

open Cert.KernelIdeal Cert.KernelIdeal.Gen Cert.FieldTables
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch)

variable {F : FTy → Type} [FloatOps F]

local notation "𝕄" => MT nD τ sig (HIx 1) (Elt F) ℕ UU ℕ

/-! ## The arrays -/

abbrev gT : Memref sig .scVector .hbm S6862752 .i32 := .whole main_arg0_scv
abbrev gI : Memref sig .scVector .hbm S1916928 .i32 := .whole main_arg1_scv
abbrev gX : Memref sig .scVector .hbm S1916928 .f32 := .whole main_arg2_scv
abbrev gW : Memref sig .scVector .hbm S58656 .f32 := .whole main_arg3_scv
abbrev gP : Memref sig .scVector .hbm S36421632 .f32 := .whole main_v0_0_scv
abbrev gL : Memref sig .scVector .hbm S49152 .f32 := .whole main_v0_1_scv
abbrev sT : Memref sig .scVector .vmem S81280 .i32 := .whole cc0_scratch0
abbrev sW : Memref sig .scVector .vmem S4608 .f32 := .whole cc0_scratch1
abbrev sI : Memref sig .scVector .vmem S12288 .i32 := .whole cc0_scratch2
abbrev sX : Memref sig .scVector .vmem S12288 .f32 := .whole cc0_scratch3
abbrev sO : Memref sig .scVector .vmem S18432 .f32 := .whole cc0_scratch4
abbrev sL : Memref sig .scVector .vmem S1536 .f32 := .whole cc0_scratch5

/-- The semaphore of the tables. -/
abbrev mT : DmaSem sig := ((cc0_scratch6.slice (Rect.unit (s := S1) ![0] S1.size inb_S1_S1_0)).squeeze S_ squeezes_S1_S_).sem
/-- The semaphore of the reads of the units of parity `p`. -/
def mI (p : Fin 2) : DmaSem sig := ((cc0_scratch7.slice (Rect.unit (s := S2) ![p.val] S1.size (by intro a; rw [Fin.eq_zero a]; show p.val + 1 ≤ 2; omega))).squeeze S_ squeezes_S1_S_).sem
/-- The semaphore of the writes of the units of parity `p`. -/
def mO (p : Fin 2) : DmaSem sig := ((cc0_scratch8.slice (Rect.unit (s := S2) ![p.val] S1.size (by intro a; rw [Fin.eq_zero a]; show p.val + 1 ≤ 2; omega))).squeeze S_ squeezes_S1_S_).sem
abbrev mTd : DmaSem sig := ((cc0_scratch9.slice (Rect.unit (s := S1) ![0] S1.size inb_S1_S1_0)).squeeze S_ squeezes_S1_S_).sem
abbrev mId : DmaSem sig := ((cc0_scratch10.slice (Rect.unit (s := S1) ![0] S1.size inb_S1_S1_0)).squeeze S_ squeezes_S1_S_).sem
abbrev mOd : DmaSem sig := ((cc0_scratch11.slice (Rect.unit (s := S1) ![0] S1.size inb_S1_S1_0)).squeeze S_ squeezes_S1_S_).sem

/-- A semaphore named by an offset is the one of its parity. -/
theorem mI_eq (p : Fin 2) (off : Fin 1 → ℕ) (inb) (h : off 0 = p.val) :
    ((cc0_scratch7.slice (Rect.unit (s := S2) off S1.size inb)).squeeze S_ squeezes_S1_S_).sem = mI p := by
  obtain rfl : off = ![p.val] := by funext a; rw [Fin.eq_zero a]; exact h
  rfl
theorem mO_eq (p : Fin 2) (off : Fin 1 → ℕ) (inb) (h : off 0 = p.val) :
    ((cc0_scratch8.slice (Rect.unit (s := S2) off S1.size inb)).squeeze S_ squeezes_S1_S_).sem = mO p := by
  obtain rfl : off = ![p.val] := by funext a; rw [Fin.eq_zero a]; exact h
  rfl

/-! ## What the copies bring -/

section Contents

variable (tab : Vec F S6862752 .i32) (idx : Vec F S1916928 .i32) (xs : Vec F S1916928 .f32) (w : Vec F S58656 .f32)
variable (PV : Vec F S36421632 .f32) (LV : Vec F S49152 .f32)

instance : NeZero 6862752 := ⟨by decide⟩
instance : NeZero 1916928 := ⟨by decide⟩
instance : NeZero 58656 := ⟨by decide⟩
instance : NeZero 36421632 := ⟨by decide⟩
instance : NeZero 49152 := ⟨by decide⟩

/-- Rectangle `r`'s 18 tables. -/
def tabC (r : ℕ) : Vec F S81280 .i32 := fun i => rd (N := 6862752) tab (tabOff r ((i 0).val / 4512) + (i 0).val % 4512)
/-- Unit `u`'s six chunks of a token-major array. -/
def chunkC {α : Type} (f : Shape.Idx ⟨1, ![1916928]⟩ → α) (u : ℕ) : Shape.Idx ⟨1, ![12288]⟩ → α :=
  fun i => rd (N := 1916928) f (inOff u ((i 0).val % 6144 / 1024) + (i 0).val % 1024)
/-- Unit `u`'s nine chunks of the result. -/
def outC (u : ℕ) : Vec F S18432 .f32 := fun i => rd (N := 36421632) PV (outOff u ((i 0).val % 9216 / 1024) + (i 0).val % 1024)

/-- The fields, within a block, of the block's six tables in their order. -/
def dfst (t : ℕ) : ℕ := if t = 0 then 0 else if t = 1 then 1 else if t = 2 then 0 else if t = 3 then 2 else if t = 4 then 1 else 2
def dsnd (t : ℕ) : ℕ := if t = 0 then 1 else if t = 1 then 0 else if t = 2 then 2 else if t = 3 then 0 else if t = 4 then 2 else 1
def dtabOff (k t : ℕ) : ℕ := ((3 * k + dfst t) * 39 + (3 * k + dsnd t)) * 4512
def dinOff (wd k r : ℕ) : ℕ := (3 * k + r) * 49152 + 1536 * wd
/-- Where the tile's chunk of the block's pair `q` starts in the pair result. -/
def doutOff (wd k q : ℕ) : ℕ := pairRow (3 * k + dfst (2 * q)) (3 * k + dsnd (2 * q)) * 49152 + 1536 * wd

/-- Block `k`'s six tables. -/
def dtabC (k : ℕ) : Vec F S81280 .i32 := fun i => rd (N := 6862752) tab (dtabOff k ((i 0).val / 4512) + (i 0).val % 4512)
/-- Block `k`'s linear weights. -/
def dwC (k : ℕ) : Vec F S4608 .f32 := fun i => rd (N := 58656) w (4512 * k + (i 0).val)
/-- The tile's three chunks of a token-major array for block `k`. -/
def dchunkC {α : Type} (f : Shape.Idx ⟨1, ![1916928]⟩ → α) (wd k : ℕ) : Shape.Idx ⟨1, ![12288]⟩ → α :=
  fun i => rd (N := 1916928) f (dinOff wd k ((i 0).val / 1536) + (i 0).val % 1536)
/-- The tile's three chunks of the result for block `k`. -/
def docC (wd k : ℕ) : Vec F S18432 .f32 := fun i => rd (N := 36421632) PV (doutOff wd k ((i 0).val / 1536) + (i 0).val % 1536)
/-- The tile's chunk of the linear result. -/
def linC (wd : ℕ) : Vec F S1536 .f32 := fun i => rd (N := 49152) LV (1536 * wd + (i 0).val)

end Contents

/-- A stretch cut in two. -/
theorem seg_cut {N a n m b k : ℕ} (hb : b = a + m) (hn : n = m + k) :
    (seg a n : Finset (Shape.Idx ⟨1, ![N]⟩)) = seg a m ∪ seg b k := by subst hb hn; exact seg_add

/-! ## Reads and writes, one statement at a time -/

section Copies

variable {α : Type} (d : Dev nD) (L : grid0.Coords)
variable (tab : Vec F S6862752 .i32) (idx : Vec F S1916928 .i32) (xs : Vec F S1916928 .f32) (w : Vec F S58656 .f32)
variable (PV : Vec F S36421632 .f32) (LV : Vec F S49152 .f32)

/-- Amounts of the copies of 1024, 1536 and 4512 places. -/
def nU : ℕ := (sI.slice (Rect.unit (s := S12288) ![0] S1024.size (by decide)) (fun _ => rfl)).view.dmaCredit
def nV : ℕ := (sI.slice (Rect.unit (s := S12288) ![0] S1536.size (by decide)) (fun _ => rfl)).view.dmaCredit
def nT : ℕ := (sT.slice (Rect.unit (s := S81280) ![0] S4512.size (by decide)) (fun _ => rfl)).view.dmaCredit
theorem nU_pos : 0 < nU := by decide
theorem nV_pos : 0 < nV := by decide
theorem nT_pos : 0 < nT := by decide

theorem inOff_lt {u kk : ℕ} (hu : u < 3744) (hk : kk < 6) : inOff u kk + 1024 ≤ 1916928 := by
  have h : ∀ r < 78, ∀ kk < 6, fld r kk ≤ 38 := by decide
  have := h (u / 48) (by omega) kk hk
  unfold inOff
  omega

/-- The reads of unit `u`, of parity `p`: indices and values by turns, row by row. -/
def DI (u : ℕ) (p : Fin 2) (t : Fin 12) : sProp 𝕄 :=
  if t.val % 2 = 0 then iprop(sI.view.loc (thr d L) ↦[seg (N := 12288) (6144 * p.val + 1024 * (t.val / 2)) 1024]{fullShare} chunkC idx u)
  else iprop(sX.view.loc (thr d L) ↦[seg (N := 12288) (6144 * p.val + 1024 * (t.val / 2)) 1024]{fullShare} chunkC xs u)

/-- The reads of rectangle `r`'s tables: the two tables of a pair by turns, pair by pair. -/
def DT (r : ℕ) (t : Fin 18) : sProp 𝕄 :=
  if t.val % 2 = 0 then iprop(sT.view.loc (thr d L) ↦[seg (N := 81280) (4512 * (t.val / 2)) 4512]{fullShare} tabC tab r)
  else iprop(sT.view.loc (thr d L) ↦[seg (N := 81280) (40608 + 4512 * (t.val / 2)) 4512]{fullShare} tabC tab r)

/-- The writes of unit `u`, of parity `p`. -/
def DO (u : ℕ) (p : Fin 2) (t : Fin 9) : sProp 𝕄 :=
  iprop((gP.view.loc (thr d L) ↦[seg (N := 36421632) (outOff u t.val) 1024]{fullShare} PV)
    ∗ ∃ f, sO.view.loc (thr d L) ↦[seg (N := 18432) (9216 * p.val + 1024 * t.val) 1024]{fullShare} f)

/-- The reads of block `k`'s six tables and weights. -/
def DTd (k : ℕ) (t : Fin 7) : sProp 𝕄 :=
  if t.val < 6 then iprop(sT.view.loc (thr d L) ↦[seg (N := 81280) (4512 * t.val) 4512]{fullShare} dtabC tab k)
  else iprop(sW.view.loc (thr d L) ↦[seg (N := 4608) 0 4512]{fullShare} dwC w k)

/-- The tile's reads for block `k`: indices and values by turns, row by row. -/
def DId (wd k : ℕ) (t : Fin 6) : sProp 𝕄 :=
  if t.val % 2 = 0 then iprop(sI.view.loc (thr d L) ↦[seg (N := 12288) (1536 * (t.val / 2)) 1536]{fullShare} dchunkC idx wd k)
  else iprop(sX.view.loc (thr d L) ↦[seg (N := 12288) (1536 * (t.val / 2)) 1536]{fullShare} dchunkC xs wd k)

/-- The tile's writes for block `k`. -/
def DOd (wd k : ℕ) (t : Fin 3) : sProp 𝕄 :=
  iprop((gP.view.loc (thr d L) ↦[seg (N := 36421632) (doutOff wd k t.val) 1536]{fullShare} PV)
    ∗ ∃ f, sO.view.loc (thr d L) ↦[seg (N := 18432) (1536 * t.val) 1536]{fullShare} f)

instance (u : ℕ) (p : Fin 2) (t : Fin 12) : Storable upEmb (DI d L idx xs u p t) := by unfold DI; split <;> infer_instance
instance (r : ℕ) (t : Fin 18) : Storable upEmb (DT d L tab r t) := by unfold DT; split <;> infer_instance
instance (u : ℕ) (p : Fin 2) (t : Fin 9) : Storable upEmb (DO d L PV u p t) := by unfold DO; infer_instance
instance (k : ℕ) (t : Fin 7) : Storable upEmb (DTd d L tab w k t) := by unfold DTd; split <;> infer_instance
instance (wd k : ℕ) (t : Fin 6) : Storable upEmb (DId d L idx xs wd k t) := by unfold DId; split <;> infer_instance
instance (wd k : ℕ) (t : Fin 3) : Storable upEmb (DOd d L PV wd k t) := by unfold DOd; infer_instance

/-- Reads of unit `u` on their way: as many of one sort as of the other. -/
def InA (u : ℕ) (p : Fin 2) (kk : ℕ) : sProp 𝕄 :=
  iprop((∃ q, gI.view.loc (thr d L) ↦{q} idx) ∗ (∃ q, gX.view.loc (thr d L) ↦{q} xs)
    ∗ (∃ f, sI.view.loc (thr d L) ↦[seg (N := 12288) (6144 * p.val + 1024 * kk) (6144 - 1024 * kk)]{fullShare} f)
    ∗ (∃ f, sX.view.loc (thr d L) ↦[seg (N := 12288) (6144 * p.val + 1024 * kk) (6144 - 1024 * kk)]{fullShare} f)
    ∗ Batch EC (thr d L) (.dma (mI p)) (none : HIx 1) nU (DI d L idx xs u p) (2 * kk) 0)

/-- Reads of unit `u` on their way: one more of the first sort. -/
def InB (u : ℕ) (p : Fin 2) (kk : ℕ) : sProp 𝕄 :=
  iprop((∃ q, gI.view.loc (thr d L) ↦{q} idx) ∗ (∃ q, gX.view.loc (thr d L) ↦{q} xs)
    ∗ (∃ f, sI.view.loc (thr d L) ↦[seg (N := 12288) (6144 * p.val + 1024 * (kk + 1)) (6144 - 1024 * (kk + 1))]{fullShare} f)
    ∗ (∃ f, sX.view.loc (thr d L) ↦[seg (N := 12288) (6144 * p.val + 1024 * kk) (6144 - 1024 * kk)]{fullShare} f)
    ∗ Batch EC (thr d L) (.dma (mI p)) (none : HIx 1) nU (DI d L idx xs u p) (2 * kk + 1) 0)

/-- Reads of rectangle `r`'s tables on their way: as many of one sort as of the other. -/
def TabA (r kk : ℕ) : sProp 𝕄 :=
  iprop((∃ q, gT.view.loc (thr d L) ↦{q} tab)
    ∗ (∃ f, sT.view.loc (thr d L) ↦[seg (N := 81280) (4512 * kk) (40608 - 4512 * kk)]{fullShare} f)
    ∗ (∃ f, sT.view.loc (thr d L) ↦[seg (N := 81280) (40608 + 4512 * kk) (40608 - 4512 * kk)]{fullShare} f)
    ∗ Batch EC (thr d L) (.dma mT) (none : HIx 1) nT (DT d L tab r) (2 * kk) 0)

/-- Reads of rectangle `r`'s tables on their way: one more of the first sort. -/
def TabB (r kk : ℕ) : sProp 𝕄 :=
  iprop((∃ q, gT.view.loc (thr d L) ↦{q} tab)
    ∗ (∃ f, sT.view.loc (thr d L) ↦[seg (N := 81280) (4512 * (kk + 1)) (40608 - 4512 * (kk + 1))]{fullShare} f)
    ∗ (∃ f, sT.view.loc (thr d L) ↦[seg (N := 81280) (40608 + 4512 * kk) (40608 - 4512 * kk)]{fullShare} f)
    ∗ Batch EC (thr d L) (.dma mT) (none : HIx 1) nT (DT d L tab r) (2 * kk + 1) 0)

/-- `n` writes of unit `u` are on their way. -/
def OutSt (u : ℕ) (p : Fin 2) (n : ℕ) : sProp 𝕄 :=
  iprop((sO.view.loc (thr d L) ↦[seg (N := 18432) (9216 * p.val + 1024 * n) (9216 - 1024 * n)]{fullShare} outC PV u)
    ∗ bigSep (Transfers.pending (n := 9) n) (fun t => iprop(∃ f, gP.view.loc (thr d L) ↦[seg (N := 36421632) (outOff u t.val) 1024]{fullShare} f))
    ∗ Batch EC (thr d L) (.dma (mO p)) (none : HIx 1) nU (DO d L PV u p) n 0)

/-- `n` reads of block `k`'s tables are on their way. -/
def DTabSt (k n : ℕ) : sProp 𝕄 :=
  iprop((∃ q, gT.view.loc (thr d L) ↦{q} tab)
    ∗ (∃ f, sT.view.loc (thr d L) ↦[seg (N := 81280) (4512 * n) (27072 - 4512 * n)]{fullShare} f)
    ∗ Batch EC (thr d L) (.dma mTd) (none : HIx 1) nT (DTd d L tab w k) n 0)

/-- The tile's reads for block `k` on their way: as many of one sort as of the other. -/
def DInA (wd k kk : ℕ) : sProp 𝕄 :=
  iprop((∃ q, gI.view.loc (thr d L) ↦{q} idx) ∗ (∃ q, gX.view.loc (thr d L) ↦{q} xs)
    ∗ (∃ f, sI.view.loc (thr d L) ↦[seg (N := 12288) (1536 * kk) (4608 - 1536 * kk)]{fullShare} f)
    ∗ (∃ f, sX.view.loc (thr d L) ↦[seg (N := 12288) (1536 * kk) (4608 - 1536 * kk)]{fullShare} f)
    ∗ Batch EC (thr d L) (.dma mId) (none : HIx 1) nV (DId d L idx xs wd k) (2 * kk) 0)

/-- The tile's reads for block `k` on their way: one more of the first sort. -/
def DInB (wd k kk : ℕ) : sProp 𝕄 :=
  iprop((∃ q, gI.view.loc (thr d L) ↦{q} idx) ∗ (∃ q, gX.view.loc (thr d L) ↦{q} xs)
    ∗ (∃ f, sI.view.loc (thr d L) ↦[seg (N := 12288) (1536 * (kk + 1)) (4608 - 1536 * (kk + 1))]{fullShare} f)
    ∗ (∃ f, sX.view.loc (thr d L) ↦[seg (N := 12288) (1536 * kk) (4608 - 1536 * kk)]{fullShare} f)
    ∗ Batch EC (thr d L) (.dma mId) (none : HIx 1) nV (DId d L idx xs wd k) (2 * kk + 1) 0)

/-- `n` of the tile's writes for block `k` are on their way. -/
def DOutSt (wd k n : ℕ) : sProp 𝕄 :=
  iprop((sO.view.loc (thr d L) ↦[seg (N := 18432) (1536 * n) (4608 - 1536 * n)]{fullShare} docC PV wd k)
    ∗ bigSep (Transfers.pending (n := 3) n) (fun t => iprop(∃ f, gP.view.loc (thr d L) ↦[seg (N := 36421632) (doutOff wd k t.val) 1536]{fullShare} f))
    ∗ Batch EC (thr d L) (.dma mOd) (none : HIx 1) nV (DOd d L PV wd k) n 0)

set_option maxHeartbeats 1000000 in
/-- The read of a row of indices. -/
theorem in_idx {u : ℕ} {p : Fin 2} (kk : ℕ) (hk : kk < 6) (hu : u < 3744)
    {so : Fin 1 → ℕ} {sinb} {dO : Fin 1 → ℕ} {dinb} {sm : DmaSem sig} {hsrc} {hdst} {hsem}
    (hsm : sm = mI p) (hs : so 0 = inOff u kk) (hd : dO 0 = 6144 * p.val + 1024 * kk)
    {k : PUnit → Prog (TpuEff nD τ sig (Elt F) Λ₀ (thr d L).2) α} {Q : α → sProp 𝕄} :
    InA d L idx xs u p kk ⊢ iprop((InB d L idx xs u p kk -∗ wp frame (wpE (defs₀ (F := F)) 𝒱₀ (thr d L) none) Set.univ (k ⟨⟩) Q)
      -∗ wp frame (wpE (defs₀ (F := F)) 𝒱₀ (thr d L) none) Set.univ
        (.op (.enqueueDma (gI.slice (Rect.unit (s := S1916928) so S1024.size sinb) (fun _ => rfl))
          (.here (sI.slice (Rect.unit (s := S12288) dO S1024.size dinb) (fun _ => rfl))) (.dma sm) hsrc hdst hsem) k) Q) := by
  subst hsm
  unfold InA InB
  iintro ⟨Hgi, Hgx, Hi, Hx, HB⟩ Hk
  ihave Hd' := (held_split_ex (ℓ := sI.view.loc (thr d L)) (S₁ := seg (N := 12288) (6144 * p.val + 1024 * kk) 1024)
    (S₂ := seg (N := 12288) (6144 * p.val + 1024 * (kk + 1)) (6144 - 1024 * (kk + 1)))
    (seg_cut (by omega) (by omega)) (seg_disjoint (by omega))) $$ Hi
  icases Hd' with ⟨Hd1, Hi⟩
  iapply (issue_in d L (src := gI.slice (Rect.unit (s := S1916928) so S1024.size sinb) (fun _ => rfl))
    (dst := sI.slice (Rect.unit (s := S12288) dO S1024.size dinb) (fun _ => rfl)) (N := nU) (fs := idx) (fc := chunkC idx u)
    (Dl := DI d L idx xs u p) (j := 2 * kk) rfl (by omega)
    (Sd := seg (N := 12288) (6144 * p.val + 1024 * kk) 1024)
    ((View.set_slice_whole _ _).trans ((unit_set dO dinb).trans (by rw [hd])))
    (by
      intro x
      have hx : (x 0).val < 1024 := (x 0).isLt
      have h1 := unit_emb (N := 12288) dO dinb x
      have h2 := unit_emb (N := 1916928) so sinb x
      rw [hd] at h1
      rw [hs] at h2
      show (chunkC idx u : Vec F S12288 .i32) ((Rect.unit (s := S12288) dO S1024.size dinb).emb x) = idx ((Rect.unit (s := S1916928) so S1024.size sinb).emb x)
      unfold chunkC
      refine rd_val (N := 1916928) idx _ ?_
      refine h2.trans ?_
      rw [show (((Rect.unit (s := S12288) dO S1024.size dinb).emb x) 0).val = _ from h1]
      have := p.isLt
      rw [show (6144 * p.val + 1024 * kk + (x 0).val) % 6144 / 1024 = kk by omega,
        show (6144 * p.val + 1024 * kk + (x 0).val) % 1024 = (x 0).val by omega])
    (by
      unfold DI; rw [if_pos (by show (2 * kk) % 2 = 0; omega)]
      rw [show (2 * kk) / 2 = kk by omega])) $$ [Hgi Hd1 HB]
  · isplitl [Hgi]; · iexact Hgi
    isplitl [Hd1]; · iexact Hd1
    iexact HB
  iintro ⟨Hgi, HB⟩
  iapply Hk
  isplitl [Hgi]; · iexact Hgi
  isplitl [Hgx]; · iexact Hgx
  isplitl [Hi]; · iexact Hi
  isplitl [Hx]; · iexact Hx
  iexact HB

set_option maxHeartbeats 1000000 in
/-- The tile's read of a row of indices for a block. -/
theorem din_idx {wd b : ℕ} (kk : ℕ) (hk : kk < 3)
    {so : Fin 1 → ℕ} {sinb} {dO : Fin 1 → ℕ} {dinb} {sm : DmaSem sig} {hsrc} {hdst} {hsem}
    (hsm : sm = mId) (hs : so 0 = dinOff wd b kk) (hd : dO 0 = 1536 * kk)
    {k : PUnit → Prog (TpuEff nD τ sig (Elt F) Λ₀ (thr d L).2) α} {Q : α → sProp 𝕄} :
    DInA d L idx xs wd b kk ⊢ iprop((DInB d L idx xs wd b kk -∗ wp frame (wpE (defs₀ (F := F)) 𝒱₀ (thr d L) none) Set.univ (k ⟨⟩) Q)
      -∗ wp frame (wpE (defs₀ (F := F)) 𝒱₀ (thr d L) none) Set.univ
        (.op (.enqueueDma (gI.slice (Rect.unit (s := S1916928) so S1536.size sinb) (fun _ => rfl))
          (.here (sI.slice (Rect.unit (s := S12288) dO S1536.size dinb) (fun _ => rfl))) (.dma sm) hsrc hdst hsem) k) Q) := by
  subst hsm
  unfold DInA DInB
  iintro ⟨Hgi, Hgx, Hi, Hx, HB⟩ Hk
  ihave Hd' := (held_split_ex (ℓ := sI.view.loc (thr d L)) (S₁ := seg (N := 12288) (1536 * kk) 1536)
    (S₂ := seg (N := 12288) (1536 * (kk + 1)) (4608 - 1536 * (kk + 1)))
    (seg_cut (by omega) (by omega)) (seg_disjoint (by omega))) $$ Hi
  icases Hd' with ⟨Hd1, Hi⟩
  iapply (issue_in d L (src := gI.slice (Rect.unit (s := S1916928) so S1536.size sinb) (fun _ => rfl))
    (dst := sI.slice (Rect.unit (s := S12288) dO S1536.size dinb) (fun _ => rfl)) (N := nV) (fs := idx) (fc := dchunkC idx wd b)
    (Dl := DId d L idx xs wd b) (j := 2 * kk) rfl (by omega)
    (Sd := seg (N := 12288) (1536 * kk) 1536)
    ((View.set_slice_whole _ _).trans ((unit_set dO dinb).trans (by rw [hd])))
    (by
      intro x
      have hx : (x 0).val < 1536 := (x 0).isLt
      have h1 := unit_emb (N := 12288) dO dinb x
      have h2 := unit_emb (N := 1916928) so sinb x
      rw [hd] at h1
      rw [hs] at h2
      show (dchunkC idx wd b : Vec F S12288 .i32) ((Rect.unit (s := S12288) dO S1536.size dinb).emb x) = idx ((Rect.unit (s := S1916928) so S1536.size sinb).emb x)
      unfold dchunkC
      refine rd_val (N := 1916928) idx _ ?_
      refine h2.trans ?_
      rw [show (((Rect.unit (s := S12288) dO S1536.size dinb).emb x) 0).val = _ from h1]
      rw [show (1536 * kk + (x 0).val) / 1536 = kk by omega,
        show (1536 * kk + (x 0).val) % 1536 = (x 0).val by omega])
    (by
      unfold DId; rw [if_pos (by show (2 * kk) % 2 = 0; omega)]
      rw [show (2 * kk) / 2 = kk by omega])) $$ [Hgi Hd1 HB]
  · isplitl [Hgi]; · iexact Hgi
    isplitl [Hd1]; · iexact Hd1
    iexact HB
  iintro ⟨Hgi, HB⟩
  iapply Hk
  isplitl [Hgi]; · iexact Hgi
  isplitl [Hgx]; · iexact Hgx
  isplitl [Hi]; · iexact Hi
  isplitl [Hx]; · iexact Hx
  iexact HB

set_option maxHeartbeats 1000000 in
/-- The read of the first table of a pair of fields. -/
theorem tab_f {r : ℕ} (kk : ℕ) (hk : kk < 9)
    {so : Fin 1 → ℕ} {sinb} {dO : Fin 1 → ℕ} {dinb} {sm : DmaSem sig} {hsrc} {hdst} {hsem}
    (hsm : sm = mT) (hs : so 0 = tabOff r kk) (hd : dO 0 = 4512 * kk)
    {k : PUnit → Prog (TpuEff nD τ sig (Elt F) Λ₀ (thr d L).2) α} {Q : α → sProp 𝕄} :
    TabA d L tab r kk ⊢ iprop((TabB d L tab r kk -∗ wp frame (wpE (defs₀ (F := F)) 𝒱₀ (thr d L) none) Set.univ (k ⟨⟩) Q)
      -∗ wp frame (wpE (defs₀ (F := F)) 𝒱₀ (thr d L) none) Set.univ
        (.op (.enqueueDma (gT.slice (Rect.unit (s := S6862752) so S4512.size sinb) (fun _ => rfl))
          (.here (sT.slice (Rect.unit (s := S81280) dO S4512.size dinb) (fun _ => rfl))) (.dma sm) hsrc hdst hsem) k) Q) := by
  subst hsm
  unfold TabA TabB
  iintro ⟨Hgt, H1, H2, HB⟩ Hk
  ihave Hd' := (held_split_ex (ℓ := sT.view.loc (thr d L)) (S₁ := seg (N := 81280) (4512 * kk) 4512)
    (S₂ := seg (N := 81280) (4512 * (kk + 1)) (40608 - 4512 * (kk + 1)))
    (seg_cut (by omega) (by omega)) (seg_disjoint (by omega))) $$ H1
  icases Hd' with ⟨Hd1, H1⟩
  iapply (issue_in d L (src := gT.slice (Rect.unit (s := S6862752) so S4512.size sinb) (fun _ => rfl))
    (dst := sT.slice (Rect.unit (s := S81280) dO S4512.size dinb) (fun _ => rfl)) (N := nT) (fs := tab) (fc := tabC tab r)
    (Dl := DT d L tab r) (j := 2 * kk) rfl (by omega)
    (Sd := seg (N := 81280) (4512 * kk) 4512)
    ((View.set_slice_whole _ _).trans ((unit_set dO dinb).trans (by rw [hd])))
    (by
      intro x
      have hx : (x 0).val < 4512 := (x 0).isLt
      have h1 := unit_emb (N := 81280) dO dinb x
      have h2 := unit_emb (N := 6862752) so sinb x
      rw [hd] at h1
      rw [hs] at h2
      show (tabC tab r : Vec F S81280 .i32) ((Rect.unit (s := S81280) dO S4512.size dinb).emb x) = tab ((Rect.unit (s := S6862752) so S4512.size sinb).emb x)
      unfold tabC
      refine rd_val (N := 6862752) tab _ ?_
      refine h2.trans ?_
      rw [show (((Rect.unit (s := S81280) dO S4512.size dinb).emb x) 0).val = _ from h1]
      rw [show (4512 * kk + (x 0).val) / 4512 = kk by omega,
        show (4512 * kk + (x 0).val) % 4512 = (x 0).val by omega])
    (by
      unfold DT; rw [if_pos (by show (2 * kk) % 2 = 0; omega)]
      rw [show (2 * kk) / 2 = kk by omega])) $$ [Hgt Hd1 HB]
  · isplitl [Hgt]; · iexact Hgt
    isplitl [Hd1]; · iexact Hd1
    iexact HB
  iintro ⟨Hgt, HB⟩
  iapply Hk
  isplitl [Hgt]; · iexact Hgt
  isplitl [H1]; · iexact H1
  isplitl [H2]; · iexact H2
  iexact HB

set_option maxHeartbeats 1000000 in
/-- The read of a row of values. -/
theorem in_x {u : ℕ} {p : Fin 2} (kk : ℕ) (hk : kk < 6) (hu : u < 3744)
    {so : Fin 1 → ℕ} {sinb} {dO : Fin 1 → ℕ} {dinb} {sm : DmaSem sig} {hsrc} {hdst} {hsem}
    (hsm : sm = mI p) (hs : so 0 = inOff u kk) (hd : dO 0 = 6144 * p.val + 1024 * kk)
    {k : PUnit → Prog (TpuEff nD τ sig (Elt F) Λ₀ (thr d L).2) α} {Q : α → sProp 𝕄} :
    InB d L idx xs u p kk ⊢ iprop((InA d L idx xs u p (kk + 1) -∗ wp frame (wpE (defs₀ (F := F)) 𝒱₀ (thr d L) none) Set.univ (k ⟨⟩) Q)
      -∗ wp frame (wpE (defs₀ (F := F)) 𝒱₀ (thr d L) none) Set.univ
        (.op (.enqueueDma (gX.slice (Rect.unit (s := S1916928) so S1024.size sinb) (fun _ => rfl))
          (.here (sX.slice (Rect.unit (s := S12288) dO S1024.size dinb) (fun _ => rfl))) (.dma sm) hsrc hdst hsem) k) Q) := by
  subst hsm
  unfold InA InB
  iintro ⟨Hgi, Hgx, Hi, Hx, HB⟩ Hk
  ihave Hd' := (held_split_ex (ℓ := sX.view.loc (thr d L)) (S₁ := seg (N := 12288) (6144 * p.val + 1024 * kk) 1024)
    (S₂ := seg (N := 12288) (6144 * p.val + 1024 * (kk + 1)) (6144 - 1024 * (kk + 1)))
    (seg_cut (by omega) (by omega)) (seg_disjoint (by omega))) $$ Hx
  icases Hd' with ⟨Hd1, Hx⟩
  iapply (issue_in d L (src := gX.slice (Rect.unit (s := S1916928) so S1024.size sinb) (fun _ => rfl))
    (dst := sX.slice (Rect.unit (s := S12288) dO S1024.size dinb) (fun _ => rfl)) (N := nU) (fs := xs) (fc := chunkC xs u)
    (Dl := DI d L idx xs u p) (j := 2 * kk + 1) rfl (by omega)
    (Sd := seg (N := 12288) (6144 * p.val + 1024 * kk) 1024)
    ((View.set_slice_whole _ _).trans ((unit_set dO dinb).trans (by rw [hd])))
    (by
      intro x
      have hx : (x 0).val < 1024 := (x 0).isLt
      have h1 := unit_emb (N := 12288) dO dinb x
      have h2 := unit_emb (N := 1916928) so sinb x
      rw [hd] at h1
      rw [hs] at h2
      show (chunkC xs u : Vec F S12288 .f32) ((Rect.unit (s := S12288) dO S1024.size dinb).emb x) = xs ((Rect.unit (s := S1916928) so S1024.size sinb).emb x)
      unfold chunkC
      refine rd_val (N := 1916928) xs _ ?_
      refine h2.trans ?_
      rw [show (((Rect.unit (s := S12288) dO S1024.size dinb).emb x) 0).val = _ from h1]
      have := p.isLt
      rw [show (6144 * p.val + 1024 * kk + (x 0).val) % 6144 / 1024 = kk by omega,
        show (6144 * p.val + 1024 * kk + (x 0).val) % 1024 = (x 0).val by omega])
    (by
      unfold DI; rw [if_neg (by show ¬ (2 * kk + 1) % 2 = 0; omega)]
      rw [show (2 * kk + 1) / 2 = kk by omega])) $$ [Hgx Hd1 HB]
  · isplitl [Hgx]; · iexact Hgx
    isplitl [Hd1]; · iexact Hd1
    iexact HB
  iintro ⟨Hgx, HB⟩
  iapply Hk
  isplitl [Hgi]; · iexact Hgi
  isplitl [Hgx]; · iexact Hgx
  isplitl [Hi]; · iexact Hi
  isplitl [Hx]; · iexact Hx
  iexact HB

set_option maxHeartbeats 1000000 in
/-- The tile's read of a row of values for a block. -/
theorem din_x {wd b : ℕ} (kk : ℕ) (hk : kk < 3)
    {so : Fin 1 → ℕ} {sinb} {dO : Fin 1 → ℕ} {dinb} {sm : DmaSem sig} {hsrc} {hdst} {hsem}
    (hsm : sm = mId) (hs : so 0 = dinOff wd b kk) (hd : dO 0 = 1536 * kk)
    {k : PUnit → Prog (TpuEff nD τ sig (Elt F) Λ₀ (thr d L).2) α} {Q : α → sProp 𝕄} :
    DInB d L idx xs wd b kk ⊢ iprop((DInA d L idx xs wd b (kk + 1) -∗ wp frame (wpE (defs₀ (F := F)) 𝒱₀ (thr d L) none) Set.univ (k ⟨⟩) Q)
      -∗ wp frame (wpE (defs₀ (F := F)) 𝒱₀ (thr d L) none) Set.univ
        (.op (.enqueueDma (gX.slice (Rect.unit (s := S1916928) so S1536.size sinb) (fun _ => rfl))
          (.here (sX.slice (Rect.unit (s := S12288) dO S1536.size dinb) (fun _ => rfl))) (.dma sm) hsrc hdst hsem) k) Q) := by
  subst hsm
  unfold DInA DInB
  iintro ⟨Hgi, Hgx, Hi, Hx, HB⟩ Hk
  ihave Hd' := (held_split_ex (ℓ := sX.view.loc (thr d L)) (S₁ := seg (N := 12288) (1536 * kk) 1536)
    (S₂ := seg (N := 12288) (1536 * (kk + 1)) (4608 - 1536 * (kk + 1)))
    (seg_cut (by omega) (by omega)) (seg_disjoint (by omega))) $$ Hx
  icases Hd' with ⟨Hd1, Hx⟩
  iapply (issue_in d L (src := gX.slice (Rect.unit (s := S1916928) so S1536.size sinb) (fun _ => rfl))
    (dst := sX.slice (Rect.unit (s := S12288) dO S1536.size dinb) (fun _ => rfl)) (N := nV) (fs := xs) (fc := dchunkC xs wd b)
    (Dl := DId d L idx xs wd b) (j := 2 * kk + 1) rfl (by omega)
    (Sd := seg (N := 12288) (1536 * kk) 1536)
    ((View.set_slice_whole _ _).trans ((unit_set dO dinb).trans (by rw [hd])))
    (by
      intro x
      have hx : (x 0).val < 1536 := (x 0).isLt
      have h1 := unit_emb (N := 12288) dO dinb x
      have h2 := unit_emb (N := 1916928) so sinb x
      rw [hd] at h1
      rw [hs] at h2
      show (dchunkC xs wd b : Vec F S12288 .f32) ((Rect.unit (s := S12288) dO S1536.size dinb).emb x) = xs ((Rect.unit (s := S1916928) so S1536.size sinb).emb x)
      unfold dchunkC
      refine rd_val (N := 1916928) xs _ ?_
      refine h2.trans ?_
      rw [show (((Rect.unit (s := S12288) dO S1536.size dinb).emb x) 0).val = _ from h1]
      rw [show (1536 * kk + (x 0).val) / 1536 = kk by omega,
        show (1536 * kk + (x 0).val) % 1536 = (x 0).val by omega])
    (by
      unfold DId; rw [if_neg (by show ¬ (2 * kk + 1) % 2 = 0; omega)]
      rw [show (2 * kk + 1) / 2 = kk by omega])) $$ [Hgx Hd1 HB]
  · isplitl [Hgx]; · iexact Hgx
    isplitl [Hd1]; · iexact Hd1
    iexact HB
  iintro ⟨Hgx, HB⟩
  iapply Hk
  isplitl [Hgi]; · iexact Hgi
  isplitl [Hgx]; · iexact Hgx
  isplitl [Hi]; · iexact Hi
  isplitl [Hx]; · iexact Hx
  iexact HB

set_option maxHeartbeats 1000000 in
/-- The read of the second table of a pair of fields. -/
theorem tab_g {r : ℕ} (kk : ℕ) (hk : kk < 9)
    {so : Fin 1 → ℕ} {sinb} {dO : Fin 1 → ℕ} {dinb} {sm : DmaSem sig} {hsrc} {hdst} {hsem}
    (hsm : sm = mT) (hs : so 0 = tabOff r (9 + kk)) (hd : dO 0 = 40608 + 4512 * kk)
    {k : PUnit → Prog (TpuEff nD τ sig (Elt F) Λ₀ (thr d L).2) α} {Q : α → sProp 𝕄} :
    TabB d L tab r kk ⊢ iprop((TabA d L tab r (kk + 1) -∗ wp frame (wpE (defs₀ (F := F)) 𝒱₀ (thr d L) none) Set.univ (k ⟨⟩) Q)
      -∗ wp frame (wpE (defs₀ (F := F)) 𝒱₀ (thr d L) none) Set.univ
        (.op (.enqueueDma (gT.slice (Rect.unit (s := S6862752) so S4512.size sinb) (fun _ => rfl))
          (.here (sT.slice (Rect.unit (s := S81280) dO S4512.size dinb) (fun _ => rfl))) (.dma sm) hsrc hdst hsem) k) Q) := by
  subst hsm
  unfold TabA TabB
  iintro ⟨Hgt, H1, H2, HB⟩ Hk
  ihave Hd' := (held_split_ex (ℓ := sT.view.loc (thr d L)) (S₁ := seg (N := 81280) (40608 + 4512 * kk) 4512)
    (S₂ := seg (N := 81280) (40608 + 4512 * (kk + 1)) (40608 - 4512 * (kk + 1)))
    (seg_cut (by omega) (by omega)) (seg_disjoint (by omega))) $$ H2
  icases Hd' with ⟨Hd1, H2⟩
  iapply (issue_in d L (src := gT.slice (Rect.unit (s := S6862752) so S4512.size sinb) (fun _ => rfl))
    (dst := sT.slice (Rect.unit (s := S81280) dO S4512.size dinb) (fun _ => rfl)) (N := nT) (fs := tab) (fc := tabC tab r)
    (Dl := DT d L tab r) (j := 2 * kk + 1) rfl (by omega)
    (Sd := seg (N := 81280) (40608 + 4512 * kk) 4512)
    ((View.set_slice_whole _ _).trans ((unit_set dO dinb).trans (by rw [hd])))
    (by
      intro x
      have hx : (x 0).val < 4512 := (x 0).isLt
      have h1 := unit_emb (N := 81280) dO dinb x
      have h2 := unit_emb (N := 6862752) so sinb x
      rw [hd] at h1
      rw [hs] at h2
      show (tabC tab r : Vec F S81280 .i32) ((Rect.unit (s := S81280) dO S4512.size dinb).emb x) = tab ((Rect.unit (s := S6862752) so S4512.size sinb).emb x)
      unfold tabC
      refine rd_val (N := 6862752) tab _ ?_
      refine h2.trans ?_
      rw [show (((Rect.unit (s := S81280) dO S4512.size dinb).emb x) 0).val = _ from h1]
      rw [show (40608 + 4512 * kk + (x 0).val) / 4512 = (9 + kk) by omega,
        show (40608 + 4512 * kk + (x 0).val) % 4512 = (x 0).val by omega])
    (by
      unfold DT; rw [if_neg (by show ¬ (2 * kk + 1) % 2 = 0; omega)]
      rw [show (2 * kk + 1) / 2 = kk by omega])) $$ [Hgt Hd1 HB]
  · isplitl [Hgt]; · iexact Hgt
    isplitl [Hd1]; · iexact Hd1
    iexact HB
  iintro ⟨Hgt, HB⟩
  iapply Hk
  isplitl [Hgt]; · iexact Hgt
  isplitl [H1]; · iexact H1
  isplitl [H2]; · iexact H2
  iexact HB

set_option maxHeartbeats 1000000 in
/-- The read of one of a block's tables. -/
theorem dtab {b : ℕ} (n : ℕ) (hn : n < 6)
    {so : Fin 1 → ℕ} {sinb} {dO : Fin 1 → ℕ} {dinb} {sm : DmaSem sig} {hsrc} {hdst} {hsem}
    (hsm : sm = mTd) (hs : so 0 = dtabOff b n) (hd : dO 0 = 4512 * n)
    {k : PUnit → Prog (TpuEff nD τ sig (Elt F) Λ₀ (thr d L).2) α} {Q : α → sProp 𝕄} :
    DTabSt d L tab w b n ⊢ iprop((DTabSt d L tab w b (n + 1) -∗ wp frame (wpE (defs₀ (F := F)) 𝒱₀ (thr d L) none) Set.univ (k ⟨⟩) Q)
      -∗ wp frame (wpE (defs₀ (F := F)) 𝒱₀ (thr d L) none) Set.univ
        (.op (.enqueueDma (gT.slice (Rect.unit (s := S6862752) so S4512.size sinb) (fun _ => rfl))
          (.here (sT.slice (Rect.unit (s := S81280) dO S4512.size dinb) (fun _ => rfl))) (.dma sm) hsrc hdst hsem) k) Q) := by
  subst hsm
  unfold DTabSt
  iintro ⟨Hgt, H1, HB⟩ Hk
  ihave Hd' := (held_split_ex (ℓ := sT.view.loc (thr d L)) (S₁ := seg (N := 81280) (4512 * n) 4512)
    (S₂ := seg (N := 81280) (4512 * (n + 1)) (27072 - 4512 * (n + 1)))
    (seg_cut (by omega) (by omega)) (seg_disjoint (by omega))) $$ H1
  icases Hd' with ⟨Hd1, H1⟩
  iapply (issue_in d L (src := gT.slice (Rect.unit (s := S6862752) so S4512.size sinb) (fun _ => rfl))
    (dst := sT.slice (Rect.unit (s := S81280) dO S4512.size dinb) (fun _ => rfl)) (N := nT) (fs := tab) (fc := dtabC tab b)
    (Dl := DTd d L tab w b) (j := n) rfl (by omega)
    (Sd := seg (N := 81280) (4512 * n) 4512)
    ((View.set_slice_whole _ _).trans ((unit_set dO dinb).trans (by rw [hd])))
    (by
      intro x
      have hx : (x 0).val < 4512 := (x 0).isLt
      have h1 := unit_emb (N := 81280) dO dinb x
      have h2 := unit_emb (N := 6862752) so sinb x
      rw [hd] at h1
      rw [hs] at h2
      show (dtabC tab b : Vec F S81280 .i32) ((Rect.unit (s := S81280) dO S4512.size dinb).emb x) = tab ((Rect.unit (s := S6862752) so S4512.size sinb).emb x)
      unfold dtabC
      refine rd_val (N := 6862752) tab _ ?_
      refine h2.trans ?_
      rw [show (((Rect.unit (s := S81280) dO S4512.size dinb).emb x) 0).val = _ from h1]
      rw [show (4512 * n + (x 0).val) / 4512 = n by omega,
        show (4512 * n + (x 0).val) % 4512 = (x 0).val by omega])
    (by
      unfold DTd; rw [if_pos (by show n < 6; omega)])) $$ [Hgt Hd1 HB]
  · isplitl [Hgt]; · iexact Hgt
    isplitl [Hd1]; · iexact Hd1
    iexact HB
  iintro ⟨Hgt, HB⟩
  iapply Hk
  isplitl [Hgt]; · iexact Hgt
  isplitl [H1]; · iexact H1
  iexact HB

/-- All of a block's tables and its weights are on their way. -/
def DTabW (b : ℕ) : sProp 𝕄 :=
  iprop((∃ q, gW.view.loc (thr d L) ↦{q} w) ∗ Batch EC (thr d L) (.dma mTd) (none : HIx 1) nT (DTd d L tab w b) 7 0)
/-- All of a block's tables are on their way, its weights not yet. -/
def DTabV (b : ℕ) : sProp 𝕄 :=
  iprop((∃ q, gW.view.loc (thr d L) ↦{q} w) ∗ (∃ f, sW.view.loc (thr d L) ↦[seg (N := 4608) 0 4512]{fullShare} f)
    ∗ Batch EC (thr d L) (.dma mTd) (none : HIx 1) nT (DTd d L tab w b) 6 0)

set_option maxHeartbeats 1000000 in
/-- The read of a block's weights. -/
theorem dwl {b : ℕ}
    {so : Fin 1 → ℕ} {sinb} {dO : Fin 1 → ℕ} {dinb} {sm : DmaSem sig} {hsrc} {hdst} {hsem}
    (hsm : sm = mTd) (hs : so 0 = 4512 * b) (hd : dO 0 = 0)
    {k : PUnit → Prog (TpuEff nD τ sig (Elt F) Λ₀ (thr d L).2) α} {Q : α → sProp 𝕄} :
    DTabV d L tab w b ⊢ iprop((DTabW d L tab w b -∗ wp frame (wpE (defs₀ (F := F)) 𝒱₀ (thr d L) none) Set.univ (k ⟨⟩) Q)
      -∗ wp frame (wpE (defs₀ (F := F)) 𝒱₀ (thr d L) none) Set.univ
        (.op (.enqueueDma (gW.slice (Rect.unit (s := S58656) so S4512.size sinb) (fun _ => rfl))
          (.here (sW.slice (Rect.unit (s := S4608) dO S4512.size dinb) (fun _ => rfl))) (.dma sm) hsrc hdst hsem) k) Q) := by
  subst hsm
  unfold DTabV DTabW
  iintro ⟨Hgw, H1, HB⟩ Hk
  ihave Hd' := (held_split_ex (ℓ := sW.view.loc (thr d L)) (S₁ := seg (N := 4608) (0) 4512)
    (S₂ := seg (N := 4608) (4512) (0))
    (seg_cut (by omega) (by omega)) (seg_disjoint (by omega))) $$ H1
  icases Hd' with ⟨Hd1, H1⟩
  iapply (issue_in d L (src := gW.slice (Rect.unit (s := S58656) so S4512.size sinb) (fun _ => rfl))
    (dst := sW.slice (Rect.unit (s := S4608) dO S4512.size dinb) (fun _ => rfl)) (N := nT) (fs := w) (fc := dwC w b)
    (Dl := DTd d L tab w b) (j := 6) rfl (by omega)
    (Sd := seg (N := 4608) (0) 4512)
    ((View.set_slice_whole _ _).trans ((unit_set dO dinb).trans (by rw [hd])))
    (by
      intro x
      have hx : (x 0).val < 4512 := (x 0).isLt
      have h1 := unit_emb (N := 4608) dO dinb x
      have h2 := unit_emb (N := 58656) so sinb x
      rw [hd] at h1
      rw [hs] at h2
      show (dwC w b : Vec F S4608 .f32) ((Rect.unit (s := S4608) dO S4512.size dinb).emb x) = w ((Rect.unit (s := S58656) so S4512.size sinb).emb x)
      unfold dwC
      refine rd_val (N := 58656) w _ ?_
      refine h2.trans ?_
      rw [show (((Rect.unit (s := S4608) dO S4512.size dinb).emb x) 0).val = _ from h1]
      rw [Nat.zero_add])
    (by
      unfold DTd; rw [if_neg (by show ¬ 6 < 6; omega)])) $$ [Hgw Hd1 HB]
  · isplitl [Hgw]; · iexact Hgw
    isplitl [Hd1]; · iexact Hd1
    iexact HB
  iintro ⟨Hgw, HB⟩
  iapply Hk
  isplitl [Hgw]; · iexact Hgw
  iexact HB

set_option maxHeartbeats 1000000 in
/-- The write of one pair of a unit. -/
theorem out_st {u : ℕ} {p : Fin 2} (n : ℕ) (hn : n < 9)
    {so : Fin 1 → ℕ} {sinb} {dO : Fin 1 → ℕ} {dinb} {sm : DmaSem sig} {hsrc} {hdst} {hsem}
    (hsm : sm = mO p) (hs : so 0 = 9216 * p.val + 1024 * n) (hd : dO 0 = outOff u n)
    {k : PUnit → Prog (TpuEff nD τ sig (Elt F) Λ₀ (thr d L).2) α} {Q : α → sProp 𝕄} :
    OutSt d L PV u p n ⊢ iprop((OutSt d L PV u p (n + 1) -∗ wp frame (wpE (defs₀ (F := F)) 𝒱₀ (thr d L) none) Set.univ (k ⟨⟩) Q)
      -∗ wp frame (wpE (defs₀ (F := F)) 𝒱₀ (thr d L) none) Set.univ
        (.op (.enqueueDma (sO.slice (Rect.unit (s := S18432) so S1024.size sinb) (fun _ => rfl))
          (.here (gP.slice (Rect.unit (s := S36421632) dO S1024.size dinb) (fun _ => rfl))) (.dma sm) hsrc hdst hsem) k) Q) := by
  subst hsm
  unfold OutSt
  iintro ⟨Hs, HW, HB⟩ Hk
  ihave Hs' := (held_split (ℓ := sO.view.loc (thr d L)) (S₁ := seg (N := 18432) (9216 * p.val + 1024 * n) 1024)
    (S₂ := seg (N := 18432) (9216 * p.val + 1024 * (n + 1)) (9216 - 1024 * (n + 1)))
    (seg_cut (by omega) (by omega)) (seg_disjoint (by omega))) $$ Hs
  icases Hs' with ⟨Hs1, Hs⟩
  ihave HW' := (Entails.of_eq (by rw [Transfers.pending_succ hn, bigSep_insert (Transfers.not_mem_pending_succ hn)]; rfl :
    (bigSep (Transfers.pending (n := 9) n) (fun t => iprop(∃ f, gP.view.loc (thr d L) ↦[seg (N := 36421632) (outOff u t.val) 1024]{fullShare} f)) : sProp 𝕄) = iprop((∃ f, gP.view.loc (thr d L) ↦[seg (N := 36421632) (outOff u n) 1024]{fullShare} f) ∗ bigSep (Transfers.pending (n := 9) (n + 1)) (fun t => iprop(∃ f, gP.view.loc (thr d L) ↦[seg (N := 36421632) (outOff u t.val) 1024]{fullShare} f))))) $$ HW
  icases HW' with ⟨Hd1, HW⟩
  iapply (issue_out d L (src := sO.slice (Rect.unit (s := S18432) so S1024.size sinb) (fun _ => rfl))
    (dst := gP.slice (Rect.unit (s := S36421632) dO S1024.size dinb) (fun _ => rfl)) (N := nU) (fs := outC PV u) (fc := PV)
    (Dl := DO d L PV u p) (j := n) rfl (by omega)
    (Ss := seg (N := 18432) (9216 * p.val + 1024 * n) 1024) (Sd := seg (N := 36421632) (outOff u n) 1024)
    ((View.set_slice_whole _ _).trans ((unit_set so sinb).trans (by rw [hs])))
    ((View.set_slice_whole _ _).trans ((unit_set dO dinb).trans (by rw [hd])))
    (by
      intro x
      have hx : (x 0).val < 1024 := (x 0).isLt
      have h1 := unit_emb (N := 18432) so sinb x
      have h2 := unit_emb (N := 36421632) dO dinb x
      rw [hs] at h1
      rw [hd] at h2
      show PV ((Rect.unit (s := S36421632) dO S1024.size dinb).emb x) = (outC PV u : Vec F S18432 .f32) ((Rect.unit (s := S18432) so S1024.size sinb).emb x)
      unfold outC
      symm
      refine rd_val (N := 36421632) PV _ ?_
      refine h2.trans ?_
      rw [show (((Rect.unit (s := S18432) so S1024.size sinb).emb x) 0).val = _ from h1]
      have := p.isLt
      rw [show (9216 * p.val + 1024 * n + (x 0).val) % 9216 / 1024 = n by omega,
        show (9216 * p.val + 1024 * n + (x 0).val) % 1024 = (x 0).val by omega])
    (by unfold DO; exact Entails.refl _)) $$ [Hs1 Hd1 HB]
  · isplitl [Hs1]; · iexact Hs1
    isplitl [Hd1]; · iexact Hd1
    iexact HB
  iintro HB
  iapply Hk
  isplitl [Hs]; · iexact Hs
  isplitl [HW]; · iexact HW
  iexact HB

set_option maxHeartbeats 1000000 in
/-- The write of one pair of a block. -/
theorem dout_st {wd b : ℕ} (n : ℕ) (hn : n < 3)
    {so : Fin 1 → ℕ} {sinb} {dO : Fin 1 → ℕ} {dinb} {sm : DmaSem sig} {hsrc} {hdst} {hsem}
    (hsm : sm = mOd) (hs : so 0 = 1536 * n) (hd : dO 0 = doutOff wd b n)
    {k : PUnit → Prog (TpuEff nD τ sig (Elt F) Λ₀ (thr d L).2) α} {Q : α → sProp 𝕄} :
    DOutSt d L PV wd b n ⊢ iprop((DOutSt d L PV wd b (n + 1) -∗ wp frame (wpE (defs₀ (F := F)) 𝒱₀ (thr d L) none) Set.univ (k ⟨⟩) Q)
      -∗ wp frame (wpE (defs₀ (F := F)) 𝒱₀ (thr d L) none) Set.univ
        (.op (.enqueueDma (sO.slice (Rect.unit (s := S18432) so S1536.size sinb) (fun _ => rfl))
          (.here (gP.slice (Rect.unit (s := S36421632) dO S1536.size dinb) (fun _ => rfl))) (.dma sm) hsrc hdst hsem) k) Q) := by
  subst hsm
  unfold DOutSt
  iintro ⟨Hs, HW, HB⟩ Hk
  ihave Hs' := (held_split (ℓ := sO.view.loc (thr d L)) (S₁ := seg (N := 18432) (1536 * n) 1536)
    (S₂ := seg (N := 18432) (1536 * (n + 1)) (4608 - 1536 * (n + 1)))
    (seg_cut (by omega) (by omega)) (seg_disjoint (by omega))) $$ Hs
  icases Hs' with ⟨Hs1, Hs⟩
  ihave HW' := (Entails.of_eq (by rw [Transfers.pending_succ hn, bigSep_insert (Transfers.not_mem_pending_succ hn)]; rfl :
    (bigSep (Transfers.pending (n := 3) n) (fun t => iprop(∃ f, gP.view.loc (thr d L) ↦[seg (N := 36421632) (doutOff wd b t.val) 1536]{fullShare} f)) : sProp 𝕄) = iprop((∃ f, gP.view.loc (thr d L) ↦[seg (N := 36421632) (doutOff wd b n) 1536]{fullShare} f) ∗ bigSep (Transfers.pending (n := 3) (n + 1)) (fun t => iprop(∃ f, gP.view.loc (thr d L) ↦[seg (N := 36421632) (doutOff wd b t.val) 1536]{fullShare} f))))) $$ HW
  icases HW' with ⟨Hd1, HW⟩
  iapply (issue_out d L (src := sO.slice (Rect.unit (s := S18432) so S1536.size sinb) (fun _ => rfl))
    (dst := gP.slice (Rect.unit (s := S36421632) dO S1536.size dinb) (fun _ => rfl)) (N := nV) (fs := docC PV wd b) (fc := PV)
    (Dl := DOd d L PV wd b) (j := n) rfl (by omega)
    (Ss := seg (N := 18432) (1536 * n) 1536) (Sd := seg (N := 36421632) (doutOff wd b n) 1536)
    ((View.set_slice_whole _ _).trans ((unit_set so sinb).trans (by rw [hs])))
    ((View.set_slice_whole _ _).trans ((unit_set dO dinb).trans (by rw [hd])))
    (by
      intro x
      have hx : (x 0).val < 1536 := (x 0).isLt
      have h1 := unit_emb (N := 18432) so sinb x
      have h2 := unit_emb (N := 36421632) dO dinb x
      rw [hs] at h1
      rw [hd] at h2
      show PV ((Rect.unit (s := S36421632) dO S1536.size dinb).emb x) = (docC PV wd b : Vec F S18432 .f32) ((Rect.unit (s := S18432) so S1536.size sinb).emb x)
      unfold docC
      symm
      refine rd_val (N := 36421632) PV _ ?_
      refine h2.trans ?_
      rw [show (((Rect.unit (s := S18432) so S1536.size sinb).emb x) 0).val = _ from h1]
      rw [show (1536 * n + (x 0).val) / 1536 = n by omega,
        show (1536 * n + (x 0).val) % 1536 = (x 0).val by omega])
    (by unfold DOd; exact Entails.refl _)) $$ [Hs1 Hd1 HB]
  · isplitl [Hs1]; · iexact Hs1
    isplitl [Hd1]; · iexact Hd1
    iexact HB
  iintro HB
  iapply Hk
  isplitl [Hs]; · iexact Hs
  isplitl [HW]; · iexact HW
  iexact HB

end Copies

end Cert.ScKernelIdeal

end
-- ==== Proof.KernelIdealWait.lean ====
module

public import proofs.«01_k».proof.Proof.KernelIdealState

@[expose] public section

noncomputable section

/-!
# Waiting for a tile's copies

A tile waits for its copies one by one; when it has waited for all of a semaphore it holds everything they bring.
-/

namespace Cert.ScKernelIdeal

open Cert.KernelIdeal Cert.KernelIdeal.Gen Cert.FieldTables
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch)

variable {F : FTy → Type} [FloatOps F]

local notation "𝕄" => MT nD τ sig (HIx 1) (Elt F) ℕ UU ℕ

section Waits

variable {α : Type} (d : Dev nD) (L : grid0.Coords) (O : CellTallies nD τ sig (HIx 1)) (W : Waits sig (HIx 1))

/-- What the tile owes, with what lets it wait. -/
def OwL : sProp 𝕄 := iprop(levAts (K (F := F)).L (K (F := F)).lev ∗ Ow (F := F) d L O W)

variable {O W}

/-- The end of a part. -/
theorem wp_done {a : α} {Q : α → sProp 𝕄} :
    Q a ⊢ wp frame (wpE (defs₀ (F := F)) 𝒱₀ (thr d L) none) Set.univ (Prog.ret a) Q := by
  rw [wp_ret]; exact fupd_intro

/-- A wait that is not the last of its semaphore. -/
theorem w_mid (hO : ∀ g, O g none = 0) {s s' : Shape} {e e' : EltTy} {sp sp' : Space} {n N : ℕ} {sm sem : DmaSem sig}
    {srcw : Memref sig .scVector sp' s' e'} {dstw : Memref sig .scVector sp s e} {hsrc : srcw.view.WordExact} {hdst : dstw.view.WordExact}
    {k : PUnit → Prog (TpuEff nD τ sig (Elt F) Λ₀ (thr d L).2) α} {Dl : Fin n → sProp 𝕄} (j : ℕ) (hj : j + 1 < n)
    (hsm : sm = sem) (hN : dstw.view.dmaCredit = N) (hN0 : 0 < N) {Q : α → sProp 𝕄} :
    iprop(OwL d L O W ∗ Batch EC (thr d L) (.dma sem) (none : HIx 1) N Dl n (j * N))
      ⊢ iprop((iprop(OwL d L O W ∗ Batch EC (thr d L) (.dma sem) (none : HIx 1) N Dl n ((j + 1) * N)) -∗ wp frame (wpE (defs₀ (F := F)) 𝒱₀ (thr d L) none) Set.univ (k ⟨⟩) Q)
          -∗ wp frame (wpE (defs₀ (F := F)) 𝒱₀ (thr d L) none) Set.univ (.op (.waitDma2 sm srcw dstw hsrc hdst) k) Q) := by
  subst hsm
  unfold OwL
  iintro ⟨⟨#Hlv, HO⟩, HB⟩ Hk
  iapply (wait_mid d L hO hN (u := j * N) (Dl := Dl) (by
    have : (j + 1) * N < n * N := Nat.mul_lt_mul_of_pos_right hj hN0
    rw [Nat.mul_comm N n]; rw [Nat.succ_mul] at this; exact this)) $$ [HO HB]
  · isplitr; · iexact Hlv
    isplitl [HO]; · iexact HO
    iexact HB
  iintro ⟨HO, HB⟩
  iapply Hk
  isplitl [HO]
  · isplitr; · iexact Hlv
    iexact HO
  rw [Nat.succ_mul]
  iexact HB

/-- The last wait of a semaphore. -/
theorem w_last (hO : ∀ g, O g none = 0) {s s' : Shape} {e e' : EltTy} {sp sp' : Space} {n N : ℕ} {sm sem : DmaSem sig}
    {srcw : Memref sig .scVector sp' s' e'} {dstw : Memref sig .scVector sp s e} {hsrc : srcw.view.WordExact} {hdst : dstw.view.WordExact}
    {k : PUnit → Prog (TpuEff nD τ sig (Elt F) Λ₀ (thr d L).2) α} {Dl : Fin n → sProp 𝕄} (j : ℕ) (hj : j + 1 = n)
    (hsm : sm = sem) (hN : dstw.view.dmaCredit = N) (hN0 : 0 < N) {Q : α → sProp 𝕄} :
    iprop(OwL d L O W ∗ Batch EC (thr d L) (.dma sem) (none : HIx 1) N Dl n (j * N))
      ⊢ iprop((iprop(OwL d L O W ∗ bigSep Finset.univ Dl ∗ semVal (thr d L, .dma sem) 0) -∗ wp frame (wpE (defs₀ (F := F)) 𝒱₀ (thr d L) none) Set.univ (k ⟨⟩) Q)
          -∗ wp frame (wpE (defs₀ (F := F)) 𝒱₀ (thr d L) none) Set.univ (.op (.waitDma2 sm srcw dstw hsrc hdst) k) Q) := by
  subst hsm
  unfold OwL
  iintro ⟨⟨#Hlv, HO⟩, HB⟩ Hk
  iapply (wait_last d L hO hN hN0 (u := j * N) (Dl := Dl) (by
    rw [Nat.mul_comm N n, ← hj, Nat.succ_mul])) $$ [HO HB]
  · isplitr; · iexact Hlv
    isplitl [HO]; · iexact HO
    iexact HB
  iintro ⟨HO, HD, Hv⟩
  iapply Hk
  isplitl [HO]
  · isplitr; · iexact Hlv
    iexact HO
  isplitl [HD]; · iexact HD
  iexact Hv

end Waits

/-! ## Beginning and ending a batch -/

section Batches

variable {α : Type} (d : Dev nD) (L : grid0.Coords)
variable (tab : Vec F S6862752 .i32) (idx : Vec F S1916928 .i32) (xs : Vec F S1916928 .f32) (w : Vec F S58656 .f32)
variable (PV : Vec F S36421632 .f32) (LV : Vec F S49152 .f32)

/-- No read of a unit is on its way yet. -/
theorem in_begin {u : ℕ} {p : Fin 2} {pr : Prog (TpuEff nD τ sig (Elt F) Λ₀ (thr d L).2) α} {Q : α → sProp 𝕄} :
    iprop((∃ q, gI.view.loc (thr d L) ↦{q} idx) ∗ (∃ q, gX.view.loc (thr d L) ↦{q} xs) ∗ (∃ f, sI.view.loc (thr d L) ↦[seg (N := 12288) (6144 * p.val) (6144)]{fullShare} f) ∗ (∃ f, sX.view.loc (thr d L) ↦[seg (N := 12288) (6144 * p.val) (6144)]{fullShare} f) ∗ semVal (thr d L, .dma (mI p)) 0) ⊢ iprop((InA d L idx xs u p 0 -∗ wp frame (wpE (defs₀ (F := F)) 𝒱₀ (thr d L) none) Set.univ pr Q) -∗ wp frame (wpE (defs₀ (F := F)) 𝒱₀ (thr d L) none) Set.univ pr Q) := by
  iintro ⟨H1, H2, H3, H4, Hv⟩ Hk
  imod (Transfers.batch_alloc' EC (thr d L) (sm := .dma (mI p)) (E := Set.univ) (none : HIx 1) nU (DI d L idx xs u p)) $$ Hv with HB
  iapply Hk
  unfold InA
  isplitl [H1]; · iexact H1
  isplitl [H2]; · iexact H2
  isplitl [H3]; · iexact H3
  isplitl [H4]; · iexact H4
  iexact HB

/-- No read of a table is on its way yet. -/
theorem tab_begin {r : ℕ} {pr : Prog (TpuEff nD τ sig (Elt F) Λ₀ (thr d L).2) α} {Q : α → sProp 𝕄} :
    iprop((∃ q, gT.view.loc (thr d L) ↦{q} tab) ∗ (∃ f, sT.view.loc (thr d L) ↦[seg (N := 81280) (0) (40608)]{fullShare} f) ∗ (∃ f, sT.view.loc (thr d L) ↦[seg (N := 81280) (40608) (40608)]{fullShare} f) ∗ semVal (thr d L, .dma mT) 0) ⊢ iprop((TabA d L tab r 0 -∗ wp frame (wpE (defs₀ (F := F)) 𝒱₀ (thr d L) none) Set.univ pr Q) -∗ wp frame (wpE (defs₀ (F := F)) 𝒱₀ (thr d L) none) Set.univ pr Q) := by
  iintro ⟨H1, H2, H3, Hv⟩ Hk
  imod (Transfers.batch_alloc' EC (thr d L) (sm := .dma mT) (E := Set.univ) (none : HIx 1) nT (DT d L tab r)) $$ Hv with HB
  iapply Hk
  unfold TabA
  isplitl [H1]; · iexact H1
  isplitl [H2]; · iexact H2
  isplitl [H3]; · iexact H3
  iexact HB

/-- No write of a unit is on its way yet. -/
theorem out_begin {u : ℕ} {p : Fin 2} {pr : Prog (TpuEff nD τ sig (Elt F) Λ₀ (thr d L).2) α} {Q : α → sProp 𝕄} :
    iprop((sO.view.loc (thr d L) ↦[seg (N := 18432) (9216 * p.val) (9216)]{fullShare} outC PV u) ∗ (bigSep (Transfers.pending (n := 9) 0) (fun t => iprop(∃ f, gP.view.loc (thr d L) ↦[seg (N := 36421632) (outOff u t.val) 1024]{fullShare} f))) ∗ semVal (thr d L, .dma (mO p)) 0) ⊢ iprop((OutSt d L PV u p 0 -∗ wp frame (wpE (defs₀ (F := F)) 𝒱₀ (thr d L) none) Set.univ pr Q) -∗ wp frame (wpE (defs₀ (F := F)) 𝒱₀ (thr d L) none) Set.univ pr Q) := by
  iintro ⟨H1, H2, Hv⟩ Hk
  imod (Transfers.batch_alloc' EC (thr d L) (sm := .dma (mO p)) (E := Set.univ) (none : HIx 1) nU (DO d L PV u p)) $$ Hv with HB
  iapply Hk
  unfold OutSt
  isplitl [H1]; · iexact H1
  isplitl [H2]; · iexact H2
  iexact HB

/-- No read of a block's tables is on its way yet. -/
theorem dtab_begin {b : ℕ} {pr : Prog (TpuEff nD τ sig (Elt F) Λ₀ (thr d L).2) α} {Q : α → sProp 𝕄} :
    iprop((∃ q, gT.view.loc (thr d L) ↦{q} tab) ∗ (∃ f, sT.view.loc (thr d L) ↦[seg (N := 81280) (0) (27072)]{fullShare} f) ∗ semVal (thr d L, .dma mTd) 0) ⊢ iprop((DTabSt d L tab w b 0 -∗ wp frame (wpE (defs₀ (F := F)) 𝒱₀ (thr d L) none) Set.univ pr Q) -∗ wp frame (wpE (defs₀ (F := F)) 𝒱₀ (thr d L) none) Set.univ pr Q) := by
  iintro ⟨H1, H2, Hv⟩ Hk
  imod (Transfers.batch_alloc' EC (thr d L) (sm := .dma mTd) (E := Set.univ) (none : HIx 1) nT (DTd d L tab w b)) $$ Hv with HB
  iapply Hk
  unfold DTabSt
  isplitl [H1]; · iexact H1
  isplitl [H2]; · iexact H2
  iexact HB

/-- None of the tile's reads for a block is on its way yet. -/
theorem din_begin {wd b : ℕ} {pr : Prog (TpuEff nD τ sig (Elt F) Λ₀ (thr d L).2) α} {Q : α → sProp 𝕄} :
    iprop((∃ q, gI.view.loc (thr d L) ↦{q} idx) ∗ (∃ q, gX.view.loc (thr d L) ↦{q} xs) ∗ (∃ f, sI.view.loc (thr d L) ↦[seg (N := 12288) (0) (4608)]{fullShare} f) ∗ (∃ f, sX.view.loc (thr d L) ↦[seg (N := 12288) (0) (4608)]{fullShare} f) ∗ semVal (thr d L, .dma mId) 0) ⊢ iprop((DInA d L idx xs wd b 0 -∗ wp frame (wpE (defs₀ (F := F)) 𝒱₀ (thr d L) none) Set.univ pr Q) -∗ wp frame (wpE (defs₀ (F := F)) 𝒱₀ (thr d L) none) Set.univ pr Q) := by
  iintro ⟨H1, H2, H3, H4, Hv⟩ Hk
  imod (Transfers.batch_alloc' EC (thr d L) (sm := .dma mId) (E := Set.univ) (none : HIx 1) nV (DId d L idx xs wd b)) $$ Hv with HB
  iapply Hk
  unfold DInA
  isplitl [H1]; · iexact H1
  isplitl [H2]; · iexact H2
  isplitl [H3]; · iexact H3
  isplitl [H4]; · iexact H4
  iexact HB

/-- None of the tile's writes for a block is on its way yet. -/
theorem dout_begin {wd b : ℕ} {pr : Prog (TpuEff nD τ sig (Elt F) Λ₀ (thr d L).2) α} {Q : α → sProp 𝕄} :
    iprop((sO.view.loc (thr d L) ↦[seg (N := 18432) (0) (4608)]{fullShare} docC PV wd b) ∗ (bigSep (Transfers.pending (n := 3) 0) (fun t => iprop(∃ f, gP.view.loc (thr d L) ↦[seg (N := 36421632) (doutOff wd b t.val) 1536]{fullShare} f))) ∗ semVal (thr d L, .dma mOd) 0) ⊢ iprop((DOutSt d L PV wd b 0 -∗ wp frame (wpE (defs₀ (F := F)) 𝒱₀ (thr d L) none) Set.univ pr Q) -∗ wp frame (wpE (defs₀ (F := F)) 𝒱₀ (thr d L) none) Set.univ pr Q) := by
  iintro ⟨H1, H2, Hv⟩ Hk
  imod (Transfers.batch_alloc' EC (thr d L) (sm := .dma mOd) (E := Set.univ) (none : HIx 1) nV (DOd d L PV wd b)) $$ Hv with HB
  iapply Hk
  unfold DOutSt
  isplitl [H1]; · iexact H1
  isplitl [H2]; · iexact H2
  iexact HB

/-- All reads of a unit are on their way. -/
theorem in_ready {u : ℕ} {p : Fin 2} : InA d L idx xs u p 6 ⊢ iprop((∃ q, gI.view.loc (thr d L) ↦{q} idx) ∗ (∃ q, gX.view.loc (thr d L) ↦{q} xs) ∗ Batch EC (thr d L) (.dma (mI p)) (none : HIx 1) nU (DI d L idx xs u p) 12 (0 * nU)) := by
  unfold InA
  iintro ⟨H1, H2, -, -, HB⟩
  isplitl [H1]; · iexact H1
  isplitl [H2]; · iexact H2
  rw [Nat.zero_mul]; iexact HB

/-- All reads of tables are on their way. -/
theorem tab_ready {r : ℕ} : TabA d L tab r 9 ⊢ iprop((∃ q, gT.view.loc (thr d L) ↦{q} tab) ∗ Batch EC (thr d L) (.dma mT) (none : HIx 1) nT (DT d L tab r) 18 (0 * nT)) := by
  unfold TabA
  iintro ⟨H1, -, -, HB⟩
  isplitl [H1]; · iexact H1
  rw [Nat.zero_mul]; iexact HB

/-- All writes of a unit are on their way. -/
theorem out_ready {u : ℕ} {p : Fin 2} : OutSt d L PV u p 9 ⊢ iprop(Batch EC (thr d L) (.dma (mO p)) (none : HIx 1) nU (DO d L PV u p) 9 (0 * nU)) := by
  unfold OutSt
  iintro ⟨-, -, HB⟩
  rw [Nat.zero_mul]; iexact HB

/-- All reads of a block's tables and weights are on their way. -/
theorem dtab_ready {b : ℕ} : DTabW d L tab w b ⊢ iprop((∃ q, gW.view.loc (thr d L) ↦{q} w) ∗ Batch EC (thr d L) (.dma mTd) (none : HIx 1) nT (DTd d L tab w b) 7 (0 * nT)) := by
  unfold DTabW
  iintro ⟨H1, HB⟩
  isplitl [H1]; · iexact H1
  rw [Nat.zero_mul]; iexact HB

/-- All the tile's reads for a block are on their way. -/
theorem din_ready {wd b : ℕ} : DInA d L idx xs wd b 3 ⊢ iprop((∃ q, gI.view.loc (thr d L) ↦{q} idx) ∗ (∃ q, gX.view.loc (thr d L) ↦{q} xs) ∗ Batch EC (thr d L) (.dma mId) (none : HIx 1) nV (DId d L idx xs wd b) 6 (0 * nV)) := by
  unfold DInA
  iintro ⟨H1, H2, -, -, HB⟩
  isplitl [H1]; · iexact H1
  isplitl [H2]; · iexact H2
  rw [Nat.zero_mul]; iexact HB

/-- All the tile's writes for a block are on their way. -/
theorem dout_ready {wd b : ℕ} : DOutSt d L PV wd b 3 ⊢ iprop(Batch EC (thr d L) (.dma mOd) (none : HIx 1) nV (DOd d L PV wd b) 3 (0 * nV)) := by
  unfold DOutSt
  iintro ⟨-, -, HB⟩
  rw [Nat.zero_mul]; iexact HB

set_option maxHeartbeats 1000000 in
/-- What the reads of a unit bring. -/
theorem in_done {u : ℕ} {p : Fin 2} : (bigSep Finset.univ (DI d L idx xs u p) : sProp 𝕄) ⊢ iprop((sI.view.loc (thr d L) ↦[seg (N := 12288) (6144 * p.val) (6144)]{fullShare} chunkC idx u) ∗ (sX.view.loc (thr d L) ↦[seg (N := 12288) (6144 * p.val) (6144)]{fullShare} chunkC xs u)) := by
  rw [bigSep_univ_eq_bigSepL [0, 1, 2, 3, 4, 5, 6, 7, 8, 9, 10, 11] (by decide) (by decide)]
  refine BIBase.Entails.trans (BIBase.Entails.of_eq (show _ = iprop((sI.view.loc (thr d L) ↦[seg (N := 12288) (6144 * p.val + 0) (1024)]{fullShare} chunkC idx u) ∗ (sX.view.loc (thr d L) ↦[seg (N := 12288) (6144 * p.val + 0) (1024)]{fullShare} chunkC xs u) ∗ (sI.view.loc (thr d L) ↦[seg (N := 12288) (6144 * p.val + 1024) (1024)]{fullShare} chunkC idx u) ∗ (sX.view.loc (thr d L) ↦[seg (N := 12288) (6144 * p.val + 1024) (1024)]{fullShare} chunkC xs u) ∗ (sI.view.loc (thr d L) ↦[seg (N := 12288) (6144 * p.val + 2048) (1024)]{fullShare} chunkC idx u) ∗ (sX.view.loc (thr d L) ↦[seg (N := 12288) (6144 * p.val + 2048) (1024)]{fullShare} chunkC xs u) ∗ (sI.view.loc (thr d L) ↦[seg (N := 12288) (6144 * p.val + 3072) (1024)]{fullShare} chunkC idx u) ∗ (sX.view.loc (thr d L) ↦[seg (N := 12288) (6144 * p.val + 3072) (1024)]{fullShare} chunkC xs u) ∗ (sI.view.loc (thr d L) ↦[seg (N := 12288) (6144 * p.val + 4096) (1024)]{fullShare} chunkC idx u) ∗ (sX.view.loc (thr d L) ↦[seg (N := 12288) (6144 * p.val + 4096) (1024)]{fullShare} chunkC xs u) ∗ (sI.view.loc (thr d L) ↦[seg (N := 12288) (6144 * p.val + 5120) (1024)]{fullShare} chunkC idx u) ∗ (sX.view.loc (thr d L) ↦[seg (N := 12288) (6144 * p.val + 5120) (1024)]{fullShare} chunkC xs u)) from rfl)) ?_
  iintro ⟨A0, B0, A1, B1, A2, B2, A3, B3, A4, B4, A5, B5⟩
  ihave A0 := (held_join (ℓ := sI.view.loc (thr d L)) (f := chunkC idx u) (S := seg (N := 12288) (6144 * p.val) 2048) (S₁ := seg (N := 12288) (6144 * p.val) 1024) (S₂ := seg (N := 12288) (6144 * p.val + 1024) 1024) (seg_cut rfl rfl) (seg_disjoint (by omega))) $$ [A0 A1]
  · isplitl [A0]; · iexact A0
    iexact A1
  ihave A0 := (held_join (ℓ := sI.view.loc (thr d L)) (f := chunkC idx u) (S := seg (N := 12288) (6144 * p.val) 3072) (S₁ := seg (N := 12288) (6144 * p.val) 2048) (S₂ := seg (N := 12288) (6144 * p.val + 2048) 1024) (seg_cut rfl rfl) (seg_disjoint (by omega))) $$ [A0 A2]
  · isplitl [A0]; · iexact A0
    iexact A2
  ihave A0 := (held_join (ℓ := sI.view.loc (thr d L)) (f := chunkC idx u) (S := seg (N := 12288) (6144 * p.val) 4096) (S₁ := seg (N := 12288) (6144 * p.val) 3072) (S₂ := seg (N := 12288) (6144 * p.val + 3072) 1024) (seg_cut rfl rfl) (seg_disjoint (by omega))) $$ [A0 A3]
  · isplitl [A0]; · iexact A0
    iexact A3
  ihave A0 := (held_join (ℓ := sI.view.loc (thr d L)) (f := chunkC idx u) (S := seg (N := 12288) (6144 * p.val) 5120) (S₁ := seg (N := 12288) (6144 * p.val) 4096) (S₂ := seg (N := 12288) (6144 * p.val + 4096) 1024) (seg_cut rfl rfl) (seg_disjoint (by omega))) $$ [A0 A4]
  · isplitl [A0]; · iexact A0
    iexact A4
  ihave A0 := (held_join (ℓ := sI.view.loc (thr d L)) (f := chunkC idx u) (S := seg (N := 12288) (6144 * p.val) 6144) (S₁ := seg (N := 12288) (6144 * p.val) 5120) (S₂ := seg (N := 12288) (6144 * p.val + 5120) 1024) (seg_cut rfl rfl) (seg_disjoint (by omega))) $$ [A0 A5]
  · isplitl [A0]; · iexact A0
    iexact A5
  ihave B0 := (held_join (ℓ := sX.view.loc (thr d L)) (f := chunkC xs u) (S := seg (N := 12288) (6144 * p.val) 2048) (S₁ := seg (N := 12288) (6144 * p.val) 1024) (S₂ := seg (N := 12288) (6144 * p.val + 1024) 1024) (seg_cut rfl rfl) (seg_disjoint (by omega))) $$ [B0 B1]
  · isplitl [B0]; · iexact B0
    iexact B1
  ihave B0 := (held_join (ℓ := sX.view.loc (thr d L)) (f := chunkC xs u) (S := seg (N := 12288) (6144 * p.val) 3072) (S₁ := seg (N := 12288) (6144 * p.val) 2048) (S₂ := seg (N := 12288) (6144 * p.val + 2048) 1024) (seg_cut rfl rfl) (seg_disjoint (by omega))) $$ [B0 B2]
  · isplitl [B0]; · iexact B0
    iexact B2
  ihave B0 := (held_join (ℓ := sX.view.loc (thr d L)) (f := chunkC xs u) (S := seg (N := 12288) (6144 * p.val) 4096) (S₁ := seg (N := 12288) (6144 * p.val) 3072) (S₂ := seg (N := 12288) (6144 * p.val + 3072) 1024) (seg_cut rfl rfl) (seg_disjoint (by omega))) $$ [B0 B3]
  · isplitl [B0]; · iexact B0
    iexact B3
  ihave B0 := (held_join (ℓ := sX.view.loc (thr d L)) (f := chunkC xs u) (S := seg (N := 12288) (6144 * p.val) 5120) (S₁ := seg (N := 12288) (6144 * p.val) 4096) (S₂ := seg (N := 12288) (6144 * p.val + 4096) 1024) (seg_cut rfl rfl) (seg_disjoint (by omega))) $$ [B0 B4]
  · isplitl [B0]; · iexact B0
    iexact B4
  ihave B0 := (held_join (ℓ := sX.view.loc (thr d L)) (f := chunkC xs u) (S := seg (N := 12288) (6144 * p.val) 6144) (S₁ := seg (N := 12288) (6144 * p.val) 5120) (S₂ := seg (N := 12288) (6144 * p.val + 5120) 1024) (seg_cut rfl rfl) (seg_disjoint (by omega))) $$ [B0 B5]
  · isplitl [B0]; · iexact B0
    iexact B5
  isplitl [A0]; · iexact A0
  iexact B0

set_option maxHeartbeats 1000000 in
/-- What the tile's reads for a block bring. -/
theorem din_done {wd b : ℕ} : (bigSep Finset.univ (DId d L idx xs wd b) : sProp 𝕄) ⊢ iprop((sI.view.loc (thr d L) ↦[seg (N := 12288) (0) (4608)]{fullShare} dchunkC idx wd b) ∗ (sX.view.loc (thr d L) ↦[seg (N := 12288) (0) (4608)]{fullShare} dchunkC xs wd b)) := by
  rw [bigSep_univ_eq_bigSepL [0, 1, 2, 3, 4, 5] (by decide) (by decide)]
  refine BIBase.Entails.trans (BIBase.Entails.of_eq (show _ = iprop((sI.view.loc (thr d L) ↦[seg (N := 12288) (0) (1536)]{fullShare} dchunkC idx wd b) ∗ (sX.view.loc (thr d L) ↦[seg (N := 12288) (0) (1536)]{fullShare} dchunkC xs wd b) ∗ (sI.view.loc (thr d L) ↦[seg (N := 12288) (1536) (1536)]{fullShare} dchunkC idx wd b) ∗ (sX.view.loc (thr d L) ↦[seg (N := 12288) (1536) (1536)]{fullShare} dchunkC xs wd b) ∗ (sI.view.loc (thr d L) ↦[seg (N := 12288) (3072) (1536)]{fullShare} dchunkC idx wd b) ∗ (sX.view.loc (thr d L) ↦[seg (N := 12288) (3072) (1536)]{fullShare} dchunkC xs wd b)) from rfl)) ?_
  iintro ⟨A0, B0, A1, B1, A2, B2⟩
  ihave A0 := (held_join (ℓ := sI.view.loc (thr d L)) (f := dchunkC idx wd b) (S := seg (N := 12288) (0) 3072) (S₁ := seg (N := 12288) (0) 1536) (S₂ := seg (N := 12288) (1536) 1536) (seg_cut rfl rfl) (seg_disjoint (by omega))) $$ [A0 A1]
  · isplitl [A0]; · iexact A0
    iexact A1
  ihave A0 := (held_join (ℓ := sI.view.loc (thr d L)) (f := dchunkC idx wd b) (S := seg (N := 12288) (0) 4608) (S₁ := seg (N := 12288) (0) 3072) (S₂ := seg (N := 12288) (3072) 1536) (seg_cut rfl rfl) (seg_disjoint (by omega))) $$ [A0 A2]
  · isplitl [A0]; · iexact A0
    iexact A2
  ihave B0 := (held_join (ℓ := sX.view.loc (thr d L)) (f := dchunkC xs wd b) (S := seg (N := 12288) (0) 3072) (S₁ := seg (N := 12288) (0) 1536) (S₂ := seg (N := 12288) (1536) 1536) (seg_cut rfl rfl) (seg_disjoint (by omega))) $$ [B0 B1]
  · isplitl [B0]; · iexact B0
    iexact B1
  ihave B0 := (held_join (ℓ := sX.view.loc (thr d L)) (f := dchunkC xs wd b) (S := seg (N := 12288) (0) 4608) (S₁ := seg (N := 12288) (0) 3072) (S₂ := seg (N := 12288) (3072) 1536) (seg_cut rfl rfl) (seg_disjoint (by omega))) $$ [B0 B2]
  · isplitl [B0]; · iexact B0
    iexact B2
  isplitl [A0]; · iexact A0
  iexact B0

set_option maxHeartbeats 1000000 in
/-- What the reads of a rectangle's tables bring. -/
theorem tab_done2 {r : ℕ} : (bigSep Finset.univ (DT d L tab r) : sProp 𝕄) ⊢ iprop((sT.view.loc (thr d L) ↦[seg (N := 81280) (0) (40608)]{fullShare} tabC tab r) ∗ (sT.view.loc (thr d L) ↦[seg (N := 81280) (40608) (40608)]{fullShare} tabC tab r)) := by
  rw [bigSep_univ_eq_bigSepL [0, 1, 2, 3, 4, 5, 6, 7, 8, 9, 10, 11, 12, 13, 14, 15, 16, 17] (by decide) (by decide)]
  refine BIBase.Entails.trans (BIBase.Entails.of_eq (show _ = iprop((sT.view.loc (thr d L) ↦[seg (N := 81280) (0) (4512)]{fullShare} tabC tab r) ∗ (sT.view.loc (thr d L) ↦[seg (N := 81280) (40608) (4512)]{fullShare} tabC tab r) ∗ (sT.view.loc (thr d L) ↦[seg (N := 81280) (4512) (4512)]{fullShare} tabC tab r) ∗ (sT.view.loc (thr d L) ↦[seg (N := 81280) (45120) (4512)]{fullShare} tabC tab r) ∗ (sT.view.loc (thr d L) ↦[seg (N := 81280) (9024) (4512)]{fullShare} tabC tab r) ∗ (sT.view.loc (thr d L) ↦[seg (N := 81280) (49632) (4512)]{fullShare} tabC tab r) ∗ (sT.view.loc (thr d L) ↦[seg (N := 81280) (13536) (4512)]{fullShare} tabC tab r) ∗ (sT.view.loc (thr d L) ↦[seg (N := 81280) (54144) (4512)]{fullShare} tabC tab r) ∗ (sT.view.loc (thr d L) ↦[seg (N := 81280) (18048) (4512)]{fullShare} tabC tab r) ∗ (sT.view.loc (thr d L) ↦[seg (N := 81280) (58656) (4512)]{fullShare} tabC tab r) ∗ (sT.view.loc (thr d L) ↦[seg (N := 81280) (22560) (4512)]{fullShare} tabC tab r) ∗ (sT.view.loc (thr d L) ↦[seg (N := 81280) (63168) (4512)]{fullShare} tabC tab r) ∗ (sT.view.loc (thr d L) ↦[seg (N := 81280) (27072) (4512)]{fullShare} tabC tab r) ∗ (sT.view.loc (thr d L) ↦[seg (N := 81280) (67680) (4512)]{fullShare} tabC tab r) ∗ (sT.view.loc (thr d L) ↦[seg (N := 81280) (31584) (4512)]{fullShare} tabC tab r) ∗ (sT.view.loc (thr d L) ↦[seg (N := 81280) (72192) (4512)]{fullShare} tabC tab r) ∗ (sT.view.loc (thr d L) ↦[seg (N := 81280) (36096) (4512)]{fullShare} tabC tab r) ∗ (sT.view.loc (thr d L) ↦[seg (N := 81280) (76704) (4512)]{fullShare} tabC tab r)) from rfl)) ?_
  iintro ⟨A0, B0, A1, B1, A2, B2, A3, B3, A4, B4, A5, B5, A6, B6, A7, B7, A8, B8⟩
  ihave A0 := (held_join (ℓ := sT.view.loc (thr d L)) (f := tabC tab r) (S := seg (N := 81280) (0) 9024) (S₁ := seg (N := 81280) (0) 4512) (S₂ := seg (N := 81280) (4512) 4512) (seg_cut rfl rfl) (seg_disjoint (by omega))) $$ [A0 A1]
  · isplitl [A0]; · iexact A0
    iexact A1
  ihave A0 := (held_join (ℓ := sT.view.loc (thr d L)) (f := tabC tab r) (S := seg (N := 81280) (0) 13536) (S₁ := seg (N := 81280) (0) 9024) (S₂ := seg (N := 81280) (9024) 4512) (seg_cut rfl rfl) (seg_disjoint (by omega))) $$ [A0 A2]
  · isplitl [A0]; · iexact A0
    iexact A2
  ihave A0 := (held_join (ℓ := sT.view.loc (thr d L)) (f := tabC tab r) (S := seg (N := 81280) (0) 18048) (S₁ := seg (N := 81280) (0) 13536) (S₂ := seg (N := 81280) (13536) 4512) (seg_cut rfl rfl) (seg_disjoint (by omega))) $$ [A0 A3]
  · isplitl [A0]; · iexact A0
    iexact A3
  ihave A0 := (held_join (ℓ := sT.view.loc (thr d L)) (f := tabC tab r) (S := seg (N := 81280) (0) 22560) (S₁ := seg (N := 81280) (0) 18048) (S₂ := seg (N := 81280) (18048) 4512) (seg_cut rfl rfl) (seg_disjoint (by omega))) $$ [A0 A4]
  · isplitl [A0]; · iexact A0
    iexact A4
  ihave A0 := (held_join (ℓ := sT.view.loc (thr d L)) (f := tabC tab r) (S := seg (N := 81280) (0) 27072) (S₁ := seg (N := 81280) (0) 22560) (S₂ := seg (N := 81280) (22560) 4512) (seg_cut rfl rfl) (seg_disjoint (by omega))) $$ [A0 A5]
  · isplitl [A0]; · iexact A0
    iexact A5
  ihave A0 := (held_join (ℓ := sT.view.loc (thr d L)) (f := tabC tab r) (S := seg (N := 81280) (0) 31584) (S₁ := seg (N := 81280) (0) 27072) (S₂ := seg (N := 81280) (27072) 4512) (seg_cut rfl rfl) (seg_disjoint (by omega))) $$ [A0 A6]
  · isplitl [A0]; · iexact A0
    iexact A6
  ihave A0 := (held_join (ℓ := sT.view.loc (thr d L)) (f := tabC tab r) (S := seg (N := 81280) (0) 36096) (S₁ := seg (N := 81280) (0) 31584) (S₂ := seg (N := 81280) (31584) 4512) (seg_cut rfl rfl) (seg_disjoint (by omega))) $$ [A0 A7]
  · isplitl [A0]; · iexact A0
    iexact A7
  ihave A0 := (held_join (ℓ := sT.view.loc (thr d L)) (f := tabC tab r) (S := seg (N := 81280) (0) 40608) (S₁ := seg (N := 81280) (0) 36096) (S₂ := seg (N := 81280) (36096) 4512) (seg_cut rfl rfl) (seg_disjoint (by omega))) $$ [A0 A8]
  · isplitl [A0]; · iexact A0
    iexact A8
  ihave B0 := (held_join (ℓ := sT.view.loc (thr d L)) (f := tabC tab r) (S := seg (N := 81280) (40608) 9024) (S₁ := seg (N := 81280) (40608) 4512) (S₂ := seg (N := 81280) (40608 + 4512) 4512) (seg_cut rfl rfl) (seg_disjoint (by omega))) $$ [B0 B1]
  · isplitl [B0]; · iexact B0
    iexact B1
  ihave B0 := (held_join (ℓ := sT.view.loc (thr d L)) (f := tabC tab r) (S := seg (N := 81280) (40608) 13536) (S₁ := seg (N := 81280) (40608) 9024) (S₂ := seg (N := 81280) (40608 + 9024) 4512) (seg_cut rfl rfl) (seg_disjoint (by omega))) $$ [B0 B2]
  · isplitl [B0]; · iexact B0
    iexact B2
  ihave B0 := (held_join (ℓ := sT.view.loc (thr d L)) (f := tabC tab r) (S := seg (N := 81280) (40608) 18048) (S₁ := seg (N := 81280) (40608) 13536) (S₂ := seg (N := 81280) (40608 + 13536) 4512) (seg_cut rfl rfl) (seg_disjoint (by omega))) $$ [B0 B3]
  · isplitl [B0]; · iexact B0
    iexact B3
  ihave B0 := (held_join (ℓ := sT.view.loc (thr d L)) (f := tabC tab r) (S := seg (N := 81280) (40608) 22560) (S₁ := seg (N := 81280) (40608) 18048) (S₂ := seg (N := 81280) (40608 + 18048) 4512) (seg_cut rfl rfl) (seg_disjoint (by omega))) $$ [B0 B4]
  · isplitl [B0]; · iexact B0
    iexact B4
  ihave B0 := (held_join (ℓ := sT.view.loc (thr d L)) (f := tabC tab r) (S := seg (N := 81280) (40608) 27072) (S₁ := seg (N := 81280) (40608) 22560) (S₂ := seg (N := 81280) (40608 + 22560) 4512) (seg_cut rfl rfl) (seg_disjoint (by omega))) $$ [B0 B5]
  · isplitl [B0]; · iexact B0
    iexact B5
  ihave B0 := (held_join (ℓ := sT.view.loc (thr d L)) (f := tabC tab r) (S := seg (N := 81280) (40608) 31584) (S₁ := seg (N := 81280) (40608) 27072) (S₂ := seg (N := 81280) (40608 + 27072) 4512) (seg_cut rfl rfl) (seg_disjoint (by omega))) $$ [B0 B6]
  · isplitl [B0]; · iexact B0
    iexact B6
  ihave B0 := (held_join (ℓ := sT.view.loc (thr d L)) (f := tabC tab r) (S := seg (N := 81280) (40608) 36096) (S₁ := seg (N := 81280) (40608) 31584) (S₂ := seg (N := 81280) (40608 + 31584) 4512) (seg_cut rfl rfl) (seg_disjoint (by omega))) $$ [B0 B7]
  · isplitl [B0]; · iexact B0
    iexact B7
  ihave B0 := (held_join (ℓ := sT.view.loc (thr d L)) (f := tabC tab r) (S := seg (N := 81280) (40608) 40608) (S₁ := seg (N := 81280) (40608) 36096) (S₂ := seg (N := 81280) (40608 + 36096) 4512) (seg_cut rfl rfl) (seg_disjoint (by omega))) $$ [B0 B8]
  · isplitl [B0]; · iexact B0
    iexact B8
  isplitl [A0]; · iexact A0
  iexact B0

/-- All of a rectangle's tables. -/
theorem tab_done {r : ℕ} : (bigSep Finset.univ (DT d L tab r) : sProp 𝕄) ⊢ (sT.view.loc (thr d L) ↦[seg (N := 81280) 0 81216]{fullShare} tabC tab r) :=
  (tab_done2 d L tab).trans (held_join (seg_cut rfl rfl) (seg_disjoint (by omega)))

set_option maxHeartbeats 1000000 in
/-- What the reads of a block's tables and weights bring. -/
theorem dtab_done {b : ℕ} : (bigSep Finset.univ (DTd d L tab w b) : sProp 𝕄) ⊢ iprop((sT.view.loc (thr d L) ↦[seg (N := 81280) (0) (27072)]{fullShare} dtabC tab b) ∗ (sW.view.loc (thr d L) ↦[seg (N := 4608) (0) (4512)]{fullShare} dwC w b)) := by
  rw [bigSep_univ_eq_bigSepL [0, 1, 2, 3, 4, 5, 6] (by decide) (by decide)]
  refine BIBase.Entails.trans (BIBase.Entails.of_eq (show _ = iprop((sT.view.loc (thr d L) ↦[seg (N := 81280) (0) (4512)]{fullShare} dtabC tab b) ∗ (sT.view.loc (thr d L) ↦[seg (N := 81280) (4512) (4512)]{fullShare} dtabC tab b) ∗ (sT.view.loc (thr d L) ↦[seg (N := 81280) (9024) (4512)]{fullShare} dtabC tab b) ∗ (sT.view.loc (thr d L) ↦[seg (N := 81280) (13536) (4512)]{fullShare} dtabC tab b) ∗ (sT.view.loc (thr d L) ↦[seg (N := 81280) (18048) (4512)]{fullShare} dtabC tab b) ∗ (sT.view.loc (thr d L) ↦[seg (N := 81280) (22560) (4512)]{fullShare} dtabC tab b) ∗ (sW.view.loc (thr d L) ↦[seg (N := 4608) (0) (4512)]{fullShare} dwC w b)) from rfl)) ?_
  iintro ⟨A0, A1, A2, A3, A4, A5, B⟩
  ihave A0 := (held_join (ℓ := sT.view.loc (thr d L)) (f := dtabC tab b) (S := seg (N := 81280) (0) 9024) (S₁ := seg (N := 81280) (0) 4512) (S₂ := seg (N := 81280) (4512) 4512) (seg_cut rfl rfl) (seg_disjoint (by omega))) $$ [A0 A1]
  · isplitl [A0]; · iexact A0
    iexact A1
  ihave A0 := (held_join (ℓ := sT.view.loc (thr d L)) (f := dtabC tab b) (S := seg (N := 81280) (0) 13536) (S₁ := seg (N := 81280) (0) 9024) (S₂ := seg (N := 81280) (9024) 4512) (seg_cut rfl rfl) (seg_disjoint (by omega))) $$ [A0 A2]
  · isplitl [A0]; · iexact A0
    iexact A2
  ihave A0 := (held_join (ℓ := sT.view.loc (thr d L)) (f := dtabC tab b) (S := seg (N := 81280) (0) 18048) (S₁ := seg (N := 81280) (0) 13536) (S₂ := seg (N := 81280) (13536) 4512) (seg_cut rfl rfl) (seg_disjoint (by omega))) $$ [A0 A3]
  · isplitl [A0]; · iexact A0
    iexact A3
  ihave A0 := (held_join (ℓ := sT.view.loc (thr d L)) (f := dtabC tab b) (S := seg (N := 81280) (0) 22560) (S₁ := seg (N := 81280) (0) 18048) (S₂ := seg (N := 81280) (18048) 4512) (seg_cut rfl rfl) (seg_disjoint (by omega))) $$ [A0 A4]
  · isplitl [A0]; · iexact A0
    iexact A4
  ihave A0 := (held_join (ℓ := sT.view.loc (thr d L)) (f := dtabC tab b) (S := seg (N := 81280) (0) 27072) (S₁ := seg (N := 81280) (0) 22560) (S₂ := seg (N := 81280) (22560) 4512) (seg_cut rfl rfl) (seg_disjoint (by omega))) $$ [A0 A5]
  · isplitl [A0]; · iexact A0
    iexact A5
  isplitl [A0]; · iexact A0
  iexact B

set_option maxHeartbeats 1000000 in
/-- What the writes of a unit leave. -/
theorem out_done {u : ℕ} {p : Fin 2} : (bigSep Finset.univ (DO d L PV u p) : sProp 𝕄) ⊢ iprop((bigSep Finset.univ (fun t : Fin 9 => (gP.view.loc (thr d L) ↦[seg (N := 36421632) (outOff u t.val) 1024]{fullShare} PV : sProp 𝕄))) ∗ (∃ f, sO.view.loc (thr d L) ↦[seg (N := 18432) (9216 * p.val) (9216)]{fullShare} f)) := by
  rw [bigSep_univ_eq_bigSepL [0, 1, 2, 3, 4, 5, 6, 7, 8] (by decide) (by decide), bigSep_univ_eq_bigSepL [0, 1, 2, 3, 4, 5, 6, 7, 8] (by decide) (by decide)]
  refine BIBase.Entails.trans (BIBase.Entails.of_eq (show _ = iprop(((gP.view.loc (thr d L) ↦[seg (N := 36421632) (outOff u 0) (1024)]{fullShare} PV) ∗ (∃ f, sO.view.loc (thr d L) ↦[seg (N := 18432) (9216 * p.val + 0) (1024)]{fullShare} f)) ∗ ((gP.view.loc (thr d L) ↦[seg (N := 36421632) (outOff u 1) (1024)]{fullShare} PV) ∗ (∃ f, sO.view.loc (thr d L) ↦[seg (N := 18432) (9216 * p.val + 1024) (1024)]{fullShare} f)) ∗ ((gP.view.loc (thr d L) ↦[seg (N := 36421632) (outOff u 2) (1024)]{fullShare} PV) ∗ (∃ f, sO.view.loc (thr d L) ↦[seg (N := 18432) (9216 * p.val + 2048) (1024)]{fullShare} f)) ∗ ((gP.view.loc (thr d L) ↦[seg (N := 36421632) (outOff u 3) (1024)]{fullShare} PV) ∗ (∃ f, sO.view.loc (thr d L) ↦[seg (N := 18432) (9216 * p.val + 3072) (1024)]{fullShare} f)) ∗ ((gP.view.loc (thr d L) ↦[seg (N := 36421632) (outOff u 4) (1024)]{fullShare} PV) ∗ (∃ f, sO.view.loc (thr d L) ↦[seg (N := 18432) (9216 * p.val + 4096) (1024)]{fullShare} f)) ∗ ((gP.view.loc (thr d L) ↦[seg (N := 36421632) (outOff u 5) (1024)]{fullShare} PV) ∗ (∃ f, sO.view.loc (thr d L) ↦[seg (N := 18432) (9216 * p.val + 5120) (1024)]{fullShare} f)) ∗ ((gP.view.loc (thr d L) ↦[seg (N := 36421632) (outOff u 6) (1024)]{fullShare} PV) ∗ (∃ f, sO.view.loc (thr d L) ↦[seg (N := 18432) (9216 * p.val + 6144) (1024)]{fullShare} f)) ∗ ((gP.view.loc (thr d L) ↦[seg (N := 36421632) (outOff u 7) (1024)]{fullShare} PV) ∗ (∃ f, sO.view.loc (thr d L) ↦[seg (N := 18432) (9216 * p.val + 7168) (1024)]{fullShare} f)) ∗ ((gP.view.loc (thr d L) ↦[seg (N := 36421632) (outOff u 8) (1024)]{fullShare} PV) ∗ (∃ f, sO.view.loc (thr d L) ↦[seg (N := 18432) (9216 * p.val + 8192) (1024)]{fullShare} f))) from rfl)) ?_
  show _ ⊢ iprop(((gP.view.loc (thr d L) ↦[seg (N := 36421632) (outOff u 0) (1024)]{fullShare} PV) ∗ (gP.view.loc (thr d L) ↦[seg (N := 36421632) (outOff u 1) (1024)]{fullShare} PV) ∗ (gP.view.loc (thr d L) ↦[seg (N := 36421632) (outOff u 2) (1024)]{fullShare} PV) ∗ (gP.view.loc (thr d L) ↦[seg (N := 36421632) (outOff u 3) (1024)]{fullShare} PV) ∗ (gP.view.loc (thr d L) ↦[seg (N := 36421632) (outOff u 4) (1024)]{fullShare} PV) ∗ (gP.view.loc (thr d L) ↦[seg (N := 36421632) (outOff u 5) (1024)]{fullShare} PV) ∗ (gP.view.loc (thr d L) ↦[seg (N := 36421632) (outOff u 6) (1024)]{fullShare} PV) ∗ (gP.view.loc (thr d L) ↦[seg (N := 36421632) (outOff u 7) (1024)]{fullShare} PV) ∗ (gP.view.loc (thr d L) ↦[seg (N := 36421632) (outOff u 8) (1024)]{fullShare} PV)) ∗ (∃ f, sO.view.loc (thr d L) ↦[seg (N := 18432) (9216 * p.val) (9216)]{fullShare} f))
  iintro ⟨⟨B0, A0⟩, ⟨B1, A1⟩, ⟨B2, A2⟩, ⟨B3, A3⟩, ⟨B4, A4⟩, ⟨B5, A5⟩, ⟨B6, A6⟩, ⟨B7, A7⟩, ⟨B8, A8⟩⟩
  ihave A0 := (held_join_ex (ℓ := sO.view.loc (thr d L)) (S := seg (N := 18432) (9216 * p.val) 2048) (S₁ := seg (N := 18432) (9216 * p.val) 1024) (S₂ := seg (N := 18432) (9216 * p.val + 1024) 1024) (seg_cut rfl rfl) (seg_disjoint (by omega))) $$ [A0 A1]
  · isplitl [A0]; · iexact A0
    iexact A1
  ihave A0 := (held_join_ex (ℓ := sO.view.loc (thr d L)) (S := seg (N := 18432) (9216 * p.val) 3072) (S₁ := seg (N := 18432) (9216 * p.val) 2048) (S₂ := seg (N := 18432) (9216 * p.val + 2048) 1024) (seg_cut rfl rfl) (seg_disjoint (by omega))) $$ [A0 A2]
  · isplitl [A0]; · iexact A0
    iexact A2
  ihave A0 := (held_join_ex (ℓ := sO.view.loc (thr d L)) (S := seg (N := 18432) (9216 * p.val) 4096) (S₁ := seg (N := 18432) (9216 * p.val) 3072) (S₂ := seg (N := 18432) (9216 * p.val + 3072) 1024) (seg_cut rfl rfl) (seg_disjoint (by omega))) $$ [A0 A3]
  · isplitl [A0]; · iexact A0
    iexact A3
  ihave A0 := (held_join_ex (ℓ := sO.view.loc (thr d L)) (S := seg (N := 18432) (9216 * p.val) 5120) (S₁ := seg (N := 18432) (9216 * p.val) 4096) (S₂ := seg (N := 18432) (9216 * p.val + 4096) 1024) (seg_cut rfl rfl) (seg_disjoint (by omega))) $$ [A0 A4]
  · isplitl [A0]; · iexact A0
    iexact A4
  ihave A0 := (held_join_ex (ℓ := sO.view.loc (thr d L)) (S := seg (N := 18432) (9216 * p.val) 6144) (S₁ := seg (N := 18432) (9216 * p.val) 5120) (S₂ := seg (N := 18432) (9216 * p.val + 5120) 1024) (seg_cut rfl rfl) (seg_disjoint (by omega))) $$ [A0 A5]
  · isplitl [A0]; · iexact A0
    iexact A5
  ihave A0 := (held_join_ex (ℓ := sO.view.loc (thr d L)) (S := seg (N := 18432) (9216 * p.val) 7168) (S₁ := seg (N := 18432) (9216 * p.val) 6144) (S₂ := seg (N := 18432) (9216 * p.val + 6144) 1024) (seg_cut rfl rfl) (seg_disjoint (by omega))) $$ [A0 A6]
  · isplitl [A0]; · iexact A0
    iexact A6
  ihave A0 := (held_join_ex (ℓ := sO.view.loc (thr d L)) (S := seg (N := 18432) (9216 * p.val) 8192) (S₁ := seg (N := 18432) (9216 * p.val) 7168) (S₂ := seg (N := 18432) (9216 * p.val + 7168) 1024) (seg_cut rfl rfl) (seg_disjoint (by omega))) $$ [A0 A7]
  · isplitl [A0]; · iexact A0
    iexact A7
  ihave A0 := (held_join_ex (ℓ := sO.view.loc (thr d L)) (S := seg (N := 18432) (9216 * p.val) 9216) (S₁ := seg (N := 18432) (9216 * p.val) 8192) (S₂ := seg (N := 18432) (9216 * p.val + 8192) 1024) (seg_cut rfl rfl) (seg_disjoint (by omega))) $$ [A0 A8]
  · isplitl [A0]; · iexact A0
    iexact A8
  isplitr [A0]
  · skip
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  iexact A0

set_option maxHeartbeats 1000000 in
/-- What the tile's writes for a block leave. -/
theorem dout_done {wd b : ℕ} : (bigSep Finset.univ (DOd d L PV wd b) : sProp 𝕄) ⊢ iprop((bigSep Finset.univ (fun t : Fin 3 => (gP.view.loc (thr d L) ↦[seg (N := 36421632) (doutOff wd b t.val) 1536]{fullShare} PV : sProp 𝕄))) ∗ (∃ f, sO.view.loc (thr d L) ↦[seg (N := 18432) (0) (4608)]{fullShare} f)) := by
  rw [bigSep_univ_eq_bigSepL [0, 1, 2] (by decide) (by decide), bigSep_univ_eq_bigSepL [0, 1, 2] (by decide) (by decide)]
  refine BIBase.Entails.trans (BIBase.Entails.of_eq (show _ = iprop(((gP.view.loc (thr d L) ↦[seg (N := 36421632) (doutOff wd b 0) (1536)]{fullShare} PV) ∗ (∃ f, sO.view.loc (thr d L) ↦[seg (N := 18432) (0) (1536)]{fullShare} f)) ∗ ((gP.view.loc (thr d L) ↦[seg (N := 36421632) (doutOff wd b 1) (1536)]{fullShare} PV) ∗ (∃ f, sO.view.loc (thr d L) ↦[seg (N := 18432) (1536) (1536)]{fullShare} f)) ∗ ((gP.view.loc (thr d L) ↦[seg (N := 36421632) (doutOff wd b 2) (1536)]{fullShare} PV) ∗ (∃ f, sO.view.loc (thr d L) ↦[seg (N := 18432) (3072) (1536)]{fullShare} f))) from rfl)) ?_
  show _ ⊢ iprop(((gP.view.loc (thr d L) ↦[seg (N := 36421632) (doutOff wd b 0) (1536)]{fullShare} PV) ∗ (gP.view.loc (thr d L) ↦[seg (N := 36421632) (doutOff wd b 1) (1536)]{fullShare} PV) ∗ (gP.view.loc (thr d L) ↦[seg (N := 36421632) (doutOff wd b 2) (1536)]{fullShare} PV)) ∗ (∃ f, sO.view.loc (thr d L) ↦[seg (N := 18432) (0) (4608)]{fullShare} f))
  iintro ⟨⟨B0, A0⟩, ⟨B1, A1⟩, ⟨B2, A2⟩⟩
  ihave A0 := (held_join_ex (ℓ := sO.view.loc (thr d L)) (S := seg (N := 18432) (0) 3072) (S₁ := seg (N := 18432) (0) 1536) (S₂ := seg (N := 18432) (1536) 1536) (seg_cut rfl rfl) (seg_disjoint (by omega))) $$ [A0 A1]
  · isplitl [A0]; · iexact A0
    iexact A1
  ihave A0 := (held_join_ex (ℓ := sO.view.loc (thr d L)) (S := seg (N := 18432) (0) 4608) (S₁ := seg (N := 18432) (0) 3072) (S₂ := seg (N := 18432) (3072) 1536) (seg_cut rfl rfl) (seg_disjoint (by omega))) $$ [A0 A2]
  · isplitl [A0]; · iexact A0
    iexact A2
  isplitr [A0]
  · skip
    isplitl [B0]; · iexact B0
    isplitl [B1]; · iexact B1
    iexact B2
  iexact A0

end Batches

end Cert.ScKernelIdeal

end
-- ==== Proof.KernelIdealPure.lean ====
module

public import proofs.«01_k».proof.Proof.KernelIdealWait
public import proofs.«01_k».proof.Proof.Gen.KernelIdeal.Skeleton

@[expose] public section

noncomputable section

/-!
# Parts that only compute

Parts of the kernel that touch no memory: each is the value it computes.
-/

namespace Cert.ScKernelIdeal

open Cert.KernelIdeal Cert.KernelIdeal.Gen Cert.FieldTables
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch)

variable {F : FTy → Type} [FloatOps F]

/-- A part that only computes. -/
theorem part1_pure (L : grid0.Coords) (v1060 : BitVec 32) :
    ∃ v, k0_part1 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1060 = Prog.ret v := by
  rw [k0_part1_eq_skeleton]; exact ⟨_, rfl⟩

/-- A part that only computes. -/
theorem part2_pure (L : grid0.Coords) (v1790 : BitVec 32) (v1792 : BitVec 32) (v1793 : BitVec 32) (v1795 : BitVec 32) (c2_i32_836 : BitVec 32) (v1796 : BitVec 32) (v1798 : BitVec 32) (v1799 : BitVec 1) :
    ∃ v, k0_part2 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1790 v1792 v1793 v1795 c2_i32_836 v1796 v1798 v1799 = Prog.ret v := by
  rw [k0_part2_eq_skeleton]; exact ⟨_, rfl⟩

/-- A part that only computes. -/
theorem part3_pure (L : grid0.Coords) (v1790 : BitVec 32) (v1814 : BitVec 32) (v1836 : BitVec 32) (c3_i32_859 : BitVec 32) :
    ∃ v, k0_part3 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1790 v1814 v1836 c3_i32_859 = Prog.ret v := by
  rw [k0_part3_eq_skeleton]; exact ⟨_, rfl⟩

/-- A part that only computes. -/
theorem part4_pure (L : grid0.Coords) (v1790 : BitVec 32) (v1814 : BitVec 32) (v1866 : BitVec 32) (v1868 : BitVec 32) (v1870 : BitVec 32) :
    ∃ v, k0_part4 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1790 v1814 v1866 v1868 v1870 = Prog.ret v := by
  rw [k0_part4_eq_skeleton]; exact ⟨_, rfl⟩

/-- A part that only computes. -/
theorem part9_pure (L : grid0.Coords) (v2045 : BitVec 32) (v2047 : BitVec 32) (v2048 : BitVec 32) (v2050 : BitVec 32) (c2_i32_966 : BitVec 32) (v2051 : BitVec 32) (v2053 : BitVec 32) (c0_i32_968 : BitVec 32) :
    ∃ v, k0_part9 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v2045 v2047 v2048 v2050 c2_i32_966 v2051 v2053 c0_i32_968 = Prog.ret v := by
  rw [k0_part9_eq_skeleton]; exact ⟨_, rfl⟩

/-- A part that only computes. -/
theorem part10_pure (L : grid0.Coords) (v2045 : BitVec 32) (v2069 : BitVec 32) (v2091 : BitVec 32) :
    ∃ v, k0_part10 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v2045 v2069 v2091 = Prog.ret v := by
  rw [k0_part10_eq_skeleton]; exact ⟨_, rfl⟩

/-- A part that only computes. -/
theorem part11_pure (L : grid0.Coords) (v2045 : BitVec 32) (v2069 : BitVec 32) (v2121 : BitVec 32) (v2123 : BitVec 32) (v2124 : BitVec 32) :
    ∃ v, k0_part11 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v2045 v2069 v2121 v2123 v2124 = Prog.ret v := by
  rw [k0_part11_eq_skeleton]; exact ⟨_, rfl⟩

/-- A part that only computes. -/
theorem part15_pure (L : grid0.Coords) (v1033 : BitVec 32) (v1043 : BitVec 32) :
    ∃ v, k0_part15 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1033 v1043 = Prog.ret v := by
  rw [k0_part15_eq_skeleton]; exact ⟨_, rfl⟩

/-- A part that only computes. -/
theorem part16_pure (L : grid0.Coords) (v1758 : BitVec 32) (v1776 : BitVec 32) (v1797 : BitVec 32) (v1799 : BitVec 32) :
    ∃ v, k0_part16 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1758 v1776 v1797 v1799 = Prog.ret v := by
  rw [k0_part16_eq_skeleton]; exact ⟨_, rfl⟩

/-- A part that only computes. -/
theorem part17_pure (L : grid0.Coords) (v1759 : BitVec 32) (v1809 : BitVec 32) (v1833 : BitVec 32) (v1835 : BitVec 32) (v1836 : BitVec 32) (v1837 : BitVec 1) (v1840 : BitVec 1) :
    ∃ v, k0_part17 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1759 v1809 v1833 v1835 v1836 v1837 v1840 = Prog.ret v := by
  rw [k0_part17_eq_skeleton]; exact ⟨_, rfl⟩

/-- A part that only computes. -/
theorem part20_pure (L : grid0.Coords) (v1033 : BitVec 32) :
    ∃ v, k0_part20 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1033 = Prog.ret v := by
  rw [k0_part20_eq_skeleton]; exact ⟨_, rfl⟩

/-- A part that only computes. -/
theorem part21_pure (L : grid0.Coords) (v1758 : BitVec 32) (v1775 : BitVec 32) (v1799 : BitVec 32) (c72_i32_838 : BitVec 32) :
    ∃ v, k0_part21 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1758 v1775 v1799 c72_i32_838 = Prog.ret v := by
  rw [k0_part21_eq_skeleton]; exact ⟨_, rfl⟩

/-- A part that only computes. -/
theorem part22_pure (L : grid0.Coords) (v1043 : BitVec 32) (v1808 : BitVec 32) (v1832 : BitVec 32) (v1835 : BitVec 32) (v1840 : BitVec 1) (v1841 : BitVec 32) :
    ∃ v, k0_part22 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1043 v1808 v1832 v1835 v1840 v1841 = Prog.ret v := by
  rw [k0_part22_eq_skeleton]; exact ⟨_, rfl⟩

/-- A part that only computes. -/
theorem part23_pure (L : grid0.Coords) (v1043 : BitVec 32) (v1808 : BitVec 32) (v1832 : BitVec 32) (v1842 : BitVec 32) (v1879 : BitVec 32) :
    ∃ v, k0_part23 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1043 v1808 v1832 v1842 v1879 = Prog.ret v := by
  rw [k0_part23_eq_skeleton]; exact ⟨_, rfl⟩

/-- A part that only computes. -/
theorem part24_pure (L : grid0.Coords) (v1043 : BitVec 32) (v1808 : BitVec 32) (v1832 : BitVec 32) (v1842 : BitVec 32) (v1916 : BitVec 32) (c3_i32_901 : BitVec 32) :
    ∃ v, k0_part24 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1043 v1808 v1832 v1842 v1916 c3_i32_901 = Prog.ret v := by
  rw [k0_part24_eq_skeleton]; exact ⟨_, rfl⟩

/-- A part that only computes. -/
theorem part25_pure (L : grid0.Coords) (v1043 : BitVec 32) (v1808 : BitVec 32) (v1832 : BitVec 32) (v1842 : BitVec 32) (v1952 : BitVec 32) (v1954 : BitVec 32) :
    ∃ v, k0_part25 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1043 v1808 v1832 v1842 v1952 v1954 = Prog.ret v := by
  rw [k0_part25_eq_skeleton]; exact ⟨_, rfl⟩

/-- A part that only computes. -/
theorem part26_pure (L : grid0.Coords) (v1043 : BitVec 32) (v1808 : BitVec 32) (v1832 : BitVec 32) (v1842 : BitVec 32) (v1988 : BitVec 32) (v1990 : BitVec 32) (v1991 : BitVec 32) (c1_i32_946 : BitVec 32) :
    ∃ v, k0_part26 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1043 v1808 v1832 v1842 v1988 v1990 v1991 c1_i32_946 = Prog.ret v := by
  rw [k0_part26_eq_skeleton]; exact ⟨_, rfl⟩

/-- A part that only computes. -/
theorem part27_pure (L : grid0.Coords) (v1043 : BitVec 32) (v1808 : BitVec 32) (v1832 : BitVec 32) (v1842 : BitVec 32) (v2024 : BitVec 32) (v2026 : BitVec 32) (v2027 : BitVec 32) (v2029 : BitVec 32) (c2_i32_968 : BitVec 32) :
    ∃ v, k0_part27 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1043 v1808 v1832 v1842 v2024 v2026 v2027 v2029 c2_i32_968 = Prog.ret v := by
  rw [k0_part27_eq_skeleton]; exact ⟨_, rfl⟩

/-- A part that only computes. -/
theorem part28_pure (L : grid0.Coords) (v1043 : BitVec 32) (v1808 : BitVec 32) (v1832 : BitVec 32) (v1842 : BitVec 32) (v2060 : BitVec 32) (v2062 : BitVec 32) (v2063 : BitVec 32) (v2065 : BitVec 32) (c2_i32_989 : BitVec 32) (v2066 : BitVec 32) (v2067 : BitVec 1) :
    ∃ v, k0_part28 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1043 v1808 v1832 v1842 v2060 v2062 v2063 v2065 c2_i32_989 v2066 v2067 = Prog.ret v := by
  rw [k0_part28_eq_skeleton]; exact ⟨_, rfl⟩

/-- A part that only computes. -/
theorem part29_pure (L : grid0.Coords) (v1043 : BitVec 32) (v1808 : BitVec 32) (v1832 : BitVec 32) (v1842 : BitVec 32) (v2096 : BitVec 32) (v2098 : BitVec 32) (v2099 : BitVec 32) (v2101 : BitVec 32) (c2_i32_1010 : BitVec 32) (v2102 : BitVec 32) (v2104 : BitVec 32) (v2105 : BitVec 1) :
    ∃ v, k0_part29 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1043 v1808 v1832 v1842 v2096 v2098 v2099 v2101 c2_i32_1010 v2102 v2104 v2105 = Prog.ret v := by
  rw [k0_part29_eq_skeleton]; exact ⟨_, rfl⟩

/-- A part that only computes. -/
theorem part57_pure (L : grid0.Coords) (v2 : BitVec 32) (c0_i32_75 : BitVec 32) (c1_i32_77 : BitVec 32) (k0_t1 : Fin k0_t1_loop.trips) :
    ∃ v, k0_part57 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v2 c0_i32_75 c1_i32_77 k0_t1 = Prog.ret v := by
  rw [k0_part57_eq_skeleton]; exact ⟨_, rfl⟩

/-- A part that only computes. -/
theorem part59_pure (L : grid0.Coords) (v1096 : BitVec 32) (v1108 : BitVec 32) (c50_i32_522 : BitVec 32) :
    ∃ v, k0_part59 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1096 v1108 c50_i32_522 = Prog.ret v := by
  rw [k0_part59_eq_skeleton]; exact ⟨_, rfl⟩

/-- A part that only computes. -/
theorem part60_pure (L : grid0.Coords) (v1033 : BitVec 32) (v1043 : BitVec 32) (v1129 : BitVec 32) (v1131 : BitVec 32) (v1152 : BitVec 32) :
    ∃ v, k0_part60 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1033 v1043 v1129 v1131 v1152 = Prog.ret v := by
  rw [k0_part60_eq_skeleton]; exact ⟨_, rfl⟩

/-- A part that only computes. -/
theorem part61_pure (L : grid0.Coords) (k0_t1 : Fin k0_t1_loop.trips) (v1043 : BitVec 32) (v1153 : BitVec 32) (v1163 : BitVec 32) :
    ∃ v, k0_part61 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1 v1043 v1153 v1163 = Prog.ret v := by
  rw [k0_part61_eq_skeleton]; exact ⟨_, rfl⟩

/-- A part that only computes. -/
theorem part64_pure (L : grid0.Coords) (v1296 : BitVec 32) (v1310 : BitVec 1) :
    ∃ v, k0_part64 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1296 v1310 = Prog.ret v := by
  rw [k0_part64_eq_skeleton]; exact ⟨_, rfl⟩

/-- A part that only computes. -/
theorem part65_pure (L : grid0.Coords) (v1033 : BitVec 32) (v1345 : BitVec 32) (v1347 : BitVec 32) (v1348 : BitVec 32) (v1350 : BitVec 32) (c2_i32_620 : BitVec 32) (v1351 : BitVec 32) (v1352 : BitVec 1) :
    ∃ v, k0_part65 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1033 v1345 v1347 v1348 v1350 c2_i32_620 v1351 v1352 = Prog.ret v := by
  rw [k0_part65_eq_skeleton]; exact ⟨_, rfl⟩

/-- A part that only computes. -/
theorem part66_pure (L : grid0.Coords) (v1043 : BitVec 32) (v1345 : BitVec 32) (v1369 : BitVec 32) (v1379 : BitVec 32) (v1381 : BitVec 32) (v1383 : BitVec 32) (v1384 : BitVec 32) (v1386 : BitVec 32) (c2_i32_639 : BitVec 32) (v1387 : BitVec 32) (v1392 : BitVec 32) :
    ∃ v, k0_part66 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1043 v1345 v1369 v1379 v1381 v1383 v1384 v1386 c2_i32_639 v1387 v1392 = Prog.ret v := by
  rw [k0_part66_eq_skeleton]; exact ⟨_, rfl⟩

/-- A part that only computes. -/
theorem part67_pure (L : grid0.Coords) (v1043 : BitVec 32) (v1345 : BitVec 32) (v1369 : BitVec 32) (v1379 : BitVec 32) (v1417 : BitVec 32) (v1419 : BitVec 32) (v1420 : BitVec 32) (v1422 : BitVec 32) (c2_i32_660 : BitVec 32) (v1423 : BitVec 32) (v1428 : BitVec 32) (v1430 : BitVec 32) :
    ∃ v, k0_part67 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1043 v1345 v1369 v1379 v1417 v1419 v1420 v1422 c2_i32_660 v1423 v1428 v1430 = Prog.ret v := by
  rw [k0_part67_eq_skeleton]; exact ⟨_, rfl⟩

/-- A part that only computes. -/
theorem part68_pure (L : grid0.Coords) (v1043 : BitVec 32) (v1345 : BitVec 32) (v1369 : BitVec 32) (v1379 : BitVec 32) (v1453 : BitVec 32) (v1455 : BitVec 32) (v1456 : BitVec 32) (v1458 : BitVec 32) (c2_i32_681 : BitVec 32) (v1459 : BitVec 32) (v1464 : BitVec 32) (v1466 : BitVec 32) (v1468 : BitVec 32) :
    ∃ v, k0_part68 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1043 v1345 v1369 v1379 v1453 v1455 v1456 v1458 c2_i32_681 v1459 v1464 v1466 v1468 = Prog.ret v := by
  rw [k0_part68_eq_skeleton]; exact ⟨_, rfl⟩

/-- A part that only computes. -/
theorem part69_pure (L : grid0.Coords) (v1043 : BitVec 32) (v1345 : BitVec 32) (v1369 : BitVec 32) (v1379 : BitVec 32) (v1489 : BitVec 32) (v1491 : BitVec 32) (v1492 : BitVec 32) (v1495 : BitVec 32) (v1506 : BitVec 1) (v1507 : BitVec 32) :
    ∃ v, k0_part69 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1043 v1345 v1369 v1379 v1489 v1491 v1492 v1495 v1506 v1507 = Prog.ret v := by
  rw [k0_part69_eq_skeleton]; exact ⟨_, rfl⟩

/-- A part that only computes. -/
theorem part70_pure (L : grid0.Coords) (v1043 : BitVec 32) (v1345 : BitVec 32) (v1369 : BitVec 32) (v1379 : BitVec 32) (v1525 : BitVec 32) (v1527 : BitVec 32) (v1528 : BitVec 32) (v1531 : BitVec 32) (v1545 : BitVec 1) :
    ∃ v, k0_part70 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1043 v1345 v1369 v1379 v1525 v1527 v1528 v1531 v1545 = Prog.ret v := by
  rw [k0_part70_eq_skeleton]; exact ⟨_, rfl⟩

/-- A part that only computes. -/
theorem part71_pure (L : grid0.Coords) (v1043 : BitVec 32) (v1345 : BitVec 32) (v1369 : BitVec 32) (v1379 : BitVec 32) (v1561 : BitVec 32) (v1563 : BitVec 32) (v1564 : BitVec 32) (v1583 : BitVec 32) :
    ∃ v, k0_part71 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1043 v1345 v1369 v1379 v1561 v1563 v1564 v1583 = Prog.ret v := by
  rw [k0_part71_eq_skeleton]; exact ⟨_, rfl⟩

/-- A part that only computes. -/
theorem part72_pure (L : grid0.Coords) (v1043 : BitVec 32) (v1345 : BitVec 32) (v1369 : BitVec 32) (v1379 : BitVec 32) (v1622 : BitVec 32) :
    ∃ v, k0_part72 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1043 v1345 v1369 v1379 v1622 = Prog.ret v := by
  rw [k0_part72_eq_skeleton]; exact ⟨_, rfl⟩

/-- A part that only computes. -/
theorem part73_pure (L : grid0.Coords) (v1043 : BitVec 32) (v1345 : BitVec 32) (v1369 : BitVec 32) (v1379 : BitVec 32) (v1659 : BitVec 32) (c3_i32_793 : BitVec 32) :
    ∃ v, k0_part73 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1043 v1345 v1369 v1379 v1659 c3_i32_793 = Prog.ret v := by
  rw [k0_part73_eq_skeleton]; exact ⟨_, rfl⟩

/-- A part that only computes. -/
theorem part84_pure (L : grid0.Coords) (c0_i32_481 : BitVec 32) (c1_i32_482 : BitVec 32) (k0_t4 : Fin k0_t4_loop.trips) :
    ∃ v, k0_part84 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 c0_i32_481 c1_i32_482 k0_t4 = Prog.ret v := by
  rw [k0_part84_eq_skeleton]; exact ⟨_, rfl⟩

/-- A part that only computes. -/
theorem part90_pure (L : grid0.Coords) (v1027 : BitVec 32) (v1032 : BitVec 32) (v1234 : BitVec 32) (v1236 : BitVec 32) (v1237 : BitVec 32) (v1238 : BitVec 32) :
    ∃ v, k0_part90 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1027 v1032 v1234 v1236 v1237 v1238 = Prog.ret v := by
  rw [k0_part90_eq_skeleton]; exact ⟨_, rfl⟩

/-- A part that only computes. -/
theorem part91_pure (L : grid0.Coords) (v1027 : BitVec 32) (v1032 : BitVec 32) (v1264 : BitVec 32) (v1266 : BitVec 32) (v1267 : BitVec 32) (v1269 : BitVec 32) (c2_i32_617 : BitVec 32) (v1270 : BitVec 32) (v1275 : BitVec 32) (v1277 : BitVec 32) (v1278 : BitVec 1) :
    ∃ v, k0_part91 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1027 v1032 v1264 v1266 v1267 v1269 c2_i32_617 v1270 v1275 v1277 v1278 = Prog.ret v := by
  rw [k0_part91_eq_skeleton]; exact ⟨_, rfl⟩

/-- A part that only computes. -/
theorem part93_pure (L : grid0.Coords)  :
    ∃ v, k0_part93 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 = Prog.ret v := by
  rw [k0_part93_eq_skeleton]; exact ⟨_, rfl⟩

/-- A part that only computes. -/
theorem part94_pure (L : grid0.Coords) (v2 : BitVec 32) (v20 : BitVec 32) (v38 : BitVec 32) (v39 : BitVec 1) :
    ∃ v, k0_part94 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v2 v20 v38 v39 = Prog.ret v := by
  rw [k0_part94_eq_skeleton]; exact ⟨_, rfl⟩

/-- A part that only computes. -/
theorem part95_pure (L : grid0.Coords) (v53 : BitVec 32) (v77 : BitVec 32) (v79 : BitVec 32) (v80 : BitVec 32) (v81 : BitVec 1) :
    ∃ v, k0_part95 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v53 v77 v79 v80 v81 = Prog.ret v := by
  rw [k0_part95_eq_skeleton]; exact ⟨_, rfl⟩

/-- A part that only computes. -/
theorem part99_pure (L : grid0.Coords) (v191 : BitVec 32) (v208 : BitVec 32) (v226 : BitVec 32) (c63_i32_93 : BitVec 32) :
    ∃ v, k0_part99 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v191 v208 v226 c63_i32_93 = Prog.ret v := by
  rw [k0_part99_eq_skeleton]; exact ⟨_, rfl⟩

/-- A part that only computes. -/
theorem part100_pure (L : grid0.Coords) (v241 : BitVec 32) (v265 : BitVec 32) (v267 : BitVec 32) (v268 : BitVec 32) (c0_i32_111 : BitVec 32) :
    ∃ v, k0_part100 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v241 v265 v267 v268 c0_i32_111 = Prog.ret v := by
  rw [k0_part100_eq_skeleton]; exact ⟨_, rfl⟩

/-- A part that only computes. -/
theorem part101_pure (L : grid0.Coords) (v241 : BitVec 32) (v265 : BitVec 32) (v275 : BitVec 32) (v308 : BitVec 32) :
    ∃ v, k0_part101 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v241 v265 v275 v308 = Prog.ret v := by
  rw [k0_part101_eq_skeleton]; exact ⟨_, rfl⟩

/-- A part that only computes. -/
theorem part102_pure (L : grid0.Coords) (v241 : BitVec 32) (v265 : BitVec 32) (v275 : BitVec 32) (v339 : BitVec 32) (v341 : BitVec 32) (v342 : BitVec 32) (v344 : BitVec 32) (c2_i32_151 : BitVec 32) (v345 : BitVec 32) (v346 : BitVec 1) :
    ∃ v, k0_part102 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v241 v265 v275 v339 v341 v342 v344 c2_i32_151 v345 v346 = Prog.ret v := by
  rw [k0_part102_eq_skeleton]; exact ⟨_, rfl⟩

/-- A part that only computes. -/
theorem part103_pure (L : grid0.Coords) (v241 : BitVec 32) (v265 : BitVec 32) (v275 : BitVec 32) (v370 : BitVec 32) (v372 : BitVec 32) (v373 : BitVec 32) (v375 : BitVec 32) (c2_i32_167 : BitVec 32) (v376 : BitVec 32) (v387 : BitVec 1) :
    ∃ v, k0_part103 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v241 v265 v275 v370 v372 v373 v375 c2_i32_167 v376 v387 = Prog.ret v := by
  rw [k0_part103_eq_skeleton]; exact ⟨_, rfl⟩

/-- A part that only computes. -/
theorem part104_pure (L : grid0.Coords) (v241 : BitVec 32) (v265 : BitVec 32) (v275 : BitVec 32) (v427 : BitVec 32) (c49152_i32_191 : BitVec 32) :
    ∃ v, k0_part104 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v241 v265 v275 v427 c49152_i32_191 = Prog.ret v := by
  rw [k0_part104_eq_skeleton]; exact ⟨_, rfl⟩

/-- A part that only computes. -/
theorem part105_pure (L : grid0.Coords) (v241 : BitVec 32) (v265 : BitVec 32) (v275 : BitVec 32) (v463 : BitVec 32) (v465 : BitVec 32) (c38_i32_213 : BitVec 32) :
    ∃ v, k0_part105 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v241 v265 v275 v463 v465 c38_i32_213 = Prog.ret v := by
  rw [k0_part105_eq_skeleton]; exact ⟨_, rfl⟩

/-- A part that only computes. -/
theorem part106_pure (L : grid0.Coords) (v241 : BitVec 32) (v265 : BitVec 32) (v275 : BitVec 32) (v494 : BitVec 32) (v496 : BitVec 32) (v497 : BitVec 32) (v499 : BitVec 32) (c2_i32_231 : BitVec 32) (v500 : BitVec 32) (v505 : BitVec 32) :
    ∃ v, k0_part106 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v241 v265 v275 v494 v496 v497 v499 c2_i32_231 v500 v505 = Prog.ret v := by
  rw [k0_part106_eq_skeleton]; exact ⟨_, rfl⟩

/-- A part that only computes. -/
theorem part109_pure (L : grid0.Coords) (v609 : BitVec 32) (c48_i32_275 : BitVec 32) (v610 : BitVec 32) (v615 : BitVec 32) (v620 : BitVec 32) :
    ∃ v, k0_part109 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v609 c48_i32_275 v610 v615 v620 = Prog.ret v := by
  rw [k0_part109_eq_skeleton]; exact ⟨_, rfl⟩

/-- A part that only computes. -/
theorem part110_pure (L : grid0.Coords) (v609 : BitVec 32) (v659 : BitVec 32) (v661 : BitVec 32) (v662 : BitVec 32) (v663 : BitVec 32) :
    ∃ v, k0_part110 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v609 v659 v661 v662 v663 = Prog.ret v := by
  rw [k0_part110_eq_skeleton]; exact ⟨_, rfl⟩

/-- A part that only computes. -/
theorem part111_pure (L : grid0.Coords) (v659 : BitVec 32) (v683 : BitVec 32) (v693 : BitVec 32) (v695 : BitVec 32) (v697 : BitVec 32) (v698 : BitVec 32) (v700 : BitVec 32) (c2_i32_316 : BitVec 32) (v701 : BitVec 32) (v702 : BitVec 1) :
    ∃ v, k0_part111 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v659 v683 v693 v695 v697 v698 v700 c2_i32_316 v701 v702 = Prog.ret v := by
  rw [k0_part111_eq_skeleton]; exact ⟨_, rfl⟩

/-- A part that only computes. -/
theorem part112_pure (L : grid0.Coords) (v659 : BitVec 32) (v683 : BitVec 32) (v693 : BitVec 32) (v726 : BitVec 32) (v728 : BitVec 32) (v729 : BitVec 32) (v731 : BitVec 32) (c2_i32_332 : BitVec 32) (v732 : BitVec 32) (v743 : BitVec 1) :
    ∃ v, k0_part112 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v659 v683 v693 v726 v728 v729 v731 c2_i32_332 v732 v743 = Prog.ret v := by
  rw [k0_part112_eq_skeleton]; exact ⟨_, rfl⟩

/-- A part that only computes. -/
theorem part113_pure (L : grid0.Coords) (v659 : BitVec 32) (v683 : BitVec 32) (v693 : BitVec 32) (v783 : BitVec 32) (c49152_i32_356 : BitVec 32) :
    ∃ v, k0_part113 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v659 v683 v693 v783 c49152_i32_356 = Prog.ret v := by
  rw [k0_part113_eq_skeleton]; exact ⟨_, rfl⟩

/-- A part that only computes. -/
theorem part114_pure (L : grid0.Coords) (v659 : BitVec 32) (v683 : BitVec 32) (v693 : BitVec 32) (v819 : BitVec 32) (v821 : BitVec 32) (c38_i32_378 : BitVec 32) :
    ∃ v, k0_part114 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v659 v683 v693 v819 v821 c38_i32_378 = Prog.ret v := by
  rw [k0_part114_eq_skeleton]; exact ⟨_, rfl⟩

/-- A part that only computes. -/
theorem part115_pure (L : grid0.Coords) (v659 : BitVec 32) (v683 : BitVec 32) (v693 : BitVec 32) (v850 : BitVec 32) (v852 : BitVec 32) (v853 : BitVec 32) (v855 : BitVec 32) (c2_i32_396 : BitVec 32) (v856 : BitVec 32) (v861 : BitVec 32) :
    ∃ v, k0_part115 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v659 v683 v693 v850 v852 v853 v855 c2_i32_396 v856 v861 = Prog.ret v := by
  rw [k0_part115_eq_skeleton]; exact ⟨_, rfl⟩

/-- A part that only computes. -/
theorem part116_pure (L : grid0.Coords) (v659 : BitVec 32) (v683 : BitVec 32) (v693 : BitVec 32) (v881 : BitVec 32) (v883 : BitVec 32) (v884 : BitVec 32) (v887 : BitVec 32) (v901 : BitVec 1) (c1_i32_418 : BitVec 32) :
    ∃ v, k0_part116 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v659 v683 v693 v881 v883 v884 v887 v901 c1_i32_418 = Prog.ret v := by
  rw [k0_part116_eq_skeleton]; exact ⟨_, rfl⟩

end Cert.ScKernelIdeal
-- ==== Proof.KernelIdealOff.lean ====
module

public import proofs.«01_k».proof.Proof.Gen.KernelIdeal
public import proofs.«01_k».proof.Proof.FieldTables

@[expose] public section

/-!
# The offsets of the kernel's copies, loads and stores in closed form

Each theorem says what one printed chain of 32-bit operations comes to, over every tile and every trip of its loop.
-/

namespace Cert.ScKernelIdeal

open Cert.KernelIdeal Cert.KernelIdeal.Gen
open Idealize.ShloMosaic
open Cert.FieldTables

/-- The number of a tile among the 32. -/
def wid (i : grid0.Coords) : ℕ := 2 * (i 1).val + (i 0).val

theorem wid_lt (i : grid0.Coords) : wid i < 32 := by
  have h0 : (i 0).val < 2 := (i 0).isLt
  have h1 : (i 1).val < 16 := (i 1).isLt
  unfold wid; omega

theorem trips1 : k0_t1_loop.trips = 117 := by decide +kernel
theorem trips2 : k0_t2_loop.trips = 64 := by decide +kernel
theorem trips3 : k0_t3_loop.trips = 96 := by decide +kernel
theorem trips4 : k0_t4_loop.trips = 13 := by decide +kernel
theorem trips5 : k0_t5_loop.trips = 96 := by decide +kernel

theorem cond3_iff : ∀ (k : Fin k0_t1_loop.trips), k0_cond3 k = 1#1 ↔ 2 ≤ k.val := by decide +kernel

theorem off1_val : ∀ (i : grid0.Coords) (r : Fin 3), k0_off1 i (BitVec.ofNat 32 r.val) 0 = inOff (117 * wid i) r.val := by decide +kernel
theorem off2_val : ∀ (i : grid0.Coords) (r : Fin 3), k0_off2 i (BitVec.ofNat 32 r.val) 0 = inOff (117 * wid i) (3 + r.val) := by decide +kernel
theorem off5_val : ∀ (k : Fin k0_t1_loop.trips) (r : Fin 6), k0_off5 k (BitVec.ofNat 32 r.val) 0 = 6144 * ((k.val + 1) % 2) + 1024 * r.val := by decide +kernel
theorem off7_val : ∀ (k : Fin k0_t1_loop.trips), k0_off7 k 0 = (k.val + 1) % 2 := by decide +kernel
theorem off11_val : ∀ (k : Fin k0_t1_loop.trips), k0_off11 k 0 = k.val % 2 := by decide +kernel
theorem off15_val : ∀ (k : Fin k0_t1_loop.trips), k0_off15 k 0 = k.val % 2 := by decide +kernel
theorem off22_val : ∀ (k : Fin k0_t1_loop.trips) (a b : Fin 3),
    k0_off22 k (BitVec.ofNat 32 (3 * a.val)) (BitVec.ofNat 32 b.val) 0 = 9216 * (k.val % 2) + 1024 * (3 * a.val + b.val) := by decide +kernel
theorem off26_val : ∀ (k : Fin k0_t4_loop.trips) (a b : Fin 3),
    k0_off26 k (BitVec.ofNat 32 a.val) (BitVec.ofNat 32 b.val) 0 = ((3 * k.val + a.val) * 39 + (3 * k.val + b.val)) * 4512 := by decide +kernel
theorem off28_val : ∀ (i : grid0.Coords) (k : Fin k0_t4_loop.trips) (r : Fin 3),
    k0_off28 i k (BitVec.ofNat 32 r.val) 0 = (3 * k.val + r.val) * 49152 + 1536 * wid i := by decide +kernel
theorem off33_01 : ∀ (i : grid0.Coords) (k : Fin k0_t4_loop.trips),
    k0_off33 i k 0#32 1#32 0 = pairRow (3 * k.val) (3 * k.val + 1) * 49152 + 1536 * wid i := by decide +kernel
theorem off33_02 : ∀ (i : grid0.Coords) (k : Fin k0_t4_loop.trips),
    k0_off33 i k 0#32 2#32 0 = pairRow (3 * k.val) (3 * k.val + 2) * 49152 + 1536 * wid i := by decide +kernel
theorem off33_12 : ∀ (i : grid0.Coords) (k : Fin k0_t4_loop.trips),
    k0_off33 i k 1#32 2#32 0 = pairRow (3 * k.val + 1) (3 * k.val + 2) * 49152 + 1536 * wid i := by decide +kernel
theorem off34_val : ∀ (i : grid0.Coords), k0_off34 i 0 = 1536 * wid i := by decide +kernel

end Cert.ScKernelIdeal
-- ==== Proof.KernelIdealOffB.lean ====
module

public import proofs.«01_k».proof.Proof.Gen.KernelIdeal
public import proofs.«01_k».proof.Proof.FieldTables
public import proofs.«01_k».proof.Proof.KernelIdealOff

@[expose] public section

/-!
# The offsets of the kernel's copies, loads and stores in closed form

Each theorem says what one printed chain of 32-bit operations comes to, over every tile and every trip of its loop.
-/

namespace Cert.ScKernelIdeal

open Cert.KernelIdeal Cert.KernelIdeal.Gen
open Idealize.ShloMosaic
open Cert.FieldTables

theorem cond1_iff : ∀ (i : grid0.Coords) (k : Fin k0_t1_loop.trips),
    k0_cond1 i k = 1#1 ↔ (k.val = 0 ∨ (117 * wid i + k.val) % 48 = 0) := by decide +kernel
theorem cond2_iff : ∀ (i : grid0.Coords) (k : Fin k0_t1_loop.trips), k0_cond2 i k = 1#1 ↔ k.val + 1 < 117 := by decide +kernel
theorem off6_val : ∀ (i : grid0.Coords) (k : Fin k0_t1_loop.trips) (r : Fin 3),
    k0_off6 i k (BitVec.ofNat 32 r.val) 0 = inOff (117 * wid i + k.val + 1) r.val := by decide +kernel
theorem off8_val : ∀ (i : grid0.Coords) (k : Fin k0_t1_loop.trips) (r : Fin 3),
    k0_off8 i k (BitVec.ofNat 32 r.val) 0 = inOff (117 * wid i + k.val + 1) (3 + r.val) := by decide +kernel

end Cert.ScKernelIdeal
-- ==== Proof.KernelIdealOffC.lean ====
module

public import proofs.«01_k».proof.Proof.Gen.KernelIdeal
public import proofs.«01_k».proof.Proof.FieldTables
public import proofs.«01_k».proof.Proof.KernelIdealOff

@[expose] public section

/-!
# The offsets of the kernel's copies, loads and stores in closed form

Each theorem says what one printed chain of 32-bit operations comes to, over every tile and every trip of its loop.
-/

namespace Cert.ScKernelIdeal

open Cert.KernelIdeal Cert.KernelIdeal.Gen
open Idealize.ShloMosaic
open Cert.FieldTables

/-- The quotient by 48, as printed. -/
def q48 (v1033 : BitVec 32) : BitVec 32 :=
  let c0_i32_493 : BitVec 32 := 0#32
  let v1045 : BitVec 1 := Scalar.cmpi .sgt v1033 c0_i32_493
  let v1046 : BitVec 32 := Scalar.extui v1045
  let c0_i32_494 : BitVec 32 := 0#32
  let v1047 : BitVec 1 := Scalar.cmpi .slt v1033 c0_i32_494
  let v1048 : BitVec 32 := Scalar.extui v1047
  let v1049 : BitVec 32 := Scalar.subi v1046 v1048
  let c48_i32_492 : BitVec 32 := 48#32
  let c0_i32_495 : BitVec 32 := 0#32
  let v1050 : BitVec 1 := Scalar.cmpi .sgt c48_i32_492 c0_i32_495
  let v1051 : BitVec 32 := Scalar.extui v1050
  let c0_i32_496 : BitVec 32 := 0#32
  let v1052 : BitVec 1 := Scalar.cmpi .slt c48_i32_492 c0_i32_496
  let v1053 : BitVec 32 := Scalar.extui v1052
  let v1054 : BitVec 32 := Scalar.subi v1051 v1053
  let v1055 : BitVec 1 := Scalar.cmpi .ne v1049 v1054
  let v1056 : BitVec 32 := Scalar.remsi v1033 c48_i32_492
  let c0_i32_497 : BitVec 32 := 0#32
  let v1057 : BitVec 1 := Scalar.cmpi .ne v1056 c0_i32_497
  let v1058 : BitVec 1 := Scalar.andi v1055 v1057
  let v1044 : BitVec 32 := Scalar.divsi v1033 c48_i32_492
  let c1_i32_498 : BitVec 32 := 1#32
  let v1059 : BitVec 32 := Scalar.subi v1044 c1_i32_498
  let v1060 : BitVec 32 := Scalar.select v1058 v1059 v1044
  v1060

/-- The tile's unit number, as printed. -/
def uBits (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c117_i32 : BitVec 32 := 117#32
  let v2 : BitVec 32 := Scalar.muli v1 c117_i32
  let c0_i32_485 : BitVec 32 := 0#32
  let c0_i32_75 : BitVec 32 := 0#32
  let c1_i32_77 : BitVec 32 := 1#32
  let arg20 : BitVec 32 := Scf.iv c0_i32_75 c1_i32_77 k0_t1
  let c1_i32_484 : BitVec 32 := 1#32
  let v1031 : BitVec 32 := Scalar.muli arg20 c1_i32_484
  let v1032 : BitVec 32 := Scalar.addi c0_i32_485 v1031
  let v1033 : BitVec 32 := Scalar.addi v2 v1032
  v1033

/-- The printed start of a table, from the rectangle. -/
def tab3 (v1060 c0_i32_844 c0_i32_846 : BitVec 32) : BitVec 32 :=
  let c3_i32_843 : BitVec 32 := 3#32
  let c0_i32_822 : BitVec 32 := 0#32
  let c12_i32_821 : BitVec 32 := 12#32
  let v1758 : BitVec 1 := Scalar.cmpi .sge v1060 c12_i32_821
  let v1759 : BitVec 32 := Scalar.extui v1758
  let v1760 : BitVec 32 := Scalar.addi c0_i32_822 v1759
  let c23_i32_823 : BitVec 32 := 23#32
  let v1761 : BitVec 1 := Scalar.cmpi .sge v1060 c23_i32_823
  let v1762 : BitVec 32 := Scalar.extui v1761
  let v1763 : BitVec 32 := Scalar.addi v1760 v1762
  let c33_i32_824 : BitVec 32 := 33#32
  let v1764 : BitVec 1 := Scalar.cmpi .sge v1060 c33_i32_824
  let v1765 : BitVec 32 := Scalar.extui v1764
  let v1766 : BitVec 32 := Scalar.addi v1763 v1765
  let c42_i32_825 : BitVec 32 := 42#32
  let v1767 : BitVec 1 := Scalar.cmpi .sge v1060 c42_i32_825
  let v1768 : BitVec 32 := Scalar.extui v1767
  let v1769 : BitVec 32 := Scalar.addi v1766 v1768
  let c50_i32_826 : BitVec 32 := 50#32
  let v1770 : BitVec 1 := Scalar.cmpi .sge v1060 c50_i32_826
  let v1771 : BitVec 32 := Scalar.extui v1770
  let v1772 : BitVec 32 := Scalar.addi v1769 v1771
  let c57_i32_827 : BitVec 32 := 57#32
  let v1773 : BitVec 1 := Scalar.cmpi .sge v1060 c57_i32_827
  let v1774 : BitVec 32 := Scalar.extui v1773
  let v1775 : BitVec 32 := Scalar.addi v1772 v1774
  let c63_i32_828 : BitVec 32 := 63#32
  let v1776 : BitVec 1 := Scalar.cmpi .sge v1060 c63_i32_828
  let v1777 : BitVec 32 := Scalar.extui v1776
  let v1778 : BitVec 32 := Scalar.addi v1775 v1777
  let c68_i32_829 : BitVec 32 := 68#32
  let v1779 : BitVec 1 := Scalar.cmpi .sge v1060 c68_i32_829
  let v1780 : BitVec 32 := Scalar.extui v1779
  let v1781 : BitVec 32 := Scalar.addi v1778 v1780
  let c72_i32_830 : BitVec 32 := 72#32
  let v1782 : BitVec 1 := Scalar.cmpi .sge v1060 c72_i32_830
  let v1783 : BitVec 32 := Scalar.extui v1782
  let v1784 : BitVec 32 := Scalar.addi v1781 v1783
  let c75_i32_831 : BitVec 32 := 75#32
  let v1785 : BitVec 1 := Scalar.cmpi .sge v1060 c75_i32_831
  let v1786 : BitVec 32 := Scalar.extui v1785
  let v1787 : BitVec 32 := Scalar.addi v1784 v1786
  let c77_i32_832 : BitVec 32 := 77#32
  let v1788 : BitVec 1 := Scalar.cmpi .sge v1060 c77_i32_832
  let v1789 : BitVec 32 := Scalar.extui v1788
  let v1790 : BitVec 32 := Scalar.addi v1787 v1789
  let v1815 : BitVec 32 := Scalar.muli c3_i32_843 v1790
  let v1816 : BitVec 32 := Scalar.addi v1815 c0_i32_844
  let c39_i32 : BitVec 32 := 39#32
  let v1819 : BitVec 32 := Scalar.muli v1816 c39_i32
  let c3_i32_845 : BitVec 32 := 3#32
  let c1_i32_833 : BitVec 32 := 1#32
  let v1791 : BitVec 32 := Scalar.addi v1790 c1_i32_833
  let v1792 : BitVec 32 := Scalar.addi v1791 v1060
  let c12_i32_834 : BitVec 32 := 12#32
  let v1793 : BitVec 32 := Scalar.muli c12_i32_834 v1790
  let c1_i32_835 : BitVec 32 := 1#32
  let v1794 : BitVec 32 := Scalar.subi v1790 c1_i32_835
  let v1795 : BitVec 32 := Scalar.muli v1790 v1794
  let c0_i32_837 : BitVec 32 := 0#32
  let v1797 : BitVec 1 := Scalar.cmpi .sgt v1795 c0_i32_837
  let v1798 : BitVec 32 := Scalar.extui v1797
  let c0_i32_838 : BitVec 32 := 0#32
  let v1799 : BitVec 1 := Scalar.cmpi .slt v1795 c0_i32_838
  let v1800 : BitVec 32 := Scalar.extui v1799
  let v1801 : BitVec 32 := Scalar.subi v1798 v1800
  let c2_i32_836 : BitVec 32 := 2#32
  let c0_i32_839 : BitVec 32 := 0#32
  let v1802 : BitVec 1 := Scalar.cmpi .sgt c2_i32_836 c0_i32_839
  let v1803 : BitVec 32 := Scalar.extui v1802
  let c0_i32_840 : BitVec 32 := 0#32
  let v1804 : BitVec 1 := Scalar.cmpi .slt c2_i32_836 c0_i32_840
  let v1805 : BitVec 32 := Scalar.extui v1804
  let v1806 : BitVec 32 := Scalar.subi v1803 v1805
  let v1807 : BitVec 1 := Scalar.cmpi .ne v1801 v1806
  let v1808 : BitVec 32 := Scalar.remsi v1795 c2_i32_836
  let c0_i32_841 : BitVec 32 := 0#32
  let v1809 : BitVec 1 := Scalar.cmpi .ne v1808 c0_i32_841
  let v1810 : BitVec 1 := Scalar.andi v1807 v1809
  let v1796 : BitVec 32 := Scalar.divsi v1795 c2_i32_836
  let c1_i32_842 : BitVec 32 := 1#32
  let v1811 : BitVec 32 := Scalar.subi v1796 c1_i32_842
  let v1812 : BitVec 32 := Scalar.select v1810 v1811 v1796
  let v1813 : BitVec 32 := Scalar.subi v1793 v1812
  let v1814 : BitVec 32 := Scalar.subi v1792 v1813
  let v1817 : BitVec 32 := Scalar.muli c3_i32_845 v1814
  let v1818 : BitVec 32 := Scalar.addi v1817 c0_i32_846
  let v1820 : BitVec 32 := Scalar.addi v1819 v1818
  let c4512_i32 : BitVec 32 := 4512#32
  let v1821 : BitVec 32 := Scalar.muli v1820 c4512_i32
  v1821

/-- The printed start of a table the other way round, from the rectangle. -/
def tab4 (v1060 c0_i32_846 c0_i32_844 : BitVec 32) : BitVec 32 :=
  let c3_i32_845 : BitVec 32 := 3#32
  let c0_i32_822 : BitVec 32 := 0#32
  let c12_i32_821 : BitVec 32 := 12#32
  let v1758 : BitVec 1 := Scalar.cmpi .sge v1060 c12_i32_821
  let v1759 : BitVec 32 := Scalar.extui v1758
  let v1760 : BitVec 32 := Scalar.addi c0_i32_822 v1759
  let c23_i32_823 : BitVec 32 := 23#32
  let v1761 : BitVec 1 := Scalar.cmpi .sge v1060 c23_i32_823
  let v1762 : BitVec 32 := Scalar.extui v1761
  let v1763 : BitVec 32 := Scalar.addi v1760 v1762
  let c33_i32_824 : BitVec 32 := 33#32
  let v1764 : BitVec 1 := Scalar.cmpi .sge v1060 c33_i32_824
  let v1765 : BitVec 32 := Scalar.extui v1764
  let v1766 : BitVec 32 := Scalar.addi v1763 v1765
  let c42_i32_825 : BitVec 32 := 42#32
  let v1767 : BitVec 1 := Scalar.cmpi .sge v1060 c42_i32_825
  let v1768 : BitVec 32 := Scalar.extui v1767
  let v1769 : BitVec 32 := Scalar.addi v1766 v1768
  let c50_i32_826 : BitVec 32 := 50#32
  let v1770 : BitVec 1 := Scalar.cmpi .sge v1060 c50_i32_826
  let v1771 : BitVec 32 := Scalar.extui v1770
  let v1772 : BitVec 32 := Scalar.addi v1769 v1771
  let c57_i32_827 : BitVec 32 := 57#32
  let v1773 : BitVec 1 := Scalar.cmpi .sge v1060 c57_i32_827
  let v1774 : BitVec 32 := Scalar.extui v1773
  let v1775 : BitVec 32 := Scalar.addi v1772 v1774
  let c63_i32_828 : BitVec 32 := 63#32
  let v1776 : BitVec 1 := Scalar.cmpi .sge v1060 c63_i32_828
  let v1777 : BitVec 32 := Scalar.extui v1776
  let v1778 : BitVec 32 := Scalar.addi v1775 v1777
  let c68_i32_829 : BitVec 32 := 68#32
  let v1779 : BitVec 1 := Scalar.cmpi .sge v1060 c68_i32_829
  let v1780 : BitVec 32 := Scalar.extui v1779
  let v1781 : BitVec 32 := Scalar.addi v1778 v1780
  let c72_i32_830 : BitVec 32 := 72#32
  let v1782 : BitVec 1 := Scalar.cmpi .sge v1060 c72_i32_830
  let v1783 : BitVec 32 := Scalar.extui v1782
  let v1784 : BitVec 32 := Scalar.addi v1781 v1783
  let c75_i32_831 : BitVec 32 := 75#32
  let v1785 : BitVec 1 := Scalar.cmpi .sge v1060 c75_i32_831
  let v1786 : BitVec 32 := Scalar.extui v1785
  let v1787 : BitVec 32 := Scalar.addi v1784 v1786
  let c77_i32_832 : BitVec 32 := 77#32
  let v1788 : BitVec 1 := Scalar.cmpi .sge v1060 c77_i32_832
  let v1789 : BitVec 32 := Scalar.extui v1788
  let v1790 : BitVec 32 := Scalar.addi v1787 v1789
  let c1_i32_833 : BitVec 32 := 1#32
  let v1791 : BitVec 32 := Scalar.addi v1790 c1_i32_833
  let v1792 : BitVec 32 := Scalar.addi v1791 v1060
  let c12_i32_834 : BitVec 32 := 12#32
  let v1793 : BitVec 32 := Scalar.muli c12_i32_834 v1790
  let c1_i32_835 : BitVec 32 := 1#32
  let v1794 : BitVec 32 := Scalar.subi v1790 c1_i32_835
  let v1795 : BitVec 32 := Scalar.muli v1790 v1794
  let c0_i32_837 : BitVec 32 := 0#32
  let v1797 : BitVec 1 := Scalar.cmpi .sgt v1795 c0_i32_837
  let v1798 : BitVec 32 := Scalar.extui v1797
  let c0_i32_838 : BitVec 32 := 0#32
  let v1799 : BitVec 1 := Scalar.cmpi .slt v1795 c0_i32_838
  let v1800 : BitVec 32 := Scalar.extui v1799
  let v1801 : BitVec 32 := Scalar.subi v1798 v1800
  let c2_i32_836 : BitVec 32 := 2#32
  let c0_i32_839 : BitVec 32 := 0#32
  let v1802 : BitVec 1 := Scalar.cmpi .sgt c2_i32_836 c0_i32_839
  let v1803 : BitVec 32 := Scalar.extui v1802
  let c0_i32_840 : BitVec 32 := 0#32
  let v1804 : BitVec 1 := Scalar.cmpi .slt c2_i32_836 c0_i32_840
  let v1805 : BitVec 32 := Scalar.extui v1804
  let v1806 : BitVec 32 := Scalar.subi v1803 v1805
  let v1807 : BitVec 1 := Scalar.cmpi .ne v1801 v1806
  let v1808 : BitVec 32 := Scalar.remsi v1795 c2_i32_836
  let c0_i32_841 : BitVec 32 := 0#32
  let v1809 : BitVec 1 := Scalar.cmpi .ne v1808 c0_i32_841
  let v1810 : BitVec 1 := Scalar.andi v1807 v1809
  let v1796 : BitVec 32 := Scalar.divsi v1795 c2_i32_836
  let c1_i32_842 : BitVec 32 := 1#32
  let v1811 : BitVec 32 := Scalar.subi v1796 c1_i32_842
  let v1812 : BitVec 32 := Scalar.select v1810 v1811 v1796
  let v1813 : BitVec 32 := Scalar.subi v1793 v1812
  let v1814 : BitVec 32 := Scalar.subi v1792 v1813
  let v1817 : BitVec 32 := Scalar.muli c3_i32_845 v1814
  let v1818 : BitVec 32 := Scalar.addi v1817 c0_i32_846
  let c39_i32_847 : BitVec 32 := 39#32
  let v1822 : BitVec 32 := Scalar.muli v1818 c39_i32_847
  let c3_i32_843 : BitVec 32 := 3#32
  let v1815 : BitVec 32 := Scalar.muli c3_i32_843 v1790
  let v1816 : BitVec 32 := Scalar.addi v1815 c0_i32_844
  let v1823 : BitVec 32 := Scalar.addi v1822 v1816
  let c4512_i32_848 : BitVec 32 := 4512#32
  let v1824 : BitVec 32 := Scalar.muli v1823 c4512_i32_848
  v1824

/-- The remainder by 48, as printed. -/
def m48 (v1033 : BitVec 32) : BitVec 32 :=
  let c48_i32_627 : BitVec 32 := 48#32
  let c0_i32_628 : BitVec 32 := 0#32
  let v1370 : BitVec 1 := Scalar.cmpi .eq c48_i32_627 c0_i32_628
  let c1_i32_629 : BitVec 32 := 1#32
  let v1371 : BitVec 32 := Scalar.select v1370 c1_i32_629 c48_i32_627
  let v1372 : BitVec 32 := Scalar.remsi v1033 v1371
  let c0_i32_631 : BitVec 32 := 0#32
  let v1374 : BitVec 1 := Scalar.cmpi .slt v1372 c0_i32_631
  let c0_i32_632 : BitVec 32 := 0#32
  let v1375 : BitVec 1 := Scalar.cmpi .slt v1371 c0_i32_632
  let v1376 : BitVec 1 := Scalar.xori v1374 v1375
  let c0_i32_630 : BitVec 32 := 0#32
  let v1373 : BitVec 1 := Scalar.cmpi .ne v1372 c0_i32_630
  let v1377 : BitVec 1 := Scalar.andi v1376 v1373
  let v1378 : BitVec 32 := Scalar.addi v1372 v1371
  let v1379 : BitVec 32 := Scalar.select v1377 v1378 v1372
  v1379

/-- The row of a pair, as printed, from the rectangle. -/
def row23 (v1312 c0_i32_634 c0_i32_636 : BitVec 32) : BitVec 32 :=
  let c38_i32_637 : BitVec 32 := 38#32
  let c3_i32_633 : BitVec 32 := 3#32
  let c0_i32_606 : BitVec 32 := 0#32
  let c12_i32_605 : BitVec 32 := 12#32
  let v1313 : BitVec 1 := Scalar.cmpi .sge v1312 c12_i32_605
  let v1314 : BitVec 32 := Scalar.extui v1313
  let v1315 : BitVec 32 := Scalar.addi c0_i32_606 v1314
  let c23_i32_607 : BitVec 32 := 23#32
  let v1316 : BitVec 1 := Scalar.cmpi .sge v1312 c23_i32_607
  let v1317 : BitVec 32 := Scalar.extui v1316
  let v1318 : BitVec 32 := Scalar.addi v1315 v1317
  let c33_i32_608 : BitVec 32 := 33#32
  let v1319 : BitVec 1 := Scalar.cmpi .sge v1312 c33_i32_608
  let v1320 : BitVec 32 := Scalar.extui v1319
  let v1321 : BitVec 32 := Scalar.addi v1318 v1320
  let c42_i32_609 : BitVec 32 := 42#32
  let v1322 : BitVec 1 := Scalar.cmpi .sge v1312 c42_i32_609
  let v1323 : BitVec 32 := Scalar.extui v1322
  let v1324 : BitVec 32 := Scalar.addi v1321 v1323
  let c50_i32_610 : BitVec 32 := 50#32
  let v1325 : BitVec 1 := Scalar.cmpi .sge v1312 c50_i32_610
  let v1326 : BitVec 32 := Scalar.extui v1325
  let v1327 : BitVec 32 := Scalar.addi v1324 v1326
  let c57_i32_611 : BitVec 32 := 57#32
  let v1328 : BitVec 1 := Scalar.cmpi .sge v1312 c57_i32_611
  let v1329 : BitVec 32 := Scalar.extui v1328
  let v1330 : BitVec 32 := Scalar.addi v1327 v1329
  let c63_i32_612 : BitVec 32 := 63#32
  let v1331 : BitVec 1 := Scalar.cmpi .sge v1312 c63_i32_612
  let v1332 : BitVec 32 := Scalar.extui v1331
  let v1333 : BitVec 32 := Scalar.addi v1330 v1332
  let c68_i32_613 : BitVec 32 := 68#32
  let v1334 : BitVec 1 := Scalar.cmpi .sge v1312 c68_i32_613
  let v1335 : BitVec 32 := Scalar.extui v1334
  let v1336 : BitVec 32 := Scalar.addi v1333 v1335
  let c72_i32_614 : BitVec 32 := 72#32
  let v1337 : BitVec 1 := Scalar.cmpi .sge v1312 c72_i32_614
  let v1338 : BitVec 32 := Scalar.extui v1337
  let v1339 : BitVec 32 := Scalar.addi v1336 v1338
  let c75_i32_615 : BitVec 32 := 75#32
  let v1340 : BitVec 1 := Scalar.cmpi .sge v1312 c75_i32_615
  let v1341 : BitVec 32 := Scalar.extui v1340
  let v1342 : BitVec 32 := Scalar.addi v1339 v1341
  let c77_i32_616 : BitVec 32 := 77#32
  let v1343 : BitVec 1 := Scalar.cmpi .sge v1312 c77_i32_616
  let v1344 : BitVec 32 := Scalar.extui v1343
  let v1345 : BitVec 32 := Scalar.addi v1342 v1344
  let v1380 : BitVec 32 := Scalar.muli c3_i32_633 v1345
  let v1381 : BitVec 32 := Scalar.addi v1380 c0_i32_634
  let v1384 : BitVec 32 := Scalar.muli c38_i32_637 v1381
  let c1_i32_638 : BitVec 32 := 1#32
  let v1385 : BitVec 32 := Scalar.subi v1381 c1_i32_638
  let v1386 : BitVec 32 := Scalar.muli v1381 v1385
  let c0_i32_640 : BitVec 32 := 0#32
  let v1388 : BitVec 1 := Scalar.cmpi .sgt v1386 c0_i32_640
  let v1389 : BitVec 32 := Scalar.extui v1388
  let c0_i32_641 : BitVec 32 := 0#32
  let v1390 : BitVec 1 := Scalar.cmpi .slt v1386 c0_i32_641
  let v1391 : BitVec 32 := Scalar.extui v1390
  let v1392 : BitVec 32 := Scalar.subi v1389 v1391
  let c2_i32_639 : BitVec 32 := 2#32
  let c0_i32_642 : BitVec 32 := 0#32
  let v1393 : BitVec 1 := Scalar.cmpi .sgt c2_i32_639 c0_i32_642
  let v1394 : BitVec 32 := Scalar.extui v1393
  let c0_i32_643 : BitVec 32 := 0#32
  let v1395 : BitVec 1 := Scalar.cmpi .slt c2_i32_639 c0_i32_643
  let v1396 : BitVec 32 := Scalar.extui v1395
  let v1397 : BitVec 32 := Scalar.subi v1394 v1396
  let v1398 : BitVec 1 := Scalar.cmpi .ne v1392 v1397
  let v1399 : BitVec 32 := Scalar.remsi v1386 c2_i32_639
  let c0_i32_644 : BitVec 32 := 0#32
  let v1400 : BitVec 1 := Scalar.cmpi .ne v1399 c0_i32_644
  let v1401 : BitVec 1 := Scalar.andi v1398 v1400
  let v1387 : BitVec 32 := Scalar.divsi v1386 c2_i32_639
  let c1_i32_645 : BitVec 32 := 1#32
  let v1402 : BitVec 32 := Scalar.subi v1387 c1_i32_645
  let v1403 : BitVec 32 := Scalar.select v1401 v1402 v1387
  let v1404 : BitVec 32 := Scalar.subi v1384 v1403
  let c3_i32_635 : BitVec 32 := 3#32
  let c1_i32_617 : BitVec 32 := 1#32
  let v1346 : BitVec 32 := Scalar.addi v1345 c1_i32_617
  let v1347 : BitVec 32 := Scalar.addi v1346 v1312
  let c12_i32_618 : BitVec 32 := 12#32
  let v1348 : BitVec 32 := Scalar.muli c12_i32_618 v1345
  let c1_i32_619 : BitVec 32 := 1#32
  let v1349 : BitVec 32 := Scalar.subi v1345 c1_i32_619
  let v1350 : BitVec 32 := Scalar.muli v1345 v1349
  let c0_i32_621 : BitVec 32 := 0#32
  let v1352 : BitVec 1 := Scalar.cmpi .sgt v1350 c0_i32_621
  let v1353 : BitVec 32 := Scalar.extui v1352
  let c0_i32_622 : BitVec 32 := 0#32
  let v1354 : BitVec 1 := Scalar.cmpi .slt v1350 c0_i32_622
  let v1355 : BitVec 32 := Scalar.extui v1354
  let v1356 : BitVec 32 := Scalar.subi v1353 v1355
  let c2_i32_620 : BitVec 32 := 2#32
  let c0_i32_623 : BitVec 32 := 0#32
  let v1357 : BitVec 1 := Scalar.cmpi .sgt c2_i32_620 c0_i32_623
  let v1358 : BitVec 32 := Scalar.extui v1357
  let c0_i32_624 : BitVec 32 := 0#32
  let v1359 : BitVec 1 := Scalar.cmpi .slt c2_i32_620 c0_i32_624
  let v1360 : BitVec 32 := Scalar.extui v1359
  let v1361 : BitVec 32 := Scalar.subi v1358 v1360
  let v1362 : BitVec 1 := Scalar.cmpi .ne v1356 v1361
  let v1363 : BitVec 32 := Scalar.remsi v1350 c2_i32_620
  let c0_i32_625 : BitVec 32 := 0#32
  let v1364 : BitVec 1 := Scalar.cmpi .ne v1363 c0_i32_625
  let v1365 : BitVec 1 := Scalar.andi v1362 v1364
  let v1351 : BitVec 32 := Scalar.divsi v1350 c2_i32_620
  let c1_i32_626 : BitVec 32 := 1#32
  let v1366 : BitVec 32 := Scalar.subi v1351 c1_i32_626
  let v1367 : BitVec 32 := Scalar.select v1365 v1366 v1351
  let v1368 : BitVec 32 := Scalar.subi v1348 v1367
  let v1369 : BitVec 32 := Scalar.subi v1347 v1368
  let v1382 : BitVec 32 := Scalar.muli c3_i32_635 v1369
  let v1383 : BitVec 32 := Scalar.addi v1382 c0_i32_636
  let v1405 : BitVec 32 := Scalar.addi v1404 v1383
  let v1406 : BitVec 32 := Scalar.subi v1405 v1381
  let c1_i32_646 : BitVec 32 := 1#32
  let v1407 : BitVec 32 := Scalar.subi v1406 c1_i32_646
  v1407

theorem uBits_val : ∀ (i : grid0.Coords) (k : Fin k0_t1_loop.trips), uBits i k = BitVec.ofNat 32 (117 * wid i + k.val) := by decide +kernel
theorem q48_val : ∀ n : Fin 3744, q48 (BitVec.ofNat 32 n.val) = BitVec.ofNat 32 (n.val / 48) := by decide +kernel
theorem m48_val : ∀ n : Fin 3744, m48 (BitVec.ofNat 32 n.val) = BitVec.ofNat 32 (n.val % 48) := by decide +kernel
theorem tab3_val : ∀ (r : Fin 78) (a b : Fin 3),
    (tab3 (BitVec.ofNat 32 r.val) (BitVec.ofNat 32 a.val) (BitVec.ofNat 32 b.val)).toNat = tabOff r.val (3 * a.val + b.val) := by decide +kernel
theorem tab4_val : ∀ (r : Fin 78) (a b : Fin 3),
    (tab4 (BitVec.ofNat 32 r.val) (BitVec.ofNat 32 b.val) (BitVec.ofNat 32 a.val)).toNat = tabOff r.val (9 + (3 * a.val + b.val)) := by decide +kernel
theorem row23_val : ∀ (r : Fin 78) (a b : Fin 3),
    row23 (BitVec.ofNat 32 r.val) (BitVec.ofNat 32 a.val) (BitVec.ofNat 32 b.val)
      = BitVec.ofNat 32 (pairRow (fld r.val (a.val)) (fld r.val (3 + b.val))) := by decide +kernel
theorem pairRow_lt : ∀ (r : Fin 78) (a b : Fin 3), pairRow (fld r.val (a.val)) (fld r.val (3 + b.val)) < 741 := by decide +kernel

theorem unit_lt (i : grid0.Coords) (k : Fin k0_t1_loop.trips) : 117 * wid i + k.val < 3744 := by
  have := wid_lt i
  have hk : k.val < 117 := lt_of_lt_of_eq k.isLt trips1
  omega

theorem off3_val (i : grid0.Coords) (k : Fin k0_t1_loop.trips) (a b : Fin 3) :
    k0_off3 i k (BitVec.ofNat 32 a.val) (BitVec.ofNat 32 b.val) 0 = tabOff ((117 * wid i + k.val) / 48) (3 * a.val + b.val) := by
  have h := unit_lt i k
  have e : k0_off3 i k (BitVec.ofNat 32 a.val) (BitVec.ofNat 32 b.val) 0
      = (tab3 (q48 (uBits i k)) (BitVec.ofNat 32 a.val) (BitVec.ofNat 32 b.val)).toNat := rfl
  rw [e, uBits_val, q48_val ⟨_, h⟩]
  exact tab3_val ⟨(117 * wid i + k.val) / 48, by omega⟩ a b

theorem off4_val (i : grid0.Coords) (k : Fin k0_t1_loop.trips) (a b : Fin 3) :
    k0_off4 i k (BitVec.ofNat 32 b.val) (BitVec.ofNat 32 a.val) 0 = tabOff ((117 * wid i + k.val) / 48) (9 + (3 * a.val + b.val)) := by
  have h := unit_lt i k
  have e : k0_off4 i k (BitVec.ofNat 32 b.val) (BitVec.ofNat 32 a.val) 0
      = (tab4 (q48 (uBits i k)) (BitVec.ofNat 32 b.val) (BitVec.ofNat 32 a.val)).toNat := rfl
  rw [e, uBits_val, q48_val ⟨_, h⟩]
  exact tab4_val ⟨(117 * wid i + k.val) / 48, by omega⟩ a b

theorem off23_val (i : grid0.Coords) (k : Fin k0_t1_loop.trips) (a b : Fin 3) :
    k0_off23 i k (BitVec.ofNat 32 a.val) (BitVec.ofNat 32 b.val) 0 = outOff (117 * wid i + k.val) (3 * a.val + b.val) := by
  have h := unit_lt i k
  have e : k0_off23 i k (BitVec.ofNat 32 a.val) (BitVec.ofNat 32 b.val) 0
      = (Scalar.addi (Scalar.muli (row23 (q48 (uBits i k)) (BitVec.ofNat 32 a.val) (BitVec.ofNat 32 b.val)) 49152#32)
          (Scalar.muli (m48 (uBits i k)) 1024#32)).toNat := rfl
  have hr := row23_val ⟨(117 * wid i + k.val) / 48, by omega⟩ a b
  have hl := pairRow_lt ⟨(117 * wid i + k.val) / 48, by omega⟩ a b
  rw [e, uBits_val, q48_val ⟨_, h⟩, m48_val ⟨_, h⟩]
  simp only at hr hl ⊢
  rw [hr]
  have ha : (3 * a.val + b.val) / 3 = a.val := by have := b.isLt; omega
  have hb : (3 * a.val + b.val) % 3 = b.val := by have := b.isLt; omega
  unfold outOff
  rw [ha, hb]
  generalize pairRow (fld ((117 * wid i + k.val) / 48) a.val) (fld ((117 * wid i + k.val) / 48) (3 + b.val)) = p at hl ⊢
  generalize 117 * wid i + k.val = n at h ⊢
  simp only [Scalar.addi, Scalar.muli, IntOp.addi, IntOp.muli, BitVec.toNat_add, BitVec.toNat_mul, BitVec.toNat_ofNat]
  omega

end Cert.ScKernelIdeal
-- ==== Proof.KernelIdealOffE.lean ====
module

public import proofs.«01_k».proof.Proof.Gen.KernelIdeal
public import proofs.«01_k».proof.Proof.FieldTables
public import proofs.«01_k».proof.Proof.KernelIdealOff

@[expose] public section

/-!
# The offsets of the kernel's copies, loads and stores in closed form

Each theorem says what one printed chain of 32-bit operations comes to, over every tile and every trip of its loop.
-/

namespace Cert.ScKernelIdeal

open Cert.KernelIdeal Cert.KernelIdeal.Gen
open Idealize.ShloMosaic
open Cert.FieldTables

theorem off16_val : ∀ (k : Fin k0_t1_loop.trips) (t : Fin k0_t2_loop.trips) (r : Fin 6),
    k0_off16 k t (BitVec.ofNat 32 (1024 * r.val)) 0 = 6144 * (k.val % 2) + 1024 * r.val + 16 * t.val := by decide +kernel
theorem off17_val : ∀ (k : Fin k0_t1_loop.trips) (t : Fin k0_t2_loop.trips),
    k0_off17 k t 0 = 9216 * (k.val % 2) + 1024 * 0 + 16 * t.val := by decide +kernel
theorem off18_val : ∀ (k : Fin k0_t1_loop.trips) (t : Fin k0_t2_loop.trips),
    k0_off18 k t 0 = 9216 * (k.val % 2) + 1024 * 1 + 16 * t.val := by decide +kernel
theorem off19_val : ∀ (k : Fin k0_t1_loop.trips) (t : Fin k0_t2_loop.trips),
    k0_off19 k t 0 = 9216 * (k.val % 2) + 1024 * 2 + 16 * t.val := by decide +kernel
theorem off20_val : ∀ (k : Fin k0_t1_loop.trips) (t : Fin k0_t2_loop.trips) (r : Fin 3),
    k0_off20 k t (BitVec.ofNat 32 (3072 + 1024 * r.val)) 0 = 9216 * (k.val % 2) + 1024 * (3 + r.val) + 16 * t.val := by decide +kernel
theorem off21_val : ∀ (k : Fin k0_t1_loop.trips) (t : Fin k0_t2_loop.trips) (r : Fin 3),
    k0_off21 k t (BitVec.ofNat 32 (6144 + 1024 * r.val)) 0 = 9216 * (k.val % 2) + 1024 * (6 + r.val) + 16 * t.val := by decide +kernel

end Cert.ScKernelIdeal
-- ==== Proof.KernelIdealParts.lean ====
module

public import proofs.«01_k».proof.Proof.KernelIdealPure
public import proofs.«01_k».proof.Proof.KernelIdealOffB
public import proofs.«01_k».proof.Proof.KernelIdealOffC
public import proofs.«01_k».proof.Proof.KernelIdealOffE

@[expose] public section

noncomputable section

/-!
# The parts that copy

What each part of the kernel that copies needs, and what is held after it.
-/

namespace Cert.ScKernelIdeal

open Cert.KernelIdeal Cert.KernelIdeal.Gen Cert.FieldTables
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch)

variable {F : FTy → Type} [FloatOps F]

local notation "𝕄" => MT nD τ sig (HIx 1) (Elt F) ℕ UU ℕ

/-- The parity of a unit. -/
def par (k : ℕ) : Fin 2 := ⟨k % 2, Nat.mod_lt _ (by decide)⟩

theorem credI (off : Fin 1 → ℕ) (inb) : (sI.slice (Rect.unit (s := S12288) off S1024.size inb) (fun _ => rfl)).view.dmaCredit = nU := rfl

theorem credX (off : Fin 1 → ℕ) (inb) : (sX.slice (Rect.unit (s := S12288) off S1024.size inb) (fun _ => rfl)).view.dmaCredit = nU := rfl

theorem credP (off : Fin 1 → ℕ) (inb) : (gP.slice (Rect.unit (s := S36421632) off S1024.size inb) (fun _ => rfl)).view.dmaCredit = nU := rfl

theorem credT (off : Fin 1 → ℕ) (inb) : (sT.slice (Rect.unit (s := S81280) off S4512.size inb) (fun _ => rfl)).view.dmaCredit = nT := rfl

theorem credW (off : Fin 1 → ℕ) (inb) : (sW.slice (Rect.unit (s := S4608) off S4512.size inb) (fun _ => rfl)).view.dmaCredit = nT := rfl

theorem credId (off : Fin 1 → ℕ) (inb) : (sI.slice (Rect.unit (s := S12288) off S1536.size inb) (fun _ => rfl)).view.dmaCredit = nV := rfl

theorem credXd (off : Fin 1 → ℕ) (inb) : (sX.slice (Rect.unit (s := S12288) off S1536.size inb) (fun _ => rfl)).view.dmaCredit = nV := rfl

theorem credPd (off : Fin 1 → ℕ) (inb) : (gP.slice (Rect.unit (s := S36421632) off S1536.size inb) (fun _ => rfl)).view.dmaCredit = nV := rfl

section Parts

variable (d : Dev nD) (L : grid0.Coords) {O : CellTallies nD τ sig (HIx 1)} {W : Waits sig (HIx 1)}
variable (tab : Vec F S6862752 .i32) (idx : Vec F S1916928 .i32) (xs : Vec F S1916928 .f32) (w : Vec F S58656 .f32)
variable (PV : Vec F S36421632 .f32) (LV : Vec F S49152 .f32)

set_option maxHeartbeats 4000000 in
/-- A part of the kernel that copies. -/
theorem part5_spec (k0_t1 : Fin k0_t1_loop.trips) {k0_h1 : k0_cond1 L k0_t1 = 1#1} {v1903 : BitVec 32} {c4512_i32_912 : BitVec 32}
    {Q : _ → sProp 𝕄} :
    iprop(TabA d L tab ((117 * wid L + k0_t1.val) / 48) 0) ⊢ iprop((∀ v, (TabB d L tab ((117 * wid L + k0_t1.val) / 48) 2) -∗ Q v) -∗ wp frame (wpE (defs₀ (F := F)) 𝒱₀ (thr d L) none) Set.univ (k0_part5 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1 k0_h1 v1903 c4512_i32_912) Q) := by
  rw [k0_part5_eq_skeleton]
  unfold k0_part5_skel
  simp only [Prog.lift, Prog.bind_op, Prog.bind_ret, Prog.pure_eq_ret]
  iintro HT Hk
  iapply (tab_f d L tab 0 (by decide) rfl (show k0_off3 L k0_t1 0#32 0#32 0 = tabOff _ 0 from off3_val L k0_t1 0 0) (show (![0] : Fin 1 → ℕ) 0 = 4512 * 0 from rfl)) $$ HT
  iintro HT
  iapply (tab_g d L tab 0 (by decide) rfl (show k0_off4 L k0_t1 0#32 0#32 0 = tabOff _ (9 + 0) from off4_val L k0_t1 0 0) (show (![40608] : Fin 1 → ℕ) 0 = 40608 + 4512 * 0 from rfl)) $$ HT
  iintro HT
  iapply (tab_f d L tab 1 (by decide) rfl (show k0_off3 L k0_t1 0#32 1#32 0 = tabOff _ 1 from off3_val L k0_t1 0 1) (show (![4512] : Fin 1 → ℕ) 0 = 4512 * 1 from rfl)) $$ HT
  iintro HT
  iapply (tab_g d L tab 1 (by decide) rfl (show k0_off4 L k0_t1 1#32 0#32 0 = tabOff _ (9 + 1) from off4_val L k0_t1 0 1) (show (![45120] : Fin 1 → ℕ) 0 = 40608 + 4512 * 1 from rfl)) $$ HT
  iintro HT
  iapply (tab_f d L tab 2 (by decide) rfl (show k0_off3 L k0_t1 0#32 2#32 0 = tabOff _ 2 from off3_val L k0_t1 0 2) (show (![9024] : Fin 1 → ℕ) 0 = 4512 * 2 from rfl)) $$ HT
  iintro HT
  iapply (wp_done d L)
  iapply Hk
  iexact HT

set_option maxHeartbeats 4000000 in
/-- A part of the kernel that copies. -/
theorem part6_spec (k0_t1 : Fin k0_t1_loop.trips) {k0_h1 : k0_cond1 L k0_t1 = 1#1}
    {Q : _ → sProp 𝕄} :
    iprop(TabB d L tab ((117 * wid L + k0_t1.val) / 48) 2) ⊢ iprop((∀ v, (TabB d L tab ((117 * wid L + k0_t1.val) / 48) 5) -∗ Q v) -∗ wp frame (wpE (defs₀ (F := F)) 𝒱₀ (thr d L) none) Set.univ (k0_part6 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1 k0_h1) Q) := by
  rw [k0_part6_eq_skeleton]
  unfold k0_part6_skel
  simp only [Prog.lift, Prog.bind_op, Prog.bind_ret, Prog.pure_eq_ret]
  iintro HT Hk
  iapply (tab_g d L tab 2 (by decide) rfl (show k0_off4 L k0_t1 2#32 0#32 0 = tabOff _ (9 + 2) from off4_val L k0_t1 0 2) (show (![49632] : Fin 1 → ℕ) 0 = 40608 + 4512 * 2 from rfl)) $$ HT
  iintro HT
  iapply (tab_f d L tab 3 (by decide) rfl (show k0_off3 L k0_t1 1#32 0#32 0 = tabOff _ 3 from off3_val L k0_t1 1 0) (show (![13536] : Fin 1 → ℕ) 0 = 4512 * 3 from rfl)) $$ HT
  iintro HT
  iapply (tab_g d L tab 3 (by decide) rfl (show k0_off4 L k0_t1 0#32 1#32 0 = tabOff _ (9 + 3) from off4_val L k0_t1 1 0) (show (![54144] : Fin 1 → ℕ) 0 = 40608 + 4512 * 3 from rfl)) $$ HT
  iintro HT
  iapply (tab_f d L tab 4 (by decide) rfl (show k0_off3 L k0_t1 1#32 1#32 0 = tabOff _ 4 from off3_val L k0_t1 1 1) (show (![18048] : Fin 1 → ℕ) 0 = 4512 * 4 from rfl)) $$ HT
  iintro HT
  iapply (tab_g d L tab 4 (by decide) rfl (show k0_off4 L k0_t1 1#32 1#32 0 = tabOff _ (9 + 4) from off4_val L k0_t1 1 1) (show (![58656] : Fin 1 → ℕ) 0 = 40608 + 4512 * 4 from rfl)) $$ HT
  iintro HT
  iapply (tab_f d L tab 5 (by decide) rfl (show k0_off3 L k0_t1 1#32 2#32 0 = tabOff _ 5 from off3_val L k0_t1 1 2) (show (![22560] : Fin 1 → ℕ) 0 = 4512 * 5 from rfl)) $$ HT
  iintro HT
  iapply (wp_done d L)
  iapply Hk
  iexact HT

set_option maxHeartbeats 4000000 in
/-- A part of the kernel that copies. -/
theorem part7_spec (k0_t1 : Fin k0_t1_loop.trips) {k0_h1 : k0_cond1 L k0_t1 = 1#1}
    {Q : _ → sProp 𝕄} :
    iprop(TabB d L tab ((117 * wid L + k0_t1.val) / 48) 5) ⊢ iprop((∀ v, (TabB d L tab ((117 * wid L + k0_t1.val) / 48) 8) -∗ Q v) -∗ wp frame (wpE (defs₀ (F := F)) 𝒱₀ (thr d L) none) Set.univ (k0_part7 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1 k0_h1) Q) := by
  rw [k0_part7_eq_skeleton]
  unfold k0_part7_skel
  simp only [Prog.lift, Prog.bind_op, Prog.bind_ret, Prog.pure_eq_ret]
  iintro HT Hk
  iapply (tab_g d L tab 5 (by decide) rfl (show k0_off4 L k0_t1 2#32 1#32 0 = tabOff _ (9 + 5) from off4_val L k0_t1 1 2) (show (![63168] : Fin 1 → ℕ) 0 = 40608 + 4512 * 5 from rfl)) $$ HT
  iintro HT
  iapply (tab_f d L tab 6 (by decide) rfl (show k0_off3 L k0_t1 2#32 0#32 0 = tabOff _ 6 from off3_val L k0_t1 2 0) (show (![27072] : Fin 1 → ℕ) 0 = 4512 * 6 from rfl)) $$ HT
  iintro HT
  iapply (tab_g d L tab 6 (by decide) rfl (show k0_off4 L k0_t1 0#32 2#32 0 = tabOff _ (9 + 6) from off4_val L k0_t1 2 0) (show (![67680] : Fin 1 → ℕ) 0 = 40608 + 4512 * 6 from rfl)) $$ HT
  iintro HT
  iapply (tab_f d L tab 7 (by decide) rfl (show k0_off3 L k0_t1 2#32 1#32 0 = tabOff _ 7 from off3_val L k0_t1 2 1) (show (![31584] : Fin 1 → ℕ) 0 = 4512 * 7 from rfl)) $$ HT
  iintro HT
  iapply (tab_g d L tab 7 (by decide) rfl (show k0_off4 L k0_t1 1#32 2#32 0 = tabOff _ (9 + 7) from off4_val L k0_t1 2 1) (show (![72192] : Fin 1 → ℕ) 0 = 40608 + 4512 * 7 from rfl)) $$ HT
  iintro HT
  iapply (tab_f d L tab 8 (by decide) rfl (show k0_off3 L k0_t1 2#32 2#32 0 = tabOff _ 8 from off3_val L k0_t1 2 2) (show (![36096] : Fin 1 → ℕ) 0 = 4512 * 8 from rfl)) $$ HT
  iintro HT
  iapply (wp_done d L)
  iapply Hk
  iexact HT

set_option maxHeartbeats 4000000 in
/-- A part of the kernel that copies. -/
theorem part8_spec (k0_t1 : Fin k0_t1_loop.trips) {k0_h1 : k0_cond1 L k0_t1 = 1#1} {v1060 : BitVec 32}
    {Q : _ → sProp 𝕄} :
    iprop(TabB d L tab ((117 * wid L + k0_t1.val) / 48) 8) ⊢ iprop((∀ v, (TabA d L tab ((117 * wid L + k0_t1.val) / 48) 9) -∗ Q v) -∗ wp frame (wpE (defs₀ (F := F)) 𝒱₀ (thr d L) none) Set.univ (k0_part8 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1 v1060 k0_h1) Q) := by
  rw [k0_part8_eq_skeleton]
  unfold k0_part8_skel
  simp only [Prog.lift, Prog.bind_op, Prog.bind_ret, Prog.pure_eq_ret]
  iintro HT Hk
  iapply (tab_g d L tab 8 (by decide) rfl (show k0_off4 L k0_t1 2#32 2#32 0 = tabOff _ (9 + 8) from off4_val L k0_t1 2 2) (show (![76704] : Fin 1 → ℕ) 0 = 40608 + 4512 * 8 from rfl)) $$ HT
  iintro HT
  iapply (wp_done d L)
  iapply Hk
  iexact HT

set_option maxHeartbeats 4000000 in
/-- A part of the kernel that copies. -/
theorem part12_spec (k0_t1 : Fin k0_t1_loop.trips) {k0_h1 : k0_cond1 L k0_t1 = 1#1} {r : ℕ} (hO : ∀ g, O g none = 0) {v2158 : BitVec 32}
    {Q : _ → sProp 𝕄} :
    iprop(OwL d L O W ∗ Batch EC (thr d L) (.dma mT) (none : HIx 1) nT (DT d L tab r) 18 (0 * nT)) ⊢ iprop((∀ v, (OwL d L O W ∗ Batch EC (thr d L) (.dma mT) (none : HIx 1) nT (DT d L tab r) 18 (5 * nT)) -∗ Q v) -∗ wp frame (wpE (defs₀ (F := F)) 𝒱₀ (thr d L) none) Set.univ (k0_part12 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1 k0_h1 v2158) Q) := by
  rw [k0_part12_eq_skeleton]
  unfold k0_part12_skel
  simp only [Prog.lift, Prog.bind_op, Prog.bind_ret, Prog.pure_eq_ret]
  iintro ⟨HO, HT⟩ Hk
  iapply (w_mid d L (n := 18) hO 0 (by decide) rfl (credT _ _) nT_pos) $$ [HO HT]
  · isplitl [HO]; · iexact HO
    iexact HT
  iintro ⟨HO, HT⟩
  iapply (w_mid d L (n := 18) hO 1 (by decide) rfl (credT _ _) nT_pos) $$ [HO HT]
  · isplitl [HO]; · iexact HO
    iexact HT
  iintro ⟨HO, HT⟩
  iapply (w_mid d L (n := 18) hO 2 (by decide) rfl (credT _ _) nT_pos) $$ [HO HT]
  · isplitl [HO]; · iexact HO
    iexact HT
  iintro ⟨HO, HT⟩
  iapply (w_mid d L (n := 18) hO 3 (by decide) rfl (credT _ _) nT_pos) $$ [HO HT]
  · isplitl [HO]; · iexact HO
    iexact HT
  iintro ⟨HO, HT⟩
  iapply (w_mid d L (n := 18) hO 4 (by decide) rfl (credT _ _) nT_pos) $$ [HO HT]
  · isplitl [HO]; · iexact HO
    iexact HT
  iintro ⟨HO, HT⟩
  iapply (wp_done d L)
  iapply Hk
  isplitl [HO]; · iexact HO
  iexact HT

set_option maxHeartbeats 4000000 in
/-- A part of the kernel that copies. -/
theorem part13_spec (k0_t1 : Fin k0_t1_loop.trips) {k0_h1 : k0_cond1 L k0_t1 = 1#1} {r : ℕ} (hO : ∀ g, O g none = 0)
    {Q : _ → sProp 𝕄} :
    iprop(OwL d L O W ∗ Batch EC (thr d L) (.dma mT) (none : HIx 1) nT (DT d L tab r) 18 (5 * nT)) ⊢ iprop((∀ v, (OwL d L O W ∗ Batch EC (thr d L) (.dma mT) (none : HIx 1) nT (DT d L tab r) 18 (11 * nT)) -∗ Q v) -∗ wp frame (wpE (defs₀ (F := F)) 𝒱₀ (thr d L) none) Set.univ (k0_part13 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1 k0_h1) Q) := by
  rw [k0_part13_eq_skeleton]
  unfold k0_part13_skel
  simp only [Prog.lift, Prog.bind_op, Prog.bind_ret, Prog.pure_eq_ret]
  iintro ⟨HO, HT⟩ Hk
  iapply (w_mid d L (n := 18) hO 5 (by decide) rfl (credT _ _) nT_pos) $$ [HO HT]
  · isplitl [HO]; · iexact HO
    iexact HT
  iintro ⟨HO, HT⟩
  iapply (w_mid d L (n := 18) hO 6 (by decide) rfl (credT _ _) nT_pos) $$ [HO HT]
  · isplitl [HO]; · iexact HO
    iexact HT
  iintro ⟨HO, HT⟩
  iapply (w_mid d L (n := 18) hO 7 (by decide) rfl (credT _ _) nT_pos) $$ [HO HT]
  · isplitl [HO]; · iexact HO
    iexact HT
  iintro ⟨HO, HT⟩
  iapply (w_mid d L (n := 18) hO 8 (by decide) rfl (credT _ _) nT_pos) $$ [HO HT]
  · isplitl [HO]; · iexact HO
    iexact HT
  iintro ⟨HO, HT⟩
  iapply (w_mid d L (n := 18) hO 9 (by decide) rfl (credT _ _) nT_pos) $$ [HO HT]
  · isplitl [HO]; · iexact HO
    iexact HT
  iintro ⟨HO, HT⟩
  iapply (w_mid d L (n := 18) hO 10 (by decide) rfl (credT _ _) nT_pos) $$ [HO HT]
  · isplitl [HO]; · iexact HO
    iexact HT
  iintro ⟨HO, HT⟩
  iapply (wp_done d L)
  iapply Hk
  isplitl [HO]; · iexact HO
  iexact HT

set_option maxHeartbeats 4000000 in
/-- A part of the kernel that copies. -/
theorem part14_spec (k0_t1 : Fin k0_t1_loop.trips) {k0_h1 : k0_cond1 L k0_t1 = 1#1} {r : ℕ} (hO : ∀ g, O g none = 0)
    {Q : _ → sProp 𝕄} :
    iprop(OwL d L O W ∗ Batch EC (thr d L) (.dma mT) (none : HIx 1) nT (DT d L tab r) 18 (11 * nT)) ⊢ iprop((∀ v, (OwL d L O W ∗ Batch EC (thr d L) (.dma mT) (none : HIx 1) nT (DT d L tab r) 18 (17 * nT)) -∗ Q v) -∗ wp frame (wpE (defs₀ (F := F)) 𝒱₀ (thr d L) none) Set.univ (k0_part14 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1 k0_h1) Q) := by
  rw [k0_part14_eq_skeleton]
  unfold k0_part14_skel
  simp only [Prog.lift, Prog.bind_op, Prog.bind_ret, Prog.pure_eq_ret]
  iintro ⟨HO, HT⟩ Hk
  iapply (w_mid d L (n := 18) hO 11 (by decide) rfl (credT _ _) nT_pos) $$ [HO HT]
  · isplitl [HO]; · iexact HO
    iexact HT
  iintro ⟨HO, HT⟩
  iapply (w_mid d L (n := 18) hO 12 (by decide) rfl (credT _ _) nT_pos) $$ [HO HT]
  · isplitl [HO]; · iexact HO
    iexact HT
  iintro ⟨HO, HT⟩
  iapply (w_mid d L (n := 18) hO 13 (by decide) rfl (credT _ _) nT_pos) $$ [HO HT]
  · isplitl [HO]; · iexact HO
    iexact HT
  iintro ⟨HO, HT⟩
  iapply (w_mid d L (n := 18) hO 14 (by decide) rfl (credT _ _) nT_pos) $$ [HO HT]
  · isplitl [HO]; · iexact HO
    iexact HT
  iintro ⟨HO, HT⟩
  iapply (w_mid d L (n := 18) hO 15 (by decide) rfl (credT _ _) nT_pos) $$ [HO HT]
  · isplitl [HO]; · iexact HO
    iexact HT
  iintro ⟨HO, HT⟩
  iapply (w_mid d L (n := 18) hO 16 (by decide) rfl (credT _ _) nT_pos) $$ [HO HT]
  · isplitl [HO]; · iexact HO
    iexact HT
  iintro ⟨HO, HT⟩
  iapply (wp_done d L)
  iapply Hk
  isplitl [HO]; · iexact HO
  iexact HT

set_option maxHeartbeats 4000000 in
/-- A part of the kernel that copies. -/
theorem part18_spec (k0_t1 : Fin k0_t1_loop.trips) {k0_h2 : k0_cond2 L k0_t1 = 1#1} (hu : 117 * wid L + k0_t1.val + 1 < 3744) {v1759 : BitVec 32} {v1833 : BitVec 32} {v1843 : BitVec 32} {v1873 : BitVec 32}
    {Q : _ → sProp 𝕄} :
    iprop(InA d L idx xs (117 * wid L + k0_t1.val + 1) (par (k0_t1.val + 1)) 0) ⊢ iprop((∀ v, (InA d L idx xs (117 * wid L + k0_t1.val + 1) (par (k0_t1.val + 1)) 1) -∗ Q v) -∗ wp frame (wpE (defs₀ (F := F)) 𝒱₀ (thr d L) none) Set.univ (k0_part18 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1 k0_h2 v1759 v1833 v1843 v1873) Q) := by
  rw [k0_part18_eq_skeleton]
  unfold k0_part18_skel
  simp only [Prog.lift, Prog.bind_op, Prog.bind_ret, Prog.pure_eq_ret]
  iintro HI Hk
  iapply (in_idx d L idx xs 0 (by decide) hu (mI_eq (par (k0_t1.val + 1)) (k0_off7 k0_t1) _ (off7_val k0_t1)) (show k0_off6 L k0_t1 0#32 0 = inOff _ 0 from off6_val L k0_t1 0) (show k0_off5 k0_t1 0#32 0 = 6144 * (par (k0_t1.val + 1)).val + 1024 * 0 from off5_val k0_t1 0)) $$ HI
  iintro HI
  iapply (in_x d L idx xs 0 (by decide) hu (mI_eq (par (k0_t1.val + 1)) (k0_off7 k0_t1) _ (off7_val k0_t1)) (show k0_off6 L k0_t1 0#32 0 = inOff _ 0 from off6_val L k0_t1 0) (show k0_off5 k0_t1 0#32 0 = 6144 * (par (k0_t1.val + 1)).val + 1024 * 0 from off5_val k0_t1 0)) $$ HI
  iintro HI
  iapply (wp_done d L)
  iapply Hk
  iexact HI

set_option maxHeartbeats 4000000 in
/-- A part of the kernel that copies. -/
theorem part19_spec (k0_t1 : Fin k0_t1_loop.trips) {k0_h2 : k0_cond2 L k0_t1 = 1#1} (hu : 117 * wid L + k0_t1.val + 1 < 3744)
    {Q : _ → sProp 𝕄} :
    iprop(InA d L idx xs (117 * wid L + k0_t1.val + 1) (par (k0_t1.val + 1)) 1) ⊢ iprop((∀ v, (InA d L idx xs (117 * wid L + k0_t1.val + 1) (par (k0_t1.val + 1)) 5) -∗ Q v) -∗ wp frame (wpE (defs₀ (F := F)) 𝒱₀ (thr d L) none) Set.univ (k0_part19 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1 k0_h2) Q) := by
  rw [k0_part19_eq_skeleton]
  unfold k0_part19_skel
  simp only [Prog.lift, Prog.bind_op, Prog.bind_ret, Prog.pure_eq_ret]
  iintro HI Hk
  iapply (in_idx d L idx xs 1 (by decide) hu (mI_eq (par (k0_t1.val + 1)) (k0_off7 k0_t1) _ (off7_val k0_t1)) (show k0_off6 L k0_t1 1#32 0 = inOff _ 1 from off6_val L k0_t1 1) (show k0_off5 k0_t1 1#32 0 = 6144 * (par (k0_t1.val + 1)).val + 1024 * 1 from off5_val k0_t1 1)) $$ HI
  iintro HI
  iapply (in_x d L idx xs 1 (by decide) hu (mI_eq (par (k0_t1.val + 1)) (k0_off7 k0_t1) _ (off7_val k0_t1)) (show k0_off6 L k0_t1 1#32 0 = inOff _ 1 from off6_val L k0_t1 1) (show k0_off5 k0_t1 1#32 0 = 6144 * (par (k0_t1.val + 1)).val + 1024 * 1 from off5_val k0_t1 1)) $$ HI
  iintro HI
  iapply (in_idx d L idx xs 2 (by decide) hu (mI_eq (par (k0_t1.val + 1)) (k0_off7 k0_t1) _ (off7_val k0_t1)) (show k0_off6 L k0_t1 2#32 0 = inOff _ 2 from off6_val L k0_t1 2) (show k0_off5 k0_t1 2#32 0 = 6144 * (par (k0_t1.val + 1)).val + 1024 * 2 from off5_val k0_t1 2)) $$ HI
  iintro HI
  iapply (in_x d L idx xs 2 (by decide) hu (mI_eq (par (k0_t1.val + 1)) (k0_off7 k0_t1) _ (off7_val k0_t1)) (show k0_off6 L k0_t1 2#32 0 = inOff _ 2 from off6_val L k0_t1 2) (show k0_off5 k0_t1 2#32 0 = 6144 * (par (k0_t1.val + 1)).val + 1024 * 2 from off5_val k0_t1 2)) $$ HI
  iintro HI
  iapply (in_idx d L idx xs 3 (by decide) hu (mI_eq (par (k0_t1.val + 1)) (k0_off7 k0_t1) _ (off7_val k0_t1)) (show k0_off8 L k0_t1 0#32 0 = inOff _ 3 from off8_val L k0_t1 0) (show k0_off5 k0_t1 3#32 0 = 6144 * (par (k0_t1.val + 1)).val + 1024 * 3 from off5_val k0_t1 3)) $$ HI
  iintro HI
  iapply (in_x d L idx xs 3 (by decide) hu (mI_eq (par (k0_t1.val + 1)) (k0_off7 k0_t1) _ (off7_val k0_t1)) (show k0_off8 L k0_t1 0#32 0 = inOff _ 3 from off8_val L k0_t1 0) (show k0_off5 k0_t1 3#32 0 = 6144 * (par (k0_t1.val + 1)).val + 1024 * 3 from off5_val k0_t1 3)) $$ HI
  iintro HI
  iapply (in_idx d L idx xs 4 (by decide) hu (mI_eq (par (k0_t1.val + 1)) (k0_off7 k0_t1) _ (off7_val k0_t1)) (show k0_off8 L k0_t1 1#32 0 = inOff _ 4 from off8_val L k0_t1 1) (show k0_off5 k0_t1 4#32 0 = 6144 * (par (k0_t1.val + 1)).val + 1024 * 4 from off5_val k0_t1 4)) $$ HI
  iintro HI
  iapply (in_x d L idx xs 4 (by decide) hu (mI_eq (par (k0_t1.val + 1)) (k0_off7 k0_t1) _ (off7_val k0_t1)) (show k0_off8 L k0_t1 1#32 0 = inOff _ 4 from off8_val L k0_t1 1) (show k0_off5 k0_t1 4#32 0 = 6144 * (par (k0_t1.val + 1)).val + 1024 * 4 from off5_val k0_t1 4)) $$ HI
  iintro HI
  iapply (wp_done d L)
  iapply Hk
  iexact HI

set_option maxHeartbeats 4000000 in
/-- A part of the kernel that copies. -/
theorem part62_spec (k0_t1 : Fin k0_t1_loop.trips) {u : ℕ} (hO : ∀ g, O g none = 0)
    {Q : _ → sProp 𝕄} :
    iprop(OwL d L O W ∗ Batch EC (thr d L) (.dma (mI (par k0_t1.val))) (none : HIx 1) nU (DI d L idx xs u (par k0_t1.val)) 12 (0 * nU)) ⊢ iprop((∀ v, (OwL d L O W ∗ Batch EC (thr d L) (.dma (mI (par k0_t1.val))) (none : HIx 1) nU (DI d L idx xs u (par k0_t1.val)) 12 (8 * nU)) -∗ Q v) -∗ wp frame (wpE (defs₀ (F := F)) 𝒱₀ (thr d L) none) Set.univ (k0_part62 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1) Q) := by
  rw [k0_part62_eq_skeleton]
  unfold k0_part62_skel
  simp only [Prog.lift, Prog.bind_op, Prog.bind_ret, Prog.pure_eq_ret]
  iintro ⟨HO, HI⟩ Hk
  iapply (w_mid d L (n := 12) hO 0 (by decide) (mI_eq (par k0_t1.val) (k0_off11 k0_t1) _ (off11_val k0_t1)) (credI _ _) nU_pos) $$ [HO HI]
  · isplitl [HO]; · iexact HO
    iexact HI
  iintro ⟨HO, HI⟩
  iapply (w_mid d L (n := 12) hO 1 (by decide) (mI_eq (par k0_t1.val) (k0_off11 k0_t1) _ (off11_val k0_t1)) (credX _ _) nU_pos) $$ [HO HI]
  · isplitl [HO]; · iexact HO
    iexact HI
  iintro ⟨HO, HI⟩
  iapply (w_mid d L (n := 12) hO 2 (by decide) (mI_eq (par k0_t1.val) (k0_off11 k0_t1) _ (off11_val k0_t1)) (credI _ _) nU_pos) $$ [HO HI]
  · isplitl [HO]; · iexact HO
    iexact HI
  iintro ⟨HO, HI⟩
  iapply (w_mid d L (n := 12) hO 3 (by decide) (mI_eq (par k0_t1.val) (k0_off11 k0_t1) _ (off11_val k0_t1)) (credX _ _) nU_pos) $$ [HO HI]
  · isplitl [HO]; · iexact HO
    iexact HI
  iintro ⟨HO, HI⟩
  iapply (w_mid d L (n := 12) hO 4 (by decide) (mI_eq (par k0_t1.val) (k0_off11 k0_t1) _ (off11_val k0_t1)) (credI _ _) nU_pos) $$ [HO HI]
  · isplitl [HO]; · iexact HO
    iexact HI
  iintro ⟨HO, HI⟩
  iapply (w_mid d L (n := 12) hO 5 (by decide) (mI_eq (par k0_t1.val) (k0_off11 k0_t1) _ (off11_val k0_t1)) (credX _ _) nU_pos) $$ [HO HI]
  · isplitl [HO]; · iexact HO
    iexact HI
  iintro ⟨HO, HI⟩
  iapply (w_mid d L (n := 12) hO 6 (by decide) (mI_eq (par k0_t1.val) (k0_off11 k0_t1) _ (off11_val k0_t1)) (credI _ _) nU_pos) $$ [HO HI]
  · isplitl [HO]; · iexact HO
    iexact HI
  iintro ⟨HO, HI⟩
  iapply (w_mid d L (n := 12) hO 7 (by decide) (mI_eq (par k0_t1.val) (k0_off11 k0_t1) _ (off11_val k0_t1)) (credX _ _) nU_pos) $$ [HO HI]
  · isplitl [HO]; · iexact HO
    iexact HI
  iintro ⟨HO, HI⟩
  iapply (wp_done d L)
  iapply Hk
  isplitl [HO]; · iexact HO
  iexact HI

set_option maxHeartbeats 4000000 in
/-- A part of the kernel that copies. -/
theorem part30_spec (k0_t1 : Fin k0_t1_loop.trips) {k0_h3 : k0_cond3 k0_t1 = 1#1} {u : ℕ} (hO : ∀ g, O g none = 0) {v1043 : BitVec 32} {v1842 : BitVec 32} {v2132 : BitVec 32} {v2134 : BitVec 32} {v2135 : BitVec 32} {v2137 : BitVec 32} {c2_i32_1031 : BitVec 32} {v2138 : BitVec 32} {v2143 : BitVec 32} {c0_i32_1034 : BitVec 32}
    {Q : _ → sProp 𝕄} :
    iprop(OwL d L O W ∗ Batch EC (thr d L) (.dma (mO (par k0_t1.val))) (none : HIx 1) nU (DO d L PV u (par k0_t1.val)) 9 (0 * nU)) ⊢ iprop((∀ v, (OwL d L O W ∗ Batch EC (thr d L) (.dma (mO (par k0_t1.val))) (none : HIx 1) nU (DO d L PV u (par k0_t1.val)) 9 (3 * nU)) -∗ Q v) -∗ wp frame (wpE (defs₀ (F := F)) 𝒱₀ (thr d L) none) Set.univ (k0_part30 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1 v1043 k0_h3 v1842 v2132 v2134 v2135 v2137 c2_i32_1031 v2138 v2143 c0_i32_1034) Q) := by
  rw [k0_part30_eq_skeleton]
  unfold k0_part30_skel
  simp only [Prog.lift, Prog.bind_op, Prog.bind_ret, Prog.pure_eq_ret]
  iintro ⟨HO, HP⟩ Hk
  iapply (w_mid d L (n := 9) hO 0 (by decide) (mO_eq (par k0_t1.val) (k0_off15 k0_t1) _ (off15_val k0_t1)) (credP _ _) nU_pos) $$ [HO HP]
  · isplitl [HO]; · iexact HO
    iexact HP
  iintro ⟨HO, HP⟩
  iapply (w_mid d L (n := 9) hO 1 (by decide) (mO_eq (par k0_t1.val) (k0_off15 k0_t1) _ (off15_val k0_t1)) (credP _ _) nU_pos) $$ [HO HP]
  · isplitl [HO]; · iexact HO
    iexact HP
  iintro ⟨HO, HP⟩
  iapply (w_mid d L (n := 9) hO 2 (by decide) (mO_eq (par k0_t1.val) (k0_off15 k0_t1) _ (off15_val k0_t1)) (credP _ _) nU_pos) $$ [HO HP]
  · isplitl [HO]; · iexact HO
    iexact HP
  iintro ⟨HO, HP⟩
  iapply (wp_done d L)
  iapply Hk
  isplitl [HO]; · iexact HO
  iexact HP

set_option maxHeartbeats 4000000 in
/-- A part of the kernel that copies. -/
theorem part74_spec (k0_t1 : Fin k0_t1_loop.trips) (hu : 117 * wid L + k0_t1.val < 3744) {v1379 : BitVec 32} {v1695 : BitVec 32} {v1697 : BitVec 32}
    {Q : _ → sProp 𝕄} :
    iprop(OutSt d L PV (117 * wid L + k0_t1.val) (par k0_t1.val) 0) ⊢ iprop((∀ v, (OutSt d L PV (117 * wid L + k0_t1.val) (par k0_t1.val) 7) -∗ Q v) -∗ wp frame (wpE (defs₀ (F := F)) 𝒱₀ (thr d L) none) Set.univ (k0_part74 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1 v1379 v1695 v1697) Q) := by
  rw [k0_part74_eq_skeleton]
  unfold k0_part74_skel
  simp only [Prog.lift, Prog.bind_op, Prog.bind_ret, Prog.pure_eq_ret]
  iintro HP Hk
  iapply (out_st d L PV 0 (by decide) (mO_eq (par k0_t1.val) (k0_off11 k0_t1) _ (off11_val k0_t1)) (show k0_off22 k0_t1 0#32 0#32 0 = 9216 * (par k0_t1.val).val + 1024 * 0 from off22_val k0_t1 0 0) (show k0_off23 L k0_t1 0#32 0#32 0 = outOff _ 0 from off23_val L k0_t1 0 0)) $$ HP
  iintro HP
  iapply (out_st d L PV 1 (by decide) (mO_eq (par k0_t1.val) (k0_off11 k0_t1) _ (off11_val k0_t1)) (show k0_off22 k0_t1 0#32 1#32 0 = 9216 * (par k0_t1.val).val + 1024 * 1 from off22_val k0_t1 0 1) (show k0_off23 L k0_t1 0#32 1#32 0 = outOff _ 1 from off23_val L k0_t1 0 1)) $$ HP
  iintro HP
  iapply (out_st d L PV 2 (by decide) (mO_eq (par k0_t1.val) (k0_off11 k0_t1) _ (off11_val k0_t1)) (show k0_off22 k0_t1 0#32 2#32 0 = 9216 * (par k0_t1.val).val + 1024 * 2 from off22_val k0_t1 0 2) (show k0_off23 L k0_t1 0#32 2#32 0 = outOff _ 2 from off23_val L k0_t1 0 2)) $$ HP
  iintro HP
  iapply (out_st d L PV 3 (by decide) (mO_eq (par k0_t1.val) (k0_off11 k0_t1) _ (off11_val k0_t1)) (show k0_off22 k0_t1 3#32 0#32 0 = 9216 * (par k0_t1.val).val + 1024 * 3 from off22_val k0_t1 1 0) (show k0_off23 L k0_t1 1#32 0#32 0 = outOff _ 3 from off23_val L k0_t1 1 0)) $$ HP
  iintro HP
  iapply (out_st d L PV 4 (by decide) (mO_eq (par k0_t1.val) (k0_off11 k0_t1) _ (off11_val k0_t1)) (show k0_off22 k0_t1 3#32 1#32 0 = 9216 * (par k0_t1.val).val + 1024 * 4 from off22_val k0_t1 1 1) (show k0_off23 L k0_t1 1#32 1#32 0 = outOff _ 4 from off23_val L k0_t1 1 1)) $$ HP
  iintro HP
  iapply (out_st d L PV 5 (by decide) (mO_eq (par k0_t1.val) (k0_off11 k0_t1) _ (off11_val k0_t1)) (show k0_off22 k0_t1 3#32 2#32 0 = 9216 * (par k0_t1.val).val + 1024 * 5 from off22_val k0_t1 1 2) (show k0_off23 L k0_t1 1#32 2#32 0 = outOff _ 5 from off23_val L k0_t1 1 2)) $$ HP
  iintro HP
  iapply (out_st d L PV 6 (by decide) (mO_eq (par k0_t1.val) (k0_off11 k0_t1) _ (off11_val k0_t1)) (show k0_off22 k0_t1 6#32 0#32 0 = 9216 * (par k0_t1.val).val + 1024 * 6 from off22_val k0_t1 2 0) (show k0_off23 L k0_t1 2#32 0#32 0 = outOff _ 6 from off23_val L k0_t1 2 0)) $$ HP
  iintro HP
  iapply (wp_done d L)
  iapply Hk
  iexact HP

set_option maxHeartbeats 4000000 in
/-- A part of the kernel that copies. -/
theorem part96_spec  (hu : 117 * wid L < 3744) {v87 : BitVec 32} {v115 : BitVec 32} {c1024_i32_42 : BitVec 32}
    {Q : _ → sProp 𝕄} :
    iprop(InA d L idx xs (117 * wid L) (0) 0) ⊢ iprop((∀ v, (InB d L idx xs (117 * wid L) (0) 2) -∗ Q v) -∗ wp frame (wpE (defs₀ (F := F)) 𝒱₀ (thr d L) none) Set.univ (k0_part96 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v87 v115 c1024_i32_42) Q) := by
  rw [k0_part96_eq_skeleton]
  unfold k0_part96_skel
  simp only [Prog.lift, Prog.bind_op, Prog.bind_ret, Prog.pure_eq_ret]
  iintro HI Hk
  iapply (in_idx d L idx xs 0 (by decide) hu (mI_eq 0 (![0]) _ rfl) (show k0_off1 L 0#32 0 = inOff _ 0 from off1_val L 0) (show (![0] : Fin 1 → ℕ) 0 = 6144 * (0 : Fin 2).val + 1024 * 0 from rfl)) $$ HI
  iintro HI
  iapply (in_x d L idx xs 0 (by decide) hu (mI_eq 0 (![0]) _ rfl) (show k0_off1 L 0#32 0 = inOff _ 0 from off1_val L 0) (show (![0] : Fin 1 → ℕ) 0 = 6144 * (0 : Fin 2).val + 1024 * 0 from rfl)) $$ HI
  iintro HI
  iapply (in_idx d L idx xs 1 (by decide) hu (mI_eq 0 (![0]) _ rfl) (show k0_off1 L 1#32 0 = inOff _ 1 from off1_val L 1) (show (![1024] : Fin 1 → ℕ) 0 = 6144 * (0 : Fin 2).val + 1024 * 1 from rfl)) $$ HI
  iintro HI
  iapply (in_x d L idx xs 1 (by decide) hu (mI_eq 0 (![0]) _ rfl) (show k0_off1 L 1#32 0 = inOff _ 1 from off1_val L 1) (show (![1024] : Fin 1 → ℕ) 0 = 6144 * (0 : Fin 2).val + 1024 * 1 from rfl)) $$ HI
  iintro HI
  iapply (in_idx d L idx xs 2 (by decide) hu (mI_eq 0 (![0]) _ rfl) (show k0_off1 L 2#32 0 = inOff _ 2 from off1_val L 2) (show (![2048] : Fin 1 → ℕ) 0 = 6144 * (0 : Fin 2).val + 1024 * 2 from rfl)) $$ HI
  iintro HI
  iapply (wp_done d L)
  iapply Hk
  iexact HI

set_option maxHeartbeats 4000000 in
/-- A part of the kernel that copies. -/
theorem part97_spec  (hu : 117 * wid L < 3744)
    {Q : _ → sProp 𝕄} :
    iprop(InB d L idx xs (117 * wid L) (0) 2) ⊢ iprop((∀ v, (InB d L idx xs (117 * wid L) (0) 5) -∗ Q v) -∗ wp frame (wpE (defs₀ (F := F)) 𝒱₀ (thr d L) none) Set.univ (k0_part97 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0) Q) := by
  rw [k0_part97_eq_skeleton]
  unfold k0_part97_skel
  simp only [Prog.lift, Prog.bind_op, Prog.bind_ret, Prog.pure_eq_ret]
  iintro HI Hk
  iapply (in_x d L idx xs 2 (by decide) hu (mI_eq 0 (![0]) _ rfl) (show k0_off1 L 2#32 0 = inOff _ 2 from off1_val L 2) (show (![2048] : Fin 1 → ℕ) 0 = 6144 * (0 : Fin 2).val + 1024 * 2 from rfl)) $$ HI
  iintro HI
  iapply (in_idx d L idx xs 3 (by decide) hu (mI_eq 0 (![0]) _ rfl) (show k0_off2 L 0#32 0 = inOff _ 3 from off2_val L 0) (show (![3072] : Fin 1 → ℕ) 0 = 6144 * (0 : Fin 2).val + 1024 * 3 from rfl)) $$ HI
  iintro HI
  iapply (in_x d L idx xs 3 (by decide) hu (mI_eq 0 (![0]) _ rfl) (show k0_off2 L 0#32 0 = inOff _ 3 from off2_val L 0) (show (![3072] : Fin 1 → ℕ) 0 = 6144 * (0 : Fin 2).val + 1024 * 3 from rfl)) $$ HI
  iintro HI
  iapply (in_idx d L idx xs 4 (by decide) hu (mI_eq 0 (![0]) _ rfl) (show k0_off2 L 1#32 0 = inOff _ 4 from off2_val L 1) (show (![4096] : Fin 1 → ℕ) 0 = 6144 * (0 : Fin 2).val + 1024 * 4 from rfl)) $$ HI
  iintro HI
  iapply (in_x d L idx xs 4 (by decide) hu (mI_eq 0 (![0]) _ rfl) (show k0_off2 L 1#32 0 = inOff _ 4 from off2_val L 1) (show (![4096] : Fin 1 → ℕ) 0 = 6144 * (0 : Fin 2).val + 1024 * 4 from rfl)) $$ HI
  iintro HI
  iapply (in_idx d L idx xs 5 (by decide) hu (mI_eq 0 (![0]) _ rfl) (show k0_off2 L 2#32 0 = inOff _ 5 from off2_val L 2) (show (![5120] : Fin 1 → ℕ) 0 = 6144 * (0 : Fin 2).val + 1024 * 5 from rfl)) $$ HI
  iintro HI
  iapply (wp_done d L)
  iapply Hk
  iexact HI

set_option maxHeartbeats 4000000 in
/-- A part of the kernel that copies. -/
theorem part107_spec  {u : ℕ} (hO : ∀ g, O g none = 0) {v275 : BitVec 32} {v525 : BitVec 32} {v527 : BitVec 32} {v528 : BitVec 32} {v531 : BitVec 32} {v545 : BitVec 1} {c1_i32_253 : BitVec 32}
    {Q : _ → sProp 𝕄} :
    iprop(OwL d L O W ∗ Batch EC (thr d L) (.dma (mO 1)) (none : HIx 1) nU (DO d L PV u 1) 9 (0 * nU)) ⊢ iprop((∀ v, (OwL d L O W ∗ Batch EC (thr d L) (.dma (mO 1)) (none : HIx 1) nU (DO d L PV u 1) 9 (4 * nU)) -∗ Q v) -∗ wp frame (wpE (defs₀ (F := F)) 𝒱₀ (thr d L) none) Set.univ (k0_part107 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v275 v525 v527 v528 v531 v545 c1_i32_253) Q) := by
  rw [k0_part107_eq_skeleton]
  unfold k0_part107_skel
  simp only [Prog.lift, Prog.bind_op, Prog.bind_ret, Prog.pure_eq_ret]
  iintro ⟨HO, HP⟩ Hk
  iapply (w_mid d L (n := 9) hO 0 (by decide) (mO_eq 1 (![1]) _ rfl) (credP _ _) nU_pos) $$ [HO HP]
  · isplitl [HO]; · iexact HO
    iexact HP
  iintro ⟨HO, HP⟩
  iapply (w_mid d L (n := 9) hO 1 (by decide) (mO_eq 1 (![1]) _ rfl) (credP _ _) nU_pos) $$ [HO HP]
  · isplitl [HO]; · iexact HO
    iexact HP
  iintro ⟨HO, HP⟩
  iapply (w_mid d L (n := 9) hO 2 (by decide) (mO_eq 1 (![1]) _ rfl) (credP _ _) nU_pos) $$ [HO HP]
  · isplitl [HO]; · iexact HO
    iexact HP
  iintro ⟨HO, HP⟩
  iapply (w_mid d L (n := 9) hO 3 (by decide) (mO_eq 1 (![1]) _ rfl) (credP _ _) nU_pos) $$ [HO HP]
  · isplitl [HO]; · iexact HO
    iexact HP
  iintro ⟨HO, HP⟩
  iapply (wp_done d L)
  iapply Hk
  isplitl [HO]; · iexact HO
  iexact HP

set_option maxHeartbeats 4000000 in
/-- A part of the kernel that copies. -/
theorem part108_spec  {u : ℕ} (hO : ∀ g, O g none = 0) {v2 : BitVec 32}
    {Q : _ → sProp 𝕄} :
    iprop(OwL d L O W ∗ Batch EC (thr d L) (.dma (mO 1)) (none : HIx 1) nU (DO d L PV u 1) 9 (4 * nU)) ⊢ iprop((∀ v, (OwL d L O W ∗ (bigSep Finset.univ (DO d L PV u 1) ∗ semVal (thr d L, .dma (mO 1)) 0)) -∗ Q v) -∗ wp frame (wpE (defs₀ (F := F)) 𝒱₀ (thr d L) none) Set.univ (k0_part108 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v2) Q) := by
  rw [k0_part108_eq_skeleton]
  unfold k0_part108_skel
  simp only [Prog.lift, Prog.bind_op, Prog.bind_ret, Prog.pure_eq_ret]
  iintro ⟨HO, HP⟩ Hk
  iapply (w_mid d L (n := 9) hO 4 (by decide) (mO_eq 1 (![1]) _ rfl) (credP _ _) nU_pos) $$ [HO HP]
  · isplitl [HO]; · iexact HO
    iexact HP
  iintro ⟨HO, HP⟩
  iapply (w_mid d L (n := 9) hO 5 (by decide) (mO_eq 1 (![1]) _ rfl) (credP _ _) nU_pos) $$ [HO HP]
  · isplitl [HO]; · iexact HO
    iexact HP
  iintro ⟨HO, HP⟩
  iapply (w_mid d L (n := 9) hO 6 (by decide) (mO_eq 1 (![1]) _ rfl) (credP _ _) nU_pos) $$ [HO HP]
  · isplitl [HO]; · iexact HO
    iexact HP
  iintro ⟨HO, HP⟩
  iapply (w_mid d L (n := 9) hO 7 (by decide) (mO_eq 1 (![1]) _ rfl) (credP _ _) nU_pos) $$ [HO HP]
  · isplitl [HO]; · iexact HO
    iexact HP
  iintro ⟨HO, HP⟩
  iapply (w_last d L hO 8 rfl (mO_eq 1 (![1]) _ rfl) (credP _ _) nU_pos) $$ [HO HP]
  · isplitl [HO]; · iexact HO
    iexact HP
  iintro ⟨HO, HP, HPv⟩
  iapply (wp_done d L)
  iapply Hk
  isplitl [HO]; · iexact HO
  isplitl [HP]; · iexact HP
  iexact HPv

set_option maxHeartbeats 4000000 in
/-- A part of the kernel that copies. -/
theorem part117_spec  {u : ℕ} (hO : ∀ g, O g none = 0) {v659 : BitVec 32} {v683 : BitVec 32} {v693 : BitVec 32} {c3_i32_438 : BitVec 32}
    {Q : _ → sProp 𝕄} :
    iprop(OwL d L O W ∗ Batch EC (thr d L) (.dma (mO 0)) (none : HIx 1) nU (DO d L PV u 0) 9 (0 * nU)) ⊢ iprop((∀ v, (OwL d L O W ∗ Batch EC (thr d L) (.dma (mO 0)) (none : HIx 1) nU (DO d L PV u 0) 9 (1 * nU)) -∗ Q v) -∗ wp frame (wpE (defs₀ (F := F)) 𝒱₀ (thr d L) none) Set.univ (k0_part117 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v659 v683 v693 c3_i32_438) Q) := by
  rw [k0_part117_eq_skeleton]
  unfold k0_part117_skel
  simp only [Prog.lift, Prog.bind_op, Prog.bind_ret, Prog.pure_eq_ret]
  iintro ⟨HO, HP⟩ Hk
  iapply (w_mid d L (n := 9) hO 0 (by decide) (mO_eq 0 (![0]) _ rfl) (credP _ _) nU_pos) $$ [HO HP]
  · isplitl [HO]; · iexact HO
    iexact HP
  iintro ⟨HO, HP⟩
  iapply (wp_done d L)
  iapply Hk
  isplitl [HO]; · iexact HO
  iexact HP

set_option maxHeartbeats 4000000 in
/-- A part of the kernel that copies. -/
theorem part118_spec  {u : ℕ} (hO : ∀ g, O g none = 0)
    {Q : _ → sProp 𝕄} :
    iprop(OwL d L O W ∗ Batch EC (thr d L) (.dma (mO 0)) (none : HIx 1) nU (DO d L PV u 0) 9 (1 * nU)) ⊢ iprop((∀ v, (OwL d L O W ∗ Batch EC (thr d L) (.dma (mO 0)) (none : HIx 1) nU (DO d L PV u 0) 9 (7 * nU)) -∗ Q v) -∗ wp frame (wpE (defs₀ (F := F)) 𝒱₀ (thr d L) none) Set.univ (k0_part118 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0) Q) := by
  rw [k0_part118_eq_skeleton]
  unfold k0_part118_skel
  simp only [Prog.lift, Prog.bind_op, Prog.bind_ret, Prog.pure_eq_ret]
  iintro ⟨HO, HP⟩ Hk
  iapply (w_mid d L (n := 9) hO 1 (by decide) (mO_eq 0 (![0]) _ rfl) (credP _ _) nU_pos) $$ [HO HP]
  · isplitl [HO]; · iexact HO
    iexact HP
  iintro ⟨HO, HP⟩
  iapply (w_mid d L (n := 9) hO 2 (by decide) (mO_eq 0 (![0]) _ rfl) (credP _ _) nU_pos) $$ [HO HP]
  · isplitl [HO]; · iexact HO
    iexact HP
  iintro ⟨HO, HP⟩
  iapply (w_mid d L (n := 9) hO 3 (by decide) (mO_eq 0 (![0]) _ rfl) (credP _ _) nU_pos) $$ [HO HP]
  · isplitl [HO]; · iexact HO
    iexact HP
  iintro ⟨HO, HP⟩
  iapply (w_mid d L (n := 9) hO 4 (by decide) (mO_eq 0 (![0]) _ rfl) (credP _ _) nU_pos) $$ [HO HP]
  · isplitl [HO]; · iexact HO
    iexact HP
  iintro ⟨HO, HP⟩
  iapply (w_mid d L (n := 9) hO 5 (by decide) (mO_eq 0 (![0]) _ rfl) (credP _ _) nU_pos) $$ [HO HP]
  · isplitl [HO]; · iexact HO
    iexact HP
  iintro ⟨HO, HP⟩
  iapply (w_mid d L (n := 9) hO 6 (by decide) (mO_eq 0 (![0]) _ rfl) (credP _ _) nU_pos) $$ [HO HP]
  · isplitl [HO]; · iexact HO
    iexact HP
  iintro ⟨HO, HP⟩
  iapply (wp_done d L)
  iapply Hk
  isplitl [HO]; · iexact HO
  iexact HP

end Parts

end Cert.ScKernelIdeal
-- ==== Proof.KernelIdealInner.lean ====
module

public import proofs.«01_k».proof.Proof.KernelIdealParts

@[expose] public section

noncomputable section

/-!
# Loads, gathers and stores of the pair loop

The lanes the pair loop loads and gathers, and the stretch of results it stores, one statement at a time.
-/

namespace Cert.ScKernelIdeal

open Cert.KernelIdeal Cert.KernelIdeal.Gen Cert.FieldTables
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch)

variable {F : FTy → Type} [FloatOps F]

local notation "𝕄" => MT nD τ sig (HIx 1) (Elt F) ℕ UU ℕ

section Inner

/-! ## What the lanes compute -/

/-- One byte of each word, with its sign: the byte `24 - k` bits above the lowest. -/
def byt (k : BitVec 32) (w : IVec S16 32) : IVec S16 32 := shrsi (shli w (broadcast S16 k)) (broadcast S16 24#32)
/-- Two products added and cut to sixteen bits. -/
def prd (a b c e : IVec S16 32) : IVec S16 32 :=
  shrsi (shli (addi (muli a c) (muli b e)) (broadcast S16 16#32)) (broadcast S16 16#32)
/-- Sixteen pairs at once: the inner product of the eight codes, scaled by the two values and the two scales. -/
def pairV (xf xg : Vec F S16 .f32) (f0 f1 f2 g0 g1 g2 : Vec F S16 .i32) : FVec F S16 .f32 :=
  mulf (mulf (sitofp .f32 (addi (addi (prd (byt 24#32 f0) (byt 16#32 f0) (byt 24#32 g0) (byt 16#32 g0))
        (prd (byt 8#32 f0) (byt 0#32 f0) (byt 8#32 g0) (byt 0#32 g0)))
      (addi (prd (byt 24#32 f1) (byt 16#32 f1) (byt 24#32 g1) (byt 16#32 g1))
        (prd (byt 8#32 f1) (byt 0#32 f1) (byt 8#32 g1) (byt 0#32 g1)))))
    (mulf xf (bitcastToFloat .f32 f2))) (mulf xg (bitcastToFloat .f32 g2))

/-- The words at sixteen places of a table that starts at `c`. -/
def gv (T : Vec F S81280 .i32) (c : ℕ) (iv : Vec F S16 .i32) : Vec F S16 .i32 := fun l => rd (N := 81280) T (c + (iv l).toNat)

section Mem

variable {α : Type} (d : Dev nD) (L : grid0.Coords)

/-- A load of sixteen consecutive places. -/
theorem ld {N : ℕ} [NeZero N] {e : EltTy} {m : Memref sig .scVector .vmem ⟨1, ![N]⟩ e} {off : Fin 1 → ℕ} {inb}
    {hl} {q : PosShare TreeShare} {f : Buf (Elt F) (m.view.loc (thr d L))} {w : Vec F S16 e}
    {I : Finset (Idx (m.view.loc (thr d L)))}
    (hI : (m.access (Rect.unit (s := ⟨1, ![N]⟩) off S16.size inb)).set ⊆ I)
    (hw : (m.access (Rect.unit (s := ⟨1, ![N]⟩) off S16.size inb)).read (Elt F) f = w)
    {k : (Vec F S16 e) → Prog (TpuEff nD τ sig (Elt F) Λ₀ (thr d L).2) α} {Q : α → sProp 𝕄} :
    (m.view.loc (thr d L) ↦[I]{q} f : sProp 𝕄)
      ⊢ iprop(((m.view.loc (thr d L) ↦[I]{q} f) -∗ wp frame (wpE (defs₀ (F := F)) 𝒱₀ (thr d L) none) Set.univ (k w) Q)
          -∗ wp frame (wpE (defs₀ (F := F)) 𝒱₀ (thr d L) none) Set.univ
            (.op (.load m (Rect.unit (s := ⟨1, ![N]⟩) off S16.size inb).toLoadRect hl) k) Q) := by
  subst hw
  exact wp_load_rect 𝒱₀ (thr d L) none Set.univ (m := m) (r := Rect.unit (s := ⟨1, ![N]⟩) off S16.size inb) hI

variable (tab : Vec F S6862752 .i32) (idx : Vec F S1916928 .i32) (xs : Vec F S1916928 .f32) (PV : Vec F S36421632 .f32)

/-- Sixteen consecutive tokens of a unit's row `r`. -/
def iVec {β : Type} (f : Shape.Idx ⟨1, ![1916928]⟩ → β) (u r t : ℕ) : S16.Idx → β := fun l => rd (N := 1916928) f (inOff u r + (16 * t + (l 0).val))
/-- Sixteen consecutive tokens of a unit's result `q`. -/
def resV (u q t : ℕ) : Vec F S16 .f32 := fun l => rd (N := 36421632) PV (outOff u q + (16 * t + (l 0).val))

/-- The results of a unit are in place for the first `t` groups of sixteen tokens, and those of the next group for the
    first `q` pairs. -/
def OutProg (u : ℕ) (p : Fin 2) (t q : ℕ) (f : Vec F S18432 .f32) : Prop :=
  ∀ i : Shape.Idx ⟨1, ![18432]⟩, 9216 * p.val ≤ (i 0).val → (i 0).val < 9216 * p.val + 9216 →
    (((i 0).val - 9216 * p.val) % 1024 < 16 * t
      ∨ (((i 0).val - 9216 * p.val) % 1024 < 16 * (t + 1) ∧ ((i 0).val - 9216 * p.val) / 1024 < q)) → f i = outC PV u i

/-- What the pair loop holds of the results. -/
def OutS (u : ℕ) (p : Fin 2) (t q : ℕ) : sProp 𝕄 :=
  iprop(∃ f, ⌜OutProg PV u p t q f⌝ ∗ sO.view.loc (thr d L) ↦[seg (N := 18432) (9216 * p.val) 9216]{fullShare} f)

/-- What the pair loop holds: the unit's rows, the rectangle's tables, and the results so far. -/
def InnSt (u : ℕ) (p : Fin 2) (t q : ℕ) : sProp 𝕄 :=
  iprop((sI.view.loc (thr d L) ↦[seg (N := 12288) (6144 * p.val) 6144]{fullShare} chunkC idx u)
    ∗ (sX.view.loc (thr d L) ↦[seg (N := 12288) (6144 * p.val) 6144]{fullShare} chunkC xs u)
    ∗ (sT.view.loc (thr d L) ↦[seg (N := 81280) 0 81216]{fullShare} tabC tab (u / 48))
    ∗ OutS d L PV u p t q)

/-- The set of a load of sixteen places lies in the stretch. -/
theorem acc_sub {N : ℕ} {off : Fin 1 → ℕ} {inb} {lo n : ℕ} (h1 : lo ≤ off 0) (h2 : off 0 + 16 ≤ lo + n) :
    (Rect.unit (s := ⟨1, ![N]⟩) off S16.size inb).set ⊆ (seg lo n : Finset (Shape.Idx ⟨1, ![N]⟩)) := by
  intro i hi
  have := (unit_set (N := N) (m := 16) off inb) ▸ hi
  rw [mem_seg] at *; omega

/-- The chunk at a place of the row `r`. -/
theorem chunkC_at {β : Type} (f : Shape.Idx ⟨1, ![1916928]⟩ → β) {u r n : ℕ} {i : Shape.Idx ⟨1, ![12288]⟩} {p : ℕ} (hr : r < 6) (hn : n < 1024)
    (h : (i 0).val = 6144 * p + 1024 * r + n) : chunkC f u i = rd (N := 1916928) f (inOff u r + n) := by
  unfold chunkC
  have h1 : (i 0).val % 6144 / 1024 = r := by omega
  have h2 : (i 0).val % 1024 = n := by omega
  rw [h1, h2]

variable {d L tab idx xs PV}

theorem ld_i {u : ℕ} {p : Fin 2} {t q : ℕ} (r : ℕ) (hr : r < 6) (ht : t < 64) {off : Fin 1 → ℕ} {inb} {hl}
    (ho : off 0 = 6144 * p.val + 1024 * r + 16 * t)
    {k : (Vec F S16 .i32) → Prog (TpuEff nD τ sig (Elt F) Λ₀ (thr d L).2) α} {Q : α → sProp 𝕄} :
    InnSt d L tab idx xs PV u p t q
      ⊢ iprop((InnSt d L tab idx xs PV u p t q -∗ wp frame (wpE (defs₀ (F := F)) 𝒱₀ (thr d L) none) Set.univ (k (iVec idx u r t)) Q)
          -∗ wp frame (wpE (defs₀ (F := F)) 𝒱₀ (thr d L) none) Set.univ
            (.op (.load sI (Rect.unit (s := S12288) off S16.size inb).toLoadRect hl) k) Q) := by
  unfold InnSt
  iintro ⟨HI, HX, HT, HO⟩ Hk
  iapply (ld d L (m := sI) (off := off) (inb := inb) (w := iVec idx u r t) (f := chunkC idx u)
    (by rw [View.set_slice_whole]; exact acc_sub (by omega) (by omega))
    (by
      funext l
      have hl : (l 0).val < 16 := (l 0).isLt
      exact chunkC_at idx (u := u) (p := p.val) (n := 16 * t + (l 0).val) (i := (Rect.unit (s := S12288) off S16.size inb).emb l) hr (by omega)
        (by rw [unit_emb (N := 12288) (m := 16)]; omega))) $$ HI
  iintro HI
  iapply Hk
  isplitl [HI]; · iexact HI
  isplitl [HX]; · iexact HX
  isplitl [HT]; · iexact HT
  iexact HO

theorem ld_x {u : ℕ} {p : Fin 2} {t q : ℕ} (r : ℕ) (hr : r < 6) (ht : t < 64) {off : Fin 1 → ℕ} {inb} {hl}
    (ho : off 0 = 6144 * p.val + 1024 * r + 16 * t)
    {k : (Vec F S16 .f32) → Prog (TpuEff nD τ sig (Elt F) Λ₀ (thr d L).2) α} {Q : α → sProp 𝕄} :
    InnSt d L tab idx xs PV u p t q
      ⊢ iprop((InnSt d L tab idx xs PV u p t q -∗ wp frame (wpE (defs₀ (F := F)) 𝒱₀ (thr d L) none) Set.univ (k (iVec xs u r t)) Q)
          -∗ wp frame (wpE (defs₀ (F := F)) 𝒱₀ (thr d L) none) Set.univ
            (.op (.load sX (Rect.unit (s := S12288) off S16.size inb).toLoadRect hl) k) Q) := by
  unfold InnSt
  iintro ⟨HI, HX, HT, HO⟩ Hk
  iapply (ld d L (m := sX) (off := off) (inb := inb) (w := iVec xs u r t) (f := chunkC xs u)
    (by rw [View.set_slice_whole]; exact acc_sub (by omega) (by omega))
    (by
      funext l
      have hl : (l 0).val < 16 := (l 0).isLt
      exact chunkC_at xs (u := u) (p := p.val) (n := 16 * t + (l 0).val) (i := (Rect.unit (s := S12288) off S16.size inb).emb l) hr (by omega)
        (by rw [unit_emb (N := 12288) (m := 16)]; omega))) $$ HX
  iintro HX
  iapply Hk
  isplitl [HI]; · iexact HI
  isplitl [HX]; · iexact HX
  isplitl [HT]; · iexact HT
  iexact HO

/-- The result's old lanes are loaded before they are written over; any value will do. -/
theorem ld_o {u : ℕ} {p : Fin 2} {t q : ℕ} (r : ℕ) (hr : r < 9) (ht : t < 64) {off : Fin 1 → ℕ} {inb} {hl}
    (ho : off 0 = 9216 * p.val + 1024 * r + 16 * t)
    {k : (Vec F S16 .f32) → Prog (TpuEff nD τ sig (Elt F) Λ₀ (thr d L).2) α} {Q : α → sProp 𝕄} :
    InnSt d L tab idx xs PV u p t q
      ⊢ iprop((∀ v, InnSt d L tab idx xs PV u p t q -∗ wp frame (wpE (defs₀ (F := F)) 𝒱₀ (thr d L) none) Set.univ (k v) Q)
          -∗ wp frame (wpE (defs₀ (F := F)) 𝒱₀ (thr d L) none) Set.univ
            (.op (.load sO (Rect.unit (s := S18432) off S16.size inb).toLoadRect hl) k) Q) := by
  unfold InnSt OutS
  iintro ⟨HI, HX, HT, ⟨%f, %hf, HO⟩⟩ Hk
  iapply (ld d L (m := sO) (off := off) (inb := inb) (f := f)
    (by rw [View.set_slice_whole]; exact acc_sub (by omega) (by omega)) rfl) $$ HO
  iintro HO
  iapply Hk
  isplitl [HI]; · iexact HI
  isplitl [HX]; · iexact HX
  isplitl [HT]; · iexact HT
  iexists f
  isplitr; · ipureintro; exact hf
  iexact HO

/-- A gather of sixteen words out of the tables. -/
theorem gath {u : ℕ} {p : Fin 2} {t q : ℕ} {c : ℕ} (hc : c + 1504 ≤ 81216) {inb} {hr} {iv : Vec F S16 .i32} {hx} {hl}
    {k : (Vec F S16 .i32) → Prog (TpuEff nD τ sig (Elt F) Λ₀ (thr d L).2) α} {Q : α → sProp 𝕄} :
    InnSt d L tab idx xs PV u p t q
      ⊢ iprop((InnSt d L tab idx xs PV u p t q -∗ wp frame (wpE (defs₀ (F := F)) 𝒱₀ (thr d L) none) Set.univ (k (gv (tabC tab (u / 48)) c iv)) Q)
          -∗ wp frame (wpE (defs₀ (F := F)) 𝒱₀ (thr d L) none) Set.univ
            (SparseCore.vectorLoadIdx (sT.slice (Rect.unit (s := S81280) ![c] S1504.size inb) hr) ![iv] hx hl >>= k) Q) := by
  have hw : loadIdx (((sT.slice (Rect.unit (s := S81280) ![c] S1504.size inb) hr).access (Rect.whole S1504)).read (Elt F) (tabC tab (u / 48))) ![iv] hx
      = gv (tabC tab (u / 48)) c iv := by
    funext l
    have h1 : (iv l).toNat < 1504 := hx 0 l
    unfold gv
    refine Eq.symm (rd_val (N := 81280) (tabC tab (u / 48)) ((Rect.unit (s := S81280) ![c] S1504.size inb).emb ((Rect.whole S1504).emb (idxAt ![iv] hx l))) ?_)
    rw [unit_emb (N := 81280) (m := 1504)]
    show c + (0 + 1 * (iv l).toNat) = _
    omega
  have hS : ((sT.slice (Rect.unit (s := S81280) ![c] S1504.size inb) hr).access (Rect.whole S1504)).set ⊆ (seg (N := 81280) 0 81216) := by
    refine (View.set_slice_subset _ _).trans ?_
    show ((View.whole _).slice _).set ⊆ _
    rw [View.set_slice_whole]
    intro i hi
    have h1 := mem_seg.mp ((Finset.ext_iff.mp (unit_set (N := 81280) (m := 1504) ![c] inb) i).mp hi)
    have e : (![c] : Fin 1 → ℕ) 0 = c := rfl
    rw [e] at h1
    exact mem_seg.mpr ⟨Nat.zero_le _, by omega⟩
  rw [← hw]
  unfold InnSt
  iintro ⟨HI, HX, HT, HO⟩ Hk
  iapply (SparseCore.wp_vectorLoadIdx 𝒱₀ (thr d L) none Set.univ (f := tabC tab (u / 48)) (q := fullShare) (S := seg (N := 81280) 0 81216)
    (base := sT.slice (Rect.unit (s := S81280) ![c] S1504.size inb) hr) (idxs := ![iv]) (h := hx) (hl := hl) (k := k) hS) $$ HT
  iintro HT
  iapply Hk
  isplitl [HI]; · iexact HI
  isplitl [HX]; · iexact HX
  isplitl [HT]; · iexact HT
  iexact HO

theorem outProg_step {u : ℕ} {p : Fin 2} {t q : ℕ} (hq : q < 9) (ht : t < 64) {off : Fin 1 → ℕ} {inb}
    (ho : off 0 = 9216 * p.val + 1024 * q + 16 * t) {f : Vec F S18432 .f32} (hf : OutProg PV u p t q f) :
    OutProg PV u p t (q + 1) ((sO.access (Rect.unit (s := S18432) off S16.size inb)).write (Elt F) f (resV PV u q t) Finset.univ) := by
  intro i h1 h2 h3
  by_cases hi : (i 0).val - 9216 * p.val = 1024 * q + (16 * t + ((i 0).val - (9216 * p.val + 1024 * q + 16 * t))) ∧ (i 0).val < 9216 * p.val + 1024 * q + 16 * t + 16
  · obtain ⟨ha, hb⟩ := hi
    let x : S16.Idx := fun a => ⟨(i 0).val - (9216 * p.val + 1024 * q + 16 * t), by rw [Fin.eq_zero a]; show _ < 16; omega⟩
    have hx : (x 0).val = (i 0).val - (9216 * p.val + 1024 * q + 16 * t) := rfl
    have e : (Rect.unit (s := S18432) off S16.size inb).emb x = i := by
      funext a
      have := Fin.eq_zero a; subst this
      apply Fin.ext
      rw [unit_emb (N := 18432) (m := 16), hx, ho]; omega
    have e2 : (sO.access (Rect.unit (s := S18432) off S16.size inb)).emb x = i := e
    rw [← e2, View.write_emb_of_mem _ _ (Finset.mem_univ x), e2]
    show rd PV (outOff u q + (16 * t + (x 0).val)) = rd PV (outOff u ((i 0).val % 9216 / 1024) + (i 0).val % 1024)
    have hp : p.val < 2 := p.isLt
    have g1 : (i 0).val % 9216 / 1024 = q := by omega
    have g2 : (i 0).val % 1024 = 16 * t + (x 0).val := by rw [hx]; omega
    rw [g1, g2]
  · rw [View.write_of_not_mem]
    · apply hf i h1 h2
      rcases h3 with h3 | ⟨h3, h4⟩
      · exact Or.inl h3
      · by_cases h5 : ((i 0).val - 9216 * p.val) % 1024 < 16 * t
        · exact Or.inl h5
        · refine Or.inr ⟨h3, ?_⟩
          by_contra h6
          apply hi
          omega
    · rw [View.setOn_univ, View.set_slice_whole]
      intro hm
      have := (unit_set (N := 18432) (m := 16) off inb) ▸ hm
      rw [mem_seg] at this
      apply hi; omega

/-- A store of sixteen results. -/
theorem st_o {u : ℕ} {p : Fin 2} {t q : ℕ} (hq : q < 9) (ht : t < 64) {off : Fin 1 → ℕ} {inb : ∀ a, off a + S16.size a ≤ S18432.size a} {v : Vec F S16 .f32} {hx} {hm}
    (ho : off 0 = 9216 * p.val + 1024 * q + 16 * t) (hv : v = resV PV u q t)
    {k : PUnit → Prog (TpuEff nD τ sig (Elt F) Λ₀ (thr d L).2) α} {Q : α → sProp 𝕄} :
    InnSt d L tab idx xs PV u p t q
      ⊢ iprop((InnSt d L tab idx xs PV u p t (q + 1) -∗ wp frame (wpE (defs₀ (F := F)) 𝒱₀ (thr d L) none) Set.univ (k ⟨⟩) Q)
          -∗ wp frame (wpE (defs₀ (F := F)) 𝒱₀ (thr d L) none) Set.univ
            (.op (.store sO (Rect.unit (s := S18432) off S16.size inb) v Finset.univ hx hm) k) Q) := by
  subst hv
  unfold InnSt OutS
  iintro ⟨HI, HX, HT, ⟨%f, %hf, HO⟩⟩ Hk
  iapply (wp_store 𝒱₀ (thr d L) none Set.univ (m := sO) (r := Rect.unit (s := S18432) off S16.size inb) (f := f)
    (S := seg (N := 18432) (9216 * p.val) 9216) (by
      rw [View.setOn_univ, View.set_slice_whole]; exact acc_sub (by omega) (by omega))) $$ HO
  iintro HO
  iapply Hk
  isplitl [HI]; · iexact HI
  isplitl [HX]; · iexact HX
  isplitl [HT]; · iexact HT
  iexists ((sO.access (Rect.unit (s := S18432) off S16.size inb)).write (Elt F) f (resV PV u q t) Finset.univ)
  isplitr; · ipureintro; exact outProg_step hq ht ho hf
  iexact HO

/-- The lanes loaded as indices are indices. -/
theorem iVec_lt (h : ∀ i, (idx i).toNat < 1504) (u r t : ℕ) : ∀ (a : Fin 1) (x : S16.Idx), ((![iVec idx u r t] : Fin 1 → IVec S16 32) a x).toNat < S1504.size a := by
  intro a x
  have := Fin.eq_zero a; subst this
  exact h _

end Mem

end Inner

end Cert.ScKernelIdeal
-- ==== Proof.KernelIdealInnerParts.lean ====
module

public import proofs.«01_k».proof.Proof.KernelIdealInner

@[expose] public section

noncomputable section

/-!
# The parts of the pair loop

What each part of the pair loop loads, gathers and stores, and what it hands on.
-/

namespace Cert.ScKernelIdeal

open Cert.KernelIdeal Cert.KernelIdeal.Gen Cert.FieldTables
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch)

variable {F : FTy → Type} [FloatOps F]

local notation "𝕄" => MT nD τ sig (HIx 1) (Elt F) ℕ UU ℕ

section InnerParts

variable (d : Dev nD) (L : grid0.Coords)
variable (tab : Vec F S6862752 .i32) (idx : Vec F S1916928 .i32) (xs : Vec F S1916928 .f32) (PV : Vec F S36421632 .f32)

theorem chk1_of {v : IVec S16 32} (h : ∀ (a : Fin 1) (x : S16.Idx), ((![v] : Fin 1 → IVec S16 32) a x).toNat < S1504.size a) : k0_chk1 v := by
  unfold k0_chk1; simp only [and_self]; exact h

theorem chk2_of {v : IVec S16 32} (h : ∀ (a : Fin 1) (x : S16.Idx), ((![v] : Fin 1 → IVec S16 32) a x).toNat < S1504.size a) : k0_chk2 v := by
  unfold k0_chk2; simp only [and_self]; exact h

theorem chk3_of {v : IVec S16 32} (h : ∀ (a : Fin 1) (x : S16.Idx), ((![v] : Fin 1 → IVec S16 32) a x).toNat < S1504.size a) : k0_chk3 v := by
  unfold k0_chk3; simp only [and_self]; exact h

theorem chk4_of {v : IVec S16 32} (h : ∀ (a : Fin 1) (x : S16.Idx), ((![v] : Fin 1 → IVec S16 32) a x).toNat < S1504.size a) : k0_chk4 v := by
  unfold k0_chk4; simp only [and_self]; exact h

theorem chk5_of {v : IVec S16 32} (h : ∀ (a : Fin 1) (x : S16.Idx), ((![v] : Fin 1 → IVec S16 32) a x).toNat < S1504.size a) : k0_chk5 v := by
  unfold k0_chk5; simp only [and_self]; exact h

theorem chk6_of {v : IVec S16 32} (h : ∀ (a : Fin 1) (x : S16.Idx), ((![v] : Fin 1 → IVec S16 32) a x).toNat < S1504.size a) : k0_chk6 v := by
  unfold k0_chk6; simp only [and_self]; exact h

set_option maxHeartbeats 4000000 in
/-- A part of the pair loop. -/
theorem part31_spec (k0_t1 : Fin k0_t1_loop.trips) (k0_t2 : Fin k0_t2_loop.trips) {u : ℕ} (hidx : ∀ i, (idx i).toNat < 1504) {v1293 : BitVec 32} {c0_i32_595 : BitVec 32} {c1_i32_596 : BitVec 32}
    {Q : _ → sProp 𝕄} :
    iprop(InnSt d L tab idx xs PV u (par k0_t1.val) k0_t2.val 0) ⊢ iprop(((InnSt d L tab idx xs PV u (par k0_t1.val) k0_t2.val 0) -∗ Q ⟨(Scalar.addi 0#32 (Scalar.muli (Scf.iv c0_i32_595 c1_i32_596 k0_t2) 16#32)), (iVec idx u 0 k0_t2.val), (chk1_of (iVec_lt hidx u 0 k0_t2.val)), (iVec idx u 1 k0_t2.val), (chk5_of (iVec_lt hidx u 1 k0_t2.val)), (iVec idx u 2 k0_t2.val), (chk6_of (iVec_lt hidx u 2 k0_t2.val)), (iVec idx u 3 k0_t2.val), (chk2_of (iVec_lt hidx u 3 k0_t2.val)), (iVec idx u 4 k0_t2.val), (chk3_of (iVec_lt hidx u 4 k0_t2.val)), (iVec idx u 5 k0_t2.val), (chk4_of (iVec_lt hidx u 5 k0_t2.val)), (iVec xs u 0 k0_t2.val), (iVec xs u 1 k0_t2.val), (iVec xs u 2 k0_t2.val)⟩) -∗ wp frame (wpE (defs₀ (F := F)) 𝒱₀ (thr d L) none) Set.univ (k0_part31 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1 v1293 c0_i32_595 c1_i32_596 k0_t2) Q) := by
  rw [k0_part31_eq_skeleton]
  unfold k0_part31_skel
  simp only [Prog.lift, Prog.bind_op, Prog.bind_ret, Prog.pure_eq_ret]
  iintro H Hk
  iapply (ld_i 0 (by decide) (lt_of_lt_of_eq k0_t2.isLt trips2) (show k0_off16 k0_t1 k0_t2 0#32 0 = _ from off16_val k0_t1 k0_t2 0)) $$ H
  iintro H
  rw [wp_assume_of 𝒱₀ (thr d L) none Set.univ (chk1_of (iVec_lt hidx u 0 k0_t2.val))]
  iapply (ld_i 1 (by decide) (lt_of_lt_of_eq k0_t2.isLt trips2) (show k0_off16 k0_t1 k0_t2 1024#32 0 = _ from off16_val k0_t1 k0_t2 1)) $$ H
  iintro H
  rw [wp_assume_of 𝒱₀ (thr d L) none Set.univ (chk5_of (iVec_lt hidx u 1 k0_t2.val))]
  iapply (ld_i 2 (by decide) (lt_of_lt_of_eq k0_t2.isLt trips2) (show k0_off16 k0_t1 k0_t2 2048#32 0 = _ from off16_val k0_t1 k0_t2 2)) $$ H
  iintro H
  rw [wp_assume_of 𝒱₀ (thr d L) none Set.univ (chk6_of (iVec_lt hidx u 2 k0_t2.val))]
  iapply (ld_i 3 (by decide) (lt_of_lt_of_eq k0_t2.isLt trips2) (show k0_off16 k0_t1 k0_t2 3072#32 0 = _ from off16_val k0_t1 k0_t2 3)) $$ H
  iintro H
  rw [wp_assume_of 𝒱₀ (thr d L) none Set.univ (chk2_of (iVec_lt hidx u 3 k0_t2.val))]
  iapply (ld_i 4 (by decide) (lt_of_lt_of_eq k0_t2.isLt trips2) (show k0_off16 k0_t1 k0_t2 4096#32 0 = _ from off16_val k0_t1 k0_t2 4)) $$ H
  iintro H
  rw [wp_assume_of 𝒱₀ (thr d L) none Set.univ (chk3_of (iVec_lt hidx u 4 k0_t2.val))]
  iapply (ld_i 5 (by decide) (lt_of_lt_of_eq k0_t2.isLt trips2) (show k0_off16 k0_t1 k0_t2 5120#32 0 = _ from off16_val k0_t1 k0_t2 5)) $$ H
  iintro H
  rw [wp_assume_of 𝒱₀ (thr d L) none Set.univ (chk4_of (iVec_lt hidx u 5 k0_t2.val))]
  iapply (ld_x 0 (by decide) (lt_of_lt_of_eq k0_t2.isLt trips2) (show k0_off16 k0_t1 k0_t2 0#32 0 = _ from off16_val k0_t1 k0_t2 0)) $$ H
  iintro H
  iapply (ld_x 1 (by decide) (lt_of_lt_of_eq k0_t2.isLt trips2) (show k0_off16 k0_t1 k0_t2 1024#32 0 = _ from off16_val k0_t1 k0_t2 1)) $$ H
  iintro H
  iapply (ld_x 2 (by decide) (lt_of_lt_of_eq k0_t2.isLt trips2) (show k0_off16 k0_t1 k0_t2 2048#32 0 = _ from off16_val k0_t1 k0_t2 2)) $$ H
  iintro H
  iapply (wp_done d L)
  iapply Hk
  iexact H

set_option maxHeartbeats 4000000 in
/-- A part of the pair loop. -/
theorem part32_spec (k0_t1 : Fin k0_t1_loop.trips) (k0_t2 : Fin k0_t2_loop.trips) {u : ℕ} {v1293 : BitVec 32} {v1759 : BitVec 32} {v1763 : Vec F S16 .i32} {k0_hw1 : k0_chk1 v1763} {v1775 : Vec F S16 .i32} {k0_hw2 : k0_chk2 v1775}
    {Q : _ → sProp 𝕄} :
    iprop(InnSt d L tab idx xs PV u (par k0_t1.val) k0_t2.val 0) ⊢ iprop(((InnSt d L tab idx xs PV u (par k0_t1.val) k0_t2.val 0) -∗ Q ⟨(iVec xs u 3 k0_t2.val), (iVec xs u 4 k0_t2.val), (iVec xs u 5 k0_t2.val), k0_pay1 (gv (tabC tab (u / 48)) 0 v1763), k0_pay2 (gv (tabC tab (u / 48)) 0 v1763), k0_pay3 (gv (tabC tab (u / 48)) 0 v1763), k0_pay4 (gv (tabC tab (u / 48)) 0 v1763), (gv (tabC tab (u / 48)) 40608 v1775), k0_pay5 (gv (tabC tab (u / 48)) 40608 v1775), k0_pay6 (gv (tabC tab (u / 48)) 40608 v1775), k0_pay7 (gv (tabC tab (u / 48)) 40608 v1775), 0#32⟩) -∗ wp frame (wpE (defs₀ (F := F)) 𝒱₀ (thr d L) none) Set.univ (k0_part32 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1 v1293 k0_t2 v1759 v1763 k0_hw1 v1775 k0_hw2) Q) := by
  rw [k0_part32_eq_skeleton]
  unfold k0_part32_skel
  simp only [Prog.lift, Prog.bind_op, Prog.bind_ret, Prog.pure_eq_ret]
  iintro H Hk
  iapply (ld_x 3 (by decide) (lt_of_lt_of_eq k0_t2.isLt trips2) (show k0_off16 k0_t1 k0_t2 3072#32 0 = _ from off16_val k0_t1 k0_t2 3)) $$ H
  iintro H
  iapply (ld_x 4 (by decide) (lt_of_lt_of_eq k0_t2.isLt trips2) (show k0_off16 k0_t1 k0_t2 4096#32 0 = _ from off16_val k0_t1 k0_t2 4)) $$ H
  iintro H
  iapply (ld_x 5 (by decide) (lt_of_lt_of_eq k0_t2.isLt trips2) (show k0_off16 k0_t1 k0_t2 5120#32 0 = _ from off16_val k0_t1 k0_t2 5)) $$ H
  iintro H
  iapply (gath (c := 0) (by decide) (hl := View.loads_vmem h_S1504)) $$ H
  iintro H
  iapply (gath (c := 40608) (by decide) (hl := View.loads_vmem h_S1504)) $$ H
  iintro H
  iapply (wp_done d L)
  iapply Hk
  iexact H

set_option maxHeartbeats 4000000 in
/-- A part of the pair loop. -/
theorem part33_spec  {u : ℕ} {p : Fin 2} {t : ℕ} {v1763 : Vec F S16 .i32} {k0_hw1 : k0_chk1 v1763} {v1775 : Vec F S16 .i32} {k0_hw2 : k0_chk2 v1775} {v1813 : IVec S16 32} {v1817 : IVec S16 32} {v1821 : IVec S16 32} {v1825 : IVec S16 32} {v1827 : Vec F S16 .i32} {v1831 : IVec S16 32} {v1835 : IVec S16 32} {v1839 : IVec S16 32} {c0_i32_847 : BitVec 32}
    {Q : _ → sProp 𝕄} :
    iprop(InnSt d L tab idx xs PV u p t 0) ⊢ iprop(((InnSt d L tab idx xs PV u p t 0) -∗ Q ⟨k0_pay8 v1813 v1817 v1831 v1835, k0_pay9 v1821 v1825 v1827 v1839 c0_i32_847, k0_pay10 (gv (tabC tab (u / 48)) 1504 v1763), k0_pay11 (gv (tabC tab (u / 48)) 1504 v1763), k0_pay12 (gv (tabC tab (u / 48)) 1504 v1763), k0_pay13 (gv (tabC tab (u / 48)) 1504 v1763), (gv (tabC tab (u / 48)) 42112 v1775), k0_pay14 (gv (tabC tab (u / 48)) 42112 v1775), 16#32⟩) -∗ wp frame (wpE (defs₀ (F := F)) 𝒱₀ (thr d L) none) Set.univ (k0_part33 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1763 k0_hw1 v1775 k0_hw2 v1813 v1817 v1821 v1825 v1827 v1831 v1835 v1839 c0_i32_847) Q) := by
  rw [k0_part33_eq_skeleton]
  unfold k0_part33_skel
  simp only [Prog.lift, Prog.bind_op, Prog.bind_ret, Prog.pure_eq_ret]
  iintro H Hk
  iapply (gath (c := 1504) (by decide) (hl := View.loads_vmem h_S1504)) $$ H
  iintro H
  iapply (gath (c := 42112) (by decide) (hl := View.loads_vmem h_S1504)) $$ H
  iintro H
  iapply (wp_done d L)
  iapply Hk
  iexact H

set_option maxHeartbeats 4000000 in
/-- A part of the pair loop. -/
theorem part34_spec (k0_t1 : Fin k0_t1_loop.trips) (k0_t2 : Fin k0_t2_loop.trips) {u : ℕ} {v1294 : BitVec 32} {v1759 : BitVec 32} {v1763 : Vec F S16 .i32} {k0_hw1 : k0_chk1 v1763} {v1775 : Vec F S16 .i32} {k0_hw2 : k0_chk2 v1775} {v1787 : Vec F S16 .f32} {v1799 : Vec F S16 .f32} {v1850 : IVec S16 32} {v1857 : IVec S16 32} {v1863 : IVec S16 32} {v1867 : IVec S16 32} {v1871 : IVec S16 32} {v1875 : IVec S16 32} {v1877 : Vec F S16 .i32} {v1881 : IVec S16 32} {c16_i32_863 : BitVec 32}
    {Q : _ → sProp 𝕄} :
    iprop(⌜(k0_pay15 v1787 v1799 v1850 v1857 v1863 v1867 v1871 v1875 v1877 v1881 c16_i32_863 (gv (tabC tab (u / 48)) 3008 v1763) (gv (tabC tab (u / 48)) 43616 v1775)) = resV PV u 0 k0_t2.val⌝ ∗ InnSt d L tab idx xs PV u (par k0_t1.val) k0_t2.val 0) ⊢ iprop(((InnSt d L tab idx xs PV u (par k0_t1.val) k0_t2.val 1) -∗ Q ((gv (tabC tab (u / 48)) 4512 v1763))) -∗ wp frame (wpE (defs₀ (F := F)) 𝒱₀ (thr d L) none) Set.univ (k0_part34 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1 v1294 k0_t2 v1759 v1763 k0_hw1 v1775 k0_hw2 v1787 v1799 v1850 v1857 v1863 v1867 v1871 v1875 v1877 v1881 c16_i32_863) Q) := by
  rw [k0_part34_eq_skeleton]
  unfold k0_part34_skel
  simp only [Prog.lift, Prog.bind_op, Prog.bind_ret, Prog.pure_eq_ret]
  iintro ⟨%hv, H⟩ Hk
  iapply (gath (c := 3008) (by decide) (hl := View.loads_vmem h_S1504)) $$ H
  iintro H
  iapply (gath (c := 43616) (by decide) (hl := View.loads_vmem h_S1504)) $$ H
  iintro H
  iapply (ld_o 0 (by decide) (lt_of_lt_of_eq k0_t2.isLt trips2) (off17_val k0_t1 k0_t2)) $$ H
  iintro %v H
  iapply (st_o (q := 0) (by decide) (lt_of_lt_of_eq k0_t2.isLt trips2) (off17_val k0_t1 k0_t2) hv) $$ H
  iintro H
  iapply (gath (c := 4512) (by decide) (hl := View.loads_vmem h_S1504)) $$ H
  iintro H
  iapply (wp_done d L)
  iapply Hk
  iexact H

set_option maxHeartbeats 4000000 in
/-- A part of the pair loop. -/
theorem part35_spec  {u : ℕ} {p : Fin 2} {t : ℕ} {v1779 : Vec F S16 .i32} {k0_hw3 : k0_chk3 v1779} {v1927 : Vec F S16 .i32}
    {Q : _ → sProp 𝕄} :
    iprop(InnSt d L tab idx xs PV u p t 1) ⊢ iprop(((InnSt d L tab idx xs PV u p t 1) -∗ Q ⟨k0_pay16 v1927, k0_pay17 v1927, k0_pay18 (gv (tabC tab (u / 48)) 45120 v1779), k0_pay19 (gv (tabC tab (u / 48)) 45120 v1779), k0_pay20 v1927 (gv (tabC tab (u / 48)) 45120 v1779)⟩) -∗ wp frame (wpE (defs₀ (F := F)) 𝒱₀ (thr d L) none) Set.univ (k0_part35 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1779 k0_hw3 v1927) Q) := by
  rw [k0_part35_eq_skeleton]
  unfold k0_part35_skel
  simp only [Prog.lift, Prog.bind_op, Prog.bind_ret, Prog.pure_eq_ret]
  iintro H Hk
  iapply (gath (c := 45120) (by decide) (hl := View.loads_vmem h_S1504)) $$ H
  iintro H
  iapply (wp_done d L)
  iapply Hk
  iexact H

set_option maxHeartbeats 4000000 in
/-- A part of the pair loop. -/
theorem part36_spec  {u : ℕ} {p : Fin 2} {t : ℕ} {v1763 : Vec F S16 .i32} {k0_hw1 : k0_chk1 v1763} {v1779 : Vec F S16 .i32} {k0_hw3 : k0_chk3 v1779} {v1939 : IVec S16 32} {v1943 : IVec S16 32} {v1957 : IVec S16 32} {v1961 : IVec S16 32}
    {Q : _ → sProp 𝕄} :
    iprop(InnSt d L tab idx xs PV u p t 1) ⊢ iprop(((InnSt d L tab idx xs PV u p t 1) -∗ Q ⟨k0_pay21 v1939 v1943 v1957 v1961, k0_pay22 (gv (tabC tab (u / 48)) 6016 v1763), k0_pay23 (gv (tabC tab (u / 48)) 6016 v1763), k0_pay24 (gv (tabC tab (u / 48)) 6016 v1763), k0_pay25 (gv (tabC tab (u / 48)) 6016 v1763), k0_pay26 (gv (tabC tab (u / 48)) 46624 v1779), k0_pay27 (gv (tabC tab (u / 48)) 46624 v1779), k0_pay28 (gv (tabC tab (u / 48)) 46624 v1779), k0_pay29 (gv (tabC tab (u / 48)) 46624 v1779)⟩) -∗ wp frame (wpE (defs₀ (F := F)) 𝒱₀ (thr d L) none) Set.univ (k0_part36 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1763 k0_hw1 v1779 k0_hw3 v1939 v1943 v1957 v1961) Q) := by
  rw [k0_part36_eq_skeleton]
  unfold k0_part36_skel
  simp only [Prog.lift, Prog.bind_op, Prog.bind_ret, Prog.pure_eq_ret]
  iintro H Hk
  iapply (gath (c := 6016) (by decide) (hl := View.loads_vmem h_S1504)) $$ H
  iintro H
  iapply (gath (c := 46624) (by decide) (hl := View.loads_vmem h_S1504)) $$ H
  iintro H
  iapply (wp_done d L)
  iapply Hk
  iexact H

set_option maxHeartbeats 4000000 in
/-- A part of the pair loop. -/
theorem part37_spec (k0_t1 : Fin k0_t1_loop.trips) (k0_t2 : Fin k0_t2_loop.trips) {u : ℕ} {v1294 : BitVec 32} {v1759 : BitVec 32} {v1763 : Vec F S16 .i32} {k0_hw1 : k0_chk1 v1763} {v1779 : Vec F S16 .i32} {k0_hw3 : k0_chk3 v1779} {v1787 : Vec F S16 .f32} {v1803 : Vec F S16 .f32} {v1968 : IVec S16 32} {v1975 : IVec S16 32} {v1981 : IVec S16 32} {v1985 : IVec S16 32} {v1989 : IVec S16 32} {v1993 : IVec S16 32} {v1999 : IVec S16 32} {v2003 : IVec S16 32} {v2007 : IVec S16 32} {v2009 : IVec S16 32}
    {Q : _ → sProp 𝕄} :
    iprop(⌜(k0_pay30 v1787 v1803 v1968 v1975 v1981 v1985 v1989 v1993 v1999 v2003 v2007 v2009 (gv (tabC tab (u / 48)) 7520 v1763) (gv (tabC tab (u / 48)) 48128 v1779)) = resV PV u 1 k0_t2.val⌝ ∗ InnSt d L tab idx xs PV u (par k0_t1.val) k0_t2.val 1) ⊢ iprop(((InnSt d L tab idx xs PV u (par k0_t1.val) k0_t2.val 2) -∗ Q ⟨(gv (tabC tab (u / 48)) 9024 v1763), k0_pay31 (gv (tabC tab (u / 48)) 9024 v1763), k0_pay32 (gv (tabC tab (u / 48)) 9024 v1763), k0_pay33⟩) -∗ wp frame (wpE (defs₀ (F := F)) 𝒱₀ (thr d L) none) Set.univ (k0_part37 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1 v1294 k0_t2 v1759 v1763 k0_hw1 v1779 k0_hw3 v1787 v1803 v1968 v1975 v1981 v1985 v1989 v1993 v1999 v2003 v2007 v2009) Q) := by
  rw [k0_part37_eq_skeleton]
  unfold k0_part37_skel
  simp only [Prog.lift, Prog.bind_op, Prog.bind_ret, Prog.pure_eq_ret]
  iintro ⟨%hv, H⟩ Hk
  iapply (gath (c := 7520) (by decide) (hl := View.loads_vmem h_S1504)) $$ H
  iintro H
  iapply (gath (c := 48128) (by decide) (hl := View.loads_vmem h_S1504)) $$ H
  iintro H
  iapply (ld_o 1 (by decide) (lt_of_lt_of_eq k0_t2.isLt trips2) (off18_val k0_t1 k0_t2)) $$ H
  iintro %v H
  iapply (st_o (q := 1) (by decide) (lt_of_lt_of_eq k0_t2.isLt trips2) (off18_val k0_t1 k0_t2) hv) $$ H
  iintro H
  iapply (gath (c := 9024) (by decide) (hl := View.loads_vmem h_S1504)) $$ H
  iintro H
  iapply (wp_done d L)
  iapply Hk
  iexact H

set_option maxHeartbeats 4000000 in
/-- A part of the pair loop. -/
theorem part38_spec  {u : ℕ} {p : Fin 2} {t : ℕ} {v1763 : Vec F S16 .i32} {k0_hw1 : k0_chk1 v1763} {v1783 : Vec F S16 .i32} {k0_hw4 : k0_chk4 v1783} {v2045 : Vec F S16 .i32} {v2049 : IVec S16 32} {v2053 : IVec S16 32} {v2054 : IVec S16 32}
    {Q : _ → sProp 𝕄} :
    iprop(InnSt d L tab idx xs PV u p t 2) ⊢ iprop(((InnSt d L tab idx xs PV u p t 2) -∗ Q ⟨k0_pay34 v2049 v2053 (gv (tabC tab (u / 48)) 49632 v1783), k0_pay35 v2045 v2054 (gv (tabC tab (u / 48)) 49632 v1783), (gv (tabC tab (u / 48)) 10528 v1763), k0_pay36⟩) -∗ wp frame (wpE (defs₀ (F := F)) 𝒱₀ (thr d L) none) Set.univ (k0_part38 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1763 k0_hw1 v1783 k0_hw4 v2045 v2049 v2053 v2054) Q) := by
  rw [k0_part38_eq_skeleton]
  unfold k0_part38_skel
  simp only [Prog.lift, Prog.bind_op, Prog.bind_ret, Prog.pure_eq_ret]
  iintro H Hk
  iapply (gath (c := 49632) (by decide) (hl := View.loads_vmem h_S1504)) $$ H
  iintro H
  iapply (gath (c := 10528) (by decide) (hl := View.loads_vmem h_S1504)) $$ H
  iintro H
  iapply (wp_done d L)
  iapply Hk
  iexact H

set_option maxHeartbeats 4000000 in
/-- A part of the pair loop. -/
theorem part39_spec  {u : ℕ} {p : Fin 2} {t : ℕ} {v1783 : Vec F S16 .i32} {k0_hw4 : k0_chk4 v1783} {v2095 : Vec F S16 .i32} {v2096 : IVec S16 32}
    {Q : _ → sProp 𝕄} :
    iprop(InnSt d L tab idx xs PV u p t 2) ⊢ iprop(((InnSt d L tab idx xs PV u p t 2) -∗ Q ⟨k0_pay37 v2095 v2096 (gv (tabC tab (u / 48)) 51136 v1783), k0_pay38 v2095 (gv (tabC tab (u / 48)) 51136 v1783), k0_pay39 v2095 (gv (tabC tab (u / 48)) 51136 v1783)⟩) -∗ wp frame (wpE (defs₀ (F := F)) 𝒱₀ (thr d L) none) Set.univ (k0_part39 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1783 k0_hw4 v2095 v2096) Q) := by
  rw [k0_part39_eq_skeleton]
  unfold k0_part39_skel
  simp only [Prog.lift, Prog.bind_op, Prog.bind_ret, Prog.pure_eq_ret]
  iintro H Hk
  iapply (gath (c := 51136) (by decide) (hl := View.loads_vmem h_S1504)) $$ H
  iintro H
  iapply (wp_done d L)
  iapply Hk
  iexact H

set_option maxHeartbeats 4000000 in
/-- A part of the pair loop. -/
theorem part40_spec (k0_t1 : Fin k0_t1_loop.trips) (k0_t2 : Fin k0_t2_loop.trips) {u : ℕ} {v1294 : BitVec 32} {v1759 : BitVec 32} {v1763 : Vec F S16 .i32} {k0_hw1 : k0_chk1 v1763} {v1767 : Vec F S16 .i32} {k0_hw5 : k0_chk5 v1767} {v1775 : Vec F S16 .i32} {k0_hw2 : k0_chk2 v1775} {v1783 : Vec F S16 .i32} {k0_hw4 : k0_chk4 v1783} {v1787 : Vec F S16 .f32} {v1807 : Vec F S16 .f32} {v2086 : IVec S16 32} {v2093 : IVec S16 32} {v2136 : IVec S16 32} {v2137 : IVec S16 32} {v2138 : IVec S16 32}
    {Q : _ → sProp 𝕄} :
    iprop(⌜(k0_pay40 v1787 v1807 v2086 v2093 v2136 v2137 v2138 (gv (tabC tab (u / 48)) 12032 v1763) (gv (tabC tab (u / 48)) 52640 v1783)) = resV PV u 2 k0_t2.val⌝ ∗ InnSt d L tab idx xs PV u (par k0_t1.val) k0_t2.val 2) ⊢ iprop(((InnSt d L tab idx xs PV u (par k0_t1.val) k0_t2.val 3) -∗ Q ⟨k0_pay41 (gv (tabC tab (u / 48)) 13536 v1767), k0_pay42 (gv (tabC tab (u / 48)) 13536 v1767), k0_pay43 (gv (tabC tab (u / 48)) 13536 v1767), k0_pay44 (gv (tabC tab (u / 48)) 13536 v1767), (gv (tabC tab (u / 48)) 54144 v1775), 24#32⟩) -∗ wp frame (wpE (defs₀ (F := F)) 𝒱₀ (thr d L) none) Set.univ (k0_part40 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1 v1294 k0_t2 v1759 v1763 k0_hw1 v1767 k0_hw5 v1775 k0_hw2 v1783 k0_hw4 v1787 v1807 v2086 v2093 v2136 v2137 v2138) Q) := by
  rw [k0_part40_eq_skeleton]
  unfold k0_part40_skel
  simp only [Prog.lift, Prog.bind_op, Prog.bind_ret, Prog.pure_eq_ret]
  iintro ⟨%hv, H⟩ Hk
  iapply (gath (c := 12032) (by decide) (hl := View.loads_vmem h_S1504)) $$ H
  iintro H
  iapply (gath (c := 52640) (by decide) (hl := View.loads_vmem h_S1504)) $$ H
  iintro H
  iapply (ld_o 2 (by decide) (lt_of_lt_of_eq k0_t2.isLt trips2) (off19_val k0_t1 k0_t2)) $$ H
  iintro %v H
  iapply (st_o (q := 2) (by decide) (lt_of_lt_of_eq k0_t2.isLt trips2) (off19_val k0_t1 k0_t2) hv) $$ H
  iintro H
  iapply (gath (c := 13536) (by decide) (hl := View.loads_vmem h_S1504)) $$ H
  iintro H
  iapply (gath (c := 54144) (by decide) (hl := View.loads_vmem h_S1504)) $$ H
  iintro H
  iapply (wp_done d L)
  iapply Hk
  iexact H

set_option maxHeartbeats 4000000 in
/-- A part of the pair loop. -/
theorem part41_spec  {u : ℕ} {p : Fin 2} {t : ℕ} {v1767 : Vec F S16 .i32} {k0_hw5 : k0_chk5 v1767} {v2167 : IVec S16 32} {v2171 : IVec S16 32} {v2175 : IVec S16 32} {v2179 : IVec S16 32} {v2181 : Vec F S16 .i32} {c24_i32_964 : BitVec 32}
    {Q : _ → sProp 𝕄} :
    iprop(InnSt d L tab idx xs PV u p t 3) ⊢ iprop(((InnSt d L tab idx xs PV u p t 3) -∗ Q ⟨k0_pay45 v2167 v2171 v2181 c24_i32_964, k0_pay46 v2175 v2179 v2181, (gv (tabC tab (u / 48)) 15040 v1767), k0_pay47 (gv (tabC tab (u / 48)) 15040 v1767), k0_pay48 (gv (tabC tab (u / 48)) 15040 v1767), k0_pay49 (gv (tabC tab (u / 48)) 15040 v1767), 24#32⟩) -∗ wp frame (wpE (defs₀ (F := F)) 𝒱₀ (thr d L) none) Set.univ (k0_part41 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1767 k0_hw5 v2167 v2171 v2175 v2179 v2181 c24_i32_964) Q) := by
  rw [k0_part41_eq_skeleton]
  unfold k0_part41_skel
  simp only [Prog.lift, Prog.bind_op, Prog.bind_ret, Prog.pure_eq_ret]
  iintro H Hk
  iapply (gath (c := 15040) (by decide) (hl := View.loads_vmem h_S1504)) $$ H
  iintro H
  iapply (wp_done d L)
  iapply Hk
  iexact H

set_option maxHeartbeats 4000000 in
/-- A part of the pair loop. -/
theorem part42_spec  {u : ℕ} {p : Fin 2} {t : ℕ} {v1767 : Vec F S16 .i32} {k0_hw5 : k0_chk5 v1767} {v1775 : Vec F S16 .i32} {k0_hw2 : k0_chk2 v1775} {v2204 : IVec S16 32} {v2211 : IVec S16 32} {v2213 : Vec F S16 .i32} {v2217 : IVec S16 32} {v2221 : IVec S16 32} {v2223 : IVec S16 32} {c24_i32_981 : BitVec 32}
    {Q : _ → sProp 𝕄} :
    iprop(InnSt d L tab idx xs PV u p t 3) ⊢ iprop(((InnSt d L tab idx xs PV u p t 3) -∗ Q ⟨k0_pay50 v2204 v2211 v2213 v2217 v2221 v2223 c24_i32_981 (gv (tabC tab (u / 48)) 55648 v1775), (gv (tabC tab (u / 48)) 16544 v1767)⟩) -∗ wp frame (wpE (defs₀ (F := F)) 𝒱₀ (thr d L) none) Set.univ (k0_part42 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1767 k0_hw5 v1775 k0_hw2 v2204 v2211 v2213 v2217 v2221 v2223 c24_i32_981) Q) := by
  rw [k0_part42_eq_skeleton]
  unfold k0_part42_skel
  simp only [Prog.lift, Prog.bind_op, Prog.bind_ret, Prog.pure_eq_ret]
  iintro H Hk
  iapply (gath (c := 55648) (by decide) (hl := View.loads_vmem h_S1504)) $$ H
  iintro H
  iapply (gath (c := 16544) (by decide) (hl := View.loads_vmem h_S1504)) $$ H
  iintro H
  iapply (wp_done d L)
  iapply Hk
  iexact H

set_option maxHeartbeats 4000000 in
/-- A part of the pair loop. -/
theorem part43_spec (k0_t1 : Fin k0_t1_loop.trips) (k0_t2 : Fin k0_t2_loop.trips) {u : ℕ} {v1294 : BitVec 32} {v1759 : BitVec 32} {v1767 : Vec F S16 .i32} {k0_hw5 : k0_chk5 v1767} {v1775 : Vec F S16 .i32} {k0_hw2 : k0_chk2 v1775} {v1779 : Vec F S16 .i32} {k0_hw3 : k0_chk3 v1779} {v1791 : Vec F S16 .f32} {v1799 : Vec F S16 .f32} {v2265 : FVec F S16 .f32} {v2267 : Vec F S16 .i32}
    {Q : _ → sProp 𝕄} :
    iprop(⌜(k0_pay51 v1791 v1799 v2265 v2267 (gv (tabC tab (u / 48)) 57152 v1775)) = resV PV u 3 k0_t2.val⌝ ∗ InnSt d L tab idx xs PV u (par k0_t1.val) k0_t2.val 3) ⊢ iprop(((InnSt d L tab idx xs PV u (par k0_t1.val) k0_t2.val 4) -∗ Q ⟨k0_pay52 (gv (tabC tab (u / 48)) 18048 v1767), k0_pay53 (gv (tabC tab (u / 48)) 18048 v1767), k0_pay54 (gv (tabC tab (u / 48)) 18048 v1767), k0_pay55 (gv (tabC tab (u / 48)) 18048 v1767), (gv (tabC tab (u / 48)) 58656 v1779), k0_pay56 (gv (tabC tab (u / 48)) 58656 v1779), k0_pay57 (gv (tabC tab (u / 48)) 58656 v1779), k0_pay58 (gv (tabC tab (u / 48)) 58656 v1779)⟩) -∗ wp frame (wpE (defs₀ (F := F)) 𝒱₀ (thr d L) none) Set.univ (k0_part43 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1 v1294 k0_t2 v1759 v1767 k0_hw5 v1775 k0_hw2 v1779 k0_hw3 v1791 v1799 v2265 v2267) Q) := by
  rw [k0_part43_eq_skeleton]
  unfold k0_part43_skel
  simp only [Prog.lift, Prog.bind_op, Prog.bind_ret, Prog.pure_eq_ret]
  iintro ⟨%hv, H⟩ Hk
  iapply (gath (c := 57152) (by decide) (hl := View.loads_vmem h_S1504)) $$ H
  iintro H
  iapply (ld_o 3 (by decide) (lt_of_lt_of_eq k0_t2.isLt trips2) (show k0_off20 k0_t1 k0_t2 3072#32 0 = _ from off20_val k0_t1 k0_t2 0)) $$ H
  iintro %v H
  iapply (st_o (q := 3) (by decide) (lt_of_lt_of_eq k0_t2.isLt trips2) (show k0_off20 k0_t1 k0_t2 3072#32 0 = _ from off20_val k0_t1 k0_t2 0) hv) $$ H
  iintro H
  iapply (gath (c := 18048) (by decide) (hl := View.loads_vmem h_S1504)) $$ H
  iintro H
  iapply (gath (c := 58656) (by decide) (hl := View.loads_vmem h_S1504)) $$ H
  iintro H
  iapply (wp_done d L)
  iapply Hk
  iexact H

set_option maxHeartbeats 4000000 in
/-- A part of the pair loop. -/
theorem part44_spec  {u : ℕ} {p : Fin 2} {t : ℕ} {v1767 : Vec F S16 .i32} {k0_hw5 : k0_chk5 v1767} {v1779 : Vec F S16 .i32} {k0_hw3 : k0_chk3 v1779} {v2285 : IVec S16 32} {v2289 : IVec S16 32} {v2293 : IVec S16 32} {v2297 : IVec S16 32} {v2299 : Vec F S16 .i32} {v2303 : IVec S16 32} {v2307 : IVec S16 32} {v2309 : IVec S16 32}
    {Q : _ → sProp 𝕄} :
    iprop(InnSt d L tab idx xs PV u p t 4) ⊢ iprop(((InnSt d L tab idx xs PV u p t 4) -∗ Q ⟨k0_pay59 v2285 v2289 v2303 v2307, k0_pay60 v2293 v2297 v2299 v2309, k0_pay61 (gv (tabC tab (u / 48)) 19552 v1767), k0_pay62 (gv (tabC tab (u / 48)) 19552 v1767), k0_pay63 (gv (tabC tab (u / 48)) 19552 v1767), k0_pay64 (gv (tabC tab (u / 48)) 19552 v1767), (gv (tabC tab (u / 48)) 60160 v1779), k0_pay65 (gv (tabC tab (u / 48)) 60160 v1779)⟩) -∗ wp frame (wpE (defs₀ (F := F)) 𝒱₀ (thr d L) none) Set.univ (k0_part44 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1767 k0_hw5 v1779 k0_hw3 v2285 v2289 v2293 v2297 v2299 v2303 v2307 v2309) Q) := by
  rw [k0_part44_eq_skeleton]
  unfold k0_part44_skel
  simp only [Prog.lift, Prog.bind_op, Prog.bind_ret, Prog.pure_eq_ret]
  iintro H Hk
  iapply (gath (c := 19552) (by decide) (hl := View.loads_vmem h_S1504)) $$ H
  iintro H
  iapply (gath (c := 60160) (by decide) (hl := View.loads_vmem h_S1504)) $$ H
  iintro H
  iapply (wp_done d L)
  iapply Hk
  iexact H

set_option maxHeartbeats 4000000 in
/-- A part of the pair loop. -/
theorem part45_spec (k0_t1 : Fin k0_t1_loop.trips) (k0_t2 : Fin k0_t2_loop.trips) {u : ℕ} {v1294 : BitVec 32} {v1759 : BitVec 32} {v1767 : Vec F S16 .i32} {k0_hw5 : k0_chk5 v1767} {v1779 : Vec F S16 .i32} {k0_hw3 : k0_chk3 v1779} {v1791 : Vec F S16 .f32} {v1803 : Vec F S16 .f32} {v2322 : IVec S16 32} {v2329 : IVec S16 32} {v2335 : IVec S16 32} {v2339 : IVec S16 32} {v2343 : IVec S16 32} {v2347 : IVec S16 32} {v2349 : Vec F S16 .i32} {v2351 : IVec S16 32}
    {Q : _ → sProp 𝕄} :
    iprop(InnSt d L tab idx xs PV u (par k0_t1.val) k0_t2.val 4) ⊢ iprop(((InnSt d L tab idx xs PV u (par k0_t1.val) k0_t2.val 4) -∗ Q ((k0_pay66 v1791 v1803 v2322 v2329 v2335 v2339 v2343 v2347 v2349 v2351 (gv (tabC tab (u / 48)) 21056 v1767) (gv (tabC tab (u / 48)) 61664 v1779)))) -∗ wp frame (wpE (defs₀ (F := F)) 𝒱₀ (thr d L) none) Set.univ (k0_part45 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1 v1294 k0_t2 v1759 v1767 k0_hw5 v1779 k0_hw3 v1791 v1803 v2322 v2329 v2335 v2339 v2343 v2347 v2349 v2351) Q) := by
  rw [k0_part45_eq_skeleton]
  unfold k0_part45_skel
  simp only [Prog.lift, Prog.bind_op, Prog.bind_ret, Prog.pure_eq_ret]
  iintro H Hk
  iapply (gath (c := 21056) (by decide) (hl := View.loads_vmem h_S1504)) $$ H
  iintro H
  iapply (gath (c := 61664) (by decide) (hl := View.loads_vmem h_S1504)) $$ H
  iintro H
  iapply (ld_o 4 (by decide) (lt_of_lt_of_eq k0_t2.isLt trips2) (show k0_off20 k0_t1 k0_t2 4096#32 0 = _ from off20_val k0_t1 k0_t2 1)) $$ H
  iintro %v H
  iapply (wp_done d L)
  iapply Hk
  iexact H

set_option maxHeartbeats 4000000 in
/-- A part of the pair loop. -/
theorem part46_spec (k0_t1 : Fin k0_t1_loop.trips) (k0_t2 : Fin k0_t2_loop.trips) {u : ℕ} {v1767 : Vec F S16 .i32} {k0_hw5 : k0_chk5 v1767} {v1783 : Vec F S16 .i32} {k0_hw4 : k0_chk4 v1783} {v2393 : FVec F S16 .f32}
    {Q : _ → sProp 𝕄} :
    iprop(⌜v2393 = resV PV u 4 k0_t2.val⌝ ∗ InnSt d L tab idx xs PV u (par k0_t1.val) k0_t2.val 4) ⊢ iprop(((InnSt d L tab idx xs PV u (par k0_t1.val) k0_t2.val 5) -∗ Q ⟨k0_pay67 (gv (tabC tab (u / 48)) 22560 v1767), k0_pay68 (gv (tabC tab (u / 48)) 22560 v1767), k0_pay69 (gv (tabC tab (u / 48)) 63168 v1783), k0_pay70 (gv (tabC tab (u / 48)) 63168 v1783), k0_pay71 (gv (tabC tab (u / 48)) 22560 v1767) (gv (tabC tab (u / 48)) 63168 v1783), k0_pay72⟩) -∗ wp frame (wpE (defs₀ (F := F)) 𝒱₀ (thr d L) none) Set.univ (k0_part46 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1 k0_t2 v1767 k0_hw5 v1783 k0_hw4 v2393) Q) := by
  rw [k0_part46_eq_skeleton]
  unfold k0_part46_skel
  simp only [Prog.lift, Prog.bind_op, Prog.bind_ret, Prog.pure_eq_ret]
  iintro ⟨%hv, H⟩ Hk
  iapply (st_o (q := 4) (by decide) (lt_of_lt_of_eq k0_t2.isLt trips2) (show k0_off20 k0_t1 k0_t2 4096#32 0 = _ from off20_val k0_t1 k0_t2 1) hv) $$ H
  iintro H
  iapply (gath (c := 22560) (by decide) (hl := View.loads_vmem h_S1504)) $$ H
  iintro H
  iapply (gath (c := 63168) (by decide) (hl := View.loads_vmem h_S1504)) $$ H
  iintro H
  iapply (wp_done d L)
  iapply Hk
  iexact H

set_option maxHeartbeats 4000000 in
/-- A part of the pair loop. -/
theorem part47_spec  {u : ℕ} {p : Fin 2} {t : ℕ} {v1767 : Vec F S16 .i32} {k0_hw5 : k0_chk5 v1767} {v1783 : Vec F S16 .i32} {k0_hw4 : k0_chk4 v1783} {v2411 : IVec S16 32} {v2415 : IVec S16 32} {v2429 : IVec S16 32} {v2433 : IVec S16 32} {v2436 : IVec S16 32} {v2437 : IVec S16 32}
    {Q : _ → sProp 𝕄} :
    iprop(InnSt d L tab idx xs PV u p t 5) ⊢ iprop(((InnSt d L tab idx xs PV u p t 5) -∗ Q ⟨k0_pay73 v2436 v2437, k0_pay74 v2411 v2415 v2429 v2433, k0_pay75 (gv (tabC tab (u / 48)) 24064 v1767), k0_pay76 (gv (tabC tab (u / 48)) 24064 v1767), k0_pay77 (gv (tabC tab (u / 48)) 24064 v1767), k0_pay78 (gv (tabC tab (u / 48)) 24064 v1767), (gv (tabC tab (u / 48)) 64672 v1783), k0_pay79 (gv (tabC tab (u / 48)) 64672 v1783), k0_pay80 (gv (tabC tab (u / 48)) 64672 v1783), k0_pay81 (gv (tabC tab (u / 48)) 64672 v1783), k0_pay82⟩) -∗ wp frame (wpE (defs₀ (F := F)) 𝒱₀ (thr d L) none) Set.univ (k0_part47 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1767 k0_hw5 v1783 k0_hw4 v2411 v2415 v2429 v2433 v2436 v2437) Q) := by
  rw [k0_part47_eq_skeleton]
  unfold k0_part47_skel
  simp only [Prog.lift, Prog.bind_op, Prog.bind_ret, Prog.pure_eq_ret]
  iintro H Hk
  iapply (gath (c := 24064) (by decide) (hl := View.loads_vmem h_S1504)) $$ H
  iintro H
  iapply (gath (c := 64672) (by decide) (hl := View.loads_vmem h_S1504)) $$ H
  iintro H
  iapply (wp_done d L)
  iapply Hk
  iexact H

set_option maxHeartbeats 4000000 in
/-- A part of the pair loop. -/
theorem part48_spec (k0_t1 : Fin k0_t1_loop.trips) (k0_t2 : Fin k0_t2_loop.trips) {u : ℕ} {v1294 : BitVec 32} {v1759 : BitVec 32} {v1767 : Vec F S16 .i32} {k0_hw5 : k0_chk5 v1767} {v1771 : Vec F S16 .i32} {k0_hw6 : k0_chk6 v1771} {v1783 : Vec F S16 .i32} {k0_hw4 : k0_chk4 v1783} {v1791 : Vec F S16 .f32} {v1807 : Vec F S16 .f32} {v2440 : IVec S16 32} {v2447 : IVec S16 32} {v2453 : IVec S16 32} {v2457 : IVec S16 32} {v2461 : IVec S16 32} {v2465 : IVec S16 32} {v2467 : Vec F S16 .i32} {v2471 : IVec S16 32} {v2475 : IVec S16 32} {v2477 : IVec S16 32} {v2478 : IVec S16 32}
    {Q : _ → sProp 𝕄} :
    iprop(⌜(k0_pay83 v1791 v1807 v2440 v2447 v2453 v2457 v2461 v2465 v2467 v2471 v2475 v2477 v2478 (gv (tabC tab (u / 48)) 25568 v1767) (gv (tabC tab (u / 48)) 66176 v1783)) = resV PV u 5 k0_t2.val⌝ ∗ InnSt d L tab idx xs PV u (par k0_t1.val) k0_t2.val 5) ⊢ iprop(((InnSt d L tab idx xs PV u (par k0_t1.val) k0_t2.val 6) -∗ Q ⟨(gv (tabC tab (u / 48)) 27072 v1771), k0_pay84 (gv (tabC tab (u / 48)) 27072 v1771), k0_pay85 (gv (tabC tab (u / 48)) 27072 v1771), 24#32⟩) -∗ wp frame (wpE (defs₀ (F := F)) 𝒱₀ (thr d L) none) Set.univ (k0_part48 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1 v1294 k0_t2 v1759 v1767 k0_hw5 v1771 k0_hw6 v1783 k0_hw4 v1791 v1807 v2440 v2447 v2453 v2457 v2461 v2465 v2467 v2471 v2475 v2477 v2478) Q) := by
  rw [k0_part48_eq_skeleton]
  unfold k0_part48_skel
  simp only [Prog.lift, Prog.bind_op, Prog.bind_ret, Prog.pure_eq_ret]
  iintro ⟨%hv, H⟩ Hk
  iapply (gath (c := 25568) (by decide) (hl := View.loads_vmem h_S1504)) $$ H
  iintro H
  iapply (gath (c := 66176) (by decide) (hl := View.loads_vmem h_S1504)) $$ H
  iintro H
  iapply (ld_o 5 (by decide) (lt_of_lt_of_eq k0_t2.isLt trips2) (show k0_off20 k0_t1 k0_t2 5120#32 0 = _ from off20_val k0_t1 k0_t2 2)) $$ H
  iintro %v H
  iapply (st_o (q := 5) (by decide) (lt_of_lt_of_eq k0_t2.isLt trips2) (show k0_off20 k0_t1 k0_t2 5120#32 0 = _ from off20_val k0_t1 k0_t2 2) hv) $$ H
  iintro H
  iapply (gath (c := 27072) (by decide) (hl := View.loads_vmem h_S1504)) $$ H
  iintro H
  iapply (wp_done d L)
  iapply Hk
  iexact H

set_option maxHeartbeats 4000000 in
/-- A part of the pair loop. -/
theorem part49_spec  {u : ℕ} {p : Fin 2} {t : ℕ} {v1775 : Vec F S16 .i32} {k0_hw2 : k0_chk2 v1775} {v2517 : Vec F S16 .i32} {v2521 : IVec S16 32} {v2523 : IVec S16 32} {c24_i32_1082 : BitVec 32}
    {Q : _ → sProp 𝕄} :
    iprop(InnSt d L tab idx xs PV u p t 6) ⊢ iprop(((InnSt d L tab idx xs PV u p t 6) -∗ Q ⟨k0_pay86 v2521 v2523 c24_i32_1082 (gv (tabC tab (u / 48)) 67680 v1775), k0_pay87 v2517 (gv (tabC tab (u / 48)) 67680 v1775)⟩) -∗ wp frame (wpE (defs₀ (F := F)) 𝒱₀ (thr d L) none) Set.univ (k0_part49 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1775 k0_hw2 v2517 v2521 v2523 c24_i32_1082) Q) := by
  rw [k0_part49_eq_skeleton]
  unfold k0_part49_skel
  simp only [Prog.lift, Prog.bind_op, Prog.bind_ret, Prog.pure_eq_ret]
  iintro H Hk
  iapply (gath (c := 67680) (by decide) (hl := View.loads_vmem h_S1504)) $$ H
  iintro H
  iapply (wp_done d L)
  iapply Hk
  iexact H

set_option maxHeartbeats 4000000 in
/-- A part of the pair loop. -/
theorem part50_spec  {u : ℕ} {p : Fin 2} {t : ℕ} {v1771 : Vec F S16 .i32} {k0_hw6 : k0_chk6 v1771} {v1775 : Vec F S16 .i32} {k0_hw2 : k0_chk2 v1775}
    {Q : _ → sProp 𝕄} :
    iprop(InnSt d L tab idx xs PV u p t 6) ⊢ iprop(((InnSt d L tab idx xs PV u p t 6) -∗ Q ⟨k0_pay88 (gv (tabC tab (u / 48)) 28576 v1771), k0_pay89 (gv (tabC tab (u / 48)) 28576 v1771), k0_pay90 (gv (tabC tab (u / 48)) 69184 v1775), k0_pay91 (gv (tabC tab (u / 48)) 69184 v1775), k0_pay92 (gv (tabC tab (u / 48)) 28576 v1771) (gv (tabC tab (u / 48)) 69184 v1775), 16#32⟩) -∗ wp frame (wpE (defs₀ (F := F)) 𝒱₀ (thr d L) none) Set.univ (k0_part50 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1771 k0_hw6 v1775 k0_hw2) Q) := by
  rw [k0_part50_eq_skeleton]
  unfold k0_part50_skel
  simp only [Prog.lift, Prog.bind_op, Prog.bind_ret, Prog.pure_eq_ret]
  iintro H Hk
  iapply (gath (c := 28576) (by decide) (hl := View.loads_vmem h_S1504)) $$ H
  iintro H
  iapply (gath (c := 69184) (by decide) (hl := View.loads_vmem h_S1504)) $$ H
  iintro H
  iapply (wp_done d L)
  iapply Hk
  iexact H

set_option maxHeartbeats 4000000 in
/-- A part of the pair loop. -/
theorem part51_spec (k0_t1 : Fin k0_t1_loop.trips) (k0_t2 : Fin k0_t2_loop.trips) {u : ℕ} {v1294 : BitVec 32} {v1759 : BitVec 32} {v1771 : Vec F S16 .i32} {k0_hw6 : k0_chk6 v1771} {v1775 : Vec F S16 .i32} {k0_hw2 : k0_chk2 v1775} {v1795 : Vec F S16 .f32} {v1799 : Vec F S16 .f32} {v2558 : IVec S16 32} {v2565 : IVec S16 32} {v2579 : IVec S16 32} {v2583 : IVec S16 32} {v2597 : IVec S16 32} {v2601 : IVec S16 32} {v2606 : IVec S16 32} {c16_i32_1116 : BitVec 32}
    {Q : _ → sProp 𝕄} :
    iprop(⌜(k0_pay93 v1795 v1799 v2558 v2565 v2579 v2583 v2597 v2601 v2606 c16_i32_1116 (gv (tabC tab (u / 48)) 30080 v1771) (gv (tabC tab (u / 48)) 70688 v1775)) = resV PV u 6 k0_t2.val⌝ ∗ InnSt d L tab idx xs PV u (par k0_t1.val) k0_t2.val 6) ⊢ iprop(((InnSt d L tab idx xs PV u (par k0_t1.val) k0_t2.val 7) -∗ Q ⟨k0_pay94 (gv (tabC tab (u / 48)) 31584 v1771), k0_pay95 (gv (tabC tab (u / 48)) 31584 v1771), k0_pay96 (gv (tabC tab (u / 48)) 31584 v1771), k0_pay97 (gv (tabC tab (u / 48)) 31584 v1771)⟩) -∗ wp frame (wpE (defs₀ (F := F)) 𝒱₀ (thr d L) none) Set.univ (k0_part51 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1 v1294 k0_t2 v1759 v1771 k0_hw6 v1775 k0_hw2 v1795 v1799 v2558 v2565 v2579 v2583 v2597 v2601 v2606 c16_i32_1116) Q) := by
  rw [k0_part51_eq_skeleton]
  unfold k0_part51_skel
  simp only [Prog.lift, Prog.bind_op, Prog.bind_ret, Prog.pure_eq_ret]
  iintro ⟨%hv, H⟩ Hk
  iapply (gath (c := 30080) (by decide) (hl := View.loads_vmem h_S1504)) $$ H
  iintro H
  iapply (gath (c := 70688) (by decide) (hl := View.loads_vmem h_S1504)) $$ H
  iintro H
  iapply (ld_o 6 (by decide) (lt_of_lt_of_eq k0_t2.isLt trips2) (show k0_off21 k0_t1 k0_t2 6144#32 0 = _ from off21_val k0_t1 k0_t2 0)) $$ H
  iintro %v H
  iapply (st_o (q := 6) (by decide) (lt_of_lt_of_eq k0_t2.isLt trips2) (show k0_off21 k0_t1 k0_t2 6144#32 0 = _ from off21_val k0_t1 k0_t2 0) hv) $$ H
  iintro H
  iapply (gath (c := 31584) (by decide) (hl := View.loads_vmem h_S1504)) $$ H
  iintro H
  iapply (wp_done d L)
  iapply Hk
  iexact H

set_option maxHeartbeats 4000000 in
/-- A part of the pair loop. -/
theorem part52_spec  {u : ℕ} {p : Fin 2} {t : ℕ} {v1771 : Vec F S16 .i32} {k0_hw6 : k0_chk6 v1771} {v1779 : Vec F S16 .i32} {k0_hw3 : k0_chk3 v1779} {v2639 : IVec S16 32} {v2643 : IVec S16 32} {v2647 : IVec S16 32} {v2651 : IVec S16 32}
    {Q : _ → sProp 𝕄} :
    iprop(InnSt d L tab idx xs PV u p t 7) ⊢ iprop(((InnSt d L tab idx xs PV u p t 7) -∗ Q ⟨k0_pay98 v2639 v2643 (gv (tabC tab (u / 48)) 72192 v1779), k0_pay99 v2647 v2651 (gv (tabC tab (u / 48)) 72192 v1779), (gv (tabC tab (u / 48)) 33088 v1771), k0_pay100 (gv (tabC tab (u / 48)) 33088 v1771), k0_pay101 (gv (tabC tab (u / 48)) 33088 v1771)⟩) -∗ wp frame (wpE (defs₀ (F := F)) 𝒱₀ (thr d L) none) Set.univ (k0_part52 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1771 k0_hw6 v1779 k0_hw3 v2639 v2643 v2647 v2651) Q) := by
  rw [k0_part52_eq_skeleton]
  unfold k0_part52_skel
  simp only [Prog.lift, Prog.bind_op, Prog.bind_ret, Prog.pure_eq_ret]
  iintro H Hk
  iapply (gath (c := 72192) (by decide) (hl := View.loads_vmem h_S1504)) $$ H
  iintro H
  iapply (gath (c := 33088) (by decide) (hl := View.loads_vmem h_S1504)) $$ H
  iintro H
  iapply (wp_done d L)
  iapply Hk
  iexact H

set_option maxHeartbeats 4000000 in
/-- A part of the pair loop. -/
theorem part53_spec  {u : ℕ} {p : Fin 2} {t : ℕ} {v1779 : Vec F S16 .i32} {k0_hw3 : k0_chk3 v1779} {v2676 : IVec S16 32} {v2683 : IVec S16 32} {v2685 : Vec F S16 .i32} {v2689 : IVec S16 32} {v2693 : IVec S16 32}
    {Q : _ → sProp 𝕄} :
    iprop(InnSt d L tab idx xs PV u p t 7) ⊢ iprop(((InnSt d L tab idx xs PV u p t 7) -∗ Q ((k0_pay102 v2676 v2683 v2685 v2689 v2693 (gv (tabC tab (u / 48)) 73696 v1779)))) -∗ wp frame (wpE (defs₀ (F := F)) 𝒱₀ (thr d L) none) Set.univ (k0_part53 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1779 k0_hw3 v2676 v2683 v2685 v2689 v2693) Q) := by
  rw [k0_part53_eq_skeleton]
  unfold k0_part53_skel
  simp only [Prog.lift, Prog.bind_op, Prog.bind_ret, Prog.pure_eq_ret]
  iintro H Hk
  iapply (gath (c := 73696) (by decide) (hl := View.loads_vmem h_S1504)) $$ H
  iintro H
  iapply (wp_done d L)
  iapply Hk
  iexact H

set_option maxHeartbeats 4000000 in
/-- A part of the pair loop. -/
theorem part54_spec (k0_t1 : Fin k0_t1_loop.trips) (k0_t2 : Fin k0_t2_loop.trips) {u : ℕ} {v1294 : BitVec 32} {v1759 : BitVec 32} {v1771 : Vec F S16 .i32} {k0_hw6 : k0_chk6 v1771} {v1779 : Vec F S16 .i32} {k0_hw3 : k0_chk3 v1779} {v1783 : Vec F S16 .i32} {k0_hw4 : k0_chk4 v1783} {v1795 : Vec F S16 .f32} {v1803 : Vec F S16 .f32} {v2736 : IVec S16 32}
    {Q : _ → sProp 𝕄} :
    iprop(⌜(k0_pay103 v1795 v1803 v2736 (gv (tabC tab (u / 48)) 34592 v1771) (gv (tabC tab (u / 48)) 75200 v1779)) = resV PV u 7 k0_t2.val⌝ ∗ InnSt d L tab idx xs PV u (par k0_t1.val) k0_t2.val 7) ⊢ iprop(((InnSt d L tab idx xs PV u (par k0_t1.val) k0_t2.val 8) -∗ Q ⟨k0_pay104 (gv (tabC tab (u / 48)) 36096 v1771), k0_pay105 (gv (tabC tab (u / 48)) 36096 v1771), k0_pay106 (gv (tabC tab (u / 48)) 36096 v1771), k0_pay107 (gv (tabC tab (u / 48)) 36096 v1771), (gv (tabC tab (u / 48)) 76704 v1783), k0_pay108 (gv (tabC tab (u / 48)) 76704 v1783), k0_pay109 (gv (tabC tab (u / 48)) 76704 v1783), k0_pay110⟩) -∗ wp frame (wpE (defs₀ (F := F)) 𝒱₀ (thr d L) none) Set.univ (k0_part54 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1 v1294 k0_t2 v1759 v1771 k0_hw6 v1779 k0_hw3 v1783 k0_hw4 v1795 v1803 v2736) Q) := by
  rw [k0_part54_eq_skeleton]
  unfold k0_part54_skel
  simp only [Prog.lift, Prog.bind_op, Prog.bind_ret, Prog.pure_eq_ret]
  iintro ⟨%hv, H⟩ Hk
  iapply (gath (c := 34592) (by decide) (hl := View.loads_vmem h_S1504)) $$ H
  iintro H
  iapply (gath (c := 75200) (by decide) (hl := View.loads_vmem h_S1504)) $$ H
  iintro H
  iapply (ld_o 7 (by decide) (lt_of_lt_of_eq k0_t2.isLt trips2) (show k0_off21 k0_t1 k0_t2 7168#32 0 = _ from off21_val k0_t1 k0_t2 1)) $$ H
  iintro %v H
  iapply (st_o (q := 7) (by decide) (lt_of_lt_of_eq k0_t2.isLt trips2) (show k0_off21 k0_t1 k0_t2 7168#32 0 = _ from off21_val k0_t1 k0_t2 1) hv) $$ H
  iintro H
  iapply (gath (c := 36096) (by decide) (hl := View.loads_vmem h_S1504)) $$ H
  iintro H
  iapply (gath (c := 76704) (by decide) (hl := View.loads_vmem h_S1504)) $$ H
  iintro H
  iapply (wp_done d L)
  iapply Hk
  iexact H

set_option maxHeartbeats 4000000 in
/-- A part of the pair loop. -/
theorem part55_spec  {u : ℕ} {p : Fin 2} {t : ℕ} {v1771 : Vec F S16 .i32} {k0_hw6 : k0_chk6 v1771} {v2757 : IVec S16 32} {v2761 : IVec S16 32} {v2765 : IVec S16 32} {v2769 : IVec S16 32} {v2771 : Vec F S16 .i32} {v2775 : IVec S16 32} {v2777 : IVec S16 32} {v2778 : IVec S16 32}
    {Q : _ → sProp 𝕄} :
    iprop(InnSt d L tab idx xs PV u p t 8) ⊢ iprop(((InnSt d L tab idx xs PV u p t 8) -∗ Q ⟨k0_pay111 v2757 v2761 v2775 v2777 v2778, k0_pay112 v2765 v2769 v2771, k0_pay113 (gv (tabC tab (u / 48)) 37600 v1771), k0_pay114 (gv (tabC tab (u / 48)) 37600 v1771), k0_pay115 (gv (tabC tab (u / 48)) 37600 v1771), k0_pay116 (gv (tabC tab (u / 48)) 37600 v1771)⟩) -∗ wp frame (wpE (defs₀ (F := F)) 𝒱₀ (thr d L) none) Set.univ (k0_part55 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1771 k0_hw6 v2757 v2761 v2765 v2769 v2771 v2775 v2777 v2778) Q) := by
  rw [k0_part55_eq_skeleton]
  unfold k0_part55_skel
  simp only [Prog.lift, Prog.bind_op, Prog.bind_ret, Prog.pure_eq_ret]
  iintro H Hk
  iapply (gath (c := 37600) (by decide) (hl := View.loads_vmem h_S1504)) $$ H
  iintro H
  iapply (wp_done d L)
  iapply Hk
  iexact H

set_option maxHeartbeats 4000000 in
/-- A part of the pair loop. -/
theorem part56_spec  {u : ℕ} {p : Fin 2} {t : ℕ} {v1771 : Vec F S16 .i32} {k0_hw6 : k0_chk6 v1771} {v1783 : Vec F S16 .i32} {k0_hw4 : k0_chk4 v1783} {v1795 : Vec F S16 .f32} {v1807 : Vec F S16 .f32} {v2794 : IVec S16 32} {v2801 : IVec S16 32} {v2807 : IVec S16 32} {v2811 : IVec S16 32} {v2815 : IVec S16 32} {v2819 : IVec S16 32}
    {Q : _ → sProp 𝕄} :
    iprop(InnSt d L tab idx xs PV u p t 8) ⊢ iprop(((InnSt d L tab idx xs PV u p t 8) -∗ Q ⟨k0_pay117 v1795 v1807 v2794 v2801 v2807 v2811 v2815 v2819 (gv (tabC tab (u / 48)) 78208 v1783) (gv (tabC tab (u / 48)) 39104 v1771) (gv (tabC tab (u / 48)) 79712 v1783), 8192#32⟩) -∗ wp frame (wpE (defs₀ (F := F)) 𝒱₀ (thr d L) none) Set.univ (k0_part56 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1771 k0_hw6 v1783 k0_hw4 v1795 v1807 v2794 v2801 v2807 v2811 v2815 v2819) Q) := by
  rw [k0_part56_eq_skeleton]
  unfold k0_part56_skel
  simp only [Prog.lift, Prog.bind_op, Prog.bind_ret, Prog.pure_eq_ret]
  iintro H Hk
  iapply (gath (c := 78208) (by decide) (hl := View.loads_vmem h_S1504)) $$ H
  iintro H
  iapply (gath (c := 39104) (by decide) (hl := View.loads_vmem h_S1504)) $$ H
  iintro H
  iapply (gath (c := 79712) (by decide) (hl := View.loads_vmem h_S1504)) $$ H
  iintro H
  iapply (wp_done d L)
  iapply Hk
  iexact H

end InnerParts

end Cert.ScKernelIdeal
-- ==== Proof.KernelIdealPair.lean ====
module

public import proofs.«01_k».proof.Proof.KernelIdealInnerParts

@[expose] public section

noncomputable section

/-!
# The pair loop

Sixty-four turns, each sixteen tokens of a unit's nine pairs of fields.
-/

namespace Cert.ScKernelIdeal

open Cert.KernelIdeal Cert.KernelIdeal.Gen Cert.FieldTables
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch)

variable {F : FTy → Type} [FloatOps F]

local notation "𝕄" => MT nD τ sig (HIx 1) (Elt F) ℕ UU ℕ

section PairLoop

variable (d : Dev nD) (L : grid0.Coords)
variable (tab : Vec F S6862752 .i32) (idx : Vec F S1916928 .i32) (xs : Vec F S1916928 .f32) (PV : Vec F S36421632 .f32)

/-- The stated result agrees, on unit `u`, with what the lanes compute from the unit's rows and tables. -/
def PairOK (u : ℕ) : Prop := ∀ q < 9, ∀ t < 64, resV PV u q t =
  pairV (iVec xs u (q / 3) t) (iVec xs u (3 + q % 3) t)
    (gv (tabC tab (u / 48)) (4512 * q) (iVec idx u (q / 3) t)) (gv (tabC tab (u / 48)) (4512 * q + 1504) (iVec idx u (q / 3) t))
    (gv (tabC tab (u / 48)) (4512 * q + 3008) (iVec idx u (q / 3) t))
    (gv (tabC tab (u / 48)) (40608 + 4512 * q) (iVec idx u (3 + q % 3) t)) (gv (tabC tab (u / 48)) (40608 + 4512 * q + 1504) (iVec idx u (3 + q % 3) t))
    (gv (tabC tab (u / 48)) (40608 + 4512 * q + 3008) (iVec idx u (3 + q % 3) t))

theorem outProg_next {u : ℕ} {p : Fin 2} {t : ℕ} {f : Vec F S18432 .f32} (h : OutProg PV u p t 9 f) : OutProg PV u p (t + 1) 0 f := by
  intro i h1 h2 h3
  refine h i h1 h2 ?_
  rcases h3 with h3 | ⟨-, h3⟩
  · exact Or.inr ⟨h3, by omega⟩
  · omega

set_option maxHeartbeats 8000000 in
/-- One turn of the pair loop. -/
theorem t2_turn (hidx : ∀ i, (idx i).toNat < 1504) (k0_t1 : Fin k0_t1_loop.trips) {u : ℕ} (hPV : PairOK tab idx xs PV u)
    {v1032 v1033 v1043 v1293 v1294 : BitVec 32} (k0_t2 : Fin k0_t2_loop.trips) (x : Unit) {Q : Unit → sProp 𝕄} :
    InnSt d L tab idx xs PV u (par k0_t1.val) k0_t2.val 0
      ⊢ iprop((InnSt d L tab idx xs PV u (par k0_t1.val) (k0_t2.val + 1) 0 -∗ Q ⟨⟩)
          -∗ wp frame (wpE (defs₀ (F := F)) 𝒱₀ (thr d L) none) Set.univ (k0_t2_body (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1 v1032 v1033 v1043 v1293 v1294 k0_t2 x) Q) := by
  unfold k0_t2_body
  simp only [Prog.lift, Prog.bind_op, Prog.bind_ret, Prog.pure_eq_ret]
  iintro H Hk
  rw [wp_bind]
  iapply (part31_spec d L tab idx xs PV k0_t1 k0_t2 hidx (u := u)) $$ H
  iintro H
  try dsimp only
  rw [wp_bind]
  iapply (part32_spec d L tab idx xs PV k0_t1 k0_t2 (u := u)) $$ H
  iintro H
  try dsimp only
  rw [wp_bind]
  iapply (part33_spec d L tab idx xs PV  (u := u)) $$ H
  iintro H
  try dsimp only
  rw [wp_bind]
  iapply (part34_spec d L tab idx xs PV k0_t1 k0_t2 (u := u)) $$ [H]
  · isplitr
    · ipureintro; exact (hPV 0 (by decide) k0_t2.val (lt_of_lt_of_eq k0_t2.isLt trips2)).symm
    iexact H
  iintro H
  try dsimp only
  rw [wp_bind]
  iapply (part35_spec d L tab idx xs PV  (u := u)) $$ H
  iintro H
  try dsimp only
  rw [wp_bind]
  iapply (part36_spec d L tab idx xs PV  (u := u)) $$ H
  iintro H
  try dsimp only
  rw [wp_bind]
  iapply (part37_spec d L tab idx xs PV k0_t1 k0_t2 (u := u)) $$ [H]
  · isplitr
    · ipureintro; exact (hPV 1 (by decide) k0_t2.val (lt_of_lt_of_eq k0_t2.isLt trips2)).symm
    iexact H
  iintro H
  try dsimp only
  rw [wp_bind]
  iapply (part38_spec d L tab idx xs PV  (u := u)) $$ H
  iintro H
  try dsimp only
  rw [wp_bind]
  iapply (part39_spec d L tab idx xs PV  (u := u)) $$ H
  iintro H
  try dsimp only
  rw [wp_bind]
  iapply (part40_spec d L tab idx xs PV k0_t1 k0_t2 (u := u)) $$ [H]
  · isplitr
    · ipureintro; exact (hPV 2 (by decide) k0_t2.val (lt_of_lt_of_eq k0_t2.isLt trips2)).symm
    iexact H
  iintro H
  try dsimp only
  rw [wp_bind]
  iapply (part41_spec d L tab idx xs PV  (u := u)) $$ H
  iintro H
  try dsimp only
  rw [wp_bind]
  iapply (part42_spec d L tab idx xs PV  (u := u)) $$ H
  iintro H
  try dsimp only
  rw [wp_bind]
  iapply (part43_spec d L tab idx xs PV k0_t1 k0_t2 (u := u)) $$ [H]
  · isplitr
    · ipureintro; exact (hPV 3 (by decide) k0_t2.val (lt_of_lt_of_eq k0_t2.isLt trips2)).symm
    iexact H
  iintro H
  try dsimp only
  rw [wp_bind]
  iapply (part44_spec d L tab idx xs PV  (u := u)) $$ H
  iintro H
  try dsimp only
  rw [wp_bind]
  iapply (part45_spec d L tab idx xs PV k0_t1 k0_t2 (u := u)) $$ H
  iintro H
  try dsimp only
  rw [wp_bind]
  iapply (part46_spec d L tab idx xs PV k0_t1 k0_t2 (u := u)) $$ [H]
  · isplitr
    · ipureintro; exact (hPV 4 (by decide) k0_t2.val (lt_of_lt_of_eq k0_t2.isLt trips2)).symm
    iexact H
  iintro H
  try dsimp only
  rw [wp_bind]
  iapply (part47_spec d L tab idx xs PV  (u := u)) $$ H
  iintro H
  try dsimp only
  rw [wp_bind]
  iapply (part48_spec d L tab idx xs PV k0_t1 k0_t2 (u := u)) $$ [H]
  · isplitr
    · ipureintro; exact (hPV 5 (by decide) k0_t2.val (lt_of_lt_of_eq k0_t2.isLt trips2)).symm
    iexact H
  iintro H
  try dsimp only
  rw [wp_bind]
  iapply (part49_spec d L tab idx xs PV  (u := u)) $$ H
  iintro H
  try dsimp only
  rw [wp_bind]
  iapply (part50_spec d L tab idx xs PV  (u := u)) $$ H
  iintro H
  try dsimp only
  rw [wp_bind]
  iapply (part51_spec d L tab idx xs PV k0_t1 k0_t2 (u := u)) $$ [H]
  · isplitr
    · ipureintro; exact (hPV 6 (by decide) k0_t2.val (lt_of_lt_of_eq k0_t2.isLt trips2)).symm
    iexact H
  iintro H
  try dsimp only
  rw [wp_bind]
  iapply (part52_spec d L tab idx xs PV  (u := u)) $$ H
  iintro H
  try dsimp only
  rw [wp_bind]
  iapply (part53_spec d L tab idx xs PV  (u := u)) $$ H
  iintro H
  try dsimp only
  rw [wp_bind]
  iapply (part54_spec d L tab idx xs PV k0_t1 k0_t2 (u := u)) $$ [H]
  · isplitr
    · ipureintro; exact (hPV 7 (by decide) k0_t2.val (lt_of_lt_of_eq k0_t2.isLt trips2)).symm
    iexact H
  iintro H
  try dsimp only
  rw [wp_bind]
  iapply (part55_spec d L tab idx xs PV  (u := u)) $$ H
  iintro H
  try dsimp only
  rw [wp_bind]
  iapply (part56_spec d L tab idx xs PV  (u := u)) $$ H
  iintro H
  try dsimp only
  iapply (ld_o 8 (by decide) (lt_of_lt_of_eq k0_t2.isLt trips2) (show k0_off21 k0_t1 k0_t2 8192#32 0 = _ from off21_val k0_t1 k0_t2 2)) $$ H
  iintro %v H
  iapply (st_o (q := 8) (by decide) (lt_of_lt_of_eq k0_t2.isLt trips2) (show k0_off21 k0_t1 k0_t2 8192#32 0 = _ from off21_val k0_t1 k0_t2 2)
    (hPV 8 (by decide) k0_t2.val (lt_of_lt_of_eq k0_t2.isLt trips2)).symm) $$ H
  iintro H
  iapply (wp_done d L)
  iapply Hk
  unfold InnSt OutS
  icases H with ⟨HI, HX, HT, ⟨%f, %hf, HO⟩⟩
  isplitl [HI]; · iexact HI
  isplitl [HX]; · iexact HX
  isplitl [HT]; · iexact HT
  iexists f
  isplitr; · ipureintro; exact outProg_next PV hf
  iexact HO

end PairLoop

end Cert.ScKernelIdeal
-- ==== Proof.KernelIdealRectA.lean ====
module

public import proofs.«01_k».proof.Proof.KernelIdealPair

@[expose] public section

noncomputable section

/-!
# The rectangles, one unit after another (1)

The tables of a rectangle are fetched when its first unit comes up, and the next unit's rows are fetched ahead.
-/

namespace Cert.ScKernelIdeal

open Cert.KernelIdeal Cert.KernelIdeal.Gen Cert.FieldTables
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch)

variable {F : FTy → Type} [FloatOps F]

local notation "𝕄" => MT nD τ sig (HIx 1) (Elt F) ℕ UU ℕ

section RectA

variable (d : Dev nD) (L : grid0.Coords) {O : CellTallies nD τ sig (HIx 1)} {W : Waits sig (HIx 1)}
variable (tab : Vec F S6862752 .i32) (idx : Vec F S1916928 .i32) (xs : Vec F S1916928 .f32) (w : Vec F S58656 .f32)
variable (PV : Vec F S36421632 .f32) (LV : Vec F S49152 .f32)

/-- A program that only computes. -/
theorem wp_pureP {α : Type} {p : Prog (TpuEff nD τ sig (Elt F) Λ₀ (thr d L).2) α} (h : ∃ v, p = Prog.ret v) {Q : α → sProp 𝕄} :
    iprop(∀ v, Q v) ⊢ wp frame (wpE (defs₀ (F := F)) 𝒱₀ (thr d L) none) Set.univ p Q := by
  obtain ⟨v, rfl⟩ := h
  exact (forall_elim v).trans (wp_done d L)

/-! ## What is held between units -/

/-- The transposed indices and values, some share of each. -/
def InSh : sProp 𝕄 := iprop((∃ q, gI.view.loc (thr d L) ↦{q} idx) ∗ (∃ q, gX.view.loc (thr d L) ↦{q} xs))
/-- The rows' room of parity `p`, nothing on its way into it. -/
def InFree (p : Fin 2) : sProp 𝕄 :=
  iprop((∃ f, sI.view.loc (thr d L) ↦[seg (N := 12288) (6144 * p.val) 6144]{fullShare} f)
    ∗ (∃ f, sX.view.loc (thr d L) ↦[seg (N := 12288) (6144 * p.val) 6144]{fullShare} f) ∗ semVal (thr d L, .dma (mI p)) 0)
/-- The reads of the tile's unit `k` are on their way, if there is such a unit. -/
def InNext (k : ℕ) : sProp 𝕄 :=
  if k < 117 then Batch EC (thr d L) (.dma (mI (par k))) (none : HIx 1) nU (DI d L idx xs (117 * wid L + k) (par k)) 12 (0 * nU)
  else InFree (F := F) d L (par k)
/-- The tables, and their room holding rectangle `r`'s. -/
def TabNow (r : ℕ) : sProp 𝕄 :=
  iprop((∃ q, gT.view.loc (thr d L) ↦{q} tab) ∗ semVal (thr d L, .dma mT) 0
    ∗ (sT.view.loc (thr d L) ↦[seg (N := 81280) 0 81216]{fullShare} tabC tab r))
/-- The tables before unit `k`: the room holds those of the unit before, if there is one. -/
def TabInv (k : ℕ) : sProp 𝕄 :=
  if k = 0 then iprop((∃ q, gT.view.loc (thr d L) ↦{q} tab) ∗ semVal (thr d L, .dma mT) 0
    ∗ (∃ f, sT.view.loc (thr d L) ↦[seg (N := 81280) 0 81216]{fullShare} f))
  else TabNow d L tab ((117 * wid L + (k - 1)) / 48)

theorem tabNow_any {r : ℕ} : TabNow d L tab r ⊢ iprop((∃ q, gT.view.loc (thr d L) ↦{q} tab) ∗ semVal (thr d L, .dma mT) 0
    ∗ (∃ f, sT.view.loc (thr d L) ↦[seg (N := 81280) 0 81216]{fullShare} f)) := by
  unfold TabNow
  iintro ⟨H1, H2, H3⟩
  isplitl [H1]; · iexact H1
  isplitl [H2]; · iexact H2
  iexists _; iexact H3

theorem tabInv_any {k : ℕ} : TabInv d L tab k ⊢ iprop((∃ q, gT.view.loc (thr d L) ↦{q} tab) ∗ semVal (thr d L, .dma mT) 0
    ∗ (∃ f, sT.view.loc (thr d L) ↦[seg (N := 81280) 0 81216]{fullShare} f)) := by
  unfold TabInv
  by_cases h : k = 0
  · rw [if_pos h]
  · rw [if_neg h]; exact tabNow_any d L tab

set_option maxHeartbeats 8000000 in
/-- The tables are at hand and the next unit's rows on their way. -/
theorem part58_spec (k0_t1 : Fin k0_t1_loop.trips) (hO : ∀ g, O g none = 0) {v3 : BitVec 32} {v1033 : BitVec 32} {v1043 : BitVec 32} {v1060 : BitVec 32} {v1061 : BitVec 1} {v1063 : BitVec 32} {v1064 : BitVec 32} {v1065 : BitVec 1} {v1066 : BitVec 1} {v1067 : BitVec 1}
    {Q : _ → sProp 𝕄} :
    iprop(OwL d L O W ∗ TabInv d L tab k0_t1.val ∗ InSh d L idx xs ∗ InFree d L (par (k0_t1.val + 1)))
      ⊢ iprop((∀ v, (OwL d L O W ∗ TabNow d L tab ((117 * wid L + k0_t1.val) / 48) ∗ InSh d L idx xs ∗ InNext d L idx xs (k0_t1.val + 1)) -∗ Q v)
        -∗ wp frame (wpE (defs₀ (F := F)) 𝒱₀ (thr d L) none) Set.univ (k0_part58 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v3 k0_t1 v1033 v1043 v1060 v1061 v1063 v1064 v1065 v1066 v1067) Q) := by
  have hk : k0_t1.val < 117 := lt_of_lt_of_eq k0_t1.isLt trips1
  have hw : wid L < 32 := wid_lt L
  rw [k0_part58_eq_skeleton]
  unfold k0_part58_skel
  simp only [Prog.lift, Prog.bind_op, Prog.bind_ret, Prog.pure_eq_ret]
  by_cases k0_h1 : k0_cond1 L k0_t1 = 1#1
  · rw [dif_pos k0_h1]
    iintro ⟨HO, HT, HS, HF⟩ Hk
    ihave HT := (tabInv_any d L tab) $$ HT
    icases HT with ⟨Hg, Hv, HT⟩
    ihave HT := (held_split_ex (ℓ := sT.view.loc (thr d L)) (S := seg (N := 81280) 0 81216) (S₁ := seg (N := 81280) 0 40608) (S₂ := seg (N := 81280) 40608 40608) (seg_cut rfl rfl) (seg_disjoint (by omega))) $$ HT
    icases HT with ⟨HT1, HT2⟩
    iapply (tab_begin d L tab (r := (117 * wid L + k0_t1.val) / 48)) $$ [Hg Hv HT1 HT2]
    · isplitl [Hg]; · iexact Hg
      isplitl [HT1]; · iexact HT1
      isplitl [HT2]; · iexact HT2
      iexact Hv
    iintro HT
    rw [wp_bind]
    iapply (wp_pureP d L (part1_pure (F := F) L _))
    iintro %v
    obtain ⟨a0, a1, a2, a3, a4, a5, a6, a7⟩ := v
    try dsimp only
    rw [wp_bind]
    iapply (wp_pureP d L (part2_pure (F := F) L _ _ _ _ _ _ _ _))
    iintro %v
    obtain ⟨a0, a1, a2⟩ := v
    try dsimp only
    rw [wp_bind]
    iapply (wp_pureP d L (part3_pure (F := F) L _ _ _ _))
    iintro %v
    obtain ⟨a0, a1, a2⟩ := v
    try dsimp only
    rw [wp_bind]
    iapply (wp_pureP d L (part4_pure (F := F) L _ _ _ _ _))
    iintro %v
    obtain ⟨a0, a1⟩ := v
    try dsimp only
    rw [wp_bind]
    iapply (part5_spec d L tab k0_t1) $$ HT
    iintro %v HT
    try dsimp only
    rw [wp_bind]
    iapply (part6_spec d L tab k0_t1) $$ HT
    iintro %v HT
    try dsimp only
    rw [wp_bind]
    iapply (part7_spec d L tab k0_t1) $$ HT
    iintro %v HT
    try dsimp only
    rw [wp_bind]
    iapply (part8_spec d L tab k0_t1) $$ HT
    iintro %v HT
    obtain ⟨a0, a1, a2, a3, a4, a5, a6, a7⟩ := v
    try dsimp only
    ihave HT := (tab_ready d L tab) $$ HT
    icases HT with ⟨Hg, HT⟩
    rw [wp_bind]
    iapply (wp_pureP d L (part9_pure (F := F) L _ _ _ _ _ _ _ _))
    iintro %v
    obtain ⟨a0, a1⟩ := v
    try dsimp only
    rw [wp_bind]
    iapply (wp_pureP d L (part10_pure (F := F) L _ _ _))
    iintro %v
    obtain ⟨a0, a1, a2⟩ := v
    try dsimp only
    rw [wp_bind]
    iapply (wp_pureP d L (part11_pure (F := F) L _ _ _ _ _))
    iintro %v
    try dsimp only
    rw [wp_bind]
    iapply (part12_spec d L tab k0_t1 hO) $$ [HO HT]
    · isplitl [HO]; · iexact HO
      iexact HT
    iintro %v ⟨HO, HT⟩
    try dsimp only
    rw [wp_bind]
    iapply (part13_spec d L tab k0_t1 hO) $$ [HO HT]
    · isplitl [HO]; · iexact HO
      iexact HT
    iintro %v ⟨HO, HT⟩
    try dsimp only
    rw [wp_bind]
    iapply (part14_spec d L tab k0_t1 hO) $$ [HO HT]
    · isplitl [HO]; · iexact HO
      iexact HT
    iintro %v ⟨HO, HT⟩
    try dsimp only
    iapply (w_last d L hO 17 rfl rfl (credT _ _) nT_pos) $$ [HO HT]
    · isplitl [HO]; · iexact HO
      iexact HT
    iintro ⟨HO, HT, HTv⟩
    ihave HT := (tab_done d L tab) $$ HT
    ihave HT := (show iprop((∃ q, gT.view.loc (thr d L) ↦{q} tab) ∗ semVal (thr d L, .dma mT) 0 ∗ (sT.view.loc (thr d L) ↦[seg (N := 81280) 0 81216]{fullShare} tabC tab ((117 * wid L + k0_t1.val) / 48))) ⊢ TabNow d L tab ((117 * wid L + k0_t1.val) / 48) from BIBase.Entails.of_eq rfl) $$ [Hg HT HTv]
    · isplitl [Hg]; · iexact Hg
      isplitl [HTv]; · iexact HTv
      iexact HT
    by_cases k0_h2 : k0_cond2 L k0_t1 = 1#1
    · rw [dif_pos k0_h2]
      have hk1 : k0_t1.val + 1 < 117 := (cond2_iff L k0_t1).mp k0_h2
      have hu : 117 * wid L + k0_t1.val + 1 < 3744 := by omega
      unfold InSh InFree
      icases HS with ⟨HS1, HS2⟩
      icases HF with ⟨HF1, HF2, HF3⟩
      iapply (in_begin d L idx xs (u := 117 * wid L + k0_t1.val + 1) (p := par (k0_t1.val + 1))) $$ [HS1 HS2 HF1 HF2 HF3]
      · isplitl [HS1]; · iexact HS1
        isplitl [HS2]; · iexact HS2
        isplitl [HF1]; · iexact HF1
        isplitl [HF2]; · iexact HF2
        iexact HF3
      iintro HI
      rw [wp_bind]
      iapply (wp_pureP d L (part15_pure (F := F) L _ _))
      iintro %v
      obtain ⟨a0, a1, a2, a3, a4⟩ := v
      try dsimp only
      rw [wp_bind]
      iapply (wp_pureP d L (part16_pure (F := F) L _ _ _ _))
      iintro %v
      obtain ⟨a0, a1, a2, a3, a4, a5⟩ := v
      try dsimp only
      rw [wp_bind]
      iapply (wp_pureP d L (part17_pure (F := F) L _ _ _ _ _ _ _))
      iintro %v
      obtain ⟨a0, a1⟩ := v
      try dsimp only
      rw [wp_bind]
      iapply (part18_spec d L idx xs k0_t1 hu) $$ HI
      iintro %v HI
      try dsimp only
      rw [wp_bind]
      iapply (part19_spec d L idx xs k0_t1 hu) $$ HI
      iintro %v HI
      try dsimp only
      iapply (in_idx d L idx xs 5 (by decide) hu (mI_eq (par (k0_t1.val + 1)) (k0_off7 k0_t1) _ (off7_val k0_t1)) (show k0_off8 L k0_t1 2#32 0 = inOff _ 5 from off8_val L k0_t1 2) (show k0_off5 k0_t1 5#32 0 = 6144 * (par (k0_t1.val + 1)).val + 1024 * 5 from off5_val k0_t1 5)) $$ HI
      iintro HI
      iapply (in_x d L idx xs 5 (by decide) hu (mI_eq (par (k0_t1.val + 1)) (k0_off7 k0_t1) _ (off7_val k0_t1)) (show k0_off8 L k0_t1 2#32 0 = inOff _ 5 from off8_val L k0_t1 2) (show k0_off5 k0_t1 5#32 0 = 6144 * (par (k0_t1.val + 1)).val + 1024 * 5 from off5_val k0_t1 5)) $$ HI
      iintro HI
      ihave HI := (in_ready d L idx xs) $$ HI
      icases HI with ⟨HS1, HS2, HI⟩
      iapply (wp_done d L)
      iapply Hk
      isplitl [HO]; · iexact HO
      isplitl [HT]; · iexact HT
      isplitl [HS1 HS2]
      · isplitl [HS1]; · iexact HS1
        iexact HS2
      unfold InNext
      rw [if_pos hk1]
      iexact HI
    · rw [dif_neg k0_h2]
      iapply (wp_done d L)
      iapply Hk
      isplitl [HO]; · iexact HO
      isplitl [HT]; · iexact HT
      isplitl [HS]; · iexact HS
      unfold InNext
      rw [if_neg (fun h => k0_h2 ((cond2_iff L k0_t1).mpr h))]
      iexact HF
  · rw [dif_neg k0_h1]
    have hn := fun h => k0_h1 ((cond1_iff L k0_t1).mpr h)
    have h0 : k0_t1.val ≠ 0 := fun h => hn (Or.inl h)
    have h48 : (117 * wid L + k0_t1.val) % 48 ≠ 0 := fun h => hn (Or.inr h)
    have he : (117 * wid L + (k0_t1.val - 1)) / 48 = (117 * wid L + k0_t1.val) / 48 := by omega
    rw [show TabInv d L tab k0_t1.val = TabNow d L tab ((117 * wid L + k0_t1.val) / 48) from by unfold TabInv; rw [if_neg h0, he]]
    iintro ⟨HO, HT, HS, HF⟩ Hk
    by_cases k0_h2 : k0_cond2 L k0_t1 = 1#1
    · rw [dif_pos k0_h2]
      have hk1 : k0_t1.val + 1 < 117 := (cond2_iff L k0_t1).mp k0_h2
      have hu : 117 * wid L + k0_t1.val + 1 < 3744 := by omega
      unfold InSh InFree
      icases HS with ⟨HS1, HS2⟩
      icases HF with ⟨HF1, HF2, HF3⟩
      iapply (in_begin d L idx xs (u := 117 * wid L + k0_t1.val + 1) (p := par (k0_t1.val + 1))) $$ [HS1 HS2 HF1 HF2 HF3]
      · isplitl [HS1]; · iexact HS1
        isplitl [HS2]; · iexact HS2
        isplitl [HF1]; · iexact HF1
        isplitl [HF2]; · iexact HF2
        iexact HF3
      iintro HI
      rw [wp_bind]
      iapply (wp_pureP d L (part15_pure (F := F) L _ _))
      iintro %v
      obtain ⟨a0, a1, a2, a3, a4⟩ := v
      try dsimp only
      rw [wp_bind]
      iapply (wp_pureP d L (part16_pure (F := F) L _ _ _ _))
      iintro %v
      obtain ⟨a0, a1, a2, a3, a4, a5⟩ := v
      try dsimp only
      rw [wp_bind]
      iapply (wp_pureP d L (part17_pure (F := F) L _ _ _ _ _ _ _))
      iintro %v
      obtain ⟨a0, a1⟩ := v
      try dsimp only
      rw [wp_bind]
      iapply (part18_spec d L idx xs k0_t1 hu) $$ HI
      iintro %v HI
      try dsimp only
      rw [wp_bind]
      iapply (part19_spec d L idx xs k0_t1 hu) $$ HI
      iintro %v HI
      try dsimp only
      iapply (in_idx d L idx xs 5 (by decide) hu (mI_eq (par (k0_t1.val + 1)) (k0_off7 k0_t1) _ (off7_val k0_t1)) (show k0_off8 L k0_t1 2#32 0 = inOff _ 5 from off8_val L k0_t1 2) (show k0_off5 k0_t1 5#32 0 = 6144 * (par (k0_t1.val + 1)).val + 1024 * 5 from off5_val k0_t1 5)) $$ HI
      iintro HI
      iapply (in_x d L idx xs 5 (by decide) hu (mI_eq (par (k0_t1.val + 1)) (k0_off7 k0_t1) _ (off7_val k0_t1)) (show k0_off8 L k0_t1 2#32 0 = inOff _ 5 from off8_val L k0_t1 2) (show k0_off5 k0_t1 5#32 0 = 6144 * (par (k0_t1.val + 1)).val + 1024 * 5 from off5_val k0_t1 5)) $$ HI
      iintro HI
      ihave HI := (in_ready d L idx xs) $$ HI
      icases HI with ⟨HS1, HS2, HI⟩
      iapply (wp_done d L)
      iapply Hk
      isplitl [HO]; · iexact HO
      isplitl [HT]; · iexact HT
      isplitl [HS1 HS2]
      · isplitl [HS1]; · iexact HS1
        iexact HS2
      unfold InNext
      rw [if_pos hk1]
      iexact HI
    · rw [dif_neg k0_h2]
      iapply (wp_done d L)
      iapply Hk
      isplitl [HO]; · iexact HO
      isplitl [HT]; · iexact HT
      isplitl [HS]; · iexact HS
      unfold InNext
      rw [if_neg (fun h => k0_h2 ((cond2_iff L k0_t1).mpr h))]
      iexact HF

end RectA

end Cert.ScKernelIdeal
-- ==== Proof.KernelIdealRectB.lean ====
module

public import proofs.«01_k».proof.Proof.KernelIdealRectA

@[expose] public section

noncomputable section

/-!
# The rectangles, one unit after another (2)

A tile's units: the rows come in, the nine pairs are computed, and the results of the unit before the last leave.
-/

namespace Cert.ScKernelIdeal

open Cert.KernelIdeal Cert.KernelIdeal.Gen Cert.FieldTables
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch)

variable {F : FTy → Type} [FloatOps F]

local notation "𝕄" => MT nD τ sig (HIx 1) (Elt F) ℕ UU ℕ

section RectB

variable (d : Dev nD) (L : grid0.Coords) {O : CellTallies nD τ sig (HIx 1)} {W : Waits sig (HIx 1)}
variable (tab : Vec F S6862752 .i32) (idx : Vec F S1916928 .i32) (xs : Vec F S1916928 .f32) (w : Vec F S58656 .f32)
variable (PV : Vec F S36421632 .f32) (LV : Vec F S49152 .f32)

/-- The nine chunks of unit `u` in the pair result, not written yet. -/
def unitE (u : ℕ) : sProp 𝕄 :=
  bigSep (Transfers.pending (n := 9) 0) (fun t => iprop(∃ f : Buf (Elt F) (gP.view.loc (thr d L)), gP.view.loc (thr d L) ↦[seg (N := 36421632) (outOff u t.val) 1024]{fullShare} f))
/-- The nine chunks of unit `u` in the pair result, written. -/
def unitW (u : ℕ) : sProp 𝕄 :=
  bigSep Finset.univ (fun t : Fin 9 => (gP.view.loc (thr d L) ↦[seg (N := 36421632) (outOff u t.val) 1024]{fullShare} PV : sProp 𝕄))
/-- The writes of the unit two before `k` are on their way, if there is one. -/
def OutNext (k : ℕ) : sProp 𝕄 :=
  if k < 2 then iprop((∃ f, sO.view.loc (thr d L) ↦[seg (N := 18432) (9216 * (par k).val) 9216]{fullShare} f) ∗ semVal (thr d L, .dma (mO (par k))) 0)
  else Batch EC (thr d L) (.dma (mO (par k))) (none : HIx 1) nU (DO d L PV (117 * wid L + (k - 2)) (par k)) 9 (0 * nU)
/-- The units from `k` on, not written yet. -/
def Undone (k : ℕ) : sProp 𝕄 := bigSep (Transfers.pending (n := 117) k) (fun j => unitE (F := F) d L (117 * wid L + j.val))
/-- The units whose writes have been waited for before unit `k`. -/
def Done (k : ℕ) : sProp 𝕄 := bigSep (Finset.univ.filter fun j : Fin 117 => j.val + 2 < k) (fun j => unitW d L PV (117 * wid L + j.val))

theorem par_add_two (k : ℕ) : par (k + 2) = par k := by
  apply Fin.ext; show (k + 2) % 2 = k % 2; omega

theorem done_none {k : ℕ} (h : k < 2) : Done d L PV (k + 1) = Done d L PV k := by
  unfold Done
  congr 1
  ext j; simp only [Finset.mem_filter, Finset.mem_univ, true_and]; omega

theorem done_step {k : ℕ} (h : 2 ≤ k) (hk : k < 119) :
    iprop(unitW d L PV (117 * wid L + (k - 2)) ∗ Done d L PV k) ⊢ Done d L PV (k + 1) := by
  unfold Done
  rw [show (Finset.univ.filter fun j : Fin 117 => j.val + 2 < k + 1) = insert ⟨k - 2, by omega⟩ (Finset.univ.filter fun j : Fin 117 => j.val + 2 < k) from by
    ext j; simp only [Finset.mem_filter, Finset.mem_univ, true_and, Finset.mem_insert, Fin.ext_iff]; omega,
    bigSep_insert (by simp only [Finset.mem_filter, Finset.mem_univ, true_and]; omega)]
  exact BIBase.Entails.of_eq rfl

theorem undone_step {k : ℕ} (hk : k < 117) : Undone (F := F) d L k ⊢ iprop(unitE (F := F) d L (117 * wid L + k) ∗ Undone (F := F) d L (k + 1)) := by
  unfold Undone
  rw [Transfers.pending_succ hk, bigSep_insert (Transfers.not_mem_pending_succ hk)]
  exact BIBase.Entails.of_eq rfl

theorem outNext_lt {k : ℕ} (h : k < 2) : OutNext d L PV k = iprop((∃ f, sO.view.loc (thr d L) ↦[seg (N := 18432) (9216 * (par k).val) 9216]{fullShare} f) ∗ semVal (thr d L, .dma (mO (par k))) 0) := by
  unfold OutNext; rw [if_pos h]

theorem outNext_ge {k : ℕ} (h : 2 ≤ k) : OutNext d L PV k = Batch EC (thr d L) (.dma (mO (par k))) (none : HIx 1) nU (DO d L PV (117 * wid L + (k - 2)) (par k)) 9 (0 * nU) := by
  unfold OutNext; rw [if_neg (by omega)]

theorem outProg_zero {u : ℕ} {p : Fin 2} (f : Vec F S18432 .f32) : OutProg PV u p 0 0 f := by
  intro i h1 h2 h3
  rcases h3 with h3 | ⟨-, h3⟩ <;> omega

/-- After the pair loop the unit's results are in place. -/
theorem inn_end {u k : ℕ} {n : ℕ} (hn : n = 64 := by decide) : InnSt d L tab idx xs PV u (par k) n 0 ⊢ iprop(
    (∃ f, sI.view.loc (thr d L) ↦[seg (N := 12288) (6144 * (par k).val) 6144]{fullShare} f)
    ∗ (∃ f, sX.view.loc (thr d L) ↦[seg (N := 12288) (6144 * (par k).val) 6144]{fullShare} f)
    ∗ (sT.view.loc (thr d L) ↦[seg (N := 81280) 0 81216]{fullShare} tabC tab (u / 48))
    ∗ (sO.view.loc (thr d L) ↦[seg (N := 18432) (9216 * (par k).val) 9216]{fullShare} outC PV u)) := by
  subst hn
  unfold InnSt OutS
  iintro ⟨HI, HX, HT, ⟨%f, %hf, HO⟩⟩
  isplitl [HI]; · iexists _; iexact HI
  isplitl [HX]; · iexists _; iexact HX
  isplitl [HT]; · iexact HT
  iapply (Entails.of_eq (pointsTo_congr (fun i hi => by
    have h := mem_seg.mp hi
    exact hf i h.1 h.2 (Or.inl (by omega))))) $$ HO

set_option maxHeartbeats 8000000 in
/-- The unit's rows have come in, the room for its results is free again, and the results are computed. -/
theorem part63_spec (k0_t1 : Fin k0_t1_loop.trips) (hO : ∀ g, O g none = 0) (hidx : ∀ i, (idx i).toNat < 1504) (hPV : PairOK tab idx xs PV (117 * wid L + k0_t1.val)) {v1032 : BitVec 32} {v1033 : BitVec 32} {v1043 : BitVec 32}
    {Q : _ → sProp 𝕄} :
    iprop(OwL d L O W ∗ Batch EC (thr d L) (.dma (mI (par k0_t1.val))) (none : HIx 1) nU (DI d L idx xs (117 * wid L + k0_t1.val) (par k0_t1.val)) 12 (8 * nU) ∗ TabNow d L tab ((117 * wid L + k0_t1.val) / 48) ∗ OutNext d L PV k0_t1.val ∗ Done d L PV k0_t1.val)
      ⊢ iprop((∀ v, (OwL d L O W ∗ InFree d L (par k0_t1.val) ∗ TabNow d L tab ((117 * wid L + k0_t1.val) / 48)
          ∗ (sO.view.loc (thr d L) ↦[seg (N := 18432) (9216 * (par k0_t1.val).val) 9216]{fullShare} outC PV (117 * wid L + k0_t1.val))
          ∗ semVal (thr d L, .dma (mO (par k0_t1.val))) 0 ∗ Done d L PV (k0_t1.val + 1)) -∗ Q v)
        -∗ wp frame (wpE (defs₀ (F := F)) 𝒱₀ (thr d L) none) Set.univ (k0_part63 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t1 v1032 v1033 v1043) Q) := by
  have hk : k0_t1.val < 117 := lt_of_lt_of_eq k0_t1.isLt trips1
  rw [k0_part63_eq_skeleton]
  unfold k0_part63_skel
  simp only [Prog.lift, Prog.bind_op, Prog.bind_ret, Prog.pure_eq_ret]
  iintro ⟨HO, HI, HT, HN, HD⟩ Hk
  iapply (w_mid d L (n := 12) hO 8 (by decide) (mI_eq (par k0_t1.val) (k0_off11 k0_t1) _ (off11_val k0_t1)) (credI _ _) nU_pos) $$ [HO HI]
  · isplitl [HO]; · iexact HO
    iexact HI
  iintro ⟨HO, HI⟩
  iapply (w_mid d L (n := 12) hO 9 (by decide) (mI_eq (par k0_t1.val) (k0_off11 k0_t1) _ (off11_val k0_t1)) (credX _ _) nU_pos) $$ [HO HI]
  · isplitl [HO]; · iexact HO
    iexact HI
  iintro ⟨HO, HI⟩
  iapply (w_mid d L (n := 12) hO 10 (by decide) (mI_eq (par k0_t1.val) (k0_off11 k0_t1) _ (off11_val k0_t1)) (credI _ _) nU_pos) $$ [HO HI]
  · isplitl [HO]; · iexact HO
    iexact HI
  iintro ⟨HO, HI⟩
  iapply (w_last d L hO 11 rfl (mI_eq (par k0_t1.val) (k0_off11 k0_t1) _ (off11_val k0_t1)) (credX _ _) nU_pos) $$ [HO HI]
  · isplitl [HO]; · iexact HO
    iexact HI
  iintro ⟨HO, HI, HIv⟩
  ihave HI := (in_done d L idx xs) $$ HI
  icases HI with ⟨HI, HX⟩
  by_cases k0_h3 : k0_cond3 k0_t1 = 1#1
  · rw [dif_pos k0_h3]
    have h2 : 2 ≤ k0_t1.val := (cond3_iff k0_t1).mp k0_h3
    ihave HN := (BIBase.Entails.of_eq (outNext_ge d L PV h2)) $$ HN
    rw [wp_bind]
    iapply (wp_pureP d L (part20_pure (F := F) L _))
    iintro %v
    obtain ⟨a0, a1, a2, a3⟩ := v
    try dsimp only
    rw [wp_bind]
    iapply (wp_pureP d L (part21_pure (F := F) L _ _ _ _))
    iintro %v
    obtain ⟨a0, a1, a2, a3, a4⟩ := v
    try dsimp only
    rw [wp_bind]
    iapply (wp_pureP d L (part22_pure (F := F) L _ _ _ _ _ _))
    iintro %v
    obtain ⟨a0, a1⟩ := v
    try dsimp only
    rw [wp_bind]
    iapply (wp_pureP d L (part23_pure (F := F) L _ _ _ _ _))
    iintro %v
    obtain ⟨a0, a1⟩ := v
    try dsimp only
    rw [wp_bind]
    iapply (wp_pureP d L (part24_pure (F := F) L _ _ _ _ _ _))
    iintro %v
    obtain ⟨a0, a1⟩ := v
    try dsimp only
    rw [wp_bind]
    iapply (wp_pureP d L (part25_pure (F := F) L _ _ _ _ _ _))
    iintro %v
    obtain ⟨a0, a1, a2, a3⟩ := v
    try dsimp only
    rw [wp_bind]
    iapply (wp_pureP d L (part26_pure (F := F) L _ _ _ _ _ _ _ _))
    iintro %v
    obtain ⟨a0, a1, a2, a3, a4⟩ := v
    try dsimp only
    rw [wp_bind]
    iapply (wp_pureP d L (part27_pure (F := F) L _ _ _ _ _ _ _ _ _))
    iintro %v
    obtain ⟨a0, a1, a2, a3, a4, a5, a6⟩ := v
    try dsimp only
    rw [wp_bind]
    iapply (wp_pureP d L (part28_pure (F := F) L _ _ _ _ _ _ _ _ _ _ _))
    iintro %v
    obtain ⟨a0, a1, a2, a3, a4, a5, a6, a7⟩ := v
    try dsimp only
    rw [wp_bind]
    iapply (wp_pureP d L (part29_pure (F := F) L _ _ _ _ _ _ _ _ _ _ _ _))
    iintro %v
    obtain ⟨a0, a1, a2, a3, a4, a5, a6, a7⟩ := v
    try dsimp only
    rw [wp_bind]
    iapply (part30_spec d L PV k0_t1 hO) $$ [HO HN]
    · isplitl [HO]; · iexact HO
      iexact HN
    iintro %v ⟨HO, HN⟩
    try dsimp only
    iapply (w_mid d L (n := 9) hO 3 (by decide) (mO_eq (par k0_t1.val) (k0_off15 k0_t1) _ (off15_val k0_t1)) (credP _ _) nU_pos) $$ [HO HN]
    · isplitl [HO]; · iexact HO
      iexact HN
    iintro ⟨HO, HN⟩
    iapply (w_mid d L (n := 9) hO 4 (by decide) (mO_eq (par k0_t1.val) (k0_off15 k0_t1) _ (off15_val k0_t1)) (credP _ _) nU_pos) $$ [HO HN]
    · isplitl [HO]; · iexact HO
      iexact HN
    iintro ⟨HO, HN⟩
    iapply (w_mid d L (n := 9) hO 5 (by decide) (mO_eq (par k0_t1.val) (k0_off15 k0_t1) _ (off15_val k0_t1)) (credP _ _) nU_pos) $$ [HO HN]
    · isplitl [HO]; · iexact HO
      iexact HN
    iintro ⟨HO, HN⟩
    iapply (w_mid d L (n := 9) hO 6 (by decide) (mO_eq (par k0_t1.val) (k0_off15 k0_t1) _ (off15_val k0_t1)) (credP _ _) nU_pos) $$ [HO HN]
    · isplitl [HO]; · iexact HO
      iexact HN
    iintro ⟨HO, HN⟩
    iapply (w_mid d L (n := 9) hO 7 (by decide) (mO_eq (par k0_t1.val) (k0_off15 k0_t1) _ (off15_val k0_t1)) (credP _ _) nU_pos) $$ [HO HN]
    · isplitl [HO]; · iexact HO
      iexact HN
    iintro ⟨HO, HN⟩
    iapply (w_last d L hO 8 rfl (mO_eq (par k0_t1.val) (k0_off15 k0_t1) _ (off15_val k0_t1)) (credP _ _) nU_pos) $$ [HO HN]
    · isplitl [HO]; · iexact HO
      iexact HN
    iintro ⟨HO, HN, HNv⟩
    ihave HN := (out_done d L PV) $$ HN
    icases HN with ⟨HW, Hout⟩
    ihave HD := (done_step d L PV h2 (by omega)) $$ [HW HD]
    · isplitl [HW]; · unfold unitW; iexact HW
      iexact HD
    unfold TabNow
    icases HT with ⟨Hg, Hv, HT⟩
    icases Hout with ⟨%f0, Hout⟩
    iapply (Scf.wp_for_bind frame (wpE (defs₀ (F := F)) 𝒱₀ (thr d L) none) Set.univ k0_t2_loop.lb k0_t2_loop.ub k0_t2_loop.st k0_t2_ok ⟨⟩ _
      (fun t _ => InnSt d L tab idx xs PV (117 * wid L + k0_t1.val) (par k0_t1.val) t 0)
      (fun t acc => by
        iintro H
        iapply (t2_turn d L tab idx xs PV hidx k0_t1 hPV t acc) $$ H
        iintro H
        iexact H)) $$ [HI HX HT Hout]
    · unfold InnSt OutS
      isplitl [HI]; · iexact HI
      isplitl [HX]; · iexact HX
      isplitl [HT]; · iexact HT
      iexists f0
      isplitr; · ipureintro; exact outProg_zero PV f0
      iexact Hout
    iintro %acc H
    ihave H := (inn_end d L tab idx xs PV (k := k0_t1.val)) $$ H
    icases H with ⟨HI, HX, HT, Hout⟩
    iapply (wp_done d L)
    iapply Hk
    isplitl [HO]; · iexact HO
    isplitl [HI HX HIv]
    · unfold InFree
      isplitl [HI]; · iexact HI
      isplitl [HX]; · iexact HX
      iexact HIv
    isplitl [Hg Hv HT]
    · isplitl [Hg]; · iexact Hg
      isplitl [Hv]; · iexact Hv
      iexact HT
    isplitl [Hout]; · iexact Hout
    isplitl [HNv]; · iexact HNv
    iexact HD
  · rw [dif_neg k0_h3]
    have h2 : k0_t1.val < 2 := by
      by_contra h; exact k0_h3 ((cond3_iff k0_t1).mpr (by omega))
    ihave HN := (BIBase.Entails.of_eq (outNext_lt d L PV h2)) $$ HN
    ihave HD := (BIBase.Entails.of_eq (done_none d L PV h2).symm) $$ HD
    icases HN with ⟨Hout, Hov⟩
    unfold TabNow
    icases HT with ⟨Hg, Hv, HT⟩
    icases Hout with ⟨%f0, Hout⟩
    iapply (Scf.wp_for_bind frame (wpE (defs₀ (F := F)) 𝒱₀ (thr d L) none) Set.univ k0_t2_loop.lb k0_t2_loop.ub k0_t2_loop.st k0_t2_ok ⟨⟩ _
      (fun t _ => InnSt d L tab idx xs PV (117 * wid L + k0_t1.val) (par k0_t1.val) t 0)
      (fun t acc => by
        iintro H
        iapply (t2_turn d L tab idx xs PV hidx k0_t1 hPV t acc) $$ H
        iintro H
        iexact H)) $$ [HI HX HT Hout]
    · unfold InnSt OutS
      isplitl [HI]; · iexact HI
      isplitl [HX]; · iexact HX
      isplitl [HT]; · iexact HT
      iexists f0
      isplitr; · ipureintro; exact outProg_zero PV f0
      iexact Hout
    iintro %acc H
    ihave H := (inn_end d L tab idx xs PV (k := k0_t1.val)) $$ H
    icases H with ⟨HI, HX, HT, Hout⟩
    iapply (wp_done d L)
    iapply Hk
    isplitl [HO]; · iexact HO
    isplitl [HI HX HIv]
    · unfold InFree
      isplitl [HI]; · iexact HI
      isplitl [HX]; · iexact HX
      iexact HIv
    isplitl [Hg Hv HT]
    · isplitl [Hg]; · iexact Hg
      isplitl [Hv]; · iexact Hv
      iexact HT
    isplitl [Hout]; · iexact Hout
    isplitl [Hov]; · iexact Hov
    iexact HD

end RectB

end Cert.ScKernelIdeal
-- ==== Proof.KernelIdealRectC.lean ====
module

public import proofs.«01_k».proof.Proof.KernelIdealRectB

@[expose] public section

noncomputable section

/-!
# The rectangles, one unit after another (3)

One turn of a tile's loop over its units, and the whole loop.
-/

namespace Cert.ScKernelIdeal

open Cert.KernelIdeal Cert.KernelIdeal.Gen Cert.FieldTables
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch)

variable {F : FTy → Type} [FloatOps F]

local notation "𝕄" => MT nD τ sig (HIx 1) (Elt F) ℕ UU ℕ

section RectC

variable (d : Dev nD) (L : grid0.Coords) {O : CellTallies nD τ sig (HIx 1)} {W : Waits sig (HIx 1)}
variable (tab : Vec F S6862752 .i32) (idx : Vec F S1916928 .i32) (xs : Vec F S1916928 .f32) (w : Vec F S58656 .f32)
variable (PV : Vec F S36421632 .f32) (LV : Vec F S49152 .f32)

/-- What a tile holds before its unit `k`. -/
def RectInv (O : CellTallies nD τ sig (HIx 1)) (W : Waits sig (HIx 1)) (k : ℕ) : sProp 𝕄 :=
  iprop(OwL d L O W ∗ TabInv d L tab k ∗ InSh d L idx xs ∗ InNext d L idx xs k ∗ InFree (F := F) d L (par (k + 1))
    ∗ OutNext d L PV k ∗ OutNext d L PV (k + 1) ∗ Undone (F := F) d L k ∗ Done d L PV k)

theorem tabInv_succ {k : ℕ} : TabNow d L tab ((117 * wid L + k) / 48) ⊢ TabInv d L tab (k + 1) := by
  unfold TabInv
  rw [if_neg (Nat.succ_ne_zero k)]
  exact BIBase.Entails.of_eq rfl

theorem inNext_lt {k : ℕ} (h : k < 117) : InNext d L idx xs k = Batch EC (thr d L) (.dma (mI (par k))) (none : HIx 1) nU (DI d L idx xs (117 * wid L + k) (par k)) 12 (0 * nU) := by
  unfold InNext; rw [if_pos h]

theorem outNext_two {k : ℕ} : Batch EC (thr d L) (.dma (mO (par k))) (none : HIx 1) nU (DO d L PV (117 * wid L + k) (par k)) 9 (0 * nU) = OutNext d L PV (k + 2) := by
  rw [outNext_ge d L PV (by omega : 2 ≤ k + 2), par_add_two]; rfl

theorem inFree_two {k : ℕ} : InFree (F := F) d L (par k) = InFree (F := F) d L (par (k + 1 + 1)) := by
  rw [show k + 1 + 1 = k + 2 from rfl, par_add_two]

set_option maxHeartbeats 8000000 in
/-- One turn of the loop over a tile's units. -/
theorem t1_turn (hO : ∀ g, O g none = 0) (hidx : ∀ i, (idx i).toNat < 1504) (hPV : ∀ u, u < 3744 → PairOK tab idx xs PV u) {v2 : BitVec 32} {v3 : BitVec 32} (k0_t1 : Fin k0_t1_loop.trips) (x : Unit) :
    RectInv d L tab idx xs PV O W k0_t1.val
      ⊢ wp frame (wpE (defs₀ (F := F)) 𝒱₀ (thr d L) none) Set.univ (k0_t1_body (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v2 v3 k0_t1 x) (fun _ => RectInv d L tab idx xs PV O W (k0_t1.val + 1)) := by
  have hk : k0_t1.val < 117 := lt_of_lt_of_eq k0_t1.isLt trips1
  have hw : wid L < 32 := wid_lt L
  have hu : (117 * wid L + k0_t1.val) < 3744 := by omega
  unfold k0_t1_body
  simp only [Prog.lift, Prog.bind_op, Prog.bind_ret, Prog.pure_eq_ret]
  unfold RectInv
  iintro ⟨HO, HT, HS, HI, HF, HN, HN1, HU, HD⟩
  ihave HI := (BIBase.Entails.of_eq (inNext_lt d L idx xs hk)) $$ HI
  rw [wp_bind]
  iapply (wp_pureP d L (part57_pure (F := F) L _ _ _ _))
  iintro %v
  obtain ⟨a0, a1, a2, a3, a4, a5, a6, a7, a8, a9⟩ := v
  try dsimp only
  rw [wp_bind]
  iapply (part58_spec d L tab idx xs k0_t1 hO) $$ [HO HT HS HF]
  · isplitl [HO]; · iexact HO
    isplitl [HT]; · iexact HT
    isplitl [HS]; · iexact HS
    iexact HF
  iintro %v ⟨HO, HT, HS, HI1⟩
  obtain ⟨b0, b1, b2⟩ := v
  try dsimp only
  rw [wp_bind]
  iapply (wp_pureP d L (part59_pure (F := F) L _ _ _))
  iintro %v
  obtain ⟨a0, a1, a2⟩ := v
  try dsimp only
  rw [wp_bind]
  iapply (wp_pureP d L (part60_pure (F := F) L _ _ _ _ _))
  iintro %v
  obtain ⟨a0, a1⟩ := v
  try dsimp only
  rw [wp_bind]
  iapply (wp_pureP d L (part61_pure (F := F) L _ _ _ _))
  iintro %v
  try dsimp only
  rw [wp_bind]
  iapply (part62_spec d L idx xs k0_t1 hO) $$ [HO HI]
  · isplitl [HO]; · iexact HO
    iexact HI
  iintro %v ⟨HO, HI⟩
  try dsimp only
  rw [wp_bind]
  iapply (part63_spec d L tab idx xs PV k0_t1 hO hidx (hPV _ hu)) $$ [HO HI HT HN HD]
  · isplitl [HO]; · iexact HO
    isplitl [HI]; · iexact HI
    isplitl [HT]; · iexact HT
    isplitl [HN]; · iexact HN
    iexact HD
  iintro %v ⟨HO, HF, HT, Hout, Hov, HD⟩
  obtain ⟨b0, b1⟩ := v
  try dsimp only
  rw [wp_bind]
  iapply (wp_pureP d L (part64_pure (F := F) L _ _))
  iintro %v
  obtain ⟨a0, a1, a2, a3, a4, a5, a6⟩ := v
  try dsimp only
  rw [wp_bind]
  iapply (wp_pureP d L (part65_pure (F := F) L _ _ _ _ _ _ _ _))
  iintro %v
  obtain ⟨a0, a1, a2, a3, a4, a5, a6, a7, a8⟩ := v
  try dsimp only
  rw [wp_bind]
  iapply (wp_pureP d L (part66_pure (F := F) L _ _ _ _ _ _ _ _ _ _ _))
  iintro %v
  obtain ⟨a0, a1, a2, a3, a4, a5, a6, a7⟩ := v
  try dsimp only
  rw [wp_bind]
  iapply (wp_pureP d L (part67_pure (F := F) L _ _ _ _ _ _ _ _ _ _ _ _))
  iintro %v
  obtain ⟨a0, a1, a2, a3, a4, a5, a6, a7, a8⟩ := v
  try dsimp only
  rw [wp_bind]
  iapply (wp_pureP d L (part68_pure (F := F) L _ _ _ _ _ _ _ _ _ _ _ _ _))
  iintro %v
  obtain ⟨a0, a1, a2, a3, a4, a5⟩ := v
  try dsimp only
  rw [wp_bind]
  iapply (wp_pureP d L (part69_pure (F := F) L _ _ _ _ _ _ _ _ _ _))
  iintro %v
  obtain ⟨a0, a1, a2, a3, a4⟩ := v
  try dsimp only
  rw [wp_bind]
  iapply (wp_pureP d L (part70_pure (F := F) L _ _ _ _ _ _ _ _ _))
  iintro %v
  obtain ⟨a0, a1, a2, a3⟩ := v
  try dsimp only
  rw [wp_bind]
  iapply (wp_pureP d L (part71_pure (F := F) L _ _ _ _ _ _ _ _))
  iintro %v
  try dsimp only
  rw [wp_bind]
  iapply (wp_pureP d L (part72_pure (F := F) L _ _ _ _ _))
  iintro %v
  obtain ⟨a0, a1⟩ := v
  try dsimp only
  rw [wp_bind]
  iapply (wp_pureP d L (part73_pure (F := F) L _ _ _ _ _ _))
  iintro %v
  obtain ⟨a0, a1⟩ := v
  try dsimp only
  ihave HU := (undone_step (F := F) d L hk) $$ HU
  icases HU with ⟨HE, HU⟩
  unfold unitE
  iapply (out_begin d L PV (u := (117 * wid L + k0_t1.val)) (p := par k0_t1.val)) $$ [Hout HE Hov]
  · isplitl [Hout]; · iexact Hout
    isplitl [HE]; · iexact HE
    iexact Hov
  iintro HP
  rw [wp_bind]
  iapply (part74_spec d L PV k0_t1 hu) $$ HP
  iintro %v HP
  try dsimp only
  iapply (out_st d L PV 7 (by decide) (mO_eq (par k0_t1.val) (k0_off11 k0_t1) _ (off11_val k0_t1)) (show k0_off22 k0_t1 6#32 1#32 0 = 9216 * (par k0_t1.val).val + 1024 * 7 from off22_val k0_t1 2 1) (show k0_off23 L k0_t1 2#32 1#32 0 = outOff _ 7 from off23_val L k0_t1 2 1)) $$ HP
  iintro HP
  iapply (out_st d L PV 8 (by decide) (mO_eq (par k0_t1.val) (k0_off11 k0_t1) _ (off11_val k0_t1)) (show k0_off22 k0_t1 6#32 2#32 0 = 9216 * (par k0_t1.val).val + 1024 * 8 from off22_val k0_t1 2 2) (show k0_off23 L k0_t1 2#32 2#32 0 = outOff _ 8 from off23_val L k0_t1 2 2)) $$ HP
  iintro HP
  ihave HP := (out_ready d L PV) $$ HP
  ihave HP := (BIBase.Entails.of_eq (outNext_two d L PV)) $$ HP
  ihave HT := (tabInv_succ d L tab) $$ HT
  ihave HF := (BIBase.Entails.of_eq (inFree_two (F := F) d L)) $$ HF
  iapply (wp_done d L)
  isplitl [HO]; · iexact HO
  isplitl [HT]; · iexact HT
  isplitl [HS]; · iexact HS
  isplitl [HI1]; · iexact HI1
  isplitl [HF]; · iexact HF
  isplitl [HN1]; · iexact HN1
  isplitl [HP]; · iexact HP
  isplitl [HU]; · iexact HU
  iexact HD

/-- The chunks of all units of the tile, not written yet, are what the loop starts from. -/
theorem undone_all : (bigSep Finset.univ (fun j : Fin 117 => unitE (F := F) d L (117 * wid L + j.val)) : sProp 𝕄) = Undone (F := F) d L 0 := by
  unfold Undone; rw [Transfers.pending_zero]

/-- When the loop ends all but the last two units have been waited for. -/
theorem done_end : iprop(unitW d L PV (117 * wid L + 116) ∗ unitW d L PV (117 * wid L + 115) ∗ Done d L PV 117)
    ⊢ (bigSep Finset.univ (fun j : Fin 117 => unitW d L PV (117 * wid L + j.val)) : sProp 𝕄) := by
  iintro ⟨H6, H5, HD⟩
  ihave HD := (done_step d L PV (k := 117) (by omega) (by omega)) $$ [H5 HD]
  · isplitl [H5]; · iexact H5
    iexact HD
  ihave HD := (done_step d L PV (k := 118) (by omega) (by omega)) $$ [H6 HD]
  · isplitl [H6]; · iexact H6
    iexact HD
  have h : Done d L PV (118 + 1) = (bigSep Finset.univ (fun j : Fin 117 => unitW d L PV (117 * wid L + j.val)) : sProp 𝕄) := by
    unfold Done
    congr 1
  ihave HD := (BIBase.Entails.of_eq h) $$ HD
  iexact HD

end RectC

end Cert.ScKernelIdeal
-- ==== Proof.KernelIdealDiagA.lean ====
module

public import proofs.«01_k».proof.Proof.KernelIdealRectC

@[expose] public section

noncomputable section

/-!
# The blocks on the diagonal: what the lanes load, gather and store

The three fields of a block: three pairs and the linear sum, sixteen tokens at a time.
-/

namespace Cert.ScKernelIdeal

open Cert.KernelIdeal Cert.KernelIdeal.Gen Cert.FieldTables
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch)

variable {F : FTy → Type} [FloatOps F]

local notation "𝕄" => MT nD τ sig (HIx 1) (Elt F) ℕ UU ℕ

section DiagInner

theorem off25_val : ∀ (t : Fin k0_t3_loop.trips), k0_off25 t 0 = 16 * t.val := by decide +kernel
theorem off27_val : ∀ (k : Fin k0_t4_loop.trips), k0_off27 k 0 = 4512 * k.val := by decide +kernel
theorem off29_val : ∀ (t : Fin k0_t5_loop.trips) (r : Fin 3), k0_off29 t (BitVec.ofNat 32 (1536 * r.val)) 0 = 1536 * r.val + 16 * t.val := by decide +kernel
theorem off30_val : ∀ (t : Fin k0_t5_loop.trips), k0_off30 t 0 = 1536 * 0 + 16 * t.val := by decide +kernel
theorem off31_val : ∀ (t : Fin k0_t5_loop.trips) (r : Fin 2), k0_off31 t (BitVec.ofNat 32 (1536 + 1536 * r.val)) 0 = 1536 * (r.val + 1) + 16 * t.val := by decide +kernel
theorem off32_val : ∀ (t : Fin k0_t5_loop.trips), k0_off32 t 0 = 16 * t.val := by decide +kernel

variable {α : Type} (d : Dev nD) (L : grid0.Coords)
variable (tab : Vec F S6862752 .i32) (idx : Vec F S1916928 .i32) (xs : Vec F S1916928 .f32) (w : Vec F S58656 .f32)
variable (PV : Vec F S36421632 .f32) (LB : ℕ → Vec F S49152 .f32)

/-- Sixteen consecutive tokens of the tile's row `r` of block `b`. -/
def dVec {β : Type} (f : Shape.Idx ⟨1, ![1916928]⟩ → β) (wd b r t : ℕ) : S16.Idx → β := fun l => rd (N := 1916928) f (dinOff wd b r + (16 * t + (l 0).val))
/-- Sixteen consecutive tokens of the tile's result `q` for block `b`. -/
def dresV (wd b q t : ℕ) : Vec F S16 .f32 := fun l => rd (N := 36421632) PV (doutOff wd b q + (16 * t + (l 0).val))
/-- Sixteen consecutive tokens of the tile's linear sums. -/
def lVec (f : Vec F S49152 .f32) (wd t : ℕ) : Vec F S16 .f32 := fun l => rd (N := 49152) f (1536 * wd + (16 * t + (l 0).val))
/-- The weights at sixteen places of a row that starts at `c`. -/
def gw (T : Vec F S4608 .f32) (c : ℕ) (iv : Vec F S16 .i32) : Vec F S16 .f32 := fun l => rd (N := 4608) T (c + (iv l).toNat)

/-- The tile's results for a block, in place for the first `t` groups of sixteen tokens and for the first `q` pairs of the next. -/
def DOutProg (wd b t q : ℕ) (f : Vec F S18432 .f32) : Prop :=
  ∀ i : Shape.Idx ⟨1, ![18432]⟩, (i 0).val < 4608 →
    ((i 0).val % 1536 < 16 * t ∨ ((i 0).val % 1536 < 16 * (t + 1) ∧ (i 0).val / 1536 < q)) → f i = docC PV wd b i
/-- The tile's linear sums: those of `b + 1` blocks for the first `t` groups of sixteen tokens, of `b` blocks for the others. -/
def LinProg (wd b t : ℕ) (g : Vec F S1536 .f32) : Prop :=
  ∀ i : Shape.Idx ⟨1, ![1536]⟩, ((i 0).val < 16 * t → g i = linC (LB (b + 1)) wd i) ∧ (16 * t ≤ (i 0).val → g i = linC (LB b) wd i)

/-- What the loop over a block's tokens holds. -/
def DInn (wd b t q : ℕ) : sProp 𝕄 :=
  iprop((sI.view.loc (thr d L) ↦[seg (N := 12288) 0 4608]{fullShare} dchunkC idx wd b)
    ∗ (sX.view.loc (thr d L) ↦[seg (N := 12288) 0 4608]{fullShare} dchunkC xs wd b)
    ∗ (sT.view.loc (thr d L) ↦[seg (N := 81280) 0 27072]{fullShare} dtabC tab b)
    ∗ (sW.view.loc (thr d L) ↦[seg (N := 4608) 0 4512]{fullShare} dwC w b)
    ∗ (∃ f, ⌜DOutProg PV wd b t q f⌝ ∗ sO.view.loc (thr d L) ↦[seg (N := 18432) 0 4608]{fullShare} f)
    ∗ (∃ g, ⌜LinProg LB wd b t g⌝ ∗ sL.view.loc (thr d L) ↦[seg (N := 1536) 0 1536]{fullShare} g))

theorem dchunkC_at {β : Type} (f : Shape.Idx ⟨1, ![1916928]⟩ → β) {wd b r n : ℕ} {i : Shape.Idx ⟨1, ![12288]⟩} (hn : n < 1536)
    (h : (i 0).val = 1536 * r + n) : dchunkC f wd b i = rd (N := 1916928) f (dinOff wd b r + n) := by
  unfold dchunkC
  have h1 : (i 0).val / 1536 = r := by omega
  have h2 : (i 0).val % 1536 = n := by omega
  rw [h1, h2]

variable {d L tab idx xs w PV LB}

theorem dld_i {wd b t q : ℕ} (r : ℕ) (hr : r < 3) (ht : t < 96) {off : Fin 1 → ℕ} {inb} {hl}
    (ho : off 0 = 1536 * r + 16 * t)
    {k : (Vec F S16 .i32) → Prog (TpuEff nD τ sig (Elt F) Λ₀ (thr d L).2) α} {Q : α → sProp 𝕄} :
    DInn d L tab idx xs w PV LB wd b t q ⊢ iprop((DInn d L tab idx xs w PV LB wd b t q -∗ wp frame (wpE (defs₀ (F := F)) 𝒱₀ (thr d L) none) Set.univ (k (dVec idx wd b r t)) Q)
          -∗ wp frame (wpE (defs₀ (F := F)) 𝒱₀ (thr d L) none) Set.univ (.op (.load sI (Rect.unit (s := S12288) off S16.size inb).toLoadRect hl) k) Q) := by
  unfold DInn
  iintro ⟨HI, HX, HT, HW, HO, HL⟩ Hk
  iapply (ld d L (m := sI) (off := off) (inb := inb) (w := dVec idx wd b r t) (f := dchunkC idx wd b)
    (by rw [View.set_slice_whole]; exact acc_sub (by omega) (by omega))
    (by
      funext l
      have hl : (l 0).val < 16 := (l 0).isLt
      exact dchunkC_at idx (wd := wd) (b := b) (n := 16 * t + (l 0).val) (i := (Rect.unit (s := S12288) off S16.size inb).emb l) (by omega)
        (by rw [unit_emb (N := 12288) (m := 16)]; omega))) $$ HI
  iintro HI
  iapply Hk
  isplitl [HI]; · iexact HI
  isplitl [HX]; · iexact HX
  isplitl [HT]; · iexact HT
  isplitl [HW]; · iexact HW
  isplitl [HO]; · iexact HO
  iexact HL

theorem dld_x {wd b t q : ℕ} (r : ℕ) (hr : r < 3) (ht : t < 96) {off : Fin 1 → ℕ} {inb} {hl}
    (ho : off 0 = 1536 * r + 16 * t)
    {k : (Vec F S16 .f32) → Prog (TpuEff nD τ sig (Elt F) Λ₀ (thr d L).2) α} {Q : α → sProp 𝕄} :
    DInn d L tab idx xs w PV LB wd b t q ⊢ iprop((DInn d L tab idx xs w PV LB wd b t q -∗ wp frame (wpE (defs₀ (F := F)) 𝒱₀ (thr d L) none) Set.univ (k (dVec xs wd b r t)) Q)
          -∗ wp frame (wpE (defs₀ (F := F)) 𝒱₀ (thr d L) none) Set.univ (.op (.load sX (Rect.unit (s := S12288) off S16.size inb).toLoadRect hl) k) Q) := by
  unfold DInn
  iintro ⟨HI, HX, HT, HW, HO, HL⟩ Hk
  iapply (ld d L (m := sX) (off := off) (inb := inb) (w := dVec xs wd b r t) (f := dchunkC xs wd b)
    (by rw [View.set_slice_whole]; exact acc_sub (by omega) (by omega))
    (by
      funext l
      have hl : (l 0).val < 16 := (l 0).isLt
      exact dchunkC_at xs (wd := wd) (b := b) (n := 16 * t + (l 0).val) (i := (Rect.unit (s := S12288) off S16.size inb).emb l) (by omega)
        (by rw [unit_emb (N := 12288) (m := 16)]; omega))) $$ HX
  iintro HX
  iapply Hk
  isplitl [HI]; · iexact HI
  isplitl [HX]; · iexact HX
  isplitl [HT]; · iexact HT
  isplitl [HW]; · iexact HW
  isplitl [HO]; · iexact HO
  iexact HL

/-- The old results are loaded before they are written over; any value will do. -/
theorem dld_o {wd b t q : ℕ} (r : ℕ) (hr : r < 3) (ht : t < 96) {off : Fin 1 → ℕ} {inb} {hl}
    (ho : off 0 = 1536 * r + 16 * t)
    {k : (Vec F S16 .f32) → Prog (TpuEff nD τ sig (Elt F) Λ₀ (thr d L).2) α} {Q : α → sProp 𝕄} :
    DInn d L tab idx xs w PV LB wd b t q ⊢ iprop((∀ v, DInn d L tab idx xs w PV LB wd b t q -∗ wp frame (wpE (defs₀ (F := F)) 𝒱₀ (thr d L) none) Set.univ (k v) Q)
          -∗ wp frame (wpE (defs₀ (F := F)) 𝒱₀ (thr d L) none) Set.univ (.op (.load sO (Rect.unit (s := S18432) off S16.size inb).toLoadRect hl) k) Q) := by
  unfold DInn
  iintro ⟨HI, HX, HT, HW, ⟨%f, %hf, HO⟩, HL⟩ Hk
  iapply (ld d L (m := sO) (off := off) (inb := inb) (f := f)
    (by rw [View.set_slice_whole]; exact acc_sub (by omega) (by omega)) rfl) $$ HO
  iintro HO
  iapply Hk
  isplitl [HI]; · iexact HI
  isplitl [HX]; · iexact HX
  isplitl [HT]; · iexact HT
  isplitl [HW]; · iexact HW
  isplitl [HO]
  · iexists f
    isplitr; · ipureintro; exact hf
    iexact HO
  iexact HL

theorem linC_at {f : Vec F S49152 .f32} {wd n : ℕ} {i : Shape.Idx ⟨1, ![1536]⟩} (h : (i 0).val = n) : linC f wd i = rd (N := 49152) f (1536 * wd + n) := by
  unfold linC; rw [h]

/-- The linear sums of the blocks before. -/
theorem dld_l {wd b t q : ℕ} (ht : t < 96) {off : Fin 1 → ℕ} {inb} {hl}
    (ho : off 0 = 16 * t)
    {k : (Vec F S16 .f32) → Prog (TpuEff nD τ sig (Elt F) Λ₀ (thr d L).2) α} {Q : α → sProp 𝕄} :
    DInn d L tab idx xs w PV LB wd b t q ⊢ iprop((DInn d L tab idx xs w PV LB wd b t q -∗ wp frame (wpE (defs₀ (F := F)) 𝒱₀ (thr d L) none) Set.univ (k (lVec (LB b) wd t)) Q)
          -∗ wp frame (wpE (defs₀ (F := F)) 𝒱₀ (thr d L) none) Set.univ (.op (.load sL (Rect.unit (s := S1536) off S16.size inb).toLoadRect hl) k) Q) := by
  unfold DInn
  iintro ⟨HI, HX, HT, HW, HO, ⟨%g, %hg, HL⟩⟩ Hk
  iapply (ld d L (m := sL) (off := off) (inb := inb) (w := lVec (LB b) wd t) (f := g)
    (by rw [View.set_slice_whole]; exact acc_sub (by omega) (by omega))
    (by
      funext l
      have hl : (l 0).val < 16 := (l 0).isLt
      have he := unit_emb (N := 1536) (m := 16) off inb l
      exact ((hg ((Rect.unit (s := S1536) off S16.size inb).emb l)).2 (by rw [he]; omega)).trans
        (linC_at (by rw [he, ho])))) $$ HL
  iintro HL
  iapply Hk
  isplitl [HI]; · iexact HI
  isplitl [HX]; · iexact HX
  isplitl [HT]; · iexact HT
  isplitl [HW]; · iexact HW
  isplitl [HO]; · iexact HO
  iexists g
  isplitr; · ipureintro; exact hg
  iexact HL

/-- A gather of sixteen words out of the block's tables. -/
theorem dgath {wd b t q : ℕ} {c : ℕ} (hc : c + 1504 ≤ 27072) {inb} {hr} {iv : Vec F S16 .i32} {hx} {hl}
    {k : (Vec F S16 .i32) → Prog (TpuEff nD τ sig (Elt F) Λ₀ (thr d L).2) α} {Q : α → sProp 𝕄} :
    DInn d L tab idx xs w PV LB wd b t q ⊢ iprop((DInn d L tab idx xs w PV LB wd b t q -∗ wp frame (wpE (defs₀ (F := F)) 𝒱₀ (thr d L) none) Set.univ (k (gv (dtabC tab b) c iv)) Q)
          -∗ wp frame (wpE (defs₀ (F := F)) 𝒱₀ (thr d L) none) Set.univ (SparseCore.vectorLoadIdx (sT.slice (Rect.unit (s := S81280) ![c] S1504.size inb) hr) ![iv] hx hl >>= k) Q) := by
  have hw : loadIdx (((sT.slice (Rect.unit (s := S81280) ![c] S1504.size inb) hr).access (Rect.whole S1504)).read (Elt F) (dtabC tab b)) ![iv] hx
      = gv (dtabC tab b) c iv := by
    funext l
    have h1 : (iv l).toNat < 1504 := hx 0 l
    unfold gv
    refine Eq.symm (rd_val (N := 81280) (dtabC tab b) ((Rect.unit (s := S81280) ![c] S1504.size inb).emb ((Rect.whole S1504).emb (idxAt ![iv] hx l))) ?_)
    rw [unit_emb (N := 81280) (m := 1504)]
    show c + (0 + 1 * (iv l).toNat) = _
    omega
  have hS : ((sT.slice (Rect.unit (s := S81280) ![c] S1504.size inb) hr).access (Rect.whole S1504)).set ⊆ (seg (N := 81280) 0 27072) := by
    refine (View.set_slice_subset _ _).trans ?_
    show ((View.whole _).slice _).set ⊆ _
    rw [View.set_slice_whole]
    intro i hi
    have h1 := mem_seg.mp ((Finset.ext_iff.mp (unit_set (N := 81280) (m := 1504) ![c] inb) i).mp hi)
    have e : (![c] : Fin 1 → ℕ) 0 = c := rfl
    rw [e] at h1
    exact mem_seg.mpr ⟨Nat.zero_le _, by omega⟩
  rw [← hw]
  unfold DInn
  iintro ⟨HI, HX, HT, HW, HO, HL⟩ Hk
  iapply (SparseCore.wp_vectorLoadIdx 𝒱₀ (thr d L) none Set.univ (f := (dtabC tab b)) (q := fullShare) (S := seg (N := 81280) 0 27072)
    (base := sT.slice (Rect.unit (s := S81280) ![c] S1504.size inb) hr) (idxs := ![iv]) (h := hx) (hl := hl) (k := k) hS) $$ HT
  iintro HT
  iapply Hk
  isplitl [HI]; · iexact HI
  isplitl [HX]; · iexact HX
  isplitl [HT]; · iexact HT
  isplitl [HW]; · iexact HW
  isplitl [HO]; · iexact HO
  iexact HL

/-- A gather of sixteen weights. -/
theorem dgathw {wd b t q : ℕ} {c : ℕ} (hc : c + 1504 ≤ 4512) {inb} {hr} {iv : Vec F S16 .i32} {hx} {hl}
    {k : (Vec F S16 .f32) → Prog (TpuEff nD τ sig (Elt F) Λ₀ (thr d L).2) α} {Q : α → sProp 𝕄} :
    DInn d L tab idx xs w PV LB wd b t q ⊢ iprop((DInn d L tab idx xs w PV LB wd b t q -∗ wp frame (wpE (defs₀ (F := F)) 𝒱₀ (thr d L) none) Set.univ (k (gw (dwC w b) c iv)) Q)
          -∗ wp frame (wpE (defs₀ (F := F)) 𝒱₀ (thr d L) none) Set.univ (SparseCore.vectorLoadIdx (sW.slice (Rect.unit (s := S4608) ![c] S1504.size inb) hr) ![iv] hx hl >>= k) Q) := by
  have hw : loadIdx (((sW.slice (Rect.unit (s := S4608) ![c] S1504.size inb) hr).access (Rect.whole S1504)).read (Elt F) (dwC w b)) ![iv] hx
      = gw (dwC w b) c iv := by
    funext l
    have h1 : (iv l).toNat < 1504 := hx 0 l
    unfold gw
    refine Eq.symm (rd_val (N := 4608) (dwC w b) ((Rect.unit (s := S4608) ![c] S1504.size inb).emb ((Rect.whole S1504).emb (idxAt ![iv] hx l))) ?_)
    rw [unit_emb (N := 4608) (m := 1504)]
    show c + (0 + 1 * (iv l).toNat) = _
    omega
  have hS : ((sW.slice (Rect.unit (s := S4608) ![c] S1504.size inb) hr).access (Rect.whole S1504)).set ⊆ (seg (N := 4608) 0 4512) := by
    refine (View.set_slice_subset _ _).trans ?_
    show ((View.whole _).slice _).set ⊆ _
    rw [View.set_slice_whole]
    intro i hi
    have h1 := mem_seg.mp ((Finset.ext_iff.mp (unit_set (N := 4608) (m := 1504) ![c] inb) i).mp hi)
    have e : (![c] : Fin 1 → ℕ) 0 = c := rfl
    rw [e] at h1
    exact mem_seg.mpr ⟨Nat.zero_le _, by omega⟩
  rw [← hw]
  unfold DInn
  iintro ⟨HI, HX, HT, HW, HO, HL⟩ Hk
  iapply (SparseCore.wp_vectorLoadIdx 𝒱₀ (thr d L) none Set.univ (f := (dwC w b)) (q := fullShare) (S := seg (N := 4608) 0 4512)
    (base := sW.slice (Rect.unit (s := S4608) ![c] S1504.size inb) hr) (idxs := ![iv]) (h := hx) (hl := hl) (k := k) hS) $$ HW
  iintro HW
  iapply Hk
  isplitl [HI]; · iexact HI
  isplitl [HX]; · iexact HX
  isplitl [HT]; · iexact HT
  isplitl [HW]; · iexact HW
  isplitl [HO]; · iexact HO
  iexact HL

theorem doutProg_step {wd b t q : ℕ} (hq : q < 3) (ht : t < 96) {off : Fin 1 → ℕ} {inb}
    (ho : off 0 = 1536 * q + 16 * t) {f : Vec F S18432 .f32} (hf : DOutProg PV wd b t q f) :
    DOutProg PV wd b t (q + 1) ((sO.access (Rect.unit (s := S18432) off S16.size inb)).write (Elt F) f (dresV PV wd b q t) Finset.univ) := by
  intro i h2 h3
  by_cases hi : 1536 * q + 16 * t ≤ (i 0).val ∧ (i 0).val < 1536 * q + 16 * t + 16
  · obtain ⟨ha, hb⟩ := hi
    let x : S16.Idx := fun a => ⟨(i 0).val - (1536 * q + 16 * t), by rw [Fin.eq_zero a]; show _ < 16; omega⟩
    have hx : (x 0).val = (i 0).val - (1536 * q + 16 * t) := rfl
    have e : (Rect.unit (s := S18432) off S16.size inb).emb x = i := by
      funext a
      have := Fin.eq_zero a; subst this
      apply Fin.ext
      rw [unit_emb (N := 18432) (m := 16), hx, ho]; omega
    have e2 : (sO.access (Rect.unit (s := S18432) off S16.size inb)).emb x = i := e
    rw [← e2, View.write_emb_of_mem _ _ (Finset.mem_univ x), e2]
    show rd PV (doutOff wd b q + (16 * t + (x 0).val)) = rd PV (doutOff wd b ((i 0).val / 1536) + (i 0).val % 1536)
    have g1 : (i 0).val / 1536 = q := by omega
    have g2 : (i 0).val % 1536 = 16 * t + (x 0).val := by rw [hx]; omega
    rw [g1, g2]
  · rw [View.write_of_not_mem]
    · apply hf i h2
      rcases h3 with h3 | ⟨h3, h4⟩
      · exact Or.inl h3
      · by_cases h5 : (i 0).val % 1536 < 16 * t
        · exact Or.inl h5
        · refine Or.inr ⟨h3, ?_⟩
          by_contra h6
          apply hi
          omega
    · rw [View.setOn_univ, View.set_slice_whole]
      intro hm
      have := (unit_set (N := 18432) (m := 16) off inb) ▸ hm
      rw [mem_seg] at this
      apply hi; omega

/-- A store of sixteen results. -/
theorem dst_o {wd b t q : ℕ} (hq : q < 3) (ht : t < 96) {off : Fin 1 → ℕ} {inb : ∀ a, off a + S16.size a ≤ S18432.size a} {v : Vec F S16 .f32} {hx} {hm}
    (ho : off 0 = 1536 * q + 16 * t) (hv : v = dresV PV wd b q t)
    {k : PUnit → Prog (TpuEff nD τ sig (Elt F) Λ₀ (thr d L).2) α} {Q : α → sProp 𝕄} :
    DInn d L tab idx xs w PV LB wd b t q ⊢ iprop((DInn d L tab idx xs w PV LB wd b t (q + 1) -∗ wp frame (wpE (defs₀ (F := F)) 𝒱₀ (thr d L) none) Set.univ (k ⟨⟩) Q)
          -∗ wp frame (wpE (defs₀ (F := F)) 𝒱₀ (thr d L) none) Set.univ (.op (.store sO (Rect.unit (s := S18432) off S16.size inb) v Finset.univ hx hm) k) Q) := by
  subst hv
  unfold DInn
  iintro ⟨HI, HX, HT, HW, ⟨%f, %hf, HO⟩, HL⟩ Hk
  iapply (wp_store 𝒱₀ (thr d L) none Set.univ (m := sO) (r := Rect.unit (s := S18432) off S16.size inb) (f := f)
    (S := seg (N := 18432) 0 4608) (by
      rw [View.setOn_univ, View.set_slice_whole]; exact acc_sub (by omega) (by omega))) $$ HO
  iintro HO
  iapply Hk
  isplitl [HI]; · iexact HI
  isplitl [HX]; · iexact HX
  isplitl [HT]; · iexact HT
  isplitl [HW]; · iexact HW
  isplitl [HO]
  · iexists ((sO.access (Rect.unit (s := S18432) off S16.size inb)).write (Elt F) f (dresV PV wd b q t) Finset.univ)
    isplitr; · ipureintro; exact doutProg_step hq ht ho hf
    iexact HO
  iexact HL

/-- A store of sixteen linear sums, seen place by place. -/
theorem lin_write {G : Vec F S49152 .f32} {wd t : ℕ} {off : Fin 1 → ℕ} {inb} (ho : off 0 = 16 * t) (ht : t < 96)
    {g : Vec F S1536 .f32} (i : Shape.Idx ⟨1, ![1536]⟩) :
    (16 * t ≤ (i 0).val → (i 0).val < 16 * (t + 1) → (sL.access (Rect.unit (s := S1536) off S16.size inb)).write (Elt F) g (lVec G wd t) Finset.univ i = linC G wd i)
    ∧ (¬ (16 * t ≤ (i 0).val ∧ (i 0).val < 16 * (t + 1)) → (sL.access (Rect.unit (s := S1536) off S16.size inb)).write (Elt F) g (lVec G wd t) Finset.univ i = g i) := by
  constructor
  · intro ha hb
    let x : S16.Idx := fun a => ⟨(i 0).val - 16 * t, by rw [Fin.eq_zero a]; show _ < 16; omega⟩
    have hx : (x 0).val = (i 0).val - 16 * t := rfl
    have e : (Rect.unit (s := S1536) off S16.size inb).emb x = i := by
      funext a
      have := Fin.eq_zero a; subst this
      apply Fin.ext
      rw [unit_emb (N := 1536) (m := 16), hx, ho]; omega
    have e2 : (sL.access (Rect.unit (s := S1536) off S16.size inb)).emb x = i := e
    rw [← e2, View.write_emb_of_mem _ _ (Finset.mem_univ x), e2]
    exact (linC_at (by rw [hx]; omega)).symm
  · intro hi
    rw [View.write_of_not_mem]
    rw [View.setOn_univ, View.set_slice_whole]
    intro hm
    have := (unit_set (N := 1536) (m := 16) off inb) ▸ hm
    rw [mem_seg] at this
    apply hi; omega

/-- The store of sixteen linear sums ends a group of sixteen tokens. -/
theorem dst_l {wd b t : ℕ} (ht : t < 96) {off : Fin 1 → ℕ} {inb : ∀ a, off a + S16.size a ≤ S1536.size a} {v : Vec F S16 .f32} {hx} {hm}
    (ho : off 0 = 16 * t) (hv : v = lVec (LB (b + 1)) wd t)
    {k : PUnit → Prog (TpuEff nD τ sig (Elt F) Λ₀ (thr d L).2) α} {Q : α → sProp 𝕄} :
    DInn d L tab idx xs w PV LB wd b t 3 ⊢ iprop((DInn d L tab idx xs w PV LB wd b (t + 1) 0 -∗ wp frame (wpE (defs₀ (F := F)) 𝒱₀ (thr d L) none) Set.univ (k ⟨⟩) Q)
          -∗ wp frame (wpE (defs₀ (F := F)) 𝒱₀ (thr d L) none) Set.univ (.op (.store sL (Rect.unit (s := S1536) off S16.size inb) v Finset.univ hx hm) k) Q) := by
  subst hv
  unfold DInn
  iintro ⟨HI, HX, HT, HW, ⟨%f, %hf, HO⟩, ⟨%g, %hg, HL⟩⟩ Hk
  iapply (wp_store 𝒱₀ (thr d L) none Set.univ (m := sL) (r := Rect.unit (s := S1536) off S16.size inb) (f := g)
    (S := seg (N := 1536) 0 1536) (by
      rw [View.setOn_univ, View.set_slice_whole]; exact acc_sub (by omega) (by omega))) $$ HL
  iintro HL
  iapply Hk
  isplitl [HI]; · iexact HI
  isplitl [HX]; · iexact HX
  isplitl [HT]; · iexact HT
  isplitl [HW]; · iexact HW
  isplitl [HO]
  · iexists f
    isplitr
    · ipureintro
      intro i h1 h2
      refine hf i h1 ?_
      rcases h2 with h2 | ⟨-, h2⟩
      · exact Or.inr ⟨h2, by omega⟩
      · omega
    iexact HO
  iexists ((sL.access (Rect.unit (s := S1536) off S16.size inb)).write (Elt F) g (lVec (LB (b + 1)) wd t) Finset.univ)
  isplitr
  · ipureintro
    intro i
    obtain ⟨h1, h2⟩ := lin_write (G := LB (b + 1)) (wd := wd) (inb := inb) ho ht (g := g) i
    constructor
    · intro h
      by_cases h3 : 16 * t ≤ (i 0).val
      · exact h1 h3 (by omega)
      · rw [h2 (fun h => h3 h.1)]; exact (hg i).1 (by omega)
    · intro h
      rw [h2 (by omega)]; exact (hg i).2 (by omega)
  iexact HL

/-- The lanes loaded as indices are indices. -/
theorem dVec_lt (h : ∀ i, (idx i).toNat < 1504) (wd b r t : ℕ) : ∀ (a : Fin 1) (x : S16.Idx), ((![dVec idx wd b r t] : Fin 1 → IVec S16 32) a x).toNat < S1504.size a := by
  intro a x
  have := Fin.eq_zero a; subst this
  exact h _

/-- The stated pair result agrees, on the tile's chunk of block `b`, with what the lanes compute. -/
def DPairOK (tab : Vec F S6862752 .i32) (idx : Vec F S1916928 .i32) (xs : Vec F S1916928 .f32) (PV : Vec F S36421632 .f32) (wd b : ℕ) : Prop := ∀ q < 3, ∀ t < 96, dresV PV wd b q t =
  pairV (dVec xs wd b (dfst (2 * q)) t) (dVec xs wd b (dsnd (2 * q)) t)
    (gv (dtabC tab b) (9024 * q) (dVec idx wd b (dfst (2 * q)) t)) (gv (dtabC tab b) (9024 * q + 1504) (dVec idx wd b (dfst (2 * q)) t))
    (gv (dtabC tab b) (9024 * q + 3008) (dVec idx wd b (dfst (2 * q)) t))
    (gv (dtabC tab b) (9024 * q + 4512) (dVec idx wd b (dsnd (2 * q)) t)) (gv (dtabC tab b) (9024 * q + 6016) (dVec idx wd b (dsnd (2 * q)) t))
    (gv (dtabC tab b) (9024 * q + 7520) (dVec idx wd b (dsnd (2 * q)) t))
/-- The stated linear sums after each block agree with what the lanes add. -/
def LinOK (idx : Vec F S1916928 .i32) (xs : Vec F S1916928 .f32) (w : Vec F S58656 .f32) (LB : ℕ → Vec F S49152 .f32) (wd b : ℕ) : Prop := ∀ t < 96, lVec (LB (b + 1)) wd t =
  k0_pay157 (dVec xs wd b 2 t) (k0_pay156 (dVec xs wd b 0 t) (dVec xs wd b 1 t) (lVec (LB b) wd t) (gw (dwC w b) 0 (dVec idx wd b 0 t)) (gw (dwC w b) 1504 (dVec idx wd b 1 t)))
    (gw (dwC w b) 3008 (dVec idx wd b 2 t))

variable (d L tab idx xs w PV LB)

theorem chk7_of {v : IVec S16 32} (h : ∀ (a : Fin 1) (x : S16.Idx), ((![v] : Fin 1 → IVec S16 32) a x).toNat < S1504.size a) : k0_chk7 v := by
  unfold k0_chk7; simp only [and_self]; exact h

theorem chk8_of {v : IVec S16 32} (h : ∀ (a : Fin 1) (x : S16.Idx), ((![v] : Fin 1 → IVec S16 32) a x).toNat < S1504.size a) : k0_chk8 v := by
  unfold k0_chk8; simp only [and_self]; exact h

theorem chk9_of {v : IVec S16 32} (h : ∀ (a : Fin 1) (x : S16.Idx), ((![v] : Fin 1 → IVec S16 32) a x).toNat < S1504.size a) : k0_chk9 v := by
  unfold k0_chk9; simp only [and_self]; exact h

set_option maxHeartbeats 4000000 in
/-- A part of the loop over a block's tokens. -/
theorem part75_spec (k0_t5 : Fin k0_t5_loop.trips) {wd b : ℕ} (hidx : ∀ i, (idx i).toNat < 1504) {c0_i32_592 : BitVec 32} {c1_i32_594 : BitVec 32}
    {Q : _ → sProp 𝕄} :
    iprop(DInn d L tab idx xs w PV LB wd b k0_t5.val 0) ⊢ iprop(((DInn d L tab idx xs w PV LB wd b k0_t5.val 0) -∗ Q ⟨(Scalar.addi 0#32 (Scalar.muli (Scf.iv c0_i32_592 c1_i32_594 k0_t5) 16#32)), (dVec idx wd b 0 k0_t5.val), (chk7_of (dVec_lt hidx wd b 0 k0_t5.val)), (dVec idx wd b 1 k0_t5.val), (chk8_of (dVec_lt hidx wd b 1 k0_t5.val)), (dVec idx wd b 2 k0_t5.val), (chk9_of (dVec_lt hidx wd b 2 k0_t5.val)), (dVec xs wd b 0 k0_t5.val), (dVec xs wd b 1 k0_t5.val), (dVec xs wd b 2 k0_t5.val), k0_pay118 (gv (dtabC tab b) 0 (dVec idx wd b 0 k0_t5.val)), k0_pay119 (gv (dtabC tab b) 0 (dVec idx wd b 0 k0_t5.val)), k0_pay120 (gv (dtabC tab b) 0 (dVec idx wd b 0 k0_t5.val)), k0_pay121 (gv (dtabC tab b) 0 (dVec idx wd b 0 k0_t5.val))⟩) -∗ wp frame (wpE (defs₀ (F := F)) 𝒱₀ (thr d L) none) Set.univ (k0_part75 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 c0_i32_592 c1_i32_594 k0_t5) Q) := by
  rw [k0_part75_eq_skeleton]
  unfold k0_part75_skel
  simp only [Prog.lift, Prog.bind_op, Prog.bind_ret, Prog.pure_eq_ret]
  iintro H Hk
  iapply (dld_i 0 (by decide) (lt_of_lt_of_eq k0_t5.isLt trips5) (show k0_off29 k0_t5 0#32 0 = _ from off29_val k0_t5 0)) $$ H
  iintro H
  rw [wp_assume_of 𝒱₀ (thr d L) none Set.univ (chk7_of (dVec_lt hidx wd b 0 k0_t5.val))]
  iapply (dld_i 1 (by decide) (lt_of_lt_of_eq k0_t5.isLt trips5) (show k0_off29 k0_t5 1536#32 0 = _ from off29_val k0_t5 1)) $$ H
  iintro H
  rw [wp_assume_of 𝒱₀ (thr d L) none Set.univ (chk8_of (dVec_lt hidx wd b 1 k0_t5.val))]
  iapply (dld_i 2 (by decide) (lt_of_lt_of_eq k0_t5.isLt trips5) (show k0_off29 k0_t5 3072#32 0 = _ from off29_val k0_t5 2)) $$ H
  iintro H
  rw [wp_assume_of 𝒱₀ (thr d L) none Set.univ (chk9_of (dVec_lt hidx wd b 2 k0_t5.val))]
  iapply (dld_x 0 (by decide) (lt_of_lt_of_eq k0_t5.isLt trips5) (show k0_off29 k0_t5 0#32 0 = _ from off29_val k0_t5 0)) $$ H
  iintro H
  iapply (dld_x 1 (by decide) (lt_of_lt_of_eq k0_t5.isLt trips5) (show k0_off29 k0_t5 1536#32 0 = _ from off29_val k0_t5 1)) $$ H
  iintro H
  iapply (dld_x 2 (by decide) (lt_of_lt_of_eq k0_t5.isLt trips5) (show k0_off29 k0_t5 3072#32 0 = _ from off29_val k0_t5 2)) $$ H
  iintro H
  iapply (dgath (c := 0) (by decide) (hl := View.loads_vmem h_S1504)) $$ H
  iintro H
  iapply (wp_done d L)
  iapply Hk
  iexact H

set_option maxHeartbeats 4000000 in
/-- A part of the loop over a block's tokens. -/
theorem part76_spec  {wd b : ℕ} {t : ℕ} {v1363 : Vec F S16 .i32} {k0_hw7 : k0_chk7 v1363} {v1366 : Vec F S16 .i32} {k0_hw8 : k0_chk8 v1366} {v1384 : IVec S16 32} {v1388 : IVec S16 32} {v1392 : IVec S16 32} {v1396 : IVec S16 32}
    {Q : _ → sProp 𝕄} :
    iprop(DInn d L tab idx xs w PV LB wd b t 0) ⊢ iprop(((DInn d L tab idx xs w PV LB wd b t 0) -∗ Q ⟨k0_pay122 v1384 v1388 (gv (dtabC tab b) 4512 v1366), k0_pay123 v1392 v1396 (gv (dtabC tab b) 4512 v1366), (gv (dtabC tab b) 1504 v1363), k0_pay124 (gv (dtabC tab b) 1504 v1363), k0_pay125 (gv (dtabC tab b) 1504 v1363), 8#32⟩) -∗ wp frame (wpE (defs₀ (F := F)) 𝒱₀ (thr d L) none) Set.univ (k0_part76 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1363 k0_hw7 v1366 k0_hw8 v1384 v1388 v1392 v1396) Q) := by
  rw [k0_part76_eq_skeleton]
  unfold k0_part76_skel
  simp only [Prog.lift, Prog.bind_op, Prog.bind_ret, Prog.pure_eq_ret]
  iintro H Hk
  iapply (dgath (c := 4512) (by decide) (hl := View.loads_vmem h_S1504)) $$ H
  iintro H
  iapply (dgath (c := 1504) (by decide) (hl := View.loads_vmem h_S1504)) $$ H
  iintro H
  iapply (wp_done d L)
  iapply Hk
  iexact H

set_option maxHeartbeats 4000000 in
/-- A part of the loop over a block's tokens. -/
theorem part77_spec  {wd b : ℕ} {t : ℕ} {v1366 : Vec F S16 .i32} {k0_hw8 : k0_chk8 v1366} {v1421 : IVec S16 32} {v1428 : IVec S16 32} {v1430 : Vec F S16 .i32} {v1434 : IVec S16 32} {v1438 : IVec S16 32} {c8_i32_690 : BitVec 32}
    {Q : _ → sProp 𝕄} :
    iprop(DInn d L tab idx xs w PV LB wd b t 0) ⊢ iprop(((DInn d L tab idx xs w PV LB wd b t 0) -∗ Q ((k0_pay126 v1421 v1428 v1430 v1434 v1438 c8_i32_690 (gv (dtabC tab b) 6016 v1366)))) -∗ wp frame (wpE (defs₀ (F := F)) 𝒱₀ (thr d L) none) Set.univ (k0_part77 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1366 k0_hw8 v1421 v1428 v1430 v1434 v1438 c8_i32_690) Q) := by
  rw [k0_part77_eq_skeleton]
  unfold k0_part77_skel
  simp only [Prog.lift, Prog.bind_op, Prog.bind_ret, Prog.pure_eq_ret]
  iintro H Hk
  iapply (dgath (c := 6016) (by decide) (hl := View.loads_vmem h_S1504)) $$ H
  iintro H
  iapply (wp_done d L)
  iapply Hk
  iexact H

set_option maxHeartbeats 4000000 in
/-- A part of the loop over a block's tokens. -/
theorem part78_spec (k0_t5 : Fin k0_t5_loop.trips) {wd b : ℕ} {v1360 : BitVec 32} {v1363 : Vec F S16 .i32} {k0_hw7 : k0_chk7 v1363} {v1366 : Vec F S16 .i32} {k0_hw8 : k0_chk8 v1366} {v1369 : Vec F S16 .i32} {k0_hw9 : k0_chk9 v1369} {v1372 : Vec F S16 .f32} {v1375 : Vec F S16 .f32} {v1482 : FVec F S16 .f32}
    {Q : _ → sProp 𝕄} :
    iprop(⌜(k0_pay127 v1372 v1375 v1482 (gv (dtabC tab b) 3008 v1363) (gv (dtabC tab b) 7520 v1366)) = dresV PV wd b 0 k0_t5.val⌝ ∗ DInn d L tab idx xs w PV LB wd b k0_t5.val 0) ⊢ iprop(((DInn d L tab idx xs w PV LB wd b k0_t5.val 1) -∗ Q ⟨k0_pay128 (gv (dtabC tab b) 9024 v1363), k0_pay129 (gv (dtabC tab b) 9024 v1363), k0_pay130 (gv (dtabC tab b) 9024 v1363), k0_pay131 (gv (dtabC tab b) 9024 v1363), (gv (dtabC tab b) 13536 v1369), k0_pay132 (gv (dtabC tab b) 13536 v1369), k0_pay133 (gv (dtabC tab b) 13536 v1369), 8#32⟩) -∗ wp frame (wpE (defs₀ (F := F)) 𝒱₀ (thr d L) none) Set.univ (k0_part78 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t5 v1360 v1363 k0_hw7 v1366 k0_hw8 v1369 k0_hw9 v1372 v1375 v1482) Q) := by
  rw [k0_part78_eq_skeleton]
  unfold k0_part78_skel
  simp only [Prog.lift, Prog.bind_op, Prog.bind_ret, Prog.pure_eq_ret]
  iintro ⟨%hv, H⟩ Hk
  iapply (dgath (c := 3008) (by decide) (hl := View.loads_vmem h_S1504)) $$ H
  iintro H
  iapply (dgath (c := 7520) (by decide) (hl := View.loads_vmem h_S1504)) $$ H
  iintro H
  iapply (dld_o 0 (by decide) (lt_of_lt_of_eq k0_t5.isLt trips5) (off30_val k0_t5)) $$ H
  iintro %v H
  iapply (dst_o (q := 0) (by decide) (lt_of_lt_of_eq k0_t5.isLt trips5) (off30_val k0_t5) hv) $$ H
  iintro H
  iapply (dgath (c := 9024) (by decide) (hl := View.loads_vmem h_S1504)) $$ H
  iintro H
  iapply (dgath (c := 13536) (by decide) (hl := View.loads_vmem h_S1504)) $$ H
  iintro H
  iapply (wp_done d L)
  iapply Hk
  iexact H

set_option maxHeartbeats 4000000 in
/-- A part of the loop over a block's tokens. -/
theorem part79_spec  {wd b : ℕ} {t : ℕ} {v1363 : Vec F S16 .i32} {k0_hw7 : k0_chk7 v1363} {v1369 : Vec F S16 .i32} {k0_hw9 : k0_chk9 v1369} {v1501 : IVec S16 32} {v1505 : IVec S16 32} {v1509 : IVec S16 32} {v1513 : IVec S16 32} {v1515 : Vec F S16 .i32} {v1519 : IVec S16 32} {v1523 : IVec S16 32} {c8_i32_721 : BitVec 32}
    {Q : _ → sProp 𝕄} :
    iprop(DInn d L tab idx xs w PV LB wd b t 1) ⊢ iprop(((DInn d L tab idx xs w PV LB wd b t 1) -∗ Q ⟨k0_pay134 v1501 v1505 v1519 v1523, k0_pay135 v1509 v1513 v1515 c8_i32_721, k0_pay136 (gv (dtabC tab b) 10528 v1363), k0_pay137 (gv (dtabC tab b) 10528 v1363), k0_pay138 (gv (dtabC tab b) 10528 v1363), k0_pay139 (gv (dtabC tab b) 10528 v1363), (gv (dtabC tab b) 15040 v1369), 24#32⟩) -∗ wp frame (wpE (defs₀ (F := F)) 𝒱₀ (thr d L) none) Set.univ (k0_part79 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1363 k0_hw7 v1369 k0_hw9 v1501 v1505 v1509 v1513 v1515 v1519 v1523 c8_i32_721) Q) := by
  rw [k0_part79_eq_skeleton]
  unfold k0_part79_skel
  simp only [Prog.lift, Prog.bind_op, Prog.bind_ret, Prog.pure_eq_ret]
  iintro H Hk
  iapply (dgath (c := 10528) (by decide) (hl := View.loads_vmem h_S1504)) $$ H
  iintro H
  iapply (dgath (c := 15040) (by decide) (hl := View.loads_vmem h_S1504)) $$ H
  iintro H
  iapply (wp_done d L)
  iapply Hk
  iexact H

set_option maxHeartbeats 4000000 in
/-- A part of the loop over a block's tokens. -/
theorem part80_spec  {wd b : ℕ} {t : ℕ} {v1360 : BitVec 32} {v1363 : Vec F S16 .i32} {k0_hw7 : k0_chk7 v1363} {v1369 : Vec F S16 .i32} {k0_hw9 : k0_chk9 v1369} {v1372 : Vec F S16 .f32} {v1378 : Vec F S16 .f32} {v1538 : IVec S16 32} {v1545 : IVec S16 32} {v1551 : IVec S16 32} {v1555 : IVec S16 32} {v1559 : IVec S16 32} {v1563 : IVec S16 32} {v1565 : Vec F S16 .i32} {c24_i32_737 : BitVec 32}
    {Q : _ → sProp 𝕄} :
    iprop(DInn d L tab idx xs w PV LB wd b t 1) ⊢ iprop(((DInn d L tab idx xs w PV LB wd b t 1) -∗ Q ((k0_pay140 v1372 v1378 v1538 v1545 v1551 v1555 v1559 v1563 v1565 c24_i32_737 (gv (dtabC tab b) 12032 v1363) (gv (dtabC tab b) 16544 v1369)))) -∗ wp frame (wpE (defs₀ (F := F)) 𝒱₀ (thr d L) none) Set.univ (k0_part80 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1360 v1363 k0_hw7 v1369 k0_hw9 v1372 v1378 v1538 v1545 v1551 v1555 v1559 v1563 v1565 c24_i32_737) Q) := by
  rw [k0_part80_eq_skeleton]
  unfold k0_part80_skel
  simp only [Prog.lift, Prog.bind_op, Prog.bind_ret, Prog.pure_eq_ret]
  iintro H Hk
  iapply (dgath (c := 12032) (by decide) (hl := View.loads_vmem h_S1504)) $$ H
  iintro H
  iapply (dgath (c := 16544) (by decide) (hl := View.loads_vmem h_S1504)) $$ H
  iintro H
  iapply (wp_done d L)
  iapply Hk
  iexact H

set_option maxHeartbeats 4000000 in
/-- A part of the loop over a block's tokens. -/
theorem part81_spec (k0_t5 : Fin k0_t5_loop.trips) {wd b : ℕ} {v1366 : Vec F S16 .i32} {k0_hw8 : k0_chk8 v1366} {v1369 : Vec F S16 .i32} {k0_hw9 : k0_chk9 v1369} {v1609 : FVec F S16 .f32}
    {Q : _ → sProp 𝕄} :
    iprop(⌜v1609 = dresV PV wd b 1 k0_t5.val⌝ ∗ DInn d L tab idx xs w PV LB wd b k0_t5.val 1) ⊢ iprop(((DInn d L tab idx xs w PV LB wd b k0_t5.val 2) -∗ Q ⟨k0_pay141 (gv (dtabC tab b) 18048 v1366), k0_pay142 (gv (dtabC tab b) 18048 v1366), k0_pay143 (gv (dtabC tab b) 22560 v1369), k0_pay144 (gv (dtabC tab b) 22560 v1369), k0_pay145 (gv (dtabC tab b) 18048 v1366) (gv (dtabC tab b) 22560 v1369), 16#32⟩) -∗ wp frame (wpE (defs₀ (F := F)) 𝒱₀ (thr d L) none) Set.univ (k0_part81 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t5 v1366 k0_hw8 v1369 k0_hw9 v1609) Q) := by
  rw [k0_part81_eq_skeleton]
  unfold k0_part81_skel
  simp only [Prog.lift, Prog.bind_op, Prog.bind_ret, Prog.pure_eq_ret]
  iintro ⟨%hv, H⟩ Hk
  iapply (dld_o 1 (by decide) (lt_of_lt_of_eq k0_t5.isLt trips5) (show k0_off31 k0_t5 1536#32 0 = _ from off31_val k0_t5 0)) $$ H
  iintro %v H
  iapply (dst_o (q := 1) (by decide) (lt_of_lt_of_eq k0_t5.isLt trips5) (show k0_off31 k0_t5 1536#32 0 = _ from off31_val k0_t5 0) hv) $$ H
  iintro H
  iapply (dgath (c := 18048) (by decide) (hl := View.loads_vmem h_S1504)) $$ H
  iintro H
  iapply (dgath (c := 22560) (by decide) (hl := View.loads_vmem h_S1504)) $$ H
  iintro H
  iapply (wp_done d L)
  iapply Hk
  iexact H

set_option maxHeartbeats 4000000 in
/-- A part of the loop over a block's tokens. -/
theorem part82_spec  {wd b : ℕ} {t : ℕ} {v1366 : Vec F S16 .i32} {k0_hw8 : k0_chk8 v1366} {v1369 : Vec F S16 .i32} {k0_hw9 : k0_chk9 v1369} {v1626 : IVec S16 32} {v1630 : IVec S16 32} {v1644 : IVec S16 32} {v1648 : IVec S16 32} {v1651 : IVec S16 32} {c16_i32_768 : BitVec 32}
    {Q : _ → sProp 𝕄} :
    iprop(DInn d L tab idx xs w PV LB wd b t 2) ⊢ iprop(((DInn d L tab idx xs w PV LB wd b t 2) -∗ Q ⟨k0_pay146 v1651 c16_i32_768, k0_pay147 v1626 v1630 v1644 v1648, k0_pay148 (gv (dtabC tab b) 19552 v1366), k0_pay149 (gv (dtabC tab b) 19552 v1366), k0_pay150 (gv (dtabC tab b) 19552 v1366), k0_pay151 (gv (dtabC tab b) 19552 v1366), (gv (dtabC tab b) 24064 v1369), k0_pay152 (gv (dtabC tab b) 24064 v1369), k0_pay153 (gv (dtabC tab b) 24064 v1369), k0_pay154 (gv (dtabC tab b) 24064 v1369), 24#32⟩) -∗ wp frame (wpE (defs₀ (F := F)) 𝒱₀ (thr d L) none) Set.univ (k0_part82 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1366 k0_hw8 v1369 k0_hw9 v1626 v1630 v1644 v1648 v1651 c16_i32_768) Q) := by
  rw [k0_part82_eq_skeleton]
  unfold k0_part82_skel
  simp only [Prog.lift, Prog.bind_op, Prog.bind_ret, Prog.pure_eq_ret]
  iintro H Hk
  iapply (dgath (c := 19552) (by decide) (hl := View.loads_vmem h_S1504)) $$ H
  iintro H
  iapply (dgath (c := 24064) (by decide) (hl := View.loads_vmem h_S1504)) $$ H
  iintro H
  iapply (wp_done d L)
  iapply Hk
  iexact H

set_option maxHeartbeats 4000000 in
/-- A part of the loop over a block's tokens. -/
theorem part83_spec (k0_t5 : Fin k0_t5_loop.trips) {wd b : ℕ} {v1360 : BitVec 32} {v1363 : Vec F S16 .i32} {k0_hw7 : k0_chk7 v1363} {v1366 : Vec F S16 .i32} {k0_hw8 : k0_chk8 v1366} {v1369 : Vec F S16 .i32} {k0_hw9 : k0_chk9 v1369} {v1372 : Vec F S16 .f32} {v1375 : Vec F S16 .f32} {v1378 : Vec F S16 .f32} {v1655 : IVec S16 32} {v1662 : IVec S16 32} {v1668 : IVec S16 32} {v1672 : IVec S16 32} {v1676 : IVec S16 32} {v1680 : IVec S16 32} {v1682 : Vec F S16 .i32} {v1686 : IVec S16 32} {v1690 : IVec S16 32} {v1692 : IVec S16 32} {c24_i32_785 : BitVec 32}
    {Q : _ → sProp 𝕄} :
    iprop(⌜(k0_pay155 v1375 v1378 v1655 v1662 v1668 v1672 v1676 v1680 v1682 v1686 v1690 v1692 c24_i32_785 (gv (dtabC tab b) 21056 v1366) (gv (dtabC tab b) 25568 v1369)) = dresV PV wd b 2 k0_t5.val⌝ ∗ DInn d L tab idx xs w PV LB wd b k0_t5.val 2) ⊢ iprop(((DInn d L tab idx xs w PV LB wd b k0_t5.val 3) -∗ Q ((k0_pay156 v1372 v1375 (lVec (LB b) wd k0_t5.val) (gw (dwC w b) 0 v1363) (gw (dwC w b) 1504 v1366)))) -∗ wp frame (wpE (defs₀ (F := F)) 𝒱₀ (thr d L) none) Set.univ (k0_part83 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t5 v1360 v1363 k0_hw7 v1366 k0_hw8 v1369 k0_hw9 v1372 v1375 v1378 v1655 v1662 v1668 v1672 v1676 v1680 v1682 v1686 v1690 v1692 c24_i32_785) Q) := by
  rw [k0_part83_eq_skeleton]
  unfold k0_part83_skel
  simp only [Prog.lift, Prog.bind_op, Prog.bind_ret, Prog.pure_eq_ret]
  iintro ⟨%hv, H⟩ Hk
  iapply (dgath (c := 21056) (by decide) (hl := View.loads_vmem h_S1504)) $$ H
  iintro H
  iapply (dgath (c := 25568) (by decide) (hl := View.loads_vmem h_S1504)) $$ H
  iintro H
  iapply (dld_o 2 (by decide) (lt_of_lt_of_eq k0_t5.isLt trips5) (show k0_off31 k0_t5 3072#32 0 = _ from off31_val k0_t5 1)) $$ H
  iintro %v H
  iapply (dst_o (q := 2) (by decide) (lt_of_lt_of_eq k0_t5.isLt trips5) (show k0_off31 k0_t5 3072#32 0 = _ from off31_val k0_t5 1) hv) $$ H
  iintro H
  iapply (dld_l (lt_of_lt_of_eq k0_t5.isLt trips5) (off32_val k0_t5)) $$ H
  iintro H
  iapply (dgathw (c := 0) (by decide) (hl := View.loads_vmem h_S1504)) $$ H
  iintro H
  iapply (dgathw (c := 1504) (by decide) (hl := View.loads_vmem h_S1504)) $$ H
  iintro H
  iapply (wp_done d L)
  iapply Hk
  iexact H

set_option maxHeartbeats 8000000 in
/-- One turn of the loop over a block's tokens. -/
theorem t5_turn (hidx : ∀ i, (idx i).toNat < 1504) {wd b : ℕ} (hPV : DPairOK tab idx xs PV wd b) (hL : LinOK idx xs w LB wd b)
    {k0_t4 : Fin k0_t4_loop.trips} {v1032 : BitVec 32} (k0_t5 : Fin k0_t5_loop.trips) (x : Unit) :
    DInn d L tab idx xs w PV LB wd b k0_t5.val 0
      ⊢ wp frame (wpE (defs₀ (F := F)) 𝒱₀ (thr d L) none) Set.univ (k0_t5_body (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t4 v1032 k0_t5 x) (fun _ => DInn d L tab idx xs w PV LB wd b (k0_t5.val + 1) 0) := by
  unfold k0_t5_body
  simp only [Prog.lift, Prog.bind_op, Prog.bind_ret, Prog.pure_eq_ret]
  iintro H
  rw [wp_bind]
  iapply (part75_spec d L tab idx xs w PV LB k0_t5 hidx (wd := wd) (b := b)) $$ H
  iintro H
  try dsimp only
  rw [wp_bind]
  iapply (part76_spec d L tab idx xs w PV LB  (wd := wd) (b := b)) $$ H
  iintro H
  try dsimp only
  rw [wp_bind]
  iapply (part77_spec d L tab idx xs w PV LB  (wd := wd) (b := b)) $$ H
  iintro H
  try dsimp only
  rw [wp_bind]
  iapply (part78_spec d L tab idx xs w PV LB k0_t5 (wd := wd) (b := b)) $$ [H]
  · isplitr
    · ipureintro; exact (hPV 0 (by decide) k0_t5.val (lt_of_lt_of_eq k0_t5.isLt trips5)).symm
    iexact H
  iintro H
  try dsimp only
  rw [wp_bind]
  iapply (part79_spec d L tab idx xs w PV LB  (wd := wd) (b := b)) $$ H
  iintro H
  try dsimp only
  rw [wp_bind]
  iapply (part80_spec d L tab idx xs w PV LB  (wd := wd) (b := b)) $$ H
  iintro H
  try dsimp only
  rw [wp_bind]
  iapply (part81_spec d L tab idx xs w PV LB k0_t5 (wd := wd) (b := b)) $$ [H]
  · isplitr
    · ipureintro; exact (hPV 1 (by decide) k0_t5.val (lt_of_lt_of_eq k0_t5.isLt trips5)).symm
    iexact H
  iintro H
  try dsimp only
  rw [wp_bind]
  iapply (part82_spec d L tab idx xs w PV LB  (wd := wd) (b := b)) $$ H
  iintro H
  try dsimp only
  rw [wp_bind]
  iapply (part83_spec d L tab idx xs w PV LB k0_t5 (wd := wd) (b := b)) $$ [H]
  · isplitr
    · ipureintro; exact (hPV 2 (by decide) k0_t5.val (lt_of_lt_of_eq k0_t5.isLt trips5)).symm
    iexact H
  iintro H
  try dsimp only
  iapply (dgathw (c := 3008) (by decide) (hl := View.loads_vmem h_S1504)) $$ H
  iintro H
  iapply (dld_l (lt_of_lt_of_eq k0_t5.isLt trips5) (off32_val k0_t5)) $$ H
  iintro H
  iapply (dst_l (lt_of_lt_of_eq k0_t5.isLt trips5) (off32_val k0_t5) (hL k0_t5.val (lt_of_lt_of_eq k0_t5.isLt trips5)).symm) $$ H
  iintro H
  iapply (wp_done d L)
  iexact H

/-- The linear sums before the first block: the first `t` groups of sixteen tokens are set. -/
def LinZero (wd t : ℕ) : sProp 𝕄 :=
  iprop(∃ g : Vec F S1536 .f32, ⌜∀ i : Shape.Idx ⟨1, ![1536]⟩, (i 0).val < 16 * t → g i = linC (LB 0) wd i⌝ ∗ sL.view.loc (thr d L) ↦[seg (N := 1536) 0 1536]{fullShare} g)

set_option maxHeartbeats 8000000 in
/-- One turn of the loop that sets the linear sums to zero. -/
theorem t3_turn {wd : ℕ} (h0 : ∀ t < 96, lVec (LB 0) wd t = k0_pay158 (F := F)) (k0_t3 : Fin k0_t3_loop.trips) (x : Unit) :
    LinZero d L LB wd k0_t3.val
      ⊢ wp frame (wpE (defs₀ (F := F)) 𝒱₀ (thr d L) none) Set.univ (k0_t3_body (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t3 x) (fun _ => LinZero d L LB wd (k0_t3.val + 1)) := by
  have ht : k0_t3.val < 96 := lt_of_lt_of_eq k0_t3.isLt trips3
  have ho := off25_val k0_t3
  unfold k0_t3_body
  simp only [Prog.lift, Prog.bind_op, Prog.bind_ret, Prog.pure_eq_ret]
  unfold LinZero
  iintro ⟨%g, %hg, HL⟩
  iapply (ld d L (m := sL) (off := k0_off25 k0_t3) (inb := k0_off25_inb k0_t3) (f := g)
    (by rw [View.set_slice_whole]; exact acc_sub (by omega) (by omega)) rfl) $$ HL
  iintro HL
  iapply (wp_store 𝒱₀ (thr d L) none Set.univ (m := sL) (r := Rect.unit (s := S1536) (k0_off25 k0_t3) S16.size (k0_off25_inb k0_t3)) (f := g)
    (S := seg (N := 1536) 0 1536) (by
      rw [View.setOn_univ, View.set_slice_whole]; exact acc_sub (by omega) (by omega))) $$ HL
  iintro HL
  iapply (wp_done d L)
  iexists ((sL.access (Rect.unit (s := S1536) (k0_off25 k0_t3) S16.size (k0_off25_inb k0_t3))).write (Elt F) g (k0_pay158 (F := F)) Finset.univ)
  isplitr
  · ipureintro
    rw [← h0 k0_t3.val ht]
    intro i h
    obtain ⟨h1, h2⟩ := lin_write (G := LB 0) (wd := wd) (inb := k0_off25_inb k0_t3) ho ht (g := g) i
    by_cases h3 : 16 * k0_t3.val ≤ (i 0).val
    · exact h1 h3 h
    · rw [h2 (fun h => h3 h.1)]; exact hg i (by omega)
  iexact HL

end DiagInner

end Cert.ScKernelIdeal
-- ==== Proof.KernelIdealDiagB.lean ====
module

public import proofs.«01_k».proof.Proof.KernelIdealDiagA

@[expose] public section

noncomputable section

/-!
# The blocks on the diagonal: one block after another

A tile's turn for one block: tables, weights and rows come in, the three pairs and the linear sums are computed, the pairs leave.
-/

namespace Cert.ScKernelIdeal

open Cert.KernelIdeal Cert.KernelIdeal.Gen Cert.FieldTables
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch)

variable {F : FTy → Type} [FloatOps F]

local notation "𝕄" => MT nD τ sig (HIx 1) (Elt F) ℕ UU ℕ

section DiagB

variable (d : Dev nD) (L : grid0.Coords) {O : CellTallies nD τ sig (HIx 1)} {W : Waits sig (HIx 1)}
variable (tab : Vec F S6862752 .i32) (idx : Vec F S1916928 .i32) (xs : Vec F S1916928 .f32) (w : Vec F S58656 .f32)
variable (PV : Vec F S36421632 .f32) (LB : ℕ → Vec F S49152 .f32)

theorem dtab_all {b : ℕ} : iprop(DTabSt d L tab w b 6 ∗ (∃ q, gW.view.loc (thr d L) ↦{q} w) ∗ (∃ f, sW.view.loc (thr d L) ↦[seg (N := 4608) 0 4512]{fullShare} f)) ⊢ iprop((∃ q, gT.view.loc (thr d L) ↦{q} tab) ∗ DTabV d L tab w b) := by
  unfold DTabSt DTabV
  iintro ⟨⟨HG, -, HB⟩, HW, HS⟩
  isplitl [HG]; · iexact HG
  isplitl [HW]; · iexact HW
  isplitl [HS]; · iexact HS
  iexact HB

set_option maxHeartbeats 8000000 in
/-- A part of a block's turn. -/
theorem part85_spec (k0_t4 : Fin k0_t4_loop.trips)  {v1027 : BitVec 32} {v1032 : BitVec 32} {c4512_i32_508 : BitVec 32}
    {Q : _ → sProp 𝕄} :
    iprop(DTabSt d L tab w k0_t4.val 0) ⊢ iprop((∀ v, (DTabSt d L tab w k0_t4.val 3) -∗ Q v) -∗ wp frame (wpE (defs₀ (F := F)) 𝒱₀ (thr d L) none) Set.univ (k0_part85 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1027 k0_t4 v1032 c4512_i32_508) Q) := by
  rw [k0_part85_eq_skeleton]
  unfold k0_part85_skel
  simp only [Prog.lift, Prog.bind_op, Prog.bind_ret, Prog.pure_eq_ret]
  iintro HT Hk
  iapply (dtab d L tab w 0 (by decide) rfl (show k0_off26 k0_t4 0#32 1#32 0 = dtabOff _ 0 from off26_val k0_t4 0 1) (show (![0] : Fin 1 → ℕ) 0 = 4512 * 0 from rfl)) $$ HT
  iintro HT
  iapply (dtab d L tab w 1 (by decide) rfl (show k0_off26 k0_t4 1#32 0#32 0 = dtabOff _ 1 from off26_val k0_t4 1 0) (show (![4512] : Fin 1 → ℕ) 0 = 4512 * 1 from rfl)) $$ HT
  iintro HT
  iapply (dtab d L tab w 2 (by decide) rfl (show k0_off26 k0_t4 0#32 2#32 0 = dtabOff _ 2 from off26_val k0_t4 0 2) (show (![9024] : Fin 1 → ℕ) 0 = 4512 * 2 from rfl)) $$ HT
  iintro HT
  iapply (wp_done d L)
  iapply Hk
  iexact HT

set_option maxHeartbeats 8000000 in
/-- A part of a block's turn. -/
theorem part86_spec (k0_t4 : Fin k0_t4_loop.trips)
    {Q : _ → sProp 𝕄} :
    iprop(DTabSt d L tab w k0_t4.val 3 ∗ (∃ q, gW.view.loc (thr d L) ↦{q} w) ∗ (∃ f, sW.view.loc (thr d L) ↦[seg (N := 4608) 0 4512]{fullShare} f) ∗ DInA d L idx xs (wid L) k0_t4.val 0) ⊢ iprop((∀ v, ((∃ q, gT.view.loc (thr d L) ↦{q} tab) ∗ DTabW d L tab w k0_t4.val ∗ DInA d L idx xs (wid L) k0_t4.val 1) -∗ Q v) -∗ wp frame (wpE (defs₀ (F := F)) 𝒱₀ (thr d L) none) Set.univ (k0_part86 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t4) Q) := by
  rw [k0_part86_eq_skeleton]
  unfold k0_part86_skel
  simp only [Prog.lift, Prog.bind_op, Prog.bind_ret, Prog.pure_eq_ret]
  iintro ⟨HT, HG, HS, HI⟩ Hk
  iapply (dtab d L tab w 3 (by decide) rfl (show k0_off26 k0_t4 2#32 0#32 0 = dtabOff _ 3 from off26_val k0_t4 2 0) (show (![13536] : Fin 1 → ℕ) 0 = 4512 * 3 from rfl)) $$ HT
  iintro HT
  iapply (dtab d L tab w 4 (by decide) rfl (show k0_off26 k0_t4 1#32 2#32 0 = dtabOff _ 4 from off26_val k0_t4 1 2) (show (![18048] : Fin 1 → ℕ) 0 = 4512 * 4 from rfl)) $$ HT
  iintro HT
  iapply (dtab d L tab w 5 (by decide) rfl (show k0_off26 k0_t4 2#32 1#32 0 = dtabOff _ 5 from off26_val k0_t4 2 1) (show (![22560] : Fin 1 → ℕ) 0 = 4512 * 5 from rfl)) $$ HT
  iintro HT
  ihave HT := (dtab_all d L tab w) $$ [HT HG HS]
  · isplitl [HT]; · iexact HT
    isplitl [HG]; · iexact HG
    iexact HS
  icases HT with ⟨HGT, HT⟩
  iapply (dwl d L tab w rfl (off27_val k0_t4) rfl) $$ HT
  iintro HT
  iapply (din_idx d L idx xs 0 (by decide) rfl (show k0_off28 L k0_t4 0#32 0 = dinOff _ _ 0 from off28_val L k0_t4 0) (show (![0] : Fin 1 → ℕ) 0 = 1536 * 0 from rfl)) $$ HI
  iintro HI
  iapply (din_x d L idx xs 0 (by decide) rfl (show k0_off28 L k0_t4 0#32 0 = dinOff _ _ 0 from off28_val L k0_t4 0) (show (![0] : Fin 1 → ℕ) 0 = 1536 * 0 from rfl)) $$ HI
  iintro HI
  iapply (wp_done d L)
  iapply Hk
  isplitl [HGT]; · iexact HGT
  isplitl [HT]; · iexact HT
  iexact HI

set_option maxHeartbeats 8000000 in
/-- A part of a block's turn. -/
theorem part87_spec (k0_t4 : Fin k0_t4_loop.trips) (hO : ∀ g, O g none = 0)
    {Q : _ → sProp 𝕄} :
    iprop(OwL d L O W ∗ DTabW d L tab w k0_t4.val ∗ DInA d L idx xs (wid L) k0_t4.val 1) ⊢ iprop((∀ v, (OwL d L O W ∗ (∃ q, gW.view.loc (thr d L) ↦{q} w) ∗ Batch EC (thr d L) (.dma mTd) (none : HIx 1) nT (DTd d L tab w k0_t4.val) 7 (2 * nT) ∗ DInA d L idx xs (wid L) k0_t4.val 3) -∗ Q v) -∗ wp frame (wpE (defs₀ (F := F)) 𝒱₀ (thr d L) none) Set.univ (k0_part87 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t4) Q) := by
  rw [k0_part87_eq_skeleton]
  unfold k0_part87_skel
  simp only [Prog.lift, Prog.bind_op, Prog.bind_ret, Prog.pure_eq_ret]
  iintro ⟨HO, HT, HI⟩ Hk
  iapply (din_idx d L idx xs 1 (by decide) rfl (show k0_off28 L k0_t4 1#32 0 = dinOff _ _ 1 from off28_val L k0_t4 1) (show (![1536] : Fin 1 → ℕ) 0 = 1536 * 1 from rfl)) $$ HI
  iintro HI
  iapply (din_x d L idx xs 1 (by decide) rfl (show k0_off28 L k0_t4 1#32 0 = dinOff _ _ 1 from off28_val L k0_t4 1) (show (![1536] : Fin 1 → ℕ) 0 = 1536 * 1 from rfl)) $$ HI
  iintro HI
  iapply (din_idx d L idx xs 2 (by decide) rfl (show k0_off28 L k0_t4 2#32 0 = dinOff _ _ 2 from off28_val L k0_t4 2) (show (![3072] : Fin 1 → ℕ) 0 = 1536 * 2 from rfl)) $$ HI
  iintro HI
  iapply (din_x d L idx xs 2 (by decide) rfl (show k0_off28 L k0_t4 2#32 0 = dinOff _ _ 2 from off28_val L k0_t4 2) (show (![3072] : Fin 1 → ℕ) 0 = 1536 * 2 from rfl)) $$ HI
  iintro HI
  ihave HT := (dtab_ready d L tab w) $$ HT
  icases HT with ⟨HG, HT⟩
  iapply (w_mid d L (n := 7) hO 0 (by decide) rfl (credT _ _) nT_pos) $$ [HO HT]
  · isplitl [HO]; · iexact HO
    iexact HT
  iintro ⟨HO, HT⟩
  iapply (w_mid d L (n := 7) hO 1 (by decide) rfl (credT _ _) nT_pos) $$ [HO HT]
  · isplitl [HO]; · iexact HO
    iexact HT
  iintro ⟨HO, HT⟩
  iapply (wp_done d L)
  iapply Hk
  isplitl [HO]; · iexact HO
  isplitl [HG]; · iexact HG
  isplitl [HT]; · iexact HT
  iexact HI

set_option maxHeartbeats 8000000 in
/-- A part of a block's turn. -/
theorem part88_spec (k0_t4 : Fin k0_t4_loop.trips) (hO : ∀ g, O g none = 0)
    {Q : _ → sProp 𝕄} :
    iprop(OwL d L O W ∗ Batch EC (thr d L) (.dma mTd) (none : HIx 1) nT (DTd d L tab w k0_t4.val) 7 (2 * nT) ∗ Batch EC (thr d L) (.dma mId) (none : HIx 1) nV (DId d L idx xs (wid L) k0_t4.val) 6 (0 * nV)) ⊢ iprop((∀ v, (OwL d L O W ∗ bigSep Finset.univ (DTd d L tab w k0_t4.val) ∗ semVal (thr d L, .dma mTd) 0 ∗ Batch EC (thr d L) (.dma mId) (none : HIx 1) nV (DId d L idx xs (wid L) k0_t4.val) 6 (1 * nV)) -∗ Q v) -∗ wp frame (wpE (defs₀ (F := F)) 𝒱₀ (thr d L) none) Set.univ (k0_part88 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t4) Q) := by
  rw [k0_part88_eq_skeleton]
  unfold k0_part88_skel
  simp only [Prog.lift, Prog.bind_op, Prog.bind_ret, Prog.pure_eq_ret]
  iintro ⟨HO, HT, HI⟩ Hk
  iapply (w_mid d L (n := 7) hO 2 (by decide) rfl (credT _ _) nT_pos) $$ [HO HT]
  · isplitl [HO]; · iexact HO
    iexact HT
  iintro ⟨HO, HT⟩
  iapply (w_mid d L (n := 7) hO 3 (by decide) rfl (credT _ _) nT_pos) $$ [HO HT]
  · isplitl [HO]; · iexact HO
    iexact HT
  iintro ⟨HO, HT⟩
  iapply (w_mid d L (n := 7) hO 4 (by decide) rfl (credT _ _) nT_pos) $$ [HO HT]
  · isplitl [HO]; · iexact HO
    iexact HT
  iintro ⟨HO, HT⟩
  iapply (w_mid d L (n := 7) hO 5 (by decide) rfl (credT _ _) nT_pos) $$ [HO HT]
  · isplitl [HO]; · iexact HO
    iexact HT
  iintro ⟨HO, HT⟩
  iapply (w_last d L hO 6 rfl rfl (credW _ _) nT_pos) $$ [HO HT]
  · isplitl [HO]; · iexact HO
    iexact HT
  iintro ⟨HO, HT, HTv⟩
  iapply (w_mid d L (n := 6) hO 0 (by decide) rfl (credId _ _) nV_pos) $$ [HO HI]
  · isplitl [HO]; · iexact HO
    iexact HI
  iintro ⟨HO, HI⟩
  iapply (wp_done d L)
  iapply Hk
  isplitl [HO]; · iexact HO
  isplitl [HT]; · iexact HT
  isplitl [HTv]; · iexact HTv
  iexact HI

theorem dinn_begin {b : ℕ} : iprop((sI.view.loc (thr d L) ↦[seg (N := 12288) 0 4608]{fullShare} dchunkC idx (wid L) b)
    ∗ (sX.view.loc (thr d L) ↦[seg (N := 12288) 0 4608]{fullShare} dchunkC xs (wid L) b)
    ∗ (sT.view.loc (thr d L) ↦[seg (N := 81280) 0 27072]{fullShare} dtabC tab b)
    ∗ (sW.view.loc (thr d L) ↦[seg (N := 4608) 0 4512]{fullShare} dwC w b) ∗ (∃ f, sO.view.loc (thr d L) ↦[seg (N := 18432) 0 4608]{fullShare} f) ∗ (sL.view.loc (thr d L) ↦[seg (N := 1536) 0 1536]{fullShare} linC (LB (b)) (wid L)))
    ⊢ DInn d L tab idx xs w PV LB (wid L) b 0 0 := by
  unfold DInn
  iintro ⟨HI, HX, HT, HW, ⟨%f, HO⟩, HL⟩
  isplitl [HI]; · iexact HI
  isplitl [HX]; · iexact HX
  isplitl [HT]; · iexact HT
  isplitl [HW]; · iexact HW
  isplitl [HO]
  · iexists f
    isplitr
    · ipureintro
      intro i h1 h2
      rcases h2 with h2 | ⟨-, h2⟩ <;> omega
    iexact HO
  iexists (linC (LB b) (wid L))
  isplitr
  · ipureintro
    intro i
    exact ⟨fun h => by omega, fun _ => rfl⟩
  iexact HL

theorem dinn_end {b n : ℕ} (hn : n = 96 := by decide) : DInn d L tab idx xs w PV LB (wid L) b n 0 ⊢
    iprop((∃ f, sI.view.loc (thr d L) ↦[seg (N := 12288) 0 4608]{fullShare} f) ∗ (∃ f, sX.view.loc (thr d L) ↦[seg (N := 12288) 0 4608]{fullShare} f) ∗ (∃ f, sT.view.loc (thr d L) ↦[seg (N := 81280) 0 27072]{fullShare} f) ∗ (∃ f, sW.view.loc (thr d L) ↦[seg (N := 4608) 0 4512]{fullShare} f) ∗ (sO.view.loc (thr d L) ↦[seg (N := 18432) 0 4608]{fullShare} docC PV (wid L) b) ∗ (sL.view.loc (thr d L) ↦[seg (N := 1536) 0 1536]{fullShare} linC (LB (b + 1)) (wid L))) := by
  subst hn
  unfold DInn
  iintro ⟨HI, HX, HT, HW, ⟨%f, %hf, HO⟩, ⟨%g, %hg, HL⟩⟩
  isplitl [HI]; · iexists _; iexact HI
  isplitl [HX]; · iexists _; iexact HX
  isplitl [HT]; · iexists _; iexact HT
  isplitl [HW]; · iexists _; iexact HW
  isplitl [HO]
  · iapply (Entails.of_eq (pointsTo_congr (fun i hi => by
      have h := mem_seg.mp hi
      exact hf i (by omega) (Or.inl (by omega))))) $$ HO
  iapply (Entails.of_eq (pointsTo_congr (fun i hi => by
    have h := mem_seg.mp hi
    exact (hg i).1 (by omega)))) $$ HL

set_option maxHeartbeats 8000000 in
/-- A part of a block's turn. -/
theorem part89_spec (k0_t4 : Fin k0_t4_loop.trips) (hO : ∀ g, O g none = 0) (hidx : ∀ i, (idx i).toNat < 1504) (hPV : DPairOK tab idx xs PV (wid L) k0_t4.val) (hL : LinOK idx xs w LB (wid L) k0_t4.val) {v1032 : BitVec 32}
    {Q : _ → sProp 𝕄} :
    iprop(OwL d L O W ∗ Batch EC (thr d L) (.dma mId) (none : HIx 1) nV (DId d L idx xs (wid L) k0_t4.val) 6 (1 * nV) ∗ (sT.view.loc (thr d L) ↦[seg (N := 81280) 0 27072]{fullShare} dtabC tab k0_t4.val) ∗ (sW.view.loc (thr d L) ↦[seg (N := 4608) 0 4512]{fullShare} dwC w k0_t4.val) ∗ (∃ f, sO.view.loc (thr d L) ↦[seg (N := 18432) 0 4608]{fullShare} f) ∗ (sL.view.loc (thr d L) ↦[seg (N := 1536) 0 1536]{fullShare} linC (LB (k0_t4.val)) (wid L))) ⊢ iprop((∀ v, (OwL d L O W ∗ semVal (thr d L, .dma mId) 0 ∗ (∃ f, sI.view.loc (thr d L) ↦[seg (N := 12288) 0 4608]{fullShare} f) ∗ (∃ f, sX.view.loc (thr d L) ↦[seg (N := 12288) 0 4608]{fullShare} f) ∗ (∃ f, sT.view.loc (thr d L) ↦[seg (N := 81280) 0 27072]{fullShare} f) ∗ (∃ f, sW.view.loc (thr d L) ↦[seg (N := 4608) 0 4512]{fullShare} f) ∗ (sO.view.loc (thr d L) ↦[seg (N := 18432) 0 4608]{fullShare} docC PV (wid L) k0_t4.val) ∗ (sL.view.loc (thr d L) ↦[seg (N := 1536) 0 1536]{fullShare} linC (LB (k0_t4.val + 1)) (wid L))) -∗ Q v) -∗ wp frame (wpE (defs₀ (F := F)) 𝒱₀ (thr d L) none) Set.univ (k0_part89 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 k0_t4 v1032) Q) := by
  rw [k0_part89_eq_skeleton]
  unfold k0_part89_skel
  simp only [Prog.lift, Prog.bind_op, Prog.bind_ret, Prog.pure_eq_ret]
  iintro ⟨HO, HI, HT, HW, HOut, HL⟩ Hk
  iapply (w_mid d L (n := 6) hO 1 (by decide) rfl (credXd _ _) nV_pos) $$ [HO HI]
  · isplitl [HO]; · iexact HO
    iexact HI
  iintro ⟨HO, HI⟩
  iapply (w_mid d L (n := 6) hO 2 (by decide) rfl (credId _ _) nV_pos) $$ [HO HI]
  · isplitl [HO]; · iexact HO
    iexact HI
  iintro ⟨HO, HI⟩
  iapply (w_mid d L (n := 6) hO 3 (by decide) rfl (credXd _ _) nV_pos) $$ [HO HI]
  · isplitl [HO]; · iexact HO
    iexact HI
  iintro ⟨HO, HI⟩
  iapply (w_mid d L (n := 6) hO 4 (by decide) rfl (credId _ _) nV_pos) $$ [HO HI]
  · isplitl [HO]; · iexact HO
    iexact HI
  iintro ⟨HO, HI⟩
  iapply (w_last d L hO 5 rfl rfl (credXd _ _) nV_pos) $$ [HO HI]
  · isplitl [HO]; · iexact HO
    iexact HI
  iintro ⟨HO, HI, HIv⟩
  ihave HI := (din_done d L idx xs) $$ HI
  icases HI with ⟨HI, HX⟩
  iapply (Scf.wp_for_bind frame (wpE (defs₀ (F := F)) 𝒱₀ (thr d L) none) Set.univ k0_t5_loop.lb k0_t5_loop.ub k0_t5_loop.st k0_t5_ok ⟨⟩ _
    (fun t _ => DInn d L tab idx xs w PV LB (wid L) k0_t4.val t 0)
    (fun t acc => t5_turn d L tab idx xs w PV LB hidx hPV hL t acc)) $$ [HI HX HT HW HOut HL]
  · iapply (dinn_begin d L tab idx xs w PV LB)
    isplitl [HI]; · iexact HI
    isplitl [HX]; · iexact HX
    isplitl [HT]; · iexact HT
    isplitl [HW]; · iexact HW
    isplitl [HOut]; · iexact HOut
    iexact HL
  iintro %acc H
  ihave H := (dinn_end d L tab idx xs w PV LB) $$ H
  iapply (wp_done d L)
  iapply Hk
  isplitl [HO]; · iexact HO
  isplitl [HIv]; · iexact HIv
  iexact H

set_option maxHeartbeats 8000000 in
/-- A part of a block's turn. -/
theorem part92_spec (k0_t4 : Fin k0_t4_loop.trips) (hO : ∀ g, O g none = 0) {v1027 : BitVec 32} {v1320 : BitVec 32}
    {Q : _ → sProp 𝕄} :
    iprop(OwL d L O W ∗ DOutSt d L PV (wid L) k0_t4.val 0) ⊢ iprop((∀ v, (OwL d L O W ∗ Batch EC (thr d L) (.dma mOd) (none : HIx 1) nV (DOd d L PV (wid L) k0_t4.val) 3 (2 * nV)) -∗ Q v) -∗ wp frame (wpE (defs₀ (F := F)) 𝒱₀ (thr d L) none) Set.univ (k0_part92 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1027 k0_t4 v1320) Q) := by
  rw [k0_part92_eq_skeleton]
  unfold k0_part92_skel
  simp only [Prog.lift, Prog.bind_op, Prog.bind_ret, Prog.pure_eq_ret]
  iintro ⟨HO, HP⟩ Hk
  iapply (dout_st d L PV 0 (by decide) rfl (show (![0] : Fin 1 → ℕ) 0 = 1536 * 0 from rfl) (show k0_off33 L k0_t4 0#32 1#32 0 = doutOff _ _ 0 from off33_01 L k0_t4)) $$ HP
  iintro HP
  iapply (dout_st d L PV 1 (by decide) rfl (show (![1536] : Fin 1 → ℕ) 0 = 1536 * 1 from rfl) (show k0_off33 L k0_t4 0#32 2#32 0 = doutOff _ _ 1 from off33_02 L k0_t4)) $$ HP
  iintro HP
  iapply (dout_st d L PV 2 (by decide) rfl (show (![3072] : Fin 1 → ℕ) 0 = 1536 * 2 from rfl) (show k0_off33 L k0_t4 1#32 2#32 0 = doutOff _ _ 2 from off33_12 L k0_t4)) $$ HP
  iintro HP
  ihave HP := (dout_ready d L PV) $$ HP
  iapply (w_mid d L (n := 3) hO 0 (by decide) rfl (credPd _ _) nV_pos) $$ [HO HP]
  · isplitl [HO]; · iexact HO
    iexact HP
  iintro ⟨HO, HP⟩
  iapply (w_mid d L (n := 3) hO 1 (by decide) rfl (credPd _ _) nV_pos) $$ [HO HP]
  · isplitl [HO]; · iexact HO
    iexact HP
  iintro ⟨HO, HP⟩
  iapply (wp_done d L)
  iapply Hk
  isplitl [HO]; · iexact HO
  iexact HP

/-- The tile's three chunks for block `b` in the pair result, not written yet. -/
def dunitE (b : ℕ) : sProp 𝕄 :=
  bigSep (Transfers.pending (n := 3) 0) (fun t => iprop(∃ f : Buf (Elt F) (gP.view.loc (thr d L)), gP.view.loc (thr d L) ↦[seg (N := 36421632) (doutOff (wid L) b t.val) 1536]{fullShare} f))
/-- The tile's three chunks for block `b` in the pair result, written. -/
def dunitW (b : ℕ) : sProp 𝕄 :=
  bigSep Finset.univ (fun t : Fin 3 => (gP.view.loc (thr d L) ↦[seg (N := 36421632) (doutOff (wid L) b t.val) 1536]{fullShare} PV : sProp 𝕄))
/-- The blocks from `b` on, not written yet. -/
def DUndone (b : ℕ) : sProp 𝕄 := bigSep (Transfers.pending (n := 13) b) (fun j => dunitE (F := F) d L j.val)
/-- The blocks before `b`, written. -/
def DDone (b : ℕ) : sProp 𝕄 := bigSep (Finset.univ.filter fun j : Fin 13 => j.val < b) (fun j => dunitW d L PV j.val)

theorem dundone_step {b : ℕ} (hb : b < 13) : DUndone (F := F) d L b ⊢ iprop(dunitE (F := F) d L b ∗ DUndone (F := F) d L (b + 1)) := by
  unfold DUndone
  rw [Transfers.pending_succ hb, bigSep_insert (Transfers.not_mem_pending_succ hb)]
  exact BIBase.Entails.of_eq rfl

theorem ddone_step {b : ℕ} (hb : b < 13) : iprop(dunitW d L PV b ∗ DDone d L PV b) ⊢ DDone d L PV (b + 1) := by
  unfold DDone
  rw [show (Finset.univ.filter fun j : Fin 13 => j.val < b + 1) = insert ⟨b, hb⟩ (Finset.univ.filter fun j : Fin 13 => j.val < b) from by
    ext j; simp only [Finset.mem_filter, Finset.mem_univ, true_and, Finset.mem_insert, Fin.ext_iff]; omega,
    bigSep_insert (by simp only [Finset.mem_filter, Finset.mem_univ, true_and]; omega)]
  exact BIBase.Entails.of_eq rfl

/-- What a tile holds before block `b`. -/
def DiagInv (O : CellTallies nD τ sig (HIx 1)) (W : Waits sig (HIx 1)) (b : ℕ) : sProp 𝕄 :=
  iprop(OwL d L O W ∗ (∃ q, gT.view.loc (thr d L) ↦{q} tab) ∗ InSh d L idx xs ∗ (∃ q, gW.view.loc (thr d L) ↦{q} w)
    ∗ (∃ f, sI.view.loc (thr d L) ↦[seg (N := 12288) 0 4608]{fullShare} f) ∗ (∃ f, sX.view.loc (thr d L) ↦[seg (N := 12288) 0 4608]{fullShare} f) ∗ (∃ f, sT.view.loc (thr d L) ↦[seg (N := 81280) 0 27072]{fullShare} f) ∗ (∃ f, sW.view.loc (thr d L) ↦[seg (N := 4608) 0 4512]{fullShare} f) ∗ (∃ f, sO.view.loc (thr d L) ↦[seg (N := 18432) 0 4608]{fullShare} f) ∗ (sL.view.loc (thr d L) ↦[seg (N := 1536) 0 1536]{fullShare} linC (LB (b)) (wid L))
    ∗ semVal (thr d L, .dma mTd) 0 ∗ semVal (thr d L, .dma mId) 0 ∗ semVal (thr d L, .dma mOd) 0
    ∗ DUndone (F := F) d L b ∗ DDone d L PV b)

set_option maxHeartbeats 8000000 in
/-- One turn of the loop over the blocks. -/
theorem t4_turn (hO : ∀ g, O g none = 0) (hidx : ∀ i, (idx i).toNat < 1504) (hPV : ∀ b < 13, DPairOK tab idx xs PV (wid L) b) (hL : ∀ b < 13, LinOK idx xs w LB (wid L) b)
    {v1027 : BitVec 32} (k0_t4 : Fin k0_t4_loop.trips) (x : Unit) :
    DiagInv d L tab idx xs w PV LB O W k0_t4.val
      ⊢ wp frame (wpE (defs₀ (F := F)) 𝒱₀ (thr d L) none) Set.univ (k0_t4_body (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v1027 k0_t4 x) (fun _ => DiagInv d L tab idx xs w PV LB O W (k0_t4.val + 1)) := by
  have hb : k0_t4.val < 13 := lt_of_lt_of_eq k0_t4.isLt trips4
  unfold k0_t4_body
  simp only [Prog.lift, Prog.bind_op, Prog.bind_ret, Prog.pure_eq_ret]
  unfold DiagInv InSh
  iintro ⟨HO, HG, ⟨HG1, HG2⟩, HGW, HI, HX, HT, HW, HOut, HL, HvT, HvI, HvO, HU, HD⟩
  iapply (dtab_begin d L tab w (b := k0_t4.val)) $$ [HG HT HvT]
  · isplitl [HG]; · iexact HG
    isplitl [HT]; · iexact HT
    iexact HvT
  iintro HT
  iapply (din_begin d L idx xs (wd := wid L) (b := k0_t4.val)) $$ [HG1 HG2 HI HX HvI]
  · isplitl [HG1]; · iexact HG1
    isplitl [HG2]; · iexact HG2
    isplitl [HI]; · iexact HI
    isplitl [HX]; · iexact HX
    iexact HvI
  iintro HI
  rw [wp_bind]
  iapply (wp_pureP d L (part84_pure (F := F) L _ _ _))
  iintro %v
  obtain ⟨a0, a1⟩ := v
  try dsimp only
  rw [wp_bind]
  iapply (part85_spec d L tab w k0_t4) $$ HT
  iintro %v HT
  try dsimp only
  rw [wp_bind]
  iapply (part86_spec d L tab idx xs w k0_t4) $$ [HT HGW HW HI]
  · isplitl [HT]; · iexact HT
    isplitl [HGW]; · iexact HGW
    isplitl [HW]; · iexact HW
    iexact HI
  iintro %v ⟨HG, HT, HI⟩
  try dsimp only
  rw [wp_bind]
  iapply (part87_spec d L tab idx xs w k0_t4 hO) $$ [HO HT HI]
  · isplitl [HO]; · iexact HO
    isplitl [HT]; · iexact HT
    iexact HI
  iintro %v ⟨HO, HGW, HT, HI⟩
  try dsimp only
  ihave HI := (din_ready d L idx xs) $$ HI
  icases HI with ⟨HG1, HG2, HI⟩
  rw [wp_bind]
  iapply (part88_spec d L tab idx xs w k0_t4 hO) $$ [HO HT HI]
  · isplitl [HO]; · iexact HO
    isplitl [HT]; · iexact HT
    iexact HI
  iintro %v ⟨HO, HT, HvT, HI⟩
  try dsimp only
  ihave HT := (dtab_done d L tab w) $$ HT
  icases HT with ⟨HT, HW⟩
  rw [wp_bind]
  iapply (part89_spec d L tab idx xs w PV LB k0_t4 hO hidx (hPV _ hb) (hL _ hb)) $$ [HO HI HT HW HOut HL]
  · isplitl [HO]; · iexact HO
    isplitl [HI]; · iexact HI
    isplitl [HT]; · iexact HT
    isplitl [HW]; · iexact HW
    isplitl [HOut]; · iexact HOut
    iexact HL
  iintro %v ⟨HO, HvI, HI, HX, HT, HW, HOut, HL⟩
  obtain ⟨c0, c1, c2, c3⟩ := v
  try dsimp only
  rw [wp_bind]
  iapply (wp_pureP d L (part90_pure (F := F) L _ _ _ _ _ _))
  iintro %v
  obtain ⟨a0, a1, a2, a3, a4, a5, a6, a7, a8⟩ := v
  try dsimp only
  rw [wp_bind]
  iapply (wp_pureP d L (part91_pure (F := F) L _ _ _ _ _ _ _ _ _ _ _))
  iintro %v
  try dsimp only
  ihave HU := (dundone_step (F := F) d L hb) $$ HU
  icases HU with ⟨HE, HU⟩
  unfold dunitE
  iapply (dout_begin d L PV (wd := wid L) (b := k0_t4.val)) $$ [HOut HE HvO]
  · isplitl [HOut]; · iexact HOut
    isplitl [HE]; · iexact HE
    iexact HvO
  iintro HP
  rw [wp_bind]
  iapply (part92_spec d L PV k0_t4 hO) $$ [HO HP]
  · isplitl [HO]; · iexact HO
    iexact HP
  iintro %v ⟨HO, HP⟩
  try dsimp only
  iapply (w_last d L hO 2 rfl rfl (credPd _ _) nV_pos) $$ [HO HP]
  · isplitl [HO]; · iexact HO
    iexact HP
  iintro ⟨HO, HP, HPv⟩
  ihave HP := (dout_done d L PV) $$ HP
  icases HP with ⟨HE, HOut⟩
  ihave HD := (ddone_step d L PV hb) $$ [HE HD]
  · isplitl [HE]; · unfold dunitW; iexact HE
    iexact HD
  iapply (wp_done d L)
  isplitl [HO]; · iexact HO
  isplitl [HG]; · iexact HG
  isplitl [HG1 HG2]
  · isplitl [HG1]; · iexact HG1
    iexact HG2
  isplitl [HGW]; · iexact HGW
  isplitl [HI]; · iexact HI
  isplitl [HX]; · iexact HX
  isplitl [HT]; · iexact HT
  isplitl [HW]; · iexact HW
  isplitl [HOut]; · iexact HOut
  isplitl [HL]; · iexact HL
  isplitl [HvT]; · iexact HvT
  isplitl [HvI]; · iexact HvI
  isplitl [HPv]; · iexact HPv
  isplitl [HU]; · iexact HU
  iexact HD

end DiagB

end Cert.ScKernelIdeal
-- ==== Proof.KernelIdealTile.lean ====
module

public import proofs.«01_k».proof.Proof.KernelIdealDiagB

@[expose] public section

noncomputable section

/-!
# One tile from beginning to end

The copies before the loops, the three loops, the waits after them and the copy of the linear sums.
-/

namespace Cert.ScKernelIdeal

open Cert.KernelIdeal Cert.KernelIdeal.Gen Cert.FieldTables
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch)

variable {F : FTy → Type} [FloatOps F]

local notation "𝕄" => MT nD τ sig (HIx 1) (Elt F) ℕ UU ℕ

section Tile

variable (d : Dev nD) (L : grid0.Coords) {O : CellTallies nD τ sig (HIx 1)} {W : Waits sig (HIx 1)}
variable (tab : Vec F S6862752 .i32) (idx : Vec F S1916928 .i32) (xs : Vec F S1916928 .f32) (w : Vec F S58656 .f32)
variable (PV : Vec F S36421632 .f32) (LB : ℕ → Vec F S49152 .f32)

theorem in_enter : (Batch EC (thr d L) (.dma (mI 0)) (none : HIx 1) nU (DI d L idx xs (117 * wid L) 0) 12 (0 * nU) : sProp 𝕄) ⊢ InNext d L idx xs 0 := by
  rw [inNext_lt d L idx xs (by decide)]; exact BIBase.Entails.of_eq rfl
theorem in_leave : InNext d L idx xs 117 ⊢ InFree (F := F) d L 1 := by
  unfold InNext
  rw [if_neg (by decide), show par 117 = 1 from rfl]
theorem out_enter0 : iprop((∃ f, sO.view.loc (thr d L) ↦[seg (N := 18432) 0 9216]{fullShare} f) ∗ semVal (thr d L, .dma (mO 0)) 0) ⊢ OutNext d L PV 0 := by
  rw [outNext_lt d L PV (by decide)]; exact BIBase.Entails.of_eq rfl
theorem out_enter1 : iprop((∃ f, sO.view.loc (thr d L) ↦[seg (N := 18432) 9216 9216]{fullShare} f) ∗ semVal (thr d L, .dma (mO 1)) 0) ⊢ OutNext d L PV 1 := by
  rw [outNext_lt d L PV (by decide)]; exact BIBase.Entails.of_eq rfl

/-- The loop over the units is entered with the first unit's rows on their way. -/
theorem rect_enter : iprop(OwL d L O W ∗ ((∃ q, gT.view.loc (thr d L) ↦{q} tab) ∗ semVal (thr d L, .dma mT) 0 ∗ (∃ f, sT.view.loc (thr d L) ↦[seg (N := 81280) 0 81216]{fullShare} f)) ∗ InA d L idx xs (117 * wid L) 0 6
    ∗ InFree (F := F) d L 1 ∗ ((∃ f, sO.view.loc (thr d L) ↦[seg (N := 18432) 0 9216]{fullShare} f) ∗ semVal (thr d L, .dma (mO 0)) 0) ∗ ((∃ f, sO.view.loc (thr d L) ↦[seg (N := 18432) 9216 9216]{fullShare} f) ∗ semVal (thr d L, .dma (mO 1)) 0)
    ∗ Undone (F := F) d L 0) ⊢ RectInv d L tab idx xs PV O W 0 := by
  unfold RectInv
  iintro ⟨HO, HT, HI, HF, H0, H1, HU⟩
  isplitl [HO]; · iexact HO
  isplitl [HT]
  · unfold TabInv
    rw [if_pos rfl]
    iexact HT
  ihave HI := (in_ready d L idx xs) $$ HI
  icases HI with ⟨G1, G2, HB⟩
  isplitl [G1 G2]
  · unfold InSh
    isplitl [G1]; · iexact G1
    iexact G2
  isplitl [HB]
  · iapply (in_enter d L idx xs) $$ HB
  isplitl [HF]; · iexact HF
  isplitl [H0]
  · iapply (out_enter0 d L PV) $$ H0
  isplitl [H1]
  · iapply (out_enter1 d L PV) $$ H1
  isplitl [HU]; · iexact HU
  unfold Done
  rw [show (Finset.univ.filter fun j : Fin 117 => j.val + 2 < 0) = ∅ from by ext j; simp]
  iempintro

/-- What is at hand when the loop over the units ends. -/
theorem rect_leave {n : ℕ} (hn : n = 117 := by decide) : RectInv d L tab idx xs PV O W n ⊢
    iprop(OwL d L O W ∗ ((∃ q, gT.view.loc (thr d L) ↦{q} tab) ∗ semVal (thr d L, .dma mT) 0 ∗ (∃ f, sT.view.loc (thr d L) ↦[seg (N := 81280) 0 81216]{fullShare} f)) ∗ InSh d L idx xs
    ∗ InFree (F := F) d L 0 ∗ InFree (F := F) d L 1
    ∗ Batch EC (thr d L) (.dma (mO 1)) (none : HIx 1) nU (DO d L PV (117 * wid L + 115) 1) 9 (0 * nU)
    ∗ Batch EC (thr d L) (.dma (mO 0)) (none : HIx 1) nU (DO d L PV (117 * wid L + 116) 0) 9 (0 * nU)
    ∗ Done d L PV 117) := by
  subst hn
  unfold RectInv
  iintro ⟨HO, HT, HG, HI, HF, H0, H1, -, HD⟩
  isplitl [HO]; · iexact HO
  isplitl [HT]; · iapply (tabInv_any d L tab) $$ HT
  isplitl [HG]; · iexact HG
  isplitl [HF]; · iexact HF
  isplitl [HI]
  · iapply (in_leave d L idx xs) $$ HI
  isplitl [H0]
  · iapply (BIBase.Entails.of_eq (outNext_two d L PV (k := 115)).symm) $$ H0
  isplitl [H1]
  · iapply (BIBase.Entails.of_eq (outNext_two d L PV (k := 116)).symm) $$ H1
  iexact HD

set_option maxHeartbeats 8000000 in
/-- The last copy before the loop over the units, and the loop. -/
theorem part98_spec (hO : ∀ g, O g none = 0) (hidx : ∀ i, (idx i).toNat < 1504) (hPV : ∀ u, u < 3744 → PairOK tab idx xs PV u) (hu : 117 * wid L < 3744) {v2 : BitVec 32} {v3 : BitVec 32} {Q : _ → sProp 𝕄} :
    iprop(OwL d L O W ∗ ((∃ q, gT.view.loc (thr d L) ↦{q} tab) ∗ semVal (thr d L, .dma mT) 0 ∗ (∃ f, sT.view.loc (thr d L) ↦[seg (N := 81280) 0 81216]{fullShare} f)) ∗ InB d L idx xs (117 * wid L) 0 5
    ∗ InFree (F := F) d L 1 ∗ ((∃ f, sO.view.loc (thr d L) ↦[seg (N := 18432) 0 9216]{fullShare} f) ∗ semVal (thr d L, .dma (mO 0)) 0) ∗ ((∃ f, sO.view.loc (thr d L) ↦[seg (N := 18432) 9216 9216]{fullShare} f) ∗ semVal (thr d L, .dma (mO 1)) 0)
    ∗ Undone (F := F) d L 0) ⊢ iprop((∀ v, RectInv d L tab idx xs PV O W k0_t1_loop.trips -∗ Q v) -∗ wp frame (wpE (defs₀ (F := F)) 𝒱₀ (thr d L) none) Set.univ (k0_part98 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0 v2 v3) Q) := by
  rw [k0_part98_eq_skeleton]
  unfold k0_part98_skel
  simp only [Prog.lift, Prog.bind_op, Prog.bind_ret, Prog.pure_eq_ret]
  iintro ⟨HO, HT, HI, HF, H0, H1, HU⟩ Hk
  iapply (in_x d L idx xs 5 (by decide) hu (mI_eq 0 (![0]) _ rfl) (show k0_off2 L 2#32 0 = inOff _ 5 from off2_val L 2) (show (![5120] : Fin 1 → ℕ) 0 = 6144 * (0 : Fin 2).val + 1024 * 5 from rfl)) $$ HI
  iintro HI
  iapply (Scf.wp_for_bind frame (wpE (defs₀ (F := F)) 𝒱₀ (thr d L) none) Set.univ k0_t1_loop.lb k0_t1_loop.ub k0_t1_loop.st k0_t1_ok ⟨⟩ _
    (fun k _ => RectInv d L tab idx xs PV O W k)
    (fun k acc => t1_turn d L tab idx xs PV hO hidx hPV k acc)) $$ [HO HT HI HF H0 H1 HU]
  · iapply (rect_enter d L tab idx xs PV)
    isplitl [HO]; · iexact HO
    isplitl [HT]; · iexact HT
    isplitl [HI]; · iexact HI
    isplitl [HF]; · iexact HF
    isplitl [H0]; · iexact H0
    isplitl [H1]; · iexact H1
    iexact HU
  iintro %acc H
  iapply (wp_done d L)
  iapply Hk
  iexact H

/-- A tile's own buffers, at some contents. -/
def Bufs : sProp 𝕄 := iprop((∃ f, sT.view.loc (thr d L) ↦[seg (N := 81280) 0 81280]{fullShare} f) ∗ (∃ f, sW.view.loc (thr d L) ↦[seg (N := 4608) 0 4608]{fullShare} f) ∗ (∃ f, sI.view.loc (thr d L) ↦[seg (N := 12288) 0 12288]{fullShare} f) ∗ (∃ f, sX.view.loc (thr d L) ↦[seg (N := 12288) 0 12288]{fullShare} f) ∗ (∃ f, sO.view.loc (thr d L) ↦[seg (N := 18432) 0 18432]{fullShare} f) ∗ (∃ f, sL.view.loc (thr d L) ↦[seg (N := 1536) 0 1536]{fullShare} f))
/-- A tile's own semaphores, at zero. -/
def Sems : sProp 𝕄 := iprop(semVal (thr d L, .dma mT) 0 ∗ semVal (thr d L, .dma (mI 0)) 0 ∗ semVal (thr d L, .dma (mI 1)) 0 ∗ semVal (thr d L, .dma (mO 0)) 0 ∗ semVal (thr d L, .dma (mO 1)) 0 ∗ semVal (thr d L, .dma mTd) 0 ∗ semVal (thr d L, .dma mId) 0 ∗ semVal (thr d L, .dma mOd) 0)
/-- A share of each argument. -/
def Args : sProp 𝕄 := iprop((∃ q, gT.view.loc (thr d L) ↦{q} tab) ∗ (∃ q, gI.view.loc (thr d L) ↦{q} idx) ∗ (∃ q, gX.view.loc (thr d L) ↦{q} xs) ∗ (∃ q, gW.view.loc (thr d L) ↦{q} w))
/-- The tile's chunks in the pair result, not written yet. -/
def PairE : sProp 𝕄 := iprop(Undone (F := F) d L 0 ∗ DUndone (F := F) d L 0)
/-- The tile's chunks in the pair result, written. -/
def PairW : sProp 𝕄 := iprop((bigSep Finset.univ (fun j : Fin 117 => unitW d L PV (117 * wid L + j.val))) ∗ DDone d L PV 13)

theorem linZero_begin : (∃ f, sL.view.loc (thr d L) ↦[seg (N := 1536) 0 1536]{fullShare} f) ⊢ LinZero d L LB (wid L) 0 := by
  unfold LinZero
  iintro ⟨%f, H⟩
  iexists f
  isplitr
  · ipureintro
    intro i hi
    omega
  iexact H

theorem linZero_end {n : ℕ} (hn : n = 96 := by decide) : LinZero d L LB (wid L) n ⊢ (sL.view.loc (thr d L) ↦[seg (N := 1536) 0 1536]{fullShare} linC (LB (0)) (wid L)) := by
  subst hn
  unfold LinZero
  iintro ⟨%g, %hg, H⟩
  iapply (Entails.of_eq (pointsTo_congr (fun i hi => by
    have h := mem_seg.mp hi
    exact hg i (by omega)))) $$ H

theorem diag_begin : iprop(OwL d L O W ∗ (∃ q, gT.view.loc (thr d L) ↦{q} tab) ∗ InSh d L idx xs ∗ (∃ q, gW.view.loc (thr d L) ↦{q} w)
    ∗ (∃ f, sI.view.loc (thr d L) ↦[seg (N := 12288) 0 4608]{fullShare} f) ∗ (∃ f, sX.view.loc (thr d L) ↦[seg (N := 12288) 0 4608]{fullShare} f) ∗ (∃ f, sT.view.loc (thr d L) ↦[seg (N := 81280) 0 27072]{fullShare} f) ∗ (∃ f, sW.view.loc (thr d L) ↦[seg (N := 4608) 0 4512]{fullShare} f) ∗ (∃ f, sO.view.loc (thr d L) ↦[seg (N := 18432) 0 4608]{fullShare} f) ∗ (sL.view.loc (thr d L) ↦[seg (N := 1536) 0 1536]{fullShare} linC (LB (0)) (wid L))
    ∗ semVal (thr d L, .dma mTd) 0 ∗ semVal (thr d L, .dma mId) 0 ∗ semVal (thr d L, .dma mOd) 0 ∗ DUndone (F := F) d L 0) ⊢ DiagInv d L tab idx xs w PV LB O W 0 := by
  unfold DiagInv
  iintro ⟨H1, H2, H3, H4, H5, H6, H7, H8, H9, HA, HB, HC, HD, HE⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HA]; · iexact HA
  isplitl [HB]; · iexact HB
  isplitl [HC]; · iexact HC
  isplitl [HD]; · iexact HD
  isplitl [HE]; · iexact HE
  unfold DDone
  rw [show (Finset.univ.filter fun j : Fin 13 => j.val < 0) = ∅ from by ext j; simp]
  iempintro

theorem diag_end {n : ℕ} (hn : n = 13 := by decide) : DiagInv d L tab idx xs w PV LB O W n ⊢ iprop(OwL d L O W
    ∗ (∃ f, sI.view.loc (thr d L) ↦[seg (N := 12288) 0 4608]{fullShare} f) ∗ (∃ f, sX.view.loc (thr d L) ↦[seg (N := 12288) 0 4608]{fullShare} f) ∗ (∃ f, sT.view.loc (thr d L) ↦[seg (N := 81280) 0 27072]{fullShare} f) ∗ (∃ f, sW.view.loc (thr d L) ↦[seg (N := 4608) 0 4512]{fullShare} f) ∗ (∃ f, sO.view.loc (thr d L) ↦[seg (N := 18432) 0 4608]{fullShare} f) ∗ (sL.view.loc (thr d L) ↦[seg (N := 1536) 0 1536]{fullShare} linC (LB (13)) (wid L))
    ∗ semVal (thr d L, .dma mTd) 0 ∗ semVal (thr d L, .dma mId) 0 ∗ semVal (thr d L, .dma mOd) 0 ∗ DDone d L PV 13) := by
  subst hn
  unfold DiagInv
  iintro ⟨H1, -, -, -, H5, H6, H7, H8, H9, HA, HB, HC, HD, -, HE⟩
  isplitl [H1]; · iexact H1
  isplitl [H5]; · iexact H5
  isplitl [H6]; · iexact H6
  isplitl [H7]; · iexact H7
  isplitl [H8]; · iexact H8
  isplitl [H9]; · iexact H9
  isplitl [HA]; · iexact HA
  isplitl [HB]; · iexact HB
  isplitl [HC]; · iexact HC
  isplitl [HD]; · iexact HD
  iexact HE

set_option maxHeartbeats 16000000 in
/-- A tile's work up to the copy of the linear sums. -/
theorem part119_spec (hO : ∀ g, O g none = 0) (hidx : ∀ i, (idx i).toNat < 1504) (hPV : ∀ u, u < 3744 → PairOK tab idx xs PV u)
    (hDPV : ∀ b < 13, DPairOK tab idx xs PV (wid L) b) (hL : ∀ b < 13, LinOK idx xs w LB (wid L) b) (h0 : ∀ t < 96, lVec (LB 0) (wid L) t = k0_pay158)
    {Q : _ → sProp 𝕄} :
    iprop(OwL d L O W ∗ Args d L tab idx xs w ∗ Bufs (F := F) d L ∗ Sems (F := F) d L ∗ PairE (F := F) d L)
      ⊢ iprop((∀ v, (OwL d L O W ∗ ((∃ f, sT.view.loc (thr d L) ↦[seg (N := 81280) 0 81280]{fullShare} f) ∗ (∃ f, sW.view.loc (thr d L) ↦[seg (N := 4608) 0 4608]{fullShare} f) ∗ (∃ f, sI.view.loc (thr d L) ↦[seg (N := 12288) 0 12288]{fullShare} f) ∗ (∃ f, sX.view.loc (thr d L) ↦[seg (N := 12288) 0 12288]{fullShare} f) ∗ (∃ f, sO.view.loc (thr d L) ↦[seg (N := 18432) 0 18432]{fullShare} f)) ∗ (sL.view.loc (thr d L) ↦[seg (N := 1536) 0 1536]{fullShare} linC (LB (13)) (wid L)) ∗ Sems (F := F) d L ∗ PairW d L PV) -∗ Q v)
        -∗ wp frame (wpE (defs₀ (F := F)) 𝒱₀ (thr d L) none) Set.univ (k0_part119 (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0) Q) := by
  have hu : 117 * wid L < 3744 := by have := wid_lt L; omega
  rw [k0_part119_eq_skeleton]
  unfold k0_part119_skel
  simp only [Prog.lift, Prog.bind_op, Prog.bind_ret, Prog.pure_eq_ret]
  unfold Args Bufs Sems PairE
  iintro ⟨HO, ⟨HgT, HgI, HgX, HgW⟩, ⟨HsT, HsW, HsI, HsX, HsO, HsL⟩, ⟨HvT, HvI0, HvI1, HvO0, HvO1, HvTd, HvId, HvOd⟩, ⟨HU, HDU⟩⟩ Hk
  ihave HsT := (held_split_ex (ℓ := sT.view.loc (thr d L)) (S := seg (N := 81280) 0 81280) (S₁ := seg (N := 81280) 0 81216) (S₂ := seg (N := 81280) 81216 64) (seg_cut rfl rfl) (seg_disjoint (by omega))) $$ HsT
  icases HsT with ⟨HsT, HsTr81216⟩
  ihave HsI := (held_split_ex (ℓ := sI.view.loc (thr d L)) (S := seg (N := 12288) 0 12288) (S₁ := seg (N := 12288) 0 6144) (S₂ := seg (N := 12288) 6144 6144) (seg_cut rfl rfl) (seg_disjoint (by omega))) $$ HsI
  icases HsI with ⟨HsI, HsIr6144⟩
  ihave HsX := (held_split_ex (ℓ := sX.view.loc (thr d L)) (S := seg (N := 12288) 0 12288) (S₁ := seg (N := 12288) 0 6144) (S₂ := seg (N := 12288) 6144 6144) (seg_cut rfl rfl) (seg_disjoint (by omega))) $$ HsX
  icases HsX with ⟨HsX, HsXr6144⟩
  ihave HsO := (held_split_ex (ℓ := sO.view.loc (thr d L)) (S := seg (N := 18432) 0 18432) (S₁ := seg (N := 18432) 0 9216) (S₂ := seg (N := 18432) 9216 9216) (seg_cut rfl rfl) (seg_disjoint (by omega))) $$ HsO
  icases HsO with ⟨HsO, HsOr9216⟩
  iapply (in_begin d L idx xs (u := 117 * wid L) (p := 0)) $$ [HgI HgX HsI HsX HvI0]
  · isplitl [HgI]; · iexact HgI
    isplitl [HgX]; · iexact HgX
    isplitl [HsI]; · iexact HsI
    isplitl [HsX]; · iexact HsX
    iexact HvI0
  iintro HI
  rw [wp_bind]
  iapply (wp_pureP d L (part93_pure (F := F) L ))
  iintro %v
  obtain ⟨a0, a1, a2, a3, a4, a5⟩ := v
  try dsimp only
  rw [wp_bind]
  iapply (wp_pureP d L (part94_pure (F := F) L _ _ _ _))
  iintro %v
  obtain ⟨a0, a1, a2, a3, a4⟩ := v
  try dsimp only
  rw [wp_bind]
  iapply (wp_pureP d L (part95_pure (F := F) L _ _ _ _ _))
  iintro %v
  obtain ⟨a0, a1, a2⟩ := v
  try dsimp only
  rw [wp_bind]
  iapply (part96_spec d L idx xs hu) $$ HI
  iintro %v HI
  try dsimp only
  rw [wp_bind]
  iapply (part97_spec d L idx xs hu) $$ HI
  iintro %v HI
  try dsimp only
  rw [wp_bind]
  iapply (part98_spec d L tab idx xs PV hO hidx hPV hu) $$ [HO HgT HvT HsT HI HsIr6144 HsXr6144 HvI1 HsO HvO0 HsOr9216 HvO1 HU]
  · isplitl [HO]; · iexact HO
    isplitl [HgT HvT HsT]
    · isplitl [HgT]; · iexact HgT
      isplitl [HvT]; · iexact HvT
      iexact HsT
    isplitl [HI]; · iexact HI
    isplitl [HsIr6144 HsXr6144 HvI1]
    · unfold InFree
      isplitl [HsIr6144]; · iexact HsIr6144
      isplitl [HsXr6144]; · iexact HsXr6144
      iexact HvI1
    isplitl [HsO HvO0]
    · isplitl [HsO]; · iexact HsO
      iexact HvO0
    isplitl [HsOr9216 HvO1]
    · isplitl [HsOr9216]; · iexact HsOr9216
      iexact HvO1
    iexact HU
  iintro %v H
  ihave H := (rect_leave d L tab idx xs PV trips1) $$ H
  icases H with ⟨HO, ⟨HgT, HvT, HsT⟩, HG, HF0, HF1, HP1, HP0, HD⟩
  obtain ⟨d0, d1, d2, d3⟩ := v
  try dsimp only
  rw [wp_bind]
  iapply (wp_pureP d L (part99_pure (F := F) L _ _ _ _))
  iintro %v
  obtain ⟨a0, a1, a2, a3, a4⟩ := v
  try dsimp only
  rw [wp_bind]
  iapply (wp_pureP d L (part100_pure (F := F) L _ _ _ _ _))
  iintro %v
  obtain ⟨a0, a1⟩ := v
  try dsimp only
  rw [wp_bind]
  iapply (wp_pureP d L (part101_pure (F := F) L _ _ _ _))
  iintro %v
  obtain ⟨a0, a1, a2, a3, a4, a5, a6⟩ := v
  try dsimp only
  rw [wp_bind]
  iapply (wp_pureP d L (part102_pure (F := F) L _ _ _ _ _ _ _ _ _ _))
  iintro %v
  obtain ⟨a0, a1, a2, a3, a4, a5, a6⟩ := v
  try dsimp only
  rw [wp_bind]
  iapply (wp_pureP d L (part103_pure (F := F) L _ _ _ _ _ _ _ _ _ _))
  iintro %v
  obtain ⟨a0, a1⟩ := v
  try dsimp only
  rw [wp_bind]
  iapply (wp_pureP d L (part104_pure (F := F) L _ _ _ _ _))
  iintro %v
  obtain ⟨a0, a1, a2⟩ := v
  try dsimp only
  rw [wp_bind]
  iapply (wp_pureP d L (part105_pure (F := F) L _ _ _ _ _ _))
  iintro %v
  obtain ⟨a0, a1, a2, a3, a4, a5, a6⟩ := v
  try dsimp only
  rw [wp_bind]
  iapply (wp_pureP d L (part106_pure (F := F) L _ _ _ _ _ _ _ _ _ _))
  iintro %v
  obtain ⟨a0, a1, a2, a3, a4, a5⟩ := v
  try dsimp only
  rw [wp_bind]
  iapply (part107_spec d L PV hO) $$ [HO HP1]
  · isplitl [HO]; · iexact HO
    iexact HP1
  iintro %v ⟨HO, HP1⟩
  try dsimp only
  rw [wp_bind]
  iapply (part108_spec d L PV hO) $$ [HO HP1]
  · isplitl [HO]; · iexact HO
    iexact HP1
  iintro %v ⟨HO, HP1, HvO1⟩
  obtain ⟨d0, d1, d2, d3, d4⟩ := v
  try dsimp only
  rw [wp_bind]
  iapply (wp_pureP d L (part109_pure (F := F) L _ _ _ _ _))
  iintro %v
  obtain ⟨a0, a1, a2, a3⟩ := v
  try dsimp only
  rw [wp_bind]
  iapply (wp_pureP d L (part110_pure (F := F) L _ _ _ _ _))
  iintro %v
  obtain ⟨a0, a1, a2, a3, a4, a5, a6, a7, a8⟩ := v
  try dsimp only
  rw [wp_bind]
  iapply (wp_pureP d L (part111_pure (F := F) L _ _ _ _ _ _ _ _ _ _))
  iintro %v
  obtain ⟨a0, a1, a2, a3, a4, a5, a6⟩ := v
  try dsimp only
  rw [wp_bind]
  iapply (wp_pureP d L (part112_pure (F := F) L _ _ _ _ _ _ _ _ _ _))
  iintro %v
  obtain ⟨a0, a1⟩ := v
  try dsimp only
  rw [wp_bind]
  iapply (wp_pureP d L (part113_pure (F := F) L _ _ _ _ _))
  iintro %v
  obtain ⟨a0, a1, a2⟩ := v
  try dsimp only
  rw [wp_bind]
  iapply (wp_pureP d L (part114_pure (F := F) L _ _ _ _ _ _))
  iintro %v
  obtain ⟨a0, a1, a2, a3, a4, a5, a6⟩ := v
  try dsimp only
  rw [wp_bind]
  iapply (wp_pureP d L (part115_pure (F := F) L _ _ _ _ _ _ _ _ _ _))
  iintro %v
  obtain ⟨a0, a1, a2, a3, a4, a5⟩ := v
  try dsimp only
  rw [wp_bind]
  iapply (wp_pureP d L (part116_pure (F := F) L _ _ _ _ _ _ _ _ _))
  iintro %v
  try dsimp only
  rw [wp_bind]
  iapply (part117_spec d L PV hO) $$ [HO HP0]
  · isplitl [HO]; · iexact HO
    iexact HP0
  iintro %v ⟨HO, HP0⟩
  try dsimp only
  rw [wp_bind]
  iapply (part118_spec d L PV hO) $$ [HO HP0]
  · isplitl [HO]; · iexact HO
    iexact HP0
  iintro %v ⟨HO, HP0⟩
  try dsimp only
  iapply (w_mid d L (n := 9) hO 7 (by decide) (mO_eq 0 (![0]) _ rfl) (credP _ _) nU_pos) $$ [HO HP0]
  · isplitl [HO]; · iexact HO
    iexact HP0
  iintro ⟨HO, HP0⟩
  iapply (w_last d L hO 8 rfl (mO_eq 0 (![0]) _ rfl) (credP _ _) nU_pos) $$ [HO HP0]
  · isplitl [HO]; · iexact HO
    iexact HP0
  iintro ⟨HO, HP0, HP0v⟩
  ihave HP1 := (out_done d L PV) $$ HP1
  icases HP1 with ⟨HW1, HsOr9216⟩
  ihave HP0 := (out_done d L PV) $$ HP0
  icases HP0 with ⟨HW0, HsO⟩
  ihave HD := (done_end d L PV) $$ [HW0 HW1 HD]
  · isplitl [HW0]; · unfold unitW; iexact HW0
    isplitl [HW1]; · unfold unitW; iexact HW1
    iexact HD
  unfold InFree
  icases HF0 with ⟨HsI, HsX, HvI0⟩
  icases HF1 with ⟨HsIr6144, HsXr6144, HvI1⟩
  ihave HsT := (held_join_ex (ℓ := sT.view.loc (thr d L)) (S := seg (N := 81280) 0 81280) (S₁ := seg (N := 81280) 0 81216) (S₂ := seg (N := 81280) 81216 64) (seg_cut rfl rfl) (seg_disjoint (by omega))) $$ [HsT HsTr81216]
  · isplitl [HsT]; · iexact HsT
    iexact HsTr81216
  ihave HsI := (held_join_ex (ℓ := sI.view.loc (thr d L)) (S := seg (N := 12288) 0 12288) (S₁ := seg (N := 12288) 0 6144) (S₂ := seg (N := 12288) 6144 6144) (seg_cut rfl rfl) (seg_disjoint (by omega))) $$ [HsI HsIr6144]
  · isplitl [HsI]; · iexact HsI
    iexact HsIr6144
  ihave HsX := (held_join_ex (ℓ := sX.view.loc (thr d L)) (S := seg (N := 12288) 0 12288) (S₁ := seg (N := 12288) 0 6144) (S₂ := seg (N := 12288) 6144 6144) (seg_cut rfl rfl) (seg_disjoint (by omega))) $$ [HsX HsXr6144]
  · isplitl [HsX]; · iexact HsX
    iexact HsXr6144
  ihave HsO := (held_join_ex (ℓ := sO.view.loc (thr d L)) (S := seg (N := 18432) 0 18432) (S₁ := seg (N := 18432) 0 9216) (S₂ := seg (N := 18432) 9216 9216) (seg_cut rfl rfl) (seg_disjoint (by omega))) $$ [HsO HsOr9216]
  · isplitl [HsO]; · iexact HsO
    iexact HsOr9216
  iapply (Scf.wp_for_bind frame (wpE (defs₀ (F := F)) 𝒱₀ (thr d L) none) Set.univ k0_t3_loop.lb k0_t3_loop.ub k0_t3_loop.st k0_t3_ok ⟨⟩ _
    (fun t _ => LinZero d L LB (wid L) t)
    (fun t acc => t3_turn d L LB h0 t acc)) $$ [HsL]
  · iapply (linZero_begin d L LB) $$ HsL
  iintro %acc H
  ihave HsL := (linZero_end d L LB trips3) $$ H
  ihave HsT := (held_split_ex (ℓ := sT.view.loc (thr d L)) (S := seg (N := 81280) 0 81280) (S₁ := seg (N := 81280) 0 27072) (S₂ := seg (N := 81280) 27072 54208) (seg_cut rfl rfl) (seg_disjoint (by omega))) $$ HsT
  icases HsT with ⟨HsT, HsTr27072⟩
  ihave HsW := (held_split_ex (ℓ := sW.view.loc (thr d L)) (S := seg (N := 4608) 0 4608) (S₁ := seg (N := 4608) 0 4512) (S₂ := seg (N := 4608) 4512 96) (seg_cut rfl rfl) (seg_disjoint (by omega))) $$ HsW
  icases HsW with ⟨HsW, HsWr4512⟩
  ihave HsI := (held_split_ex (ℓ := sI.view.loc (thr d L)) (S := seg (N := 12288) 0 12288) (S₁ := seg (N := 12288) 0 4608) (S₂ := seg (N := 12288) 4608 7680) (seg_cut rfl rfl) (seg_disjoint (by omega))) $$ HsI
  icases HsI with ⟨HsI, HsIr4608⟩
  ihave HsX := (held_split_ex (ℓ := sX.view.loc (thr d L)) (S := seg (N := 12288) 0 12288) (S₁ := seg (N := 12288) 0 4608) (S₂ := seg (N := 12288) 4608 7680) (seg_cut rfl rfl) (seg_disjoint (by omega))) $$ HsX
  icases HsX with ⟨HsX, HsXr4608⟩
  ihave HsO := (held_split_ex (ℓ := sO.view.loc (thr d L)) (S := seg (N := 18432) 0 18432) (S₁ := seg (N := 18432) 0 4608) (S₂ := seg (N := 18432) 4608 13824) (seg_cut rfl rfl) (seg_disjoint (by omega))) $$ HsO
  icases HsO with ⟨HsO, HsOr4608⟩
  iapply (Scf.wp_for_bind frame (wpE (defs₀ (F := F)) 𝒱₀ (thr d L) none) Set.univ k0_t4_loop.lb k0_t4_loop.ub k0_t4_loop.st k0_t4_ok ⟨⟩ _
    (fun b _ => DiagInv d L tab idx xs w PV LB O W b)
    (fun b acc => t4_turn d L tab idx xs w PV LB hO hidx hDPV hL b acc)) $$ [HO HgT HG HgW HsI HsX HsT HsW HsO HsL HvTd HvId HvOd HDU]
  · iapply (diag_begin d L tab idx xs w PV LB)
    isplitl [HO]; · iexact HO
    isplitl [HgT]; · iexact HgT
    isplitl [HG]; · iexact HG
    isplitl [HgW]; · iexact HgW
    isplitl [HsI]; · iexact HsI
    isplitl [HsX]; · iexact HsX
    isplitl [HsT]; · iexact HsT
    isplitl [HsW]; · iexact HsW
    isplitl [HsO]; · iexact HsO
    isplitl [HsL]; · iexact HsL
    isplitl [HvTd]; · iexact HvTd
    isplitl [HvId]; · iexact HvId
    isplitl [HvOd]; · iexact HvOd
    iexact HDU
  iintro %acc H
  ihave H := (diag_end d L tab idx xs w PV LB trips4) $$ H
  icases H with ⟨HO, HsI, HsX, HsT, HsW, HsO, HsL, HvTd, HvId, HvOd, HDD⟩
  ihave HsT := (held_join_ex (ℓ := sT.view.loc (thr d L)) (S := seg (N := 81280) 0 81280) (S₁ := seg (N := 81280) 0 27072) (S₂ := seg (N := 81280) 27072 54208) (seg_cut rfl rfl) (seg_disjoint (by omega))) $$ [HsT HsTr27072]
  · isplitl [HsT]; · iexact HsT
    iexact HsTr27072
  ihave HsW := (held_join_ex (ℓ := sW.view.loc (thr d L)) (S := seg (N := 4608) 0 4608) (S₁ := seg (N := 4608) 0 4512) (S₂ := seg (N := 4608) 4512 96) (seg_cut rfl rfl) (seg_disjoint (by omega))) $$ [HsW HsWr4512]
  · isplitl [HsW]; · iexact HsW
    iexact HsWr4512
  ihave HsI := (held_join_ex (ℓ := sI.view.loc (thr d L)) (S := seg (N := 12288) 0 12288) (S₁ := seg (N := 12288) 0 4608) (S₂ := seg (N := 12288) 4608 7680) (seg_cut rfl rfl) (seg_disjoint (by omega))) $$ [HsI HsIr4608]
  · isplitl [HsI]; · iexact HsI
    iexact HsIr4608
  ihave HsX := (held_join_ex (ℓ := sX.view.loc (thr d L)) (S := seg (N := 12288) 0 12288) (S₁ := seg (N := 12288) 0 4608) (S₂ := seg (N := 12288) 4608 7680) (seg_cut rfl rfl) (seg_disjoint (by omega))) $$ [HsX HsXr4608]
  · isplitl [HsX]; · iexact HsX
    iexact HsXr4608
  ihave HsO := (held_join_ex (ℓ := sO.view.loc (thr d L)) (S := seg (N := 18432) 0 18432) (S₁ := seg (N := 18432) 0 4608) (S₂ := seg (N := 18432) 4608 13824) (seg_cut rfl rfl) (seg_disjoint (by omega))) $$ [HsO HsOr4608]
  · isplitl [HsO]; · iexact HsO
    iexact HsOr4608
  iapply (wp_done d L)
  iapply Hk
  isplitl [HO]; · iexact HO
  isplitl [HsT HsW HsI HsX HsO]
  · isplitl [HsT]; · iexact HsT
    isplitl [HsW]; · iexact HsW
    isplitl [HsI]; · iexact HsI
    isplitl [HsX]; · iexact HsX
    iexact HsO
  isplitl [HsL]; · iexact HsL
  isplitl [HvT HvI0 HvI1 HP0v HvO1 HvTd HvId HvOd]
  · skip
    isplitl [HvT]; · iexact HvT
    isplitl [HvI0]; · iexact HvI0
    isplitl [HvI1]; · iexact HvI1
    isplitl [HP0v]; · iexact HP0v
    isplitl [HvO1]; · iexact HvO1
    isplitl [HvTd]; · iexact HvTd
    isplitl [HvId]; · iexact HvId
    iexact HvOd
  unfold PairW
  isplitl [HD]; · iexact HD
  iexact HDD

/-- The tile's linear sums in the result, and the room they came from. -/
def DL (_ : Fin 1) : sProp 𝕄 :=
  iprop((gL.view.loc (thr d L) ↦[seg (N := 49152) (1536 * wid L) 1536]{fullShare} LB 13)
    ∗ ∃ f, sL.view.loc (thr d L) ↦[seg (N := 1536) 0 1536]{fullShare} f)
instance (t : Fin 1) : Storable upEmb (DL d L LB t) := by unfold DL; infer_instance

abbrev mS : DmaSem sig := cc0_scoped0.sem
/-- The credit of the copy of the linear sums. -/
def nL : ℕ := (gL.slice (Rect.unit (s := S49152) ![0] S1536.size (by decide)) (fun _ => rfl)).view.dmaCredit
theorem nL_pos : 0 < nL := by decide
theorem credL (off : Fin 1 → ℕ) (inb) : (gL.slice (Rect.unit (s := S49152) off S1536.size inb) (fun _ => rfl)).view.dmaCredit = nL := rfl
theorem dl_all : (bigSep Finset.univ (DL d L LB) : sProp 𝕄) = iprop((gL.view.loc (thr d L) ↦[seg (N := 49152) (1536 * wid L) 1536]{fullShare} LB 13)
    ∗ ∃ f, sL.view.loc (thr d L) ↦[seg (N := 1536) 0 1536]{fullShare} f) :=
  bigSep_univ_of_subsingleton (0 : Fin 1)
theorem batch_zero : (Batch EC (thr d L) (.dma mS) (none : HIx 1) nL (DL d L LB) (0 + 1) 0 : sProp 𝕄) = Batch EC (thr d L) (.dma mS) (none : HIx 1) nL (DL d L LB) 1 (0 * nL) := by
  rw [Nat.zero_mul]

set_option maxHeartbeats 16000000 in
/-- A tile's work. -/
theorem tile_spec (hO : ∀ g, O g none = 0) (hidx : ∀ i, (idx i).toNat < 1504) (hPV : ∀ u, u < 3744 → PairOK tab idx xs PV u)
    (hDPV : ∀ b < 13, DPairOK tab idx xs PV (wid L) b) (hL : ∀ b < 13, LinOK idx xs w LB (wid L) b) (h0 : ∀ t < 96, lVec (LB 0) (wid L) t = k0_pay158) :
    iprop(OwL d L O W ∗ Args d L tab idx xs w ∗ Bufs (F := F) d L ∗ (Sems (F := F) d L ∗ semVal (thr d L, .dma mS) 0) ∗ PairE (F := F) d L ∗ (∃ f, gL.view.loc (thr d L) ↦[seg (N := 49152) (1536 * wid L) 1536]{fullShare} f))
      ⊢ wp frame (wpE (defs₀ (F := F)) 𝒱₀ (thr d L) none) Set.univ (cc0_ffm_sc_pairs (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0)
        (fun _ => iprop(OwL d L O W ∗ Bufs (F := F) d L ∗ (Sems (F := F) d L ∗ semVal (thr d L, .dma mS) 0) ∗ PairW d L PV ∗ (gL.view.loc (thr d L) ↦[seg (N := 49152) (1536 * wid L) 1536]{fullShare} LB 13))) := by
  unfold cc0_ffm_sc_pairs
  simp only [Prog.lift, Prog.bind_op, Prog.bind_ret, Prog.pure_eq_ret]
  iintro ⟨HO, HA, HB, ⟨HS, Hv⟩, HP, HL⟩
  rw [wp_bind]
  iapply (part119_spec d L tab idx xs w PV LB hO hidx hPV hDPV hL h0) $$ [HO HA HB HS HP]
  · isplitl [HO]; · iexact HO
    isplitl [HA]; · iexact HA
    isplitl [HB]; · iexact HB
    isplitl [HS]; · iexact HS
    iexact HP
  iintro %v ⟨HO, HB, HsL, HS, HP⟩
  try dsimp only
  imod (Transfers.batch_alloc' EC (thr d L) (sm := .dma mS) (E := Set.univ) (none : HIx 1) nL (DL d L LB)) $$ Hv with HT
  iapply (issue_out d L (src := sL) (dst := gL.slice (Rect.unit (s := S49152) (k0_off34 L) S1536.size (k0_off34_inb L)) (fun _ => rfl))
    (N := nL) (fs := linC (LB 13) (wid L)) (fc := LB 13) (Dl := DL d L LB) (j := 0) rfl (by decide)
    (Ss := seg (N := 1536) 0 1536) (Sd := seg (N := 49152) (1536 * wid L) 1536)
    ((View.set_whole _).trans (seg_univ (N := 1536)).symm)
    ((View.set_slice_whole _ _).trans ((unit_set (k0_off34 L) (k0_off34_inb L)).trans (by rw [off34_val])))
    (by
      intro x
      have hx : (x 0).val < 1536 := (x 0).isLt
      have h2 := unit_emb (N := 49152) (k0_off34 L) (k0_off34_inb L) x
      rw [off34_val] at h2
      show LB 13 ((Rect.unit (s := S49152) (k0_off34 L) S1536.size (k0_off34_inb L)).emb x) = (linC (LB 13) (wid L) : Vec F S1536 .f32) x
      unfold linC
      symm
      exact rd_val (N := 49152) (LB 13) _ h2)
    (by unfold DL; exact Entails.refl _)) $$ [HsL HL HT]
  · isplitl [HsL]; · iexact HsL
    isplitl [HL]; · iexact HL
    iexact HT
  iintro HT
  ihave HT := (BIBase.Entails.of_eq (batch_zero d L LB)) $$ HT
  iapply (w_last d L hO (n := 1) (N := nL) (sem := mS) (Dl := DL d L LB) 0 rfl rfl (credL (k0_off34 L) (k0_off34_inb L)) nL_pos) $$ [HO HT]
  · isplitl [HO]; · iexact HO
    iexact HT
  iintro ⟨HO, HT, Hv⟩
  ihave HT := (BIBase.Entails.of_eq (dl_all d L LB)) $$ HT
  icases HT with ⟨HL, HsL⟩
  iapply (wp_done d L)
  isplitl [HO]; · iexact HO
  isplitl [HB HsL]
  · unfold Bufs
    icases HB with ⟨B1, B2, B3, B4, B5⟩
    isplitl [B1]; · iexact B1
    isplitl [B2]; · iexact B2
    isplitl [B3]; · iexact B3
    isplitl [B4]; · iexact B4
    isplitl [B5]; · iexact B5
    iexact HsL
  isplitl [HS Hv]
  · isplitl [HS]; · iexact HS
    iexact Hv
  isplitl [HP]; · iexact HP
  iexact HL

end Tile

end Cert.ScKernelIdeal
-- ==== Proof.KernelIdealDeal.lean ====
module

public import proofs.«01_k».proof.Proof.KernelIdealState

@[expose] public section

noncomputable section

/-!
# Who writes which place of the pair result

A place of the pair result is a row (a pair of fields) and a token. Its row tells whether the two fields lie in one
block, and together with the token which tile writes it, in which turn of which loop.
-/

namespace Cert.ScKernelIdeal

open Cert.FieldTables Cert.KernelIdeal
open Idealize.ShloMosaic

/-- The first field of row `p`: how many fields' first rows are at most `p`, field 0 aside. -/
def pf (p : ℕ) : ℕ := ((List.range 37).filter fun k => pairRow (k + 1) (k + 2) ≤ p).length
/-- The second field of row `p`. -/
def pg (p : ℕ) : ℕ := p + pf p + 1 - (38 * pf p - pf p * (pf p - 1) / 2)
/-- The rectangle of row `p`, when its fields lie in two blocks. -/
def rOf (p : ℕ) : ℕ := (12 * (pf p / 3) - (pf p / 3) * (pf p / 3 - 1) / 2) + (pg p / 3 - pf p / 3 - 1)
/-- The place of row `p` among its rectangle's nine. -/
def qOf (p : ℕ) : ℕ := 3 * (pf p % 3) + pg p % 3
/-- The place of row `p` among its block's three. -/
def dqOf (p : ℕ) : ℕ := pf p % 3 + pg p % 3 - 1

set_option maxRecDepth 100000 in
theorem row_rect : ∀ r < 78, ∀ q < 9, pairRow (fld r (q / 3)) (fld r (3 + q % 3)) < 741
    ∧ pf (pairRow (fld r (q / 3)) (fld r (3 + q % 3))) = fld r (q / 3) ∧ pg (pairRow (fld r (q / 3)) (fld r (3 + q % 3))) = fld r (3 + q % 3)
    ∧ fld r (q / 3) / 3 ≠ fld r (3 + q % 3) / 3
    ∧ rOf (pairRow (fld r (q / 3)) (fld r (3 + q % 3))) = r ∧ qOf (pairRow (fld r (q / 3)) (fld r (3 + q % 3))) = q := by decide +kernel

set_option maxRecDepth 100000 in
theorem row_diag : ∀ b < 13, ∀ q < 3, pairRow (3 * b + dfst (2 * q)) (3 * b + dsnd (2 * q)) < 741
    ∧ pf (pairRow (3 * b + dfst (2 * q)) (3 * b + dsnd (2 * q))) = 3 * b + dfst (2 * q) ∧ pg (pairRow (3 * b + dfst (2 * q)) (3 * b + dsnd (2 * q))) = 3 * b + dsnd (2 * q)
    ∧ (3 * b + dfst (2 * q)) / 3 = b ∧ (3 * b + dsnd (2 * q)) / 3 = b
    ∧ dqOf (pairRow (3 * b + dfst (2 * q)) (3 * b + dsnd (2 * q))) = q := by decide +kernel

set_option maxRecDepth 100000 in
theorem row_back : ∀ p < 741, (pf p / 3 ≠ pg p / 3 → rOf p < 78 ∧ qOf p < 9 ∧ pairRow (fld (rOf p) (qOf p / 3)) (fld (rOf p) (3 + qOf p % 3)) = p)
    ∧ (pf p / 3 = pg p / 3 → pf p / 3 < 13 ∧ dqOf p < 3 ∧ pairRow (3 * (pf p / 3) + dfst (2 * dqOf p)) (3 * (pf p / 3) + dsnd (2 * dqOf p)) = p)
    ∧ pf p < 39 ∧ pg p < 39 ∧ pf p < pg p := by decide +kernel

/-- Whether the place's fields lie in one block. -/
def isDiag (n : ℕ) : ℕ := if pf (n / 49152) / 3 = pg (n / 49152) / 3 then 1 else 0
/-- The unit of a place whose fields lie in two blocks. -/
def unitOf (n : ℕ) : ℕ := 48 * rOf (n / 49152) + n % 49152 / 1024
/-- The tile that writes a place. -/
def wdOf (n : ℕ) : ℕ := if isDiag n = 1 then n % 49152 / 1536 else unitOf n / 117
def turnOf (n : ℕ) : ℕ := unitOf n % 117
def chunkOf (n : ℕ) : ℕ := qOf (n / 49152)
def dturnOf (n : ℕ) : ℕ := pf (n / 49152) / 3
def dchunkOf (n : ℕ) : ℕ := dqOf (n / 49152)

theorem isDiag_lt (n : ℕ) : isDiag n < 2 := by unfold isDiag; split <;> omega

section
variable {n : ℕ} (hn : n < 36421632)
include hn

theorem wdOf_lt : wdOf n < 32 := by
  have hp : n / 49152 < 741 := by omega
  unfold wdOf isDiag
  by_cases h : pf (n / 49152) / 3 = pg (n / 49152) / 3
  · rw [if_pos h, if_pos rfl]; omega
  · rw [if_neg h, if_neg (by decide)]
    have := ((row_back _ hp).1 h).1
    unfold unitOf; omega

theorem turnOf_lt : turnOf n < 117 := Nat.mod_lt _ (by decide)
theorem chunkOf_lt (h : isDiag n = 0) : chunkOf n < 9 := by
  have hp : n / 49152 < 741 := by omega
  unfold isDiag at h
  refine ((row_back _ hp).1 fun e => ?_).2.1
  rw [if_pos e] at h; omega
theorem dturnOf_lt (h : isDiag n = 1) : dturnOf n < 13 := by
  have hp : n / 49152 < 741 := by omega
  unfold isDiag at h
  by_cases e : pf (n / 49152) / 3 = pg (n / 49152) / 3
  · exact ((row_back _ hp).2.1 e).1
  · rw [if_neg e] at h; omega
theorem dchunkOf_lt (h : isDiag n = 1) : dchunkOf n < 3 := by
  have hp : n / 49152 < 741 := by omega
  unfold isDiag at h
  by_cases e : pf (n / 49152) / 3 = pg (n / 49152) / 3
  · exact ((row_back _ hp).2.1 e).2.1
  · rw [if_neg e] at h; omega

/-- The places of a tile's turn and chunk in the loop over units are that chunk's stretch. -/
theorem mem_unit {wd j t : ℕ} (hw : wd < 32) (hj : j < 117) (ht : t < 9) :
    (wdOf n = wd ∧ isDiag n = 0 ∧ turnOf n = j ∧ chunkOf n = t) ↔ (outOff (117 * wd + j) t ≤ n ∧ n < outOff (117 * wd + j) t + 1024) := by
  have hp : n / 49152 < 741 := by omega
  constructor
  · rintro ⟨h1, h2, h3, h4⟩
    have hd : ¬ pf (n / 49152) / 3 = pg (n / 49152) / 3 := by
      intro e; unfold isDiag at h2; rw [if_pos e] at h2; omega
    obtain ⟨hr, hq, hb⟩ := (row_back _ hp).1 hd
    unfold wdOf at h1
    rw [if_neg (by omega)] at h1
    unfold turnOf at h3
    unfold chunkOf at h4
    have hu : unitOf n = 117 * wd + j := by omega
    unfold outOff
    rw [← hu, ← h4]
    have e1 : unitOf n / 48 = rOf (n / 49152) := by unfold unitOf; omega
    have e2 : unitOf n % 48 = n % 49152 / 1024 := by unfold unitOf; omega
    rw [e1, e2, hb]
    omega
  · intro h
    unfold outOff at h
    have hr : (117 * wd + j) / 48 < 78 := by omega
    obtain ⟨a1, a2, a3, a4, a5, a6⟩ := row_rect _ hr t ht
    generalize hP : pairRow (fld ((117 * wd + j) / 48) (t / 3)) (fld ((117 * wd + j) / 48) (3 + t % 3)) = P at *
    have hnp : n / 49152 = P := by omega
    have hnt : n % 49152 / 1024 = (117 * wd + j) % 48 := by omega
    have hd : isDiag n = 0 := by
      unfold isDiag; rw [hnp, a2, a3, if_neg a4]
    have hu : unitOf n = 117 * wd + j := by unfold unitOf; rw [hnp, a5, hnt]; omega
    refine ⟨?_, hd, ?_, ?_⟩
    · unfold wdOf; rw [if_neg (by omega), hu]; omega
    · unfold turnOf; rw [hu]; omega
    · unfold chunkOf; rw [hnp, a6]

/-- The places of a tile's turn and chunk in the loop over blocks are that chunk's stretch. -/
theorem mem_dunit {wd b t : ℕ} (hw : wd < 32) (hb : b < 13) (ht : t < 3) :
    (wdOf n = wd ∧ isDiag n = 1 ∧ dturnOf n = b ∧ dchunkOf n = t) ↔ (doutOff wd b t ≤ n ∧ n < doutOff wd b t + 1536) := by
  have hp : n / 49152 < 741 := by omega
  constructor
  · rintro ⟨h1, h2, h3, h4⟩
    have hd : pf (n / 49152) / 3 = pg (n / 49152) / 3 := by
      by_contra e; unfold isDiag at h2; rw [if_neg e] at h2; omega
    obtain ⟨hr, hq, hb⟩ := (row_back _ hp).2.1 hd
    unfold wdOf at h1
    rw [if_pos h2] at h1
    unfold dturnOf at h3
    unfold dchunkOf at h4
    unfold doutOff
    rw [← h3, ← h4, hb]
    omega
  · intro h
    unfold doutOff at h
    obtain ⟨a1, a2, a3, a4, a5, a6⟩ := row_diag b hb t ht
    generalize hP : pairRow (3 * b + dfst (2 * t)) (3 * b + dsnd (2 * t)) = P at *
    have hnp : n / 49152 = P := by omega
    have hnt : n % 49152 / 1536 = wd := by omega
    have hd : isDiag n = 1 := by
      unfold isDiag; rw [hnp, a2, a3, if_pos (by rw [a4, a5])]
    refine ⟨?_, hd, ?_, ?_⟩
    · unfold wdOf; rw [if_pos hd, hnt]
    · unfold dturnOf; rw [hnp, a2, a4]
    · unfold dchunkOf; rw [hnp, a6]
end

end Cert.ScKernelIdeal

end
-- ==== Proof.KernelIdealLaunch.lean ====
module

public import proofs.«01_k».proof.Proof.KernelIdealTile
public import proofs.«01_k».proof.Proof.KernelIdealDeal

@[expose] public section

noncomputable section

/-!
# The whole call

Every place of the two results belongs to one tile; the call deals them out, every tile does its work, and the two
results are whole again.
-/

namespace Cert.ScKernelIdeal

open Cert.KernelIdeal Cert.KernelIdeal.Gen Cert.FieldTables
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch)

variable {F : FTy → Type} [FloatOps F]

local notation "𝕄" => MT nD τ sig (HIx 1) (Elt F) ℕ UU ℕ

/-! ## Dealing an array -/

/-- An array over a set is held as its parts by the value of a bounded function. -/
theorem pts_fiber {ℓ : Loc nD τ sig} (S : Finset (Idx ℓ)) (h : Idx ℓ → ℕ) (n : ℕ) (hS : ∀ i ∈ S, h i < n) {q : PosShare TreeShare} {f : Buf (Elt F) ℓ} :
    (ℓ ↦[S]{q} f : sProp 𝕄) = bigSep Finset.univ fun k : Fin n => ℓ ↦[S.filter fun i => h i = k.val]{q} f := by
  rw [← pointsTo_biUnion Finset.univ (ℓ := ℓ) (fun k : Fin n => S.filter fun i => h i = k.val)]
  · congr 1
    ext i
    simp only [Finset.mem_biUnion, Finset.mem_univ, true_and, Finset.mem_filter]
    exact ⟨fun hi => ⟨⟨h i, hS i hi⟩, hi, rfl⟩, fun ⟨_, hi, _⟩ => hi⟩
  · intro a _ b _ hab
    rw [Finset.disjoint_left]
    intro i ha hb
    have h1 := (Finset.mem_filter.mp ha).2
    have h2 := (Finset.mem_filter.mp hb).2
    exact hab (Fin.ext (h1.symm.trans h2))

/-- The arrays, as locations of device `d`. -/
abbrev aT (d : Dev nD) : Loc nD τ sig := (SparseCore.T d).loc main_arg0
abbrev aI (d : Dev nD) : Loc nD τ sig := (SparseCore.T d).loc main_arg1
abbrev aX (d : Dev nD) : Loc nD τ sig := (SparseCore.T d).loc main_arg2
abbrev aW (d : Dev nD) : Loc nD τ sig := (SparseCore.T d).loc main_arg3
abbrev pLoc (d : Dev nD) : Loc nD τ sig := (SparseCore.T d).loc main_v0_0
abbrev lLoc (d : Dev nD) : Loc nD τ sig := (SparseCore.T d).loc main_v0_1

/-- The places of the pair result that core `c`'s tiles write. -/
def coreP (c : ℕ) : Finset S36421632.Idx := Finset.univ.filter fun i => wdOf (i 0).val % 2 = c
/-- Of these, the places subcore `s` writes. -/
def tileP (c s : ℕ) : Finset S36421632.Idx := (coreP c).filter fun i => wdOf (i 0).val / 2 = s
/-- The places of the linear result that core `c`'s tiles write. -/
def coreL (c : ℕ) : Finset S49152.Idx := Finset.univ.filter fun i => (i 0).val / 1536 % 2 = c
def tileL (c s : ℕ) : Finset S49152.Idx := (coreL c).filter fun i => (i 0).val / 1536 / 2 = s

theorem lt_P (i : S36421632.Idx) : (i 0).val < 36421632 := (i 0).isLt
theorem lt_L (i : S49152.Idx) : (i 0).val < 49152 := (i 0).isLt

theorem mem_tileP {c s : ℕ} {i : S36421632.Idx} (hc : c < 2) : i ∈ tileP c s ↔ wdOf (i 0).val = 2 * s + c := by
  simp only [tileP, coreP, Finset.mem_filter, Finset.mem_univ, true_and]
  omega

theorem tileL_eq {c s : ℕ} (hc : c < 2) : tileL c s = seg (N := 49152) (1536 * (2 * s + c)) 1536 := by
  ext i
  rw [mem_seg]
  simp only [tileL, coreL, Finset.mem_filter, Finset.mem_univ, true_and]
  omega

/-- The pair result is dealt to the two cores. -/
theorem pts_cores (d : Dev nD) (f : Buf (Elt F) (pLoc d)) :
    (pLoc d ↦{fullShare} f : sProp 𝕄) = bigSep Finset.univ fun c : Fin 2 => pLoc d ↦[coreP c.val]{fullShare} f :=
  pts_fiber (ℓ := pLoc d) Finset.univ (fun i : S36421632.Idx => wdOf (i 0).val % 2) 2 (fun _ _ => Nat.mod_lt _ (by decide))
theorem lts_cores (d : Dev nD) (f : Buf (Elt F) (lLoc d)) :
    (lLoc d ↦{fullShare} f : sProp 𝕄) = bigSep Finset.univ fun c : Fin 2 => lLoc d ↦[coreL c.val]{fullShare} f :=
  pts_fiber (ℓ := lLoc d) Finset.univ (fun i : S49152.Idx => (i 0).val / 1536 % 2) 2 (fun _ _ => Nat.mod_lt _ (by decide))
/-- A core's places are dealt to its sixteen subcores. -/
theorem pts_tiles (d : Dev nD) (c : ℕ) (f : Buf (Elt F) (pLoc d)) :
    (pLoc d ↦[coreP c]{fullShare} f : sProp 𝕄) = bigSep Finset.univ fun s : Fin 16 => pLoc d ↦[tileP c s.val]{fullShare} f :=
  pts_fiber (ℓ := pLoc d) (coreP c) (fun i : S36421632.Idx => wdOf (i 0).val / 2) 16 (fun i _ => by
    have := wdOf_lt (lt_P i)
    show wdOf _ / 2 < 16
    omega)
theorem lts_tiles (d : Dev nD) (c : ℕ) (f : Buf (Elt F) (lLoc d)) :
    (lLoc d ↦[coreL c]{fullShare} f : sProp 𝕄) = bigSep Finset.univ fun s : Fin 16 => lLoc d ↦[tileL c s.val]{fullShare} f :=
  pts_fiber (ℓ := lLoc d) (coreL c) (fun i : S49152.Idx => (i 0).val / 1536 / 2) 16 (fun i _ => by
    have := lt_L i
    show _ / 2 < 16
    omega)

theorem unit_eq {c s j t : ℕ} (hc : c < 2) (hs : s < 16) (hj : j < 117) (ht : t < 9) :
    ((((tileP c s).filter fun i => isDiag (i 0).val = 0).filter fun i => turnOf (i 0).val = j).filter fun i => chunkOf (i 0).val = t)
      = seg (N := 36421632) (outOff (117 * (2 * s + c) + j) t) 1024 := by
  ext i
  rw [mem_seg, ← mem_unit (lt_P i) (show 2 * s + c < 32 by omega) hj ht]
  simp only [Finset.mem_filter, mem_tileP hc, and_assoc]

theorem dunit_eq {c s b t : ℕ} (hc : c < 2) (hs : s < 16) (hb : b < 13) (ht : t < 3) :
    ((((tileP c s).filter fun i => isDiag (i 0).val = 1).filter fun i => dturnOf (i 0).val = b).filter fun i => dchunkOf (i 0).val = t)
      = seg (N := 36421632) (doutOff (2 * s + c) b t) 1536 := by
  ext i
  rw [mem_seg, ← mem_dunit (lt_P i) (show 2 * s + c < 32 by omega) hb ht]
  simp only [Finset.mem_filter, mem_tileP hc, and_assoc]

theorem fin_two (Φ : Fin 2 → sProp 𝕄) : bigSep Finset.univ Φ = iprop(Φ 0 ∗ Φ 1) := by
  rw [show (Finset.univ : Finset (Fin 2)) = {0, 1} from by decide, SparseCore.bigSep_insert' (by decide), bigSep_singleton]

/-- A tile's places of the pair result are its chunks. -/
theorem tile_chunks (d : Dev nD) {c s : ℕ} (hc : c < 2) (hs : s < 16) (f : Buf (Elt F) (pLoc d)) :
    (pLoc d ↦[tileP c s]{fullShare} f : sProp 𝕄)
      = iprop((bigSep Finset.univ fun j : Fin 117 => bigSep Finset.univ fun t : Fin 9 => pLoc d ↦[seg (N := 36421632) (outOff (117 * (2 * s + c) + j.val) t.val) 1024]{fullShare} f)
        ∗ (bigSep Finset.univ fun b : Fin 13 => bigSep Finset.univ fun t : Fin 3 => pLoc d ↦[seg (N := 36421632) (doutOff (2 * s + c) b.val t.val) 1536]{fullShare} f)) := by
  refine (pts_fiber (ℓ := pLoc d) (tileP c s) (fun i : S36421632.Idx => isDiag (i 0).val) 2 (fun i _ => isDiag_lt _)).trans ?_
  refine (fin_two _).trans ?_
  congr 1
  · refine (pts_fiber (ℓ := pLoc d) _ (fun i : S36421632.Idx => turnOf (i 0).val) 117 (fun i _ => turnOf_lt (lt_P i))).trans (bigSep_congr fun j _ => ?_)
    refine (pts_fiber (ℓ := pLoc d) _ (fun i : S36421632.Idx => chunkOf (i 0).val) 9 (fun i hi => chunkOf_lt (lt_P i) (Finset.mem_filter.mp (Finset.mem_filter.mp hi).1).2)).trans (bigSep_congr fun t _ => ?_)
    rw [← unit_eq hc hs j.isLt t.isLt]; rfl
  · refine (pts_fiber (ℓ := pLoc d) _ (fun i : S36421632.Idx => dturnOf (i 0).val) 13 (fun i hi => dturnOf_lt (lt_P i) (Finset.mem_filter.mp hi).2)).trans (bigSep_congr fun j _ => ?_)
    refine (pts_fiber (ℓ := pLoc d) _ (fun i : S36421632.Idx => dchunkOf (i 0).val) 3 (fun i hi => dchunkOf_lt (lt_P i) (Finset.mem_filter.mp (Finset.mem_filter.mp hi).1).2)).trans (bigSep_congr fun t _ => ?_)
    rw [← dunit_eq hc hs j.isLt t.isLt]; rfl

/-- A tile starts from its chunks at whatever they hold. -/
theorem pairE_of (d : Dev nD) (L : grid0.Coords) (f : Buf (Elt F) (pLoc d)) :
    (pLoc d ↦[tileP (L 0).val (L 1).val]{fullShare} f : sProp 𝕄) ⊢ PairE (F := F) d L := by
  refine (BIBase.Entails.of_eq (tile_chunks d (L 0).isLt (L 1).isLt f)).trans ?_
  unfold PairE Undone DUndone unitE dunitE
  simp only [Transfers.pending_zero]
  refine BI.sep_mono ?_ ?_
  · exact BI.bigSep_mono fun j _ => BI.bigSep_mono fun t _ => exists_intro (Φ := fun g => (gP.view.loc (thr d L) ↦[seg (N := 36421632) (outOff (117 * wid L + j.val) t.val) 1024]{fullShare} g : sProp 𝕄)) f
  · exact BI.bigSep_mono fun j _ => BI.bigSep_mono fun t _ => exists_intro (Φ := fun g => (gP.view.loc (thr d L) ↦[seg (N := 36421632) (doutOff (wid L) j.val t.val) 1536]{fullShare} g : sProp 𝕄)) f

/-- A tile ends with its chunks written. -/
theorem pairW_to (d : Dev nD) (L : grid0.Coords) (PV : Vec F S36421632 .f32) :
    PairW d L PV ⊢ (pLoc d ↦[tileP (L 0).val (L 1).val]{fullShare} PV : sProp 𝕄) := by
  refine BI.BIBase.Entails.trans ?_ (BIBase.Entails.of_eq (tile_chunks d (L 0).isLt (L 1).isLt PV).symm)
  unfold PairW DDone unitW dunitW
  rw [show (Finset.univ.filter fun j : Fin 13 => j.val < 13) = Finset.univ from by ext j; simp]
  exact BIBase.Entails.of_eq rfl

/-! ## Shares of the arguments -/

variable (m : (ℓ : Loc nD τ sig) → Buf (Elt F) ℓ) (ρ : Dev nD → PrngReg)
variable (PV : Dev nD → Vec F S36421632 .f32) (LB : Dev nD → ℕ → Vec F S49152 .f32)

/-- A share of each argument. -/
def sh (d : Dev nD) : sProp 𝕄 := iprop((∃ q, aT d ↦{q} m (aT d)) ∗ (∃ q, aI d ↦{q} m (aI d)) ∗ (∃ q, aX d ↦{q} m (aX d)) ∗ (∃ q, aW d ↦{q} m (aW d)))

theorem sh_two (d : Dev nD) : sh m d ⊢ iprop(sh m d ∗ sh m d) := by
  unfold sh
  iintro ⟨H1, H2, H3, H4⟩
  ihave H1 := halve $$ H1
  ihave H2 := halve $$ H2
  ihave H3 := halve $$ H3
  ihave H4 := halve $$ H4
  icases H1 with ⟨G1, H1⟩
  icases H2 with ⟨G2, H2⟩
  icases H3 with ⟨G3, H3⟩
  icases H4 with ⟨G4, H4⟩
  isplitl [G1 G2 G3 G4]
  · isplitl [G1]; · iexact G1
    isplitl [G2]; · iexact G2
    isplitl [G3]; · iexact G3
    iexact G4
  isplitl [H1]; · iexact H1
  isplitl [H2]; · iexact H2
  isplitl [H3]; · iexact H3
  iexact H4

theorem sh_many (d : Dev nD) {I : Type} [DecidableEq I] (s : Finset I) : sh m d ⊢ bigSep s (fun _ => sh m d) := by
  induction s using Finset.induction with
  | empty => iintro H; iempintro
  | insert a s ha ih =>
    rw [SparseCore.bigSep_insert' ha]
    iintro H
    ihave H := (sh_two m d) $$ H
    icases H with ⟨H1, H2⟩
    isplitl [H1]; · iexact H1
    iapply ih $$ H2

instance sh_storable (d : Dev nD) : BI.Storable (upEmb : UEmb _ 𝕄) (sh m d) :=
  (inferInstance : BI.Storable (upEmb : UEmb _ 𝕄) iprop((∃ q, aT d ↦{q} m (aT d)) ∗ (∃ q, aI d ↦{q} m (aI d)) ∗ (∃ q, aX d ↦{q} m (aX d)) ∗ (∃ q, aW d ↦{q} m (aW d))))

/-! ## What the handshakes carry -/

abbrev EH : Emb UH (MT nD τ sig (HIx 1) (Elt F) ℕ UU ℕ) := embL
theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- What core `c` holds of the two results, at contents `f` and `g`; what one of its subcores holds. -/
abbrev coreR (d : Dev nD) (c : ℕ) (f : Buf (Elt F) (pLoc d)) (g : Buf (Elt F) (lLoc d)) : sProp 𝕄 :=
  iprop((pLoc d ↦[coreP c]{fullShare} f) ∗ (lLoc d ↦[coreL c]{fullShare} g))
abbrev tileR (d : Dev nD) (c s : ℕ) (f : Buf (Elt F) (pLoc d)) (g : Buf (Elt F) (lLoc d)) : sProp 𝕄 :=
  iprop((pLoc d ↦[tileP c s]{fullShare} f) ∗ (lLoc d ↦[tileL c s]{fullShare} g))

def P : (K (F := F)).Pay (nD := nD) (Val := Elt F) (Name := ℕ) (U := UU) where
  st := fun q d c => match q with | 0 => iprop(sh m d ∗ coreR d (Fin.cast nCore_zero c).val (m (pLoc d)) (m (lLoc d)))
  dn := fun q d c => match q with | 0 => coreR d (Fin.cast nCore_zero c).val (PV d) (LB d 13)
  go := fun q d c i => match q with | 0 => iprop(sh m d ∗ tileR d (Fin.cast nCore_zero c).val (Fin.cast nSub_zero i).val (m (pLoc d)) (m (lLoc d)))
  td := fun q d c i => match q with | 0 => tileR d (Fin.cast nCore_zero c).val (Fin.cast nSub_zero i).val (PV d) (LB d 13)
  x := fun _ _ => iprop(emp)

instance P_storable : (P (F := F) m PV LB).IsStorable where
  st q d c := match q with
    | 0 => (inferInstance : BI.Storable (upEmb : UEmb _ 𝕄) iprop(sh m d ∗ coreR d (Fin.cast nCore_zero c).val (m (pLoc d)) (m (lLoc d))))
  dn q d c := match q with
    | 0 => (inferInstance : BI.Storable (upEmb : UEmb _ 𝕄) (coreR d (Fin.cast nCore_zero c).val (PV d) (LB d 13)))
  go q d c i := match q with
    | 0 => (inferInstance : BI.Storable (upEmb : UEmb _ 𝕄) iprop(sh m d ∗ tileR d (Fin.cast nCore_zero c).val (Fin.cast nSub_zero i).val (m (pLoc d)) (m (lLoc d))))
  td q d c i := match q with
    | 0 => (inferInstance : BI.Storable (upEmb : UEmb _ 𝕄) (tileR d (Fin.cast nCore_zero c).val (Fin.cast nSub_zero i).val (PV d) (LB d 13)))

/-! ## The task -/

section Task

variable (d : Dev nD) (L : grid0.Coords)

/-- A tile's semaphore cells. -/
abbrev cell (d : Dev nD) (L : grid0.Coords) (s : DmaSem sig) : GSem nD τ sig := (thr d L, .dma s)
theorem cell_ne {s s' : DmaSem sig} (h : (SemLoc.dma s : SemLoc sig) ≠ .dma s') : cell d L s ≠ cell d L s' :=
  fun e => h (congrArg Prod.snd e)
theorem cell_mem {s : DmaSem sig} (h : (SemLoc.dma s : SemLoc sig).isScoped .scVector = true) : cell d L s ∈ ownCells (thr d L) :=
  (mem_ownCells (g := cell d L s)).mpr ⟨rfl, h⟩

/-- A tile's own semaphores are the nine its body names, together with the rest. -/
theorem ownSems0_V :
    (ownSems0 (thr d L) : sProp 𝕄)
      = iprop(semVal (cell d L mT) 0 ∗ semVal (cell d L (mI 0)) 0 ∗ semVal (cell d L (mI 1)) 0 ∗ semVal (cell d L (mO 0)) 0 ∗ semVal (cell d L (mO 1)) 0 ∗ semVal (cell d L mTd) 0 ∗ semVal (cell d L mId) 0 ∗ semVal (cell d L mOd) 0 ∗ semVal (cell d L mS) 0 ∗ bigSep ((((((((((ownCells (thr d L)).erase (cell d L mT)).erase (cell d L (mI 0))).erase (cell d L (mI 1))).erase (cell d L (mO 0))).erase (cell d L (mO 1))).erase (cell d L mTd)).erase (cell d L mId)).erase (cell d L mOd)).erase (cell d L mS)) fun g => semVal g 0) := by
  unfold SparseCore.Cfg.ownSems0
  rw [SparseCore.bigSep_erase' (cell_mem d L (s := mT) (by decide)),
    SparseCore.bigSep_erase' (Finset.mem_erase.mpr ⟨cell_ne d L (s := (mI 0)) (s' := mT) (by decide), (cell_mem d L (s := (mI 0)) (by decide))⟩),
    SparseCore.bigSep_erase' (Finset.mem_erase.mpr ⟨cell_ne d L (s := (mI 1)) (s' := (mI 0)) (by decide), (Finset.mem_erase.mpr ⟨cell_ne d L (s := (mI 1)) (s' := mT) (by decide), (cell_mem d L (s := (mI 1)) (by decide))⟩)⟩),
    SparseCore.bigSep_erase' (Finset.mem_erase.mpr ⟨cell_ne d L (s := (mO 0)) (s' := (mI 1)) (by decide), (Finset.mem_erase.mpr ⟨cell_ne d L (s := (mO 0)) (s' := (mI 0)) (by decide), (Finset.mem_erase.mpr ⟨cell_ne d L (s := (mO 0)) (s' := mT) (by decide), (cell_mem d L (s := (mO 0)) (by decide))⟩)⟩)⟩),
    SparseCore.bigSep_erase' (Finset.mem_erase.mpr ⟨cell_ne d L (s := (mO 1)) (s' := (mO 0)) (by decide), (Finset.mem_erase.mpr ⟨cell_ne d L (s := (mO 1)) (s' := (mI 1)) (by decide), (Finset.mem_erase.mpr ⟨cell_ne d L (s := (mO 1)) (s' := (mI 0)) (by decide), (Finset.mem_erase.mpr ⟨cell_ne d L (s := (mO 1)) (s' := mT) (by decide), (cell_mem d L (s := (mO 1)) (by decide))⟩)⟩)⟩)⟩),
    SparseCore.bigSep_erase' (Finset.mem_erase.mpr ⟨cell_ne d L (s := mTd) (s' := (mO 1)) (by decide), (Finset.mem_erase.mpr ⟨cell_ne d L (s := mTd) (s' := (mO 0)) (by decide), (Finset.mem_erase.mpr ⟨cell_ne d L (s := mTd) (s' := (mI 1)) (by decide), (Finset.mem_erase.mpr ⟨cell_ne d L (s := mTd) (s' := (mI 0)) (by decide), (Finset.mem_erase.mpr ⟨cell_ne d L (s := mTd) (s' := mT) (by decide), (cell_mem d L (s := mTd) (by decide))⟩)⟩)⟩)⟩)⟩),
    SparseCore.bigSep_erase' (Finset.mem_erase.mpr ⟨cell_ne d L (s := mId) (s' := mTd) (by decide), (Finset.mem_erase.mpr ⟨cell_ne d L (s := mId) (s' := (mO 1)) (by decide), (Finset.mem_erase.mpr ⟨cell_ne d L (s := mId) (s' := (mO 0)) (by decide), (Finset.mem_erase.mpr ⟨cell_ne d L (s := mId) (s' := (mI 1)) (by decide), (Finset.mem_erase.mpr ⟨cell_ne d L (s := mId) (s' := (mI 0)) (by decide), (Finset.mem_erase.mpr ⟨cell_ne d L (s := mId) (s' := mT) (by decide), (cell_mem d L (s := mId) (by decide))⟩)⟩)⟩)⟩)⟩)⟩),
    SparseCore.bigSep_erase' (Finset.mem_erase.mpr ⟨cell_ne d L (s := mOd) (s' := mId) (by decide), (Finset.mem_erase.mpr ⟨cell_ne d L (s := mOd) (s' := mTd) (by decide), (Finset.mem_erase.mpr ⟨cell_ne d L (s := mOd) (s' := (mO 1)) (by decide), (Finset.mem_erase.mpr ⟨cell_ne d L (s := mOd) (s' := (mO 0)) (by decide), (Finset.mem_erase.mpr ⟨cell_ne d L (s := mOd) (s' := (mI 1)) (by decide), (Finset.mem_erase.mpr ⟨cell_ne d L (s := mOd) (s' := (mI 0)) (by decide), (Finset.mem_erase.mpr ⟨cell_ne d L (s := mOd) (s' := mT) (by decide), (cell_mem d L (s := mOd) (by decide))⟩)⟩)⟩)⟩)⟩)⟩)⟩),
    SparseCore.bigSep_erase' (Finset.mem_erase.mpr ⟨cell_ne d L (s := mS) (s' := mOd) (by decide), (Finset.mem_erase.mpr ⟨cell_ne d L (s := mS) (s' := mId) (by decide), (Finset.mem_erase.mpr ⟨cell_ne d L (s := mS) (s' := mTd) (by decide), (Finset.mem_erase.mpr ⟨cell_ne d L (s := mS) (s' := (mO 1)) (by decide), (Finset.mem_erase.mpr ⟨cell_ne d L (s := mS) (s' := (mO 0)) (by decide), (Finset.mem_erase.mpr ⟨cell_ne d L (s := mS) (s' := (mI 1)) (by decide), (Finset.mem_erase.mpr ⟨cell_ne d L (s := mS) (s' := (mI 0)) (by decide), (Finset.mem_erase.mpr ⟨cell_ne d L (s := mS) (s' := mT) (by decide), (cell_mem d L (s := mS) (by decide))⟩)⟩)⟩)⟩)⟩)⟩)⟩)⟩)]

/-- A tile's own buffers are the six its body names, together with the rest. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), (SparseCore.Cfg.mem_ownRefs_of_owner (p := Proc.scVector (cV L) (jV L)) (b := ((Proc.scVector (cV L) (jV L)).devRef cc0_scratch1)) rfl)⟩),
    SparseCore.bigSep_erase' (Finset.mem_erase.mpr ⟨fun e => absurd (Proc.devRef_injective _ e) (show (cc0_scratch2 : Ref sig .scVector) ≠ cc0_scratch1 by decide), (Finset.mem_erase.mpr ⟨fun e => absurd (Proc.devRef_injective _ e) (show (cc0_scratch2 : Ref sig .scVector) ≠ cc0_scratch0 by decide), (SparseCore.Cfg.mem_ownRefs_of_owner (p := Proc.scVector (cV L) (jV L)) (b := ((Proc.scVector (cV L) (jV L)).devRef cc0_scratch2)) rfl)⟩)⟩),
    SparseCore.bigSep_erase' (Finset.mem_erase.mpr ⟨fun e => absurd (Proc.devRef_injective _ e) (show (cc0_scratch3 : Ref sig .scVector) ≠ cc0_scratch2 by decide), (Finset.mem_erase.mpr ⟨fun e => absurd (Proc.devRef_injective _ e) (show (cc0_scratch3 : Ref sig .scVector) ≠ cc0_scratch1 by decide), (Finset.mem_erase.mpr ⟨fun e => absurd (Proc.devRef_injective _ e) (show (cc0_scratch3 : Ref sig .scVector) ≠ cc0_scratch0 by decide), (SparseCore.Cfg.mem_ownRefs_of_owner (p := Proc.scVector (cV L) (jV L)) (b := ((Proc.scVector (cV L) (jV L)).devRef cc0_scratch3)) rfl)⟩)⟩)⟩),
    SparseCore.bigSep_erase' (Finset.mem_erase.mpr ⟨fun e => absurd (Proc.devRef_injective _ e) (show (cc0_scratch4 : Ref sig .scVector) ≠ cc0_scratch3 by decide), (Finset.mem_erase.mpr ⟨fun e => absurd (Proc.devRef_injective _ e) (show (cc0_scratch4 : Ref sig .scVector) ≠ cc0_scratch2 by decide), (Finset.mem_erase.mpr ⟨fun e => absurd (Proc.devRef_injective _ e) (show (cc0_scratch4 : Ref sig .scVector) ≠ cc0_scratch1 by decide), (Finset.mem_erase.mpr ⟨fun e => absurd (Proc.devRef_injective _ e) (show (cc0_scratch4 : Ref sig .scVector) ≠ cc0_scratch0 by decide), (SparseCore.Cfg.mem_ownRefs_of_owner (p := Proc.scVector (cV L) (jV L)) (b := ((Proc.scVector (cV L) (jV L)).devRef cc0_scratch4)) rfl)⟩)⟩)⟩)⟩),
    SparseCore.bigSep_erase' (Finset.mem_erase.mpr ⟨fun e => absurd (Proc.devRef_injective _ e) (show (cc0_scratch5 : Ref sig .scVector) ≠ cc0_scratch4 by decide), (Finset.mem_erase.mpr ⟨fun e => absurd (Proc.devRef_injective _ e) (show (cc0_scratch5 : Ref sig .scVector) ≠ cc0_scratch3 by decide), (Finset.mem_erase.mpr ⟨fun e => absurd (Proc.devRef_injective _ e) (show (cc0_scratch5 : Ref sig .scVector) ≠ cc0_scratch2 by decide), (Finset.mem_erase.mpr ⟨fun e => absurd (Proc.devRef_injective _ e) (show (cc0_scratch5 : Ref sig .scVector) ≠ cc0_scratch1 by decide), (Finset.mem_erase.mpr ⟨fun e => absurd (Proc.devRef_injective _ e) (show (cc0_scratch5 : Ref sig .scVector) ≠ cc0_scratch0 by decide), (SparseCore.Cfg.mem_ownRefs_of_owner (p := Proc.scVector (cV L) (jV L)) (b := ((Proc.scVector (cV L) (jV L)).devRef cc0_scratch5)) rfl)⟩)⟩)⟩)⟩)⟩)]

theorem bufs_eq : Bufs (F := F) d L = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f)) := by
  unfold Bufs
  rw [seg_univ (N := 81280), seg_univ (N := 4608), seg_univ (N := 12288), seg_univ (N := 18432), seg_univ (N := 1536)]

/-- What the values must satisfy for the call to leave them. -/
structure Values (tab : Vec F S6862752 .i32) (idx : Vec F S1916928 .i32) (xs : Vec F S1916928 .f32) (w : Vec F S58656 .f32)
    (PV : Vec F S36421632 .f32) (LB : ℕ → Vec F S49152 .f32) : Prop where
  range : ∀ i, (idx i).toNat < 1504
  pair : ∀ u, u < 3744 → PairOK tab idx xs PV u
  dpair : ∀ wd < 32, ∀ b < 13, DPairOK tab idx xs PV wd b
  lin : ∀ wd < 32, ∀ b < 13, LinOK idx xs w LB wd b
  zero : ∀ wd < 32, ∀ t < 96, lVec (LB 0) wd t = k0_pay158

variable (hv : ∀ d, Values (m (aT d)) (m (aI d)) (m (aX d)) (m (aW d)) (PV d) (LB d))
include hv

set_option maxHeartbeats 4000000 in
/-- The task of tile `L`. -/
theorem tile_body (hF : (K (F := F)).Facts) (O : CellTallies nD τ sig (HIx 1)) (W : Waits sig (HIx 1)) (hO : ∀ g, O g none = 0) :
    iprop(levAts (K (F := F)).L (K (F := F)).lev ∗ emp
        ∗ (sh m d ∗ tileR d (L 0).val (L 1).val (m (pLoc d)) (m (lLoc d)))
        ∗ scopedBufs (thr d L) ∗ scopedSems0 (thr d L) ∗ owes (thr d L) O W)
      ⊢ wp frame (wpE (defs₀ (F := F)) 𝒱₀ (thr d L) none) Set.univ
          (cc0_ffm_sc_pairs (F := F) L gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0)
          fun _ => iprop(tileR d (L 0).val (L 1).val (PV d) (LB d 13)
            ∗ scopedBufs (thr d L) ∗ scopedSems0 (thr d L)
            ∗ ∃ W', ⌜∀ p ∈ W', p ∈ W ∨ p.2 = none ∨ p.2 = some (0 : Fin 1)⌝ ∗ owes (thr d L) O W') := by
  have hs := tile_spec d L (O := O) (W := W) (m (aT d)) (m (aI d)) (m (aX d)) (m (aW d)) (PV d) (LB d) hO (hv d).range (hv d).pair ((hv d).dpair _ (wid_lt L))
    ((hv d).lin _ (wid_lt L)) ((hv d).zero _ (wid_lt L))
  rw [(K (F := F)).scopedBufs_V hF d (cV L) (jV L), SparseCore.Cfg.scopedSems0_V (Val := Elt F) d (cV L) (jV L), ownSems0_V, ownBufs_V]
  have hl : tileL (L 0).val (L 1).val = seg (N := 49152) (1536 * wid L) 1536 := tileL_eq (L 0).isLt
  unfold tileR
  rw [hl]
  rw [bufs_eq] at hs
  unfold OwL Ow Sems Args at hs
  iintro ⟨#Hlv, -, ⟨Hsh, ⟨HP, HL⟩⟩, ⟨B0, B1, B2, B3, B4, B5, Hbufs⟩, ⟨S0, S1, S2, S3, S4, S5, S6, S7, S8, Hsems⟩, HO⟩
  ihave HP := (pairE_of d L (m (pLoc d))) $$ HP
  iapply (wp_wand_r frame (wpE (defs₀ (F := F)) 𝒱₀ (thr d L) none) Set.univ)
  isplitr [Hbufs Hsems]
  · iapply hs
    isplitl [HO]
    · isplitr; · iexact Hlv
      iexists W
      isplitr
      · ipureintro; exact fun p hp => Or.inl hp
      iexact HO
    isplitl [Hsh]
    · unfold sh
      iexact Hsh
    isplitl [B0 B1 B2 B3 B4 B5]
    · isplitl [B0]; · iexact B0
      isplitl [B1]; · iexact B1
      isplitl [B2]; · iexact B2
      isplitl [B3]; · iexact B3
      isplitl [B4]; · iexact B4
      iexact B5
    isplitl [S0 S1 S2 S3 S4 S5 S6 S7 S8]
    · isplitr [S8]
      · isplitl [S0]; · iexact S0
        isplitl [S1]; · iexact S1
        isplitl [S2]; · iexact S2
        isplitl [S3]; · iexact S3
        isplitl [S4]; · iexact S4
        isplitl [S5]; · iexact S5
        isplitl [S6]; · iexact S6
        iexact S7
      iexact S8
    isplitl [HP]; · iexact HP
    iexists _
    iexact HL
  iintro %a ⟨⟨-, HO⟩, ⟨B0, B1, B2, B3, B4, B5⟩, ⟨⟨S0, S1, S2, S3, S4, S5, S6, S7⟩, S8⟩, HP, HL⟩
  ihave HP := (pairW_to d L (PV d)) $$ HP
  isplitl [HP HL]
  · isplitl [HP]; · iexact HP
    iexact HL
  isplitl [B0 B1 B2 B3 B4 B5 Hbufs]
  · isplitl [B0]; · iexact B0
    isplitl [B1]; · iexact B1
    isplitl [B2]; · iexact B2
    isplitl [B3]; · iexact B3
    isplitl [B4]; · iexact B4
    isplitl [B5]; · iexact B5
    iexact Hbufs
  isplitl [S0 S1 S2 S3 S4 S5 S6 S7 S8 Hsems]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact Hsems
  iexact HO

def coordsV (c : Fin (grid0.bound 0)) (s : Fin (grid0.bound 1)) : grid0.Coords :=
  fun | 0 => c | 1 => s | ⟨_ + 2, h⟩ => absurd h (Nat.not_lt.2 (Nat.le_add_left _ _))

omit hv in
theorem defs₀_vector (c : Fin τ.nSC) (s : Fin τ.nSub) :
    defs₀ (F := F) (.scVector c s) 0 ()
      = SparseCore.onTile hcore0 hsub0 (fun c s => cc0_ffm_sc_pairs (F := F) (coordsV c s) gT (Memref.isWhole_whole _) gI (Memref.isWhole_whole _) gX (Memref.isWhole_whole _) gW (Memref.isWhole_whole _) gP (Memref.isWhole_whole _) gL (Memref.isWhole_whole _) sT (Memref.isWhole_whole _) sW (Memref.isWhole_whole _) sI (Memref.isWhole_whole _) sX (Memref.isWhole_whole _) sO (Memref.isWhole_whole _) sL (Memref.isWhole_whole _) cc0_scratch6 cc0_scratch7 cc0_scratch8 cc0_scratch9 cc0_scratch10 cc0_scratch11 cc0_scoped0) ⟨⟩ c s := rfl

theorem tileObl (hF : (K (F := F)).Facts) : (K (F := F)).TileObl (D (F := F)) 𝒱 (P m PV LB) v₀ 0 := by
  intro d c i O W hO _ _
  simp only [show (P m PV LB).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m PV LB d (coordsV ⟨_, hci.1⟩ ⟨_, hci.2⟩) hv hF O W hO

end Task

/-! ## A core's part splits and joins -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem coreR_tiles (d : Dev nD) (c : ℕ) (f : Buf (Elt F) (pLoc d)) (g : Buf (Elt F) (lLoc d)) :
    coreR d c f g = bigSep Finset.univ fun s : Fin 16 => tileR d c s.val f g := by
  unfold coreR tileR
  rw [bigSep_sep', ← pts_tiles, ← lts_tiles]

theorem vecSplit : (K (F := F)).VecSplit' (P m PV LB) 0 := by
  intro d c
  show iprop(sh m d ∗ coreR d (Fin.cast nCore_zero c).val (m (pLoc d)) (m (lLoc d))) ⊢ |={Set.univ}=> iprop(
      (bigSep Finset.univ fun i : Fin ((K (F := F)).nSub 0) => iprop(sh m d ∗ tileR d (Fin.cast nCore_zero c).val (Fin.cast nSub_zero i).val (m (pLoc d)) (m (lLoc d))))
      ∗ ((bigSep Finset.univ fun i : Fin ((K (F := F)).nSub 0) => tileR d (Fin.cast nCore_zero c).val (Fin.cast nSub_zero i).val (PV d) (LB d 13))
          -∗ coreR d (Fin.cast nCore_zero c).val (PV d) (LB d 13)))
  rw [bigSep_tasks (F := F) (fun i => iprop(sh m d ∗ tileR d (Fin.cast nCore_zero c).val i.val (m (pLoc d)) (m (lLoc d)))),
    bigSep_tasks (F := F) (fun i => tileR d (Fin.cast nCore_zero c).val i.val (PV d) (LB d 13)), bigSep_sep', ← coreR_tiles, ← coreR_tiles]
  iintro ⟨H, HR⟩; imodintro
  isplitl [H HR]
  · isplitl [H]
    · iapply (sh_many m d Finset.univ) $$ H
    iexact HR
  iintro H
  iexact H

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m PV LB).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m PV LB).x q thr) = bigSep Finset.univ fun _ => iprop(emp) from
    bigSep_congr fun _ _ => bigSep_univ_of_subsingleton (0 : Fin 1), bigSep_emp']
  iempintro

/-! ## The main program -/

theorem unscopedBufs_eq (d : Dev nD) (W : (b : Ref sig .tc) → Buf (Elt F) ((d.tc : Thread nD τ).loc b)) :
    (unscopedBufs d W : sProp 𝕄)
      = iprop((aT d ↦{fullShare} W main_arg0) ∗ (aI d ↦{fullShare} W main_arg1) ∗ (aX d ↦{fullShare} W main_arg2) ∗ (aW d ↦{fullShare} W main_arg3) ∗ (pLoc d ↦{fullShare} W main_v0_0) ∗ lLoc d ↦{fullShare} W main_v0_1) := by
  unfold unscopedBufs
  rw [show (Finset.univ.filter fun b : Ref sig .tc => ¬ b.isScoped) = {main_arg0, main_arg1, main_arg2, main_arg3, main_v0_0, main_v0_1} by decide,
    SparseCore.bigSep_insert' (by decide), SparseCore.bigSep_insert' (by decide), SparseCore.bigSep_insert' (by decide), SparseCore.bigSep_insert' (by decide), SparseCore.bigSep_insert' (by decide), bigSep_singleton]

theorem coreR_join (d : Dev nD) (f : Buf (Elt F) (pLoc d)) (g : Buf (Elt F) (lLoc d)) :
    (bigSep Finset.univ fun c : Fin 2 => coreR d c.val f g) = (iprop((pLoc d ↦{fullShare} f) ∗ (lLoc d ↦{fullShare} g)) : sProp 𝕄) := by
  unfold coreR
  rw [bigSep_sep', ← pts_cores, ← lts_cores]

theorem st0_of (d : Dev nD) :
    iprop(sh m d ∗ (pLoc d ↦{fullShare} m (pLoc d)) ∗ (lLoc d ↦{fullShare} m (lLoc d))) ⊢ (bigSep Finset.univ fun c : Fin ((K (F := F)).nCore 0) => (P m PV LB).st 0 d c) := by
  show _ ⊢ (bigSep Finset.univ fun c : Fin ((K (F := F)).nCore 0) => iprop(sh m d ∗ coreR d (Fin.cast nCore_zero c).val (m (pLoc d)) (m (lLoc d))))
  rw [bigSep_cores (F := F) (fun c => iprop(sh m d ∗ coreR d c.val (m (pLoc d)) (m (lLoc d)))), bigSep_sep', coreR_join]
  iintro ⟨H, HR⟩
  isplitl [H]
  · iapply (sh_many m d Finset.univ) $$ H
  iexact HR
theorem dn0_eq (d : Dev nD) :
    (bigSep Finset.univ fun c : Fin ((K (F := F)).nCore 0) => (P m PV LB).dn 0 d c) = iprop((pLoc d ↦{fullShare} PV d) ∗ (lLoc d ↦{fullShare} LB d 13)) :=
  (bigSep_cores (F := F) (fun c => coreR d c.val (PV d) (LB d 13))).trans (coreR_join d _ _)

/-- What the main program ends with on device `d`. -/
abbrev FIN (d : Dev nD) : sProp 𝕄 := iprop(sh m d ∗ (pLoc d ↦{fullShare} PV d) ∗ (lLoc d ↦{fullShare} LB d 13))

theorem hmain (κ : GSem nD τ sig → ℕ) (d : Dev nD) :
    iprop((K (F := F)).ctx EH (P m PV LB) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m PV LB d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H1, H2, H3, H4, HP, HL⟩, Hts, -⟩, -⟩
  ihave Hsh := (show iprop((aT d ↦{fullShare} m (aT d)) ∗ (aI d ↦{fullShare} m (aI d)) ∗ (aX d ↦{fullShare} m (aX d)) ∗ (aW d ↦{fullShare} m (aW d))) ⊢ iprop(sh m d ∗ sh m d) from by
    refine BI.BIBase.Entails.trans ?_ (sh_two m d)
    unfold sh
    iintro ⟨H1, H2, H3, H4⟩
    isplitl [H1]; · iexists _; iexact H1
    isplitl [H2]; · iexists _; iexact H2
    isplitl [H3]; · iexists _; iexact H3
    iexists _; iexact H4) $$ [H1 H2 H3 H4]
  · isplitl [H1]; · iexact H1
    isplitl [H2]; · iexact H2
    isplitl [H3]; · iexact H3
    iexact H4
  icases Hsh with ⟨Hsh, Hkeep⟩
  iapply ((K (F := F)).wp_run (D (F := F)) 𝒱 (EH := EH) (P := P m PV LB) κ d 0) $$ [Hst Hsh HP HL Hb Hts Hkeep]
  isplitr; · iexact Hctx
  isplitl [Hst]; · iexact Hst
  isplitl [Hsh HP HL]
  · iapply (st0_of m PV LB d)
    isplitl [Hsh]; · iexact Hsh
    isplitl [HP]; · iexact HP
    iexact HL
  iintro ⟨Hst, Hdn⟩
  ihave Hdn := (BIBase.Entails.of_eq (dn0_eq m PV LB d)) $$ Hdn
  icases Hdn with ⟨HP, HL⟩
  imodintro
  isplitl [Hst]; · iexact Hst
  isplitr [Hb Hts]
  · isplitl [Hkeep]; · iexact Hkeep
    isplitl [HP]; · iexact HP
    iexact HL
  isplitl [Hb] <;> iassumption

def fq (d : Dev nD) (s' : Phys nD τ sig (Elt F)) : Prop :=
  (s'.mem.mem (aT d) = m (aT d) ∧ s'.mem.mem (aI d) = m (aI d) ∧ s'.mem.mem (aX d) = m (aX d) ∧ s'.mem.mem (aW d) = m (aW d))
    ∧ s'.mem.mem (pLoc d) = PV d ∧ s'.mem.mem (lLoc d) = LB d 13

theorem agree {ℓ : Loc nD τ sig} {q : PosShare TreeShare} {f : Buf (Elt F) ℓ} (s' : Phys nD τ sig (Elt F)) :
    iprop(SI s' ∗ ℓ ↦{q} f) ⊢ (iprop(⌜s'.mem.mem ℓ = f⌝ ∗ SI s') : sProp 𝕄) := by
  iintro H
  ihave H := (persistent_entails_right (SI_pointsTo_agree (st := s') (ℓ := ℓ) (I := Finset.univ) (q := q) (f := f))) $$ H
  icases H with ⟨%h, HSI, -⟩
  isplitr
  · ipureintro; exact funext fun i => h i (Finset.mem_univ i)
  iexact HSI

theorem hfin (d : Dev nD) (s' : Phys nD τ sig (Elt F)) : iprop(FIN m PV LB d ∗ SI s') ⊢ (⌜fq m PV LB d s'⌝ : sProp 𝕄) := by
  unfold FIN sh
  iintro ⟨⟨⟨⟨%q1, H1⟩, ⟨%q2, H2⟩, ⟨%q3, H3⟩, ⟨%q4, H4⟩⟩, HP, HL⟩, HS⟩
  ihave G := (agree s') $$ [HS H1]
  · isplitl [HS] <;> iassumption
  icases G with ⟨%e0, HS⟩
  ihave G := (agree s') $$ [HS H2]
  · isplitl [HS] <;> iassumption
  icases G with ⟨%e1, HS⟩
  ihave G := (agree s') $$ [HS H3]
  · isplitl [HS] <;> iassumption
  icases G with ⟨%e2, HS⟩
  ihave G := (agree s') $$ [HS H4]
  · isplitl [HS] <;> iassumption
  icases G with ⟨%e3, HS⟩
  ihave G := (agree s') $$ [HS HP]
  · isplitl [HS] <;> iassumption
  icases G with ⟨%e4, HS⟩
  ihave G := (agree s') $$ [HS HL]
  · isplitl [HS] <;> iassumption
  icases G with ⟨%e5, HS⟩
  ipureintro; exact ⟨⟨e0, e1, e2, e3⟩, e4, e5⟩

/-! ## The run -/

/-- What holds when the program has run. -/
def QC : PUnit × MemSt nD τ sig (Elt F) → Prop := fun r => (∀ d : Dev nD,
  (r.2.mem (aT d) = m (aT d) ∧ r.2.mem (aI d) = m (aI d) ∧ r.2.mem (aX d) = m (aX d) ∧ r.2.mem (aW d) = m (aW d))
    ∧ r.2.mem (pLoc d) = PV d ∧ r.2.mem (lLoc d) = LB d 13) ∧ r.2.sem = fun _ => 0

/-- The program ends with the two results at their values, its arguments unchanged and every semaphore at zero. -/
theorem run_main [∀ e, Nonempty (Elt F e)] (hv : ∀ d, Values (m (aT d)) (m (aI d)) (m (aX d)) (m (aW d)) (PV d) (LB d)) :
    θ_run (Cert.KernelIdeal.defs (F := F)) (Cert.KernelIdeal.threads (F := F)) ⟨m, fun _ => 0, ρ⟩ (QC m PV LB) :=
  SparseCore.Cfg.θ_run_sc_quiescent (K := K (F := F)) (D := D (F := F)) (𝒱 := 𝒱) (EH := EH) (P := P m PV LB) (A := ∅) facts v₀
    (fun q hq => match q with | 0 => nomatch hq)
    (fun q _ => match q with | 0 => tileObl m PV LB hv facts)
    (fun q _ => match q with | 0 => SparseCore.Cfg.VecSplit.of_plain (vecSplit m PV LB))
    m ρ main (fun _ => iprop(emp)) (FIN m PV LB) (u₀ (F := F)) (sep_elim_left.trans (hu₀ m PV LB)) (hmain m ρ PV LB) (fq m PV LB) (hfin m PV LB) (QC m PV LB) (fun _ h hz => ⟨h, hz⟩)

end Cert.ScKernelIdeal

end
-- ==== Proof.KernelIdealValue.lean ====
module

public import proofs.«01_k».proof.Proof.KernelIdealLaunch

@[expose] public section

noncomputable section

/-!
# The values of the two results

What every place of the two results holds, and that the chunks of every tile hold just this.
-/

namespace Cert.ScKernelIdeal

open Cert.KernelIdeal Cert.KernelIdeal.Gen Cert.FieldTables
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch)

variable {F : FTy → Type} [FloatOps F]

local notation "𝕄" => MT nD τ sig (HIx 1) (Elt F) ℕ UU ℕ

/-- One code of a word. -/
def bytS (k w : BitVec 32) : BitVec 32 := IntOp.shrsi .vector (IntOp.shli .vector w k) 24#32
/-- Two products added and cut to sixteen bits. -/
def prdS (a b c e : BitVec 32) : BitVec 32 := IntOp.shrsi .vector (IntOp.shli .vector (IntOp.addi (IntOp.muli a c) (IntOp.muli b e)) 16#32) 16#32
theorem byt_at (k : BitVec 32) (w : IVec S16 32) (l : S16.Idx) : byt k w l = bytS k (w l) := by unfold byt bytS; rfl
theorem prd_at (a b c e : IVec S16 32) (l : S16.Idx) : prd a b c e l = prdS (a l) (b l) (c l) (e l) := by unfold prd prdS; rfl
/-- One pair of one token: the inner product of the eight codes, scaled by the two values and the two scales. -/
def pvAt (xf xg : F .f32) (f0 f1 f2 g0 g1 g2 : BitVec 32) : F .f32 :=
  FloatOps.mulf (φ := .f32) (FloatOps.mulf (φ := .f32) (FloatOps.sitofp .f32 (IntOp.addi
    (IntOp.addi (prdS (bytS 24#32 f0) (bytS 16#32 f0) (bytS 24#32 g0) (bytS 16#32 g0)) (prdS (bytS 8#32 f0) (bytS 0#32 f0) (bytS 8#32 g0) (bytS 0#32 g0)))
    (IntOp.addi (prdS (bytS 24#32 f1) (bytS 16#32 f1) (bytS 24#32 g1) (bytS 16#32 g1)) (prdS (bytS 8#32 f1) (bytS 0#32 f1) (bytS 8#32 g1) (bytS 0#32 g1)))))
    (FloatOps.mulf (φ := .f32) xf (FloatOps.ofBits .f32 f2))) (FloatOps.mulf (φ := .f32) xg (FloatOps.ofBits .f32 g2))
theorem pairV_at (xf xg : Vec F S16 .f32) (f0 f1 f2 g0 g1 g2 : Vec F S16 .i32) (l : S16.Idx) :
    pairV xf xg f0 f1 f2 g0 g1 g2 l = pvAt (xf l) (xg l) (f0 l) (f1 l) (f2 l) (g0 l) (g1 l) (g2 l) := by
  simp only [pairV, mulf, sitofp, addi, bitcastToFloat, byt_at, prd_at, pvAt]

section Values

variable (tab : Vec F S6862752 .i32) (idx : Vec F S1916928 .i32) (xs : Vec F S1916928 .f32) (w : Vec F S58656 .f32)

/-- The word of field `f`'s table for field `g`, in the plane that starts at `c`, in row `k`. -/
def tw (f g c : ℕ) (k : BitVec 32) : BitVec 32 := rd (N := 6862752) tab ((f * 39 + g) * 4512 + (c + k.toNat))
/-- The pair of fields `f` and `g` of token `t`. -/
def pairAt (f g t : ℕ) : F .f32 :=
  pvAt (rd (N := 1916928) xs (f * 49152 + t)) (rd (N := 1916928) xs (g * 49152 + t))
    (tw tab f g 0 (rd (N := 1916928) idx (f * 49152 + t))) (tw tab f g 1504 (rd (N := 1916928) idx (f * 49152 + t))) (tw tab f g 3008 (rd (N := 1916928) idx (f * 49152 + t)))
    (tw tab g f 0 (rd (N := 1916928) idx (g * 49152 + t))) (tw tab g f 1504 (rd (N := 1916928) idx (g * 49152 + t))) (tw tab g f 3008 (rd (N := 1916928) idx (g * 49152 + t)))
/-- The pair result. -/
def PVof : Vec F S36421632 .f32 := fun i => pairAt tab idx xs (pf ((i 0).val / 49152)) (pg ((i 0).val / 49152)) ((i 0).val % 49152)

/-- The weight of field `f` of token `t`. -/
def wAt (f t : ℕ) : F .f32 := rd (N := 58656) w (f * 1504 + (rd (N := 1916928) idx (f * 49152 + t)).toNat)
/-- The value of field `f` of token `t`. -/
def xAt (f t : ℕ) : F .f32 := rd (N := 1916928) xs (f * 49152 + t)
/-- A token's linear sum over its first `3 b` fields. -/
def linAt : ℕ → ℕ → F .f32
  | 0, _ => Scalar.ofBits .f32 0x00000000#32
  | b + 1, t => FloatOps.addf (φ := .f32) (FloatOps.addf (φ := .f32) (FloatOps.addf (φ := .f32) (linAt b t) (FloatOps.mulf (φ := .f32) (wAt idx w (3 * b) t) (xAt xs (3 * b) t)))
      (FloatOps.mulf (φ := .f32) (wAt idx w (3 * b + 1) t) (xAt xs (3 * b + 1) t))) (FloatOps.mulf (φ := .f32) (wAt idx w (3 * b + 2) t) (xAt xs (3 * b + 2) t))
/-- The linear sums after each block. -/
def LBof (b : ℕ) : Vec F S49152 .f32 := fun i => linAt idx xs w b (i 0).val

theorem rd_at {N : ℕ} {α : Type} [NeZero N] (f : Shape.Idx ⟨1, ![N]⟩ → α) (g : ℕ → α) (h : ∀ i, f i = g (i 0).val) {n : ℕ} (hn : n < N) : rd f n = g n := by
  unfold rd
  rw [h]
  congr 1
  exact Nat.mod_eq_of_lt hn

theorem rd_PV {n : ℕ} (hn : n < 36421632) : rd (N := 36421632) (PVof tab idx xs) n = pairAt tab idx xs (pf (n / 49152)) (pg (n / 49152)) (n % 49152) :=
  rd_at _ (fun n => pairAt tab idx xs (pf (n / 49152)) (pg (n / 49152)) (n % 49152)) (fun _ => rfl) hn
theorem rd_LB {b n : ℕ} (hn : n < 49152) : rd (N := 49152) (LBof idx xs w b) n = linAt idx xs w b n :=
  rd_at _ (fun n => linAt idx xs w b n) (fun _ => rfl) hn

theorem rd_tabC {r s c v : ℕ} (hs : s < 18) (hc : c + v < 4512) : rd (N := 81280) (tabC tab r) (4512 * s + c + v) = rd (N := 6862752) tab (tabOff r s + (c + v)) := by
  refine (rd_at _ (fun n => rd (N := 6862752) tab (tabOff r (n / 4512) + n % 4512)) (fun _ => rfl) (by omega)).trans ?_
  show rd tab (tabOff r ((4512 * s + c + v) / 4512) + (4512 * s + c + v) % 4512) = _
  rw [show (4512 * s + c + v) / 4512 = s by omega, show (4512 * s + c + v) % 4512 = c + v by omega]
theorem rd_dtabC {b s c v : ℕ} (hs : s < 18) (hc : c + v < 4512) : rd (N := 81280) (dtabC tab b) (4512 * s + c + v) = rd (N := 6862752) tab (dtabOff b s + (c + v)) := by
  refine (rd_at _ (fun n => rd (N := 6862752) tab (dtabOff b (n / 4512) + n % 4512)) (fun _ => rfl) (by omega)).trans ?_
  show rd tab (dtabOff b ((4512 * s + c + v) / 4512) + (4512 * s + c + v) % 4512) = _
  rw [show (4512 * s + c + v) / 4512 = s by omega, show (4512 * s + c + v) % 4512 = c + v by omega]
theorem rd_dwC {b n : ℕ} (hn : n < 4608) : rd (N := 4608) (dwC w b) n = rd (N := 58656) w (4512 * b + n) :=
  rd_at _ (fun n => rd (N := 58656) w (4512 * b + n)) (fun _ => rfl) hn

/-- A word fetched from a rectangle's first tables of a pair. -/
theorem gv_fst {r q c : ℕ} {iv : Vec F S16 .i32} {l : S16.Idx} (hq : q < 9) (hc : c ≤ 3008) (hi : (iv l).toNat < 1504) {k : ℕ} (hk : k = 4512 * q + c) :
    gv (tabC tab r) k iv l = tw tab (fld r (q / 3)) (fld r (3 + q % 3)) c (iv l) := by
  subst hk
  unfold gv tw
  rw [rd_tabC tab (by omega) (by omega)]
  unfold tabOff
  rw [if_pos hq]
/-- A word fetched from a rectangle's second tables of a pair. -/
theorem gv_snd {r q c : ℕ} {iv : Vec F S16 .i32} {l : S16.Idx} (hq : q < 9) (hc : c ≤ 3008) (hi : (iv l).toNat < 1504) {k : ℕ} (hk : k = 40608 + 4512 * q + c) :
    gv (tabC tab r) k iv l = tw tab (fld r (3 + q % 3)) (fld r (q / 3)) c (iv l) := by
  obtain rfl : k = 4512 * (q + 9) + c := by omega
  unfold gv tw
  rw [rd_tabC tab (by omega) (by omega)]
  unfold tabOff
  rw [if_neg (by omega), show q + 9 - 9 = q by omega]
/-- A word fetched from a block's tables. -/
theorem gv_d {b s c : ℕ} {iv : Vec F S16 .i32} {l : S16.Idx} (hs : s < 6) (hc : c ≤ 3008) (hi : (iv l).toNat < 1504) {k : ℕ} (hk : k = 4512 * s + c) :
    gv (dtabC tab b) k iv l = tw tab (3 * b + dfst s) (3 * b + dsnd s) c (iv l) := by
  subst hk
  unfold gv tw
  rw [rd_dtabC tab (by omega) (by omega)]
  rfl

theorem rd_lt (hidx : ∀ i, (idx i).toNat < 1504) (n : ℕ) : (rd (N := 1916928) idx n).toNat < 1504 := hidx _

/-- Every unit's results are the pair result's. -/
theorem pairOK_of (hidx : ∀ i, (idx i).toNat < 1504) : ∀ u, u < 3744 → PairOK tab idx xs (PVof tab idx xs) u := by
  intro u hu q hq t ht
  funext l
  have hl : (l 0).val < 16 := (l 0).isLt
  obtain ⟨h1, h2, h3, -⟩ := row_rect (u / 48) (by omega) q hq
  rw [pairV_at]
  unfold resV
  have hn : outOff u q + (16 * t + (l 0).val) < 36421632 := by unfold outOff; omega
  rw [rd_PV tab idx xs hn]
  have e1 : (outOff u q + (16 * t + (l 0).val)) / 49152 = pairRow (fld (u / 48) (q / 3)) (fld (u / 48) (3 + q % 3)) := by unfold outOff; omega
  have e2 : (outOff u q + (16 * t + (l 0).val)) % 49152 = u % 48 * 1024 + (16 * t + (l 0).val) := by unfold outOff; omega
  rw [e1, e2, h2, h3]
  have hi : ∀ k, (iVec idx u k t l).toNat < 1504 := fun k => rd_lt idx hidx _
  rw [gv_fst tab (k := 4512 * q) (c := 0) hq (by omega) (hi _) (by omega), gv_fst tab (k := 4512 * q + 1504) (c := 1504) hq (by omega) (hi _) (by omega), gv_fst tab (k := 4512 * q + 3008) (c := 3008) hq (by omega) (hi _) (by omega),
    gv_snd tab (k := 40608 + 4512 * q) (c := 0) hq (by omega) (hi _) (by omega), gv_snd tab (k := 40608 + 4512 * q + 1504) (c := 1504) hq (by omega) (hi _) (by omega), gv_snd tab (k := 40608 + 4512 * q + 3008) (c := 3008) hq (by omega) (hi _) (by omega)]
  unfold pairAt iVec inOff
  simp only [Nat.add_assoc]

/-- Every tile's results for a block are the pair result's. -/
theorem dpairOK_of (hidx : ∀ i, (idx i).toNat < 1504) : ∀ wd < 32, ∀ b < 13, DPairOK tab idx xs (PVof tab idx xs) wd b := by
  intro wd hw b hb q hq t ht
  funext l
  have hl : (l 0).val < 16 := (l 0).isLt
  obtain ⟨h1, h2, h3, -⟩ := row_diag b hb q hq
  rw [pairV_at]
  unfold dresV
  have hn : doutOff wd b q + (16 * t + (l 0).val) < 36421632 := by unfold doutOff; omega
  rw [rd_PV tab idx xs hn]
  have e1 : (doutOff wd b q + (16 * t + (l 0).val)) / 49152 = pairRow (3 * b + dfst (2 * q)) (3 * b + dsnd (2 * q)) := by unfold doutOff; omega
  have e2 : (doutOff wd b q + (16 * t + (l 0).val)) % 49152 = 1536 * wd + (16 * t + (l 0).val) := by unfold doutOff; omega
  rw [e1, e2, h2, h3]
  have hi : ∀ k, (dVec idx wd b k t l).toNat < 1504 := fun k => rd_lt idx hidx _
  rw [gv_d tab (k := 9024 * q) (s := 2 * q) (c := 0) (by omega) (by omega) (hi _) (by omega), gv_d tab (k := 9024 * q + 1504) (s := 2 * q) (c := 1504) (by omega) (by omega) (hi _) (by omega), gv_d tab (k := 9024 * q + 3008) (s := 2 * q) (c := 3008) (by omega) (by omega) (hi _) (by omega),
    gv_d tab (k := 9024 * q + 4512) (s := 2 * q + 1) (c := 0) (by omega) (by omega) (hi _) (by omega), gv_d tab (k := 9024 * q + 6016) (s := 2 * q + 1) (c := 1504) (by omega) (by omega) (hi _) (by omega), gv_d tab (k := 9024 * q + 7520) (s := 2 * q + 1) (c := 3008) (by omega) (by omega) (hi _) (by omega)]
  have hs : dfst (2 * q + 1) = dsnd (2 * q) ∧ dsnd (2 * q + 1) = dfst (2 * q) := by
    have h : ∀ q < 3, dfst (2 * q + 1) = dsnd (2 * q) ∧ dsnd (2 * q + 1) = dfst (2 * q) := by decide
    exact h q hq
  rw [hs.1, hs.2]
  unfold pairAt dVec dinOff
  simp only [Nat.add_assoc]

/-- Every tile's linear sums, block by block. -/
theorem linOK_of (hidx : ∀ i, (idx i).toNat < 1504) : ∀ wd < 32, ∀ b < 13, LinOK idx xs w (LBof idx xs w) wd b := by
  intro wd hw b hb t ht
  funext l
  have hl : (l 0).val < 16 := (l 0).isLt
  have hn : 1536 * wd + (16 * t + (l 0).val) < 49152 := by omega
  have hx : ∀ {β : Type} (f : Shape.Idx ⟨1, ![1916928]⟩ → β) (k : ℕ), dVec f wd b k t l = rd (N := 1916928) f ((3 * b + k) * 49152 + (1536 * wd + (16 * t + (l 0).val))) := by
    intro β f k; unfold dVec dinOff; rw [Nat.add_assoc]
  have hg : ∀ k < 3, gw (dwC w b) (1504 * k) (dVec idx wd b k t) l = wAt idx w (3 * b + k) (1536 * wd + (16 * t + (l 0).val)) := by
    intro k hk
    have hi : (dVec idx wd b k t l).toNat < 1504 := rd_lt idx hidx _
    unfold gw wAt
    rw [rd_dwC w (by omega), ← hx]
    congr 1
    omega
  have g0 := hg 0 (by decide)
  have g1 := hg 1 (by decide)
  have g2 := hg 2 (by decide)
  show rd (N := 49152) (LBof idx xs w (b + 1)) _ = FloatOps.addf (φ := .f32) (FloatOps.addf (φ := .f32) (FloatOps.addf (φ := .f32) (rd (N := 49152) (LBof idx xs w b) _) (FloatOps.mulf (φ := .f32) (gw (dwC w b) (1504 * 0) (dVec idx wd b 0 t) l) (dVec xs wd b 0 t l)))
    (FloatOps.mulf (φ := .f32) (gw (dwC w b) (1504 * 1) (dVec idx wd b 1 t) l) (dVec xs wd b 1 t l))) (FloatOps.mulf (φ := .f32) (gw (dwC w b) (1504 * 2) (dVec idx wd b 2 t) l) (dVec xs wd b 2 t l))
  rw [g0, g1, g2, hx xs, hx xs, hx xs, rd_LB idx xs w hn, rd_LB idx xs w hn]
  rfl

theorem zero_of : ∀ wd < 32, ∀ t < 96, lVec (LBof idx xs w 0) wd t = k0_pay158 := by
  intro wd hw t ht
  rfl

/-- The two results' values are what the tiles compute, whatever the arguments, when every index lies in its table. -/
theorem values_of (hidx : ∀ i, (idx i).toNat < 1504) : Values tab idx xs w (PVof tab idx xs) (LBof idx xs w) :=
  ⟨hidx, pairOK_of tab idx xs hidx, dpairOK_of tab idx xs hidx, linOK_of idx xs w hidx, zero_of idx xs w⟩

end Values

/-! ## The run, at its values -/

/-- The program runs, whatever the number format, when every index lies in its table. -/
theorem run_values [∀ e, Nonempty (Elt F e)] (m : (ℓ : Loc nD τ sig) → Buf (Elt F) ℓ) (ρ : Dev nD → PrngReg)
    (hidx : ∀ d i, ((m (aI d) : Vec F S1916928 .i32) i).toNat < 1504) :
    θ_run (Cert.KernelIdeal.defs (F := F)) (Cert.KernelIdeal.threads (F := F)) ⟨m, fun _ => 0, ρ⟩
      (QC m (fun d => PVof (m (aT d)) (m (aI d)) (m (aX d))) (fun d => LBof (m (aI d)) (m (aX d)) (m (aW d)))) :=
  run_main m ρ _ _ (fun d => values_of _ _ _ _ (hidx d))

end Cert.ScKernelIdeal

end
-- ==== Proof.RefWords.lean ====
module

public import proofs.«01_k».proof.Proof.KernelIdealValue
public import Idealize.ShloMosaic.PureOps.Ideal

@[expose] public section

/-!
# Whole-number arithmetic of one pair

The kernel adds products of codes two at a time in sixteen bits; with every code above −128 nothing wraps, so its sum
is the sum of the eight products, whatever the order and the format it is taken in.
-/

noncomputable section

namespace Cert.ScKernelIdeal

open Idealize.ShloMosaic Cert.KernelIdeal

/-- A shift up by less than a word's width. -/
theorem shli_lt (u : ArithUnit) (x : BitVec 32) {k : BitVec 32} (h : k.toNat < 32) : IntOp.shli u x k = x <<< k := if_pos h
/-- A signed shift down by less than a word's width. -/
theorem shrsi_lt (u : ArithUnit) (x : BitVec 32) {k : BitVec 32} (h : k.toNat < 32) : IntOp.shrsi u x k = x.sshiftRight' k := if_pos h

/-- A code lies between −128 and 127. -/
theorem bytS_range {k : BitVec 32} (hk : k.toNat < 32) (w : BitVec 32) : -128 ≤ (bytS k w).toInt ∧ (bytS k w).toInt ≤ 127 := by
  unfold bytS
  rw [shli_lt _ _ hk, shrsi_lt _ _ (by decide)]
  have h1 := BitVec.le_toInt (w <<< k)
  have h2 := BitVec.toInt_lt (x := w <<< k)
  show -128 ≤ ((w <<< k).sshiftRight 24).toInt ∧ ((w <<< k).sshiftRight 24).toInt ≤ 127
  rw [BitVec.toInt_sshiftRight, Int.shiftRight_eq_div_pow]
  norm_num at h1 h2 ⊢
  omega

/-- A code other than −128 lies between −127 and 127. -/
theorem bytS_small {k : BitVec 32} (hk : k.toNat < 32) {w : BitVec 32} (h : bytS k w ≠ 4294967168#32) : -127 ≤ (bytS k w).toInt ∧ (bytS k w).toInt ≤ 127 := by
  have h1 := bytS_range hk w
  have h2 : (bytS k w).toInt ≠ -128 := fun e => h (BitVec.eq_of_toInt_eq (by rw [e]; decide))
  omega

/-- A product of two small codes. -/
theorem mul_small {a b : ℤ} (ha : -127 ≤ a ∧ a ≤ 127) (hb : -127 ≤ b ∧ b ≤ 127) : -16129 ≤ a * b ∧ a * b ≤ 16129 := by
  constructor <;> nlinarith

/-- A sum that does not wrap. -/
theorem add_toInt {x y : BitVec 32} (h : -1000000 ≤ x.toInt + y.toInt ∧ x.toInt + y.toInt ≤ 1000000) : (x + y).toInt = x.toInt + y.toInt := by
  rw [BitVec.toInt_add]
  apply Int.bmod_eq_of_le <;> norm_num <;> omega

/-- Two products of small codes, added, fit sixteen bits. -/
theorem prdS_toInt {a b c e : BitVec 32} (ha : -127 ≤ a.toInt ∧ a.toInt ≤ 127) (hb : -127 ≤ b.toInt ∧ b.toInt ≤ 127)
    (hc : -127 ≤ c.toInt ∧ c.toInt ≤ 127) (he : -127 ≤ e.toInt ∧ e.toInt ≤ 127) :
    (prdS a b c e).toInt = a.toInt * c.toInt + b.toInt * e.toInt := by
  have h1 := mul_small ha hc
  have h2 := mul_small hb he
  have e1 : (a * c).toInt = a.toInt * c.toInt := by
    rw [BitVec.toInt_mul]
    apply Int.bmod_eq_of_le <;> norm_num <;> omega
  have e2 : (b * e).toInt = b.toInt * e.toInt := by
    rw [BitVec.toInt_mul]
    apply Int.bmod_eq_of_le <;> norm_num <;> omega
  have e3 : (a * c + b * e).toInt = a.toInt * c.toInt + b.toInt * e.toInt := by
    rw [BitVec.toInt_add, e1, e2]
    apply Int.bmod_eq_of_le <;> norm_num <;> omega
  unfold prdS
  rw [shli_lt _ _ (by decide), shrsi_lt _ _ (by decide)]
  show (((a * c + b * e) <<< 16).sshiftRight 16).toInt = _
  have h3 : -32258 ≤ (a * c + b * e).toInt ∧ (a * c + b * e).toInt ≤ 32258 := by rw [e3]; omega
  rw [← e3]
  clear e1 e2 e3
  generalize a * c + b * e = x at *
  have e4 : (x <<< 16).toInt = x.toInt * 65536 := by
    rw [BitVec.toInt_shiftLeft, Nat.shiftLeft_eq]
    have : ((x.toNat * 2 ^ 16 : ℕ) : ℤ) = (x.toNat : ℤ) * 65536 := by push_cast; norm_num
    rw [this, BitVec.toInt_eq_toNat_bmod]
    rw [BitVec.toInt_eq_toNat_bmod] at h3
    generalize (x.toNat : ℤ) = n at *
    norm_num [Int.bmod] at h3 ⊢
    split at h3 <;> split <;> omega
  rw [BitVec.toInt_sshiftRight, Int.shiftRight_eq_div_pow, e4]
  norm_num

/-- The eight products' whole-number sum. -/
theorem dots_toInt {a b : Fin 8 → BitVec 32} (ha : ∀ i, -127 ≤ (a i).toInt ∧ (a i).toInt ≤ 127) (hb : ∀ i, -127 ≤ (b i).toInt ∧ (b i).toInt ≤ 127) :
    (IntOp.addi (IntOp.addi (prdS (a 0) (a 1) (b 0) (b 1)) (prdS (a 2) (a 3) (b 2) (b 3)))
      (IntOp.addi (prdS (a 4) (a 5) (b 4) (b 5)) (prdS (a 6) (a 7) (b 6) (b 7)))).toInt
    = (a 0).toInt * (b 0).toInt + (a 1).toInt * (b 1).toInt + (a 2).toInt * (b 2).toInt + (a 3).toInt * (b 3).toInt
      + (a 4).toInt * (b 4).toInt + (a 5).toInt * (b 5).toInt + (a 6).toInt * (b 6).toInt + (a 7).toInt * (b 7).toInt := by
  have m : ∀ i, -16129 ≤ (a i).toInt * (b i).toInt ∧ (a i).toInt * (b i).toInt ≤ 16129 := fun i => mul_small (ha i) (hb i)
  have m0 := m 0; have m1 := m 1; have m2 := m 2; have m3 := m 3
  have m4 := m 4; have m5 := m 5; have m6 := m 6; have m7 := m 7
  have p0 := prdS_toInt (ha 0) (ha 1) (hb 0) (hb 1)
  have p1 := prdS_toInt (ha 2) (ha 3) (hb 2) (hb 3)
  have p2 := prdS_toInt (ha 4) (ha 5) (hb 4) (hb 5)
  have p3 := prdS_toInt (ha 6) (ha 7) (hb 6) (hb 7)
  generalize (a 0).toInt * (b 0).toInt = n0 at *
  generalize (a 1).toInt * (b 1).toInt = n1 at *
  generalize (a 2).toInt * (b 2).toInt = n2 at *
  generalize (a 3).toInt * (b 3).toInt = n3 at *
  generalize (a 4).toInt * (b 4).toInt = n4 at *
  generalize (a 5).toInt * (b 5).toInt = n5 at *
  generalize (a 6).toInt * (b 6).toInt = n6 at *
  generalize (a 7).toInt * (b 7).toInt = n7 at *
  generalize prdS (a 0) (a 1) (b 0) (b 1) = x0 at *
  generalize prdS (a 2) (a 3) (b 2) (b 3) = x1 at *
  generalize prdS (a 4) (a 5) (b 4) (b 5) = x2 at *
  generalize prdS (a 6) (a 7) (b 6) (b 7) = x3 at *
  show ((x0 + x1) + (x2 + x3)).toInt = _
  have s1 : (x0 + x1).toInt = x0.toInt + x1.toInt := add_toInt (by omega)
  have s2 : (x2 + x3).toInt = x2.toInt + x3.toInt := add_toInt (by omega)
  have s3 : ((x0 + x1) + (x2 + x3)).toInt = (x0 + x1).toInt + (x2 + x3).toInt := add_toInt (by omega)
  omega

end Cert.ScKernelIdeal

end
-- ==== Proof.RefValue.lean ====
module

public import proofs.«01_k».proof.Proof.Gen.ReferenceIdeal.Run
public import proofs.«01_k».proof.Proof.RefWords
public import Idealize.ShloMosaic.Lib.StableHlo.Predicate
public import Idealize.ShloMosaic.Lib.Routing.BitFacts

@[expose] public section

/-!
# The reference's results, place by place

Each place of the reference's two results, read back from its gathers: the same table words, indices, values and weights
that the kernel's tiles read.
-/

noncomputable section

namespace Cert.RefValue

open Cert.ReferenceIdeal Cert.ReferenceIdeal.Gen Cert.ReferenceIdeal.Value Idealize.ShloMosaic Idealize.ShloMosaic.TcCoe Idealize.ShloMosaic.StableHlo Idealize.ShloMosaic.StableHlo.Predicate
open Cert.ScKernelIdeal (rd rd_val pf pg tw pairAt pvAt wAt xAt linAt bytS)

/-- A quotient of small words. -/
theorem divsi_ofNat (u : ArithUnit) {a b : ℕ} (ha : a < 2 ^ 31) (h0 : 0 < b) (hb : b < 2 ^ 31) :
    IntOp.divsi u (BitVec.ofNat 32 a) (BitVec.ofNat 32 b) = BitVec.ofNat 32 (a / b) := by
  unfold IntOp.divsi
  rw [if_neg, Routing.sdiv_ofNat32 ha hb]
  rintro (h | ⟨-, h⟩)
  · exact Routing.ofNat32_ne_zero h0 (by omega) h
  · exact Routing.ofNat32_ne_neg_one hb h
/-- A remainder of small words. -/
theorem remsi_ofNat (u : ArithUnit) {a b : ℕ} (ha : a < 2 ^ 31) (h0 : 0 < b) (hb : b < 2 ^ 31) :
    IntOp.remsi u (BitVec.ofNat 32 a) (BitVec.ofNat 32 b) = BitVec.ofNat 32 (a % b) := by
  unfold IntOp.remsi
  rw [if_neg, Routing.srem_ofNat32 ha hb]
  rintro (h | ⟨-, h⟩)
  · exact Routing.ofNat32_ne_zero h0 (by omega) h
  · exact Routing.ofNat32_ne_neg_one hb h

/-- A take at a place that holds a small index. -/
theorem take_at {α : Type} {N n : ℕ} [NeZero N] (d : GatherDims ⟨1, ![N]⟩ ⟨2, ![n, 1]⟩ ⟨1, ![n]⟩)
    (hcoll : d.collapsedSliceDims = [0]) (hob : d.operandBatchingDims = []) (hsim : d.startIndexMap = [0]) (hivd : d.indexVectorDim = 1)
    (h₁ : (⟨1, ![n]⟩ : Shape).BroadcastsInDim ⟨2, ![n, 1]⟩ ![0]) (x : (⟨1, ![N]⟩ : Shape).Idx → α) (v : (⟨1, ![n]⟩ : Shape).Idx → BitVec 32) (p : Fin n)
    {k : ℕ} (hk : k < N) (hN : N ≤ 2 ^ 31) (hv : v (Shape.Idx.ofFin p) = BitVec.ofNat 32 k) :
    Host.gather d x (broadcastInDim ⟨2, ![n, 1]⟩ ![0] h₁ v) (Shape.Idx.ofFin p) = rd x k := by
  refine (gather_take d hcoll hob hsim hivd x _ p (by omega)).trans (rd_val x _ ?_).symm
  show min (broadcastInDim ⟨2, ![n, 1]⟩ ![0] h₁ v (ixP p)).toInt.toNat (N - 1) = k
  rw [bcast_col1, hv, toInt_ofNat_small k (by omega)]
  omega

/-- The first fields' table. -/
theorem lit0_eq : ∀ k : Fin 741, lit0 k = BitVec.ofNat 32 (pf k.val) := by decide +kernel
/-- The second fields' table. -/
theorem lit1_eq : ∀ k : Fin 741, lit1 k = BitVec.ofNat 32 (pg k.val) := by decide +kernel
/-- Both fields of a row are fields. -/
theorem pf_lt : ∀ k : Fin 741, pf k.val < 39 ∧ pg k.val < 39 := by decide +kernel

variable {F : FTy → Type} [FloatOps F]
variable (V0 : Valuation τ sig (Elt F))

/-- The tables' words. -/
abbrev A0 : Vec F Cert.KernelIdeal.S6862752 .i32 := V0 (Proc.devRef .tc main_arg0)
/-- The transposed indices. -/
abbrev A1 : Vec F Cert.KernelIdeal.S1916928 .i32 := V0 (Proc.devRef .tc main_arg1)
/-- The transposed values. -/
abbrev A2 : Vec F Cert.KernelIdeal.S1916928 .f32 := V0 (Proc.devRef .tc main_arg2)
/-- The linear weights. -/
abbrev A3 : Vec F Cert.KernelIdeal.S58656 .f32 := V0 (Proc.devRef .tc main_arg3)

theorem v2_at (p : Fin 36421632) : res_main_v2 V0 (Shape.Idx.ofFin p) = BitVec.ofNat 32 (p.val / 49152) := by
  unfold res_main_v2 res_main_v0
  exact divsi_ofNat (a := p.val) (b := 49152) .host (by omega) (by norm_num) (by norm_num)
theorem v4_at (p : Fin 36421632) : res_main_v4 V0 (Shape.Idx.ofFin p) = BitVec.ofNat 32 (p.val % 49152) := by
  unfold res_main_v4 res_main_v0
  exact remsi_ofNat (a := p.val) (b := 49152) .host (by omega) (by norm_num) (by norm_num)
theorem v6_at (p : Fin 36421632) : res_main_v6 V0 (Shape.Idx.ofFin p) = BitVec.ofNat 32 (pf (p.val / 49152)) := by
  haveI : NeZero 741 := ⟨by norm_num⟩
  have hp : p.val / 49152 < 741 := by omega
  unfold res_main_v6
  refine (take_at (N := 741) (n := 36421632) _ rfl rfl rfl rfl _ _ _ p hp (by norm_num) (v2_at V0 p)).trans ?_
  refine (rd_val _ (Shape.Idx.ofFin ⟨p.val / 49152, hp⟩) rfl).trans ?_
  refine Eq.trans ?_ (lit0_eq ⟨p.val / 49152, hp⟩)
  exact congrArg lit0 (Fin.ext (Shape.rowMajor_val_one _))
theorem v8_at (p : Fin 36421632) : res_main_v8 V0 (Shape.Idx.ofFin p) = BitVec.ofNat 32 (pg (p.val / 49152)) := by
  haveI : NeZero 741 := ⟨by norm_num⟩
  have hp : p.val / 49152 < 741 := by omega
  unfold res_main_v8
  refine (take_at (N := 741) (n := 36421632) _ rfl rfl rfl rfl _ _ _ p hp (by norm_num) (v2_at V0 p)).trans ?_
  refine (rd_val _ (Shape.Idx.ofFin ⟨p.val / 49152, hp⟩) rfl).trans ?_
  refine Eq.trans ?_ (lit1_eq ⟨p.val / 49152, hp⟩)
  exact congrArg lit1 (Fin.ext (Shape.rowMajor_val_one _))

/-- The first field at a place. -/
abbrev fA (p : Fin 36421632) : ℕ := pf (p.val / 49152)
/-- The second field at a place. -/
abbrev gA (p : Fin 36421632) : ℕ := pg (p.val / 49152)
/-- The token at a place. -/
abbrev tA (p : Fin 36421632) : ℕ := p.val % 49152

theorem fg_lt (p : Fin 36421632) : fA p < 39 ∧ gA p < 39 := pf_lt ⟨p.val / 49152, by omega⟩

theorem v11_at (p : Fin 36421632) : res_main_v11 V0 (Shape.Idx.ofFin p) = BitVec.ofNat 32 (fA p * 49152 + tA p) := by
  unfold res_main_v11
  refine (congrArg₂ (fun a b : BitVec 32 => a * BitVec.ofNat 32 49152 + b) (v6_at V0 p) (v4_at V0 p)).trans ?_
  simp only [BitVec.ofNat_mul, BitVec.ofNat_add]
theorem v14_at (p : Fin 36421632) : res_main_v14 V0 (Shape.Idx.ofFin p) = BitVec.ofNat 32 (gA p * 49152 + tA p) := by
  unfold res_main_v14
  refine (congrArg₂ (fun a b : BitVec 32 => a * BitVec.ofNat 32 49152 + b) (v8_at V0 p) (v4_at V0 p)).trans ?_
  simp only [BitVec.ofNat_mul, BitVec.ofNat_add]

/-- The first field's value. -/
theorem xf_at (p : Fin 36421632) : Host.gather gather_S1916928_S36421632x1_S36421632_n_0_n_n_0_1_1 (V0 (Proc.devRef .tc main_arg2)) (broadcastInDim S36421632x1 ![0] bcast_S36421632_S36421632x1_0 (res_main_v11 V0)) (Shape.Idx.ofFin p)
    = rd (N := 1916928) (A2 V0) (fA p * 49152 + tA p) := by
  have := fg_lt p
  have ht : tA p < 49152 := Nat.mod_lt _ (by norm_num)
  exact take_at (N := 1916928) (n := 36421632) _ rfl rfl rfl rfl _ _ _ p (by omega) (by norm_num) (v11_at V0 p)
/-- The second field's value. -/
theorem xg_at (p : Fin 36421632) : Host.gather gather_S1916928_S36421632x1_S36421632_n_0_n_n_0_1_1 (V0 (Proc.devRef .tc main_arg2)) (broadcastInDim S36421632x1 ![0] bcast_S36421632_S36421632x1_0 (res_main_v14 V0)) (Shape.Idx.ofFin p)
    = rd (N := 1916928) (A2 V0) (gA p * 49152 + tA p) := by
  have := fg_lt p
  have ht : tA p < 49152 := Nat.mod_lt _ (by norm_num)
  exact take_at (N := 1916928) (n := 36421632) _ rfl rfl rfl rfl _ _ _ p (by omega) (by norm_num) (v14_at V0 p)
/-- The first field's index. -/
theorem if_at (p : Fin 36421632) : Host.gather gather_S1916928_S36421632x1_S36421632_n_0_n_n_0_1_1 (V0 (Proc.devRef .tc main_arg1)) (broadcastInDim S36421632x1 ![0] bcast_S36421632_S36421632x1_0 (res_main_v11 V0)) (Shape.Idx.ofFin p)
    = rd (N := 1916928) (A1 V0) (fA p * 49152 + tA p) := by
  have := fg_lt p
  have ht : tA p < 49152 := Nat.mod_lt _ (by norm_num)
  exact take_at (N := 1916928) (n := 36421632) _ rfl rfl rfl rfl _ _ _ p (by omega) (by norm_num) (v11_at V0 p)
/-- The second field's index. -/
theorem ig_at (p : Fin 36421632) : Host.gather gather_S1916928_S36421632x1_S36421632_n_0_n_n_0_1_1 (V0 (Proc.devRef .tc main_arg1)) (broadcastInDim S36421632x1 ![0] bcast_S36421632_S36421632x1_0 (res_main_v14 V0)) (Shape.Idx.ofFin p)
    = rd (N := 1916928) (A1 V0) (gA p * 49152 + tA p) := by
  have := fg_lt p
  have ht : tA p < 49152 := Nat.mod_lt _ (by norm_num)
  exact take_at (N := 1916928) (n := 36421632) _ rfl rfl rfl rfl _ _ _ p (by omega) (by norm_num) (v14_at V0 p)

/-- A word is the word of its number. -/
theorem word_eq (x : BitVec 32) : x = BitVec.ofNat 32 x.toNat := by simp

theorem v26_at (p : Fin 36421632) : res_main_v26 V0 (Shape.Idx.ofFin p)
    = BitVec.ofNat 32 ((fA p * 39 + gA p) * 4512 + (rd (N := 1916928) (A1 V0) (fA p * 49152 + tA p)).toNat) := by
  unfold res_main_v26
  refine (congrArg₂ (fun (a b : BitVec 32) => a + b) (congrArg₂ (fun a b : BitVec 32 => (a * BitVec.ofNat 32 39 + b) * BitVec.ofNat 32 4512) (v6_at V0 p) (v8_at V0 p)) (if_at V0 p)).trans ?_
  generalize rd (N := 1916928) (A1 V0) (fA p * 49152 + tA p) = y
  conv_lhs => rw [word_eq y]
  simp only [BitVec.ofNat_mul, BitVec.ofNat_add]
theorem v34_at (p : Fin 36421632) : res_main_v34 V0 (Shape.Idx.ofFin p)
    = BitVec.ofNat 32 ((gA p * 39 + fA p) * 4512 + (rd (N := 1916928) (A1 V0) (gA p * 49152 + tA p)).toNat) := by
  unfold res_main_v34
  refine (congrArg₂ (fun (a b : BitVec 32) => a + b) (congrArg₂ (fun a b : BitVec 32 => (a * BitVec.ofNat 32 39 + b) * BitVec.ofNat 32 4512) (v8_at V0 p) (v6_at V0 p)) (ig_at V0 p)).trans ?_
  generalize rd (N := 1916928) (A1 V0) (gA p * 49152 + tA p) = y
  conv_lhs => rw [word_eq y]
  simp only [BitVec.ofNat_mul, BitVec.ofNat_add]

/-- The first field's table word in the plane that starts at `c`. -/
theorem twf_at (hidx : ∀ i, (A1 V0 i).toNat < 1504) (p : Fin 36421632) (c : ℕ) (hc : c ≤ 3008) :
    Host.gather gather_S6862752_S36421632x1_S36421632_n_0_n_n_0_1_1 (V0 (Proc.devRef .tc main_arg0)) (broadcastInDim S36421632x1 ![0] bcast_S36421632_S36421632x1_0 (addi (res_main_v26 V0) (broadcastInDim S36421632 ![] bcast_S_S36421632 (constantI S_ 32 (BitVec.ofNat 32 c))))) (Shape.Idx.ofFin p)
    = tw (A0 V0) (fA p) (gA p) c (rd (N := 1916928) (A1 V0) (fA p * 49152 + tA p)) := by
  have := fg_lt p
  have ht : tA p < 49152 := Nat.mod_lt _ (by norm_num)
  have hi : (rd (N := 1916928) (A1 V0) (fA p * 49152 + tA p)).toNat < 1504 := hidx _
  refine take_at (N := 6862752) (n := 36421632) _ rfl rfl rfl rfl _ _ _ p (by omega) (by norm_num) ?_
  refine (congrArg (fun a : BitVec 32 => a + BitVec.ofNat 32 c) (v26_at V0 p)).trans ?_
  refine (BitVec.ofNat_add _ _).symm.trans ?_
  exact congrArg (BitVec.ofNat 32) (by omega)
/-- The second field's table word in the plane that starts at `c`. -/
theorem twg_at (hidx : ∀ i, (A1 V0 i).toNat < 1504) (p : Fin 36421632) (c : ℕ) (hc : c ≤ 3008) :
    Host.gather gather_S6862752_S36421632x1_S36421632_n_0_n_n_0_1_1 (V0 (Proc.devRef .tc main_arg0)) (broadcastInDim S36421632x1 ![0] bcast_S36421632_S36421632x1_0 (addi (res_main_v34 V0) (broadcastInDim S36421632 ![] bcast_S_S36421632 (constantI S_ 32 (BitVec.ofNat 32 c))))) (Shape.Idx.ofFin p)
    = tw (A0 V0) (gA p) (fA p) c (rd (N := 1916928) (A1 V0) (gA p * 49152 + tA p)) := by
  have := fg_lt p
  have ht : tA p < 49152 := Nat.mod_lt _ (by norm_num)
  have hi : (rd (N := 1916928) (A1 V0) (gA p * 49152 + tA p)).toNat < 1504 := hidx _
  refine take_at (N := 6862752) (n := 36421632) _ rfl rfl rfl rfl _ _ _ p (by omega) (by norm_num) ?_
  refine (congrArg (fun a : BitVec 32 => a + BitVec.ofNat 32 c) (v34_at V0 p)).trans ?_
  refine (BitVec.ofNat_add _ _).symm.trans ?_
  exact congrArg (BitVec.ofNat 32) (by omega)

/-- One code of a word, as the host shifts it. -/
def bytH (k w : BitVec 32) : BitVec 32 := IntOp.shrsi .host (IntOp.shli .host w k) 24#32
/-- A product of two codes, as the reference takes it. -/
def codeMul (k a b : BitVec 32) : F .f32 :=
  FloatOps.mulf (φ := .f32) (FloatOps.extf (φ := .bf16) .f32 bitsLt_bf16_f32 (FloatOps.sitofp .bf16 (bytH k a))) (FloatOps.extf (φ := .bf16) .f32 bitsLt_bf16_f32 (FloatOps.sitofp .bf16 (bytH k b)))
/-- One pair of one token, as the reference takes it. -/
def refAt (xf xg : F .f32) (f0 f1 f2 g0 g1 g2 : BitVec 32) : F .f32 :=
  FloatOps.mulf (φ := .f32) (FloatOps.mulf (φ := .f32)
    (FloatOps.addf (φ := .f32) (FloatOps.addf (φ := .f32) (FloatOps.addf (φ := .f32) (FloatOps.addf (φ := .f32) (FloatOps.addf (φ := .f32) (FloatOps.addf (φ := .f32) (FloatOps.addf (φ := .f32) (FloatOps.addf (φ := .f32) (FloatOps.ofBits .f32 0x00000000#32)
      (codeMul 24#32 f0 g0)) (codeMul 16#32 f0 g0)) (codeMul 8#32 f0 g0)) (codeMul 0#32 f0 g0))
      (codeMul 24#32 f1 g1)) (codeMul 16#32 f1 g1)) (codeMul 8#32 f1 g1)) (codeMul 0#32 f1 g1))
    (FloatOps.mulf (φ := .f32) xf (FloatOps.ofBits .f32 f2))) (FloatOps.mulf (φ := .f32) xg (FloatOps.ofBits .f32 g2))

set_option maxHeartbeats 2000000 in
/-- The reference's pair result, place by place. -/
theorem pair_at (hidx : ∀ i, (A1 V0 i).toNat < 1504) (p : Fin 36421632) :
    mulf (res_main_v184 V0) (mulf (Host.gather gather_S1916928_S36421632x1_S36421632_n_0_n_n_0_1_1 (V0 (Proc.devRef .tc main_arg2)) (broadcastInDim S36421632x1 ![0] bcast_S36421632_S36421632x1_0 (res_main_v14 V0))) (bitcastToFloat (F := F) .f32 (Host.gather gather_S6862752_S36421632x1_S36421632_n_0_n_n_0_1_1 (V0 (Proc.devRef .tc main_arg0)) (broadcastInDim S36421632x1 ![0] bcast_S36421632_S36421632x1_0 (addi (res_main_v34 V0) (broadcastInDim S36421632 ![] bcast_S_S36421632 (constantI S_ 32 3008#32))))))) (Shape.Idx.ofFin p)
    = refAt (rd (N := 1916928) (A2 V0) (fA p * 49152 + tA p)) (rd (N := 1916928) (A2 V0) (gA p * 49152 + tA p))
      (tw (A0 V0) (fA p) (gA p) 0 (rd (N := 1916928) (A1 V0) (fA p * 49152 + tA p))) (tw (A0 V0) (fA p) (gA p) 1504 (rd (N := 1916928) (A1 V0) (fA p * 49152 + tA p))) (tw (A0 V0) (fA p) (gA p) 3008 (rd (N := 1916928) (A1 V0) (fA p * 49152 + tA p)))
      (tw (A0 V0) (gA p) (fA p) 0 (rd (N := 1916928) (A1 V0) (gA p * 49152 + tA p))) (tw (A0 V0) (gA p) (fA p) 1504 (rd (N := 1916928) (A1 V0) (gA p * 49152 + tA p))) (tw (A0 V0) (gA p) (fA p) 3008 (rd (N := 1916928) (A1 V0) (gA p * 49152 + tA p))) := by
  rw [← xf_at, ← xg_at, ← twf_at V0 hidx p 0 (by omega), ← twf_at V0 hidx p 1504 (by omega), ← twf_at V0 hidx p 3008 (by omega),
    ← twg_at V0 hidx p 0 (by omega), ← twg_at V0 hidx p 1504 (by omega), ← twg_at V0 hidx p 3008 (by omega)]
  rfl

end Cert.RefValue

end
-- ==== Proof.RefIdeal.lean ====
module

public import proofs.«01_k».proof.Proof.RefValue
public import Idealize.ShloMosaic.Lib.Pointwise

@[expose] public section

/-!
# The two sides, as real numbers

One pair of one token is the same number on both sides, and so is a token's linear sum.
-/

noncomputable section

namespace Cert.RefValue

open Cert.ReferenceIdeal Cert.ReferenceIdeal.Gen Cert.ReferenceIdeal.Value Idealize.ShloMosaic Idealize.ShloMosaic.TcCoe Idealize.ShloMosaic.StableHlo Idealize.ShloMosaic.StableHlo.Predicate
open Cert.ScKernelIdeal (rd rd_val pf pg tw pairAt pvAt wAt xAt linAt bytS prdS bytS_small dots_toInt shli_lt shrsi_lt PVof LBof)

/-- The host's codes are the kernel's. -/
theorem bytH_eq {k : BitVec 32} (hk : k.toNat < 32) (w : BitVec 32) : bytH k w = bytS k w := by
  unfold bytH bytS
  rw [shli_lt _ _ hk, shli_lt _ _ hk, shrsi_lt _ _ (by decide), shrsi_lt _ _ (by decide)]

/-- A word none of whose codes is −128. -/
def Good (w : BitVec 32) : Prop := bytS 24#32 w ≠ 4294967168#32 ∧ bytS 16#32 w ≠ 4294967168#32 ∧ bytS 8#32 w ≠ 4294967168#32 ∧ bytS 0#32 w ≠ 4294967168#32

/-- The codes of two words. -/
def codes (w v : BitVec 32) : Fin 8 → BitVec 32 :=
  ![bytS 24#32 w, bytS 16#32 w, bytS 8#32 w, bytS 0#32 w, bytS 24#32 v, bytS 16#32 v, bytS 8#32 v, bytS 0#32 v]

theorem codes_small {w v : BitVec 32} (hw : Good w) (hv : Good v) : ∀ i, -127 ≤ (codes w v i).toInt ∧ (codes w v i).toInt ≤ 127 := by
  obtain ⟨a, b, c, d⟩ := hw
  obtain ⟨a', b', c', d'⟩ := hv
  intro i
  match i with
  | 0 => exact bytS_small (by decide) a
  | 1 => exact bytS_small (by decide) b
  | 2 => exact bytS_small (by decide) c
  | 3 => exact bytS_small (by decide) d
  | 4 => exact bytS_small (by decide) a'
  | 5 => exact bytS_small (by decide) b'
  | 6 => exact bytS_small (by decide) c'
  | 7 => exact bytS_small (by decide) d'

/-- A product of two codes is the whole numbers' product. -/
theorem codeMul_eq {k : BitVec 32} (hk : k.toNat < 32) (a b : BitVec 32) :
    (codeMul k a b : Ideal .f32) = ((((bytS k a).toInt * (bytS k b).toInt : ℤ) : ℝ) : EReal) := by
  unfold codeMul
  rw [bytH_eq hk, bytH_eq hk]
  show (((bytS k a).toInt : ℝ) : EReal) * (((bytS k b).toInt : ℝ) : EReal) = _
  push_cast
  rfl

/-- The zero of the running sums. -/
theorem zero_eq : (FloatOps.ofBits .f32 0x00000000#32 : Ideal .f32) = (0 : EReal) := by simp only [pointwise]

/-- Eight whole numbers, added one at a time. -/
theorem sum8 (n0 n1 n2 n3 n4 n5 n6 n7 : ℤ) :
    ((((((((0 : EReal) + ((n0 : ℝ) : EReal)) + ((n1 : ℝ) : EReal)) + ((n2 : ℝ) : EReal)) + ((n3 : ℝ) : EReal)) + ((n4 : ℝ) : EReal)) + ((n5 : ℝ) : EReal)) + ((n6 : ℝ) : EReal)) + ((n7 : ℝ) : EReal)
    = (((n0 + n1 + n2 + n3 + n4 + n5 + n6 + n7 : ℤ) : ℝ) : EReal) := by
  rw [zero_add, ← EReal.coe_add, ← EReal.coe_add, ← EReal.coe_add, ← EReal.coe_add, ← EReal.coe_add, ← EReal.coe_add, ← EReal.coe_add]
  push_cast
  rfl

/-- The eight products' sum as the reference takes it. -/
theorem dot_eq {n0 n1 n2 n3 n4 n5 n6 n7 : ℤ}
    {a0 a1 a2 a3 a4 a5 a6 a7 : Ideal .f32} (h0 : a0 = ((n0 : ℝ) : EReal)) (h1 : a1 = ((n1 : ℝ) : EReal)) (h2 : a2 = ((n2 : ℝ) : EReal)) (h3 : a3 = ((n3 : ℝ) : EReal))
    (h4 : a4 = ((n4 : ℝ) : EReal)) (h5 : a5 = ((n5 : ℝ) : EReal)) (h6 : a6 = ((n6 : ℝ) : EReal)) (h7 : a7 = ((n7 : ℝ) : EReal)) {x : BitVec 32}
    (hx : x.toInt = n0 + n1 + n2 + n3 + n4 + n5 + n6 + n7) :
    FloatOps.addf (φ := .f32) (FloatOps.addf (φ := .f32) (FloatOps.addf (φ := .f32) (FloatOps.addf (φ := .f32) (FloatOps.addf (φ := .f32) (FloatOps.addf (φ := .f32) (FloatOps.addf (φ := .f32) (FloatOps.addf (φ := .f32) (FloatOps.ofBits .f32 0x00000000#32 : Ideal .f32)
      a0) a1) a2) a3) a4) a5) a6) a7 = (FloatOps.sitofp .f32 x : Ideal .f32) := by
  rw [zero_eq, h0, h1, h2, h3, h4, h5, h6, h7]
  refine (sum8 n0 n1 n2 n3 n4 n5 n6 n7).trans ?_
  rw [← hx]
  rfl

/-- One pair of one token: both sides are the same number. -/
theorem refAt_eq (xf xg : Ideal .f32) (f2 g2 : BitVec 32) {f0 f1 g0 g1 : BitVec 32} (h0 : Good f0) (h1 : Good f1) (k0 : Good g0) (k1 : Good g1) :
    refAt xf xg f0 f1 f2 g0 g1 g2 = pvAt (F := Ideal) xf xg f0 f1 f2 g0 g1 g2 := by
  unfold refAt pvAt
  have h := dots_toInt (codes_small h0 h1) (codes_small k0 k1)
  rw [dot_eq (codeMul_eq (by decide) _ _) (codeMul_eq (by decide) _ _) (codeMul_eq (by decide) _ _) (codeMul_eq (by decide) _ _)
    (codeMul_eq (by decide) _ _) (codeMul_eq (by decide) _ _) (codeMul_eq (by decide) _ _) (codeMul_eq (by decide) _ _) h]
  simp only [codes, Matrix.cons_val]

section Lin
variable (idx : Vec Ideal Cert.KernelIdeal.S1916928 .i32) (xs : Vec Ideal Cert.KernelIdeal.S1916928 .f32) (w : Vec Ideal Cert.KernelIdeal.S58656 .f32)

/-- The kernel's linear sum is the sum over the fields. -/
theorem linAt_eq (t : ℕ) : ∀ b, (linAt (F := Ideal) idx xs w b t : EReal) = ∑ f ∈ Finset.range (3 * b), ((wAt (F := Ideal) idx w f t : EReal) * (xAt (F := Ideal) xs f t : EReal)) := by
  intro b
  induction b with
  | zero =>
    exact zero_eq
  | succ b ih =>
    rw [show 3 * (b + 1) = 3 * b + 1 + 1 + 1 by omega, Finset.sum_range_succ, Finset.sum_range_succ, Finset.sum_range_succ, ← ih]
    rfl
end Lin

variable {F : FTy → Type} [FloatOps F]
variable (V0 : Valuation τ sig (Elt F))

/-- The reference's linear sum's terms. -/
theorem term_at (hidx : ∀ i, (A1 V0 i).toNat < 1504) (p : Fin 1916928) :
    mulf (Host.gather gather_S58656_S1916928x1_S1916928_n_0_n_n_0_1_1 (V0 (Proc.devRef .tc main_arg3)) (broadcastInDim S1916928x1 ![0] bcast_S1916928_S1916928x1_0 (addi (muli (Host.divsi (iotaInDim S1916928 32 0) (broadcastInDim S1916928 ![] bcast_S_S1916928 (constantI S_ 32 49152#32))) (broadcastInDim S1916928 ![] bcast_S_S1916928 (constantI S_ 32 1504#32))) (V0 (Proc.devRef .tc main_arg1))))) (V0 (Proc.devRef .tc main_arg2)) (Shape.Idx.ofFin p)
    = FloatOps.mulf (φ := .f32) (rd (N := 58656) (A3 V0) (p.val / 49152 * 1504 + (rd (N := 1916928) (A1 V0) p.val).toNat)) (rd (N := 1916928) (A2 V0) p.val) := by
  have hp := p.isLt
  have hi : (rd (N := 1916928) (A1 V0) p.val).toNat < 1504 := hidx _
  have e1 : rd (N := 1916928) (A1 V0) p.val = A1 V0 (Shape.Idx.ofFin p) := rd_val _ _ rfl
  have e2 : rd (N := 1916928) (A2 V0) p.val = A2 V0 (Shape.Idx.ofFin p) := rd_val _ _ rfl
  rw [e2]
  refine congrArg₂ (FloatOps.mulf (φ := .f32)) ?_ rfl
  refine take_at (N := 58656) (n := 1916928) _ rfl rfl rfl rfl _ _ _ p (by omega) (by norm_num) ?_
  refine (congrArg₂ (fun a b : BitVec 32 => a * BitVec.ofNat 32 1504 + b) (divsi_ofNat (a := p.val) (b := 49152) .host (by omega) (by norm_num) (by norm_num)) e1.symm).trans ?_
  generalize rd (N := 1916928) (A1 V0) p.val = y
  conv_lhs => rw [word_eq y]
  simp only [BitVec.ofNat_mul, BitVec.ofNat_add]

/-- The sum over the fields, at a token. -/
theorem reduce_at (y : Vec Ideal S1916928 .f32) (t : Fin 49152) :
    (Host.reduceAdd (shapeCast S39x49152 y shapeCasts_S1916928_S39x49152) (constant (F := Ideal) S_ .f32 0x00000000#32) reducesTo_S39x49152_S49152_d0 h_S_ (Shape.Idx.ofFin t) : EReal)
    = ∑ k : Fin 39, (y (Shape.Idx.ofFin ⟨k.val * 49152 + t.val, by have := k.isLt; have := t.isLt; omega⟩) : EReal) := by
  refine (Ideal.hostReduceAdd_r2_a0 _ _ _ _).trans ?_
  refine (congrArg (· + _) zero_eq).trans ?_
  refine (zero_add _).trans ?_
  refine Finset.sum_congr rfl fun k _ => ?_
  refine shapeCast_apply _ shapeCasts_S1916928_S39x49152 _ _ ?_
  rw [Shape.rowMajor_val_one, Shape.rowMajor_val_two]
  rfl

/-- The reference's linear sums are the kernel's. -/
theorem lin_eq (V0 : Valuation τ sig (Elt Ideal)) (hidx : ∀ i, (A1 V0 i).toNat < 1504) (t : Fin 49152) :
    Host.reduceAdd (shapeCast _ (mulf (Host.gather gather_S58656_S1916928x1_S1916928_n_0_n_n_0_1_1 (V0 (Proc.devRef .tc main_arg3)) (broadcastInDim S1916928x1 ![0] bcast_S1916928_S1916928x1_0 (addi (muli (Host.divsi (iotaInDim S1916928 32 0) (broadcastInDim S1916928 ![] bcast_S_S1916928 (constantI S_ 32 49152#32))) (broadcastInDim S1916928 ![] bcast_S_S1916928 (constantI S_ 32 1504#32))) (V0 (Proc.devRef .tc main_arg1))))) (V0 (Proc.devRef .tc main_arg2))) shapeCasts_S1916928_S39x49152) (constant S_ .f32 0x00000000#32) reducesTo_S39x49152_S49152_d0 h_S_ (Shape.Idx.ofFin t)
    = linAt (F := Ideal) (A1 V0) (A2 V0) (A3 V0) 13 t.val := by
  refine (reduce_at _ t).trans ?_
  refine Eq.trans ?_ (linAt_eq (A1 V0) (A2 V0) (A3 V0) t.val 13).symm
  refine Eq.trans ?_ (Fin.sum_univ_eq_sum_range (fun f => ((wAt (F := Ideal) (A1 V0) (A3 V0) f t.val : EReal) * (xAt (F := Ideal) (A2 V0) f t.val : EReal))) 39)
  refine Finset.sum_congr rfl fun k _ => ?_
  have hk := k.isLt
  have ht := t.isLt
  refine (term_at V0 hidx ⟨k.val * 49152 + t.val, by omega⟩).trans ?_
  show FloatOps.mulf (φ := .f32) (rd (N := 58656) (A3 V0) ((k.val * 49152 + t.val) / 49152 * 1504 + (rd (N := 1916928) (A1 V0) (k.val * 49152 + t.val)).toNat)) (rd (N := 1916928) (A2 V0) (k.val * 49152 + t.val)) = _
  rw [show (k.val * 49152 + t.val) / 49152 = k.val by omega]
  rfl

/-- The reference's pairs are the kernel's. -/
theorem pair_eq (V0 : Valuation τ sig (Elt Ideal)) (hidx : ∀ i, (A1 V0 i).toNat < 1504)
    (hcodes : ∀ n, n < 6862752 → n % 4512 < 3008 → Good (rd (N := 6862752) (A0 V0) n)) (p : Fin 36421632) :
    mulf (res_main_v184 V0) (mulf (Host.gather gather_S1916928_S36421632x1_S36421632_n_0_n_n_0_1_1 (V0 (Proc.devRef .tc main_arg2)) (broadcastInDim S36421632x1 ![0] bcast_S36421632_S36421632x1_0 (res_main_v14 V0))) (bitcastToFloat (F := Ideal) .f32 (Host.gather gather_S6862752_S36421632x1_S36421632_n_0_n_n_0_1_1 (V0 (Proc.devRef .tc main_arg0)) (broadcastInDim S36421632x1 ![0] bcast_S36421632_S36421632x1_0 (addi (res_main_v34 V0) (broadcastInDim S36421632 ![] bcast_S_S36421632 (constantI S_ 32 3008#32))))))) (Shape.Idx.ofFin p)
    = PVof (F := Ideal) (A0 V0) (A1 V0) (A2 V0) (Shape.Idx.ofFin p) := by
  refine (pair_at V0 hidx p).trans ?_
  have hfg := fg_lt p
  have good : ∀ f g c n, f < 39 → g < 39 → c ≤ 1504 → Good (tw (A0 V0) f g c (rd (N := 1916928) (A1 V0) n)) := by
    intro f g c n hf hg hc
    have hi : (rd (N := 1916928) (A1 V0) n).toNat < 1504 := hidx _
    exact hcodes _ (by omega) (by omega)
  exact refAt_eq _ _ _ _ (good _ _ _ _ hfg.1 hfg.2 (by omega)) (good _ _ _ _ hfg.1 hfg.2 (by omega)) (good _ _ _ _ hfg.2 hfg.1 (by omega)) (good _ _ _ _ hfg.2 hfg.1 (by omega))

end Cert.RefValue

end
-- ==== Proof.RefPre.lean ====
module

public import proofs.«01_k».proof.Defs
public import proofs.«01_k».proof.Proof.RefIdeal

@[expose] public section

/-!
# What the two preconditions say

The masks, place by place: every index lies in its table, and no code is −128.
-/

noncomputable section

namespace Cert.RefValue

open Idealize.ShloMosaic Idealize.ShloMosaic.StableHlo Idealize.ShloMosaic.StableHlo.Predicate
open Cert.ScKernelIdeal (rd rd_val)

/-- A mask and another are set only if both are. -/
theorem and_one : ∀ a b : BitVec 1, a &&& b = 1#1 → a = 1#1 ∧ b = 1#1 := by decide
/-- A mask or another is set, and the first is not. -/
theorem or_one : ∀ b : BitVec 1, BitVec.ofBool false ||| b = 1#1 → b = 1#1 := by decide

/-- A word in range. -/
theorem range_of {x : BitVec 32} (h : IntOp.andi (IntOp.cmpi .sge x 0#32) (IntOp.cmpi .slt x 1504#32) = 1#1) : x.toNat < 1504 := by
  obtain ⟨h1, h2⟩ := and_one _ _ h
  have g1 : (0#32).sle x = true := by
    have : BitVec.ofBool ((0#32).sle x) = 1#1 := h1
    cases e : (0#32).sle x with
    | true => rfl
    | false => rw [e] at this; exact absurd this (by decide)
  have g2 : x.slt 1504#32 = true := by
    have : BitVec.ofBool (x.slt 1504#32) = 1#1 := h2
    cases e : x.slt 1504#32 with
    | true => rfl
    | false => rw [e] at this; exact absurd this (by decide)
  rw [BitVec.sle_iff_toInt_le] at g1
  rw [BitVec.slt_iff_toInt_lt] at g2
  have e0 : (0#32).toInt = 0 := by decide
  have e1 : (1504#32).toInt = 1504 := by decide
  rw [e0] at g1
  rw [e1] at g2
  have h3 := Routing.toNat_lt_of_toInt_nonneg x g1
  rw [toInt_eq_toNat_of_lt h3] at g2
  omega

/-- A code that is not −128. -/
theorem ne_of {x y : BitVec 32} (h : IntOp.cmpi .ne x y = 1#1) : x ≠ y := by
  intro e
  subst e
  have : BitVec.ofBool (x != x) = 1#1 := h
  simp at this

/-- The range mask of the first precondition. -/
theorem range_fst [Cert.Pre_values_in_range.Facts] {F : FTy → Type} [FloatOps F] {a0 a1 a2 a3}
    (h : Cert.Pre_values_in_range.fn (F := F) a0 a1 a2 a3 = fun _ => 1#1) : ∀ i, (a1 i).toNat < 1504 :=
  fun i => range_of (congrFun h i)

/-- The range mask of the second precondition. -/
theorem range_snd [Cert.Pre_codes_symmetric.Facts] {F : FTy → Type} [FloatOps F] {a0 a1 a2 a3}
    (h : (Cert.Pre_codes_symmetric.fn (F := F) a0 a1 a2 a3).1 = fun _ => 1#1) : ∀ i, (a1 i).toNat < 1504 :=
  fun i => range_of (congrFun h i)

/-- The second precondition's mask of codes. -/
theorem codes_of [Cert.Pre_codes_symmetric.Facts] {F : FTy → Type} [FloatOps F] {a0 a1 a2 a3}
    (h : (Cert.Pre_codes_symmetric.fn (F := F) a0 a1 a2 a3).2 = fun _ => 1#1) : ∀ n, n < 6862752 → n % 4512 < 3008 → Good (rd (N := 6862752) a0 n) := by
  intro n hn hm
  have e : rd (N := 6862752) a0 n = a0 (Shape.Idx.ofFin ⟨n, hn⟩) := rd_val _ _ rfl
  have h0 : IntOp.ori (IntOp.cmpi .sge (IntOp.remsi .host (BitVec.ofNat 32 n) (BitVec.ofNat 32 4512)) (BitVec.ofNat 32 3008))
      (IntOp.andi (IntOp.andi (IntOp.andi (IntOp.cmpi .ne (bytH 24#32 (a0 (Shape.Idx.ofFin ⟨n, hn⟩))) 4294967168#32) (IntOp.cmpi .ne (bytH 16#32 (a0 (Shape.Idx.ofFin ⟨n, hn⟩))) 4294967168#32))
        (IntOp.cmpi .ne (bytH 8#32 (a0 (Shape.Idx.ofFin ⟨n, hn⟩))) 4294967168#32)) (IntOp.cmpi .ne (bytH 0#32 (a0 (Shape.Idx.ofFin ⟨n, hn⟩))) 4294967168#32)) = 1#1 :=
    congrFun h (Shape.Idx.ofFin ⟨n, hn⟩)
  rw [← e] at h0
  rw [remsi_ofNat .host (by omega) (by norm_num) (by norm_num)] at h0
  have hc : IntOp.cmpi .sge (BitVec.ofNat 32 (n % 4512)) (BitVec.ofNat 32 3008) = BitVec.ofBool false := by
    show BitVec.ofBool ((BitVec.ofNat 32 3008).sle (BitVec.ofNat 32 (n % 4512))) = _
    rw [Routing.sle_ofNat32 (by norm_num) (by omega), decide_eq_false (by omega)]
  rw [hc] at h0
  obtain ⟨h1, h5⟩ := and_one _ _ (or_one _ h0)
  obtain ⟨h2, h4⟩ := and_one _ _ h1
  obtain ⟨h2, h3⟩ := and_one _ _ h2
  refine ⟨?_, ?_, ?_, ?_⟩
  · rw [← bytH_eq (by decide)]; exact ne_of h2
  · rw [← bytH_eq (by decide)]; exact ne_of h3
  · rw [← bytH_eq (by decide)]; exact ne_of h4
  · rw [← bytH_eq (by decide)]; exact ne_of h5

end Cert.RefValue

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.KernelIdealValue
public import proofs.«01_k».proof.Proof.RefIdeal
public import proofs.«01_k».proof.Proof.RefPre
public import Idealize.ShloMosaic.Adequacy
public import Idealize.ShloMosaic.Init

@[expose] public section

noncomputable section

namespace Cert.Proof

open Idealize.ShloMosaic Idealize.SL.Sem Cert.Kernel

/-- The first precondition's shapes. -/
theorem preRange : Cert.Pre_values_in_range.Facts := by constructor <;> decide
/-- The second precondition's shapes. -/
theorem preCodes : Cert.Pre_codes_symmetric.Facts := by constructor <;> decide

attribute [local instance] Cert.Kernel.Gen.facts Cert.KernelIdeal.Gen.facts Cert.ReferenceIdeal.Gen.facts preRange preCodes

/-- Every place of a one-dimensional array is a number's. -/
theorem ofFin_eq {N : ℕ} (y : (⟨1, ![N]⟩ : Shape).Idx) : y = Shape.Idx.ofFin (y 0) := by
  funext a
  have ha : a = 0 := Subsingleton.elim _ _
  subst ha
  rfl

/-- The kernel as printed runs and leaves its arguments. -/
theorem frameP : Cert.quiescent_Kernel := fun m g h =>
  (θ_run _ _ _).mono (fun r hr => ⟨fun c => (hr.1 c).1, hr.2⟩)
    (Cert.ScKernelIdeal.run_values (F := Bits) m g fun d => Cert.RefValue.range_fst (h d))

/-- The kernel over real numbers runs and leaves its arguments. -/
theorem frameI : Cert.quiescent_KernelIdeal := fun m g h =>
  (θ_run _ _ _).mono (fun r hr => ⟨fun c => (hr.1 c).1, hr.2⟩)
    (Cert.ScKernelIdeal.run_values (F := Ideal) m g fun d => Cert.RefValue.range_fst (h d))

/-- The same, under the value claim's precondition. -/
theorem frameC : Cert.quiescent_KernelIdeal_pre_codes_symmetric := fun m g h =>
  (θ_run _ _ _).mono (fun r hr => ⟨fun c => (hr.1 c).1, hr.2⟩)
    (Cert.ScKernelIdeal.run_values (F := Ideal) m g fun d => Cert.RefValue.range_snd (h d).1)

/-- The reference runs and leaves its arguments. -/
theorem frameR : Cert.quiescent_ReferenceIdeal := fun m g _ =>
  (θ_run _ _ _).mono (fun r h => ⟨fun c => (h c).2.2, sem_eq_zero_of_no_sems (by decide) r.2⟩) (Cert.ReferenceIdeal.Value.run m g)

/-- Both sides end with the same two results. -/
theorem value : Cert.algebraic_KernelIdeal_ReferenceIdeal_pre_codes_symmetric := by
  intro m g m' g' hpre hagree
  have hi : ∀ d, ∀ i, ((m (Cert.ScKernelIdeal.aI d) : Vec Ideal Cert.KernelIdeal.S1916928 .i32) i).toNat < 1504 := fun d => Cert.RefValue.range_snd (hpre d).1
  refine ⟨fun d => Cert.ScKernelIdeal.PVof (F := Ideal) (m (Cert.ScKernelIdeal.aT d)) (m (Cert.ScKernelIdeal.aI d)) (m (Cert.ScKernelIdeal.aX d)),
    fun d => Cert.ScKernelIdeal.LBof (F := Ideal) (m (Cert.ScKernelIdeal.aI d)) (m (Cert.ScKernelIdeal.aX d)) (m (Cert.ScKernelIdeal.aW d)) 13, ?_, ?_⟩
  · exact (θ_run _ _ _).mono (fun r hr c => ⟨(hr.1 c).2.1, (hr.1 c).2.2, (hr.1 c).1⟩) (Cert.ScKernelIdeal.run_values (F := Ideal) m g hi)
  · refine (θ_run _ _ _).mono (fun r hr c => ?_) (Cert.ReferenceIdeal.Value.run m' g')
    obtain ⟨h0, h1, hargs⟩ := hr c
    obtain ⟨e0, e1, e2, e3⟩ := hagree c
    have f0 : Cert.RefValue.A0 (StableHlo.launchContents m' c) = m (Cert.ScKernelIdeal.aT c) := e0
    have f1 : Cert.RefValue.A1 (StableHlo.launchContents m' c) = m (Cert.ScKernelIdeal.aI c) := e1
    have f2 : Cert.RefValue.A2 (StableHlo.launchContents m' c) = m (Cert.ScKernelIdeal.aX c) := e2
    have f3 : Cert.RefValue.A3 (StableHlo.launchContents m' c) = m (Cert.ScKernelIdeal.aW c) := e3
    have hi' : ∀ i, (Cert.RefValue.A1 (StableHlo.launchContents m' c) i).toNat < 1504 := by rw [f1]; exact hi c
    have hc' : ∀ n, n < 6862752 → n % 4512 < 3008 → Cert.RefValue.Good (Cert.ScKernelIdeal.rd (N := 6862752) (Cert.RefValue.A0 (StableHlo.launchContents m' c)) n) := by
      rw [f0]; exact Cert.RefValue.codes_of (hpre c).2
    refine ⟨h0.trans ?_, h1.trans ?_, hargs⟩
    · funext y
      obtain ⟨p, rfl⟩ : ∃ p : Fin 36421632, y = Shape.Idx.ofFin p := ⟨y 0, ofFin_eq y⟩
      have hp := Cert.RefValue.pair_eq (StableHlo.launchContents m' c) hi' hc' p
      rw [f0, f1, f2] at hp
      exact hp
    · funext y
      obtain ⟨p, rfl⟩ : ∃ p : Fin 49152, y = Shape.Idx.ofFin p := ⟨y 0, ofFin_eq y⟩
      have hp := Cert.RefValue.lin_eq (StableHlo.launchContents m' c) hi' p
      rw [f1, f2, f3] at hp
      exact hp

/-- All the claims. -/
theorem claim : Cert.Claim := ⟨Cert.Kernel.Gen.facts, Cert.KernelIdeal.Gen.facts, Cert.ReferenceIdeal.Gen.facts, preRange, preCodes,
  frameP, frameI, frameC, frameR, fun m g _ => frameR m g trivial, trivial, value⟩

end Cert.Proof

end
